-- ==== Defs.lean ====
def Pre_MlpUpBwd (m : (ℓ : Loc Cert.MlpUpBwd.nD Cert.MlpUpBwd.τ Cert.MlpUpBwd.sig) → Buf (Elt Bits) ℓ) : Prop :=
  True

def Pre_MlpUpBwdIdeal (m : (ℓ : Loc Cert.MlpUpBwdIdeal.nD Cert.MlpUpBwdIdeal.τ Cert.MlpUpBwdIdeal.sig) → Buf (Elt Ideal) ℓ) : Prop :=
  True

def Pre_MlpUpBwdRefIdeal (m : (ℓ : Loc Cert.MlpUpBwdRefIdeal.nD Cert.MlpUpBwdRefIdeal.τ Cert.MlpUpBwdRefIdeal.sig) → Buf (Elt Ideal) ℓ) : Prop :=
  True

def Pre_MlpDownBwd (m : (ℓ : Loc Cert.MlpDownBwd.nD Cert.MlpDownBwd.τ Cert.MlpDownBwd.sig) → Buf (Elt Bits) ℓ) : Prop :=
  True

def Pre_MlpDownBwdIdeal (m : (ℓ : Loc Cert.MlpDownBwdIdeal.nD Cert.MlpDownBwdIdeal.τ Cert.MlpDownBwdIdeal.sig) → Buf (Elt Ideal) ℓ) : Prop :=
  True

def Pre_MlpDownBwdRefIdeal (m : (ℓ : Loc Cert.MlpDownBwdRefIdeal.nD Cert.MlpDownBwdRefIdeal.τ Cert.MlpDownBwdRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdIdeal_mix_finite [hPre_mix_finite : Cert.Pre_mix_finite.Facts] (m : (ℓ : Loc Cert.MixBwdIdeal.nD Cert.MixBwdIdeal.τ Cert.MixBwdIdeal.sig) → Buf (Elt Ideal) ℓ) : Prop :=
  ∀ c : Dev Cert.MixBwdIdeal.nD,
    (Cert.Pre_mix_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7))) = (fun _ => 1#1)

def Pre_MixBwdRefIdeal (m : (ℓ : Loc Cert.MixBwdRefIdeal.nD Cert.MixBwdRefIdeal.τ Cert.MixBwdRefIdeal.sig) → Buf (Elt Ideal) ℓ) : Prop :=
  True

def Pre_MixBwdRefIdeal_mix_finite [hPre_mix_finite : Cert.Pre_mix_finite.Facts] (m : (ℓ : Loc Cert.MixBwdRefIdeal.nD Cert.MixBwdRefIdeal.τ Cert.MixBwdRefIdeal.sig) → Buf (Elt Ideal) ℓ) : Prop :=
  ∀ c : Dev Cert.MixBwdRefIdeal.nD,
    (Cert.Pre_mix_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7))) = (fun _ => 1#1)

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_GradGlu (m : (ℓ : Loc Cert.GradGlu.nD Cert.GradGlu.τ Cert.GradGlu.sig) → Buf (Elt Bits) ℓ) : Prop :=
  True

def Pre_GradGluIdeal (m : (ℓ : Loc Cert.GradGluIdeal.nD Cert.GradGluIdeal.τ Cert.GradGluIdeal.sig) → Buf (Elt Ideal) ℓ) : Prop :=
  True

def Pre_GradGluRefIdeal (m : (ℓ : Loc Cert.GradGluRefIdeal.nD Cert.GradGluRefIdeal.τ Cert.GradGluRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDownLoss (m : (ℓ : Loc Cert.MlpDownLoss.nD Cert.MlpDownLoss.τ Cert.MlpDownLoss.sig) → Buf (Elt Bits) ℓ) : Prop :=
  True

def Pre_MlpDownLossIdeal (m : (ℓ : Loc Cert.MlpDownLossIdeal.nD Cert.MlpDownLossIdeal.τ Cert.MlpDownLossIdeal.sig) → Buf (Elt Ideal) ℓ) : Prop :=
  True

def Pre_MlpDownLossRefIdeal (m : (ℓ : Loc Cert.MlpDownLossRefIdeal.nD Cert.MlpDownLossRefIdeal.τ Cert.MlpDownLossRefIdeal.sig) → Buf (Elt Ideal) ℓ) : Prop :=
  True

def Pre_FwdMix (m : (ℓ : Loc Cert.FwdMix.nD Cert.FwdMix.τ Cert.FwdMix.sig) → Buf (Elt Bits) ℓ) : Prop :=
  True

def Pre_FwdMixIdeal (m : (ℓ : Loc Cert.FwdMixIdeal.nD Cert.FwdMixIdeal.τ Cert.FwdMixIdeal.sig) → Buf (Elt Ideal) ℓ) : Prop :=
  True

def Pre_FwdMixRefIdeal (m : (ℓ : Loc Cert.FwdMixRefIdeal.nD Cert.FwdMixRefIdeal.τ Cert.FwdMixRefIdeal.sig) → Buf (Elt Ideal) ℓ) : Prop :=
  True

def Pre_FwdProj (m : (ℓ : Loc Cert.FwdProj.nD Cert.FwdProj.τ Cert.FwdProj.sig) → Buf (Elt Bits) ℓ) : Prop :=
  True

def Pre_FwdProjIdeal (m : (ℓ : Loc Cert.FwdProjIdeal.nD Cert.FwdProjIdeal.τ Cert.FwdProjIdeal.sig) → Buf (Elt Ideal) ℓ) : Prop :=
  True

def Pre_FwdProjIdeal_proj_finite [hPre_proj_finite : Cert.Pre_proj_finite.Facts] (m : (ℓ : Loc Cert.FwdProjIdeal.nD Cert.FwdProjIdeal.τ Cert.FwdProjIdeal.sig) → Buf (Elt Ideal) ℓ) : Prop :=
  ∀ c : Dev Cert.FwdProjIdeal.nD,
    (Cert.Pre_proj_finite.fn (F := Ideal) (m ((c.tc : Thread Cert.FwdProjIdeal.nD Cert.FwdProjIdeal.τ).loc Cert.FwdProjIdeal.main_arg0)) (m ((c.tc : Thread Cert.FwdProjIdeal.nD Cert.FwdProjIdeal.τ).loc Cert.FwdProjIdeal.main_arg1)) (m ((c.tc : Thread Cert.FwdProjIdeal.nD Cert.FwdProjIdeal.τ).loc Cert.FwdProjIdeal.main_arg2)) (m ((c.tc : Thread Cert.FwdProjIdeal.nD Cert.FwdProjIdeal.τ).loc Cert.FwdProjIdeal.main_arg3)) (m ((c.tc : Thread Cert.FwdProjIdeal.nD Cert.FwdProjIdeal.τ).loc Cert.FwdProjIdeal.main_arg4))) = (fun _ => 1#1)

def Pre_FwdProjRefIdeal (m : (ℓ : Loc Cert.FwdProjRefIdeal.nD Cert.FwdProjRefIdeal.τ Cert.FwdProjRefIdeal.sig) → Buf (Elt Ideal) ℓ) : Prop :=
  True

def Pre_FwdProjRefIdeal_proj_finite [hPre_proj_finite : Cert.Pre_proj_finite.Facts] (m : (ℓ : Loc Cert.FwdProjRefIdeal.nD Cert.FwdProjRefIdeal.τ Cert.FwdProjRefIdeal.sig) → Buf (Elt Ideal) ℓ) : Prop :=
  ∀ c : Dev Cert.FwdProjRefIdeal.nD,
    (Cert.Pre_proj_finite.fn (F := Ideal) (m ((c.tc : Thread Cert.FwdProjRefIdeal.nD Cert.FwdProjRefIdeal.τ).loc Cert.FwdProjRefIdeal.main_arg0)) (m ((c.tc : Thread Cert.FwdProjRefIdeal.nD Cert.FwdProjRefIdeal.τ).loc Cert.FwdProjRefIdeal.main_arg1)) (m ((c.tc : Thread Cert.FwdProjRefIdeal.nD Cert.FwdProjRefIdeal.τ).loc Cert.FwdProjRefIdeal.main_arg2)) (m ((c.tc : Thread Cert.FwdProjRefIdeal.nD Cert.FwdProjRefIdeal.τ).loc Cert.FwdProjRefIdeal.main_arg3)) (m ((c.tc : Thread Cert.FwdProjRefIdeal.nD Cert.FwdProjRefIdeal.τ).loc Cert.FwdProjRefIdeal.main_arg4))) = (fun _ => 1#1)

def Pre_UpdIn (m : (ℓ : Loc Cert.UpdIn.nD Cert.UpdIn.τ Cert.UpdIn.sig) → Buf (Elt Bits) ℓ) : Prop :=
  True

def Pre_UpdInIdeal (m : (ℓ : Loc Cert.UpdInIdeal.nD Cert.UpdInIdeal.τ Cert.UpdInIdeal.sig) → Buf (Elt Ideal) ℓ) : Prop :=
  True

def Pre_UpdInRefIdeal (m : (ℓ : Loc Cert.UpdInRefIdeal.nD Cert.UpdInRefIdeal.τ Cert.UpdInRefIdeal.sig) → Buf (Elt Ideal) ℓ) : Prop :=
  True

def Pre_UpdGlu (m : (ℓ : Loc Cert.UpdGlu.nD Cert.UpdGlu.τ Cert.UpdGlu.sig) → Buf (Elt Bits) ℓ) : Prop :=
  True

def Pre_UpdGluIdeal (m : (ℓ : Loc Cert.UpdGluIdeal.nD Cert.UpdGluIdeal.τ Cert.UpdGluIdeal.sig) → Buf (Elt Ideal) ℓ) : Prop :=
  True

def Pre_UpdGluRefIdeal (m : (ℓ : Loc Cert.UpdGluRefIdeal.nD Cert.UpdGluRefIdeal.τ Cert.UpdGluRefIdeal.sig) → Buf (Elt Ideal) ℓ) : Prop :=
  True

def Pre_UpdOut (m : (ℓ : Loc Cert.UpdOut.nD Cert.UpdOut.τ Cert.UpdOut.sig) → Buf (Elt Bits) ℓ) : Prop :=
  True

def Pre_UpdOutIdeal (m : (ℓ : Loc Cert.UpdOutIdeal.nD Cert.UpdOutIdeal.τ Cert.UpdOutIdeal.sig) → Buf (Elt Ideal) ℓ) : Prop :=
  True

def Pre_UpdOutRefIdeal (m : (ℓ : Loc Cert.UpdOutRefIdeal.nD Cert.UpdOutRefIdeal.τ Cert.UpdOutRefIdeal.sig) → Buf (Elt Ideal) ℓ) : Prop :=
  True

def Pre_UpdUp (m : (ℓ : Loc Cert.UpdUp.nD Cert.UpdUp.τ Cert.UpdUp.sig) → Buf (Elt Bits) ℓ) : Prop :=
  True

def Pre_UpdUpIdeal (m : (ℓ : Loc Cert.UpdUpIdeal.nD Cert.UpdUpIdeal.τ Cert.UpdUpIdeal.sig) → Buf (Elt Ideal) ℓ) : Prop :=
  True

def Pre_UpdUpRefIdeal (m : (ℓ : Loc Cert.UpdUpRefIdeal.nD Cert.UpdUpRefIdeal.τ Cert.UpdUpRefIdeal.sig) → Buf (Elt Ideal) ℓ) : Prop :=
  True

def Pre_UpdDown (m : (ℓ : Loc Cert.UpdDown.nD Cert.UpdDown.τ Cert.UpdDown.sig) → Buf (Elt Bits) ℓ) : Prop :=
  True

def Pre_UpdDownIdeal (m : (ℓ : Loc Cert.UpdDownIdeal.nD Cert.UpdDownIdeal.τ Cert.UpdDownIdeal.sig) → Buf (Elt Ideal) ℓ) : Prop :=
  True

def Pre_UpdDownRefIdeal (m : (ℓ : Loc Cert.UpdDownRefIdeal.nD Cert.UpdDownRefIdeal.τ Cert.UpdDownRefIdeal.sig) → Buf (Elt Ideal) ℓ) : Prop :=
  True

def Pre_QkBwd (m : (ℓ : Loc Cert.QkBwd.nD Cert.QkBwd.τ Cert.QkBwd.sig) → Buf (Elt Bits) ℓ) : Prop :=
  True

def Pre_QkBwdIdeal (m : (ℓ : Loc Cert.QkBwdIdeal.nD Cert.QkBwdIdeal.τ Cert.QkBwdIdeal.sig) → Buf (Elt Ideal) ℓ) : Prop :=
  True

def Pre_QkBwdIdeal_qk_finite [hPre_qk_finite : Cert.Pre_qk_finite.Facts] (m : (ℓ : Loc Cert.QkBwdIdeal.nD Cert.QkBwdIdeal.τ Cert.QkBwdIdeal.sig) → Buf (Elt Ideal) ℓ) : Prop :=
  ∀ c : Dev Cert.QkBwdIdeal.nD,
    (Cert.Pre_qk_finite.fn (F := Ideal) (m ((c.tc : Thread Cert.QkBwdIdeal.nD Cert.QkBwdIdeal.τ).loc Cert.QkBwdIdeal.main_arg0)) (m ((c.tc : Thread Cert.QkBwdIdeal.nD Cert.QkBwdIdeal.τ).loc Cert.QkBwdIdeal.main_arg1)) (m ((c.tc : Thread Cert.QkBwdIdeal.nD Cert.QkBwdIdeal.τ).loc Cert.QkBwdIdeal.main_arg2)) (m ((c.tc : Thread Cert.QkBwdIdeal.nD Cert.QkBwdIdeal.τ).loc Cert.QkBwdIdeal.main_arg3)) (m ((c.tc : Thread Cert.QkBwdIdeal.nD Cert.QkBwdIdeal.τ).loc Cert.QkBwdIdeal.main_arg4)) (m ((c.tc : Thread Cert.QkBwdIdeal.nD Cert.QkBwdIdeal.τ).loc Cert.QkBwdIdeal.main_arg5)) (m ((c.tc : Thread Cert.QkBwdIdeal.nD Cert.QkBwdIdeal.τ).loc Cert.QkBwdIdeal.main_arg6))) = (fun _ => 1#1)

def Pre_QkBwdRefIdeal (m : (ℓ : Loc Cert.QkBwdRefIdeal.nD Cert.QkBwdRefIdeal.τ Cert.QkBwdRefIdeal.sig) → Buf (Elt Ideal) ℓ) : Prop :=
  True

def Pre_QkBwdRefIdeal_qk_finite [hPre_qk_finite : Cert.Pre_qk_finite.Facts] (m : (ℓ : Loc Cert.QkBwdRefIdeal.nD Cert.QkBwdRefIdeal.τ Cert.QkBwdRefIdeal.sig) → Buf (Elt Ideal) ℓ) : Prop :=
  ∀ c : Dev Cert.QkBwdRefIdeal.nD,
    (Cert.Pre_qk_finite.fn (F := Ideal) (m ((c.tc : Thread Cert.QkBwdRefIdeal.nD Cert.QkBwdRefIdeal.τ).loc Cert.QkBwdRefIdeal.main_arg0)) (m ((c.tc : Thread Cert.QkBwdRefIdeal.nD Cert.QkBwdRefIdeal.τ).loc Cert.QkBwdRefIdeal.main_arg1)) (m ((c.tc : Thread Cert.QkBwdRefIdeal.nD Cert.QkBwdRefIdeal.τ).loc Cert.QkBwdRefIdeal.main_arg2)) (m ((c.tc : Thread Cert.QkBwdRefIdeal.nD Cert.QkBwdRefIdeal.τ).loc Cert.QkBwdRefIdeal.main_arg3)) (m ((c.tc : Thread Cert.QkBwdRefIdeal.nD Cert.QkBwdRefIdeal.τ).loc Cert.QkBwdRefIdeal.main_arg4)) (m ((c.tc : Thread Cert.QkBwdRefIdeal.nD Cert.QkBwdRefIdeal.τ).loc Cert.QkBwdRefIdeal.main_arg5)) (m ((c.tc : Thread Cert.QkBwdRefIdeal.nD Cert.QkBwdRefIdeal.τ).loc Cert.QkBwdRefIdeal.main_arg6))) = (fun _ => 1#1)

def Pre_SsmDiscBwd (m : (ℓ : Loc Cert.SsmDiscBwd.nD Cert.SsmDiscBwd.τ Cert.SsmDiscBwd.sig) → Buf (Elt Bits) ℓ) : Prop :=
  True

def Pre_SsmDiscBwdIdeal (m : (ℓ : Loc Cert.SsmDiscBwdIdeal.nD Cert.SsmDiscBwdIdeal.τ Cert.SsmDiscBwdIdeal.sig) → Buf (Elt Ideal) ℓ) : Prop :=
  True

def Pre_SsmDiscBwdIdeal_disc_regular [hPre_disc_regular : Cert.Pre_disc_regular.Facts] (m : (ℓ : Loc Cert.SsmDiscBwdIdeal.nD Cert.SsmDiscBwdIdeal.τ Cert.SsmDiscBwdIdeal.sig) → Buf (Elt Ideal) ℓ) : Prop :=
  ∀ c : Dev Cert.SsmDiscBwdIdeal.nD,
    (Cert.Pre_disc_regular.fn (F := Ideal) (m ((c.tc : Thread Cert.SsmDiscBwdIdeal.nD Cert.SsmDiscBwdIdeal.τ).loc Cert.SsmDiscBwdIdeal.main_arg0)) (m ((c.tc : Thread Cert.SsmDiscBwdIdeal.nD Cert.SsmDiscBwdIdeal.τ).loc Cert.SsmDiscBwdIdeal.main_arg1)) (m ((c.tc : Thread Cert.SsmDiscBwdIdeal.nD Cert.SsmDiscBwdIdeal.τ).loc Cert.SsmDiscBwdIdeal.main_arg2)) (m ((c.tc : Thread Cert.SsmDiscBwdIdeal.nD Cert.SsmDiscBwdIdeal.τ).loc Cert.SsmDiscBwdIdeal.main_arg3)) (m ((c.tc : Thread Cert.SsmDiscBwdIdeal.nD Cert.SsmDiscBwdIdeal.τ).loc Cert.SsmDiscBwdIdeal.main_arg4)) (m ((c.tc : Thread Cert.SsmDiscBwdIdeal.nD Cert.SsmDiscBwdIdeal.τ).loc Cert.SsmDiscBwdIdeal.main_arg5)) (m ((c.tc : Thread Cert.SsmDiscBwdIdeal.nD Cert.SsmDiscBwdIdeal.τ).loc Cert.SsmDiscBwdIdeal.main_arg6)) (m ((c.tc : Thread Cert.SsmDiscBwdIdeal.nD Cert.SsmDiscBwdIdeal.τ).loc Cert.SsmDiscBwdIdeal.main_arg7)) (m ((c.tc : Thread Cert.SsmDiscBwdIdeal.nD Cert.SsmDiscBwdIdeal.τ).loc Cert.SsmDiscBwdIdeal.main_arg8))) = (fun _ => 1#1)

def Pre_SsmDiscBwdRefIdeal (m : (ℓ : Loc Cert.SsmDiscBwdRefIdeal.nD Cert.SsmDiscBwdRefIdeal.τ Cert.SsmDiscBwdRefIdeal.sig) → Buf (Elt Ideal) ℓ) : Prop :=
  True

def Pre_SsmDiscBwdRefIdeal_disc_regular [hPre_disc_regular : Cert.Pre_disc_regular.Facts] (m : (ℓ : Loc Cert.SsmDiscBwdRefIdeal.nD Cert.SsmDiscBwdRefIdeal.τ Cert.SsmDiscBwdRefIdeal.sig) → Buf (Elt Ideal) ℓ) : Prop :=
  ∀ c : Dev Cert.SsmDiscBwdRefIdeal.nD,
    (Cert.Pre_disc_regular.fn (F := Ideal) (m ((c.tc : Thread Cert.SsmDiscBwdRefIdeal.nD Cert.SsmDiscBwdRefIdeal.τ).loc Cert.SsmDiscBwdRefIdeal.main_arg0)) (m ((c.tc : Thread Cert.SsmDiscBwdRefIdeal.nD Cert.SsmDiscBwdRefIdeal.τ).loc Cert.SsmDiscBwdRefIdeal.main_arg1)) (m ((c.tc : Thread Cert.SsmDiscBwdRefIdeal.nD Cert.SsmDiscBwdRefIdeal.τ).loc Cert.SsmDiscBwdRefIdeal.main_arg2)) (m ((c.tc : Thread Cert.SsmDiscBwdRefIdeal.nD Cert.SsmDiscBwdRefIdeal.τ).loc Cert.SsmDiscBwdRefIdeal.main_arg3)) (m ((c.tc : Thread Cert.SsmDiscBwdRefIdeal.nD Cert.SsmDiscBwdRefIdeal.τ).loc Cert.SsmDiscBwdRefIdeal.main_arg4)) (m ((c.tc : Thread Cert.SsmDiscBwdRefIdeal.nD Cert.SsmDiscBwdRefIdeal.τ).loc Cert.SsmDiscBwdRefIdeal.main_arg5)) (m ((c.tc : Thread Cert.SsmDiscBwdRefIdeal.nD Cert.SsmDiscBwdRefIdeal.τ).loc Cert.SsmDiscBwdRefIdeal.main_arg6)) (m ((c.tc : Thread Cert.SsmDiscBwdRefIdeal.nD Cert.SsmDiscBwdRefIdeal.τ).loc Cert.SsmDiscBwdRefIdeal.main_arg7)) (m ((c.tc : Thread Cert.SsmDiscBwdRefIdeal.nD Cert.SsmDiscBwdRefIdeal.τ).loc Cert.SsmDiscBwdRefIdeal.main_arg8))) = (fun _ => 1#1)

def Pre_SsmDisc (m : (ℓ : Loc Cert.SsmDisc.nD Cert.SsmDisc.τ Cert.SsmDisc.sig) → Buf (Elt Bits) ℓ) : Prop :=
  True

def Pre_SsmDiscIdeal (m : (ℓ : Loc Cert.SsmDiscIdeal.nD Cert.SsmDiscIdeal.τ Cert.SsmDiscIdeal.sig) → Buf (Elt Ideal) ℓ) : Prop :=
  True

def Pre_SsmDiscRefIdeal (m : (ℓ : Loc Cert.SsmDiscRefIdeal.nD Cert.SsmDiscRefIdeal.τ Cert.SsmDiscRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def quiescent_MlpUpBwd [hMlpUpBwd : Cert.MlpUpBwd.Facts] : Prop :=
  ∀ (m : (ℓ : Loc Cert.MlpUpBwd.nD Cert.MlpUpBwd.τ Cert.MlpUpBwd.sig) → Buf (Elt Bits) ℓ) (g : Dev Cert.MlpUpBwd.nD → PrngReg), Pre_MlpUpBwd m →
    θ_run (Cert.MlpUpBwd.defs (F := Bits)) (onTc (τ := Cert.MlpUpBwd.τ) (Cert.MlpUpBwd.main (F := Bits))) ⟨m, fun _ => 0, g⟩ (fun r => (∀ c : Dev Cert.MlpUpBwd.nD,
      r.2.mem ((c.tc : Thread Cert.MlpUpBwd.nD Cert.MlpUpBwd.τ).loc Cert.MlpUpBwd.main_arg0) = m ((c.tc : Thread Cert.MlpUpBwd.nD Cert.MlpUpBwd.τ).loc Cert.MlpUpBwd.main_arg0)
      ∧ r.2.mem ((c.tc : Thread Cert.MlpUpBwd.nD Cert.MlpUpBwd.τ).loc Cert.MlpUpBwd.main_arg1) = m ((c.tc : Thread Cert.MlpUpBwd.nD Cert.MlpUpBwd.τ).loc Cert.MlpUpBwd.main_arg1)
      ∧ r.2.mem ((c.tc : Thread Cert.MlpUpBwd.nD Cert.MlpUpBwd.τ).loc Cert.MlpUpBwd.main_arg2) = m ((c.tc : Thread Cert.MlpUpBwd.nD Cert.MlpUpBwd.τ).loc Cert.MlpUpBwd.main_arg2)
      ∧ r.2.mem ((c.tc : Thread Cert.MlpUpBwd.nD Cert.MlpUpBwd.τ).loc Cert.MlpUpBwd.main_arg3) = m ((c.tc : Thread Cert.MlpUpBwd.nD Cert.MlpUpBwd.τ).loc Cert.MlpUpBwd.main_arg3)
      ∧ r.2.mem ((c.tc : Thread Cert.MlpUpBwd.nD Cert.MlpUpBwd.τ).loc Cert.MlpUpBwd.main_arg4) = m ((c.tc : Thread Cert.MlpUpBwd.nD Cert.MlpUpBwd.τ).loc Cert.MlpUpBwd.main_arg4))
      ∧ r.2.sem = fun _ => 0)

def quiescent_MlpUpBwdIdeal [hMlpUpBwdIdeal : Cert.MlpUpBwdIdeal.Facts] : Prop :=
  ∀ (m : (ℓ : Loc Cert.MlpUpBwdIdeal.nD Cert.MlpUpBwdIdeal.τ Cert.MlpUpBwdIdeal.sig) → Buf (Elt Ideal) ℓ) (g : Dev Cert.MlpUpBwdIdeal.nD → PrngReg), Pre_MlpUpBwdIdeal m →
    θ_run (Cert.MlpUpBwdIdeal.defs (F := Ideal)) (onTc (τ := Cert.MlpUpBwdIdeal.τ) (Cert.MlpUpBwdIdeal.main (F := Ideal))) ⟨m, fun _ => 0, g⟩ (fun r => (∀ c : Dev Cert.MlpUpBwdIdeal.nD,
      r.2.mem ((c.tc : Thread Cert.MlpUpBwdIdeal.nD Cert.MlpUpBwdIdeal.τ).loc Cert.MlpUpBwdIdeal.main_arg0) = m ((c.tc : Thread Cert.MlpUpBwdIdeal.nD Cert.MlpUpBwdIdeal.τ).loc Cert.MlpUpBwdIdeal.main_arg0)
      ∧ r.2.mem ((c.tc : Thread Cert.MlpUpBwdIdeal.nD Cert.MlpUpBwdIdeal.τ).loc Cert.MlpUpBwdIdeal.main_arg1) = m ((c.tc : Thread Cert.MlpUpBwdIdeal.nD Cert.MlpUpBwdIdeal.τ).loc Cert.MlpUpBwdIdeal.main_arg1)
      ∧ r.2.mem ((c.tc : Thread Cert.MlpUpBwdIdeal.nD Cert.MlpUpBwdIdeal.τ).loc Cert.MlpUpBwdIdeal.main_arg2) = m ((c.tc : Thread Cert.MlpUpBwdIdeal.nD Cert.MlpUpBwdIdeal.τ).loc Cert.MlpUpBwdIdeal.main_arg2)
      ∧ r.2.mem ((c.tc : Thread Cert.MlpUpBwdIdeal.nD Cert.MlpUpBwdIdeal.τ).loc Cert.MlpUpBwdIdeal.main_arg3) = m ((c.tc : Thread Cert.MlpUpBwdIdeal.nD Cert.MlpUpBwdIdeal.τ).loc Cert.MlpUpBwdIdeal.main_arg3)
      ∧ r.2.mem ((c.tc : Thread Cert.MlpUpBwdIdeal.nD Cert.MlpUpBwdIdeal.τ).loc Cert.MlpUpBwdIdeal.main_arg4) = m ((c.tc : Thread Cert.MlpUpBwdIdeal.nD Cert.MlpUpBwdIdeal.τ).loc Cert.MlpUpBwdIdeal.main_arg4))
      ∧ r.2.sem = fun _ => 0)

def quiescent_MlpUpBwdRefIdeal [hMlpUpBwdRefIdeal : Cert.MlpUpBwdRefIdeal.Facts] : Prop :=
  ∀ (m : (ℓ : Loc Cert.MlpUpBwdRefIdeal.nD Cert.MlpUpBwdRefIdeal.τ Cert.MlpUpBwdRefIdeal.sig) → Buf (Elt Ideal) ℓ) (g : Dev Cert.MlpUpBwdRefIdeal.nD → PrngReg), Pre_MlpUpBwdRefIdeal m →
    θ_run (Cert.MlpUpBwdRefIdeal.defs (F := Ideal)) (onTc (τ := Cert.MlpUpBwdRefIdeal.τ) (Cert.MlpUpBwdRefIdeal.main (F := Ideal))) ⟨m, fun _ => 0, g⟩ (fun r => (∀ c : Dev Cert.MlpUpBwdRefIdeal.nD,
      r.2.mem ((c.tc : Thread Cert.MlpUpBwdRefIdeal.nD Cert.MlpUpBwdRefIdeal.τ).loc Cert.MlpUpBwdRefIdeal.main_arg0) = m ((c.tc : Thread Cert.MlpUpBwdRefIdeal.nD Cert.MlpUpBwdRefIdeal.τ).loc Cert.MlpUpBwdRefIdeal.main_arg0)
      ∧ r.2.mem ((c.tc : Thread Cert.MlpUpBwdRefIdeal.nD Cert.MlpUpBwdRefIdeal.τ).loc Cert.MlpUpBwdRefIdeal.main_arg1) = m ((c.tc : Thread Cert.MlpUpBwdRefIdeal.nD Cert.MlpUpBwdRefIdeal.τ).loc Cert.MlpUpBwdRefIdeal.main_arg1)
      ∧ r.2.mem ((c.tc : Thread Cert.MlpUpBwdRefIdeal.nD Cert.MlpUpBwdRefIdeal.τ).loc Cert.MlpUpBwdRefIdeal.main_arg2) = m ((c.tc : Thread Cert.MlpUpBwdRefIdeal.nD Cert.MlpUpBwdRefIdeal.τ).loc Cert.MlpUpBwdRefIdeal.main_arg2)
      ∧ r.2.mem ((c.tc : Thread Cert.MlpUpBwdRefIdeal.nD Cert.MlpUpBwdRefIdeal.τ).loc Cert.MlpUpBwdRefIdeal.main_arg3) = m ((c.tc : Thread Cert.MlpUpBwdRefIdeal.nD Cert.MlpUpBwdRefIdeal.τ).loc Cert.MlpUpBwdRefIdeal.main_arg3)
      ∧ r.2.mem ((c.tc : Thread Cert.MlpUpBwdRefIdeal.nD Cert.MlpUpBwdRefIdeal.τ).loc Cert.MlpUpBwdRefIdeal.main_arg4) = m ((c.tc : Thread Cert.MlpUpBwdRefIdeal.nD Cert.MlpUpBwdRefIdeal.τ).loc Cert.MlpUpBwdRefIdeal.main_arg4))
      ∧ r.2.sem = fun _ => 0)

def quiescent_MlpDownBwd [hMlpDownBwd : Cert.MlpDownBwd.Facts] : Prop :=
  ∀ (m : (ℓ : Loc Cert.MlpDownBwd.nD Cert.MlpDownBwd.τ Cert.MlpDownBwd.sig) → Buf (Elt Bits) ℓ) (g : Dev Cert.MlpDownBwd.nD → PrngReg), Pre_MlpDownBwd m →
    θ_run (Cert.MlpDownBwd.defs (F := Bits)) (onTc (τ := Cert.MlpDownBwd.τ) (Cert.MlpDownBwd.main (F := Bits))) ⟨m, fun _ => 0, g⟩ (fun r => (∀ c : Dev Cert.MlpDownBwd.nD,
      r.2.mem ((c.tc : Thread Cert.MlpDownBwd.nD Cert.MlpDownBwd.τ).loc Cert.MlpDownBwd.main_arg0) = m ((c.tc : Thread Cert.MlpDownBwd.nD Cert.MlpDownBwd.τ).loc Cert.MlpDownBwd.main_arg0)
      ∧ r.2.mem ((c.tc : Thread Cert.MlpDownBwd.nD Cert.MlpDownBwd.τ).loc Cert.MlpDownBwd.main_arg1) = m ((c.tc : Thread Cert.MlpDownBwd.nD Cert.MlpDownBwd.τ).loc Cert.MlpDownBwd.main_arg1)
      ∧ r.2.mem ((c.tc : Thread Cert.MlpDownBwd.nD Cert.MlpDownBwd.τ).loc Cert.MlpDownBwd.main_arg2) = m ((c.tc : Thread Cert.MlpDownBwd.nD Cert.MlpDownBwd.τ).loc Cert.MlpDownBwd.main_arg2))
      ∧ r.2.sem = fun _ => 0)

def quiescent_MlpDownBwdIdeal [hMlpDownBwdIdeal : Cert.MlpDownBwdIdeal.Facts] : Prop :=
  ∀ (m : (ℓ : Loc Cert.MlpDownBwdIdeal.nD Cert.MlpDownBwdIdeal.τ Cert.MlpDownBwdIdeal.sig) → Buf (Elt Ideal) ℓ) (g : Dev Cert.MlpDownBwdIdeal.nD → PrngReg), Pre_MlpDownBwdIdeal m →
    θ_run (Cert.MlpDownBwdIdeal.defs (F := Ideal)) (onTc (τ := Cert.MlpDownBwdIdeal.τ) (Cert.MlpDownBwdIdeal.main (F := Ideal))) ⟨m, fun _ => 0, g⟩ (fun r => (∀ c : Dev Cert.MlpDownBwdIdeal.nD,
      r.2.mem ((c.tc : Thread Cert.MlpDownBwdIdeal.nD Cert.MlpDownBwdIdeal.τ).loc Cert.MlpDownBwdIdeal.main_arg0) = m ((c.tc : Thread Cert.MlpDownBwdIdeal.nD Cert.MlpDownBwdIdeal.τ).loc Cert.MlpDownBwdIdeal.main_arg0)
      ∧ r.2.mem ((c.tc : Thread Cert.MlpDownBwdIdeal.nD Cert.MlpDownBwdIdeal.τ).loc Cert.MlpDownBwdIdeal.main_arg1) = m ((c.tc : Thread Cert.MlpDownBwdIdeal.nD Cert.MlpDownBwdIdeal.τ).loc Cert.MlpDownBwdIdeal.main_arg1)
      ∧ r.2.mem ((c.tc : Thread Cert.MlpDownBwdIdeal.nD Cert.MlpDownBwdIdeal.τ).loc Cert.MlpDownBwdIdeal.main_arg2) = m ((c.tc : Thread Cert.MlpDownBwdIdeal.nD Cert.MlpDownBwdIdeal.τ).loc Cert.MlpDownBwdIdeal.main_arg2))
      ∧ r.2.sem = fun _ => 0)

def quiescent_MlpDownBwdRefIdeal [hMlpDownBwdRefIdeal : Cert.MlpDownBwdRefIdeal.Facts] : Prop :=
  ∀ (m : (ℓ : Loc Cert.MlpDownBwdRefIdeal.nD Cert.MlpDownBwdRefIdeal.τ Cert.MlpDownBwdRefIdeal.sig) → Buf (Elt Ideal) ℓ) (g : Dev Cert.MlpDownBwdRefIdeal.nD → PrngReg), Pre_MlpDownBwdRefIdeal m →
    θ_run (Cert.MlpDownBwdRefIdeal.defs (F := Ideal)) (onTc (τ := Cert.MlpDownBwdRefIdeal.τ) (Cert.MlpDownBwdRefIdeal.main (F := Ideal))) ⟨m, fun _ => 0, g⟩ (fun r => (∀ c : Dev Cert.MlpDownBwdRefIdeal.nD,
      r.2.mem ((c.tc : Thread Cert.MlpDownBwdRefIdeal.nD Cert.MlpDownBwdRefIdeal.τ).loc Cert.MlpDownBwdRefIdeal.main_arg0) = m ((c.tc : Thread Cert.MlpDownBwdRefIdeal.nD Cert.MlpDownBwdRefIdeal.τ).loc Cert.MlpDownBwdRefIdeal.main_arg0)
      ∧ r.2.mem ((c.tc : Thread Cert.MlpDownBwdRefIdeal.nD Cert.MlpDownBwdRefIdeal.τ).loc Cert.MlpDownBwdRefIdeal.main_arg1) = m ((c.tc : Thread Cert.MlpDownBwdRefIdeal.nD Cert.MlpDownBwdRefIdeal.τ).loc Cert.MlpDownBwdRefIdeal.main_arg1)
      ∧ r.2.mem ((c.tc : Thread Cert.MlpDownBwdRefIdeal.nD Cert.MlpDownBwdRefIdeal.τ).loc Cert.MlpDownBwdRefIdeal.main_arg2) = m ((c.tc : Thread Cert.MlpDownBwdRefIdeal.nD Cert.MlpDownBwdRefIdeal.τ).loc Cert.MlpDownBwdRefIdeal.main_arg2))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7))
      ∧ r.2.sem = fun _ => 0)

def quiescent_MixBwdIdeal_pre_mix_finite [hMixBwdIdeal : Cert.MixBwdIdeal.Facts] [hPre_mix_finite : Cert.Pre_mix_finite.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal_mix_finite m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6)
      ∧ r.2.mem ((c.tc : Thread Cert.MixBwdRefIdeal.nD Cert.MixBwdRefIdeal.τ).loc Cert.MixBwdRefIdeal.main_arg7) = m ((c.tc : Thread Cert.MixBwdRefIdeal.nD Cert.MixBwdRefIdeal.τ).loc Cert.MixBwdRefIdeal.main_arg7))
      ∧ r.2.sem = fun _ => 0)

def quiescent_MixBwdRefIdeal_pre_mix_finite [hMixBwdRefIdeal : Cert.MixBwdRefIdeal.Facts] [hPre_mix_finite : Cert.Pre_mix_finite.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal_mix_finite m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6)
      ∧ r.2.mem ((c.tc : Thread Cert.MixBwdRefIdeal.nD Cert.MixBwdRefIdeal.τ).loc Cert.MixBwdRefIdeal.main_arg7) = m ((c.tc : Thread Cert.MixBwdRefIdeal.nD Cert.MixBwdRefIdeal.τ).loc Cert.MixBwdRefIdeal.main_arg7))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_GradGlu [hGradGlu : Cert.GradGlu.Facts] : Prop :=
  ∀ (m : (ℓ : Loc Cert.GradGlu.nD Cert.GradGlu.τ Cert.GradGlu.sig) → Buf (Elt Bits) ℓ) (g : Dev Cert.GradGlu.nD → PrngReg), Pre_GradGlu m →
    θ_run (Cert.GradGlu.defs (F := Bits)) (onTc (τ := Cert.GradGlu.τ) (Cert.GradGlu.main (F := Bits))) ⟨m, fun _ => 0, g⟩ (fun r => (∀ c : Dev Cert.GradGlu.nD,
      r.2.mem ((c.tc : Thread Cert.GradGlu.nD Cert.GradGlu.τ).loc Cert.GradGlu.main_arg0) = m ((c.tc : Thread Cert.GradGlu.nD Cert.GradGlu.τ).loc Cert.GradGlu.main_arg0)
      ∧ r.2.mem ((c.tc : Thread Cert.GradGlu.nD Cert.GradGlu.τ).loc Cert.GradGlu.main_arg1) = m ((c.tc : Thread Cert.GradGlu.nD Cert.GradGlu.τ).loc Cert.GradGlu.main_arg1))
      ∧ r.2.sem = fun _ => 0)

def quiescent_GradGluIdeal [hGradGluIdeal : Cert.GradGluIdeal.Facts] : Prop :=
  ∀ (m : (ℓ : Loc Cert.GradGluIdeal.nD Cert.GradGluIdeal.τ Cert.GradGluIdeal.sig) → Buf (Elt Ideal) ℓ) (g : Dev Cert.GradGluIdeal.nD → PrngReg), Pre_GradGluIdeal m →
    θ_run (Cert.GradGluIdeal.defs (F := Ideal)) (onTc (τ := Cert.GradGluIdeal.τ) (Cert.GradGluIdeal.main (F := Ideal))) ⟨m, fun _ => 0, g⟩ (fun r => (∀ c : Dev Cert.GradGluIdeal.nD,
      r.2.mem ((c.tc : Thread Cert.GradGluIdeal.nD Cert.GradGluIdeal.τ).loc Cert.GradGluIdeal.main_arg0) = m ((c.tc : Thread Cert.GradGluIdeal.nD Cert.GradGluIdeal.τ).loc Cert.GradGluIdeal.main_arg0)
      ∧ r.2.mem ((c.tc : Thread Cert.GradGluIdeal.nD Cert.GradGluIdeal.τ).loc Cert.GradGluIdeal.main_arg1) = m ((c.tc : Thread Cert.GradGluIdeal.nD Cert.GradGluIdeal.τ).loc Cert.GradGluIdeal.main_arg1))
      ∧ r.2.sem = fun _ => 0)

def quiescent_GradGluRefIdeal [hGradGluRefIdeal : Cert.GradGluRefIdeal.Facts] : Prop :=
  ∀ (m : (ℓ : Loc Cert.GradGluRefIdeal.nD Cert.GradGluRefIdeal.τ Cert.GradGluRefIdeal.sig) → Buf (Elt Ideal) ℓ) (g : Dev Cert.GradGluRefIdeal.nD → PrngReg), Pre_GradGluRefIdeal m →
    θ_run (Cert.GradGluRefIdeal.defs (F := Ideal)) (onTc (τ := Cert.GradGluRefIdeal.τ) (Cert.GradGluRefIdeal.main (F := Ideal))) ⟨m, fun _ => 0, g⟩ (fun r => (∀ c : Dev Cert.GradGluRefIdeal.nD,
      r.2.mem ((c.tc : Thread Cert.GradGluRefIdeal.nD Cert.GradGluRefIdeal.τ).loc Cert.GradGluRefIdeal.main_arg0) = m ((c.tc : Thread Cert.GradGluRefIdeal.nD Cert.GradGluRefIdeal.τ).loc Cert.GradGluRefIdeal.main_arg0)
      ∧ r.2.mem ((c.tc : Thread Cert.GradGluRefIdeal.nD Cert.GradGluRefIdeal.τ).loc Cert.GradGluRefIdeal.main_arg1) = m ((c.tc : Thread Cert.GradGluRefIdeal.nD Cert.GradGluRefIdeal.τ).loc Cert.GradGluRefIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpDownLoss [hMlpDownLoss : Cert.MlpDownLoss.Facts] : Prop :=
  ∀ (m : (ℓ : Loc Cert.MlpDownLoss.nD Cert.MlpDownLoss.τ Cert.MlpDownLoss.sig) → Buf (Elt Bits) ℓ) (g : Dev Cert.MlpDownLoss.nD → PrngReg), Pre_MlpDownLoss m →
    θ_run (Cert.MlpDownLoss.defs (F := Bits)) (onTc (τ := Cert.MlpDownLoss.τ) (Cert.MlpDownLoss.main (F := Bits))) ⟨m, fun _ => 0, g⟩ (fun r => (∀ c : Dev Cert.MlpDownLoss.nD,
      r.2.mem ((c.tc : Thread Cert.MlpDownLoss.nD Cert.MlpDownLoss.τ).loc Cert.MlpDownLoss.main_arg0) = m ((c.tc : Thread Cert.MlpDownLoss.nD Cert.MlpDownLoss.τ).loc Cert.MlpDownLoss.main_arg0)
      ∧ r.2.mem ((c.tc : Thread Cert.MlpDownLoss.nD Cert.MlpDownLoss.τ).loc Cert.MlpDownLoss.main_arg1) = m ((c.tc : Thread Cert.MlpDownLoss.nD Cert.MlpDownLoss.τ).loc Cert.MlpDownLoss.main_arg1)
      ∧ r.2.mem ((c.tc : Thread Cert.MlpDownLoss.nD Cert.MlpDownLoss.τ).loc Cert.MlpDownLoss.main_arg2) = m ((c.tc : Thread Cert.MlpDownLoss.nD Cert.MlpDownLoss.τ).loc Cert.MlpDownLoss.main_arg2)
      ∧ r.2.mem ((c.tc : Thread Cert.MlpDownLoss.nD Cert.MlpDownLoss.τ).loc Cert.MlpDownLoss.main_arg3) = m ((c.tc : Thread Cert.MlpDownLoss.nD Cert.MlpDownLoss.τ).loc Cert.MlpDownLoss.main_arg3))
      ∧ r.2.sem = fun _ => 0)

def quiescent_MlpDownLossIdeal [hMlpDownLossIdeal : Cert.MlpDownLossIdeal.Facts] : Prop :=
  ∀ (m : (ℓ : Loc Cert.MlpDownLossIdeal.nD Cert.MlpDownLossIdeal.τ Cert.MlpDownLossIdeal.sig) → Buf (Elt Ideal) ℓ) (g : Dev Cert.MlpDownLossIdeal.nD → PrngReg), Pre_MlpDownLossIdeal m →
    θ_run (Cert.MlpDownLossIdeal.defs (F := Ideal)) (onTc (τ := Cert.MlpDownLossIdeal.τ) (Cert.MlpDownLossIdeal.main (F := Ideal))) ⟨m, fun _ => 0, g⟩ (fun r => (∀ c : Dev Cert.MlpDownLossIdeal.nD,
      r.2.mem ((c.tc : Thread Cert.MlpDownLossIdeal.nD Cert.MlpDownLossIdeal.τ).loc Cert.MlpDownLossIdeal.main_arg0) = m ((c.tc : Thread Cert.MlpDownLossIdeal.nD Cert.MlpDownLossIdeal.τ).loc Cert.MlpDownLossIdeal.main_arg0)
      ∧ r.2.mem ((c.tc : Thread Cert.MlpDownLossIdeal.nD Cert.MlpDownLossIdeal.τ).loc Cert.MlpDownLossIdeal.main_arg1) = m ((c.tc : Thread Cert.MlpDownLossIdeal.nD Cert.MlpDownLossIdeal.τ).loc Cert.MlpDownLossIdeal.main_arg1)
      ∧ r.2.mem ((c.tc : Thread Cert.MlpDownLossIdeal.nD Cert.MlpDownLossIdeal.τ).loc Cert.MlpDownLossIdeal.main_arg2) = m ((c.tc : Thread Cert.MlpDownLossIdeal.nD Cert.MlpDownLossIdeal.τ).loc Cert.MlpDownLossIdeal.main_arg2)
      ∧ r.2.mem ((c.tc : Thread Cert.MlpDownLossIdeal.nD Cert.MlpDownLossIdeal.τ).loc Cert.MlpDownLossIdeal.main_arg3) = m ((c.tc : Thread Cert.MlpDownLossIdeal.nD Cert.MlpDownLossIdeal.τ).loc Cert.MlpDownLossIdeal.main_arg3))
      ∧ r.2.sem = fun _ => 0)

def quiescent_MlpDownLossRefIdeal [hMlpDownLossRefIdeal : Cert.MlpDownLossRefIdeal.Facts] : Prop :=
  ∀ (m : (ℓ : Loc Cert.MlpDownLossRefIdeal.nD Cert.MlpDownLossRefIdeal.τ Cert.MlpDownLossRefIdeal.sig) → Buf (Elt Ideal) ℓ) (g : Dev Cert.MlpDownLossRefIdeal.nD → PrngReg), Pre_MlpDownLossRefIdeal m →
    θ_run (Cert.MlpDownLossRefIdeal.defs (F := Ideal)) (onTc (τ := Cert.MlpDownLossRefIdeal.τ) (Cert.MlpDownLossRefIdeal.main (F := Ideal))) ⟨m, fun _ => 0, g⟩ (fun r => (∀ c : Dev Cert.MlpDownLossRefIdeal.nD,
      r.2.mem ((c.tc : Thread Cert.MlpDownLossRefIdeal.nD Cert.MlpDownLossRefIdeal.τ).loc Cert.MlpDownLossRefIdeal.main_arg0) = m ((c.tc : Thread Cert.MlpDownLossRefIdeal.nD Cert.MlpDownLossRefIdeal.τ).loc Cert.MlpDownLossRefIdeal.main_arg0)
      ∧ r.2.mem ((c.tc : Thread Cert.MlpDownLossRefIdeal.nD Cert.MlpDownLossRefIdeal.τ).loc Cert.MlpDownLossRefIdeal.main_arg1) = m ((c.tc : Thread Cert.MlpDownLossRefIdeal.nD Cert.MlpDownLossRefIdeal.τ).loc Cert.MlpDownLossRefIdeal.main_arg1)
      ∧ r.2.mem ((c.tc : Thread Cert.MlpDownLossRefIdeal.nD Cert.MlpDownLossRefIdeal.τ).loc Cert.MlpDownLossRefIdeal.main_arg2) = m ((c.tc : Thread Cert.MlpDownLossRefIdeal.nD Cert.MlpDownLossRefIdeal.τ).loc Cert.MlpDownLossRefIdeal.main_arg2)
      ∧ r.2.mem ((c.tc : Thread Cert.MlpDownLossRefIdeal.nD Cert.MlpDownLossRefIdeal.τ).loc Cert.MlpDownLossRefIdeal.main_arg3) = m ((c.tc : Thread Cert.MlpDownLossRefIdeal.nD Cert.MlpDownLossRefIdeal.τ).loc Cert.MlpDownLossRefIdeal.main_arg3))
      ∧ r.2.sem = fun _ => 0)

def quiescent_FwdMix [hFwdMix : Cert.FwdMix.Facts] : Prop :=
  ∀ (m : (ℓ : Loc Cert.FwdMix.nD Cert.FwdMix.τ Cert.FwdMix.sig) → Buf (Elt Bits) ℓ) (g : Dev Cert.FwdMix.nD → PrngReg), Pre_FwdMix m →
    θ_run (Cert.FwdMix.defs (F := Bits)) (onTc (τ := Cert.FwdMix.τ) (Cert.FwdMix.main (F := Bits))) ⟨m, fun _ => 0, g⟩ (fun r => (∀ c : Dev Cert.FwdMix.nD,
      r.2.mem ((c.tc : Thread Cert.FwdMix.nD Cert.FwdMix.τ).loc Cert.FwdMix.main_arg0) = m ((c.tc : Thread Cert.FwdMix.nD Cert.FwdMix.τ).loc Cert.FwdMix.main_arg0)
      ∧ r.2.mem ((c.tc : Thread Cert.FwdMix.nD Cert.FwdMix.τ).loc Cert.FwdMix.main_arg1) = m ((c.tc : Thread Cert.FwdMix.nD Cert.FwdMix.τ).loc Cert.FwdMix.main_arg1)
      ∧ r.2.mem ((c.tc : Thread Cert.FwdMix.nD Cert.FwdMix.τ).loc Cert.FwdMix.main_arg2) = m ((c.tc : Thread Cert.FwdMix.nD Cert.FwdMix.τ).loc Cert.FwdMix.main_arg2)
      ∧ r.2.mem ((c.tc : Thread Cert.FwdMix.nD Cert.FwdMix.τ).loc Cert.FwdMix.main_arg3) = m ((c.tc : Thread Cert.FwdMix.nD Cert.FwdMix.τ).loc Cert.FwdMix.main_arg3)
      ∧ r.2.mem ((c.tc : Thread Cert.FwdMix.nD Cert.FwdMix.τ).loc Cert.FwdMix.main_arg4) = m ((c.tc : Thread Cert.FwdMix.nD Cert.FwdMix.τ).loc Cert.FwdMix.main_arg4)
      ∧ r.2.mem ((c.tc : Thread Cert.FwdMix.nD Cert.FwdMix.τ).loc Cert.FwdMix.main_arg5) = m ((c.tc : Thread Cert.FwdMix.nD Cert.FwdMix.τ).loc Cert.FwdMix.main_arg5)
      ∧ r.2.mem ((c.tc : Thread Cert.FwdMix.nD Cert.FwdMix.τ).loc Cert.FwdMix.main_arg6) = m ((c.tc : Thread Cert.FwdMix.nD Cert.FwdMix.τ).loc Cert.FwdMix.main_arg6)
      ∧ r.2.mem ((c.tc : Thread Cert.FwdMix.nD Cert.FwdMix.τ).loc Cert.FwdMix.main_arg7) = m ((c.tc : Thread Cert.FwdMix.nD Cert.FwdMix.τ).loc Cert.FwdMix.main_arg7)
      ∧ r.2.mem ((c.tc : Thread Cert.FwdMix.nD Cert.FwdMix.τ).loc Cert.FwdMix.main_arg8) = m ((c.tc : Thread Cert.FwdMix.nD Cert.FwdMix.τ).loc Cert.FwdMix.main_arg8))
      ∧ r.2.sem = fun _ => 0)

def quiescent_FwdMixIdeal [hFwdMixIdeal : Cert.FwdMixIdeal.Facts] : Prop :=
  ∀ (m : (ℓ : Loc Cert.FwdMixIdeal.nD Cert.FwdMixIdeal.τ Cert.FwdMixIdeal.sig) → Buf (Elt Ideal) ℓ) (g : Dev Cert.FwdMixIdeal.nD → PrngReg), Pre_FwdMixIdeal m →
    θ_run (Cert.FwdMixIdeal.defs (F := Ideal)) (onTc (τ := Cert.FwdMixIdeal.τ) (Cert.FwdMixIdeal.main (F := Ideal))) ⟨m, fun _ => 0, g⟩ (fun r => (∀ c : Dev Cert.FwdMixIdeal.nD,
      r.2.mem ((c.tc : Thread Cert.FwdMixIdeal.nD Cert.FwdMixIdeal.τ).loc Cert.FwdMixIdeal.main_arg0) = m ((c.tc : Thread Cert.FwdMixIdeal.nD Cert.FwdMixIdeal.τ).loc Cert.FwdMixIdeal.main_arg0)
      ∧ r.2.mem ((c.tc : Thread Cert.FwdMixIdeal.nD Cert.FwdMixIdeal.τ).loc Cert.FwdMixIdeal.main_arg1) = m ((c.tc : Thread Cert.FwdMixIdeal.nD Cert.FwdMixIdeal.τ).loc Cert.FwdMixIdeal.main_arg1)
      ∧ r.2.mem ((c.tc : Thread Cert.FwdMixIdeal.nD Cert.FwdMixIdeal.τ).loc Cert.FwdMixIdeal.main_arg2) = m ((c.tc : Thread Cert.FwdMixIdeal.nD Cert.FwdMixIdeal.τ).loc Cert.FwdMixIdeal.main_arg2)
      ∧ r.2.mem ((c.tc : Thread Cert.FwdMixIdeal.nD Cert.FwdMixIdeal.τ).loc Cert.FwdMixIdeal.main_arg3) = m ((c.tc : Thread Cert.FwdMixIdeal.nD Cert.FwdMixIdeal.τ).loc Cert.FwdMixIdeal.main_arg3)
      ∧ r.2.mem ((c.tc : Thread Cert.FwdMixIdeal.nD Cert.FwdMixIdeal.τ).loc Cert.FwdMixIdeal.main_arg4) = m ((c.tc : Thread Cert.FwdMixIdeal.nD Cert.FwdMixIdeal.τ).loc Cert.FwdMixIdeal.main_arg4)
      ∧ r.2.mem ((c.tc : Thread Cert.FwdMixIdeal.nD Cert.FwdMixIdeal.τ).loc Cert.FwdMixIdeal.main_arg5) = m ((c.tc : Thread Cert.FwdMixIdeal.nD Cert.FwdMixIdeal.τ).loc Cert.FwdMixIdeal.main_arg5)
      ∧ r.2.mem ((c.tc : Thread Cert.FwdMixIdeal.nD Cert.FwdMixIdeal.τ).loc Cert.FwdMixIdeal.main_arg6) = m ((c.tc : Thread Cert.FwdMixIdeal.nD Cert.FwdMixIdeal.τ).loc Cert.FwdMixIdeal.main_arg6)
      ∧ r.2.mem ((c.tc : Thread Cert.FwdMixIdeal.nD Cert.FwdMixIdeal.τ).loc Cert.FwdMixIdeal.main_arg7) = m ((c.tc : Thread Cert.FwdMixIdeal.nD Cert.FwdMixIdeal.τ).loc Cert.FwdMixIdeal.main_arg7)
      ∧ r.2.mem ((c.tc : Thread Cert.FwdMixIdeal.nD Cert.FwdMixIdeal.τ).loc Cert.FwdMixIdeal.main_arg8) = m ((c.tc : Thread Cert.FwdMixIdeal.nD Cert.FwdMixIdeal.τ).loc Cert.FwdMixIdeal.main_arg8))
      ∧ r.2.sem = fun _ => 0)

def quiescent_FwdMixRefIdeal [hFwdMixRefIdeal : Cert.FwdMixRefIdeal.Facts] : Prop :=
  ∀ (m : (ℓ : Loc Cert.FwdMixRefIdeal.nD Cert.FwdMixRefIdeal.τ Cert.FwdMixRefIdeal.sig) → Buf (Elt Ideal) ℓ) (g : Dev Cert.FwdMixRefIdeal.nD → PrngReg), Pre_FwdMixRefIdeal m →
    θ_run (Cert.FwdMixRefIdeal.defs (F := Ideal)) (onTc (τ := Cert.FwdMixRefIdeal.τ) (Cert.FwdMixRefIdeal.main (F := Ideal))) ⟨m, fun _ => 0, g⟩ (fun r => (∀ c : Dev Cert.FwdMixRefIdeal.nD,
      r.2.mem ((c.tc : Thread Cert.FwdMixRefIdeal.nD Cert.FwdMixRefIdeal.τ).loc Cert.FwdMixRefIdeal.main_arg0) = m ((c.tc : Thread Cert.FwdMixRefIdeal.nD Cert.FwdMixRefIdeal.τ).loc Cert.FwdMixRefIdeal.main_arg0)
      ∧ r.2.mem ((c.tc : Thread Cert.FwdMixRefIdeal.nD Cert.FwdMixRefIdeal.τ).loc Cert.FwdMixRefIdeal.main_arg1) = m ((c.tc : Thread Cert.FwdMixRefIdeal.nD Cert.FwdMixRefIdeal.τ).loc Cert.FwdMixRefIdeal.main_arg1)
      ∧ r.2.mem ((c.tc : Thread Cert.FwdMixRefIdeal.nD Cert.FwdMixRefIdeal.τ).loc Cert.FwdMixRefIdeal.main_arg2) = m ((c.tc : Thread Cert.FwdMixRefIdeal.nD Cert.FwdMixRefIdeal.τ).loc Cert.FwdMixRefIdeal.main_arg2)
      ∧ r.2.mem ((c.tc : Thread Cert.FwdMixRefIdeal.nD Cert.FwdMixRefIdeal.τ).loc Cert.FwdMixRefIdeal.main_arg3) = m ((c.tc : Thread Cert.FwdMixRefIdeal.nD Cert.FwdMixRefIdeal.τ).loc Cert.FwdMixRefIdeal.main_arg3)
      ∧ r.2.mem ((c.tc : Thread Cert.FwdMixRefIdeal.nD Cert.FwdMixRefIdeal.τ).loc Cert.FwdMixRefIdeal.main_arg4) = m ((c.tc : Thread Cert.FwdMixRefIdeal.nD Cert.FwdMixRefIdeal.τ).loc Cert.FwdMixRefIdeal.main_arg4)
      ∧ r.2.mem ((c.tc : Thread Cert.FwdMixRefIdeal.nD Cert.FwdMixRefIdeal.τ).loc Cert.FwdMixRefIdeal.main_arg5) = m ((c.tc : Thread Cert.FwdMixRefIdeal.nD Cert.FwdMixRefIdeal.τ).loc Cert.FwdMixRefIdeal.main_arg5)
      ∧ r.2.mem ((c.tc : Thread Cert.FwdMixRefIdeal.nD Cert.FwdMixRefIdeal.τ).loc Cert.FwdMixRefIdeal.main_arg6) = m ((c.tc : Thread Cert.FwdMixRefIdeal.nD Cert.FwdMixRefIdeal.τ).loc Cert.FwdMixRefIdeal.main_arg6)
      ∧ r.2.mem ((c.tc : Thread Cert.FwdMixRefIdeal.nD Cert.FwdMixRefIdeal.τ).loc Cert.FwdMixRefIdeal.main_arg7) = m ((c.tc : Thread Cert.FwdMixRefIdeal.nD Cert.FwdMixRefIdeal.τ).loc Cert.FwdMixRefIdeal.main_arg7)
      ∧ r.2.mem ((c.tc : Thread Cert.FwdMixRefIdeal.nD Cert.FwdMixRefIdeal.τ).loc Cert.FwdMixRefIdeal.main_arg8) = m ((c.tc : Thread Cert.FwdMixRefIdeal.nD Cert.FwdMixRefIdeal.τ).loc Cert.FwdMixRefIdeal.main_arg8))
      ∧ r.2.sem = fun _ => 0)

def quiescent_FwdProj [hFwdProj : Cert.FwdProj.Facts] : Prop :=
  ∀ (m : (ℓ : Loc Cert.FwdProj.nD Cert.FwdProj.τ Cert.FwdProj.sig) → Buf (Elt Bits) ℓ) (g : Dev Cert.FwdProj.nD → PrngReg), Pre_FwdProj m →
    θ_run (Cert.FwdProj.defs (F := Bits)) (onTc (τ := Cert.FwdProj.τ) (Cert.FwdProj.main (F := Bits))) ⟨m, fun _ => 0, g⟩ (fun r => (∀ c : Dev Cert.FwdProj.nD,
      r.2.mem ((c.tc : Thread Cert.FwdProj.nD Cert.FwdProj.τ).loc Cert.FwdProj.main_arg0) = m ((c.tc : Thread Cert.FwdProj.nD Cert.FwdProj.τ).loc Cert.FwdProj.main_arg0)
      ∧ r.2.mem ((c.tc : Thread Cert.FwdProj.nD Cert.FwdProj.τ).loc Cert.FwdProj.main_arg1) = m ((c.tc : Thread Cert.FwdProj.nD Cert.FwdProj.τ).loc Cert.FwdProj.main_arg1)
      ∧ r.2.mem ((c.tc : Thread Cert.FwdProj.nD Cert.FwdProj.τ).loc Cert.FwdProj.main_arg2) = m ((c.tc : Thread Cert.FwdProj.nD Cert.FwdProj.τ).loc Cert.FwdProj.main_arg2)
      ∧ r.2.mem ((c.tc : Thread Cert.FwdProj.nD Cert.FwdProj.τ).loc Cert.FwdProj.main_arg3) = m ((c.tc : Thread Cert.FwdProj.nD Cert.FwdProj.τ).loc Cert.FwdProj.main_arg3)
      ∧ r.2.mem ((c.tc : Thread Cert.FwdProj.nD Cert.FwdProj.τ).loc Cert.FwdProj.main_arg4) = m ((c.tc : Thread Cert.FwdProj.nD Cert.FwdProj.τ).loc Cert.FwdProj.main_arg4))
      ∧ r.2.sem = fun _ => 0)

def quiescent_FwdProjIdeal [hFwdProjIdeal : Cert.FwdProjIdeal.Facts] : Prop :=
  ∀ (m : (ℓ : Loc Cert.FwdProjIdeal.nD Cert.FwdProjIdeal.τ Cert.FwdProjIdeal.sig) → Buf (Elt Ideal) ℓ) (g : Dev Cert.FwdProjIdeal.nD → PrngReg), Pre_FwdProjIdeal m →
    θ_run (Cert.FwdProjIdeal.defs (F := Ideal)) (onTc (τ := Cert.FwdProjIdeal.τ) (Cert.FwdProjIdeal.main (F := Ideal))) ⟨m, fun _ => 0, g⟩ (fun r => (∀ c : Dev Cert.FwdProjIdeal.nD,
      r.2.mem ((c.tc : Thread Cert.FwdProjIdeal.nD Cert.FwdProjIdeal.τ).loc Cert.FwdProjIdeal.main_arg0) = m ((c.tc : Thread Cert.FwdProjIdeal.nD Cert.FwdProjIdeal.τ).loc Cert.FwdProjIdeal.main_arg0)
      ∧ r.2.mem ((c.tc : Thread Cert.FwdProjIdeal.nD Cert.FwdProjIdeal.τ).loc Cert.FwdProjIdeal.main_arg1) = m ((c.tc : Thread Cert.FwdProjIdeal.nD Cert.FwdProjIdeal.τ).loc Cert.FwdProjIdeal.main_arg1)
      ∧ r.2.mem ((c.tc : Thread Cert.FwdProjIdeal.nD Cert.FwdProjIdeal.τ).loc Cert.FwdProjIdeal.main_arg2) = m ((c.tc : Thread Cert.FwdProjIdeal.nD Cert.FwdProjIdeal.τ).loc Cert.FwdProjIdeal.main_arg2)
      ∧ r.2.mem ((c.tc : Thread Cert.FwdProjIdeal.nD Cert.FwdProjIdeal.τ).loc Cert.FwdProjIdeal.main_arg3) = m ((c.tc : Thread Cert.FwdProjIdeal.nD Cert.FwdProjIdeal.τ).loc Cert.FwdProjIdeal.main_arg3)
      ∧ r.2.mem ((c.tc : Thread Cert.FwdProjIdeal.nD Cert.FwdProjIdeal.τ).loc Cert.FwdProjIdeal.main_arg4) = m ((c.tc : Thread Cert.FwdProjIdeal.nD Cert.FwdProjIdeal.τ).loc Cert.FwdProjIdeal.main_arg4))
      ∧ r.2.sem = fun _ => 0)

def quiescent_FwdProjIdeal_pre_proj_finite [hFwdProjIdeal : Cert.FwdProjIdeal.Facts] [hPre_proj_finite : Cert.Pre_proj_finite.Facts] : Prop :=
  ∀ (m : (ℓ : Loc Cert.FwdProjIdeal.nD Cert.FwdProjIdeal.τ Cert.FwdProjIdeal.sig) → Buf (Elt Ideal) ℓ) (g : Dev Cert.FwdProjIdeal.nD → PrngReg), Pre_FwdProjIdeal_proj_finite m →
    θ_run (Cert.FwdProjIdeal.defs (F := Ideal)) (onTc (τ := Cert.FwdProjIdeal.τ) (Cert.FwdProjIdeal.main (F := Ideal))) ⟨m, fun _ => 0, g⟩ (fun r => (∀ c : Dev Cert.FwdProjIdeal.nD,
      r.2.mem ((c.tc : Thread Cert.FwdProjIdeal.nD Cert.FwdProjIdeal.τ).loc Cert.FwdProjIdeal.main_arg0) = m ((c.tc : Thread Cert.FwdProjIdeal.nD Cert.FwdProjIdeal.τ).loc Cert.FwdProjIdeal.main_arg0)
      ∧ r.2.mem ((c.tc : Thread Cert.FwdProjIdeal.nD Cert.FwdProjIdeal.τ).loc Cert.FwdProjIdeal.main_arg1) = m ((c.tc : Thread Cert.FwdProjIdeal.nD Cert.FwdProjIdeal.τ).loc Cert.FwdProjIdeal.main_arg1)
      ∧ r.2.mem ((c.tc : Thread Cert.FwdProjIdeal.nD Cert.FwdProjIdeal.τ).loc Cert.FwdProjIdeal.main_arg2) = m ((c.tc : Thread Cert.FwdProjIdeal.nD Cert.FwdProjIdeal.τ).loc Cert.FwdProjIdeal.main_arg2)
      ∧ r.2.mem ((c.tc : Thread Cert.FwdProjIdeal.nD Cert.FwdProjIdeal.τ).loc Cert.FwdProjIdeal.main_arg3) = m ((c.tc : Thread Cert.FwdProjIdeal.nD Cert.FwdProjIdeal.τ).loc Cert.FwdProjIdeal.main_arg3)
      ∧ r.2.mem ((c.tc : Thread Cert.FwdProjIdeal.nD Cert.FwdProjIdeal.τ).loc Cert.FwdProjIdeal.main_arg4) = m ((c.tc : Thread Cert.FwdProjIdeal.nD Cert.FwdProjIdeal.τ).loc Cert.FwdProjIdeal.main_arg4))
      ∧ r.2.sem = fun _ => 0)

def quiescent_FwdProjRefIdeal [hFwdProjRefIdeal : Cert.FwdProjRefIdeal.Facts] : Prop :=
  ∀ (m : (ℓ : Loc Cert.FwdProjRefIdeal.nD Cert.FwdProjRefIdeal.τ Cert.FwdProjRefIdeal.sig) → Buf (Elt Ideal) ℓ) (g : Dev Cert.FwdProjRefIdeal.nD → PrngReg), Pre_FwdProjRefIdeal m →
    θ_run (Cert.FwdProjRefIdeal.defs (F := Ideal)) (onTc (τ := Cert.FwdProjRefIdeal.τ) (Cert.FwdProjRefIdeal.main (F := Ideal))) ⟨m, fun _ => 0, g⟩ (fun r => (∀ c : Dev Cert.FwdProjRefIdeal.nD,
      r.2.mem ((c.tc : Thread Cert.FwdProjRefIdeal.nD Cert.FwdProjRefIdeal.τ).loc Cert.FwdProjRefIdeal.main_arg0) = m ((c.tc : Thread Cert.FwdProjRefIdeal.nD Cert.FwdProjRefIdeal.τ).loc Cert.FwdProjRefIdeal.main_arg0)
      ∧ r.2.mem ((c.tc : Thread Cert.FwdProjRefIdeal.nD Cert.FwdProjRefIdeal.τ).loc Cert.FwdProjRefIdeal.main_arg1) = m ((c.tc : Thread Cert.FwdProjRefIdeal.nD Cert.FwdProjRefIdeal.τ).loc Cert.FwdProjRefIdeal.main_arg1)
      ∧ r.2.mem ((c.tc : Thread Cert.FwdProjRefIdeal.nD Cert.FwdProjRefIdeal.τ).loc Cert.FwdProjRefIdeal.main_arg2) = m ((c.tc : Thread Cert.FwdProjRefIdeal.nD Cert.FwdProjRefIdeal.τ).loc Cert.FwdProjRefIdeal.main_arg2)
      ∧ r.2.mem ((c.tc : Thread Cert.FwdProjRefIdeal.nD Cert.FwdProjRefIdeal.τ).loc Cert.FwdProjRefIdeal.main_arg3) = m ((c.tc : Thread Cert.FwdProjRefIdeal.nD Cert.FwdProjRefIdeal.τ).loc Cert.FwdProjRefIdeal.main_arg3)
      ∧ r.2.mem ((c.tc : Thread Cert.FwdProjRefIdeal.nD Cert.FwdProjRefIdeal.τ).loc Cert.FwdProjRefIdeal.main_arg4) = m ((c.tc : Thread Cert.FwdProjRefIdeal.nD Cert.FwdProjRefIdeal.τ).loc Cert.FwdProjRefIdeal.main_arg4))
      ∧ r.2.sem = fun _ => 0)

def quiescent_FwdProjRefIdeal_pre_proj_finite [hFwdProjRefIdeal : Cert.FwdProjRefIdeal.Facts] [hPre_proj_finite : Cert.Pre_proj_finite.Facts] : Prop :=
  ∀ (m : (ℓ : Loc Cert.FwdProjRefIdeal.nD Cert.FwdProjRefIdeal.τ Cert.FwdProjRefIdeal.sig) → Buf (Elt Ideal) ℓ) (g : Dev Cert.FwdProjRefIdeal.nD → PrngReg), Pre_FwdProjRefIdeal_proj_finite m →
    θ_run (Cert.FwdProjRefIdeal.defs (F := Ideal)) (onTc (τ := Cert.FwdProjRefIdeal.τ) (Cert.FwdProjRefIdeal.main (F := Ideal))) ⟨m, fun _ => 0, g⟩ (fun r => (∀ c : Dev Cert.FwdProjRefIdeal.nD,
      r.2.mem ((c.tc : Thread Cert.FwdProjRefIdeal.nD Cert.FwdProjRefIdeal.τ).loc Cert.FwdProjRefIdeal.main_arg0) = m ((c.tc : Thread Cert.FwdProjRefIdeal.nD Cert.FwdProjRefIdeal.τ).loc Cert.FwdProjRefIdeal.main_arg0)
      ∧ r.2.mem ((c.tc : Thread Cert.FwdProjRefIdeal.nD Cert.FwdProjRefIdeal.τ).loc Cert.FwdProjRefIdeal.main_arg1) = m ((c.tc : Thread Cert.FwdProjRefIdeal.nD Cert.FwdProjRefIdeal.τ).loc Cert.FwdProjRefIdeal.main_arg1)
      ∧ r.2.mem ((c.tc : Thread Cert.FwdProjRefIdeal.nD Cert.FwdProjRefIdeal.τ).loc Cert.FwdProjRefIdeal.main_arg2) = m ((c.tc : Thread Cert.FwdProjRefIdeal.nD Cert.FwdProjRefIdeal.τ).loc Cert.FwdProjRefIdeal.main_arg2)
      ∧ r.2.mem ((c.tc : Thread Cert.FwdProjRefIdeal.nD Cert.FwdProjRefIdeal.τ).loc Cert.FwdProjRefIdeal.main_arg3) = m ((c.tc : Thread Cert.FwdProjRefIdeal.nD Cert.FwdProjRefIdeal.τ).loc Cert.FwdProjRefIdeal.main_arg3)
      ∧ r.2.mem ((c.tc : Thread Cert.FwdProjRefIdeal.nD Cert.FwdProjRefIdeal.τ).loc Cert.FwdProjRefIdeal.main_arg4) = m ((c.tc : Thread Cert.FwdProjRefIdeal.nD Cert.FwdProjRefIdeal.τ).loc Cert.FwdProjRefIdeal.main_arg4))
      ∧ r.2.sem = fun _ => 0)

def quiescent_UpdIn [hUpdIn : Cert.UpdIn.Facts] : Prop :=
  ∀ (m : (ℓ : Loc Cert.UpdIn.nD Cert.UpdIn.τ Cert.UpdIn.sig) → Buf (Elt Bits) ℓ) (g : Dev Cert.UpdIn.nD → PrngReg), Pre_UpdIn m →
    θ_run (Cert.UpdIn.defs (F := Bits)) (onTc (τ := Cert.UpdIn.τ) (Cert.UpdIn.main (F := Bits))) ⟨m, fun _ => 0, g⟩ (fun r => (∀ c : Dev Cert.UpdIn.nD,
      r.2.mem ((c.tc : Thread Cert.UpdIn.nD Cert.UpdIn.τ).loc Cert.UpdIn.main_arg0) = m ((c.tc : Thread Cert.UpdIn.nD Cert.UpdIn.τ).loc Cert.UpdIn.main_arg0)
      ∧ r.2.mem ((c.tc : Thread Cert.UpdIn.nD Cert.UpdIn.τ).loc Cert.UpdIn.main_arg1) = m ((c.tc : Thread Cert.UpdIn.nD Cert.UpdIn.τ).loc Cert.UpdIn.main_arg1)
      ∧ r.2.mem ((c.tc : Thread Cert.UpdIn.nD Cert.UpdIn.τ).loc Cert.UpdIn.main_arg2) = m ((c.tc : Thread Cert.UpdIn.nD Cert.UpdIn.τ).loc Cert.UpdIn.main_arg2)
      ∧ r.2.mem ((c.tc : Thread Cert.UpdIn.nD Cert.UpdIn.τ).loc Cert.UpdIn.main_arg3) = m ((c.tc : Thread Cert.UpdIn.nD Cert.UpdIn.τ).loc Cert.UpdIn.main_arg3))
      ∧ r.2.sem = fun _ => 0)

def quiescent_UpdInIdeal [hUpdInIdeal : Cert.UpdInIdeal.Facts] : Prop :=
  ∀ (m : (ℓ : Loc Cert.UpdInIdeal.nD Cert.UpdInIdeal.τ Cert.UpdInIdeal.sig) → Buf (Elt Ideal) ℓ) (g : Dev Cert.UpdInIdeal.nD → PrngReg), Pre_UpdInIdeal m →
    θ_run (Cert.UpdInIdeal.defs (F := Ideal)) (onTc (τ := Cert.UpdInIdeal.τ) (Cert.UpdInIdeal.main (F := Ideal))) ⟨m, fun _ => 0, g⟩ (fun r => (∀ c : Dev Cert.UpdInIdeal.nD,
      r.2.mem ((c.tc : Thread Cert.UpdInIdeal.nD Cert.UpdInIdeal.τ).loc Cert.UpdInIdeal.main_arg0) = m ((c.tc : Thread Cert.UpdInIdeal.nD Cert.UpdInIdeal.τ).loc Cert.UpdInIdeal.main_arg0)
      ∧ r.2.mem ((c.tc : Thread Cert.UpdInIdeal.nD Cert.UpdInIdeal.τ).loc Cert.UpdInIdeal.main_arg1) = m ((c.tc : Thread Cert.UpdInIdeal.nD Cert.UpdInIdeal.τ).loc Cert.UpdInIdeal.main_arg1)
      ∧ r.2.mem ((c.tc : Thread Cert.UpdInIdeal.nD Cert.UpdInIdeal.τ).loc Cert.UpdInIdeal.main_arg2) = m ((c.tc : Thread Cert.UpdInIdeal.nD Cert.UpdInIdeal.τ).loc Cert.UpdInIdeal.main_arg2)
      ∧ r.2.mem ((c.tc : Thread Cert.UpdInIdeal.nD Cert.UpdInIdeal.τ).loc Cert.UpdInIdeal.main_arg3) = m ((c.tc : Thread Cert.UpdInIdeal.nD Cert.UpdInIdeal.τ).loc Cert.UpdInIdeal.main_arg3))
      ∧ r.2.sem = fun _ => 0)

def quiescent_UpdInRefIdeal [hUpdInRefIdeal : Cert.UpdInRefIdeal.Facts] : Prop :=
  ∀ (m : (ℓ : Loc Cert.UpdInRefIdeal.nD Cert.UpdInRefIdeal.τ Cert.UpdInRefIdeal.sig) → Buf (Elt Ideal) ℓ) (g : Dev Cert.UpdInRefIdeal.nD → PrngReg), Pre_UpdInRefIdeal m →
    θ_run (Cert.UpdInRefIdeal.defs (F := Ideal)) (onTc (τ := Cert.UpdInRefIdeal.τ) (Cert.UpdInRefIdeal.main (F := Ideal))) ⟨m, fun _ => 0, g⟩ (fun r => (∀ c : Dev Cert.UpdInRefIdeal.nD,
      r.2.mem ((c.tc : Thread Cert.UpdInRefIdeal.nD Cert.UpdInRefIdeal.τ).loc Cert.UpdInRefIdeal.main_arg0) = m ((c.tc : Thread Cert.UpdInRefIdeal.nD Cert.UpdInRefIdeal.τ).loc Cert.UpdInRefIdeal.main_arg0)
      ∧ r.2.mem ((c.tc : Thread Cert.UpdInRefIdeal.nD Cert.UpdInRefIdeal.τ).loc Cert.UpdInRefIdeal.main_arg1) = m ((c.tc : Thread Cert.UpdInRefIdeal.nD Cert.UpdInRefIdeal.τ).loc Cert.UpdInRefIdeal.main_arg1)
      ∧ r.2.mem ((c.tc : Thread Cert.UpdInRefIdeal.nD Cert.UpdInRefIdeal.τ).loc Cert.UpdInRefIdeal.main_arg2) = m ((c.tc : Thread Cert.UpdInRefIdeal.nD Cert.UpdInRefIdeal.τ).loc Cert.UpdInRefIdeal.main_arg2)
      ∧ r.2.mem ((c.tc : Thread Cert.UpdInRefIdeal.nD Cert.UpdInRefIdeal.τ).loc Cert.UpdInRefIdeal.main_arg3) = m ((c.tc : Thread Cert.UpdInRefIdeal.nD Cert.UpdInRefIdeal.τ).loc Cert.UpdInRefIdeal.main_arg3))
      ∧ r.2.sem = fun _ => 0)

def quiescent_UpdGlu [hUpdGlu : Cert.UpdGlu.Facts] : Prop :=
  ∀ (m : (ℓ : Loc Cert.UpdGlu.nD Cert.UpdGlu.τ Cert.UpdGlu.sig) → Buf (Elt Bits) ℓ) (g : Dev Cert.UpdGlu.nD → PrngReg), Pre_UpdGlu m →
    θ_run (Cert.UpdGlu.defs (F := Bits)) (onTc (τ := Cert.UpdGlu.τ) (Cert.UpdGlu.main (F := Bits))) ⟨m, fun _ => 0, g⟩ (fun r => (∀ c : Dev Cert.UpdGlu.nD,
      r.2.mem ((c.tc : Thread Cert.UpdGlu.nD Cert.UpdGlu.τ).loc Cert.UpdGlu.main_arg0) = m ((c.tc : Thread Cert.UpdGlu.nD Cert.UpdGlu.τ).loc Cert.UpdGlu.main_arg0)
      ∧ r.2.mem ((c.tc : Thread Cert.UpdGlu.nD Cert.UpdGlu.τ).loc Cert.UpdGlu.main_arg1) = m ((c.tc : Thread Cert.UpdGlu.nD Cert.UpdGlu.τ).loc Cert.UpdGlu.main_arg1)
      ∧ r.2.mem ((c.tc : Thread Cert.UpdGlu.nD Cert.UpdGlu.τ).loc Cert.UpdGlu.main_arg2) = m ((c.tc : Thread Cert.UpdGlu.nD Cert.UpdGlu.τ).loc Cert.UpdGlu.main_arg2)
      ∧ r.2.mem ((c.tc : Thread Cert.UpdGlu.nD Cert.UpdGlu.τ).loc Cert.UpdGlu.main_arg3) = m ((c.tc : Thread Cert.UpdGlu.nD Cert.UpdGlu.τ).loc Cert.UpdGlu.main_arg3))
      ∧ r.2.sem = fun _ => 0)

def quiescent_UpdGluIdeal [hUpdGluIdeal : Cert.UpdGluIdeal.Facts] : Prop :=
  ∀ (m : (ℓ : Loc Cert.UpdGluIdeal.nD Cert.UpdGluIdeal.τ Cert.UpdGluIdeal.sig) → Buf (Elt Ideal) ℓ) (g : Dev Cert.UpdGluIdeal.nD → PrngReg), Pre_UpdGluIdeal m →
    θ_run (Cert.UpdGluIdeal.defs (F := Ideal)) (onTc (τ := Cert.UpdGluIdeal.τ) (Cert.UpdGluIdeal.main (F := Ideal))) ⟨m, fun _ => 0, g⟩ (fun r => (∀ c : Dev Cert.UpdGluIdeal.nD,
      r.2.mem ((c.tc : Thread Cert.UpdGluIdeal.nD Cert.UpdGluIdeal.τ).loc Cert.UpdGluIdeal.main_arg0) = m ((c.tc : Thread Cert.UpdGluIdeal.nD Cert.UpdGluIdeal.τ).loc Cert.UpdGluIdeal.main_arg0)
      ∧ r.2.mem ((c.tc : Thread Cert.UpdGluIdeal.nD Cert.UpdGluIdeal.τ).loc Cert.UpdGluIdeal.main_arg1) = m ((c.tc : Thread Cert.UpdGluIdeal.nD Cert.UpdGluIdeal.τ).loc Cert.UpdGluIdeal.main_arg1)
      ∧ r.2.mem ((c.tc : Thread Cert.UpdGluIdeal.nD Cert.UpdGluIdeal.τ).loc Cert.UpdGluIdeal.main_arg2) = m ((c.tc : Thread Cert.UpdGluIdeal.nD Cert.UpdGluIdeal.τ).loc Cert.UpdGluIdeal.main_arg2)
      ∧ r.2.mem ((c.tc : Thread Cert.UpdGluIdeal.nD Cert.UpdGluIdeal.τ).loc Cert.UpdGluIdeal.main_arg3) = m ((c.tc : Thread Cert.UpdGluIdeal.nD Cert.UpdGluIdeal.τ).loc Cert.UpdGluIdeal.main_arg3))
      ∧ r.2.sem = fun _ => 0)

def quiescent_UpdGluRefIdeal [hUpdGluRefIdeal : Cert.UpdGluRefIdeal.Facts] : Prop :=
  ∀ (m : (ℓ : Loc Cert.UpdGluRefIdeal.nD Cert.UpdGluRefIdeal.τ Cert.UpdGluRefIdeal.sig) → Buf (Elt Ideal) ℓ) (g : Dev Cert.UpdGluRefIdeal.nD → PrngReg), Pre_UpdGluRefIdeal m →
    θ_run (Cert.UpdGluRefIdeal.defs (F := Ideal)) (onTc (τ := Cert.UpdGluRefIdeal.τ) (Cert.UpdGluRefIdeal.main (F := Ideal))) ⟨m, fun _ => 0, g⟩ (fun r => (∀ c : Dev Cert.UpdGluRefIdeal.nD,
      r.2.mem ((c.tc : Thread Cert.UpdGluRefIdeal.nD Cert.UpdGluRefIdeal.τ).loc Cert.UpdGluRefIdeal.main_arg0) = m ((c.tc : Thread Cert.UpdGluRefIdeal.nD Cert.UpdGluRefIdeal.τ).loc Cert.UpdGluRefIdeal.main_arg0)
      ∧ r.2.mem ((c.tc : Thread Cert.UpdGluRefIdeal.nD Cert.UpdGluRefIdeal.τ).loc Cert.UpdGluRefIdeal.main_arg1) = m ((c.tc : Thread Cert.UpdGluRefIdeal.nD Cert.UpdGluRefIdeal.τ).loc Cert.UpdGluRefIdeal.main_arg1)
      ∧ r.2.mem ((c.tc : Thread Cert.UpdGluRefIdeal.nD Cert.UpdGluRefIdeal.τ).loc Cert.UpdGluRefIdeal.main_arg2) = m ((c.tc : Thread Cert.UpdGluRefIdeal.nD Cert.UpdGluRefIdeal.τ).loc Cert.UpdGluRefIdeal.main_arg2)
      ∧ r.2.mem ((c.tc : Thread Cert.UpdGluRefIdeal.nD Cert.UpdGluRefIdeal.τ).loc Cert.UpdGluRefIdeal.main_arg3) = m ((c.tc : Thread Cert.UpdGluRefIdeal.nD Cert.UpdGluRefIdeal.τ).loc Cert.UpdGluRefIdeal.main_arg3))
      ∧ r.2.sem = fun _ => 0)

def quiescent_UpdOut [hUpdOut : Cert.UpdOut.Facts] : Prop :=
  ∀ (m : (ℓ : Loc Cert.UpdOut.nD Cert.UpdOut.τ Cert.UpdOut.sig) → Buf (Elt Bits) ℓ) (g : Dev Cert.UpdOut.nD → PrngReg), Pre_UpdOut m →
    θ_run (Cert.UpdOut.defs (F := Bits)) (onTc (τ := Cert.UpdOut.τ) (Cert.UpdOut.main (F := Bits))) ⟨m, fun _ => 0, g⟩ (fun r => (∀ c : Dev Cert.UpdOut.nD,
      r.2.mem ((c.tc : Thread Cert.UpdOut.nD Cert.UpdOut.τ).loc Cert.UpdOut.main_arg0) = m ((c.tc : Thread Cert.UpdOut.nD Cert.UpdOut.τ).loc Cert.UpdOut.main_arg0)
      ∧ r.2.mem ((c.tc : Thread Cert.UpdOut.nD Cert.UpdOut.τ).loc Cert.UpdOut.main_arg1) = m ((c.tc : Thread Cert.UpdOut.nD Cert.UpdOut.τ).loc Cert.UpdOut.main_arg1)
      ∧ r.2.mem ((c.tc : Thread Cert.UpdOut.nD Cert.UpdOut.τ).loc Cert.UpdOut.main_arg2) = m ((c.tc : Thread Cert.UpdOut.nD Cert.UpdOut.τ).loc Cert.UpdOut.main_arg2)
      ∧ r.2.mem ((c.tc : Thread Cert.UpdOut.nD Cert.UpdOut.τ).loc Cert.UpdOut.main_arg3) = m ((c.tc : Thread Cert.UpdOut.nD Cert.UpdOut.τ).loc Cert.UpdOut.main_arg3))
      ∧ r.2.sem = fun _ => 0)

def quiescent_UpdOutIdeal [hUpdOutIdeal : Cert.UpdOutIdeal.Facts] : Prop :=
  ∀ (m : (ℓ : Loc Cert.UpdOutIdeal.nD Cert.UpdOutIdeal.τ Cert.UpdOutIdeal.sig) → Buf (Elt Ideal) ℓ) (g : Dev Cert.UpdOutIdeal.nD → PrngReg), Pre_UpdOutIdeal m →
    θ_run (Cert.UpdOutIdeal.defs (F := Ideal)) (onTc (τ := Cert.UpdOutIdeal.τ) (Cert.UpdOutIdeal.main (F := Ideal))) ⟨m, fun _ => 0, g⟩ (fun r => (∀ c : Dev Cert.UpdOutIdeal.nD,
      r.2.mem ((c.tc : Thread Cert.UpdOutIdeal.nD Cert.UpdOutIdeal.τ).loc Cert.UpdOutIdeal.main_arg0) = m ((c.tc : Thread Cert.UpdOutIdeal.nD Cert.UpdOutIdeal.τ).loc Cert.UpdOutIdeal.main_arg0)
      ∧ r.2.mem ((c.tc : Thread Cert.UpdOutIdeal.nD Cert.UpdOutIdeal.τ).loc Cert.UpdOutIdeal.main_arg1) = m ((c.tc : Thread Cert.UpdOutIdeal.nD Cert.UpdOutIdeal.τ).loc Cert.UpdOutIdeal.main_arg1)
      ∧ r.2.mem ((c.tc : Thread Cert.UpdOutIdeal.nD Cert.UpdOutIdeal.τ).loc Cert.UpdOutIdeal.main_arg2) = m ((c.tc : Thread Cert.UpdOutIdeal.nD Cert.UpdOutIdeal.τ).loc Cert.UpdOutIdeal.main_arg2)
      ∧ r.2.mem ((c.tc : Thread Cert.UpdOutIdeal.nD Cert.UpdOutIdeal.τ).loc Cert.UpdOutIdeal.main_arg3) = m ((c.tc : Thread Cert.UpdOutIdeal.nD Cert.UpdOutIdeal.τ).loc Cert.UpdOutIdeal.main_arg3))
      ∧ r.2.sem = fun _ => 0)

def quiescent_UpdOutRefIdeal [hUpdOutRefIdeal : Cert.UpdOutRefIdeal.Facts] : Prop :=
  ∀ (m : (ℓ : Loc Cert.UpdOutRefIdeal.nD Cert.UpdOutRefIdeal.τ Cert.UpdOutRefIdeal.sig) → Buf (Elt Ideal) ℓ) (g : Dev Cert.UpdOutRefIdeal.nD → PrngReg), Pre_UpdOutRefIdeal m →
    θ_run (Cert.UpdOutRefIdeal.defs (F := Ideal)) (onTc (τ := Cert.UpdOutRefIdeal.τ) (Cert.UpdOutRefIdeal.main (F := Ideal))) ⟨m, fun _ => 0, g⟩ (fun r => (∀ c : Dev Cert.UpdOutRefIdeal.nD,
      r.2.mem ((c.tc : Thread Cert.UpdOutRefIdeal.nD Cert.UpdOutRefIdeal.τ).loc Cert.UpdOutRefIdeal.main_arg0) = m ((c.tc : Thread Cert.UpdOutRefIdeal.nD Cert.UpdOutRefIdeal.τ).loc Cert.UpdOutRefIdeal.main_arg0)
      ∧ r.2.mem ((c.tc : Thread Cert.UpdOutRefIdeal.nD Cert.UpdOutRefIdeal.τ).loc Cert.UpdOutRefIdeal.main_arg1) = m ((c.tc : Thread Cert.UpdOutRefIdeal.nD Cert.UpdOutRefIdeal.τ).loc Cert.UpdOutRefIdeal.main_arg1)
      ∧ r.2.mem ((c.tc : Thread Cert.UpdOutRefIdeal.nD Cert.UpdOutRefIdeal.τ).loc Cert.UpdOutRefIdeal.main_arg2) = m ((c.tc : Thread Cert.UpdOutRefIdeal.nD Cert.UpdOutRefIdeal.τ).loc Cert.UpdOutRefIdeal.main_arg2)
      ∧ r.2.mem ((c.tc : Thread Cert.UpdOutRefIdeal.nD Cert.UpdOutRefIdeal.τ).loc Cert.UpdOutRefIdeal.main_arg3) = m ((c.tc : Thread Cert.UpdOutRefIdeal.nD Cert.UpdOutRefIdeal.τ).loc Cert.UpdOutRefIdeal.main_arg3))
      ∧ r.2.sem = fun _ => 0)

def quiescent_UpdUp [hUpdUp : Cert.UpdUp.Facts] : Prop :=
  ∀ (m : (ℓ : Loc Cert.UpdUp.nD Cert.UpdUp.τ Cert.UpdUp.sig) → Buf (Elt Bits) ℓ) (g : Dev Cert.UpdUp.nD → PrngReg), Pre_UpdUp m →
    θ_run (Cert.UpdUp.defs (F := Bits)) (onTc (τ := Cert.UpdUp.τ) (Cert.UpdUp.main (F := Bits))) ⟨m, fun _ => 0, g⟩ (fun r => (∀ c : Dev Cert.UpdUp.nD,
      r.2.mem ((c.tc : Thread Cert.UpdUp.nD Cert.UpdUp.τ).loc Cert.UpdUp.main_arg0) = m ((c.tc : Thread Cert.UpdUp.nD Cert.UpdUp.τ).loc Cert.UpdUp.main_arg0)
      ∧ r.2.mem ((c.tc : Thread Cert.UpdUp.nD Cert.UpdUp.τ).loc Cert.UpdUp.main_arg1) = m ((c.tc : Thread Cert.UpdUp.nD Cert.UpdUp.τ).loc Cert.UpdUp.main_arg1)
      ∧ r.2.mem ((c.tc : Thread Cert.UpdUp.nD Cert.UpdUp.τ).loc Cert.UpdUp.main_arg2) = m ((c.tc : Thread Cert.UpdUp.nD Cert.UpdUp.τ).loc Cert.UpdUp.main_arg2)
      ∧ r.2.mem ((c.tc : Thread Cert.UpdUp.nD Cert.UpdUp.τ).loc Cert.UpdUp.main_arg3) = m ((c.tc : Thread Cert.UpdUp.nD Cert.UpdUp.τ).loc Cert.UpdUp.main_arg3))
      ∧ r.2.sem = fun _ => 0)

def quiescent_UpdUpIdeal [hUpdUpIdeal : Cert.UpdUpIdeal.Facts] : Prop :=
  ∀ (m : (ℓ : Loc Cert.UpdUpIdeal.nD Cert.UpdUpIdeal.τ Cert.UpdUpIdeal.sig) → Buf (Elt Ideal) ℓ) (g : Dev Cert.UpdUpIdeal.nD → PrngReg), Pre_UpdUpIdeal m →
    θ_run (Cert.UpdUpIdeal.defs (F := Ideal)) (onTc (τ := Cert.UpdUpIdeal.τ) (Cert.UpdUpIdeal.main (F := Ideal))) ⟨m, fun _ => 0, g⟩ (fun r => (∀ c : Dev Cert.UpdUpIdeal.nD,
      r.2.mem ((c.tc : Thread Cert.UpdUpIdeal.nD Cert.UpdUpIdeal.τ).loc Cert.UpdUpIdeal.main_arg0) = m ((c.tc : Thread Cert.UpdUpIdeal.nD Cert.UpdUpIdeal.τ).loc Cert.UpdUpIdeal.main_arg0)
      ∧ r.2.mem ((c.tc : Thread Cert.UpdUpIdeal.nD Cert.UpdUpIdeal.τ).loc Cert.UpdUpIdeal.main_arg1) = m ((c.tc : Thread Cert.UpdUpIdeal.nD Cert.UpdUpIdeal.τ).loc Cert.UpdUpIdeal.main_arg1)
      ∧ r.2.mem ((c.tc : Thread Cert.UpdUpIdeal.nD Cert.UpdUpIdeal.τ).loc Cert.UpdUpIdeal.main_arg2) = m ((c.tc : Thread Cert.UpdUpIdeal.nD Cert.UpdUpIdeal.τ).loc Cert.UpdUpIdeal.main_arg2)
      ∧ r.2.mem ((c.tc : Thread Cert.UpdUpIdeal.nD Cert.UpdUpIdeal.τ).loc Cert.UpdUpIdeal.main_arg3) = m ((c.tc : Thread Cert.UpdUpIdeal.nD Cert.UpdUpIdeal.τ).loc Cert.UpdUpIdeal.main_arg3))
      ∧ r.2.sem = fun _ => 0)

def quiescent_UpdUpRefIdeal [hUpdUpRefIdeal : Cert.UpdUpRefIdeal.Facts] : Prop :=
  ∀ (m : (ℓ : Loc Cert.UpdUpRefIdeal.nD Cert.UpdUpRefIdeal.τ Cert.UpdUpRefIdeal.sig) → Buf (Elt Ideal) ℓ) (g : Dev Cert.UpdUpRefIdeal.nD → PrngReg), Pre_UpdUpRefIdeal m →
    θ_run (Cert.UpdUpRefIdeal.defs (F := Ideal)) (onTc (τ := Cert.UpdUpRefIdeal.τ) (Cert.UpdUpRefIdeal.main (F := Ideal))) ⟨m, fun _ => 0, g⟩ (fun r => (∀ c : Dev Cert.UpdUpRefIdeal.nD,
      r.2.mem ((c.tc : Thread Cert.UpdUpRefIdeal.nD Cert.UpdUpRefIdeal.τ).loc Cert.UpdUpRefIdeal.main_arg0) = m ((c.tc : Thread Cert.UpdUpRefIdeal.nD Cert.UpdUpRefIdeal.τ).loc Cert.UpdUpRefIdeal.main_arg0)
      ∧ r.2.mem ((c.tc : Thread Cert.UpdUpRefIdeal.nD Cert.UpdUpRefIdeal.τ).loc Cert.UpdUpRefIdeal.main_arg1) = m ((c.tc : Thread Cert.UpdUpRefIdeal.nD Cert.UpdUpRefIdeal.τ).loc Cert.UpdUpRefIdeal.main_arg1)
      ∧ r.2.mem ((c.tc : Thread Cert.UpdUpRefIdeal.nD Cert.UpdUpRefIdeal.τ).loc Cert.UpdUpRefIdeal.main_arg2) = m ((c.tc : Thread Cert.UpdUpRefIdeal.nD Cert.UpdUpRefIdeal.τ).loc Cert.UpdUpRefIdeal.main_arg2)
      ∧ r.2.mem ((c.tc : Thread Cert.UpdUpRefIdeal.nD Cert.UpdUpRefIdeal.τ).loc Cert.UpdUpRefIdeal.main_arg3) = m ((c.tc : Thread Cert.UpdUpRefIdeal.nD Cert.UpdUpRefIdeal.τ).loc Cert.UpdUpRefIdeal.main_arg3))
      ∧ r.2.sem = fun _ => 0)

def quiescent_UpdDown [hUpdDown : Cert.UpdDown.Facts] : Prop :=
  ∀ (m : (ℓ : Loc Cert.UpdDown.nD Cert.UpdDown.τ Cert.UpdDown.sig) → Buf (Elt Bits) ℓ) (g : Dev Cert.UpdDown.nD → PrngReg), Pre_UpdDown m →
    θ_run (Cert.UpdDown.defs (F := Bits)) (onTc (τ := Cert.UpdDown.τ) (Cert.UpdDown.main (F := Bits))) ⟨m, fun _ => 0, g⟩ (fun r => (∀ c : Dev Cert.UpdDown.nD,
      r.2.mem ((c.tc : Thread Cert.UpdDown.nD Cert.UpdDown.τ).loc Cert.UpdDown.main_arg0) = m ((c.tc : Thread Cert.UpdDown.nD Cert.UpdDown.τ).loc Cert.UpdDown.main_arg0)
      ∧ r.2.mem ((c.tc : Thread Cert.UpdDown.nD Cert.UpdDown.τ).loc Cert.UpdDown.main_arg1) = m ((c.tc : Thread Cert.UpdDown.nD Cert.UpdDown.τ).loc Cert.UpdDown.main_arg1)
      ∧ r.2.mem ((c.tc : Thread Cert.UpdDown.nD Cert.UpdDown.τ).loc Cert.UpdDown.main_arg2) = m ((c.tc : Thread Cert.UpdDown.nD Cert.UpdDown.τ).loc Cert.UpdDown.main_arg2)
      ∧ r.2.mem ((c.tc : Thread Cert.UpdDown.nD Cert.UpdDown.τ).loc Cert.UpdDown.main_arg3) = m ((c.tc : Thread Cert.UpdDown.nD Cert.UpdDown.τ).loc Cert.UpdDown.main_arg3))
      ∧ r.2.sem = fun _ => 0)

def quiescent_UpdDownIdeal [hUpdDownIdeal : Cert.UpdDownIdeal.Facts] : Prop :=
  ∀ (m : (ℓ : Loc Cert.UpdDownIdeal.nD Cert.UpdDownIdeal.τ Cert.UpdDownIdeal.sig) → Buf (Elt Ideal) ℓ) (g : Dev Cert.UpdDownIdeal.nD → PrngReg), Pre_UpdDownIdeal m →
    θ_run (Cert.UpdDownIdeal.defs (F := Ideal)) (onTc (τ := Cert.UpdDownIdeal.τ) (Cert.UpdDownIdeal.main (F := Ideal))) ⟨m, fun _ => 0, g⟩ (fun r => (∀ c : Dev Cert.UpdDownIdeal.nD,
      r.2.mem ((c.tc : Thread Cert.UpdDownIdeal.nD Cert.UpdDownIdeal.τ).loc Cert.UpdDownIdeal.main_arg0) = m ((c.tc : Thread Cert.UpdDownIdeal.nD Cert.UpdDownIdeal.τ).loc Cert.UpdDownIdeal.main_arg0)
      ∧ r.2.mem ((c.tc : Thread Cert.UpdDownIdeal.nD Cert.UpdDownIdeal.τ).loc Cert.UpdDownIdeal.main_arg1) = m ((c.tc : Thread Cert.UpdDownIdeal.nD Cert.UpdDownIdeal.τ).loc Cert.UpdDownIdeal.main_arg1)
      ∧ r.2.mem ((c.tc : Thread Cert.UpdDownIdeal.nD Cert.UpdDownIdeal.τ).loc Cert.UpdDownIdeal.main_arg2) = m ((c.tc : Thread Cert.UpdDownIdeal.nD Cert.UpdDownIdeal.τ).loc Cert.UpdDownIdeal.main_arg2)
      ∧ r.2.mem ((c.tc : Thread Cert.UpdDownIdeal.nD Cert.UpdDownIdeal.τ).loc Cert.UpdDownIdeal.main_arg3) = m ((c.tc : Thread Cert.UpdDownIdeal.nD Cert.UpdDownIdeal.τ).loc Cert.UpdDownIdeal.main_arg3))
      ∧ r.2.sem = fun _ => 0)

def quiescent_UpdDownRefIdeal [hUpdDownRefIdeal : Cert.UpdDownRefIdeal.Facts] : Prop :=
  ∀ (m : (ℓ : Loc Cert.UpdDownRefIdeal.nD Cert.UpdDownRefIdeal.τ Cert.UpdDownRefIdeal.sig) → Buf (Elt Ideal) ℓ) (g : Dev Cert.UpdDownRefIdeal.nD → PrngReg), Pre_UpdDownRefIdeal m →
    θ_run (Cert.UpdDownRefIdeal.defs (F := Ideal)) (onTc (τ := Cert.UpdDownRefIdeal.τ) (Cert.UpdDownRefIdeal.main (F := Ideal))) ⟨m, fun _ => 0, g⟩ (fun r => (∀ c : Dev Cert.UpdDownRefIdeal.nD,
      r.2.mem ((c.tc : Thread Cert.UpdDownRefIdeal.nD Cert.UpdDownRefIdeal.τ).loc Cert.UpdDownRefIdeal.main_arg0) = m ((c.tc : Thread Cert.UpdDownRefIdeal.nD Cert.UpdDownRefIdeal.τ).loc Cert.UpdDownRefIdeal.main_arg0)
      ∧ r.2.mem ((c.tc : Thread Cert.UpdDownRefIdeal.nD Cert.UpdDownRefIdeal.τ).loc Cert.UpdDownRefIdeal.main_arg1) = m ((c.tc : Thread Cert.UpdDownRefIdeal.nD Cert.UpdDownRefIdeal.τ).loc Cert.UpdDownRefIdeal.main_arg1)
      ∧ r.2.mem ((c.tc : Thread Cert.UpdDownRefIdeal.nD Cert.UpdDownRefIdeal.τ).loc Cert.UpdDownRefIdeal.main_arg2) = m ((c.tc : Thread Cert.UpdDownRefIdeal.nD Cert.UpdDownRefIdeal.τ).loc Cert.UpdDownRefIdeal.main_arg2)
      ∧ r.2.mem ((c.tc : Thread Cert.UpdDownRefIdeal.nD Cert.UpdDownRefIdeal.τ).loc Cert.UpdDownRefIdeal.main_arg3) = m ((c.tc : Thread Cert.UpdDownRefIdeal.nD Cert.UpdDownRefIdeal.τ).loc Cert.UpdDownRefIdeal.main_arg3))
      ∧ r.2.sem = fun _ => 0)

def quiescent_QkBwd [hQkBwd : Cert.QkBwd.Facts] : Prop :=
  ∀ (m : (ℓ : Loc Cert.QkBwd.nD Cert.QkBwd.τ Cert.QkBwd.sig) → Buf (Elt Bits) ℓ) (g : Dev Cert.QkBwd.nD → PrngReg), Pre_QkBwd m →
    θ_run (Cert.QkBwd.defs (F := Bits)) (onTc (τ := Cert.QkBwd.τ) (Cert.QkBwd.main (F := Bits))) ⟨m, fun _ => 0, g⟩ (fun r => (∀ c : Dev Cert.QkBwd.nD,
      r.2.mem ((c.tc : Thread Cert.QkBwd.nD Cert.QkBwd.τ).loc Cert.QkBwd.main_arg0) = m ((c.tc : Thread Cert.QkBwd.nD Cert.QkBwd.τ).loc Cert.QkBwd.main_arg0)
      ∧ r.2.mem ((c.tc : Thread Cert.QkBwd.nD Cert.QkBwd.τ).loc Cert.QkBwd.main_arg1) = m ((c.tc : Thread Cert.QkBwd.nD Cert.QkBwd.τ).loc Cert.QkBwd.main_arg1)
      ∧ r.2.mem ((c.tc : Thread Cert.QkBwd.nD Cert.QkBwd.τ).loc Cert.QkBwd.main_arg2) = m ((c.tc : Thread Cert.QkBwd.nD Cert.QkBwd.τ).loc Cert.QkBwd.main_arg2)
      ∧ r.2.mem ((c.tc : Thread Cert.QkBwd.nD Cert.QkBwd.τ).loc Cert.QkBwd.main_arg3) = m ((c.tc : Thread Cert.QkBwd.nD Cert.QkBwd.τ).loc Cert.QkBwd.main_arg3)
      ∧ r.2.mem ((c.tc : Thread Cert.QkBwd.nD Cert.QkBwd.τ).loc Cert.QkBwd.main_arg4) = m ((c.tc : Thread Cert.QkBwd.nD Cert.QkBwd.τ).loc Cert.QkBwd.main_arg4)
      ∧ r.2.mem ((c.tc : Thread Cert.QkBwd.nD Cert.QkBwd.τ).loc Cert.QkBwd.main_arg5) = m ((c.tc : Thread Cert.QkBwd.nD Cert.QkBwd.τ).loc Cert.QkBwd.main_arg5)
      ∧ r.2.mem ((c.tc : Thread Cert.QkBwd.nD Cert.QkBwd.τ).loc Cert.QkBwd.main_arg6) = m ((c.tc : Thread Cert.QkBwd.nD Cert.QkBwd.τ).loc Cert.QkBwd.main_arg6))
      ∧ r.2.sem = fun _ => 0)

def quiescent_QkBwdIdeal [hQkBwdIdeal : Cert.QkBwdIdeal.Facts] : Prop :=
  ∀ (m : (ℓ : Loc Cert.QkBwdIdeal.nD Cert.QkBwdIdeal.τ Cert.QkBwdIdeal.sig) → Buf (Elt Ideal) ℓ) (g : Dev Cert.QkBwdIdeal.nD → PrngReg), Pre_QkBwdIdeal m →
    θ_run (Cert.QkBwdIdeal.defs (F := Ideal)) (onTc (τ := Cert.QkBwdIdeal.τ) (Cert.QkBwdIdeal.main (F := Ideal))) ⟨m, fun _ => 0, g⟩ (fun r => (∀ c : Dev Cert.QkBwdIdeal.nD,
      r.2.mem ((c.tc : Thread Cert.QkBwdIdeal.nD Cert.QkBwdIdeal.τ).loc Cert.QkBwdIdeal.main_arg0) = m ((c.tc : Thread Cert.QkBwdIdeal.nD Cert.QkBwdIdeal.τ).loc Cert.QkBwdIdeal.main_arg0)
      ∧ r.2.mem ((c.tc : Thread Cert.QkBwdIdeal.nD Cert.QkBwdIdeal.τ).loc Cert.QkBwdIdeal.main_arg1) = m ((c.tc : Thread Cert.QkBwdIdeal.nD Cert.QkBwdIdeal.τ).loc Cert.QkBwdIdeal.main_arg1)
      ∧ r.2.mem ((c.tc : Thread Cert.QkBwdIdeal.nD Cert.QkBwdIdeal.τ).loc Cert.QkBwdIdeal.main_arg2) = m ((c.tc : Thread Cert.QkBwdIdeal.nD Cert.QkBwdIdeal.τ).loc Cert.QkBwdIdeal.main_arg2)
      ∧ r.2.mem ((c.tc : Thread Cert.QkBwdIdeal.nD Cert.QkBwdIdeal.τ).loc Cert.QkBwdIdeal.main_arg3) = m ((c.tc : Thread Cert.QkBwdIdeal.nD Cert.QkBwdIdeal.τ).loc Cert.QkBwdIdeal.main_arg3)
      ∧ r.2.mem ((c.tc : Thread Cert.QkBwdIdeal.nD Cert.QkBwdIdeal.τ).loc Cert.QkBwdIdeal.main_arg4) = m ((c.tc : Thread Cert.QkBwdIdeal.nD Cert.QkBwdIdeal.τ).loc Cert.QkBwdIdeal.main_arg4)
      ∧ r.2.mem ((c.tc : Thread Cert.QkBwdIdeal.nD Cert.QkBwdIdeal.τ).loc Cert.QkBwdIdeal.main_arg5) = m ((c.tc : Thread Cert.QkBwdIdeal.nD Cert.QkBwdIdeal.τ).loc Cert.QkBwdIdeal.main_arg5)
      ∧ r.2.mem ((c.tc : Thread Cert.QkBwdIdeal.nD Cert.QkBwdIdeal.τ).loc Cert.QkBwdIdeal.main_arg6) = m ((c.tc : Thread Cert.QkBwdIdeal.nD Cert.QkBwdIdeal.τ).loc Cert.QkBwdIdeal.main_arg6))
      ∧ r.2.sem = fun _ => 0)

def quiescent_QkBwdIdeal_pre_qk_finite [hQkBwdIdeal : Cert.QkBwdIdeal.Facts] [hPre_qk_finite : Cert.Pre_qk_finite.Facts] : Prop :=
  ∀ (m : (ℓ : Loc Cert.QkBwdIdeal.nD Cert.QkBwdIdeal.τ Cert.QkBwdIdeal.sig) → Buf (Elt Ideal) ℓ) (g : Dev Cert.QkBwdIdeal.nD → PrngReg), Pre_QkBwdIdeal_qk_finite m →
    θ_run (Cert.QkBwdIdeal.defs (F := Ideal)) (onTc (τ := Cert.QkBwdIdeal.τ) (Cert.QkBwdIdeal.main (F := Ideal))) ⟨m, fun _ => 0, g⟩ (fun r => (∀ c : Dev Cert.QkBwdIdeal.nD,
      r.2.mem ((c.tc : Thread Cert.QkBwdIdeal.nD Cert.QkBwdIdeal.τ).loc Cert.QkBwdIdeal.main_arg0) = m ((c.tc : Thread Cert.QkBwdIdeal.nD Cert.QkBwdIdeal.τ).loc Cert.QkBwdIdeal.main_arg0)
      ∧ r.2.mem ((c.tc : Thread Cert.QkBwdIdeal.nD Cert.QkBwdIdeal.τ).loc Cert.QkBwdIdeal.main_arg1) = m ((c.tc : Thread Cert.QkBwdIdeal.nD Cert.QkBwdIdeal.τ).loc Cert.QkBwdIdeal.main_arg1)
      ∧ r.2.mem ((c.tc : Thread Cert.QkBwdIdeal.nD Cert.QkBwdIdeal.τ).loc Cert.QkBwdIdeal.main_arg2) = m ((c.tc : Thread Cert.QkBwdIdeal.nD Cert.QkBwdIdeal.τ).loc Cert.QkBwdIdeal.main_arg2)
      ∧ r.2.mem ((c.tc : Thread Cert.QkBwdIdeal.nD Cert.QkBwdIdeal.τ).loc Cert.QkBwdIdeal.main_arg3) = m ((c.tc : Thread Cert.QkBwdIdeal.nD Cert.QkBwdIdeal.τ).loc Cert.QkBwdIdeal.main_arg3)
      ∧ r.2.mem ((c.tc : Thread Cert.QkBwdIdeal.nD Cert.QkBwdIdeal.τ).loc Cert.QkBwdIdeal.main_arg4) = m ((c.tc : Thread Cert.QkBwdIdeal.nD Cert.QkBwdIdeal.τ).loc Cert.QkBwdIdeal.main_arg4)
      ∧ r.2.mem ((c.tc : Thread Cert.QkBwdIdeal.nD Cert.QkBwdIdeal.τ).loc Cert.QkBwdIdeal.main_arg5) = m ((c.tc : Thread Cert.QkBwdIdeal.nD Cert.QkBwdIdeal.τ).loc Cert.QkBwdIdeal.main_arg5)
      ∧ r.2.mem ((c.tc : Thread Cert.QkBwdIdeal.nD Cert.QkBwdIdeal.τ).loc Cert.QkBwdIdeal.main_arg6) = m ((c.tc : Thread Cert.QkBwdIdeal.nD Cert.QkBwdIdeal.τ).loc Cert.QkBwdIdeal.main_arg6))
      ∧ r.2.sem = fun _ => 0)

def quiescent_QkBwdRefIdeal [hQkBwdRefIdeal : Cert.QkBwdRefIdeal.Facts] : Prop :=
  ∀ (m : (ℓ : Loc Cert.QkBwdRefIdeal.nD Cert.QkBwdRefIdeal.τ Cert.QkBwdRefIdeal.sig) → Buf (Elt Ideal) ℓ) (g : Dev Cert.QkBwdRefIdeal.nD → PrngReg), Pre_QkBwdRefIdeal m →
    θ_run (Cert.QkBwdRefIdeal.defs (F := Ideal)) (onTc (τ := Cert.QkBwdRefIdeal.τ) (Cert.QkBwdRefIdeal.main (F := Ideal))) ⟨m, fun _ => 0, g⟩ (fun r => (∀ c : Dev Cert.QkBwdRefIdeal.nD,
      r.2.mem ((c.tc : Thread Cert.QkBwdRefIdeal.nD Cert.QkBwdRefIdeal.τ).loc Cert.QkBwdRefIdeal.main_arg0) = m ((c.tc : Thread Cert.QkBwdRefIdeal.nD Cert.QkBwdRefIdeal.τ).loc Cert.QkBwdRefIdeal.main_arg0)
      ∧ r.2.mem ((c.tc : Thread Cert.QkBwdRefIdeal.nD Cert.QkBwdRefIdeal.τ).loc Cert.QkBwdRefIdeal.main_arg1) = m ((c.tc : Thread Cert.QkBwdRefIdeal.nD Cert.QkBwdRefIdeal.τ).loc Cert.QkBwdRefIdeal.main_arg1)
      ∧ r.2.mem ((c.tc : Thread Cert.QkBwdRefIdeal.nD Cert.QkBwdRefIdeal.τ).loc Cert.QkBwdRefIdeal.main_arg2) = m ((c.tc : Thread Cert.QkBwdRefIdeal.nD Cert.QkBwdRefIdeal.τ).loc Cert.QkBwdRefIdeal.main_arg2)
      ∧ r.2.mem ((c.tc : Thread Cert.QkBwdRefIdeal.nD Cert.QkBwdRefIdeal.τ).loc Cert.QkBwdRefIdeal.main_arg3) = m ((c.tc : Thread Cert.QkBwdRefIdeal.nD Cert.QkBwdRefIdeal.τ).loc Cert.QkBwdRefIdeal.main_arg3)
      ∧ r.2.mem ((c.tc : Thread Cert.QkBwdRefIdeal.nD Cert.QkBwdRefIdeal.τ).loc Cert.QkBwdRefIdeal.main_arg4) = m ((c.tc : Thread Cert.QkBwdRefIdeal.nD Cert.QkBwdRefIdeal.τ).loc Cert.QkBwdRefIdeal.main_arg4)
      ∧ r.2.mem ((c.tc : Thread Cert.QkBwdRefIdeal.nD Cert.QkBwdRefIdeal.τ).loc Cert.QkBwdRefIdeal.main_arg5) = m ((c.tc : Thread Cert.QkBwdRefIdeal.nD Cert.QkBwdRefIdeal.τ).loc Cert.QkBwdRefIdeal.main_arg5)
      ∧ r.2.mem ((c.tc : Thread Cert.QkBwdRefIdeal.nD Cert.QkBwdRefIdeal.τ).loc Cert.QkBwdRefIdeal.main_arg6) = m ((c.tc : Thread Cert.QkBwdRefIdeal.nD Cert.QkBwdRefIdeal.τ).loc Cert.QkBwdRefIdeal.main_arg6))
      ∧ r.2.sem = fun _ => 0)

def quiescent_QkBwdRefIdeal_pre_qk_finite [hQkBwdRefIdeal : Cert.QkBwdRefIdeal.Facts] [hPre_qk_finite : Cert.Pre_qk_finite.Facts] : Prop :=
  ∀ (m : (ℓ : Loc Cert.QkBwdRefIdeal.nD Cert.QkBwdRefIdeal.τ Cert.QkBwdRefIdeal.sig) → Buf (Elt Ideal) ℓ) (g : Dev Cert.QkBwdRefIdeal.nD → PrngReg), Pre_QkBwdRefIdeal_qk_finite m →
    θ_run (Cert.QkBwdRefIdeal.defs (F := Ideal)) (onTc (τ := Cert.QkBwdRefIdeal.τ) (Cert.QkBwdRefIdeal.main (F := Ideal))) ⟨m, fun _ => 0, g⟩ (fun r => (∀ c : Dev Cert.QkBwdRefIdeal.nD,
      r.2.mem ((c.tc : Thread Cert.QkBwdRefIdeal.nD Cert.QkBwdRefIdeal.τ).loc Cert.QkBwdRefIdeal.main_arg0) = m ((c.tc : Thread Cert.QkBwdRefIdeal.nD Cert.QkBwdRefIdeal.τ).loc Cert.QkBwdRefIdeal.main_arg0)
      ∧ r.2.mem ((c.tc : Thread Cert.QkBwdRefIdeal.nD Cert.QkBwdRefIdeal.τ).loc Cert.QkBwdRefIdeal.main_arg1) = m ((c.tc : Thread Cert.QkBwdRefIdeal.nD Cert.QkBwdRefIdeal.τ).loc Cert.QkBwdRefIdeal.main_arg1)
      ∧ r.2.mem ((c.tc : Thread Cert.QkBwdRefIdeal.nD Cert.QkBwdRefIdeal.τ).loc Cert.QkBwdRefIdeal.main_arg2) = m ((c.tc : Thread Cert.QkBwdRefIdeal.nD Cert.QkBwdRefIdeal.τ).loc Cert.QkBwdRefIdeal.main_arg2)
      ∧ r.2.mem ((c.tc : Thread Cert.QkBwdRefIdeal.nD Cert.QkBwdRefIdeal.τ).loc Cert.QkBwdRefIdeal.main_arg3) = m ((c.tc : Thread Cert.QkBwdRefIdeal.nD Cert.QkBwdRefIdeal.τ).loc Cert.QkBwdRefIdeal.main_arg3)
      ∧ r.2.mem ((c.tc : Thread Cert.QkBwdRefIdeal.nD Cert.QkBwdRefIdeal.τ).loc Cert.QkBwdRefIdeal.main_arg4) = m ((c.tc : Thread Cert.QkBwdRefIdeal.nD Cert.QkBwdRefIdeal.τ).loc Cert.QkBwdRefIdeal.main_arg4)
      ∧ r.2.mem ((c.tc : Thread Cert.QkBwdRefIdeal.nD Cert.QkBwdRefIdeal.τ).loc Cert.QkBwdRefIdeal.main_arg5) = m ((c.tc : Thread Cert.QkBwdRefIdeal.nD Cert.QkBwdRefIdeal.τ).loc Cert.QkBwdRefIdeal.main_arg5)
      ∧ r.2.mem ((c.tc : Thread Cert.QkBwdRefIdeal.nD Cert.QkBwdRefIdeal.τ).loc Cert.QkBwdRefIdeal.main_arg6) = m ((c.tc : Thread Cert.QkBwdRefIdeal.nD Cert.QkBwdRefIdeal.τ).loc Cert.QkBwdRefIdeal.main_arg6))
      ∧ r.2.sem = fun _ => 0)

def quiescent_SsmDiscBwd [hSsmDiscBwd : Cert.SsmDiscBwd.Facts] : Prop :=
  ∀ (m : (ℓ : Loc Cert.SsmDiscBwd.nD Cert.SsmDiscBwd.τ Cert.SsmDiscBwd.sig) → Buf (Elt Bits) ℓ) (g : Dev Cert.SsmDiscBwd.nD → PrngReg), Pre_SsmDiscBwd m →
    θ_run (Cert.SsmDiscBwd.defs (F := Bits)) (onTc (τ := Cert.SsmDiscBwd.τ) (Cert.SsmDiscBwd.main (F := Bits))) ⟨m, fun _ => 0, g⟩ (fun r => (∀ c : Dev Cert.SsmDiscBwd.nD,
      r.2.mem ((c.tc : Thread Cert.SsmDiscBwd.nD Cert.SsmDiscBwd.τ).loc Cert.SsmDiscBwd.main_arg0) = m ((c.tc : Thread Cert.SsmDiscBwd.nD Cert.SsmDiscBwd.τ).loc Cert.SsmDiscBwd.main_arg0)
      ∧ r.2.mem ((c.tc : Thread Cert.SsmDiscBwd.nD Cert.SsmDiscBwd.τ).loc Cert.SsmDiscBwd.main_arg1) = m ((c.tc : Thread Cert.SsmDiscBwd.nD Cert.SsmDiscBwd.τ).loc Cert.SsmDiscBwd.main_arg1)
      ∧ r.2.mem ((c.tc : Thread Cert.SsmDiscBwd.nD Cert.SsmDiscBwd.τ).loc Cert.SsmDiscBwd.main_arg2) = m ((c.tc : Thread Cert.SsmDiscBwd.nD Cert.SsmDiscBwd.τ).loc Cert.SsmDiscBwd.main_arg2)
      ∧ r.2.mem ((c.tc : Thread Cert.SsmDiscBwd.nD Cert.SsmDiscBwd.τ).loc Cert.SsmDiscBwd.main_arg3) = m ((c.tc : Thread Cert.SsmDiscBwd.nD Cert.SsmDiscBwd.τ).loc Cert.SsmDiscBwd.main_arg3)
      ∧ r.2.mem ((c.tc : Thread Cert.SsmDiscBwd.nD Cert.SsmDiscBwd.τ).loc Cert.SsmDiscBwd.main_arg4) = m ((c.tc : Thread Cert.SsmDiscBwd.nD Cert.SsmDiscBwd.τ).loc Cert.SsmDiscBwd.main_arg4)
      ∧ r.2.mem ((c.tc : Thread Cert.SsmDiscBwd.nD Cert.SsmDiscBwd.τ).loc Cert.SsmDiscBwd.main_arg5) = m ((c.tc : Thread Cert.SsmDiscBwd.nD Cert.SsmDiscBwd.τ).loc Cert.SsmDiscBwd.main_arg5)
      ∧ r.2.mem ((c.tc : Thread Cert.SsmDiscBwd.nD Cert.SsmDiscBwd.τ).loc Cert.SsmDiscBwd.main_arg6) = m ((c.tc : Thread Cert.SsmDiscBwd.nD Cert.SsmDiscBwd.τ).loc Cert.SsmDiscBwd.main_arg6)
      ∧ r.2.mem ((c.tc : Thread Cert.SsmDiscBwd.nD Cert.SsmDiscBwd.τ).loc Cert.SsmDiscBwd.main_arg7) = m ((c.tc : Thread Cert.SsmDiscBwd.nD Cert.SsmDiscBwd.τ).loc Cert.SsmDiscBwd.main_arg7)
      ∧ r.2.mem ((c.tc : Thread Cert.SsmDiscBwd.nD Cert.SsmDiscBwd.τ).loc Cert.SsmDiscBwd.main_arg8) = m ((c.tc : Thread Cert.SsmDiscBwd.nD Cert.SsmDiscBwd.τ).loc Cert.SsmDiscBwd.main_arg8))
      ∧ r.2.sem = fun _ => 0)

def quiescent_SsmDiscBwdIdeal [hSsmDiscBwdIdeal : Cert.SsmDiscBwdIdeal.Facts] : Prop :=
  ∀ (m : (ℓ : Loc Cert.SsmDiscBwdIdeal.nD Cert.SsmDiscBwdIdeal.τ Cert.SsmDiscBwdIdeal.sig) → Buf (Elt Ideal) ℓ) (g : Dev Cert.SsmDiscBwdIdeal.nD → PrngReg), Pre_SsmDiscBwdIdeal m →
    θ_run (Cert.SsmDiscBwdIdeal.defs (F := Ideal)) (onTc (τ := Cert.SsmDiscBwdIdeal.τ) (Cert.SsmDiscBwdIdeal.main (F := Ideal))) ⟨m, fun _ => 0, g⟩ (fun r => (∀ c : Dev Cert.SsmDiscBwdIdeal.nD,
      r.2.mem ((c.tc : Thread Cert.SsmDiscBwdIdeal.nD Cert.SsmDiscBwdIdeal.τ).loc Cert.SsmDiscBwdIdeal.main_arg0) = m ((c.tc : Thread Cert.SsmDiscBwdIdeal.nD Cert.SsmDiscBwdIdeal.τ).loc Cert.SsmDiscBwdIdeal.main_arg0)
      ∧ r.2.mem ((c.tc : Thread Cert.SsmDiscBwdIdeal.nD Cert.SsmDiscBwdIdeal.τ).loc Cert.SsmDiscBwdIdeal.main_arg1) = m ((c.tc : Thread Cert.SsmDiscBwdIdeal.nD Cert.SsmDiscBwdIdeal.τ).loc Cert.SsmDiscBwdIdeal.main_arg1)
      ∧ r.2.mem ((c.tc : Thread Cert.SsmDiscBwdIdeal.nD Cert.SsmDiscBwdIdeal.τ).loc Cert.SsmDiscBwdIdeal.main_arg2) = m ((c.tc : Thread Cert.SsmDiscBwdIdeal.nD Cert.SsmDiscBwdIdeal.τ).loc Cert.SsmDiscBwdIdeal.main_arg2)
      ∧ r.2.mem ((c.tc : Thread Cert.SsmDiscBwdIdeal.nD Cert.SsmDiscBwdIdeal.τ).loc Cert.SsmDiscBwdIdeal.main_arg3) = m ((c.tc : Thread Cert.SsmDiscBwdIdeal.nD Cert.SsmDiscBwdIdeal.τ).loc Cert.SsmDiscBwdIdeal.main_arg3)
      ∧ r.2.mem ((c.tc : Thread Cert.SsmDiscBwdIdeal.nD Cert.SsmDiscBwdIdeal.τ).loc Cert.SsmDiscBwdIdeal.main_arg4) = m ((c.tc : Thread Cert.SsmDiscBwdIdeal.nD Cert.SsmDiscBwdIdeal.τ).loc Cert.SsmDiscBwdIdeal.main_arg4)
      ∧ r.2.mem ((c.tc : Thread Cert.SsmDiscBwdIdeal.nD Cert.SsmDiscBwdIdeal.τ).loc Cert.SsmDiscBwdIdeal.main_arg5) = m ((c.tc : Thread Cert.SsmDiscBwdIdeal.nD Cert.SsmDiscBwdIdeal.τ).loc Cert.SsmDiscBwdIdeal.main_arg5)
      ∧ r.2.mem ((c.tc : Thread Cert.SsmDiscBwdIdeal.nD Cert.SsmDiscBwdIdeal.τ).loc Cert.SsmDiscBwdIdeal.main_arg6) = m ((c.tc : Thread Cert.SsmDiscBwdIdeal.nD Cert.SsmDiscBwdIdeal.τ).loc Cert.SsmDiscBwdIdeal.main_arg6)
      ∧ r.2.mem ((c.tc : Thread Cert.SsmDiscBwdIdeal.nD Cert.SsmDiscBwdIdeal.τ).loc Cert.SsmDiscBwdIdeal.main_arg7) = m ((c.tc : Thread Cert.SsmDiscBwdIdeal.nD Cert.SsmDiscBwdIdeal.τ).loc Cert.SsmDiscBwdIdeal.main_arg7)
      ∧ r.2.mem ((c.tc : Thread Cert.SsmDiscBwdIdeal.nD Cert.SsmDiscBwdIdeal.τ).loc Cert.SsmDiscBwdIdeal.main_arg8) = m ((c.tc : Thread Cert.SsmDiscBwdIdeal.nD Cert.SsmDiscBwdIdeal.τ).loc Cert.SsmDiscBwdIdeal.main_arg8))
      ∧ r.2.sem = fun _ => 0)

def quiescent_SsmDiscBwdIdeal_pre_disc_regular [hSsmDiscBwdIdeal : Cert.SsmDiscBwdIdeal.Facts] [hPre_disc_regular : Cert.Pre_disc_regular.Facts] : Prop :=
  ∀ (m : (ℓ : Loc Cert.SsmDiscBwdIdeal.nD Cert.SsmDiscBwdIdeal.τ Cert.SsmDiscBwdIdeal.sig) → Buf (Elt Ideal) ℓ) (g : Dev Cert.SsmDiscBwdIdeal.nD → PrngReg), Pre_SsmDiscBwdIdeal_disc_regular m →
    θ_run (Cert.SsmDiscBwdIdeal.defs (F := Ideal)) (onTc (τ := Cert.SsmDiscBwdIdeal.τ) (Cert.SsmDiscBwdIdeal.main (F := Ideal))) ⟨m, fun _ => 0, g⟩ (fun r => (∀ c : Dev Cert.SsmDiscBwdIdeal.nD,
      r.2.mem ((c.tc : Thread Cert.SsmDiscBwdIdeal.nD Cert.SsmDiscBwdIdeal.τ).loc Cert.SsmDiscBwdIdeal.main_arg0) = m ((c.tc : Thread Cert.SsmDiscBwdIdeal.nD Cert.SsmDiscBwdIdeal.τ).loc Cert.SsmDiscBwdIdeal.main_arg0)
      ∧ r.2.mem ((c.tc : Thread Cert.SsmDiscBwdIdeal.nD Cert.SsmDiscBwdIdeal.τ).loc Cert.SsmDiscBwdIdeal.main_arg1) = m ((c.tc : Thread Cert.SsmDiscBwdIdeal.nD Cert.SsmDiscBwdIdeal.τ).loc Cert.SsmDiscBwdIdeal.main_arg1)
      ∧ r.2.mem ((c.tc : Thread Cert.SsmDiscBwdIdeal.nD Cert.SsmDiscBwdIdeal.τ).loc Cert.SsmDiscBwdIdeal.main_arg2) = m ((c.tc : Thread Cert.SsmDiscBwdIdeal.nD Cert.SsmDiscBwdIdeal.τ).loc Cert.SsmDiscBwdIdeal.main_arg2)
      ∧ r.2.mem ((c.tc : Thread Cert.SsmDiscBwdIdeal.nD Cert.SsmDiscBwdIdeal.τ).loc Cert.SsmDiscBwdIdeal.main_arg3) = m ((c.tc : Thread Cert.SsmDiscBwdIdeal.nD Cert.SsmDiscBwdIdeal.τ).loc Cert.SsmDiscBwdIdeal.main_arg3)
      ∧ r.2.mem ((c.tc : Thread Cert.SsmDiscBwdIdeal.nD Cert.SsmDiscBwdIdeal.τ).loc Cert.SsmDiscBwdIdeal.main_arg4) = m ((c.tc : Thread Cert.SsmDiscBwdIdeal.nD Cert.SsmDiscBwdIdeal.τ).loc Cert.SsmDiscBwdIdeal.main_arg4)
      ∧ r.2.mem ((c.tc : Thread Cert.SsmDiscBwdIdeal.nD Cert.SsmDiscBwdIdeal.τ).loc Cert.SsmDiscBwdIdeal.main_arg5) = m ((c.tc : Thread Cert.SsmDiscBwdIdeal.nD Cert.SsmDiscBwdIdeal.τ).loc Cert.SsmDiscBwdIdeal.main_arg5)
      ∧ r.2.mem ((c.tc : Thread Cert.SsmDiscBwdIdeal.nD Cert.SsmDiscBwdIdeal.τ).loc Cert.SsmDiscBwdIdeal.main_arg6) = m ((c.tc : Thread Cert.SsmDiscBwdIdeal.nD Cert.SsmDiscBwdIdeal.τ).loc Cert.SsmDiscBwdIdeal.main_arg6)
      ∧ r.2.mem ((c.tc : Thread Cert.SsmDiscBwdIdeal.nD Cert.SsmDiscBwdIdeal.τ).loc Cert.SsmDiscBwdIdeal.main_arg7) = m ((c.tc : Thread Cert.SsmDiscBwdIdeal.nD Cert.SsmDiscBwdIdeal.τ).loc Cert.SsmDiscBwdIdeal.main_arg7)
      ∧ r.2.mem ((c.tc : Thread Cert.SsmDiscBwdIdeal.nD Cert.SsmDiscBwdIdeal.τ).loc Cert.SsmDiscBwdIdeal.main_arg8) = m ((c.tc : Thread Cert.SsmDiscBwdIdeal.nD Cert.SsmDiscBwdIdeal.τ).loc Cert.SsmDiscBwdIdeal.main_arg8))
      ∧ r.2.sem = fun _ => 0)

def quiescent_SsmDiscBwdRefIdeal [hSsmDiscBwdRefIdeal : Cert.SsmDiscBwdRefIdeal.Facts] : Prop :=
  ∀ (m : (ℓ : Loc Cert.SsmDiscBwdRefIdeal.nD Cert.SsmDiscBwdRefIdeal.τ Cert.SsmDiscBwdRefIdeal.sig) → Buf (Elt Ideal) ℓ) (g : Dev Cert.SsmDiscBwdRefIdeal.nD → PrngReg), Pre_SsmDiscBwdRefIdeal m →
    θ_run (Cert.SsmDiscBwdRefIdeal.defs (F := Ideal)) (onTc (τ := Cert.SsmDiscBwdRefIdeal.τ) (Cert.SsmDiscBwdRefIdeal.main (F := Ideal))) ⟨m, fun _ => 0, g⟩ (fun r => (∀ c : Dev Cert.SsmDiscBwdRefIdeal.nD,
      r.2.mem ((c.tc : Thread Cert.SsmDiscBwdRefIdeal.nD Cert.SsmDiscBwdRefIdeal.τ).loc Cert.SsmDiscBwdRefIdeal.main_arg0) = m ((c.tc : Thread Cert.SsmDiscBwdRefIdeal.nD Cert.SsmDiscBwdRefIdeal.τ).loc Cert.SsmDiscBwdRefIdeal.main_arg0)
      ∧ r.2.mem ((c.tc : Thread Cert.SsmDiscBwdRefIdeal.nD Cert.SsmDiscBwdRefIdeal.τ).loc Cert.SsmDiscBwdRefIdeal.main_arg1) = m ((c.tc : Thread Cert.SsmDiscBwdRefIdeal.nD Cert.SsmDiscBwdRefIdeal.τ).loc Cert.SsmDiscBwdRefIdeal.main_arg1)
      ∧ r.2.mem ((c.tc : Thread Cert.SsmDiscBwdRefIdeal.nD Cert.SsmDiscBwdRefIdeal.τ).loc Cert.SsmDiscBwdRefIdeal.main_arg2) = m ((c.tc : Thread Cert.SsmDiscBwdRefIdeal.nD Cert.SsmDiscBwdRefIdeal.τ).loc Cert.SsmDiscBwdRefIdeal.main_arg2)
      ∧ r.2.mem ((c.tc : Thread Cert.SsmDiscBwdRefIdeal.nD Cert.SsmDiscBwdRefIdeal.τ).loc Cert.SsmDiscBwdRefIdeal.main_arg3) = m ((c.tc : Thread Cert.SsmDiscBwdRefIdeal.nD Cert.SsmDiscBwdRefIdeal.τ).loc Cert.SsmDiscBwdRefIdeal.main_arg3)
      ∧ r.2.mem ((c.tc : Thread Cert.SsmDiscBwdRefIdeal.nD Cert.SsmDiscBwdRefIdeal.τ).loc Cert.SsmDiscBwdRefIdeal.main_arg4) = m ((c.tc : Thread Cert.SsmDiscBwdRefIdeal.nD Cert.SsmDiscBwdRefIdeal.τ).loc Cert.SsmDiscBwdRefIdeal.main_arg4)
      ∧ r.2.mem ((c.tc : Thread Cert.SsmDiscBwdRefIdeal.nD Cert.SsmDiscBwdRefIdeal.τ).loc Cert.SsmDiscBwdRefIdeal.main_arg5) = m ((c.tc : Thread Cert.SsmDiscBwdRefIdeal.nD Cert.SsmDiscBwdRefIdeal.τ).loc Cert.SsmDiscBwdRefIdeal.main_arg5)
      ∧ r.2.mem ((c.tc : Thread Cert.SsmDiscBwdRefIdeal.nD Cert.SsmDiscBwdRefIdeal.τ).loc Cert.SsmDiscBwdRefIdeal.main_arg6) = m ((c.tc : Thread Cert.SsmDiscBwdRefIdeal.nD Cert.SsmDiscBwdRefIdeal.τ).loc Cert.SsmDiscBwdRefIdeal.main_arg6)
      ∧ r.2.mem ((c.tc : Thread Cert.SsmDiscBwdRefIdeal.nD Cert.SsmDiscBwdRefIdeal.τ).loc Cert.SsmDiscBwdRefIdeal.main_arg7) = m ((c.tc : Thread Cert.SsmDiscBwdRefIdeal.nD Cert.SsmDiscBwdRefIdeal.τ).loc Cert.SsmDiscBwdRefIdeal.main_arg7)
      ∧ r.2.mem ((c.tc : Thread Cert.SsmDiscBwdRefIdeal.nD Cert.SsmDiscBwdRefIdeal.τ).loc Cert.SsmDiscBwdRefIdeal.main_arg8) = m ((c.tc : Thread Cert.SsmDiscBwdRefIdeal.nD Cert.SsmDiscBwdRefIdeal.τ).loc Cert.SsmDiscBwdRefIdeal.main_arg8))
      ∧ r.2.sem = fun _ => 0)

def quiescent_SsmDiscBwdRefIdeal_pre_disc_regular [hSsmDiscBwdRefIdeal : Cert.SsmDiscBwdRefIdeal.Facts] [hPre_disc_regular : Cert.Pre_disc_regular.Facts] : Prop :=
  ∀ (m : (ℓ : Loc Cert.SsmDiscBwdRefIdeal.nD Cert.SsmDiscBwdRefIdeal.τ Cert.SsmDiscBwdRefIdeal.sig) → Buf (Elt Ideal) ℓ) (g : Dev Cert.SsmDiscBwdRefIdeal.nD → PrngReg), Pre_SsmDiscBwdRefIdeal_disc_regular m →
    θ_run (Cert.SsmDiscBwdRefIdeal.defs (F := Ideal)) (onTc (τ := Cert.SsmDiscBwdRefIdeal.τ) (Cert.SsmDiscBwdRefIdeal.main (F := Ideal))) ⟨m, fun _ => 0, g⟩ (fun r => (∀ c : Dev Cert.SsmDiscBwdRefIdeal.nD,
      r.2.mem ((c.tc : Thread Cert.SsmDiscBwdRefIdeal.nD Cert.SsmDiscBwdRefIdeal.τ).loc Cert.SsmDiscBwdRefIdeal.main_arg0) = m ((c.tc : Thread Cert.SsmDiscBwdRefIdeal.nD Cert.SsmDiscBwdRefIdeal.τ).loc Cert.SsmDiscBwdRefIdeal.main_arg0)
      ∧ r.2.mem ((c.tc : Thread Cert.SsmDiscBwdRefIdeal.nD Cert.SsmDiscBwdRefIdeal.τ).loc Cert.SsmDiscBwdRefIdeal.main_arg1) = m ((c.tc : Thread Cert.SsmDiscBwdRefIdeal.nD Cert.SsmDiscBwdRefIdeal.τ).loc Cert.SsmDiscBwdRefIdeal.main_arg1)
      ∧ r.2.mem ((c.tc : Thread Cert.SsmDiscBwdRefIdeal.nD Cert.SsmDiscBwdRefIdeal.τ).loc Cert.SsmDiscBwdRefIdeal.main_arg2) = m ((c.tc : Thread Cert.SsmDiscBwdRefIdeal.nD Cert.SsmDiscBwdRefIdeal.τ).loc Cert.SsmDiscBwdRefIdeal.main_arg2)
      ∧ r.2.mem ((c.tc : Thread Cert.SsmDiscBwdRefIdeal.nD Cert.SsmDiscBwdRefIdeal.τ).loc Cert.SsmDiscBwdRefIdeal.main_arg3) = m ((c.tc : Thread Cert.SsmDiscBwdRefIdeal.nD Cert.SsmDiscBwdRefIdeal.τ).loc Cert.SsmDiscBwdRefIdeal.main_arg3)
      ∧ r.2.mem ((c.tc : Thread Cert.SsmDiscBwdRefIdeal.nD Cert.SsmDiscBwdRefIdeal.τ).loc Cert.SsmDiscBwdRefIdeal.main_arg4) = m ((c.tc : Thread Cert.SsmDiscBwdRefIdeal.nD Cert.SsmDiscBwdRefIdeal.τ).loc Cert.SsmDiscBwdRefIdeal.main_arg4)
      ∧ r.2.mem ((c.tc : Thread Cert.SsmDiscBwdRefIdeal.nD Cert.SsmDiscBwdRefIdeal.τ).loc Cert.SsmDiscBwdRefIdeal.main_arg5) = m ((c.tc : Thread Cert.SsmDiscBwdRefIdeal.nD Cert.SsmDiscBwdRefIdeal.τ).loc Cert.SsmDiscBwdRefIdeal.main_arg5)
      ∧ r.2.mem ((c.tc : Thread Cert.SsmDiscBwdRefIdeal.nD Cert.SsmDiscBwdRefIdeal.τ).loc Cert.SsmDiscBwdRefIdeal.main_arg6) = m ((c.tc : Thread Cert.SsmDiscBwdRefIdeal.nD Cert.SsmDiscBwdRefIdeal.τ).loc Cert.SsmDiscBwdRefIdeal.main_arg6)
      ∧ r.2.mem ((c.tc : Thread Cert.SsmDiscBwdRefIdeal.nD Cert.SsmDiscBwdRefIdeal.τ).loc Cert.SsmDiscBwdRefIdeal.main_arg7) = m ((c.tc : Thread Cert.SsmDiscBwdRefIdeal.nD Cert.SsmDiscBwdRefIdeal.τ).loc Cert.SsmDiscBwdRefIdeal.main_arg7)
      ∧ r.2.mem ((c.tc : Thread Cert.SsmDiscBwdRefIdeal.nD Cert.SsmDiscBwdRefIdeal.τ).loc Cert.SsmDiscBwdRefIdeal.main_arg8) = m ((c.tc : Thread Cert.SsmDiscBwdRefIdeal.nD Cert.SsmDiscBwdRefIdeal.τ).loc Cert.SsmDiscBwdRefIdeal.main_arg8))
      ∧ r.2.sem = fun _ => 0)

def quiescent_SsmDisc [hSsmDisc : Cert.SsmDisc.Facts] : Prop :=
  ∀ (m : (ℓ : Loc Cert.SsmDisc.nD Cert.SsmDisc.τ Cert.SsmDisc.sig) → Buf (Elt Bits) ℓ) (g : Dev Cert.SsmDisc.nD → PrngReg), Pre_SsmDisc m →
    θ_run (Cert.SsmDisc.defs (F := Bits)) (onTc (τ := Cert.SsmDisc.τ) (Cert.SsmDisc.main (F := Bits))) ⟨m, fun _ => 0, g⟩ (fun r => (∀ c : Dev Cert.SsmDisc.nD,
      r.2.mem ((c.tc : Thread Cert.SsmDisc.nD Cert.SsmDisc.τ).loc Cert.SsmDisc.main_arg0) = m ((c.tc : Thread Cert.SsmDisc.nD Cert.SsmDisc.τ).loc Cert.SsmDisc.main_arg0)
      ∧ r.2.mem ((c.tc : Thread Cert.SsmDisc.nD Cert.SsmDisc.τ).loc Cert.SsmDisc.main_arg1) = m ((c.tc : Thread Cert.SsmDisc.nD Cert.SsmDisc.τ).loc Cert.SsmDisc.main_arg1)
      ∧ r.2.mem ((c.tc : Thread Cert.SsmDisc.nD Cert.SsmDisc.τ).loc Cert.SsmDisc.main_arg2) = m ((c.tc : Thread Cert.SsmDisc.nD Cert.SsmDisc.τ).loc Cert.SsmDisc.main_arg2)
      ∧ r.2.mem ((c.tc : Thread Cert.SsmDisc.nD Cert.SsmDisc.τ).loc Cert.SsmDisc.main_arg3) = m ((c.tc : Thread Cert.SsmDisc.nD Cert.SsmDisc.τ).loc Cert.SsmDisc.main_arg3)
      ∧ r.2.mem ((c.tc : Thread Cert.SsmDisc.nD Cert.SsmDisc.τ).loc Cert.SsmDisc.main_arg4) = m ((c.tc : Thread Cert.SsmDisc.nD Cert.SsmDisc.τ).loc Cert.SsmDisc.main_arg4))
      ∧ r.2.sem = fun _ => 0)

def quiescent_SsmDiscIdeal [hSsmDiscIdeal : Cert.SsmDiscIdeal.Facts] : Prop :=
  ∀ (m : (ℓ : Loc Cert.SsmDiscIdeal.nD Cert.SsmDiscIdeal.τ Cert.SsmDiscIdeal.sig) → Buf (Elt Ideal) ℓ) (g : Dev Cert.SsmDiscIdeal.nD → PrngReg), Pre_SsmDiscIdeal m →
    θ_run (Cert.SsmDiscIdeal.defs (F := Ideal)) (onTc (τ := Cert.SsmDiscIdeal.τ) (Cert.SsmDiscIdeal.main (F := Ideal))) ⟨m, fun _ => 0, g⟩ (fun r => (∀ c : Dev Cert.SsmDiscIdeal.nD,
      r.2.mem ((c.tc : Thread Cert.SsmDiscIdeal.nD Cert.SsmDiscIdeal.τ).loc Cert.SsmDiscIdeal.main_arg0) = m ((c.tc : Thread Cert.SsmDiscIdeal.nD Cert.SsmDiscIdeal.τ).loc Cert.SsmDiscIdeal.main_arg0)
      ∧ r.2.mem ((c.tc : Thread Cert.SsmDiscIdeal.nD Cert.SsmDiscIdeal.τ).loc Cert.SsmDiscIdeal.main_arg1) = m ((c.tc : Thread Cert.SsmDiscIdeal.nD Cert.SsmDiscIdeal.τ).loc Cert.SsmDiscIdeal.main_arg1)
      ∧ r.2.mem ((c.tc : Thread Cert.SsmDiscIdeal.nD Cert.SsmDiscIdeal.τ).loc Cert.SsmDiscIdeal.main_arg2) = m ((c.tc : Thread Cert.SsmDiscIdeal.nD Cert.SsmDiscIdeal.τ).loc Cert.SsmDiscIdeal.main_arg2)
      ∧ r.2.mem ((c.tc : Thread Cert.SsmDiscIdeal.nD Cert.SsmDiscIdeal.τ).loc Cert.SsmDiscIdeal.main_arg3) = m ((c.tc : Thread Cert.SsmDiscIdeal.nD Cert.SsmDiscIdeal.τ).loc Cert.SsmDiscIdeal.main_arg3)
      ∧ r.2.mem ((c.tc : Thread Cert.SsmDiscIdeal.nD Cert.SsmDiscIdeal.τ).loc Cert.SsmDiscIdeal.main_arg4) = m ((c.tc : Thread Cert.SsmDiscIdeal.nD Cert.SsmDiscIdeal.τ).loc Cert.SsmDiscIdeal.main_arg4))
      ∧ r.2.sem = fun _ => 0)

def quiescent_SsmDiscRefIdeal [hSsmDiscRefIdeal : Cert.SsmDiscRefIdeal.Facts] : Prop :=
  ∀ (m : (ℓ : Loc Cert.SsmDiscRefIdeal.nD Cert.SsmDiscRefIdeal.τ Cert.SsmDiscRefIdeal.sig) → Buf (Elt Ideal) ℓ) (g : Dev Cert.SsmDiscRefIdeal.nD → PrngReg), Pre_SsmDiscRefIdeal m →
    θ_run (Cert.SsmDiscRefIdeal.defs (F := Ideal)) (onTc (τ := Cert.SsmDiscRefIdeal.τ) (Cert.SsmDiscRefIdeal.main (F := Ideal))) ⟨m, fun _ => 0, g⟩ (fun r => (∀ c : Dev Cert.SsmDiscRefIdeal.nD,
      r.2.mem ((c.tc : Thread Cert.SsmDiscRefIdeal.nD Cert.SsmDiscRefIdeal.τ).loc Cert.SsmDiscRefIdeal.main_arg0) = m ((c.tc : Thread Cert.SsmDiscRefIdeal.nD Cert.SsmDiscRefIdeal.τ).loc Cert.SsmDiscRefIdeal.main_arg0)
      ∧ r.2.mem ((c.tc : Thread Cert.SsmDiscRefIdeal.nD Cert.SsmDiscRefIdeal.τ).loc Cert.SsmDiscRefIdeal.main_arg1) = m ((c.tc : Thread Cert.SsmDiscRefIdeal.nD Cert.SsmDiscRefIdeal.τ).loc Cert.SsmDiscRefIdeal.main_arg1)
      ∧ r.2.mem ((c.tc : Thread Cert.SsmDiscRefIdeal.nD Cert.SsmDiscRefIdeal.τ).loc Cert.SsmDiscRefIdeal.main_arg2) = m ((c.tc : Thread Cert.SsmDiscRefIdeal.nD Cert.SsmDiscRefIdeal.τ).loc Cert.SsmDiscRefIdeal.main_arg2)
      ∧ r.2.mem ((c.tc : Thread Cert.SsmDiscRefIdeal.nD Cert.SsmDiscRefIdeal.τ).loc Cert.SsmDiscRefIdeal.main_arg3) = m ((c.tc : Thread Cert.SsmDiscRefIdeal.nD Cert.SsmDiscRefIdeal.τ).loc Cert.SsmDiscRefIdeal.main_arg3)
      ∧ r.2.mem ((c.tc : Thread Cert.SsmDiscRefIdeal.nD Cert.SsmDiscRefIdeal.τ).loc Cert.SsmDiscRefIdeal.main_arg4) = m ((c.tc : Thread Cert.SsmDiscRefIdeal.nD Cert.SsmDiscRefIdeal.τ).loc Cert.SsmDiscRefIdeal.main_arg4))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0)
      ∧ r.2.mem ((c.tc : Thread Cert.SumSmall.nD Cert.SumSmall.τ).loc Cert.SumSmall.main_arg1) = m ((c.tc : Thread Cert.SumSmall.nD Cert.SumSmall.τ).loc Cert.SumSmall.main_arg1)
      ∧ r.2.mem ((c.tc : Thread Cert.SumSmall.nD Cert.SumSmall.τ).loc Cert.SumSmall.main_arg2) = m ((c.tc : Thread Cert.SumSmall.nD Cert.SumSmall.τ).loc Cert.SumSmall.main_arg2))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
      ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
      ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0)
      ∧ r.2.mem ((c.tc : Thread Cert.SumSmallRefIdeal.nD Cert.SumSmallRefIdeal.τ).loc Cert.SumSmallRefIdeal.main_arg1) = m ((c.tc : Thread Cert.SumSmallRefIdeal.nD Cert.SumSmallRefIdeal.τ).loc Cert.SumSmallRefIdeal.main_arg1)
      ∧ r.2.mem ((c.tc : Thread Cert.SumSmallRefIdeal.nD Cert.SumSmallRefIdeal.τ).loc Cert.SumSmallRefIdeal.main_arg2) = m ((c.tc : Thread Cert.SumSmallRefIdeal.nD Cert.SumSmallRefIdeal.τ).loc Cert.SumSmallRefIdeal.main_arg2))
      ∧ r.2.sem = fun _ => 0)

def preserves_MlpUpBwd_MlpUpBwdIdeal : Prop :=
  True

def algebraic_MlpUpBwdIdeal_MlpUpBwdRefIdeal [hMlpUpBwdIdeal : Cert.MlpUpBwdIdeal.Facts] [hMlpUpBwdRefIdeal : Cert.MlpUpBwdRefIdeal.Facts] : Prop :=
  ∀ (m : (ℓ : Loc Cert.MlpUpBwdIdeal.nD Cert.MlpUpBwdIdeal.τ Cert.MlpUpBwdIdeal.sig) → Buf (Elt Ideal) ℓ) (g : Dev Cert.MlpUpBwdIdeal.nD → PrngReg)
    (m' : (ℓ : Loc Cert.MlpUpBwdRefIdeal.nD Cert.MlpUpBwdRefIdeal.τ Cert.MlpUpBwdRefIdeal.sig) → Buf (Elt Ideal) ℓ) (g' : Dev Cert.MlpUpBwdRefIdeal.nD → PrngReg), Pre_MlpUpBwdIdeal m →
    (∀ c : Dev Cert.MlpUpBwdIdeal.nD,
      m' ((c.tc : Thread Cert.MlpUpBwdRefIdeal.nD Cert.MlpUpBwdRefIdeal.τ).loc Cert.MlpUpBwdRefIdeal.main_arg0) = m ((c.tc : Thread Cert.MlpUpBwdIdeal.nD Cert.MlpUpBwdIdeal.τ).loc Cert.MlpUpBwdIdeal.main_arg0)
      ∧ m' ((c.tc : Thread Cert.MlpUpBwdRefIdeal.nD Cert.MlpUpBwdRefIdeal.τ).loc Cert.MlpUpBwdRefIdeal.main_arg1) = m ((c.tc : Thread Cert.MlpUpBwdIdeal.nD Cert.MlpUpBwdIdeal.τ).loc Cert.MlpUpBwdIdeal.main_arg1)
      ∧ m' ((c.tc : Thread Cert.MlpUpBwdRefIdeal.nD Cert.MlpUpBwdRefIdeal.τ).loc Cert.MlpUpBwdRefIdeal.main_arg2) = m ((c.tc : Thread Cert.MlpUpBwdIdeal.nD Cert.MlpUpBwdIdeal.τ).loc Cert.MlpUpBwdIdeal.main_arg2)
      ∧ m' ((c.tc : Thread Cert.MlpUpBwdRefIdeal.nD Cert.MlpUpBwdRefIdeal.τ).loc Cert.MlpUpBwdRefIdeal.main_arg3) = m ((c.tc : Thread Cert.MlpUpBwdIdeal.nD Cert.MlpUpBwdIdeal.τ).loc Cert.MlpUpBwdIdeal.main_arg3)
      ∧ m' ((c.tc : Thread Cert.MlpUpBwdRefIdeal.nD Cert.MlpUpBwdRefIdeal.τ).loc Cert.MlpUpBwdRefIdeal.main_arg4) = m ((c.tc : Thread Cert.MlpUpBwdIdeal.nD Cert.MlpUpBwdIdeal.τ).loc Cert.MlpUpBwdIdeal.main_arg4)) →
    ∃ (v0 : (c : Dev Cert.MlpUpBwdIdeal.nD) → Buf (Elt Ideal) ((c.tc : Thread Cert.MlpUpBwdIdeal.nD Cert.MlpUpBwdIdeal.τ).loc Cert.MlpUpBwdIdeal.main_v3_0)) (v1 : (c : Dev Cert.MlpUpBwdIdeal.nD) → Buf (Elt Ideal) ((c.tc : Thread Cert.MlpUpBwdIdeal.nD Cert.MlpUpBwdIdeal.τ).loc Cert.MlpUpBwdIdeal.main_v3_1)) (v2 : (c : Dev Cert.MlpUpBwdIdeal.nD) → Buf (Elt Ideal) ((c.tc : Thread Cert.MlpUpBwdIdeal.nD Cert.MlpUpBwdIdeal.τ).loc Cert.MlpUpBwdIdeal.main_v3_2)),
      θ_run (Cert.MlpUpBwdIdeal.defs (F := Ideal)) (onTc (τ := Cert.MlpUpBwdIdeal.τ) (Cert.MlpUpBwdIdeal.main (F := Ideal))) ⟨m, fun _ => 0, g⟩ (fun r => ∀ c : Dev Cert.MlpUpBwdIdeal.nD,
          r.2.mem ((c.tc : Thread Cert.MlpUpBwdIdeal.nD Cert.MlpUpBwdIdeal.τ).loc Cert.MlpUpBwdIdeal.main_v3_0) = v0 c
          ∧ r.2.mem ((c.tc : Thread Cert.MlpUpBwdIdeal.nD Cert.MlpUpBwdIdeal.τ).loc Cert.MlpUpBwdIdeal.main_v3_1) = v1 c
          ∧ r.2.mem ((c.tc : Thread Cert.MlpUpBwdIdeal.nD Cert.MlpUpBwdIdeal.τ).loc Cert.MlpUpBwdIdeal.main_v3_2) = v2 c
          ∧ r.2.mem ((c.tc : Thread Cert.MlpUpBwdIdeal.nD Cert.MlpUpBwdIdeal.τ).loc Cert.MlpUpBwdIdeal.main_arg0) = m ((c.tc : Thread Cert.MlpUpBwdIdeal.nD Cert.MlpUpBwdIdeal.τ).loc Cert.MlpUpBwdIdeal.main_arg0)
          ∧ r.2.mem ((c.tc : Thread Cert.MlpUpBwdIdeal.nD Cert.MlpUpBwdIdeal.τ).loc Cert.MlpUpBwdIdeal.main_arg1) = m ((c.tc : Thread Cert.MlpUpBwdIdeal.nD Cert.MlpUpBwdIdeal.τ).loc Cert.MlpUpBwdIdeal.main_arg1)
          ∧ r.2.mem ((c.tc : Thread Cert.MlpUpBwdIdeal.nD Cert.MlpUpBwdIdeal.τ).loc Cert.MlpUpBwdIdeal.main_arg2) = m ((c.tc : Thread Cert.MlpUpBwdIdeal.nD Cert.MlpUpBwdIdeal.τ).loc Cert.MlpUpBwdIdeal.main_arg2)
          ∧ r.2.mem ((c.tc : Thread Cert.MlpUpBwdIdeal.nD Cert.MlpUpBwdIdeal.τ).loc Cert.MlpUpBwdIdeal.main_arg3) = m ((c.tc : Thread Cert.MlpUpBwdIdeal.nD Cert.MlpUpBwdIdeal.τ).loc Cert.MlpUpBwdIdeal.main_arg3)
          ∧ r.2.mem ((c.tc : Thread Cert.MlpUpBwdIdeal.nD Cert.MlpUpBwdIdeal.τ).loc Cert.MlpUpBwdIdeal.main_arg4) = m ((c.tc : Thread Cert.MlpUpBwdIdeal.nD Cert.MlpUpBwdIdeal.τ).loc Cert.MlpUpBwdIdeal.main_arg4))
      ∧ θ_run (Cert.MlpUpBwdRefIdeal.defs (F := Ideal)) (onTc (τ := Cert.MlpUpBwdRefIdeal.τ) (Cert.MlpUpBwdRefIdeal.main (F := Ideal))) ⟨m', fun _ => 0, g'⟩ (fun r => ∀ c : Dev Cert.MlpUpBwdRefIdeal.nD,
          r.2.mem ((c.tc : Thread Cert.MlpUpBwdRefIdeal.nD Cert.MlpUpBwdRefIdeal.τ).loc Cert.MlpUpBwdRefIdeal.main_v39) = v0 c
          ∧ r.2.mem ((c.tc : Thread Cert.MlpUpBwdRefIdeal.nD Cert.MlpUpBwdRefIdeal.τ).loc Cert.MlpUpBwdRefIdeal.main_v41) = v1 c
          ∧ r.2.mem ((c.tc : Thread Cert.MlpUpBwdRefIdeal.nD Cert.MlpUpBwdRefIdeal.τ).loc Cert.MlpUpBwdRefIdeal.main_v40) = v2 c
          ∧ r.2.mem ((c.tc : Thread Cert.MlpUpBwdRefIdeal.nD Cert.MlpUpBwdRefIdeal.τ).loc Cert.MlpUpBwdRefIdeal.main_arg0) = m' ((c.tc : Thread Cert.MlpUpBwdRefIdeal.nD Cert.MlpUpBwdRefIdeal.τ).loc Cert.MlpUpBwdRefIdeal.main_arg0)
          ∧ r.2.mem ((c.tc : Thread Cert.MlpUpBwdRefIdeal.nD Cert.MlpUpBwdRefIdeal.τ).loc Cert.MlpUpBwdRefIdeal.main_arg1) = m' ((c.tc : Thread Cert.MlpUpBwdRefIdeal.nD Cert.MlpUpBwdRefIdeal.τ).loc Cert.MlpUpBwdRefIdeal.main_arg1)
          ∧ r.2.mem ((c.tc : Thread Cert.MlpUpBwdRefIdeal.nD Cert.MlpUpBwdRefIdeal.τ).loc Cert.MlpUpBwdRefIdeal.main_arg2) = m' ((c.tc : Thread Cert.MlpUpBwdRefIdeal.nD Cert.MlpUpBwdRefIdeal.τ).loc Cert.MlpUpBwdRefIdeal.main_arg2)
          ∧ r.2.mem ((c.tc : Thread Cert.MlpUpBwdRefIdeal.nD Cert.MlpUpBwdRefIdeal.τ).loc Cert.MlpUpBwdRefIdeal.main_arg3) = m' ((c.tc : Thread Cert.MlpUpBwdRefIdeal.nD Cert.MlpUpBwdRefIdeal.τ).loc Cert.MlpUpBwdRefIdeal.main_arg3)
          ∧ r.2.mem ((c.tc : Thread Cert.MlpUpBwdRefIdeal.nD Cert.MlpUpBwdRefIdeal.τ).loc Cert.MlpUpBwdRefIdeal.main_arg4) = m' ((c.tc : Thread Cert.MlpUpBwdRefIdeal.nD Cert.MlpUpBwdRefIdeal.τ).loc Cert.MlpUpBwdRefIdeal.main_arg4))

def preserves_MlpDownBwd_MlpDownBwdIdeal : Prop :=
  True

def algebraic_MlpDownBwdIdeal_MlpDownBwdRefIdeal [hMlpDownBwdIdeal : Cert.MlpDownBwdIdeal.Facts] [hMlpDownBwdRefIdeal : Cert.MlpDownBwdRefIdeal.Facts] : Prop :=
  ∀ (m : (ℓ : Loc Cert.MlpDownBwdIdeal.nD Cert.MlpDownBwdIdeal.τ Cert.MlpDownBwdIdeal.sig) → Buf (Elt Ideal) ℓ) (g : Dev Cert.MlpDownBwdIdeal.nD → PrngReg)
    (m' : (ℓ : Loc Cert.MlpDownBwdRefIdeal.nD Cert.MlpDownBwdRefIdeal.τ Cert.MlpDownBwdRefIdeal.sig) → Buf (Elt Ideal) ℓ) (g' : Dev Cert.MlpDownBwdRefIdeal.nD → PrngReg), Pre_MlpDownBwdIdeal m →
    (∀ c : Dev Cert.MlpDownBwdIdeal.nD,
      m' ((c.tc : Thread Cert.MlpDownBwdRefIdeal.nD Cert.MlpDownBwdRefIdeal.τ).loc Cert.MlpDownBwdRefIdeal.main_arg0) = m ((c.tc : Thread Cert.MlpDownBwdIdeal.nD Cert.MlpDownBwdIdeal.τ).loc Cert.MlpDownBwdIdeal.main_arg0)
      ∧ m' ((c.tc : Thread Cert.MlpDownBwdRefIdeal.nD Cert.MlpDownBwdRefIdeal.τ).loc Cert.MlpDownBwdRefIdeal.main_arg1) = m ((c.tc : Thread Cert.MlpDownBwdIdeal.nD Cert.MlpDownBwdIdeal.τ).loc Cert.MlpDownBwdIdeal.main_arg1)
      ∧ m' ((c.tc : Thread Cert.MlpDownBwdRefIdeal.nD Cert.MlpDownBwdRefIdeal.τ).loc Cert.MlpDownBwdRefIdeal.main_arg2) = m ((c.tc : Thread Cert.MlpDownBwdIdeal.nD Cert.MlpDownBwdIdeal.τ).loc Cert.MlpDownBwdIdeal.main_arg2)) →
    ∃ (v0 : (c : Dev Cert.MlpDownBwdIdeal.nD) → Buf (Elt Ideal) ((c.tc : Thread Cert.MlpDownBwdIdeal.nD Cert.MlpDownBwdIdeal.τ).loc Cert.MlpDownBwdIdeal.main_v6)),
      θ_run (Cert.MlpDownBwdIdeal.defs (F := Ideal)) (onTc (τ := Cert.MlpDownBwdIdeal.τ) (Cert.MlpDownBwdIdeal.main (F := Ideal))) ⟨m, fun _ => 0, g⟩ (fun r => ∀ c : Dev Cert.MlpDownBwdIdeal.nD,
          r.2.mem ((c.tc : Thread Cert.MlpDownBwdIdeal.nD Cert.MlpDownBwdIdeal.τ).loc Cert.MlpDownBwdIdeal.main_v6) = v0 c
          ∧ r.2.mem ((c.tc : Thread Cert.MlpDownBwdIdeal.nD Cert.MlpDownBwdIdeal.τ).loc Cert.MlpDownBwdIdeal.main_arg0) = m ((c.tc : Thread Cert.MlpDownBwdIdeal.nD Cert.MlpDownBwdIdeal.τ).loc Cert.MlpDownBwdIdeal.main_arg0)
          ∧ r.2.mem ((c.tc : Thread Cert.MlpDownBwdIdeal.nD Cert.MlpDownBwdIdeal.τ).loc Cert.MlpDownBwdIdeal.main_arg1) = m ((c.tc : Thread Cert.MlpDownBwdIdeal.nD Cert.MlpDownBwdIdeal.τ).loc Cert.MlpDownBwdIdeal.main_arg1)
          ∧ r.2.mem ((c.tc : Thread Cert.MlpDownBwdIdeal.nD Cert.MlpDownBwdIdeal.τ).loc Cert.MlpDownBwdIdeal.main_arg2) = m ((c.tc : Thread Cert.MlpDownBwdIdeal.nD Cert.MlpDownBwdIdeal.τ).loc Cert.MlpDownBwdIdeal.main_arg2))
      ∧ θ_run (Cert.MlpDownBwdRefIdeal.defs (F := Ideal)) (onTc (τ := Cert.MlpDownBwdRefIdeal.τ) (Cert.MlpDownBwdRefIdeal.main (F := Ideal))) ⟨m', fun _ => 0, g'⟩ (fun r => ∀ c : Dev Cert.MlpDownBwdRefIdeal.nD,
          r.2.mem ((c.tc : Thread Cert.MlpDownBwdRefIdeal.nD Cert.MlpDownBwdRefIdeal.τ).loc Cert.MlpDownBwdRefIdeal.main_v12) = v0 c
          ∧ r.2.mem ((c.tc : Thread Cert.MlpDownBwdRefIdeal.nD Cert.MlpDownBwdRefIdeal.τ).loc Cert.MlpDownBwdRefIdeal.main_arg0) = m' ((c.tc : Thread Cert.MlpDownBwdRefIdeal.nD Cert.MlpDownBwdRefIdeal.τ).loc Cert.MlpDownBwdRefIdeal.main_arg0)
          ∧ r.2.mem ((c.tc : Thread Cert.MlpDownBwdRefIdeal.nD Cert.MlpDownBwdRefIdeal.τ).loc Cert.MlpDownBwdRefIdeal.main_arg1) = m' ((c.tc : Thread Cert.MlpDownBwdRefIdeal.nD Cert.MlpDownBwdRefIdeal.τ).loc Cert.MlpDownBwdRefIdeal.main_arg1)
          ∧ r.2.mem ((c.tc : Thread Cert.MlpDownBwdRefIdeal.nD Cert.MlpDownBwdRefIdeal.τ).loc Cert.MlpDownBwdRefIdeal.main_arg2) = m' ((c.tc : Thread Cert.MlpDownBwdRefIdeal.nD Cert.MlpDownBwdRefIdeal.τ).loc Cert.MlpDownBwdRefIdeal.main_arg2))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v3_0)) (v1 : (c : Dev Cert.InBwdIdeal.nD) → Buf (Elt Ideal) ((c.tc : Thread Cert.InBwdIdeal.nD Cert.InBwdIdeal.τ).loc Cert.InBwdIdeal.main_v3_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v3_0) = v0 c
          ∧ r.2.mem ((c.tc : Thread Cert.InBwdIdeal.nD Cert.InBwdIdeal.τ).loc Cert.InBwdIdeal.main_v3_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v39) = v0 c
          ∧ r.2.mem ((c.tc : Thread Cert.InBwdRefIdeal.nD Cert.InBwdRefIdeal.τ).loc Cert.InBwdRefIdeal.main_v40) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4))

def preserves_MixBwd_MixBwdIdeal : Prop :=
  IdealRules.named_const.Statement Cert.MixBwdIdeal.κ "gelu_a" .f32 0x3D372713#32 ((8943 / 200000 : ℝ) : EReal)
  ∧ IdealRules.named_const.Statement Cert.MixBwdIdeal.κ "gelu_3a" .f32 0x3E095D4F#32 ((26829 / 200000 : ℝ) : EReal)

def algebraic_MixBwdIdeal_MixBwdRefIdeal_pre_mix_finite [hMixBwdIdeal : Cert.MixBwdIdeal.Facts] [hMixBwdRefIdeal : Cert.MixBwdRefIdeal.Facts] [hPre_mix_finite : Cert.Pre_mix_finite.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal_mix_finite m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)
      ∧ m' ((c.tc : Thread Cert.MixBwdRefIdeal.nD Cert.MixBwdRefIdeal.τ).loc Cert.MixBwdRefIdeal.main_arg5) = m ((c.tc : Thread Cert.MixBwdIdeal.nD Cert.MixBwdIdeal.τ).loc Cert.MixBwdIdeal.main_arg5)
      ∧ m' ((c.tc : Thread Cert.MixBwdRefIdeal.nD Cert.MixBwdRefIdeal.τ).loc Cert.MixBwdRefIdeal.main_arg6) = m ((c.tc : Thread Cert.MixBwdIdeal.nD Cert.MixBwdIdeal.τ).loc Cert.MixBwdIdeal.main_arg6)
      ∧ m' ((c.tc : Thread Cert.MixBwdRefIdeal.nD Cert.MixBwdRefIdeal.τ).loc Cert.MixBwdRefIdeal.main_arg7) = m ((c.tc : Thread Cert.MixBwdIdeal.nD Cert.MixBwdIdeal.τ).loc Cert.MixBwdIdeal.main_arg7)) →
    ∃ (v0 : (c : Dev Cert.MixBwdIdeal.nD) → Buf (Elt Ideal) ((c.tc : Thread Cert.MixBwdIdeal.nD Cert.MixBwdIdeal.τ).loc Cert.MixBwdIdeal.main_v5_0)) (v1 : (c : Dev Cert.MixBwdIdeal.nD) → Buf (Elt Ideal) ((c.tc : Thread Cert.MixBwdIdeal.nD Cert.MixBwdIdeal.τ).loc Cert.MixBwdIdeal.main_v5_1)) (v2 : (c : Dev Cert.MixBwdIdeal.nD) → Buf (Elt Ideal) ((c.tc : Thread Cert.MixBwdIdeal.nD Cert.MixBwdIdeal.τ).loc Cert.MixBwdIdeal.main_v5_2)) (v3 : (c : Dev Cert.MixBwdIdeal.nD) → Buf (Elt Ideal) ((c.tc : Thread Cert.MixBwdIdeal.nD Cert.MixBwdIdeal.τ).loc Cert.MixBwdIdeal.main_v5_3)) (v4 : (c : Dev Cert.MixBwdIdeal.nD) → Buf (Elt Ideal) ((c.tc : Thread Cert.MixBwdIdeal.nD Cert.MixBwdIdeal.τ).loc Cert.MixBwdIdeal.main_v5_4)) (v5 : (c : Dev Cert.MixBwdIdeal.nD) → Buf (Elt Ideal) ((c.tc : Thread Cert.MixBwdIdeal.nD Cert.MixBwdIdeal.τ).loc Cert.MixBwdIdeal.main_v5_5)) (v6 : (c : Dev Cert.MixBwdIdeal.nD) → Buf (Elt Ideal) ((c.tc : Thread Cert.MixBwdIdeal.nD Cert.MixBwdIdeal.τ).loc Cert.MixBwdIdeal.main_v5_6)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v5_0) = v0 c
          ∧ r.2.mem ((c.tc : Thread Cert.MixBwdIdeal.nD Cert.MixBwdIdeal.τ).loc Cert.MixBwdIdeal.main_v5_1) = v1 c
          ∧ r.2.mem ((c.tc : Thread Cert.MixBwdIdeal.nD Cert.MixBwdIdeal.τ).loc Cert.MixBwdIdeal.main_v5_2) = v2 c
          ∧ r.2.mem ((c.tc : Thread Cert.MixBwdIdeal.nD Cert.MixBwdIdeal.τ).loc Cert.MixBwdIdeal.main_v5_3) = v3 c
          ∧ r.2.mem ((c.tc : Thread Cert.MixBwdIdeal.nD Cert.MixBwdIdeal.τ).loc Cert.MixBwdIdeal.main_v5_4) = v4 c
          ∧ r.2.mem ((c.tc : Thread Cert.MixBwdIdeal.nD Cert.MixBwdIdeal.τ).loc Cert.MixBwdIdeal.main_v5_5) = v5 c
          ∧ r.2.mem ((c.tc : Thread Cert.MixBwdIdeal.nD Cert.MixBwdIdeal.τ).loc Cert.MixBwdIdeal.main_v5_6) = v6 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v114) = v0 c
          ∧ r.2.mem ((c.tc : Thread Cert.MixBwdRefIdeal.nD Cert.MixBwdRefIdeal.τ).loc Cert.MixBwdRefIdeal.main_v135) = v1 c
          ∧ r.2.mem ((c.tc : Thread Cert.MixBwdRefIdeal.nD Cert.MixBwdRefIdeal.τ).loc Cert.MixBwdRefIdeal.main_v151) = v2 c
          ∧ r.2.mem ((c.tc : Thread Cert.MixBwdRefIdeal.nD Cert.MixBwdRefIdeal.τ).loc Cert.MixBwdRefIdeal.main_v152) = v3 c
          ∧ r.2.mem ((c.tc : Thread Cert.MixBwdRefIdeal.nD Cert.MixBwdRefIdeal.τ).loc Cert.MixBwdRefIdeal.main_v116) = v4 c
          ∧ r.2.mem ((c.tc : Thread Cert.MixBwdRefIdeal.nD Cert.MixBwdRefIdeal.τ).loc Cert.MixBwdRefIdeal.main_v115) = v5 c
          ∧ r.2.mem ((c.tc : Thread Cert.MixBwdRefIdeal.nD Cert.MixBwdRefIdeal.τ).loc Cert.MixBwdRefIdeal.main_v154) = v6 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4)
          ∧ r.2.mem ((c.tc : Thread Cert.MixBwdRefIdeal.nD Cert.MixBwdRefIdeal.τ).loc Cert.MixBwdRefIdeal.main_arg5) = m' ((c.tc : Thread Cert.MixBwdRefIdeal.nD Cert.MixBwdRefIdeal.τ).loc Cert.MixBwdRefIdeal.main_arg5)
          ∧ r.2.mem ((c.tc : Thread Cert.MixBwdRefIdeal.nD Cert.MixBwdRefIdeal.τ).loc Cert.MixBwdRefIdeal.main_arg6) = m' ((c.tc : Thread Cert.MixBwdRefIdeal.nD Cert.MixBwdRefIdeal.τ).loc Cert.MixBwdRefIdeal.main_arg6)
          ∧ r.2.mem ((c.tc : Thread Cert.MixBwdRefIdeal.nD Cert.MixBwdRefIdeal.τ).loc Cert.MixBwdRefIdeal.main_arg7) = m' ((c.tc : Thread Cert.MixBwdRefIdeal.nD Cert.MixBwdRefIdeal.τ).loc Cert.MixBwdRefIdeal.main_arg7))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v2)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v2) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v4) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1))

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v2)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v2) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v4) = v0 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v2)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v2) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v4) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_GradGlu_GradGluIdeal : Prop :=
  True

def algebraic_GradGluIdeal_GradGluRefIdeal [hGradGluIdeal : Cert.GradGluIdeal.Facts] [hGradGluRefIdeal : Cert.GradGluRefIdeal.Facts] : Prop :=
  ∀ (m : (ℓ : Loc Cert.GradGluIdeal.nD Cert.GradGluIdeal.τ Cert.GradGluIdeal.sig) → Buf (Elt Ideal) ℓ) (g : Dev Cert.GradGluIdeal.nD → PrngReg)
    (m' : (ℓ : Loc Cert.GradGluRefIdeal.nD Cert.GradGluRefIdeal.τ Cert.GradGluRefIdeal.sig) → Buf (Elt Ideal) ℓ) (g' : Dev Cert.GradGluRefIdeal.nD → PrngReg), Pre_GradGluIdeal m →
    (∀ c : Dev Cert.GradGluIdeal.nD,
      m' ((c.tc : Thread Cert.GradGluRefIdeal.nD Cert.GradGluRefIdeal.τ).loc Cert.GradGluRefIdeal.main_arg0) = m ((c.tc : Thread Cert.GradGluIdeal.nD Cert.GradGluIdeal.τ).loc Cert.GradGluIdeal.main_arg0)
      ∧ m' ((c.tc : Thread Cert.GradGluRefIdeal.nD Cert.GradGluRefIdeal.τ).loc Cert.GradGluRefIdeal.main_arg1) = m ((c.tc : Thread Cert.GradGluIdeal.nD Cert.GradGluIdeal.τ).loc Cert.GradGluIdeal.main_arg1)) →
    ∃ (v0 : (c : Dev Cert.GradGluIdeal.nD) → Buf (Elt Ideal) ((c.tc : Thread Cert.GradGluIdeal.nD Cert.GradGluIdeal.τ).loc Cert.GradGluIdeal.main_v2)),
      θ_run (Cert.GradGluIdeal.defs (F := Ideal)) (onTc (τ := Cert.GradGluIdeal.τ) (Cert.GradGluIdeal.main (F := Ideal))) ⟨m, fun _ => 0, g⟩ (fun r => ∀ c : Dev Cert.GradGluIdeal.nD,
          r.2.mem ((c.tc : Thread Cert.GradGluIdeal.nD Cert.GradGluIdeal.τ).loc Cert.GradGluIdeal.main_v2) = v0 c
          ∧ r.2.mem ((c.tc : Thread Cert.GradGluIdeal.nD Cert.GradGluIdeal.τ).loc Cert.GradGluIdeal.main_arg0) = m ((c.tc : Thread Cert.GradGluIdeal.nD Cert.GradGluIdeal.τ).loc Cert.GradGluIdeal.main_arg0)
          ∧ r.2.mem ((c.tc : Thread Cert.GradGluIdeal.nD Cert.GradGluIdeal.τ).loc Cert.GradGluIdeal.main_arg1) = m ((c.tc : Thread Cert.GradGluIdeal.nD Cert.GradGluIdeal.τ).loc Cert.GradGluIdeal.main_arg1))
      ∧ θ_run (Cert.GradGluRefIdeal.defs (F := Ideal)) (onTc (τ := Cert.GradGluRefIdeal.τ) (Cert.GradGluRefIdeal.main (F := Ideal))) ⟨m', fun _ => 0, g'⟩ (fun r => ∀ c : Dev Cert.GradGluRefIdeal.nD,
          r.2.mem ((c.tc : Thread Cert.GradGluRefIdeal.nD Cert.GradGluRefIdeal.τ).loc Cert.GradGluRefIdeal.main_v4) = v0 c
          ∧ r.2.mem ((c.tc : Thread Cert.GradGluRefIdeal.nD Cert.GradGluRefIdeal.τ).loc Cert.GradGluRefIdeal.main_arg0) = m' ((c.tc : Thread Cert.GradGluRefIdeal.nD Cert.GradGluRefIdeal.τ).loc Cert.GradGluRefIdeal.main_arg0)
          ∧ r.2.mem ((c.tc : Thread Cert.GradGluRefIdeal.nD Cert.GradGluRefIdeal.τ).loc Cert.GradGluRefIdeal.main_arg1) = m' ((c.tc : Thread Cert.GradGluRefIdeal.nD Cert.GradGluRefIdeal.τ).loc Cert.GradGluRefIdeal.main_arg1))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v2)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v2) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v4) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v2_0)) (v1 : (c : Dev Cert.MlpUpIdeal.nD) → Buf (Elt Ideal) ((c.tc : Thread Cert.MlpUpIdeal.nD Cert.MlpUpIdeal.τ).loc Cert.MlpUpIdeal.main_v2_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v2_0) = v0 c
          ∧ r.2.mem ((c.tc : Thread Cert.MlpUpIdeal.nD Cert.MlpUpIdeal.τ).loc Cert.MlpUpIdeal.main_v2_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v2) = v0 c
          ∧ r.2.mem ((c.tc : Thread Cert.MlpUpRefIdeal.nD Cert.MlpUpRefIdeal.τ).loc Cert.MlpUpRefIdeal.main_v4) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpDownLoss_MlpDownLossIdeal : Prop :=
  True

def algebraic_MlpDownLossIdeal_MlpDownLossRefIdeal [hMlpDownLossIdeal : Cert.MlpDownLossIdeal.Facts] [hMlpDownLossRefIdeal : Cert.MlpDownLossRefIdeal.Facts] : Prop :=
  ∀ (m : (ℓ : Loc Cert.MlpDownLossIdeal.nD Cert.MlpDownLossIdeal.τ Cert.MlpDownLossIdeal.sig) → Buf (Elt Ideal) ℓ) (g : Dev Cert.MlpDownLossIdeal.nD → PrngReg)
    (m' : (ℓ : Loc Cert.MlpDownLossRefIdeal.nD Cert.MlpDownLossRefIdeal.τ Cert.MlpDownLossRefIdeal.sig) → Buf (Elt Ideal) ℓ) (g' : Dev Cert.MlpDownLossRefIdeal.nD → PrngReg), Pre_MlpDownLossIdeal m →
    (∀ c : Dev Cert.MlpDownLossIdeal.nD,
      m' ((c.tc : Thread Cert.MlpDownLossRefIdeal.nD Cert.MlpDownLossRefIdeal.τ).loc Cert.MlpDownLossRefIdeal.main_arg0) = m ((c.tc : Thread Cert.MlpDownLossIdeal.nD Cert.MlpDownLossIdeal.τ).loc Cert.MlpDownLossIdeal.main_arg0)
      ∧ m' ((c.tc : Thread Cert.MlpDownLossRefIdeal.nD Cert.MlpDownLossRefIdeal.τ).loc Cert.MlpDownLossRefIdeal.main_arg1) = m ((c.tc : Thread Cert.MlpDownLossIdeal.nD Cert.MlpDownLossIdeal.τ).loc Cert.MlpDownLossIdeal.main_arg1)
      ∧ m' ((c.tc : Thread Cert.MlpDownLossRefIdeal.nD Cert.MlpDownLossRefIdeal.τ).loc Cert.MlpDownLossRefIdeal.main_arg2) = m ((c.tc : Thread Cert.MlpDownLossIdeal.nD Cert.MlpDownLossIdeal.τ).loc Cert.MlpDownLossIdeal.main_arg2)
      ∧ m' ((c.tc : Thread Cert.MlpDownLossRefIdeal.nD Cert.MlpDownLossRefIdeal.τ).loc Cert.MlpDownLossRefIdeal.main_arg3) = m ((c.tc : Thread Cert.MlpDownLossIdeal.nD Cert.MlpDownLossIdeal.τ).loc Cert.MlpDownLossIdeal.main_arg3)) →
    ∃ (v0 : (c : Dev Cert.MlpDownLossIdeal.nD) → Buf (Elt Ideal) ((c.tc : Thread Cert.MlpDownLossIdeal.nD Cert.MlpDownLossIdeal.τ).loc Cert.MlpDownLossIdeal.main_v2_0)) (v1 : (c : Dev Cert.MlpDownLossIdeal.nD) → Buf (Elt Ideal) ((c.tc : Thread Cert.MlpDownLossIdeal.nD Cert.MlpDownLossIdeal.τ).loc Cert.MlpDownLossIdeal.main_v2_1)) (v2 : (c : Dev Cert.MlpDownLossIdeal.nD) → Buf (Elt Ideal) ((c.tc : Thread Cert.MlpDownLossIdeal.nD Cert.MlpDownLossIdeal.τ).loc Cert.MlpDownLossIdeal.main_v2_2)),
      θ_run (Cert.MlpDownLossIdeal.defs (F := Ideal)) (onTc (τ := Cert.MlpDownLossIdeal.τ) (Cert.MlpDownLossIdeal.main (F := Ideal))) ⟨m, fun _ => 0, g⟩ (fun r => ∀ c : Dev Cert.MlpDownLossIdeal.nD,
          r.2.mem ((c.tc : Thread Cert.MlpDownLossIdeal.nD Cert.MlpDownLossIdeal.τ).loc Cert.MlpDownLossIdeal.main_v2_0) = v0 c
          ∧ r.2.mem ((c.tc : Thread Cert.MlpDownLossIdeal.nD Cert.MlpDownLossIdeal.τ).loc Cert.MlpDownLossIdeal.main_v2_1) = v1 c
          ∧ r.2.mem ((c.tc : Thread Cert.MlpDownLossIdeal.nD Cert.MlpDownLossIdeal.τ).loc Cert.MlpDownLossIdeal.main_v2_2) = v2 c
          ∧ r.2.mem ((c.tc : Thread Cert.MlpDownLossIdeal.nD Cert.MlpDownLossIdeal.τ).loc Cert.MlpDownLossIdeal.main_arg0) = m ((c.tc : Thread Cert.MlpDownLossIdeal.nD Cert.MlpDownLossIdeal.τ).loc Cert.MlpDownLossIdeal.main_arg0)
          ∧ r.2.mem ((c.tc : Thread Cert.MlpDownLossIdeal.nD Cert.MlpDownLossIdeal.τ).loc Cert.MlpDownLossIdeal.main_arg1) = m ((c.tc : Thread Cert.MlpDownLossIdeal.nD Cert.MlpDownLossIdeal.τ).loc Cert.MlpDownLossIdeal.main_arg1)
          ∧ r.2.mem ((c.tc : Thread Cert.MlpDownLossIdeal.nD Cert.MlpDownLossIdeal.τ).loc Cert.MlpDownLossIdeal.main_arg2) = m ((c.tc : Thread Cert.MlpDownLossIdeal.nD Cert.MlpDownLossIdeal.τ).loc Cert.MlpDownLossIdeal.main_arg2)
          ∧ r.2.mem ((c.tc : Thread Cert.MlpDownLossIdeal.nD Cert.MlpDownLossIdeal.τ).loc Cert.MlpDownLossIdeal.main_arg3) = m ((c.tc : Thread Cert.MlpDownLossIdeal.nD Cert.MlpDownLossIdeal.τ).loc Cert.MlpDownLossIdeal.main_arg3))
      ∧ θ_run (Cert.MlpDownLossRefIdeal.defs (F := Ideal)) (onTc (τ := Cert.MlpDownLossRefIdeal.τ) (Cert.MlpDownLossRefIdeal.main (F := Ideal))) ⟨m', fun _ => 0, g'⟩ (fun r => ∀ c : Dev Cert.MlpDownLossRefIdeal.nD,
          r.2.mem ((c.tc : Thread Cert.MlpDownLossRefIdeal.nD Cert.MlpDownLossRefIdeal.τ).loc Cert.MlpDownLossRefIdeal.main_v16) = v0 c
          ∧ r.2.mem ((c.tc : Thread Cert.MlpDownLossRefIdeal.nD Cert.MlpDownLossRefIdeal.τ).loc Cert.MlpDownLossRefIdeal.main_v17) = v1 c
          ∧ r.2.mem ((c.tc : Thread Cert.MlpDownLossRefIdeal.nD Cert.MlpDownLossRefIdeal.τ).loc Cert.MlpDownLossRefIdeal.main_v21) = v2 c
          ∧ r.2.mem ((c.tc : Thread Cert.MlpDownLossRefIdeal.nD Cert.MlpDownLossRefIdeal.τ).loc Cert.MlpDownLossRefIdeal.main_arg0) = m' ((c.tc : Thread Cert.MlpDownLossRefIdeal.nD Cert.MlpDownLossRefIdeal.τ).loc Cert.MlpDownLossRefIdeal.main_arg0)
          ∧ r.2.mem ((c.tc : Thread Cert.MlpDownLossRefIdeal.nD Cert.MlpDownLossRefIdeal.τ).loc Cert.MlpDownLossRefIdeal.main_arg1) = m' ((c.tc : Thread Cert.MlpDownLossRefIdeal.nD Cert.MlpDownLossRefIdeal.τ).loc Cert.MlpDownLossRefIdeal.main_arg1)
          ∧ r.2.mem ((c.tc : Thread Cert.MlpDownLossRefIdeal.nD Cert.MlpDownLossRefIdeal.τ).loc Cert.MlpDownLossRefIdeal.main_arg2) = m' ((c.tc : Thread Cert.MlpDownLossRefIdeal.nD Cert.MlpDownLossRefIdeal.τ).loc Cert.MlpDownLossRefIdeal.main_arg2)
          ∧ r.2.mem ((c.tc : Thread Cert.MlpDownLossRefIdeal.nD Cert.MlpDownLossRefIdeal.τ).loc Cert.MlpDownLossRefIdeal.main_arg3) = m' ((c.tc : Thread Cert.MlpDownLossRefIdeal.nD Cert.MlpDownLossRefIdeal.τ).loc Cert.MlpDownLossRefIdeal.main_arg3))

def preserves_FwdMix_FwdMixIdeal : Prop :=
  True

def algebraic_FwdMixIdeal_FwdMixRefIdeal [hFwdMixIdeal : Cert.FwdMixIdeal.Facts] [hFwdMixRefIdeal : Cert.FwdMixRefIdeal.Facts] : Prop :=
  ∀ (m : (ℓ : Loc Cert.FwdMixIdeal.nD Cert.FwdMixIdeal.τ Cert.FwdMixIdeal.sig) → Buf (Elt Ideal) ℓ) (g : Dev Cert.FwdMixIdeal.nD → PrngReg)
    (m' : (ℓ : Loc Cert.FwdMixRefIdeal.nD Cert.FwdMixRefIdeal.τ Cert.FwdMixRefIdeal.sig) → Buf (Elt Ideal) ℓ) (g' : Dev Cert.FwdMixRefIdeal.nD → PrngReg), Pre_FwdMixIdeal m →
    (∀ c : Dev Cert.FwdMixIdeal.nD,
      m' ((c.tc : Thread Cert.FwdMixRefIdeal.nD Cert.FwdMixRefIdeal.τ).loc Cert.FwdMixRefIdeal.main_arg0) = m ((c.tc : Thread Cert.FwdMixIdeal.nD Cert.FwdMixIdeal.τ).loc Cert.FwdMixIdeal.main_arg0)
      ∧ m' ((c.tc : Thread Cert.FwdMixRefIdeal.nD Cert.FwdMixRefIdeal.τ).loc Cert.FwdMixRefIdeal.main_arg1) = m ((c.tc : Thread Cert.FwdMixIdeal.nD Cert.FwdMixIdeal.τ).loc Cert.FwdMixIdeal.main_arg1)
      ∧ m' ((c.tc : Thread Cert.FwdMixRefIdeal.nD Cert.FwdMixRefIdeal.τ).loc Cert.FwdMixRefIdeal.main_arg2) = m ((c.tc : Thread Cert.FwdMixIdeal.nD Cert.FwdMixIdeal.τ).loc Cert.FwdMixIdeal.main_arg2)
      ∧ m' ((c.tc : Thread Cert.FwdMixRefIdeal.nD Cert.FwdMixRefIdeal.τ).loc Cert.FwdMixRefIdeal.main_arg3) = m ((c.tc : Thread Cert.FwdMixIdeal.nD Cert.FwdMixIdeal.τ).loc Cert.FwdMixIdeal.main_arg3)
      ∧ m' ((c.tc : Thread Cert.FwdMixRefIdeal.nD Cert.FwdMixRefIdeal.τ).loc Cert.FwdMixRefIdeal.main_arg4) = m ((c.tc : Thread Cert.FwdMixIdeal.nD Cert.FwdMixIdeal.τ).loc Cert.FwdMixIdeal.main_arg4)
      ∧ m' ((c.tc : Thread Cert.FwdMixRefIdeal.nD Cert.FwdMixRefIdeal.τ).loc Cert.FwdMixRefIdeal.main_arg5) = m ((c.tc : Thread Cert.FwdMixIdeal.nD Cert.FwdMixIdeal.τ).loc Cert.FwdMixIdeal.main_arg5)
      ∧ m' ((c.tc : Thread Cert.FwdMixRefIdeal.nD Cert.FwdMixRefIdeal.τ).loc Cert.FwdMixRefIdeal.main_arg6) = m ((c.tc : Thread Cert.FwdMixIdeal.nD Cert.FwdMixIdeal.τ).loc Cert.FwdMixIdeal.main_arg6)
      ∧ m' ((c.tc : Thread Cert.FwdMixRefIdeal.nD Cert.FwdMixRefIdeal.τ).loc Cert.FwdMixRefIdeal.main_arg7) = m ((c.tc : Thread Cert.FwdMixIdeal.nD Cert.FwdMixIdeal.τ).loc Cert.FwdMixIdeal.main_arg7)
      ∧ m' ((c.tc : Thread Cert.FwdMixRefIdeal.nD Cert.FwdMixRefIdeal.τ).loc Cert.FwdMixRefIdeal.main_arg8) = m ((c.tc : Thread Cert.FwdMixIdeal.nD Cert.FwdMixIdeal.τ).loc Cert.FwdMixIdeal.main_arg8)) →
    ∃ (v0 : (c : Dev Cert.FwdMixIdeal.nD) → Buf (Elt Ideal) ((c.tc : Thread Cert.FwdMixIdeal.nD Cert.FwdMixIdeal.τ).loc Cert.FwdMixIdeal.main_v2_0)) (v1 : (c : Dev Cert.FwdMixIdeal.nD) → Buf (Elt Ideal) ((c.tc : Thread Cert.FwdMixIdeal.nD Cert.FwdMixIdeal.τ).loc Cert.FwdMixIdeal.main_v2_1)) (v2 : (c : Dev Cert.FwdMixIdeal.nD) → Buf (Elt Ideal) ((c.tc : Thread Cert.FwdMixIdeal.nD Cert.FwdMixIdeal.τ).loc Cert.FwdMixIdeal.main_v2_2)),
      θ_run (Cert.FwdMixIdeal.defs (F := Ideal)) (onTc (τ := Cert.FwdMixIdeal.τ) (Cert.FwdMixIdeal.main (F := Ideal))) ⟨m, fun _ => 0, g⟩ (fun r => ∀ c : Dev Cert.FwdMixIdeal.nD,
          r.2.mem ((c.tc : Thread Cert.FwdMixIdeal.nD Cert.FwdMixIdeal.τ).loc Cert.FwdMixIdeal.main_v2_0) = v0 c
          ∧ r.2.mem ((c.tc : Thread Cert.FwdMixIdeal.nD Cert.FwdMixIdeal.τ).loc Cert.FwdMixIdeal.main_v2_1) = v1 c
          ∧ r.2.mem ((c.tc : Thread Cert.FwdMixIdeal.nD Cert.FwdMixIdeal.τ).loc Cert.FwdMixIdeal.main_v2_2) = v2 c
          ∧ r.2.mem ((c.tc : Thread Cert.FwdMixIdeal.nD Cert.FwdMixIdeal.τ).loc Cert.FwdMixIdeal.main_arg0) = m ((c.tc : Thread Cert.FwdMixIdeal.nD Cert.FwdMixIdeal.τ).loc Cert.FwdMixIdeal.main_arg0)
          ∧ r.2.mem ((c.tc : Thread Cert.FwdMixIdeal.nD Cert.FwdMixIdeal.τ).loc Cert.FwdMixIdeal.main_arg1) = m ((c.tc : Thread Cert.FwdMixIdeal.nD Cert.FwdMixIdeal.τ).loc Cert.FwdMixIdeal.main_arg1)
          ∧ r.2.mem ((c.tc : Thread Cert.FwdMixIdeal.nD Cert.FwdMixIdeal.τ).loc Cert.FwdMixIdeal.main_arg2) = m ((c.tc : Thread Cert.FwdMixIdeal.nD Cert.FwdMixIdeal.τ).loc Cert.FwdMixIdeal.main_arg2)
          ∧ r.2.mem ((c.tc : Thread Cert.FwdMixIdeal.nD Cert.FwdMixIdeal.τ).loc Cert.FwdMixIdeal.main_arg3) = m ((c.tc : Thread Cert.FwdMixIdeal.nD Cert.FwdMixIdeal.τ).loc Cert.FwdMixIdeal.main_arg3)
          ∧ r.2.mem ((c.tc : Thread Cert.FwdMixIdeal.nD Cert.FwdMixIdeal.τ).loc Cert.FwdMixIdeal.main_arg4) = m ((c.tc : Thread Cert.FwdMixIdeal.nD Cert.FwdMixIdeal.τ).loc Cert.FwdMixIdeal.main_arg4)
          ∧ r.2.mem ((c.tc : Thread Cert.FwdMixIdeal.nD Cert.FwdMixIdeal.τ).loc Cert.FwdMixIdeal.main_arg5) = m ((c.tc : Thread Cert.FwdMixIdeal.nD Cert.FwdMixIdeal.τ).loc Cert.FwdMixIdeal.main_arg5)
          ∧ r.2.mem ((c.tc : Thread Cert.FwdMixIdeal.nD Cert.FwdMixIdeal.τ).loc Cert.FwdMixIdeal.main_arg6) = m ((c.tc : Thread Cert.FwdMixIdeal.nD Cert.FwdMixIdeal.τ).loc Cert.FwdMixIdeal.main_arg6)
          ∧ r.2.mem ((c.tc : Thread Cert.FwdMixIdeal.nD Cert.FwdMixIdeal.τ).loc Cert.FwdMixIdeal.main_arg7) = m ((c.tc : Thread Cert.FwdMixIdeal.nD Cert.FwdMixIdeal.τ).loc Cert.FwdMixIdeal.main_arg7)
          ∧ r.2.mem ((c.tc : Thread Cert.FwdMixIdeal.nD Cert.FwdMixIdeal.τ).loc Cert.FwdMixIdeal.main_arg8) = m ((c.tc : Thread Cert.FwdMixIdeal.nD Cert.FwdMixIdeal.τ).loc Cert.FwdMixIdeal.main_arg8))
      ∧ θ_run (Cert.FwdMixRefIdeal.defs (F := Ideal)) (onTc (τ := Cert.FwdMixRefIdeal.τ) (Cert.FwdMixRefIdeal.main (F := Ideal))) ⟨m', fun _ => 0, g'⟩ (fun r => ∀ c : Dev Cert.FwdMixRefIdeal.nD,
          r.2.mem ((c.tc : Thread Cert.FwdMixRefIdeal.nD Cert.FwdMixRefIdeal.τ).loc Cert.FwdMixRefIdeal.main_v56) = v0 c
          ∧ r.2.mem ((c.tc : Thread Cert.FwdMixRefIdeal.nD Cert.FwdMixRefIdeal.τ).loc Cert.FwdMixRefIdeal.main_v55) = v1 c
          ∧ r.2.mem ((c.tc : Thread Cert.FwdMixRefIdeal.nD Cert.FwdMixRefIdeal.τ).loc Cert.FwdMixRefIdeal.main_v71) = v2 c
          ∧ r.2.mem ((c.tc : Thread Cert.FwdMixRefIdeal.nD Cert.FwdMixRefIdeal.τ).loc Cert.FwdMixRefIdeal.main_arg0) = m' ((c.tc : Thread Cert.FwdMixRefIdeal.nD Cert.FwdMixRefIdeal.τ).loc Cert.FwdMixRefIdeal.main_arg0)
          ∧ r.2.mem ((c.tc : Thread Cert.FwdMixRefIdeal.nD Cert.FwdMixRefIdeal.τ).loc Cert.FwdMixRefIdeal.main_arg1) = m' ((c.tc : Thread Cert.FwdMixRefIdeal.nD Cert.FwdMixRefIdeal.τ).loc Cert.FwdMixRefIdeal.main_arg1)
          ∧ r.2.mem ((c.tc : Thread Cert.FwdMixRefIdeal.nD Cert.FwdMixRefIdeal.τ).loc Cert.FwdMixRefIdeal.main_arg2) = m' ((c.tc : Thread Cert.FwdMixRefIdeal.nD Cert.FwdMixRefIdeal.τ).loc Cert.FwdMixRefIdeal.main_arg2)
          ∧ r.2.mem ((c.tc : Thread Cert.FwdMixRefIdeal.nD Cert.FwdMixRefIdeal.τ).loc Cert.FwdMixRefIdeal.main_arg3) = m' ((c.tc : Thread Cert.FwdMixRefIdeal.nD Cert.FwdMixRefIdeal.τ).loc Cert.FwdMixRefIdeal.main_arg3)
          ∧ r.2.mem ((c.tc : Thread Cert.FwdMixRefIdeal.nD Cert.FwdMixRefIdeal.τ).loc Cert.FwdMixRefIdeal.main_arg4) = m' ((c.tc : Thread Cert.FwdMixRefIdeal.nD Cert.FwdMixRefIdeal.τ).loc Cert.FwdMixRefIdeal.main_arg4)
          ∧ r.2.mem ((c.tc : Thread Cert.FwdMixRefIdeal.nD Cert.FwdMixRefIdeal.τ).loc Cert.FwdMixRefIdeal.main_arg5) = m' ((c.tc : Thread Cert.FwdMixRefIdeal.nD Cert.FwdMixRefIdeal.τ).loc Cert.FwdMixRefIdeal.main_arg5)
          ∧ r.2.mem ((c.tc : Thread Cert.FwdMixRefIdeal.nD Cert.FwdMixRefIdeal.τ).loc Cert.FwdMixRefIdeal.main_arg6) = m' ((c.tc : Thread Cert.FwdMixRefIdeal.nD Cert.FwdMixRefIdeal.τ).loc Cert.FwdMixRefIdeal.main_arg6)
          ∧ r.2.mem ((c.tc : Thread Cert.FwdMixRefIdeal.nD Cert.FwdMixRefIdeal.τ).loc Cert.FwdMixRefIdeal.main_arg7) = m' ((c.tc : Thread Cert.FwdMixRefIdeal.nD Cert.FwdMixRefIdeal.τ).loc Cert.FwdMixRefIdeal.main_arg7)
          ∧ r.2.mem ((c.tc : Thread Cert.FwdMixRefIdeal.nD Cert.FwdMixRefIdeal.τ).loc Cert.FwdMixRefIdeal.main_arg8) = m' ((c.tc : Thread Cert.FwdMixRefIdeal.nD Cert.FwdMixRefIdeal.τ).loc Cert.FwdMixRefIdeal.main_arg8))

def preserves_FwdProj_FwdProjIdeal : Prop :=
  True

def algebraic_FwdProjIdeal_FwdProjRefIdeal_pre_proj_finite [hFwdProjIdeal : Cert.FwdProjIdeal.Facts] [hFwdProjRefIdeal : Cert.FwdProjRefIdeal.Facts] [hPre_proj_finite : Cert.Pre_proj_finite.Facts] : Prop :=
  ∀ (m : (ℓ : Loc Cert.FwdProjIdeal.nD Cert.FwdProjIdeal.τ Cert.FwdProjIdeal.sig) → Buf (Elt Ideal) ℓ) (g : Dev Cert.FwdProjIdeal.nD → PrngReg)
    (m' : (ℓ : Loc Cert.FwdProjRefIdeal.nD Cert.FwdProjRefIdeal.τ Cert.FwdProjRefIdeal.sig) → Buf (Elt Ideal) ℓ) (g' : Dev Cert.FwdProjRefIdeal.nD → PrngReg), Pre_FwdProjIdeal_proj_finite m →
    (∀ c : Dev Cert.FwdProjIdeal.nD,
      m' ((c.tc : Thread Cert.FwdProjRefIdeal.nD Cert.FwdProjRefIdeal.τ).loc Cert.FwdProjRefIdeal.main_arg0) = m ((c.tc : Thread Cert.FwdProjIdeal.nD Cert.FwdProjIdeal.τ).loc Cert.FwdProjIdeal.main_arg0)
      ∧ m' ((c.tc : Thread Cert.FwdProjRefIdeal.nD Cert.FwdProjRefIdeal.τ).loc Cert.FwdProjRefIdeal.main_arg1) = m ((c.tc : Thread Cert.FwdProjIdeal.nD Cert.FwdProjIdeal.τ).loc Cert.FwdProjIdeal.main_arg1)
      ∧ m' ((c.tc : Thread Cert.FwdProjRefIdeal.nD Cert.FwdProjRefIdeal.τ).loc Cert.FwdProjRefIdeal.main_arg2) = m ((c.tc : Thread Cert.FwdProjIdeal.nD Cert.FwdProjIdeal.τ).loc Cert.FwdProjIdeal.main_arg2)
      ∧ m' ((c.tc : Thread Cert.FwdProjRefIdeal.nD Cert.FwdProjRefIdeal.τ).loc Cert.FwdProjRefIdeal.main_arg3) = m ((c.tc : Thread Cert.FwdProjIdeal.nD Cert.FwdProjIdeal.τ).loc Cert.FwdProjIdeal.main_arg3)
      ∧ m' ((c.tc : Thread Cert.FwdProjRefIdeal.nD Cert.FwdProjRefIdeal.τ).loc Cert.FwdProjRefIdeal.main_arg4) = m ((c.tc : Thread Cert.FwdProjIdeal.nD Cert.FwdProjIdeal.τ).loc Cert.FwdProjIdeal.main_arg4)) →
    ∃ (v0 : (c : Dev Cert.FwdProjIdeal.nD) → Buf (Elt Ideal) ((c.tc : Thread Cert.FwdProjIdeal.nD Cert.FwdProjIdeal.τ).loc Cert.FwdProjIdeal.main_v20_0)) (v1 : (c : Dev Cert.FwdProjIdeal.nD) → Buf (Elt Ideal) ((c.tc : Thread Cert.FwdProjIdeal.nD Cert.FwdProjIdeal.τ).loc Cert.FwdProjIdeal.main_v20_1)) (v2 : (c : Dev Cert.FwdProjIdeal.nD) → Buf (Elt Ideal) ((c.tc : Thread Cert.FwdProjIdeal.nD Cert.FwdProjIdeal.τ).loc Cert.FwdProjIdeal.main_v20_2)) (v3 : (c : Dev Cert.FwdProjIdeal.nD) → Buf (Elt Ideal) ((c.tc : Thread Cert.FwdProjIdeal.nD Cert.FwdProjIdeal.τ).loc Cert.FwdProjIdeal.main_v20_3)) (v4 : (c : Dev Cert.FwdProjIdeal.nD) → Buf (Elt Ideal) ((c.tc : Thread Cert.FwdProjIdeal.nD Cert.FwdProjIdeal.τ).loc Cert.FwdProjIdeal.main_v20_4)) (v5 : (c : Dev Cert.FwdProjIdeal.nD) → Buf (Elt Ideal) ((c.tc : Thread Cert.FwdProjIdeal.nD Cert.FwdProjIdeal.τ).loc Cert.FwdProjIdeal.main_v20_5)),
      θ_run (Cert.FwdProjIdeal.defs (F := Ideal)) (onTc (τ := Cert.FwdProjIdeal.τ) (Cert.FwdProjIdeal.main (F := Ideal))) ⟨m, fun _ => 0, g⟩ (fun r => ∀ c : Dev Cert.FwdProjIdeal.nD,
          r.2.mem ((c.tc : Thread Cert.FwdProjIdeal.nD Cert.FwdProjIdeal.τ).loc Cert.FwdProjIdeal.main_v20_0) = v0 c
          ∧ r.2.mem ((c.tc : Thread Cert.FwdProjIdeal.nD Cert.FwdProjIdeal.τ).loc Cert.FwdProjIdeal.main_v20_1) = v1 c
          ∧ r.2.mem ((c.tc : Thread Cert.FwdProjIdeal.nD Cert.FwdProjIdeal.τ).loc Cert.FwdProjIdeal.main_v20_2) = v2 c
          ∧ r.2.mem ((c.tc : Thread Cert.FwdProjIdeal.nD Cert.FwdProjIdeal.τ).loc Cert.FwdProjIdeal.main_v20_3) = v3 c
          ∧ r.2.mem ((c.tc : Thread Cert.FwdProjIdeal.nD Cert.FwdProjIdeal.τ).loc Cert.FwdProjIdeal.main_v20_4) = v4 c
          ∧ r.2.mem ((c.tc : Thread Cert.FwdProjIdeal.nD Cert.FwdProjIdeal.τ).loc Cert.FwdProjIdeal.main_v20_5) = v5 c
          ∧ r.2.mem ((c.tc : Thread Cert.FwdProjIdeal.nD Cert.FwdProjIdeal.τ).loc Cert.FwdProjIdeal.main_arg0) = m ((c.tc : Thread Cert.FwdProjIdeal.nD Cert.FwdProjIdeal.τ).loc Cert.FwdProjIdeal.main_arg0)
          ∧ r.2.mem ((c.tc : Thread Cert.FwdProjIdeal.nD Cert.FwdProjIdeal.τ).loc Cert.FwdProjIdeal.main_arg1) = m ((c.tc : Thread Cert.FwdProjIdeal.nD Cert.FwdProjIdeal.τ).loc Cert.FwdProjIdeal.main_arg1)
          ∧ r.2.mem ((c.tc : Thread Cert.FwdProjIdeal.nD Cert.FwdProjIdeal.τ).loc Cert.FwdProjIdeal.main_arg2) = m ((c.tc : Thread Cert.FwdProjIdeal.nD Cert.FwdProjIdeal.τ).loc Cert.FwdProjIdeal.main_arg2)
          ∧ r.2.mem ((c.tc : Thread Cert.FwdProjIdeal.nD Cert.FwdProjIdeal.τ).loc Cert.FwdProjIdeal.main_arg3) = m ((c.tc : Thread Cert.FwdProjIdeal.nD Cert.FwdProjIdeal.τ).loc Cert.FwdProjIdeal.main_arg3)
          ∧ r.2.mem ((c.tc : Thread Cert.FwdProjIdeal.nD Cert.FwdProjIdeal.τ).loc Cert.FwdProjIdeal.main_arg4) = m ((c.tc : Thread Cert.FwdProjIdeal.nD Cert.FwdProjIdeal.τ).loc Cert.FwdProjIdeal.main_arg4))
      ∧ θ_run (Cert.FwdProjRefIdeal.defs (F := Ideal)) (onTc (τ := Cert.FwdProjRefIdeal.τ) (Cert.FwdProjRefIdeal.main (F := Ideal))) ⟨m', fun _ => 0, g'⟩ (fun r => ∀ c : Dev Cert.FwdProjRefIdeal.nD,
          r.2.mem ((c.tc : Thread Cert.FwdProjRefIdeal.nD Cert.FwdProjRefIdeal.τ).loc Cert.FwdProjRefIdeal.main_v51) = v0 c
          ∧ r.2.mem ((c.tc : Thread Cert.FwdProjRefIdeal.nD Cert.FwdProjRefIdeal.τ).loc Cert.FwdProjRefIdeal.main_v35) = v1 c
          ∧ r.2.mem ((c.tc : Thread Cert.FwdProjRefIdeal.nD Cert.FwdProjRefIdeal.τ).loc Cert.FwdProjRefIdeal.main_v50) = v2 c
          ∧ r.2.mem ((c.tc : Thread Cert.FwdProjRefIdeal.nD Cert.FwdProjRefIdeal.τ).loc Cert.FwdProjRefIdeal.main_v19) = v3 c
          ∧ r.2.mem ((c.tc : Thread Cert.FwdProjRefIdeal.nD Cert.FwdProjRefIdeal.τ).loc Cert.FwdProjRefIdeal.main_v20) = v4 c
          ∧ r.2.mem ((c.tc : Thread Cert.FwdProjRefIdeal.nD Cert.FwdProjRefIdeal.τ).loc Cert.FwdProjRefIdeal.main_v52) = v5 c
          ∧ r.2.mem ((c.tc : Thread Cert.FwdProjRefIdeal.nD Cert.FwdProjRefIdeal.τ).loc Cert.FwdProjRefIdeal.main_arg0) = m' ((c.tc : Thread Cert.FwdProjRefIdeal.nD Cert.FwdProjRefIdeal.τ).loc Cert.FwdProjRefIdeal.main_arg0)
          ∧ r.2.mem ((c.tc : Thread Cert.FwdProjRefIdeal.nD Cert.FwdProjRefIdeal.τ).loc Cert.FwdProjRefIdeal.main_arg1) = m' ((c.tc : Thread Cert.FwdProjRefIdeal.nD Cert.FwdProjRefIdeal.τ).loc Cert.FwdProjRefIdeal.main_arg1)
          ∧ r.2.mem ((c.tc : Thread Cert.FwdProjRefIdeal.nD Cert.FwdProjRefIdeal.τ).loc Cert.FwdProjRefIdeal.main_arg2) = m' ((c.tc : Thread Cert.FwdProjRefIdeal.nD Cert.FwdProjRefIdeal.τ).loc Cert.FwdProjRefIdeal.main_arg2)
          ∧ r.2.mem ((c.tc : Thread Cert.FwdProjRefIdeal.nD Cert.FwdProjRefIdeal.τ).loc Cert.FwdProjRefIdeal.main_arg3) = m' ((c.tc : Thread Cert.FwdProjRefIdeal.nD Cert.FwdProjRefIdeal.τ).loc Cert.FwdProjRefIdeal.main_arg3)
          ∧ r.2.mem ((c.tc : Thread Cert.FwdProjRefIdeal.nD Cert.FwdProjRefIdeal.τ).loc Cert.FwdProjRefIdeal.main_arg4) = m' ((c.tc : Thread Cert.FwdProjRefIdeal.nD Cert.FwdProjRefIdeal.τ).loc Cert.FwdProjRefIdeal.main_arg4))

def preserves_UpdIn_UpdInIdeal : Prop :=
  True

def algebraic_UpdInIdeal_UpdInRefIdeal [hUpdInIdeal : Cert.UpdInIdeal.Facts] [hUpdInRefIdeal : Cert.UpdInRefIdeal.Facts] : Prop :=
  ∀ (m : (ℓ : Loc Cert.UpdInIdeal.nD Cert.UpdInIdeal.τ Cert.UpdInIdeal.sig) → Buf (Elt Ideal) ℓ) (g : Dev Cert.UpdInIdeal.nD → PrngReg)
    (m' : (ℓ : Loc Cert.UpdInRefIdeal.nD Cert.UpdInRefIdeal.τ Cert.UpdInRefIdeal.sig) → Buf (Elt Ideal) ℓ) (g' : Dev Cert.UpdInRefIdeal.nD → PrngReg), Pre_UpdInIdeal m →
    (∀ c : Dev Cert.UpdInIdeal.nD,
      m' ((c.tc : Thread Cert.UpdInRefIdeal.nD Cert.UpdInRefIdeal.τ).loc Cert.UpdInRefIdeal.main_arg0) = m ((c.tc : Thread Cert.UpdInIdeal.nD Cert.UpdInIdeal.τ).loc Cert.UpdInIdeal.main_arg0)
      ∧ m' ((c.tc : Thread Cert.UpdInRefIdeal.nD Cert.UpdInRefIdeal.τ).loc Cert.UpdInRefIdeal.main_arg1) = m ((c.tc : Thread Cert.UpdInIdeal.nD Cert.UpdInIdeal.τ).loc Cert.UpdInIdeal.main_arg1)
      ∧ m' ((c.tc : Thread Cert.UpdInRefIdeal.nD Cert.UpdInRefIdeal.τ).loc Cert.UpdInRefIdeal.main_arg2) = m ((c.tc : Thread Cert.UpdInIdeal.nD Cert.UpdInIdeal.τ).loc Cert.UpdInIdeal.main_arg2)
      ∧ m' ((c.tc : Thread Cert.UpdInRefIdeal.nD Cert.UpdInRefIdeal.τ).loc Cert.UpdInRefIdeal.main_arg3) = m ((c.tc : Thread Cert.UpdInIdeal.nD Cert.UpdInIdeal.τ).loc Cert.UpdInIdeal.main_arg3)) →
    ∃ (v0 : (c : Dev Cert.UpdInIdeal.nD) → Buf (Elt Ideal) ((c.tc : Thread Cert.UpdInIdeal.nD Cert.UpdInIdeal.τ).loc Cert.UpdInIdeal.main_v0_0)) (v1 : (c : Dev Cert.UpdInIdeal.nD) → Buf (Elt Ideal) ((c.tc : Thread Cert.UpdInIdeal.nD Cert.UpdInIdeal.τ).loc Cert.UpdInIdeal.main_v0_1)) (v2 : (c : Dev Cert.UpdInIdeal.nD) → Buf (Elt Ideal) ((c.tc : Thread Cert.UpdInIdeal.nD Cert.UpdInIdeal.τ).loc Cert.UpdInIdeal.main_v0_2)) (v3 : (c : Dev Cert.UpdInIdeal.nD) → Buf (Elt Ideal) ((c.tc : Thread Cert.UpdInIdeal.nD Cert.UpdInIdeal.τ).loc Cert.UpdInIdeal.main_v0_3)),
      θ_run (Cert.UpdInIdeal.defs (F := Ideal)) (onTc (τ := Cert.UpdInIdeal.τ) (Cert.UpdInIdeal.main (F := Ideal))) ⟨m, fun _ => 0, g⟩ (fun r => ∀ c : Dev Cert.UpdInIdeal.nD,
          r.2.mem ((c.tc : Thread Cert.UpdInIdeal.nD Cert.UpdInIdeal.τ).loc Cert.UpdInIdeal.main_v0_0) = v0 c
          ∧ r.2.mem ((c.tc : Thread Cert.UpdInIdeal.nD Cert.UpdInIdeal.τ).loc Cert.UpdInIdeal.main_v0_1) = v1 c
          ∧ r.2.mem ((c.tc : Thread Cert.UpdInIdeal.nD Cert.UpdInIdeal.τ).loc Cert.UpdInIdeal.main_v0_2) = v2 c
          ∧ r.2.mem ((c.tc : Thread Cert.UpdInIdeal.nD Cert.UpdInIdeal.τ).loc Cert.UpdInIdeal.main_v0_3) = v3 c
          ∧ r.2.mem ((c.tc : Thread Cert.UpdInIdeal.nD Cert.UpdInIdeal.τ).loc Cert.UpdInIdeal.main_arg0) = m ((c.tc : Thread Cert.UpdInIdeal.nD Cert.UpdInIdeal.τ).loc Cert.UpdInIdeal.main_arg0)
          ∧ r.2.mem ((c.tc : Thread Cert.UpdInIdeal.nD Cert.UpdInIdeal.τ).loc Cert.UpdInIdeal.main_arg1) = m ((c.tc : Thread Cert.UpdInIdeal.nD Cert.UpdInIdeal.τ).loc Cert.UpdInIdeal.main_arg1)
          ∧ r.2.mem ((c.tc : Thread Cert.UpdInIdeal.nD Cert.UpdInIdeal.τ).loc Cert.UpdInIdeal.main_arg2) = m ((c.tc : Thread Cert.UpdInIdeal.nD Cert.UpdInIdeal.τ).loc Cert.UpdInIdeal.main_arg2)
          ∧ r.2.mem ((c.tc : Thread Cert.UpdInIdeal.nD Cert.UpdInIdeal.τ).loc Cert.UpdInIdeal.main_arg3) = m ((c.tc : Thread Cert.UpdInIdeal.nD Cert.UpdInIdeal.τ).loc Cert.UpdInIdeal.main_arg3))
      ∧ θ_run (Cert.UpdInRefIdeal.defs (F := Ideal)) (onTc (τ := Cert.UpdInRefIdeal.τ) (Cert.UpdInRefIdeal.main (F := Ideal))) ⟨m', fun _ => 0, g'⟩ (fun r => ∀ c : Dev Cert.UpdInRefIdeal.nD,
          r.2.mem ((c.tc : Thread Cert.UpdInRefIdeal.nD Cert.UpdInRefIdeal.τ).loc Cert.UpdInRefIdeal.main_v1) = v0 c
          ∧ r.2.mem ((c.tc : Thread Cert.UpdInRefIdeal.nD Cert.UpdInRefIdeal.τ).loc Cert.UpdInRefIdeal.main_v25) = v1 c
          ∧ r.2.mem ((c.tc : Thread Cert.UpdInRefIdeal.nD Cert.UpdInRefIdeal.τ).loc Cert.UpdInRefIdeal.main_v6) = v2 c
          ∧ r.2.mem ((c.tc : Thread Cert.UpdInRefIdeal.nD Cert.UpdInRefIdeal.τ).loc Cert.UpdInRefIdeal.main_v12) = v3 c
          ∧ r.2.mem ((c.tc : Thread Cert.UpdInRefIdeal.nD Cert.UpdInRefIdeal.τ).loc Cert.UpdInRefIdeal.main_arg0) = m' ((c.tc : Thread Cert.UpdInRefIdeal.nD Cert.UpdInRefIdeal.τ).loc Cert.UpdInRefIdeal.main_arg0)
          ∧ r.2.mem ((c.tc : Thread Cert.UpdInRefIdeal.nD Cert.UpdInRefIdeal.τ).loc Cert.UpdInRefIdeal.main_arg1) = m' ((c.tc : Thread Cert.UpdInRefIdeal.nD Cert.UpdInRefIdeal.τ).loc Cert.UpdInRefIdeal.main_arg1)
          ∧ r.2.mem ((c.tc : Thread Cert.UpdInRefIdeal.nD Cert.UpdInRefIdeal.τ).loc Cert.UpdInRefIdeal.main_arg2) = m' ((c.tc : Thread Cert.UpdInRefIdeal.nD Cert.UpdInRefIdeal.τ).loc Cert.UpdInRefIdeal.main_arg2)
          ∧ r.2.mem ((c.tc : Thread Cert.UpdInRefIdeal.nD Cert.UpdInRefIdeal.τ).loc Cert.UpdInRefIdeal.main_arg3) = m' ((c.tc : Thread Cert.UpdInRefIdeal.nD Cert.UpdInRefIdeal.τ).loc Cert.UpdInRefIdeal.main_arg3))

def preserves_UpdGlu_UpdGluIdeal : Prop :=
  True

def algebraic_UpdGluIdeal_UpdGluRefIdeal [hUpdGluIdeal : Cert.UpdGluIdeal.Facts] [hUpdGluRefIdeal : Cert.UpdGluRefIdeal.Facts] : Prop :=
  ∀ (m : (ℓ : Loc Cert.UpdGluIdeal.nD Cert.UpdGluIdeal.τ Cert.UpdGluIdeal.sig) → Buf (Elt Ideal) ℓ) (g : Dev Cert.UpdGluIdeal.nD → PrngReg)
    (m' : (ℓ : Loc Cert.UpdGluRefIdeal.nD Cert.UpdGluRefIdeal.τ Cert.UpdGluRefIdeal.sig) → Buf (Elt Ideal) ℓ) (g' : Dev Cert.UpdGluRefIdeal.nD → PrngReg), Pre_UpdGluIdeal m →
    (∀ c : Dev Cert.UpdGluIdeal.nD,
      m' ((c.tc : Thread Cert.UpdGluRefIdeal.nD Cert.UpdGluRefIdeal.τ).loc Cert.UpdGluRefIdeal.main_arg0) = m ((c.tc : Thread Cert.UpdGluIdeal.nD Cert.UpdGluIdeal.τ).loc Cert.UpdGluIdeal.main_arg0)
      ∧ m' ((c.tc : Thread Cert.UpdGluRefIdeal.nD Cert.UpdGluRefIdeal.τ).loc Cert.UpdGluRefIdeal.main_arg1) = m ((c.tc : Thread Cert.UpdGluIdeal.nD Cert.UpdGluIdeal.τ).loc Cert.UpdGluIdeal.main_arg1)
      ∧ m' ((c.tc : Thread Cert.UpdGluRefIdeal.nD Cert.UpdGluRefIdeal.τ).loc Cert.UpdGluRefIdeal.main_arg2) = m ((c.tc : Thread Cert.UpdGluIdeal.nD Cert.UpdGluIdeal.τ).loc Cert.UpdGluIdeal.main_arg2)
      ∧ m' ((c.tc : Thread Cert.UpdGluRefIdeal.nD Cert.UpdGluRefIdeal.τ).loc Cert.UpdGluRefIdeal.main_arg3) = m ((c.tc : Thread Cert.UpdGluIdeal.nD Cert.UpdGluIdeal.τ).loc Cert.UpdGluIdeal.main_arg3)) →
    ∃ (v0 : (c : Dev Cert.UpdGluIdeal.nD) → Buf (Elt Ideal) ((c.tc : Thread Cert.UpdGluIdeal.nD Cert.UpdGluIdeal.τ).loc Cert.UpdGluIdeal.main_v0_0)) (v1 : (c : Dev Cert.UpdGluIdeal.nD) → Buf (Elt Ideal) ((c.tc : Thread Cert.UpdGluIdeal.nD Cert.UpdGluIdeal.τ).loc Cert.UpdGluIdeal.main_v0_1)) (v2 : (c : Dev Cert.UpdGluIdeal.nD) → Buf (Elt Ideal) ((c.tc : Thread Cert.UpdGluIdeal.nD Cert.UpdGluIdeal.τ).loc Cert.UpdGluIdeal.main_v0_2)) (v3 : (c : Dev Cert.UpdGluIdeal.nD) → Buf (Elt Ideal) ((c.tc : Thread Cert.UpdGluIdeal.nD Cert.UpdGluIdeal.τ).loc Cert.UpdGluIdeal.main_v0_3)),
      θ_run (Cert.UpdGluIdeal.defs (F := Ideal)) (onTc (τ := Cert.UpdGluIdeal.τ) (Cert.UpdGluIdeal.main (F := Ideal))) ⟨m, fun _ => 0, g⟩ (fun r => ∀ c : Dev Cert.UpdGluIdeal.nD,
          r.2.mem ((c.tc : Thread Cert.UpdGluIdeal.nD Cert.UpdGluIdeal.τ).loc Cert.UpdGluIdeal.main_v0_0) = v0 c
          ∧ r.2.mem ((c.tc : Thread Cert.UpdGluIdeal.nD Cert.UpdGluIdeal.τ).loc Cert.UpdGluIdeal.main_v0_1) = v1 c
          ∧ r.2.mem ((c.tc : Thread Cert.UpdGluIdeal.nD Cert.UpdGluIdeal.τ).loc Cert.UpdGluIdeal.main_v0_2) = v2 c
          ∧ r.2.mem ((c.tc : Thread Cert.UpdGluIdeal.nD Cert.UpdGluIdeal.τ).loc Cert.UpdGluIdeal.main_v0_3) = v3 c
          ∧ r.2.mem ((c.tc : Thread Cert.UpdGluIdeal.nD Cert.UpdGluIdeal.τ).loc Cert.UpdGluIdeal.main_arg0) = m ((c.tc : Thread Cert.UpdGluIdeal.nD Cert.UpdGluIdeal.τ).loc Cert.UpdGluIdeal.main_arg0)
          ∧ r.2.mem ((c.tc : Thread Cert.UpdGluIdeal.nD Cert.UpdGluIdeal.τ).loc Cert.UpdGluIdeal.main_arg1) = m ((c.tc : Thread Cert.UpdGluIdeal.nD Cert.UpdGluIdeal.τ).loc Cert.UpdGluIdeal.main_arg1)
          ∧ r.2.mem ((c.tc : Thread Cert.UpdGluIdeal.nD Cert.UpdGluIdeal.τ).loc Cert.UpdGluIdeal.main_arg2) = m ((c.tc : Thread Cert.UpdGluIdeal.nD Cert.UpdGluIdeal.τ).loc Cert.UpdGluIdeal.main_arg2)
          ∧ r.2.mem ((c.tc : Thread Cert.UpdGluIdeal.nD Cert.UpdGluIdeal.τ).loc Cert.UpdGluIdeal.main_arg3) = m ((c.tc : Thread Cert.UpdGluIdeal.nD Cert.UpdGluIdeal.τ).loc Cert.UpdGluIdeal.main_arg3))
      ∧ θ_run (Cert.UpdGluRefIdeal.defs (F := Ideal)) (onTc (τ := Cert.UpdGluRefIdeal.τ) (Cert.UpdGluRefIdeal.main (F := Ideal))) ⟨m', fun _ => 0, g'⟩ (fun r => ∀ c : Dev Cert.UpdGluRefIdeal.nD,
          r.2.mem ((c.tc : Thread Cert.UpdGluRefIdeal.nD Cert.UpdGluRefIdeal.τ).loc Cert.UpdGluRefIdeal.main_v1) = v0 c
          ∧ r.2.mem ((c.tc : Thread Cert.UpdGluRefIdeal.nD Cert.UpdGluRefIdeal.τ).loc Cert.UpdGluRefIdeal.main_v25) = v1 c
          ∧ r.2.mem ((c.tc : Thread Cert.UpdGluRefIdeal.nD Cert.UpdGluRefIdeal.τ).loc Cert.UpdGluRefIdeal.main_v6) = v2 c
          ∧ r.2.mem ((c.tc : Thread Cert.UpdGluRefIdeal.nD Cert.UpdGluRefIdeal.τ).loc Cert.UpdGluRefIdeal.main_v12) = v3 c
          ∧ r.2.mem ((c.tc : Thread Cert.UpdGluRefIdeal.nD Cert.UpdGluRefIdeal.τ).loc Cert.UpdGluRefIdeal.main_arg0) = m' ((c.tc : Thread Cert.UpdGluRefIdeal.nD Cert.UpdGluRefIdeal.τ).loc Cert.UpdGluRefIdeal.main_arg0)
          ∧ r.2.mem ((c.tc : Thread Cert.UpdGluRefIdeal.nD Cert.UpdGluRefIdeal.τ).loc Cert.UpdGluRefIdeal.main_arg1) = m' ((c.tc : Thread Cert.UpdGluRefIdeal.nD Cert.UpdGluRefIdeal.τ).loc Cert.UpdGluRefIdeal.main_arg1)
          ∧ r.2.mem ((c.tc : Thread Cert.UpdGluRefIdeal.nD Cert.UpdGluRefIdeal.τ).loc Cert.UpdGluRefIdeal.main_arg2) = m' ((c.tc : Thread Cert.UpdGluRefIdeal.nD Cert.UpdGluRefIdeal.τ).loc Cert.UpdGluRefIdeal.main_arg2)
          ∧ r.2.mem ((c.tc : Thread Cert.UpdGluRefIdeal.nD Cert.UpdGluRefIdeal.τ).loc Cert.UpdGluRefIdeal.main_arg3) = m' ((c.tc : Thread Cert.UpdGluRefIdeal.nD Cert.UpdGluRefIdeal.τ).loc Cert.UpdGluRefIdeal.main_arg3))

def preserves_UpdOut_UpdOutIdeal : Prop :=
  True

def algebraic_UpdOutIdeal_UpdOutRefIdeal [hUpdOutIdeal : Cert.UpdOutIdeal.Facts] [hUpdOutRefIdeal : Cert.UpdOutRefIdeal.Facts] : Prop :=
  ∀ (m : (ℓ : Loc Cert.UpdOutIdeal.nD Cert.UpdOutIdeal.τ Cert.UpdOutIdeal.sig) → Buf (Elt Ideal) ℓ) (g : Dev Cert.UpdOutIdeal.nD → PrngReg)
    (m' : (ℓ : Loc Cert.UpdOutRefIdeal.nD Cert.UpdOutRefIdeal.τ Cert.UpdOutRefIdeal.sig) → Buf (Elt Ideal) ℓ) (g' : Dev Cert.UpdOutRefIdeal.nD → PrngReg), Pre_UpdOutIdeal m →
    (∀ c : Dev Cert.UpdOutIdeal.nD,
      m' ((c.tc : Thread Cert.UpdOutRefIdeal.nD Cert.UpdOutRefIdeal.τ).loc Cert.UpdOutRefIdeal.main_arg0) = m ((c.tc : Thread Cert.UpdOutIdeal.nD Cert.UpdOutIdeal.τ).loc Cert.UpdOutIdeal.main_arg0)
      ∧ m' ((c.tc : Thread Cert.UpdOutRefIdeal.nD Cert.UpdOutRefIdeal.τ).loc Cert.UpdOutRefIdeal.main_arg1) = m ((c.tc : Thread Cert.UpdOutIdeal.nD Cert.UpdOutIdeal.τ).loc Cert.UpdOutIdeal.main_arg1)
      ∧ m' ((c.tc : Thread Cert.UpdOutRefIdeal.nD Cert.UpdOutRefIdeal.τ).loc Cert.UpdOutRefIdeal.main_arg2) = m ((c.tc : Thread Cert.UpdOutIdeal.nD Cert.UpdOutIdeal.τ).loc Cert.UpdOutIdeal.main_arg2)
      ∧ m' ((c.tc : Thread Cert.UpdOutRefIdeal.nD Cert.UpdOutRefIdeal.τ).loc Cert.UpdOutRefIdeal.main_arg3) = m ((c.tc : Thread Cert.UpdOutIdeal.nD Cert.UpdOutIdeal.τ).loc Cert.UpdOutIdeal.main_arg3)) →
    ∃ (v0 : (c : Dev Cert.UpdOutIdeal.nD) → Buf (Elt Ideal) ((c.tc : Thread Cert.UpdOutIdeal.nD Cert.UpdOutIdeal.τ).loc Cert.UpdOutIdeal.main_v0_0)) (v1 : (c : Dev Cert.UpdOutIdeal.nD) → Buf (Elt Ideal) ((c.tc : Thread Cert.UpdOutIdeal.nD Cert.UpdOutIdeal.τ).loc Cert.UpdOutIdeal.main_v0_1)) (v2 : (c : Dev Cert.UpdOutIdeal.nD) → Buf (Elt Ideal) ((c.tc : Thread Cert.UpdOutIdeal.nD Cert.UpdOutIdeal.τ).loc Cert.UpdOutIdeal.main_v0_2)) (v3 : (c : Dev Cert.UpdOutIdeal.nD) → Buf (Elt Ideal) ((c.tc : Thread Cert.UpdOutIdeal.nD Cert.UpdOutIdeal.τ).loc Cert.UpdOutIdeal.main_v0_3)),
      θ_run (Cert.UpdOutIdeal.defs (F := Ideal)) (onTc (τ := Cert.UpdOutIdeal.τ) (Cert.UpdOutIdeal.main (F := Ideal))) ⟨m, fun _ => 0, g⟩ (fun r => ∀ c : Dev Cert.UpdOutIdeal.nD,
          r.2.mem ((c.tc : Thread Cert.UpdOutIdeal.nD Cert.UpdOutIdeal.τ).loc Cert.UpdOutIdeal.main_v0_0) = v0 c
          ∧ r.2.mem ((c.tc : Thread Cert.UpdOutIdeal.nD Cert.UpdOutIdeal.τ).loc Cert.UpdOutIdeal.main_v0_1) = v1 c
          ∧ r.2.mem ((c.tc : Thread Cert.UpdOutIdeal.nD Cert.UpdOutIdeal.τ).loc Cert.UpdOutIdeal.main_v0_2) = v2 c
          ∧ r.2.mem ((c.tc : Thread Cert.UpdOutIdeal.nD Cert.UpdOutIdeal.τ).loc Cert.UpdOutIdeal.main_v0_3) = v3 c
          ∧ r.2.mem ((c.tc : Thread Cert.UpdOutIdeal.nD Cert.UpdOutIdeal.τ).loc Cert.UpdOutIdeal.main_arg0) = m ((c.tc : Thread Cert.UpdOutIdeal.nD Cert.UpdOutIdeal.τ).loc Cert.UpdOutIdeal.main_arg0)
          ∧ r.2.mem ((c.tc : Thread Cert.UpdOutIdeal.nD Cert.UpdOutIdeal.τ).loc Cert.UpdOutIdeal.main_arg1) = m ((c.tc : Thread Cert.UpdOutIdeal.nD Cert.UpdOutIdeal.τ).loc Cert.UpdOutIdeal.main_arg1)
          ∧ r.2.mem ((c.tc : Thread Cert.UpdOutIdeal.nD Cert.UpdOutIdeal.τ).loc Cert.UpdOutIdeal.main_arg2) = m ((c.tc : Thread Cert.UpdOutIdeal.nD Cert.UpdOutIdeal.τ).loc Cert.UpdOutIdeal.main_arg2)
          ∧ r.2.mem ((c.tc : Thread Cert.UpdOutIdeal.nD Cert.UpdOutIdeal.τ).loc Cert.UpdOutIdeal.main_arg3) = m ((c.tc : Thread Cert.UpdOutIdeal.nD Cert.UpdOutIdeal.τ).loc Cert.UpdOutIdeal.main_arg3))
      ∧ θ_run (Cert.UpdOutRefIdeal.defs (F := Ideal)) (onTc (τ := Cert.UpdOutRefIdeal.τ) (Cert.UpdOutRefIdeal.main (F := Ideal))) ⟨m', fun _ => 0, g'⟩ (fun r => ∀ c : Dev Cert.UpdOutRefIdeal.nD,
          r.2.mem ((c.tc : Thread Cert.UpdOutRefIdeal.nD Cert.UpdOutRefIdeal.τ).loc Cert.UpdOutRefIdeal.main_v1) = v0 c
          ∧ r.2.mem ((c.tc : Thread Cert.UpdOutRefIdeal.nD Cert.UpdOutRefIdeal.τ).loc Cert.UpdOutRefIdeal.main_v25) = v1 c
          ∧ r.2.mem ((c.tc : Thread Cert.UpdOutRefIdeal.nD Cert.UpdOutRefIdeal.τ).loc Cert.UpdOutRefIdeal.main_v6) = v2 c
          ∧ r.2.mem ((c.tc : Thread Cert.UpdOutRefIdeal.nD Cert.UpdOutRefIdeal.τ).loc Cert.UpdOutRefIdeal.main_v12) = v3 c
          ∧ r.2.mem ((c.tc : Thread Cert.UpdOutRefIdeal.nD Cert.UpdOutRefIdeal.τ).loc Cert.UpdOutRefIdeal.main_arg0) = m' ((c.tc : Thread Cert.UpdOutRefIdeal.nD Cert.UpdOutRefIdeal.τ).loc Cert.UpdOutRefIdeal.main_arg0)
          ∧ r.2.mem ((c.tc : Thread Cert.UpdOutRefIdeal.nD Cert.UpdOutRefIdeal.τ).loc Cert.UpdOutRefIdeal.main_arg1) = m' ((c.tc : Thread Cert.UpdOutRefIdeal.nD Cert.UpdOutRefIdeal.τ).loc Cert.UpdOutRefIdeal.main_arg1)
          ∧ r.2.mem ((c.tc : Thread Cert.UpdOutRefIdeal.nD Cert.UpdOutRefIdeal.τ).loc Cert.UpdOutRefIdeal.main_arg2) = m' ((c.tc : Thread Cert.UpdOutRefIdeal.nD Cert.UpdOutRefIdeal.τ).loc Cert.UpdOutRefIdeal.main_arg2)
          ∧ r.2.mem ((c.tc : Thread Cert.UpdOutRefIdeal.nD Cert.UpdOutRefIdeal.τ).loc Cert.UpdOutRefIdeal.main_arg3) = m' ((c.tc : Thread Cert.UpdOutRefIdeal.nD Cert.UpdOutRefIdeal.τ).loc Cert.UpdOutRefIdeal.main_arg3))

def preserves_UpdUp_UpdUpIdeal : Prop :=
  True

def algebraic_UpdUpIdeal_UpdUpRefIdeal [hUpdUpIdeal : Cert.UpdUpIdeal.Facts] [hUpdUpRefIdeal : Cert.UpdUpRefIdeal.Facts] : Prop :=
  ∀ (m : (ℓ : Loc Cert.UpdUpIdeal.nD Cert.UpdUpIdeal.τ Cert.UpdUpIdeal.sig) → Buf (Elt Ideal) ℓ) (g : Dev Cert.UpdUpIdeal.nD → PrngReg)
    (m' : (ℓ : Loc Cert.UpdUpRefIdeal.nD Cert.UpdUpRefIdeal.τ Cert.UpdUpRefIdeal.sig) → Buf (Elt Ideal) ℓ) (g' : Dev Cert.UpdUpRefIdeal.nD → PrngReg), Pre_UpdUpIdeal m →
    (∀ c : Dev Cert.UpdUpIdeal.nD,
      m' ((c.tc : Thread Cert.UpdUpRefIdeal.nD Cert.UpdUpRefIdeal.τ).loc Cert.UpdUpRefIdeal.main_arg0) = m ((c.tc : Thread Cert.UpdUpIdeal.nD Cert.UpdUpIdeal.τ).loc Cert.UpdUpIdeal.main_arg0)
      ∧ m' ((c.tc : Thread Cert.UpdUpRefIdeal.nD Cert.UpdUpRefIdeal.τ).loc Cert.UpdUpRefIdeal.main_arg1) = m ((c.tc : Thread Cert.UpdUpIdeal.nD Cert.UpdUpIdeal.τ).loc Cert.UpdUpIdeal.main_arg1)
      ∧ m' ((c.tc : Thread Cert.UpdUpRefIdeal.nD Cert.UpdUpRefIdeal.τ).loc Cert.UpdUpRefIdeal.main_arg2) = m ((c.tc : Thread Cert.UpdUpIdeal.nD Cert.UpdUpIdeal.τ).loc Cert.UpdUpIdeal.main_arg2)
      ∧ m' ((c.tc : Thread Cert.UpdUpRefIdeal.nD Cert.UpdUpRefIdeal.τ).loc Cert.UpdUpRefIdeal.main_arg3) = m ((c.tc : Thread Cert.UpdUpIdeal.nD Cert.UpdUpIdeal.τ).loc Cert.UpdUpIdeal.main_arg3)) →
    ∃ (v0 : (c : Dev Cert.UpdUpIdeal.nD) → Buf (Elt Ideal) ((c.tc : Thread Cert.UpdUpIdeal.nD Cert.UpdUpIdeal.τ).loc Cert.UpdUpIdeal.main_v0_0)) (v1 : (c : Dev Cert.UpdUpIdeal.nD) → Buf (Elt Ideal) ((c.tc : Thread Cert.UpdUpIdeal.nD Cert.UpdUpIdeal.τ).loc Cert.UpdUpIdeal.main_v0_1)) (v2 : (c : Dev Cert.UpdUpIdeal.nD) → Buf (Elt Ideal) ((c.tc : Thread Cert.UpdUpIdeal.nD Cert.UpdUpIdeal.τ).loc Cert.UpdUpIdeal.main_v0_2)) (v3 : (c : Dev Cert.UpdUpIdeal.nD) → Buf (Elt Ideal) ((c.tc : Thread Cert.UpdUpIdeal.nD Cert.UpdUpIdeal.τ).loc Cert.UpdUpIdeal.main_v0_3)),
      θ_run (Cert.UpdUpIdeal.defs (F := Ideal)) (onTc (τ := Cert.UpdUpIdeal.τ) (Cert.UpdUpIdeal.main (F := Ideal))) ⟨m, fun _ => 0, g⟩ (fun r => ∀ c : Dev Cert.UpdUpIdeal.nD,
          r.2.mem ((c.tc : Thread Cert.UpdUpIdeal.nD Cert.UpdUpIdeal.τ).loc Cert.UpdUpIdeal.main_v0_0) = v0 c
          ∧ r.2.mem ((c.tc : Thread Cert.UpdUpIdeal.nD Cert.UpdUpIdeal.τ).loc Cert.UpdUpIdeal.main_v0_1) = v1 c
          ∧ r.2.mem ((c.tc : Thread Cert.UpdUpIdeal.nD Cert.UpdUpIdeal.τ).loc Cert.UpdUpIdeal.main_v0_2) = v2 c
          ∧ r.2.mem ((c.tc : Thread Cert.UpdUpIdeal.nD Cert.UpdUpIdeal.τ).loc Cert.UpdUpIdeal.main_v0_3) = v3 c
          ∧ r.2.mem ((c.tc : Thread Cert.UpdUpIdeal.nD Cert.UpdUpIdeal.τ).loc Cert.UpdUpIdeal.main_arg0) = m ((c.tc : Thread Cert.UpdUpIdeal.nD Cert.UpdUpIdeal.τ).loc Cert.UpdUpIdeal.main_arg0)
          ∧ r.2.mem ((c.tc : Thread Cert.UpdUpIdeal.nD Cert.UpdUpIdeal.τ).loc Cert.UpdUpIdeal.main_arg1) = m ((c.tc : Thread Cert.UpdUpIdeal.nD Cert.UpdUpIdeal.τ).loc Cert.UpdUpIdeal.main_arg1)
          ∧ r.2.mem ((c.tc : Thread Cert.UpdUpIdeal.nD Cert.UpdUpIdeal.τ).loc Cert.UpdUpIdeal.main_arg2) = m ((c.tc : Thread Cert.UpdUpIdeal.nD Cert.UpdUpIdeal.τ).loc Cert.UpdUpIdeal.main_arg2)
          ∧ r.2.mem ((c.tc : Thread Cert.UpdUpIdeal.nD Cert.UpdUpIdeal.τ).loc Cert.UpdUpIdeal.main_arg3) = m ((c.tc : Thread Cert.UpdUpIdeal.nD Cert.UpdUpIdeal.τ).loc Cert.UpdUpIdeal.main_arg3))
      ∧ θ_run (Cert.UpdUpRefIdeal.defs (F := Ideal)) (onTc (τ := Cert.UpdUpRefIdeal.τ) (Cert.UpdUpRefIdeal.main (F := Ideal))) ⟨m', fun _ => 0, g'⟩ (fun r => ∀ c : Dev Cert.UpdUpRefIdeal.nD,
          r.2.mem ((c.tc : Thread Cert.UpdUpRefIdeal.nD Cert.UpdUpRefIdeal.τ).loc Cert.UpdUpRefIdeal.main_v1) = v0 c
          ∧ r.2.mem ((c.tc : Thread Cert.UpdUpRefIdeal.nD Cert.UpdUpRefIdeal.τ).loc Cert.UpdUpRefIdeal.main_v25) = v1 c
          ∧ r.2.mem ((c.tc : Thread Cert.UpdUpRefIdeal.nD Cert.UpdUpRefIdeal.τ).loc Cert.UpdUpRefIdeal.main_v6) = v2 c
          ∧ r.2.mem ((c.tc : Thread Cert.UpdUpRefIdeal.nD Cert.UpdUpRefIdeal.τ).loc Cert.UpdUpRefIdeal.main_v12) = v3 c
          ∧ r.2.mem ((c.tc : Thread Cert.UpdUpRefIdeal.nD Cert.UpdUpRefIdeal.τ).loc Cert.UpdUpRefIdeal.main_arg0) = m' ((c.tc : Thread Cert.UpdUpRefIdeal.nD Cert.UpdUpRefIdeal.τ).loc Cert.UpdUpRefIdeal.main_arg0)
          ∧ r.2.mem ((c.tc : Thread Cert.UpdUpRefIdeal.nD Cert.UpdUpRefIdeal.τ).loc Cert.UpdUpRefIdeal.main_arg1) = m' ((c.tc : Thread Cert.UpdUpRefIdeal.nD Cert.UpdUpRefIdeal.τ).loc Cert.UpdUpRefIdeal.main_arg1)
          ∧ r.2.mem ((c.tc : Thread Cert.UpdUpRefIdeal.nD Cert.UpdUpRefIdeal.τ).loc Cert.UpdUpRefIdeal.main_arg2) = m' ((c.tc : Thread Cert.UpdUpRefIdeal.nD Cert.UpdUpRefIdeal.τ).loc Cert.UpdUpRefIdeal.main_arg2)
          ∧ r.2.mem ((c.tc : Thread Cert.UpdUpRefIdeal.nD Cert.UpdUpRefIdeal.τ).loc Cert.UpdUpRefIdeal.main_arg3) = m' ((c.tc : Thread Cert.UpdUpRefIdeal.nD Cert.UpdUpRefIdeal.τ).loc Cert.UpdUpRefIdeal.main_arg3))

def preserves_UpdDown_UpdDownIdeal : Prop :=
  True

def algebraic_UpdDownIdeal_UpdDownRefIdeal [hUpdDownIdeal : Cert.UpdDownIdeal.Facts] [hUpdDownRefIdeal : Cert.UpdDownRefIdeal.Facts] : Prop :=
  ∀ (m : (ℓ : Loc Cert.UpdDownIdeal.nD Cert.UpdDownIdeal.τ Cert.UpdDownIdeal.sig) → Buf (Elt Ideal) ℓ) (g : Dev Cert.UpdDownIdeal.nD → PrngReg)
    (m' : (ℓ : Loc Cert.UpdDownRefIdeal.nD Cert.UpdDownRefIdeal.τ Cert.UpdDownRefIdeal.sig) → Buf (Elt Ideal) ℓ) (g' : Dev Cert.UpdDownRefIdeal.nD → PrngReg), Pre_UpdDownIdeal m →
    (∀ c : Dev Cert.UpdDownIdeal.nD,
      m' ((c.tc : Thread Cert.UpdDownRefIdeal.nD Cert.UpdDownRefIdeal.τ).loc Cert.UpdDownRefIdeal.main_arg0) = m ((c.tc : Thread Cert.UpdDownIdeal.nD Cert.UpdDownIdeal.τ).loc Cert.UpdDownIdeal.main_arg0)
      ∧ m' ((c.tc : Thread Cert.UpdDownRefIdeal.nD Cert.UpdDownRefIdeal.τ).loc Cert.UpdDownRefIdeal.main_arg1) = m ((c.tc : Thread Cert.UpdDownIdeal.nD Cert.UpdDownIdeal.τ).loc Cert.UpdDownIdeal.main_arg1)
      ∧ m' ((c.tc : Thread Cert.UpdDownRefIdeal.nD Cert.UpdDownRefIdeal.τ).loc Cert.UpdDownRefIdeal.main_arg2) = m ((c.tc : Thread Cert.UpdDownIdeal.nD Cert.UpdDownIdeal.τ).loc Cert.UpdDownIdeal.main_arg2)
      ∧ m' ((c.tc : Thread Cert.UpdDownRefIdeal.nD Cert.UpdDownRefIdeal.τ).loc Cert.UpdDownRefIdeal.main_arg3) = m ((c.tc : Thread Cert.UpdDownIdeal.nD Cert.UpdDownIdeal.τ).loc Cert.UpdDownIdeal.main_arg3)) →
    ∃ (v0 : (c : Dev Cert.UpdDownIdeal.nD) → Buf (Elt Ideal) ((c.tc : Thread Cert.UpdDownIdeal.nD Cert.UpdDownIdeal.τ).loc Cert.UpdDownIdeal.main_v0_0)) (v1 : (c : Dev Cert.UpdDownIdeal.nD) → Buf (Elt Ideal) ((c.tc : Thread Cert.UpdDownIdeal.nD Cert.UpdDownIdeal.τ).loc Cert.UpdDownIdeal.main_v0_1)) (v2 : (c : Dev Cert.UpdDownIdeal.nD) → Buf (Elt Ideal) ((c.tc : Thread Cert.UpdDownIdeal.nD Cert.UpdDownIdeal.τ).loc Cert.UpdDownIdeal.main_v0_2)) (v3 : (c : Dev Cert.UpdDownIdeal.nD) → Buf (Elt Ideal) ((c.tc : Thread Cert.UpdDownIdeal.nD Cert.UpdDownIdeal.τ).loc Cert.UpdDownIdeal.main_v0_3)),
      θ_run (Cert.UpdDownIdeal.defs (F := Ideal)) (onTc (τ := Cert.UpdDownIdeal.τ) (Cert.UpdDownIdeal.main (F := Ideal))) ⟨m, fun _ => 0, g⟩ (fun r => ∀ c : Dev Cert.UpdDownIdeal.nD,
          r.2.mem ((c.tc : Thread Cert.UpdDownIdeal.nD Cert.UpdDownIdeal.τ).loc Cert.UpdDownIdeal.main_v0_0) = v0 c
          ∧ r.2.mem ((c.tc : Thread Cert.UpdDownIdeal.nD Cert.UpdDownIdeal.τ).loc Cert.UpdDownIdeal.main_v0_1) = v1 c
          ∧ r.2.mem ((c.tc : Thread Cert.UpdDownIdeal.nD Cert.UpdDownIdeal.τ).loc Cert.UpdDownIdeal.main_v0_2) = v2 c
          ∧ r.2.mem ((c.tc : Thread Cert.UpdDownIdeal.nD Cert.UpdDownIdeal.τ).loc Cert.UpdDownIdeal.main_v0_3) = v3 c
          ∧ r.2.mem ((c.tc : Thread Cert.UpdDownIdeal.nD Cert.UpdDownIdeal.τ).loc Cert.UpdDownIdeal.main_arg0) = m ((c.tc : Thread Cert.UpdDownIdeal.nD Cert.UpdDownIdeal.τ).loc Cert.UpdDownIdeal.main_arg0)
          ∧ r.2.mem ((c.tc : Thread Cert.UpdDownIdeal.nD Cert.UpdDownIdeal.τ).loc Cert.UpdDownIdeal.main_arg1) = m ((c.tc : Thread Cert.UpdDownIdeal.nD Cert.UpdDownIdeal.τ).loc Cert.UpdDownIdeal.main_arg1)
          ∧ r.2.mem ((c.tc : Thread Cert.UpdDownIdeal.nD Cert.UpdDownIdeal.τ).loc Cert.UpdDownIdeal.main_arg2) = m ((c.tc : Thread Cert.UpdDownIdeal.nD Cert.UpdDownIdeal.τ).loc Cert.UpdDownIdeal.main_arg2)
          ∧ r.2.mem ((c.tc : Thread Cert.UpdDownIdeal.nD Cert.UpdDownIdeal.τ).loc Cert.UpdDownIdeal.main_arg3) = m ((c.tc : Thread Cert.UpdDownIdeal.nD Cert.UpdDownIdeal.τ).loc Cert.UpdDownIdeal.main_arg3))
      ∧ θ_run (Cert.UpdDownRefIdeal.defs (F := Ideal)) (onTc (τ := Cert.UpdDownRefIdeal.τ) (Cert.UpdDownRefIdeal.main (F := Ideal))) ⟨m', fun _ => 0, g'⟩ (fun r => ∀ c : Dev Cert.UpdDownRefIdeal.nD,
          r.2.mem ((c.tc : Thread Cert.UpdDownRefIdeal.nD Cert.UpdDownRefIdeal.τ).loc Cert.UpdDownRefIdeal.main_v1) = v0 c
          ∧ r.2.mem ((c.tc : Thread Cert.UpdDownRefIdeal.nD Cert.UpdDownRefIdeal.τ).loc Cert.UpdDownRefIdeal.main_v25) = v1 c
          ∧ r.2.mem ((c.tc : Thread Cert.UpdDownRefIdeal.nD Cert.UpdDownRefIdeal.τ).loc Cert.UpdDownRefIdeal.main_v6) = v2 c
          ∧ r.2.mem ((c.tc : Thread Cert.UpdDownRefIdeal.nD Cert.UpdDownRefIdeal.τ).loc Cert.UpdDownRefIdeal.main_v12) = v3 c
          ∧ r.2.mem ((c.tc : Thread Cert.UpdDownRefIdeal.nD Cert.UpdDownRefIdeal.τ).loc Cert.UpdDownRefIdeal.main_arg0) = m' ((c.tc : Thread Cert.UpdDownRefIdeal.nD Cert.UpdDownRefIdeal.τ).loc Cert.UpdDownRefIdeal.main_arg0)
          ∧ r.2.mem ((c.tc : Thread Cert.UpdDownRefIdeal.nD Cert.UpdDownRefIdeal.τ).loc Cert.UpdDownRefIdeal.main_arg1) = m' ((c.tc : Thread Cert.UpdDownRefIdeal.nD Cert.UpdDownRefIdeal.τ).loc Cert.UpdDownRefIdeal.main_arg1)
          ∧ r.2.mem ((c.tc : Thread Cert.UpdDownRefIdeal.nD Cert.UpdDownRefIdeal.τ).loc Cert.UpdDownRefIdeal.main_arg2) = m' ((c.tc : Thread Cert.UpdDownRefIdeal.nD Cert.UpdDownRefIdeal.τ).loc Cert.UpdDownRefIdeal.main_arg2)
          ∧ r.2.mem ((c.tc : Thread Cert.UpdDownRefIdeal.nD Cert.UpdDownRefIdeal.τ).loc Cert.UpdDownRefIdeal.main_arg3) = m' ((c.tc : Thread Cert.UpdDownRefIdeal.nD Cert.UpdDownRefIdeal.τ).loc Cert.UpdDownRefIdeal.main_arg3))

def preserves_QkBwd_QkBwdIdeal : Prop :=
  True

def algebraic_QkBwdIdeal_QkBwdRefIdeal_pre_qk_finite [hQkBwdIdeal : Cert.QkBwdIdeal.Facts] [hQkBwdRefIdeal : Cert.QkBwdRefIdeal.Facts] [hPre_qk_finite : Cert.Pre_qk_finite.Facts] : Prop :=
  ∀ (m : (ℓ : Loc Cert.QkBwdIdeal.nD Cert.QkBwdIdeal.τ Cert.QkBwdIdeal.sig) → Buf (Elt Ideal) ℓ) (g : Dev Cert.QkBwdIdeal.nD → PrngReg)
    (m' : (ℓ : Loc Cert.QkBwdRefIdeal.nD Cert.QkBwdRefIdeal.τ Cert.QkBwdRefIdeal.sig) → Buf (Elt Ideal) ℓ) (g' : Dev Cert.QkBwdRefIdeal.nD → PrngReg), Pre_QkBwdIdeal_qk_finite m →
    (∀ c : Dev Cert.QkBwdIdeal.nD,
      m' ((c.tc : Thread Cert.QkBwdRefIdeal.nD Cert.QkBwdRefIdeal.τ).loc Cert.QkBwdRefIdeal.main_arg0) = m ((c.tc : Thread Cert.QkBwdIdeal.nD Cert.QkBwdIdeal.τ).loc Cert.QkBwdIdeal.main_arg0)
      ∧ m' ((c.tc : Thread Cert.QkBwdRefIdeal.nD Cert.QkBwdRefIdeal.τ).loc Cert.QkBwdRefIdeal.main_arg1) = m ((c.tc : Thread Cert.QkBwdIdeal.nD Cert.QkBwdIdeal.τ).loc Cert.QkBwdIdeal.main_arg1)
      ∧ m' ((c.tc : Thread Cert.QkBwdRefIdeal.nD Cert.QkBwdRefIdeal.τ).loc Cert.QkBwdRefIdeal.main_arg2) = m ((c.tc : Thread Cert.QkBwdIdeal.nD Cert.QkBwdIdeal.τ).loc Cert.QkBwdIdeal.main_arg2)
      ∧ m' ((c.tc : Thread Cert.QkBwdRefIdeal.nD Cert.QkBwdRefIdeal.τ).loc Cert.QkBwdRefIdeal.main_arg3) = m ((c.tc : Thread Cert.QkBwdIdeal.nD Cert.QkBwdIdeal.τ).loc Cert.QkBwdIdeal.main_arg3)
      ∧ m' ((c.tc : Thread Cert.QkBwdRefIdeal.nD Cert.QkBwdRefIdeal.τ).loc Cert.QkBwdRefIdeal.main_arg4) = m ((c.tc : Thread Cert.QkBwdIdeal.nD Cert.QkBwdIdeal.τ).loc Cert.QkBwdIdeal.main_arg4)
      ∧ m' ((c.tc : Thread Cert.QkBwdRefIdeal.nD Cert.QkBwdRefIdeal.τ).loc Cert.QkBwdRefIdeal.main_arg5) = m ((c.tc : Thread Cert.QkBwdIdeal.nD Cert.QkBwdIdeal.τ).loc Cert.QkBwdIdeal.main_arg5)
      ∧ m' ((c.tc : Thread Cert.QkBwdRefIdeal.nD Cert.QkBwdRefIdeal.τ).loc Cert.QkBwdRefIdeal.main_arg6) = m ((c.tc : Thread Cert.QkBwdIdeal.nD Cert.QkBwdIdeal.τ).loc Cert.QkBwdIdeal.main_arg6)) →
    ∃ (v0 : (c : Dev Cert.QkBwdIdeal.nD) → Buf (Elt Ideal) ((c.tc : Thread Cert.QkBwdIdeal.nD Cert.QkBwdIdeal.τ).loc Cert.QkBwdIdeal.main_v9_0)) (v1 : (c : Dev Cert.QkBwdIdeal.nD) → Buf (Elt Ideal) ((c.tc : Thread Cert.QkBwdIdeal.nD Cert.QkBwdIdeal.τ).loc Cert.QkBwdIdeal.main_v9_1)) (v2 : (c : Dev Cert.QkBwdIdeal.nD) → Buf (Elt Ideal) ((c.tc : Thread Cert.QkBwdIdeal.nD Cert.QkBwdIdeal.τ).loc Cert.QkBwdIdeal.main_v9_2)),
      θ_run (Cert.QkBwdIdeal.defs (F := Ideal)) (onTc (τ := Cert.QkBwdIdeal.τ) (Cert.QkBwdIdeal.main (F := Ideal))) ⟨m, fun _ => 0, g⟩ (fun r => ∀ c : Dev Cert.QkBwdIdeal.nD,
          r.2.mem ((c.tc : Thread Cert.QkBwdIdeal.nD Cert.QkBwdIdeal.τ).loc Cert.QkBwdIdeal.main_v9_0) = v0 c
          ∧ r.2.mem ((c.tc : Thread Cert.QkBwdIdeal.nD Cert.QkBwdIdeal.τ).loc Cert.QkBwdIdeal.main_v9_1) = v1 c
          ∧ r.2.mem ((c.tc : Thread Cert.QkBwdIdeal.nD Cert.QkBwdIdeal.τ).loc Cert.QkBwdIdeal.main_v9_2) = v2 c
          ∧ r.2.mem ((c.tc : Thread Cert.QkBwdIdeal.nD Cert.QkBwdIdeal.τ).loc Cert.QkBwdIdeal.main_arg0) = m ((c.tc : Thread Cert.QkBwdIdeal.nD Cert.QkBwdIdeal.τ).loc Cert.QkBwdIdeal.main_arg0)
          ∧ r.2.mem ((c.tc : Thread Cert.QkBwdIdeal.nD Cert.QkBwdIdeal.τ).loc Cert.QkBwdIdeal.main_arg1) = m ((c.tc : Thread Cert.QkBwdIdeal.nD Cert.QkBwdIdeal.τ).loc Cert.QkBwdIdeal.main_arg1)
          ∧ r.2.mem ((c.tc : Thread Cert.QkBwdIdeal.nD Cert.QkBwdIdeal.τ).loc Cert.QkBwdIdeal.main_arg2) = m ((c.tc : Thread Cert.QkBwdIdeal.nD Cert.QkBwdIdeal.τ).loc Cert.QkBwdIdeal.main_arg2)
          ∧ r.2.mem ((c.tc : Thread Cert.QkBwdIdeal.nD Cert.QkBwdIdeal.τ).loc Cert.QkBwdIdeal.main_arg3) = m ((c.tc : Thread Cert.QkBwdIdeal.nD Cert.QkBwdIdeal.τ).loc Cert.QkBwdIdeal.main_arg3)
          ∧ r.2.mem ((c.tc : Thread Cert.QkBwdIdeal.nD Cert.QkBwdIdeal.τ).loc Cert.QkBwdIdeal.main_arg4) = m ((c.tc : Thread Cert.QkBwdIdeal.nD Cert.QkBwdIdeal.τ).loc Cert.QkBwdIdeal.main_arg4)
          ∧ r.2.mem ((c.tc : Thread Cert.QkBwdIdeal.nD Cert.QkBwdIdeal.τ).loc Cert.QkBwdIdeal.main_arg5) = m ((c.tc : Thread Cert.QkBwdIdeal.nD Cert.QkBwdIdeal.τ).loc Cert.QkBwdIdeal.main_arg5)
          ∧ r.2.mem ((c.tc : Thread Cert.QkBwdIdeal.nD Cert.QkBwdIdeal.τ).loc Cert.QkBwdIdeal.main_arg6) = m ((c.tc : Thread Cert.QkBwdIdeal.nD Cert.QkBwdIdeal.τ).loc Cert.QkBwdIdeal.main_arg6))
      ∧ θ_run (Cert.QkBwdRefIdeal.defs (F := Ideal)) (onTc (τ := Cert.QkBwdRefIdeal.τ) (Cert.QkBwdRefIdeal.main (F := Ideal))) ⟨m', fun _ => 0, g'⟩ (fun r => ∀ c : Dev Cert.QkBwdRefIdeal.nD,
          r.2.mem ((c.tc : Thread Cert.QkBwdRefIdeal.nD Cert.QkBwdRefIdeal.τ).loc Cert.QkBwdRefIdeal.main_v93) = v0 c
          ∧ r.2.mem ((c.tc : Thread Cert.QkBwdRefIdeal.nD Cert.QkBwdRefIdeal.τ).loc Cert.QkBwdRefIdeal.main_v86) = v1 c
          ∧ r.2.mem ((c.tc : Thread Cert.QkBwdRefIdeal.nD Cert.QkBwdRefIdeal.τ).loc Cert.QkBwdRefIdeal.main_v66) = v2 c
          ∧ r.2.mem ((c.tc : Thread Cert.QkBwdRefIdeal.nD Cert.QkBwdRefIdeal.τ).loc Cert.QkBwdRefIdeal.main_arg0) = m' ((c.tc : Thread Cert.QkBwdRefIdeal.nD Cert.QkBwdRefIdeal.τ).loc Cert.QkBwdRefIdeal.main_arg0)
          ∧ r.2.mem ((c.tc : Thread Cert.QkBwdRefIdeal.nD Cert.QkBwdRefIdeal.τ).loc Cert.QkBwdRefIdeal.main_arg1) = m' ((c.tc : Thread Cert.QkBwdRefIdeal.nD Cert.QkBwdRefIdeal.τ).loc Cert.QkBwdRefIdeal.main_arg1)
          ∧ r.2.mem ((c.tc : Thread Cert.QkBwdRefIdeal.nD Cert.QkBwdRefIdeal.τ).loc Cert.QkBwdRefIdeal.main_arg2) = m' ((c.tc : Thread Cert.QkBwdRefIdeal.nD Cert.QkBwdRefIdeal.τ).loc Cert.QkBwdRefIdeal.main_arg2)
          ∧ r.2.mem ((c.tc : Thread Cert.QkBwdRefIdeal.nD Cert.QkBwdRefIdeal.τ).loc Cert.QkBwdRefIdeal.main_arg3) = m' ((c.tc : Thread Cert.QkBwdRefIdeal.nD Cert.QkBwdRefIdeal.τ).loc Cert.QkBwdRefIdeal.main_arg3)
          ∧ r.2.mem ((c.tc : Thread Cert.QkBwdRefIdeal.nD Cert.QkBwdRefIdeal.τ).loc Cert.QkBwdRefIdeal.main_arg4) = m' ((c.tc : Thread Cert.QkBwdRefIdeal.nD Cert.QkBwdRefIdeal.τ).loc Cert.QkBwdRefIdeal.main_arg4)
          ∧ r.2.mem ((c.tc : Thread Cert.QkBwdRefIdeal.nD Cert.QkBwdRefIdeal.τ).loc Cert.QkBwdRefIdeal.main_arg5) = m' ((c.tc : Thread Cert.QkBwdRefIdeal.nD Cert.QkBwdRefIdeal.τ).loc Cert.QkBwdRefIdeal.main_arg5)
          ∧ r.2.mem ((c.tc : Thread Cert.QkBwdRefIdeal.nD Cert.QkBwdRefIdeal.τ).loc Cert.QkBwdRefIdeal.main_arg6) = m' ((c.tc : Thread Cert.QkBwdRefIdeal.nD Cert.QkBwdRefIdeal.τ).loc Cert.QkBwdRefIdeal.main_arg6))

def preserves_SsmDiscBwd_SsmDiscBwdIdeal : Prop :=
  True

def algebraic_SsmDiscBwdIdeal_SsmDiscBwdRefIdeal_pre_disc_regular [hSsmDiscBwdIdeal : Cert.SsmDiscBwdIdeal.Facts] [hSsmDiscBwdRefIdeal : Cert.SsmDiscBwdRefIdeal.Facts] [hPre_disc_regular : Cert.Pre_disc_regular.Facts] : Prop :=
  ∀ (m : (ℓ : Loc Cert.SsmDiscBwdIdeal.nD Cert.SsmDiscBwdIdeal.τ Cert.SsmDiscBwdIdeal.sig) → Buf (Elt Ideal) ℓ) (g : Dev Cert.SsmDiscBwdIdeal.nD → PrngReg)
    (m' : (ℓ : Loc Cert.SsmDiscBwdRefIdeal.nD Cert.SsmDiscBwdRefIdeal.τ Cert.SsmDiscBwdRefIdeal.sig) → Buf (Elt Ideal) ℓ) (g' : Dev Cert.SsmDiscBwdRefIdeal.nD → PrngReg), Pre_SsmDiscBwdIdeal_disc_regular m →
    (∀ c : Dev Cert.SsmDiscBwdIdeal.nD,
      m' ((c.tc : Thread Cert.SsmDiscBwdRefIdeal.nD Cert.SsmDiscBwdRefIdeal.τ).loc Cert.SsmDiscBwdRefIdeal.main_arg0) = m ((c.tc : Thread Cert.SsmDiscBwdIdeal.nD Cert.SsmDiscBwdIdeal.τ).loc Cert.SsmDiscBwdIdeal.main_arg0)
      ∧ m' ((c.tc : Thread Cert.SsmDiscBwdRefIdeal.nD Cert.SsmDiscBwdRefIdeal.τ).loc Cert.SsmDiscBwdRefIdeal.main_arg1) = m ((c.tc : Thread Cert.SsmDiscBwdIdeal.nD Cert.SsmDiscBwdIdeal.τ).loc Cert.SsmDiscBwdIdeal.main_arg1)
      ∧ m' ((c.tc : Thread Cert.SsmDiscBwdRefIdeal.nD Cert.SsmDiscBwdRefIdeal.τ).loc Cert.SsmDiscBwdRefIdeal.main_arg2) = m ((c.tc : Thread Cert.SsmDiscBwdIdeal.nD Cert.SsmDiscBwdIdeal.τ).loc Cert.SsmDiscBwdIdeal.main_arg2)
      ∧ m' ((c.tc : Thread Cert.SsmDiscBwdRefIdeal.nD Cert.SsmDiscBwdRefIdeal.τ).loc Cert.SsmDiscBwdRefIdeal.main_arg3) = m ((c.tc : Thread Cert.SsmDiscBwdIdeal.nD Cert.SsmDiscBwdIdeal.τ).loc Cert.SsmDiscBwdIdeal.main_arg3)
      ∧ m' ((c.tc : Thread Cert.SsmDiscBwdRefIdeal.nD Cert.SsmDiscBwdRefIdeal.τ).loc Cert.SsmDiscBwdRefIdeal.main_arg4) = m ((c.tc : Thread Cert.SsmDiscBwdIdeal.nD Cert.SsmDiscBwdIdeal.τ).loc Cert.SsmDiscBwdIdeal.main_arg4)
      ∧ m' ((c.tc : Thread Cert.SsmDiscBwdRefIdeal.nD Cert.SsmDiscBwdRefIdeal.τ).loc Cert.SsmDiscBwdRefIdeal.main_arg5) = m ((c.tc : Thread Cert.SsmDiscBwdIdeal.nD Cert.SsmDiscBwdIdeal.τ).loc Cert.SsmDiscBwdIdeal.main_arg5)
      ∧ m' ((c.tc : Thread Cert.SsmDiscBwdRefIdeal.nD Cert.SsmDiscBwdRefIdeal.τ).loc Cert.SsmDiscBwdRefIdeal.main_arg6) = m ((c.tc : Thread Cert.SsmDiscBwdIdeal.nD Cert.SsmDiscBwdIdeal.τ).loc Cert.SsmDiscBwdIdeal.main_arg6)
      ∧ m' ((c.tc : Thread Cert.SsmDiscBwdRefIdeal.nD Cert.SsmDiscBwdRefIdeal.τ).loc Cert.SsmDiscBwdRefIdeal.main_arg7) = m ((c.tc : Thread Cert.SsmDiscBwdIdeal.nD Cert.SsmDiscBwdIdeal.τ).loc Cert.SsmDiscBwdIdeal.main_arg7)
      ∧ m' ((c.tc : Thread Cert.SsmDiscBwdRefIdeal.nD Cert.SsmDiscBwdRefIdeal.τ).loc Cert.SsmDiscBwdRefIdeal.main_arg8) = m ((c.tc : Thread Cert.SsmDiscBwdIdeal.nD Cert.SsmDiscBwdIdeal.τ).loc Cert.SsmDiscBwdIdeal.main_arg8)) →
    ∃ (v0 : (c : Dev Cert.SsmDiscBwdIdeal.nD) → Buf (Elt Ideal) ((c.tc : Thread Cert.SsmDiscBwdIdeal.nD Cert.SsmDiscBwdIdeal.τ).loc Cert.SsmDiscBwdIdeal.main_v7_0)) (v1 : (c : Dev Cert.SsmDiscBwdIdeal.nD) → Buf (Elt Ideal) ((c.tc : Thread Cert.SsmDiscBwdIdeal.nD Cert.SsmDiscBwdIdeal.τ).loc Cert.SsmDiscBwdIdeal.main_v7_1)) (v2 : (c : Dev Cert.SsmDiscBwdIdeal.nD) → Buf (Elt Ideal) ((c.tc : Thread Cert.SsmDiscBwdIdeal.nD Cert.SsmDiscBwdIdeal.τ).loc Cert.SsmDiscBwdIdeal.main_v7_2)) (v3 : (c : Dev Cert.SsmDiscBwdIdeal.nD) → Buf (Elt Ideal) ((c.tc : Thread Cert.SsmDiscBwdIdeal.nD Cert.SsmDiscBwdIdeal.τ).loc Cert.SsmDiscBwdIdeal.main_v7_3)) (v4 : (c : Dev Cert.SsmDiscBwdIdeal.nD) → Buf (Elt Ideal) ((c.tc : Thread Cert.SsmDiscBwdIdeal.nD Cert.SsmDiscBwdIdeal.τ).loc Cert.SsmDiscBwdIdeal.main_v7_4)),
      θ_run (Cert.SsmDiscBwdIdeal.defs (F := Ideal)) (onTc (τ := Cert.SsmDiscBwdIdeal.τ) (Cert.SsmDiscBwdIdeal.main (F := Ideal))) ⟨m, fun _ => 0, g⟩ (fun r => ∀ c : Dev Cert.SsmDiscBwdIdeal.nD,
          r.2.mem ((c.tc : Thread Cert.SsmDiscBwdIdeal.nD Cert.SsmDiscBwdIdeal.τ).loc Cert.SsmDiscBwdIdeal.main_v7_0) = v0 c
          ∧ r.2.mem ((c.tc : Thread Cert.SsmDiscBwdIdeal.nD Cert.SsmDiscBwdIdeal.τ).loc Cert.SsmDiscBwdIdeal.main_v7_1) = v1 c
          ∧ r.2.mem ((c.tc : Thread Cert.SsmDiscBwdIdeal.nD Cert.SsmDiscBwdIdeal.τ).loc Cert.SsmDiscBwdIdeal.main_v7_2) = v2 c
          ∧ r.2.mem ((c.tc : Thread Cert.SsmDiscBwdIdeal.nD Cert.SsmDiscBwdIdeal.τ).loc Cert.SsmDiscBwdIdeal.main_v7_3) = v3 c
          ∧ r.2.mem ((c.tc : Thread Cert.SsmDiscBwdIdeal.nD Cert.SsmDiscBwdIdeal.τ).loc Cert.SsmDiscBwdIdeal.main_v7_4) = v4 c
          ∧ r.2.mem ((c.tc : Thread Cert.SsmDiscBwdIdeal.nD Cert.SsmDiscBwdIdeal.τ).loc Cert.SsmDiscBwdIdeal.main_arg0) = m ((c.tc : Thread Cert.SsmDiscBwdIdeal.nD Cert.SsmDiscBwdIdeal.τ).loc Cert.SsmDiscBwdIdeal.main_arg0)
          ∧ r.2.mem ((c.tc : Thread Cert.SsmDiscBwdIdeal.nD Cert.SsmDiscBwdIdeal.τ).loc Cert.SsmDiscBwdIdeal.main_arg1) = m ((c.tc : Thread Cert.SsmDiscBwdIdeal.nD Cert.SsmDiscBwdIdeal.τ).loc Cert.SsmDiscBwdIdeal.main_arg1)
          ∧ r.2.mem ((c.tc : Thread Cert.SsmDiscBwdIdeal.nD Cert.SsmDiscBwdIdeal.τ).loc Cert.SsmDiscBwdIdeal.main_arg2) = m ((c.tc : Thread Cert.SsmDiscBwdIdeal.nD Cert.SsmDiscBwdIdeal.τ).loc Cert.SsmDiscBwdIdeal.main_arg2)
          ∧ r.2.mem ((c.tc : Thread Cert.SsmDiscBwdIdeal.nD Cert.SsmDiscBwdIdeal.τ).loc Cert.SsmDiscBwdIdeal.main_arg3) = m ((c.tc : Thread Cert.SsmDiscBwdIdeal.nD Cert.SsmDiscBwdIdeal.τ).loc Cert.SsmDiscBwdIdeal.main_arg3)
          ∧ r.2.mem ((c.tc : Thread Cert.SsmDiscBwdIdeal.nD Cert.SsmDiscBwdIdeal.τ).loc Cert.SsmDiscBwdIdeal.main_arg4) = m ((c.tc : Thread Cert.SsmDiscBwdIdeal.nD Cert.SsmDiscBwdIdeal.τ).loc Cert.SsmDiscBwdIdeal.main_arg4)
          ∧ r.2.mem ((c.tc : Thread Cert.SsmDiscBwdIdeal.nD Cert.SsmDiscBwdIdeal.τ).loc Cert.SsmDiscBwdIdeal.main_arg5) = m ((c.tc : Thread Cert.SsmDiscBwdIdeal.nD Cert.SsmDiscBwdIdeal.τ).loc Cert.SsmDiscBwdIdeal.main_arg5)
          ∧ r.2.mem ((c.tc : Thread Cert.SsmDiscBwdIdeal.nD Cert.SsmDiscBwdIdeal.τ).loc Cert.SsmDiscBwdIdeal.main_arg6) = m ((c.tc : Thread Cert.SsmDiscBwdIdeal.nD Cert.SsmDiscBwdIdeal.τ).loc Cert.SsmDiscBwdIdeal.main_arg6)
          ∧ r.2.mem ((c.tc : Thread Cert.SsmDiscBwdIdeal.nD Cert.SsmDiscBwdIdeal.τ).loc Cert.SsmDiscBwdIdeal.main_arg7) = m ((c.tc : Thread Cert.SsmDiscBwdIdeal.nD Cert.SsmDiscBwdIdeal.τ).loc Cert.SsmDiscBwdIdeal.main_arg7)
          ∧ r.2.mem ((c.tc : Thread Cert.SsmDiscBwdIdeal.nD Cert.SsmDiscBwdIdeal.τ).loc Cert.SsmDiscBwdIdeal.main_arg8) = m ((c.tc : Thread Cert.SsmDiscBwdIdeal.nD Cert.SsmDiscBwdIdeal.τ).loc Cert.SsmDiscBwdIdeal.main_arg8))
      ∧ θ_run (Cert.SsmDiscBwdRefIdeal.defs (F := Ideal)) (onTc (τ := Cert.SsmDiscBwdRefIdeal.τ) (Cert.SsmDiscBwdRefIdeal.main (F := Ideal))) ⟨m', fun _ => 0, g'⟩ (fun r => ∀ c : Dev Cert.SsmDiscBwdRefIdeal.nD,
          r.2.mem ((c.tc : Thread Cert.SsmDiscBwdRefIdeal.nD Cert.SsmDiscBwdRefIdeal.τ).loc Cert.SsmDiscBwdRefIdeal.main_v144) = v0 c
          ∧ r.2.mem ((c.tc : Thread Cert.SsmDiscBwdRefIdeal.nD Cert.SsmDiscBwdRefIdeal.τ).loc Cert.SsmDiscBwdRefIdeal.main_v145) = v1 c
          ∧ r.2.mem ((c.tc : Thread Cert.SsmDiscBwdRefIdeal.nD Cert.SsmDiscBwdRefIdeal.τ).loc Cert.SsmDiscBwdRefIdeal.main_v146) = v2 c
          ∧ r.2.mem ((c.tc : Thread Cert.SsmDiscBwdRefIdeal.nD Cert.SsmDiscBwdRefIdeal.τ).loc Cert.SsmDiscBwdRefIdeal.main_v147) = v3 c
          ∧ r.2.mem ((c.tc : Thread Cert.SsmDiscBwdRefIdeal.nD Cert.SsmDiscBwdRefIdeal.τ).loc Cert.SsmDiscBwdRefIdeal.main_v148) = v4 c
          ∧ r.2.mem ((c.tc : Thread Cert.SsmDiscBwdRefIdeal.nD Cert.SsmDiscBwdRefIdeal.τ).loc Cert.SsmDiscBwdRefIdeal.main_arg0) = m' ((c.tc : Thread Cert.SsmDiscBwdRefIdeal.nD Cert.SsmDiscBwdRefIdeal.τ).loc Cert.SsmDiscBwdRefIdeal.main_arg0)
          ∧ r.2.mem ((c.tc : Thread Cert.SsmDiscBwdRefIdeal.nD Cert.SsmDiscBwdRefIdeal.τ).loc Cert.SsmDiscBwdRefIdeal.main_arg1) = m' ((c.tc : Thread Cert.SsmDiscBwdRefIdeal.nD Cert.SsmDiscBwdRefIdeal.τ).loc Cert.SsmDiscBwdRefIdeal.main_arg1)
          ∧ r.2.mem ((c.tc : Thread Cert.SsmDiscBwdRefIdeal.nD Cert.SsmDiscBwdRefIdeal.τ).loc Cert.SsmDiscBwdRefIdeal.main_arg2) = m' ((c.tc : Thread Cert.SsmDiscBwdRefIdeal.nD Cert.SsmDiscBwdRefIdeal.τ).loc Cert.SsmDiscBwdRefIdeal.main_arg2)
          ∧ r.2.mem ((c.tc : Thread Cert.SsmDiscBwdRefIdeal.nD Cert.SsmDiscBwdRefIdeal.τ).loc Cert.SsmDiscBwdRefIdeal.main_arg3) = m' ((c.tc : Thread Cert.SsmDiscBwdRefIdeal.nD Cert.SsmDiscBwdRefIdeal.τ).loc Cert.SsmDiscBwdRefIdeal.main_arg3)
          ∧ r.2.mem ((c.tc : Thread Cert.SsmDiscBwdRefIdeal.nD Cert.SsmDiscBwdRefIdeal.τ).loc Cert.SsmDiscBwdRefIdeal.main_arg4) = m' ((c.tc : Thread Cert.SsmDiscBwdRefIdeal.nD Cert.SsmDiscBwdRefIdeal.τ).loc Cert.SsmDiscBwdRefIdeal.main_arg4)
          ∧ r.2.mem ((c.tc : Thread Cert.SsmDiscBwdRefIdeal.nD Cert.SsmDiscBwdRefIdeal.τ).loc Cert.SsmDiscBwdRefIdeal.main_arg5) = m' ((c.tc : Thread Cert.SsmDiscBwdRefIdeal.nD Cert.SsmDiscBwdRefIdeal.τ).loc Cert.SsmDiscBwdRefIdeal.main_arg5)
          ∧ r.2.mem ((c.tc : Thread Cert.SsmDiscBwdRefIdeal.nD Cert.SsmDiscBwdRefIdeal.τ).loc Cert.SsmDiscBwdRefIdeal.main_arg6) = m' ((c.tc : Thread Cert.SsmDiscBwdRefIdeal.nD Cert.SsmDiscBwdRefIdeal.τ).loc Cert.SsmDiscBwdRefIdeal.main_arg6)
          ∧ r.2.mem ((c.tc : Thread Cert.SsmDiscBwdRefIdeal.nD Cert.SsmDiscBwdRefIdeal.τ).loc Cert.SsmDiscBwdRefIdeal.main_arg7) = m' ((c.tc : Thread Cert.SsmDiscBwdRefIdeal.nD Cert.SsmDiscBwdRefIdeal.τ).loc Cert.SsmDiscBwdRefIdeal.main_arg7)
          ∧ r.2.mem ((c.tc : Thread Cert.SsmDiscBwdRefIdeal.nD Cert.SsmDiscBwdRefIdeal.τ).loc Cert.SsmDiscBwdRefIdeal.main_arg8) = m' ((c.tc : Thread Cert.SsmDiscBwdRefIdeal.nD Cert.SsmDiscBwdRefIdeal.τ).loc Cert.SsmDiscBwdRefIdeal.main_arg8))

def preserves_SsmDisc_SsmDiscIdeal : Prop :=
  True

def algebraic_SsmDiscIdeal_SsmDiscRefIdeal [hSsmDiscIdeal : Cert.SsmDiscIdeal.Facts] [hSsmDiscRefIdeal : Cert.SsmDiscRefIdeal.Facts] : Prop :=
  ∀ (m : (ℓ : Loc Cert.SsmDiscIdeal.nD Cert.SsmDiscIdeal.τ Cert.SsmDiscIdeal.sig) → Buf (Elt Ideal) ℓ) (g : Dev Cert.SsmDiscIdeal.nD → PrngReg)
    (m' : (ℓ : Loc Cert.SsmDiscRefIdeal.nD Cert.SsmDiscRefIdeal.τ Cert.SsmDiscRefIdeal.sig) → Buf (Elt Ideal) ℓ) (g' : Dev Cert.SsmDiscRefIdeal.nD → PrngReg), Pre_SsmDiscIdeal m →
    (∀ c : Dev Cert.SsmDiscIdeal.nD,
      m' ((c.tc : Thread Cert.SsmDiscRefIdeal.nD Cert.SsmDiscRefIdeal.τ).loc Cert.SsmDiscRefIdeal.main_arg0) = m ((c.tc : Thread Cert.SsmDiscIdeal.nD Cert.SsmDiscIdeal.τ).loc Cert.SsmDiscIdeal.main_arg0)
      ∧ m' ((c.tc : Thread Cert.SsmDiscRefIdeal.nD Cert.SsmDiscRefIdeal.τ).loc Cert.SsmDiscRefIdeal.main_arg1) = m ((c.tc : Thread Cert.SsmDiscIdeal.nD Cert.SsmDiscIdeal.τ).loc Cert.SsmDiscIdeal.main_arg1)
      ∧ m' ((c.tc : Thread Cert.SsmDiscRefIdeal.nD Cert.SsmDiscRefIdeal.τ).loc Cert.SsmDiscRefIdeal.main_arg2) = m ((c.tc : Thread Cert.SsmDiscIdeal.nD Cert.SsmDiscIdeal.τ).loc Cert.SsmDiscIdeal.main_arg2)
      ∧ m' ((c.tc : Thread Cert.SsmDiscRefIdeal.nD Cert.SsmDiscRefIdeal.τ).loc Cert.SsmDiscRefIdeal.main_arg3) = m ((c.tc : Thread Cert.SsmDiscIdeal.nD Cert.SsmDiscIdeal.τ).loc Cert.SsmDiscIdeal.main_arg3)
      ∧ m' ((c.tc : Thread Cert.SsmDiscRefIdeal.nD Cert.SsmDiscRefIdeal.τ).loc Cert.SsmDiscRefIdeal.main_arg4) = m ((c.tc : Thread Cert.SsmDiscIdeal.nD Cert.SsmDiscIdeal.τ).loc Cert.SsmDiscIdeal.main_arg4)) →
    ∃ (v0 : (c : Dev Cert.SsmDiscIdeal.nD) → Buf (Elt Ideal) ((c.tc : Thread Cert.SsmDiscIdeal.nD Cert.SsmDiscIdeal.τ).loc Cert.SsmDiscIdeal.main_v5_0)) (v1 : (c : Dev Cert.SsmDiscIdeal.nD) → Buf (Elt Ideal) ((c.tc : Thread Cert.SsmDiscIdeal.nD Cert.SsmDiscIdeal.τ).loc Cert.SsmDiscIdeal.main_v5_1)) (v2 : (c : Dev Cert.SsmDiscIdeal.nD) → Buf (Elt Ideal) ((c.tc : Thread Cert.SsmDiscIdeal.nD Cert.SsmDiscIdeal.τ).loc Cert.SsmDiscIdeal.main_v5_2)) (v3 : (c : Dev Cert.SsmDiscIdeal.nD) → Buf (Elt Ideal) ((c.tc : Thread Cert.SsmDiscIdeal.nD Cert.SsmDiscIdeal.τ).loc Cert.SsmDiscIdeal.main_v5_3)),
      θ_run (Cert.SsmDiscIdeal.defs (F := Ideal)) (onTc (τ := Cert.SsmDiscIdeal.τ) (Cert.SsmDiscIdeal.main (F := Ideal))) ⟨m, fun _ => 0, g⟩ (fun r => ∀ c : Dev Cert.SsmDiscIdeal.nD,
          r.2.mem ((c.tc : Thread Cert.SsmDiscIdeal.nD Cert.SsmDiscIdeal.τ).loc Cert.SsmDiscIdeal.main_v5_0) = v0 c
          ∧ r.2.mem ((c.tc : Thread Cert.SsmDiscIdeal.nD Cert.SsmDiscIdeal.τ).loc Cert.SsmDiscIdeal.main_v5_1) = v1 c
          ∧ r.2.mem ((c.tc : Thread Cert.SsmDiscIdeal.nD Cert.SsmDiscIdeal.τ).loc Cert.SsmDiscIdeal.main_v5_2) = v2 c
          ∧ r.2.mem ((c.tc : Thread Cert.SsmDiscIdeal.nD Cert.SsmDiscIdeal.τ).loc Cert.SsmDiscIdeal.main_v5_3) = v3 c
          ∧ r.2.mem ((c.tc : Thread Cert.SsmDiscIdeal.nD Cert.SsmDiscIdeal.τ).loc Cert.SsmDiscIdeal.main_arg0) = m ((c.tc : Thread Cert.SsmDiscIdeal.nD Cert.SsmDiscIdeal.τ).loc Cert.SsmDiscIdeal.main_arg0)
          ∧ r.2.mem ((c.tc : Thread Cert.SsmDiscIdeal.nD Cert.SsmDiscIdeal.τ).loc Cert.SsmDiscIdeal.main_arg1) = m ((c.tc : Thread Cert.SsmDiscIdeal.nD Cert.SsmDiscIdeal.τ).loc Cert.SsmDiscIdeal.main_arg1)
          ∧ r.2.mem ((c.tc : Thread Cert.SsmDiscIdeal.nD Cert.SsmDiscIdeal.τ).loc Cert.SsmDiscIdeal.main_arg2) = m ((c.tc : Thread Cert.SsmDiscIdeal.nD Cert.SsmDiscIdeal.τ).loc Cert.SsmDiscIdeal.main_arg2)
          ∧ r.2.mem ((c.tc : Thread Cert.SsmDiscIdeal.nD Cert.SsmDiscIdeal.τ).loc Cert.SsmDiscIdeal.main_arg3) = m ((c.tc : Thread Cert.SsmDiscIdeal.nD Cert.SsmDiscIdeal.τ).loc Cert.SsmDiscIdeal.main_arg3)
          ∧ r.2.mem ((c.tc : Thread Cert.SsmDiscIdeal.nD Cert.SsmDiscIdeal.τ).loc Cert.SsmDiscIdeal.main_arg4) = m ((c.tc : Thread Cert.SsmDiscIdeal.nD Cert.SsmDiscIdeal.τ).loc Cert.SsmDiscIdeal.main_arg4))
      ∧ θ_run (Cert.SsmDiscRefIdeal.defs (F := Ideal)) (onTc (τ := Cert.SsmDiscRefIdeal.τ) (Cert.SsmDiscRefIdeal.main (F := Ideal))) ⟨m', fun _ => 0, g'⟩ (fun r => ∀ c : Dev Cert.SsmDiscRefIdeal.nD,
          r.2.mem ((c.tc : Thread Cert.SsmDiscRefIdeal.nD Cert.SsmDiscRefIdeal.τ).loc Cert.SsmDiscRefIdeal.main_v40) = v0 c
          ∧ r.2.mem ((c.tc : Thread Cert.SsmDiscRefIdeal.nD Cert.SsmDiscRefIdeal.τ).loc Cert.SsmDiscRefIdeal.main_v41) = v1 c
          ∧ r.2.mem ((c.tc : Thread Cert.SsmDiscRefIdeal.nD Cert.SsmDiscRefIdeal.τ).loc Cert.SsmDiscRefIdeal.main_v42) = v2 c
          ∧ r.2.mem ((c.tc : Thread Cert.SsmDiscRefIdeal.nD Cert.SsmDiscRefIdeal.τ).loc Cert.SsmDiscRefIdeal.main_v43) = v3 c
          ∧ r.2.mem ((c.tc : Thread Cert.SsmDiscRefIdeal.nD Cert.SsmDiscRefIdeal.τ).loc Cert.SsmDiscRefIdeal.main_arg0) = m' ((c.tc : Thread Cert.SsmDiscRefIdeal.nD Cert.SsmDiscRefIdeal.τ).loc Cert.SsmDiscRefIdeal.main_arg0)
          ∧ r.2.mem ((c.tc : Thread Cert.SsmDiscRefIdeal.nD Cert.SsmDiscRefIdeal.τ).loc Cert.SsmDiscRefIdeal.main_arg1) = m' ((c.tc : Thread Cert.SsmDiscRefIdeal.nD Cert.SsmDiscRefIdeal.τ).loc Cert.SsmDiscRefIdeal.main_arg1)
          ∧ r.2.mem ((c.tc : Thread Cert.SsmDiscRefIdeal.nD Cert.SsmDiscRefIdeal.τ).loc Cert.SsmDiscRefIdeal.main_arg2) = m' ((c.tc : Thread Cert.SsmDiscRefIdeal.nD Cert.SsmDiscRefIdeal.τ).loc Cert.SsmDiscRefIdeal.main_arg2)
          ∧ r.2.mem ((c.tc : Thread Cert.SsmDiscRefIdeal.nD Cert.SsmDiscRefIdeal.τ).loc Cert.SsmDiscRefIdeal.main_arg3) = m' ((c.tc : Thread Cert.SsmDiscRefIdeal.nD Cert.SsmDiscRefIdeal.τ).loc Cert.SsmDiscRefIdeal.main_arg3)
          ∧ r.2.mem ((c.tc : Thread Cert.SsmDiscRefIdeal.nD Cert.SsmDiscRefIdeal.τ).loc Cert.SsmDiscRefIdeal.main_arg4) = m' ((c.tc : Thread Cert.SsmDiscRefIdeal.nD Cert.SsmDiscRefIdeal.τ).loc Cert.SsmDiscRefIdeal.main_arg4))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)
      ∧ m' ((c.tc : Thread Cert.SumSmallRefIdeal.nD Cert.SumSmallRefIdeal.τ).loc Cert.SumSmallRefIdeal.main_arg1) = m ((c.tc : Thread Cert.SumSmallIdeal.nD Cert.SumSmallIdeal.τ).loc Cert.SumSmallIdeal.main_arg1)
      ∧ m' ((c.tc : Thread Cert.SumSmallRefIdeal.nD Cert.SumSmallRefIdeal.τ).loc Cert.SumSmallRefIdeal.main_arg2) = m ((c.tc : Thread Cert.SumSmallIdeal.nD Cert.SumSmallIdeal.τ).loc Cert.SumSmallIdeal.main_arg2)) →
    ∃ (v0 : (c : Dev Cert.SumSmallIdeal.nD) → Buf (Elt Ideal) ((c.tc : Thread Cert.SumSmallIdeal.nD Cert.SumSmallIdeal.τ).loc Cert.SumSmallIdeal.main_v1)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v1) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
          ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
          ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v1) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0)
          ∧ r.2.mem ((c.tc : Thread Cert.SumSmallRefIdeal.nD Cert.SumSmallRefIdeal.τ).loc Cert.SumSmallRefIdeal.main_arg1) = m' ((c.tc : Thread Cert.SumSmallRefIdeal.nD Cert.SumSmallRefIdeal.τ).loc Cert.SumSmallRefIdeal.main_arg1)
          ∧ r.2.mem ((c.tc : Thread Cert.SumSmallRefIdeal.nD Cert.SumSmallRefIdeal.τ).loc Cert.SumSmallRefIdeal.main_arg2) = m' ((c.tc : Thread Cert.SumSmallRefIdeal.nD Cert.SumSmallRefIdeal.τ).loc Cert.SumSmallRefIdeal.main_arg2))

def Claim : Prop :=
  ∃ (hMlpUpBwd : Cert.MlpUpBwd.Facts) (hMlpUpBwdIdeal : Cert.MlpUpBwdIdeal.Facts) (hMlpUpBwdRefIdeal : Cert.MlpUpBwdRefIdeal.Facts) (hMlpDownBwd : Cert.MlpDownBwd.Facts) (hMlpDownBwdIdeal : Cert.MlpDownBwdIdeal.Facts) (hMlpDownBwdRefIdeal : Cert.MlpDownBwdRefIdeal.Facts) (hInBwd : Cert.InBwd.Facts) (hInBwdIdeal : Cert.InBwdIdeal.Facts) (hInBwdRefIdeal : Cert.InBwdRefIdeal.Facts) (hMixBwd : Cert.MixBwd.Facts) (hMixBwdIdeal : Cert.MixBwdIdeal.Facts) (hMixBwdRefIdeal : Cert.MixBwdRefIdeal.Facts) (hGradDown : Cert.GradDown.Facts) (hGradDownIdeal : Cert.GradDownIdeal.Facts) (hGradDownRefIdeal : Cert.GradDownRefIdeal.Facts) (hGradUp : Cert.GradUp.Facts) (hGradUpIdeal : Cert.GradUpIdeal.Facts) (hGradUpRefIdeal : Cert.GradUpRefIdeal.Facts) (hGradOut : Cert.GradOut.Facts) (hGradOutIdeal : Cert.GradOutIdeal.Facts) (hGradOutRefIdeal : Cert.GradOutRefIdeal.Facts) (hGradGlu : Cert.GradGlu.Facts) (hGradGluIdeal : Cert.GradGluIdeal.Facts) (hGradGluRefIdeal : Cert.GradGluRefIdeal.Facts) (hGradIn : Cert.GradIn.Facts) (hGradInIdeal : Cert.GradInIdeal.Facts) (hGradInRefIdeal : Cert.GradInRefIdeal.Facts) (hMlpUp : Cert.MlpUp.Facts) (hMlpUpIdeal : Cert.MlpUpIdeal.Facts) (hMlpUpRefIdeal : Cert.MlpUpRefIdeal.Facts) (hMlpDownLoss : Cert.MlpDownLoss.Facts) (hMlpDownLossIdeal : Cert.MlpDownLossIdeal.Facts) (hMlpDownLossRefIdeal : Cert.MlpDownLossRefIdeal.Facts) (hFwdMix : Cert.FwdMix.Facts) (hFwdMixIdeal : Cert.FwdMixIdeal.Facts) (hFwdMixRefIdeal : Cert.FwdMixRefIdeal.Facts) (hFwdProj : Cert.FwdProj.Facts) (hFwdProjIdeal : Cert.FwdProjIdeal.Facts) (hFwdProjRefIdeal : Cert.FwdProjRefIdeal.Facts) (hUpdIn : Cert.UpdIn.Facts) (hUpdInIdeal : Cert.UpdInIdeal.Facts) (hUpdInRefIdeal : Cert.UpdInRefIdeal.Facts) (hUpdGlu : Cert.UpdGlu.Facts) (hUpdGluIdeal : Cert.UpdGluIdeal.Facts) (hUpdGluRefIdeal : Cert.UpdGluRefIdeal.Facts) (hUpdOut : Cert.UpdOut.Facts) (hUpdOutIdeal : Cert.UpdOutIdeal.Facts) (hUpdOutRefIdeal : Cert.UpdOutRefIdeal.Facts) (hUpdUp : Cert.UpdUp.Facts) (hUpdUpIdeal : Cert.UpdUpIdeal.Facts) (hUpdUpRefIdeal : Cert.UpdUpRefIdeal.Facts) (hUpdDown : Cert.UpdDown.Facts) (hUpdDownIdeal : Cert.UpdDownIdeal.Facts) (hUpdDownRefIdeal : Cert.UpdDownRefIdeal.Facts) (hQkBwd : Cert.QkBwd.Facts) (hQkBwdIdeal : Cert.QkBwdIdeal.Facts) (hQkBwdRefIdeal : Cert.QkBwdRefIdeal.Facts) (hSsmDiscBwd : Cert.SsmDiscBwd.Facts) (hSsmDiscBwdIdeal : Cert.SsmDiscBwdIdeal.Facts) (hSsmDiscBwdRefIdeal : Cert.SsmDiscBwdRefIdeal.Facts) (hSsmDisc : Cert.SsmDisc.Facts) (hSsmDiscIdeal : Cert.SsmDiscIdeal.Facts) (hSsmDiscRefIdeal : Cert.SsmDiscRefIdeal.Facts) (hSumSmall : Cert.SumSmall.Facts) (hSumSmallIdeal : Cert.SumSmallIdeal.Facts) (hSumSmallRefIdeal : Cert.SumSmallRefIdeal.Facts) (hPre_mix_finite : Cert.Pre_mix_finite.Facts) (hPre_proj_finite : Cert.Pre_proj_finite.Facts) (hPre_qk_finite : Cert.Pre_qk_finite.Facts) (hPre_disc_regular : Cert.Pre_disc_regular.Facts),
    quiescent_MlpUpBwd (hMlpUpBwd := hMlpUpBwd)
    ∧ quiescent_MlpUpBwdIdeal (hMlpUpBwdIdeal := hMlpUpBwdIdeal)
    ∧ quiescent_MlpUpBwdRefIdeal (hMlpUpBwdRefIdeal := hMlpUpBwdRefIdeal)
    ∧ quiescent_MlpDownBwd (hMlpDownBwd := hMlpDownBwd)
    ∧ quiescent_MlpDownBwdIdeal (hMlpDownBwdIdeal := hMlpDownBwdIdeal)
    ∧ quiescent_MlpDownBwdRefIdeal (hMlpDownBwdRefIdeal := hMlpDownBwdRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_MixBwd (hMixBwd := hMixBwd)
    ∧ quiescent_MixBwdIdeal (hMixBwdIdeal := hMixBwdIdeal)
    ∧ quiescent_MixBwdIdeal_pre_mix_finite (hMixBwdIdeal := hMixBwdIdeal) (hPre_mix_finite := hPre_mix_finite)
    ∧ quiescent_MixBwdRefIdeal (hMixBwdRefIdeal := hMixBwdRefIdeal)
    ∧ quiescent_MixBwdRefIdeal_pre_mix_finite (hMixBwdRefIdeal := hMixBwdRefIdeal) (hPre_mix_finite := hPre_mix_finite)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_GradUp (hGradUp := hGradUp)
    ∧ quiescent_GradUpIdeal (hGradUpIdeal := hGradUpIdeal)
    ∧ quiescent_GradUpRefIdeal (hGradUpRefIdeal := hGradUpRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_GradGlu (hGradGlu := hGradGlu)
    ∧ quiescent_GradGluIdeal (hGradGluIdeal := hGradGluIdeal)
    ∧ quiescent_GradGluRefIdeal (hGradGluRefIdeal := hGradGluRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDownLoss (hMlpDownLoss := hMlpDownLoss)
    ∧ quiescent_MlpDownLossIdeal (hMlpDownLossIdeal := hMlpDownLossIdeal)
    ∧ quiescent_MlpDownLossRefIdeal (hMlpDownLossRefIdeal := hMlpDownLossRefIdeal)
    ∧ quiescent_FwdMix (hFwdMix := hFwdMix)
    ∧ quiescent_FwdMixIdeal (hFwdMixIdeal := hFwdMixIdeal)
    ∧ quiescent_FwdMixRefIdeal (hFwdMixRefIdeal := hFwdMixRefIdeal)
    ∧ quiescent_FwdProj (hFwdProj := hFwdProj)
    ∧ quiescent_FwdProjIdeal (hFwdProjIdeal := hFwdProjIdeal)
    ∧ quiescent_FwdProjIdeal_pre_proj_finite (hFwdProjIdeal := hFwdProjIdeal) (hPre_proj_finite := hPre_proj_finite)
    ∧ quiescent_FwdProjRefIdeal (hFwdProjRefIdeal := hFwdProjRefIdeal)
    ∧ quiescent_FwdProjRefIdeal_pre_proj_finite (hFwdProjRefIdeal := hFwdProjRefIdeal) (hPre_proj_finite := hPre_proj_finite)
    ∧ quiescent_UpdIn (hUpdIn := hUpdIn)
    ∧ quiescent_UpdInIdeal (hUpdInIdeal := hUpdInIdeal)
    ∧ quiescent_UpdInRefIdeal (hUpdInRefIdeal := hUpdInRefIdeal)
    ∧ quiescent_UpdGlu (hUpdGlu := hUpdGlu)
    ∧ quiescent_UpdGluIdeal (hUpdGluIdeal := hUpdGluIdeal)
    ∧ quiescent_UpdGluRefIdeal (hUpdGluRefIdeal := hUpdGluRefIdeal)
    ∧ quiescent_UpdOut (hUpdOut := hUpdOut)
    ∧ quiescent_UpdOutIdeal (hUpdOutIdeal := hUpdOutIdeal)
    ∧ quiescent_UpdOutRefIdeal (hUpdOutRefIdeal := hUpdOutRefIdeal)
    ∧ quiescent_UpdUp (hUpdUp := hUpdUp)
    ∧ quiescent_UpdUpIdeal (hUpdUpIdeal := hUpdUpIdeal)
    ∧ quiescent_UpdUpRefIdeal (hUpdUpRefIdeal := hUpdUpRefIdeal)
    ∧ quiescent_UpdDown (hUpdDown := hUpdDown)
    ∧ quiescent_UpdDownIdeal (hUpdDownIdeal := hUpdDownIdeal)
    ∧ quiescent_UpdDownRefIdeal (hUpdDownRefIdeal := hUpdDownRefIdeal)
    ∧ quiescent_QkBwd (hQkBwd := hQkBwd)
    ∧ quiescent_QkBwdIdeal (hQkBwdIdeal := hQkBwdIdeal)
    ∧ quiescent_QkBwdIdeal_pre_qk_finite (hQkBwdIdeal := hQkBwdIdeal) (hPre_qk_finite := hPre_qk_finite)
    ∧ quiescent_QkBwdRefIdeal (hQkBwdRefIdeal := hQkBwdRefIdeal)
    ∧ quiescent_QkBwdRefIdeal_pre_qk_finite (hQkBwdRefIdeal := hQkBwdRefIdeal) (hPre_qk_finite := hPre_qk_finite)
    ∧ quiescent_SsmDiscBwd (hSsmDiscBwd := hSsmDiscBwd)
    ∧ quiescent_SsmDiscBwdIdeal (hSsmDiscBwdIdeal := hSsmDiscBwdIdeal)
    ∧ quiescent_SsmDiscBwdIdeal_pre_disc_regular (hSsmDiscBwdIdeal := hSsmDiscBwdIdeal) (hPre_disc_regular := hPre_disc_regular)
    ∧ quiescent_SsmDiscBwdRefIdeal (hSsmDiscBwdRefIdeal := hSsmDiscBwdRefIdeal)
    ∧ quiescent_SsmDiscBwdRefIdeal_pre_disc_regular (hSsmDiscBwdRefIdeal := hSsmDiscBwdRefIdeal) (hPre_disc_regular := hPre_disc_regular)
    ∧ quiescent_SsmDisc (hSsmDisc := hSsmDisc)
    ∧ quiescent_SsmDiscIdeal (hSsmDiscIdeal := hSsmDiscIdeal)
    ∧ quiescent_SsmDiscRefIdeal (hSsmDiscRefIdeal := hSsmDiscRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ preserves_MlpUpBwd_MlpUpBwdIdeal
    ∧ algebraic_MlpUpBwdIdeal_MlpUpBwdRefIdeal (hMlpUpBwdIdeal := hMlpUpBwdIdeal) (hMlpUpBwdRefIdeal := hMlpUpBwdRefIdeal)
    ∧ preserves_MlpDownBwd_MlpDownBwdIdeal
    ∧ algebraic_MlpDownBwdIdeal_MlpDownBwdRefIdeal (hMlpDownBwdIdeal := hMlpDownBwdIdeal) (hMlpDownBwdRefIdeal := hMlpDownBwdRefIdeal)
    ∧ preserves_InBwd_InBwdIdeal
    ∧ algebraic_InBwdIdeal_InBwdRefIdeal (hInBwdIdeal := hInBwdIdeal) (hInBwdRefIdeal := hInBwdRefIdeal)
    ∧ preserves_MixBwd_MixBwdIdeal
    ∧ algebraic_MixBwdIdeal_MixBwdRefIdeal_pre_mix_finite (hMixBwdIdeal := hMixBwdIdeal) (hMixBwdRefIdeal := hMixBwdRefIdeal) (hPre_mix_finite := hPre_mix_finite)
    ∧ preserves_GradDown_GradDownIdeal
    ∧ algebraic_GradDownIdeal_GradDownRefIdeal (hGradDownIdeal := hGradDownIdeal) (hGradDownRefIdeal := hGradDownRefIdeal)
    ∧ preserves_GradUp_GradUpIdeal
    ∧ algebraic_GradUpIdeal_GradUpRefIdeal (hGradUpIdeal := hGradUpIdeal) (hGradUpRefIdeal := hGradUpRefIdeal)
    ∧ preserves_GradOut_GradOutIdeal
    ∧ algebraic_GradOutIdeal_GradOutRefIdeal (hGradOutIdeal := hGradOutIdeal) (hGradOutRefIdeal := hGradOutRefIdeal)
    ∧ preserves_GradGlu_GradGluIdeal
    ∧ algebraic_GradGluIdeal_GradGluRefIdeal (hGradGluIdeal := hGradGluIdeal) (hGradGluRefIdeal := hGradGluRefIdeal)
    ∧ preserves_GradIn_GradInIdeal
    ∧ algebraic_GradInIdeal_GradInRefIdeal (hGradInIdeal := hGradInIdeal) (hGradInRefIdeal := hGradInRefIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpDownLoss_MlpDownLossIdeal
    ∧ algebraic_MlpDownLossIdeal_MlpDownLossRefIdeal (hMlpDownLossIdeal := hMlpDownLossIdeal) (hMlpDownLossRefIdeal := hMlpDownLossRefIdeal)
    ∧ preserves_FwdMix_FwdMixIdeal
    ∧ algebraic_FwdMixIdeal_FwdMixRefIdeal (hFwdMixIdeal := hFwdMixIdeal) (hFwdMixRefIdeal := hFwdMixRefIdeal)
    ∧ preserves_FwdProj_FwdProjIdeal
    ∧ algebraic_FwdProjIdeal_FwdProjRefIdeal_pre_proj_finite (hFwdProjIdeal := hFwdProjIdeal) (hFwdProjRefIdeal := hFwdProjRefIdeal) (hPre_proj_finite := hPre_proj_finite)
    ∧ preserves_UpdIn_UpdInIdeal
    ∧ algebraic_UpdInIdeal_UpdInRefIdeal (hUpdInIdeal := hUpdInIdeal) (hUpdInRefIdeal := hUpdInRefIdeal)
    ∧ preserves_UpdGlu_UpdGluIdeal
    ∧ algebraic_UpdGluIdeal_UpdGluRefIdeal (hUpdGluIdeal := hUpdGluIdeal) (hUpdGluRefIdeal := hUpdGluRefIdeal)
    ∧ preserves_UpdOut_UpdOutIdeal
    ∧ algebraic_UpdOutIdeal_UpdOutRefIdeal (hUpdOutIdeal := hUpdOutIdeal) (hUpdOutRefIdeal := hUpdOutRefIdeal)
    ∧ preserves_UpdUp_UpdUpIdeal
    ∧ algebraic_UpdUpIdeal_UpdUpRefIdeal (hUpdUpIdeal := hUpdUpIdeal) (hUpdUpRefIdeal := hUpdUpRefIdeal)
    ∧ preserves_UpdDown_UpdDownIdeal
    ∧ algebraic_UpdDownIdeal_UpdDownRefIdeal (hUpdDownIdeal := hUpdDownIdeal) (hUpdDownRefIdeal := hUpdDownRefIdeal)
    ∧ preserves_QkBwd_QkBwdIdeal
    ∧ algebraic_QkBwdIdeal_QkBwdRefIdeal_pre_qk_finite (hQkBwdIdeal := hQkBwdIdeal) (hQkBwdRefIdeal := hQkBwdRefIdeal) (hPre_qk_finite := hPre_qk_finite)
    ∧ preserves_SsmDiscBwd_SsmDiscBwdIdeal
    ∧ algebraic_SsmDiscBwdIdeal_SsmDiscBwdRefIdeal_pre_disc_regular (hSsmDiscBwdIdeal := hSsmDiscBwdIdeal) (hSsmDiscBwdRefIdeal := hSsmDiscBwdRefIdeal) (hPre_disc_regular := hPre_disc_regular)
    ∧ preserves_SsmDisc_SsmDiscIdeal
    ∧ algebraic_SsmDiscIdeal_SsmDiscRefIdeal (hSsmDiscIdeal := hSsmDiscIdeal) (hSsmDiscRefIdeal := hSsmDiscRefIdeal)
    ∧ preserves_SumSmall_SumSmallIdeal
    ∧ algebraic_SumSmallIdeal_SumSmallRefIdeal (hSumSmallIdeal := hSumSmallIdeal) (hSumSmallRefIdeal := hSumSmallRefIdeal)
-- ==== Pre_disc_regular.lean ====
abbrev S32x64 : Shape := ⟨2, ![32, 64]⟩
abbrev S32 : Shape := ⟨1, ![32]⟩
abbrev S32x64x16 : Shape := ⟨3, ![32, 64, 16]⟩
abbrev S1x2048 : Shape := ⟨2, ![1, 2048]⟩
abbrev S32x16x64 : Shape := ⟨3, ![32, 16, 64]⟩
abbrev S_ : Shape := ⟨0, ![]⟩

class Facts : Prop where
  bcast_S_S32x64 : S_.BroadcastsInDim S32x64 (![] : Fin 0 → Fin S32x64.rank)
  reducesTo_S32x64_S_d0_1 : S32x64.ReducesTo [0, 1] S_
  h_S_ : 0 < S_.numel
  bcast_S_S32 : S_.BroadcastsInDim S32 (![] : Fin 0 → Fin S32.rank)
  reducesTo_S32_S_d0 : S32.ReducesTo [0] S_
  bcast_S_S32x64x16 : S_.BroadcastsInDim S32x64x16 (![] : Fin 0 → Fin S32x64x16.rank)
  reducesTo_S32x64x16_S_d0_1_2 : S32x64x16.ReducesTo [0, 1, 2] S_
  bcast_S_S1x2048 : S_.BroadcastsInDim S1x2048 (![] : Fin 0 → Fin S1x2048.rank)
  reducesTo_S1x2048_S_d0_1 : S1x2048.ReducesTo [0, 1] S_
  bcast_S_S32x16x64 : S_.BroadcastsInDim S32x16x64 (![] : Fin 0 → Fin S32x16x64.rank)
  reducesTo_S32x16x64_S_d0_1_2 : S32x16x64.ReducesTo [0, 1, 2] S_

variable [Facts]

def fn_part2 {F : FTy → Type} [FloatOps F] (main_arg0 : FVec F S32x64 .f32) (main_arg1 : FVec F S32x64 .f32) (main_arg8 : FVec F S32x16x64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S32x16x64 .f32 := Host.absf main_arg8
  let main_cst_14 : FVec F S_ .f32 := constant S_ .f32 0x7F800000#32
  let main_v33 : FVec F S32x16x64 .f32 := broadcastInDim S32x16x64 ![] bcast_S_S32x16x64 main_cst_14
  let main_v34 : IVec S32x16x64 1 := cmpf .olt main_v32 main_v33
  let main_c_15 : IVec S_ 1 := constantI S_ 1 1#1
  let main_v35 : IVec S_ 1 := (fun x v => Host.reduce IntOp.andi x v reducesTo_S32x16x64_S_d0_1_2 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  let main_v44 : FVec F S32x64 .f32 := mulf main_arg0 main_arg0
  let main_v45 : FVec F S32x64 .f32 := mulf main_arg1 main_arg1
  let main_v46 : FVec F S32x64 .f32 := addf main_v44 main_v45
  let main_cst_16 : FVec F S_ .f32 := constant S_ .f32 0x00000000#32
  let main_v47 : FVec F S32x64 .f32 := broadcastInDim S32x64 ![] bcast_S_S32x64 main_cst_16
  let main_v48 : IVec S32x64 1 := cmpf .ogt main_v46 main_v47
  let main_c_17 : IVec S_ 1 := constantI S_ 1 1#1
  let main_v49 : IVec S_ 1 := (fun x v => Host.reduce IntOp.andi x v reducesTo_S32x64_S_d0_1 h_S_) main_v48 main_c_17
  let main_v50 : IVec S_ 1 := andi main_v43 main_v49
  main_v50

def fn_part1 {F : FTy → Type} [FloatOps F] (main_arg0 : FVec F S32x64 .f32) (main_arg1 : FVec F S32x64 .f32) (main_arg4 : FVec F S32x64x16 .f32) (main_arg5 : FVec F S1x2048 .f32) (main_arg6 : FVec F S1x2048 .f32) (main_arg7 : FVec F S32x16x64 .f32) (main_arg8 : FVec F S32x16x64 .f32) (main_v3 : IVec S_ 1) (main_v7 : IVec S_ 1) (main_v11 : IVec S_ 1) (main_v15 : IVec S_ 1) : IVec S_ 1 :=
  let main_v16 : FVec F S32x64x16 .f32 := Host.absf main_arg4
  let main_cst_6 : FVec F S_ .f32 := constant S_ .f32 0x7F800000#32
  let main_v17 : FVec F S32x64x16 .f32 := broadcastInDim S32x64x16 ![] bcast_S_S32x64x16 main_cst_6
  let main_v18 : IVec S32x64x16 1 := cmpf .olt main_v16 main_v17
  let main_c_7 : IVec S_ 1 := constantI S_ 1 1#1
  let main_v19 : IVec S_ 1 := (fun x v => Host.reduce IntOp.andi x v reducesTo_S32x64x16_S_d0_1_2 h_S_) main_v18 main_c_7
  let main_v20 : FVec F S1x2048 .f32 := Host.absf main_arg5
  let main_cst_8 : FVec F S_ .f32 := constant S_ .f32 0x7F800000#32
  let main_v21 : FVec F S1x2048 .f32 := broadcastInDim S1x2048 ![] bcast_S_S1x2048 main_cst_8
  let main_v22 : IVec S1x2048 1 := cmpf .olt main_v20 main_v21
  let main_c_9 : IVec S_ 1 := constantI S_ 1 1#1
  let main_v23 : IVec S_ 1 := (fun x v => Host.reduce IntOp.andi x v reducesTo_S1x2048_S_d0_1 h_S_) main_v22 main_c_9
  let main_v24 : FVec F S1x2048 .f32 := Host.absf main_arg6
  let main_cst_10 : FVec F S_ .f32 := constant S_ .f32 0x7F800000#32
  let main_v25 : FVec F S1x2048 .f32 := broadcastInDim S1x2048 ![] bcast_S_S1x2048 main_cst_10
  let main_v26 : IVec S1x2048 1 := cmpf .olt main_v24 main_v25
  let main_c_11 : IVec S_ 1 := constantI S_ 1 1#1
  let main_v27 : IVec S_ 1 := (fun x v => Host.reduce IntOp.andi x v reducesTo_S1x2048_S_d0_1 h_S_) main_v26 main_c_11
  let main_v28 : FVec F S32x16x64 .f32 := Host.absf main_arg7
  let main_cst_12 : FVec F S_ .f32 := constant S_ .f32 0x7F800000#32
  let main_v29 : FVec F S32x16x64 .f32 := broadcastInDim S32x16x64 ![] bcast_S_S32x16x64 main_cst_12
  let main_v30 : IVec S32x16x64 1 := cmpf .olt main_v28 main_v29
  let main_c_13 : IVec S_ 1 := constantI S_ 1 1#1
  let main_v31 : IVec S_ 1 := (fun x v => Host.reduce IntOp.andi x v reducesTo_S32x16x64_S_d0_1_2 h_S_) main_v30 main_c_13
  fn_part2 (F := F) main_arg0 main_arg1 main_arg8 main_v3 main_v7 main_v11 main_v15 main_v19 main_v23 main_v27 main_v31

def fn {F : FTy → Type} [FloatOps F] (main_arg0 : FVec F S32x64 .f32) (main_arg1 : FVec F S32x64 .f32) (main_arg2 : FVec F S32 .f32) (main_arg3 : FVec F S32x64x16 .f32) (main_arg4 : FVec F S32x64x16 .f32) (main_arg5 : FVec F S1x2048 .f32) (main_arg6 : FVec F S1x2048 .f32) (main_arg7 : FVec F S32x16x64 .f32) (main_arg8 : FVec F S32x16x64 .f32) : IVec S_ 1 :=
  let main_v0 : FVec F S32x64 .f32 := Host.absf main_arg0
  let main_cst : FVec F S_ .f32 := constant S_ .f32 0x7F800000#32
  let main_v1 : FVec F S32x64 .f32 := broadcastInDim S32x64 ![] bcast_S_S32x64 main_cst
  let main_v2 : IVec S32x64 1 := cmpf .olt main_v0 main_v1
  let main_c : IVec S_ 1 := constantI S_ 1 1#1
  let main_v3 : IVec S_ 1 := (fun x v => Host.reduce IntOp.andi x v reducesTo_S32x64_S_d0_1 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : FVec F S32 .f32 := Host.absf main_arg2
  let main_cst_2 : FVec F S_ .f32 := constant S_ .f32 0x7F800000#32
  let main_v9 : FVec F S32 .f32 := broadcastInDim S32 ![] bcast_S_S32 main_cst_2
  let main_v10 : IVec S32 1 := cmpf .olt main_v8 main_v9
  let main_c_3 : IVec S_ 1 := constantI S_ 1 1#1
  let main_v11 : IVec S_ 1 := (fun x v => Host.reduce IntOp.andi x v reducesTo_S32_S_d0 h_S_) main_v10 main_c_3
  let main_v12 : FVec F S32x64x16 .f32 := Host.absf main_arg3
  let main_cst_4 : FVec F S_ .f32 := constant S_ .f32 0x7F800000#32
  let main_v13 : FVec F S32x64x16 .f32 := broadcastInDim S32x64x16 ![] bcast_S_S32x64x16 main_cst_4
  let main_v14 : IVec S32x64x16 1 := cmpf .olt main_v12 main_v13
  let main_c_5 : IVec S_ 1 := constantI S_ 1 1#1
  let main_v15 : IVec S_ 1 := (fun x v => Host.reduce IntOp.andi x v reducesTo_S32x64x16_S_d0_1_2 h_S_) main_v14 main_c_5
  fn_part1 (F := F) main_arg0 main_arg1 main_arg4 main_arg5 main_arg6 main_arg7 main_arg8 main_v3 main_v7 main_v11 main_v15
-- ==== Pre_mix_finite.lean ====
abbrev S16384x512 : Shape := ⟨2, ![16384, 512]⟩
abbrev S512x512 : Shape := ⟨2, ![512, 512]⟩
abbrev S1x512 : Shape := ⟨2, ![1, 512]⟩
abbrev S1024x1024 : Shape := ⟨2, ![1024, 1024]⟩
abbrev S16384x1024 : Shape := ⟨2, ![16384, 1024]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S1x512 : S_.BroadcastsInDim S1x512 (![] : Fin 0 → Fin S1x512.rank)
  reducesTo_S1x512_S_d0_1 : S1x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S16384x1024 : S_.BroadcastsInDim S16384x1024 (![] : Fin 0 → Fin S16384x1024.rank)
  reducesTo_S16384x1024_S_d0_1 : S16384x1024.ReducesTo [0, 1] S_

variable [Facts]

def fn_part1 {F : FTy → Type} [FloatOps F] (main_arg7 : FVec F S16384x1024 .f32) (main_v3 : IVec S_ 1) (main_v7 : IVec S_ 1) (main_v11 : IVec S_ 1) (main_v15 : IVec S_ 1) : IVec S_ 1 :=
  let main_v16 : FVec F S16384x1024 .f32 := Host.absf main_arg7
  let main_cst_6 : FVec F S_ .f32 := constant S_ .f32 0x7F800000#32
  let main_v17 : FVec F S16384x1024 .f32 := broadcastInDim S16384x1024 ![] bcast_S_S16384x1024 main_cst_6
  let main_v18 : IVec S16384x1024 1 := cmpf .olt main_v16 main_v17
  let main_c_7 : IVec S_ 1 := constantI S_ 1 1#1
  let main_v19 : IVec S_ 1 := (fun x v => Host.reduce IntOp.andi x v reducesTo_S16384x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S16384x512 .f32) (main_arg1 : FVec F S16384x512 .f32) (main_arg2 : FVec F S512x512 .f32) (main_arg3 : FVec F S1x512 .f32) (main_arg4 : FVec F S1x512 .f32) (main_arg5 : FVec F S1x512 .f32) (main_arg6 : FVec F S1024x1024 .f32) (main_arg7 : FVec F S16384x1024 .f32) : IVec S_ 1 :=
  let main_v0 : FVec F S16384x512 .f32 := Host.absf main_arg1
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : FVec F S1x512 .f32 := Host.absf main_arg5
  let main_cst_2 : FVec F S_ .f32 := constant S_ .f32 0x7F800000#32
  let main_v9 : FVec F S1x512 .f32 := broadcastInDim S1x512 ![] bcast_S_S1x512 main_cst_2
  let main_v10 : IVec S1x512 1 := cmpf .olt main_v8 main_v9
  let main_c_3 : IVec S_ 1 := constantI S_ 1 1#1
  let main_v11 : IVec S_ 1 := (fun x v => Host.reduce IntOp.andi x v reducesTo_S1x512_S_d0_1 h_S_) main_v10 main_c_3
  let main_v12 : FVec F S1024x1024 .f32 := Host.absf main_arg6
  let main_cst_4 : FVec F S_ .f32 := constant S_ .f32 0x7F800000#32
  let main_v13 : FVec F S1024x1024 .f32 := broadcastInDim S1024x1024 ![] bcast_S_S1024x1024 main_cst_4
  let main_v14 : IVec S1024x1024 1 := cmpf .olt main_v12 main_v13
  let main_c_5 : IVec S_ 1 := constantI S_ 1 1#1
  let main_v15 : IVec S_ 1 := (fun x v => Host.reduce IntOp.andi x v reducesTo_S1024x1024_S_d0_1 h_S_) main_v14 main_c_5
  fn_part1 (F := F) main_arg7 main_v3 main_v7 main_v11 main_v15
-- ==== Pre_proj_finite.lean ====
abbrev S16384x1024 : Shape := ⟨2, ![16384, 1024]⟩
abbrev S1x1024 : Shape := ⟨2, ![1, 1024]⟩
abbrev S1024x2048 : Shape := ⟨2, ![1024, 2048]⟩
abbrev S1x64 : Shape := ⟨2, ![1, 64]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S16384x1024 .f32) (main_arg1 : FVec F S1x1024 .f32) (main_arg2 : FVec F S1024x2048 .f32) (main_arg3 : FVec F S1x64 .f32) (main_arg4 : FVec F S1x64 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1024x2048 .f32 := Host.absf main_arg2
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  main_v8
-- ==== Pre_qk_finite.lean ====
abbrev S16384x512 : Shape := ⟨2, ![16384, 512]⟩
abbrev S16384x1024 : Shape := ⟨2, ![16384, 1024]⟩
abbrev S1x512 : Shape := ⟨2, ![1, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg6 : FVec F S1x512 .f32) (main_v3 : IVec S_ 1) (main_v7 : IVec S_ 1) (main_v11 : IVec S_ 1) (main_v15 : IVec S_ 1) : IVec S_ 1 :=
  let main_v16 : FVec F S1x512 .f32 := Host.absf main_arg6
  let main_cst_6 : FVec F S_ .f32 := constant S_ .f32 0x7F800000#32
  let main_v17 : FVec F S1x512 .f32 := broadcastInDim S1x512 ![] bcast_S_S1x512 main_cst_6
  let main_v18 : IVec S1x512 1 := cmpf .olt main_v16 main_v17
  let main_c_7 : IVec S_ 1 := constantI S_ 1 1#1
  let main_v19 : IVec S_ 1 := (fun x v => Host.reduce IntOp.andi x v reducesTo_S1x512_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S16384x512 .f32) (main_arg1 : FVec F S16384x512 .f32) (main_arg2 : FVec F S16384x1024 .f32) (main_arg3 : FVec F S16384x512 .f32) (main_arg4 : FVec F S16384x512 .f32) (main_arg5 : FVec F S1x512 .f32) (main_arg6 : FVec F S1x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : FVec F S16384x1024 .f32 := Host.absf main_arg2
  let main_cst_2 : FVec F S_ .f32 := constant S_ .f32 0x7F800000#32
  let main_v9 : FVec F S16384x1024 .f32 := broadcastInDim S16384x1024 ![] bcast_S_S16384x1024 main_cst_2
  let main_v10 : IVec S16384x1024 1 := cmpf .olt main_v8 main_v9
  let main_c_3 : IVec S_ 1 := constantI S_ 1 1#1
  let main_v11 : IVec S_ 1 := (fun x v => Host.reduce IntOp.andi x v reducesTo_S16384x1024_S_d0_1 h_S_) main_v10 main_c_3
  let main_v12 : FVec F S1x512 .f32 := Host.absf main_arg5
  let main_cst_4 : FVec F S_ .f32 := constant S_ .f32 0x7F800000#32
  let main_v13 : FVec F S1x512 .f32 := broadcastInDim S1x512 ![] bcast_S_S1x512 main_cst_4
  let main_v14 : IVec S1x512 1 := cmpf .olt main_v12 main_v13
  let main_c_5 : IVec S_ 1 := constantI S_ 1 1#1
  let main_v15 : IVec S_ 1 := (fun x v => Host.reduce IntOp.andi x v reducesTo_S1x512_S_d0_1 h_S_) main_v14 main_c_5
  fn_part1 (F := F) main_arg6 main_v3 main_v7 main_v11 main_v15
-- ==== MlpUpBwd.lean ====
abbrev S16384x1024 : Shape := ⟨2, ![16384, 1024]⟩
abbrev S1x1024 : Shape := ⟨2, ![1, 1024]⟩
abbrev S1024x4096 : Shape := ⟨2, ![1024, 4096]⟩
abbrev S16384x4096 : Shape := ⟨2, ![16384, 4096]⟩
abbrev S4096x1024 : Shape := ⟨2, ![4096, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .f32⟩
  | .hbm, ⟨3, _⟩ => ⟨S16384x4096, .f32⟩
  | .hbm, ⟨4, _⟩ => ⟨S16384x1024, .f32⟩
  | .hbm, ⟨5, _⟩ => ⟨S16384x4096, .bf16⟩
  | .hbm, ⟨6, _⟩ => ⟨S1024x4096, .bf16⟩
  | .hbm, ⟨7, _⟩ => ⟨S4096x1024, .bf16⟩
  | .hbm, ⟨8, _⟩ => ⟨S16384x1024, .f32⟩
  | .hbm, ⟨9, _⟩ => ⟨S16384x1024, .bf16⟩
  | .hbm, ⟨10, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MlpUpBwdRefIdeal.lean ====
abbrev S16384x1024 : Shape := ⟨2, ![16384, 1024]⟩
abbrev S1x1024 : Shape := ⟨2, ![1, 1024]⟩
abbrev S1024x4096 : Shape := ⟨2, ![1024, 4096]⟩
abbrev S16384x4096 : Shape := ⟨2, ![16384, 4096]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .f32⟩
  | .hbm, ⟨3, _⟩ => ⟨S16384x4096, .f32⟩
  | .hbm, ⟨4, _⟩ => ⟨S16384x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x4096, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== MlpDownBwd.lean ====
abbrev S16384x4096 : Shape := ⟨2, ![16384, 4096]⟩
abbrev S4096x1024 : Shape := ⟨2, ![4096, 1024]⟩
abbrev S16384x1024 : Shape := ⟨2, ![16384, 1024]⟩
abbrev S1024x4096 : Shape := ⟨2, ![1024, 4096]⟩
abbrev S_ : Shape := ⟨0, ![]⟩
abbrev S512x1024 : Shape := ⟨2, ![512, 1024]⟩
abbrev S512x4096 : Shape := ⟨2, ![512, 4096]⟩
abbrev S1024x1024 : Shape := ⟨2, ![1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S16384x1024, .bf16⟩
  | .hbm, ⟨4, _⟩ => ⟨S4096x1024, .bf16⟩
  | .hbm, ⟨5, _⟩ => ⟨S1024x4096, .bf16⟩
  | .hbm, ⟨6, _⟩ => ⟨S_, .f32⟩
  | .hbm, ⟨7, _⟩ => ⟨S16384x4096, .f32⟩
  | .hbm, ⟨8, _⟩ => ⟨S16384x4096, .f32⟩
  | .hbm, ⟨9, _⟩ => ⟨S16384x4096, .bf16⟩
  | .hbm, ⟨10, _⟩ => ⟨S16384x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MlpDownBwdRefIdeal.lean ====
abbrev S16384x4096 : Shape := ⟨2, ![16384, 4096]⟩
abbrev S4096x1024 : Shape := ⟨2, ![4096, 1024]⟩
abbrev S16384x1024 : Shape := ⟨2, ![16384, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384x4096, .f32⟩
  | .hbm, ⟨8, _⟩ => ⟨S16384x4096, .i1⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x1024, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== InBwd.lean ====
abbrev S16384x1024 : Shape := ⟨2, ![16384, 1024]⟩
abbrev S1x1024 : Shape := ⟨2, ![1, 1024]⟩
abbrev S1024x2048 : Shape := ⟨2, ![1024, 2048]⟩
abbrev S16384x2048 : Shape := ⟨2, ![16384, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2048, .f32⟩
  | .hbm, ⟨3, _⟩ => ⟨S16384x2048, .f32⟩
  | .hbm, ⟨4, _⟩ => ⟨S16384x1024, .f32⟩
  | .hbm, ⟨5, _⟩ => ⟨S16384x2048, .bf16⟩
  | .hbm, ⟨6, _⟩ => ⟨S1024x2048, .bf16⟩
  | .hbm, ⟨7, _⟩ => ⟨S2048x1024, .bf16⟩
  | .hbm, ⟨8, _⟩ => ⟨S16384x1024, .f32⟩
  | .hbm, ⟨9, _⟩ => ⟨S1x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InBwdRefIdeal.lean ====
abbrev S16384x1024 : Shape := ⟨2, ![16384, 1024]⟩
abbrev S1x1024 : Shape := ⟨2, ![1, 1024]⟩
abbrev S1024x2048 : Shape := ⟨2, ![1024, 2048]⟩
abbrev S16384x2048 : Shape := ⟨2, ![16384, 2048]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2048, .f32⟩
  | .hbm, ⟨3, _⟩ => ⟨S16384x2048, .f32⟩
  | .hbm, ⟨4, _⟩ => ⟨S16384x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x2048, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== MixBwd.lean ====
abbrev S16384x512 : Shape := ⟨2, ![16384, 512]⟩
abbrev S512x512 : Shape := ⟨2, ![512, 512]⟩
abbrev S1x512 : Shape := ⟨2, ![1, 512]⟩
abbrev S1024x1024 : Shape := ⟨2, ![1024, 1024]⟩
abbrev S16384x1024 : Shape := ⟨2, ![16384, 1024]⟩
abbrev S1024x512 : Shape := ⟨2, ![1024, 512]⟩
abbrev S1024 : Shape := ⟨1, ![1024]⟩
abbrev S1024x1 : Shape := ⟨2, ![1024, 1]⟩
abbrev S512 : Shape := ⟨1, ![512]⟩

abbrev nBuf : Space → Nat
  | .hbm => 20
  | .vmem => 23
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S512x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1024x1024, .f32⟩
  | .hbm, ⟨7, _⟩ => ⟨S16384x1024, .f32⟩
  | .hbm, ⟨8, _⟩ => ⟨S512x512, .bf16⟩
  | .hbm, ⟨9, _⟩ => ⟨S16384x1024, .bf16⟩
  | .hbm, ⟨10, _⟩ => ⟨S1024x1024, .bf16⟩
  | .hbm, ⟨11, _⟩ => ⟨S1024x1024, .bf16⟩
  | .hbm, ⟨12, _⟩ => ⟨S512x512, .bf16⟩
  | .hbm, ⟨13, _⟩ => ⟨S16384x512, .f32⟩
  | .hbm, ⟨14, _⟩ => ⟨S16384x512, .f32⟩
  | .hbm, ⟨15, _⟩ => ⟨S16384x512, .bf16⟩
  | .hbm, ⟨16, _⟩ => ⟨S16384x512, .bf16⟩
  | .hbm, ⟨17, _⟩ => ⟨S1x512, .f32⟩
  | .hbm, ⟨18, _⟩ => ⟨S1x512, .f32⟩
  | .hbm, ⟨19, _⟩ => ⟨S1x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S512x512, .bf16⟩
  | .local _ .vmem, ⟨8, _⟩ => ⟨S1x512, .f32⟩
  | .local _ .vmem, ⟨9, _⟩ => ⟨S512x512, .bf16⟩
  | .local _ .vmem, ⟨10, _⟩ => ⟨S1x512, .f32⟩
  | .local _ .vmem, ⟨11, _⟩ => ⟨S1x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1x512, .f32⟩
  | .local _ .vmem, ⟨21, _⟩ => ⟨S1x512, .f32⟩
  | .local _ .vmem, ⟨22, _⟩ => ⟨S1x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev main_v5_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MixBwdIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== MixBwdRefIdeal.lean ====
abbrev S16384x512 : Shape := ⟨2, ![16384, 512]⟩
abbrev S512x512 : Shape := ⟨2, ![512, 512]⟩
abbrev S1x512 : Shape := ⟨2, ![1, 512]⟩
abbrev S1024x1024 : Shape := ⟨2, ![1024, 1024]⟩
abbrev S16384x1024 : Shape := ⟨2, ![16384, 1024]⟩
abbrev S_ : Shape := ⟨0, ![]⟩
abbrev S512 : Shape := ⟨1, ![512]⟩
abbrev S16384 : Shape := ⟨1, ![16384]⟩
abbrev S16384x1 : Shape := ⟨2, ![16384, 1]⟩

abbrev nBuf : Space → Nat
  | .hbm => 202
  | .vmem => 0
  | .smem => 0
  | _ => 0

abbrev hbmTy0_0 (i : Nat) : BufTy := match i % 128 with
  | 0 => ⟨S16384x512, .f32⟩
  | 1 => ⟨S16384x512, .f32⟩
  | 2 => ⟨S512x512, .f32⟩
  | 3 => ⟨S1x512, .f32⟩
  | 4 => ⟨S1x512, .f32⟩
  | 5 => ⟨S1x512, .f32⟩
  | 6 => ⟨S1024x1024, .f32⟩
  | 7 => ⟨S16384x1024, .f32⟩
  | 8 => ⟨S16384x512, .f32⟩
  | 9 => ⟨S16384x512, .f32⟩
  | 10 => ⟨S16384x512, .f32⟩
  | 11 => ⟨S16384x512, .f32⟩
  | 12 => ⟨S_, .f32⟩
  | 13 => ⟨S16384x512, .f32⟩
  | 14 => ⟨S16384x512, .f32⟩
  | 15 => ⟨S_, .f32⟩
  | 16 => ⟨S16384x512, .f32⟩
  | 17 => ⟨S16384x512, .f32⟩
  | 18 => ⟨S_, .f32⟩
  | 19 => ⟨S16384x512, .f32⟩
  | 20 => ⟨S16384x512, .f32⟩
  | 21 => ⟨S16384x512, .f32⟩
  | 22 => ⟨S_, .f32⟩
  | 23 => ⟨S16384x512, .f32⟩
  | 24 => ⟨S16384x512, .f32⟩
  | 25 => ⟨S16384x512, .f32⟩
  | 26 => ⟨S_, .f32⟩
  | 27 => ⟨S16384x512, .f32⟩
  | 28 => ⟨S16384x512, .f32⟩
  | 29 => ⟨S_, .f32⟩
  | 30 => ⟨S16384x512, .f32⟩
  | 31 => ⟨S16384x512, .f32⟩
  | 32 => ⟨S16384x512, .f32⟩
  | 33 => ⟨S_, .f32⟩
  | 34 => ⟨S16384x512, .f32⟩
  | 35 => ⟨S16384x512, .f32⟩
  | 36 => ⟨S_, .f32⟩
  | 37 => ⟨S16384x512, .f32⟩
  | 38 => ⟨S16384x512, .f32⟩
  | 39 => ⟨S16384x512, .f32⟩
  | 40 => ⟨S16384x512, .f32⟩
  | 41 => ⟨S16384x512, .f32⟩
  | 42 => ⟨S16384x512, .f32⟩
  | 43 => ⟨S16384x512, .f32⟩
  | 44 => ⟨S_, .f32⟩
  | 45 => ⟨S16384x512, .f32⟩
  | 46 => ⟨S16384x512, .f32⟩
  | 47 => ⟨S_, .f32⟩
  | 48 => ⟨S16384x512, .f32⟩
  | 49 => ⟨S16384x512, .f32⟩
  | 50 => ⟨S_, .f32⟩
  | 51 => ⟨S16384x512, .f32⟩
  | 52 => ⟨S16384x512, .f32⟩
  | 53 => ⟨S16384x512, .f32⟩
  | 54 => ⟨S16384x512, .f32⟩
  | 55 => ⟨S512, .f32⟩
  | 56 => ⟨S512, .f32⟩
  | 57 => ⟨S16384x512, .f32⟩
  | 58 => ⟨S_, .f32⟩
  | 59 => ⟨S16384, .f32⟩
  | 60 => ⟨S16384x1, .f32⟩
  | 61 => ⟨S_, .f32⟩
  | 62 => ⟨S16384x1, .f32⟩
  | 63 => ⟨S16384x1, .f32⟩
  | 64 => ⟨S_, .f32⟩
  | 65 => ⟨S16384x1, .f32⟩
  | 66 => ⟨S16384x1, .f32⟩
  | 67 => ⟨S16384x1, .f32⟩
  | 68 => ⟨S16384x1, .f32⟩
  | 69 => ⟨S_, .f32⟩
  | 70 => ⟨S16384x1, .f32⟩
  | 71 => ⟨S16384x1, .f32⟩
  | 72 => ⟨S16384x512, .f32⟩
  | 73 => ⟨S16384x512, .f32⟩
  | 74 => ⟨S1x512, .f32⟩
  | 75 => ⟨S16384x512, .f32⟩
  | 76 => ⟨S16384x512, .f32⟩
  | 77 => ⟨S16384x512, .f32⟩
  | 78 => ⟨S_, .f32⟩
  | 79 => ⟨S16384, .f32⟩
  | 80 => ⟨S16384x1, .f32⟩
  | 81 => ⟨S_, .f32⟩
  | 82 => ⟨S16384x1, .f32⟩
  | 83 => ⟨S16384x1, .f32⟩
  | 84 => ⟨S_, .f32⟩
  | 85 => ⟨S16384x1, .f32⟩
  | 86 => ⟨S16384x1, .f32⟩
  | 87 => ⟨S16384x1, .f32⟩
  | 88 => ⟨S16384x1, .f32⟩
  | 89 => ⟨S_, .f32⟩
  | 90 => ⟨S16384x1, .f32⟩
  | 91 => ⟨S16384x1, .f32⟩
  | 92 => ⟨S16384x512, .f32⟩
  | 93 => ⟨S16384x512, .f32⟩
  | 94 => ⟨S1x512, .f32⟩
  | 95 => ⟨S16384x512, .f32⟩
  | 96 => ⟨S16384x512, .f32⟩
  | 97 => ⟨S16384x1024, .f32⟩
  | 98 => ⟨S16384x1024, .f32⟩
  | 99 => ⟨S16384x1024, .f32⟩
  | 100 => ⟨S16384x512, .f32⟩
  | 101 => ⟨S16384x512, .f32⟩
  | 102 => ⟨S16384x512, .f32⟩
  | 103 => ⟨S_, .f32⟩
  | 104 => ⟨S512, .f32⟩
  | 105 => ⟨S1x512, .f32⟩
  | 106 => ⟨S16384x512, .f32⟩
  | 107 => ⟨S16384x512, .f32⟩
  | 108 => ⟨S_, .f32⟩
  | 109 => ⟨S512, .f32⟩
  | 110 => ⟨S16384x512, .f32⟩
  | 111 => ⟨S_, .f32⟩
  | 112 => ⟨S16384, .f32⟩
  | 113 => ⟨S16384x1, .f32⟩
  | 114 => ⟨S16384x512, .f32⟩
  | 115 => ⟨S16384x512, .f32⟩
  | 116 => ⟨S16384x1, .f32⟩
  | 117 => ⟨S_, .f32⟩
  | 118 => ⟨S16384x1, .f32⟩
  | 119 => ⟨S16384x1, .f32⟩
  | 120 => ⟨S_, .f32⟩
  | 121 => ⟨S16384, .f32⟩
  | 122 => ⟨S16384x512, .f32⟩
  | 123 => ⟨S16384x512, .f32⟩
  | 124 => ⟨S16384x512, .f32⟩
  | 125 => ⟨S16384x512, .f32⟩
  | 126 => ⟨S16384x512, .f32⟩
  | 127 => ⟨S16384x512, .f32⟩
  | _ => ⟨S16384x512, .f32⟩

abbrev hbmTy0_1 (i : Nat) : BufTy := match i % 128 with
  | 0 => ⟨S_, .f32⟩
  | 1 => ⟨S512, .f32⟩
  | 2 => ⟨S1x512, .f32⟩
  | 3 => ⟨S16384x512, .f32⟩
  | 4 => ⟨S16384x512, .f32⟩
  | 5 => ⟨S_, .f32⟩
  | 6 => ⟨S512, .f32⟩
  | 7 => ⟨S16384x512, .f32⟩
  | 8 => ⟨S_, .f32⟩
  | 9 => ⟨S16384, .f32⟩
  | 10 => ⟨S16384x1, .f32⟩
  | 11 => ⟨S16384x512, .f32⟩
  | 12 => ⟨S16384x512, .f32⟩
  | 13 => ⟨S16384x1, .f32⟩
  | 14 => ⟨S_, .f32⟩
  | 15 => ⟨S16384x1, .f32⟩
  | 16 => ⟨S16384x1, .f32⟩
  | 17 => ⟨S_, .f32⟩
  | 18 => ⟨S16384, .f32⟩
  | 19 => ⟨S16384x512, .f32⟩
  | 20 => ⟨S16384x512, .f32⟩
  | 21 => ⟨S16384x512, .f32⟩
  | 22 => ⟨S16384x512, .f32⟩
  | 23 => ⟨S16384x512, .f32⟩
  | 24 => ⟨S1x512, .f32⟩
  | 25 => ⟨S1x512, .f32⟩
  | 26 => ⟨S16384x512, .f32⟩
  | 27 => ⟨S16384x512, .f32⟩
  | 28 => ⟨S16384x512, .f32⟩
  | 29 => ⟨S16384x512, .f32⟩
  | 30 => ⟨S16384x512, .f32⟩
  | 31 => ⟨S16384x512, .f32⟩
  | 32 => ⟨S16384x512, .f32⟩
  | 33 => ⟨S_, .f32⟩
  | 34 => ⟨S16384x512, .f32⟩
  | 35 => ⟨S16384x512, .f32⟩
  | 36 => ⟨S16384x512, .f32⟩
  | 37 => ⟨S_, .f32⟩
  | 38 => ⟨S16384x512, .f32⟩
  | 39 => ⟨S16384x512, .f32⟩
  | 40 => ⟨S16384x512, .f32⟩
  | 41 => ⟨S_, .f32⟩
  | 42 => ⟨S16384x512, .f32⟩
  | 43 => ⟨S16384x512, .f32⟩
  | 44 => ⟨S_, .f32⟩
  | 45 => ⟨S16384x512, .f32⟩
  | 46 => ⟨S16384x512, .f32⟩
  | 47 => ⟨S16384x512, .f32⟩
  | 48 => ⟨S16384x512, .f32⟩
  | 49 => ⟨S16384x512, .f32⟩
  | 50 => ⟨S16384x512, .f32⟩
  | 51 => ⟨S_, .f32⟩
  | 52 => ⟨S16384x512, .f32⟩
  | 53 => ⟨S16384x512, .f32⟩
  | 54 => ⟨S_, .f32⟩
  | 55 => ⟨S16384x512, .f32⟩
  | 56 => ⟨S16384x512, .f32⟩
  | 57 => ⟨S16384x512, .f32⟩
  | 58 => ⟨S_, .f32⟩
  | 59 => ⟨S16384x512, .f32⟩
  | 60 => ⟨S16384x512, .f32⟩
  | 61 => ⟨S16384x512, .f32⟩
  | 62 => ⟨S_, .f32⟩
  | 63 => ⟨S16384x512, .f32⟩
  | 64 => ⟨S16384x512, .f32⟩
  | 65 => ⟨S_, .f32⟩
  | 66 => ⟨S16384x512, .f32⟩
  | 67 => ⟨S16384x512, .f32⟩
  | 68 => ⟨S16384x512, .f32⟩
  | 69 => ⟨S16384x512, .bf16⟩
  | 70 => ⟨S16384x512, .bf16⟩
  | 71 => ⟨S_, .f32⟩
  | 72 => ⟨S512, .f32⟩
  | 73 => ⟨S1x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_cst_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_cst_11 : Ref sig .tc := ⟨.hbm, 61, rfl⟩
abbrev main_v41 : Ref sig .tc := ⟨.hbm, 62, rfl⟩
abbrev main_v42 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_14 : Ref sig .tc := ⟨.hbm, 78, rfl⟩
abbrev main_v55 : Ref sig .tc := ⟨.hbm, 79, rfl⟩
abbrev main_v56 : Ref sig .tc := ⟨.hbm, 80, rfl⟩
abbrev main_cst_15 : Ref sig .tc := ⟨.hbm, 81, rfl⟩
abbrev main_v57 : Ref sig .tc := ⟨.hbm, 82, rfl⟩
abbrev main_v58 : Ref sig .tc := ⟨.hbm, 83, rfl⟩
abbrev main_cst_16 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_17 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_18 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_19 : Ref sig .tc := ⟨.hbm, 108, rfl⟩
abbrev main_v80 : Ref sig .tc := ⟨.hbm, 109, rfl⟩
abbrev main_v81 : Ref sig .tc := ⟨.hbm, 110, rfl⟩
abbrev main_cst_20 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_21 : Ref sig .tc := ⟨.hbm, 117, rfl⟩
abbrev main_v87 : Ref sig .tc := ⟨.hbm, 118, rfl⟩
abbrev main_v88 : Ref sig .tc := ⟨.hbm, 119, rfl⟩
abbrev main_cst_22 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_23 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_24 : Ref sig .tc := ⟨.hbm, 133, rfl⟩
abbrev main_v100 : Ref sig .tc := ⟨.hbm, 134, rfl⟩
abbrev main_v101 : Ref sig .tc := ⟨.hbm, 135, rfl⟩
abbrev main_cst_25 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_26 : Ref sig .tc := ⟨.hbm, 142, rfl⟩
abbrev main_v107 : Ref sig .tc := ⟨.hbm, 143, rfl⟩
abbrev main_v108 : Ref sig .tc := ⟨.hbm, 144, rfl⟩
abbrev main_cst_27 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_cst_28 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_cst_29 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_cst_30 : Ref sig .tc := ⟨.hbm, 169, rfl⟩
abbrev main_v130 : Ref sig .tc := ⟨.hbm, 170, rfl⟩
abbrev main_v131 : Ref sig .tc := ⟨.hbm, 171, rfl⟩
abbrev main_cst_31 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_cst_32 : Ref sig .tc := ⟨.hbm, 179, rfl⟩
abbrev main_v138 : Ref sig .tc := ⟨.hbm, 180, rfl⟩
abbrev main_v139 : Ref sig .tc := ⟨.hbm, 181, rfl⟩
abbrev main_cst_33 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_cst_34 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_cst_35 : Ref sig .tc := ⟨.hbm, 190, rfl⟩
abbrev main_v146 : Ref sig .tc := ⟨.hbm, 191, rfl⟩
abbrev main_v147 : Ref sig .tc := ⟨.hbm, 192, rfl⟩
abbrev main_cst_36 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_37 : Ref sig .tc := ⟨.hbm, 199, rfl⟩
abbrev main_v153 : Ref sig .tc := ⟨.hbm, 200, rfl⟩
abbrev main_v154 : Ref sig .tc := ⟨.hbm, 201, rfl⟩

abbrev nD : Nat := 1
abbrev τ : Topo := Topo.v7x

variable {F : FTy → Type} [FloatOps F]

def κ : String → Option EReal := fun
  | "gelu_3a" => some ((26829 / 200000 : ℝ) : EReal)
  | "gelu_a" => some ((8943 / 200000 : ℝ) : EReal)
  | _ => none
-- ==== GradDown.lean ====
abbrev S16384x4096 : Shape := ⟨2, ![16384, 4096]⟩
abbrev S16384x1024 : Shape := ⟨2, ![16384, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S16384x4096, .bf16⟩
  | .hbm, ⟨3, _⟩ => ⟨S16384x1024, .bf16⟩
  | .hbm, ⟨4, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradDownIdeal.lean ====
abbrev S16384x4096 : Shape := ⟨2, ![16384, 4096]⟩
abbrev S16384x1024 : Shape := ⟨2, ![16384, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S16384x4096, .bf16⟩
  | .hbm, ⟨3, _⟩ => ⟨S16384x1024, .bf16⟩
  | .hbm, ⟨4, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradDownRefIdeal.lean ====
abbrev S16384x4096 : Shape := ⟨2, ![16384, 4096]⟩
abbrev S16384x1024 : Shape := ⟨2, ![16384, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S_, .f32⟩
  | .hbm, ⟨3, _⟩ => ⟨S4096x1024, .f32⟩
  | .hbm, ⟨4, _⟩ => ⟨S16384x1024, .f32⟩
  | .hbm, ⟨5, _⟩ => ⟨S1024x4096, .f32⟩
  | .hbm, ⟨6, _⟩ => ⟨S4096x1024, .f32⟩
  | .hbm, ⟨7, _⟩ => ⟨S4096x1024, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GradUp.lean ====
abbrev S16384x1024 : Shape := ⟨2, ![16384, 1024]⟩
abbrev S16384x4096 : Shape := ⟨2, ![16384, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S16384x1024, .bf16⟩
  | .hbm, ⟨3, _⟩ => ⟨S16384x4096, .bf16⟩
  | .hbm, ⟨4, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradUpIdeal.lean ====
abbrev S16384x1024 : Shape := ⟨2, ![16384, 1024]⟩
abbrev S16384x4096 : Shape := ⟨2, ![16384, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S16384x1024, .bf16⟩
  | .hbm, ⟨3, _⟩ => ⟨S16384x4096, .bf16⟩
  | .hbm, ⟨4, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradUpRefIdeal.lean ====
abbrev S16384x1024 : Shape := ⟨2, ![16384, 1024]⟩
abbrev S16384x4096 : Shape := ⟨2, ![16384, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S_, .f32⟩
  | .hbm, ⟨3, _⟩ => ⟨S1024x4096, .f32⟩
  | .hbm, ⟨4, _⟩ => ⟨S16384x4096, .f32⟩
  | .hbm, ⟨5, _⟩ => ⟨S4096x1024, .f32⟩
  | .hbm, ⟨6, _⟩ => ⟨S1024x4096, .f32⟩
  | .hbm, ⟨7, _⟩ => ⟨S1024x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GradOut.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradOutIdeal.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradOutRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GradGlu.lean ====
abbrev S16384x512 : Shape := ⟨2, ![16384, 512]⟩
abbrev S512x512 : Shape := ⟨2, ![512, 512]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .bf16⟩
  | .hbm, ⟨3, _⟩ => ⟨S16384x512, .bf16⟩
  | .hbm, ⟨4, _⟩ => ⟨S512x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradGluIdeal.lean ====
abbrev S16384x512 : Shape := ⟨2, ![16384, 512]⟩
abbrev S512x512 : Shape := ⟨2, ![512, 512]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .bf16⟩
  | .hbm, ⟨3, _⟩ => ⟨S16384x512, .bf16⟩
  | .hbm, ⟨4, _⟩ => ⟨S512x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradGluRefIdeal.lean ====
abbrev S16384x512 : Shape := ⟨2, ![16384, 512]⟩
abbrev S_ : Shape := ⟨0, ![]⟩
abbrev S512x512 : Shape := ⟨2, ![512, 512]⟩

abbrev nBuf : Space → Nat
  | .hbm => 8
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S_, .f32⟩
  | .hbm, ⟨3, _⟩ => ⟨S512x512, .f32⟩
  | .hbm, ⟨4, _⟩ => ⟨S16384x512, .f32⟩
  | .hbm, ⟨5, _⟩ => ⟨S512x512, .f32⟩
  | .hbm, ⟨6, _⟩ => ⟨S512x512, .f32⟩
  | .hbm, ⟨7, _⟩ => ⟨S512x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GradIn.lean ====
abbrev S16384x1024 : Shape := ⟨2, ![16384, 1024]⟩
abbrev S16384x2048 : Shape := ⟨2, ![16384, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x1024, .bf16⟩
  | .hbm, ⟨3, _⟩ => ⟨S16384x2048, .bf16⟩
  | .hbm, ⟨4, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInIdeal.lean ====
abbrev S16384x1024 : Shape := ⟨2, ![16384, 1024]⟩
abbrev S16384x2048 : Shape := ⟨2, ![16384, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x1024, .bf16⟩
  | .hbm, ⟨3, _⟩ => ⟨S16384x2048, .bf16⟩
  | .hbm, ⟨4, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInRefIdeal.lean ====
abbrev S16384x1024 : Shape := ⟨2, ![16384, 1024]⟩
abbrev S16384x2048 : Shape := ⟨2, ![16384, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S_, .f32⟩
  | .hbm, ⟨3, _⟩ => ⟨S1024x2048, .f32⟩
  | .hbm, ⟨4, _⟩ => ⟨S16384x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlpUp.lean ====
abbrev S16384x1024 : Shape := ⟨2, ![16384, 1024]⟩
abbrev S1024x4096 : Shape := ⟨2, ![1024, 4096]⟩
abbrev S16384x4096 : Shape := ⟨2, ![16384, 4096]⟩
abbrev S512x1024 : Shape := ⟨2, ![512, 1024]⟩
abbrev S512x4096 : Shape := ⟨2, ![512, 4096]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x1024, .bf16⟩
  | .hbm, ⟨3, _⟩ => ⟨S1024x4096, .bf16⟩
  | .hbm, ⟨4, _⟩ => ⟨S16384x4096, .bf16⟩
  | .hbm, ⟨5, _⟩ => ⟨S16384x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MlpUpRefIdeal.lean ====
abbrev S16384x1024 : Shape := ⟨2, ![16384, 1024]⟩
abbrev S1024x4096 : Shape := ⟨2, ![1024, 4096]⟩
abbrev S16384x4096 : Shape := ⟨2, ![16384, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x4096, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S16384x4096, .bf16⟩
  | .hbm, ⟨7, _⟩ => ⟨S16384x4096, .f32⟩
  | .hbm, ⟨8, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MlpDownLoss.lean ====
abbrev S16384x4096 : Shape := ⟨2, ![16384, 4096]⟩
abbrev S4096x1024 : Shape := ⟨2, ![4096, 1024]⟩
abbrev S16384x1024 : Shape := ⟨2, ![16384, 1024]⟩
abbrev S1x1 : Shape := ⟨2, ![1, 1]⟩
abbrev S512x4096 : Shape := ⟨2, ![512, 4096]⟩
abbrev S512x1024 : Shape := ⟨2, ![512, 1024]⟩
abbrev S1024 : Shape := ⟨1, ![1024]⟩
abbrev S1x1024 : Shape := ⟨2, ![1, 1024]⟩
abbrev S1 : Shape := ⟨1, ![1]⟩

abbrev nBuf : Space → Nat
  | .hbm => 9
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S16384x1024, .f32⟩
  | .hbm, ⟨4, _⟩ => ⟨S16384x4096, .bf16⟩
  | .hbm, ⟨5, _⟩ => ⟨S4096x1024, .bf16⟩
  | .hbm, ⟨6, _⟩ => ⟨S16384x1024, .f32⟩
  | .hbm, ⟨7, _⟩ => ⟨S16384x1024, .bf16⟩
  | .hbm, ⟨8, _⟩ => ⟨S1x1, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MlpDownLossRefIdeal.lean ====
abbrev S16384x4096 : Shape := ⟨2, ![16384, 4096]⟩
abbrev S4096x1024 : Shape := ⟨2, ![4096, 1024]⟩
abbrev S16384x1024 : Shape := ⟨2, ![16384, 1024]⟩
abbrev S_ : Shape := ⟨0, ![]⟩
abbrev S16384 : Shape := ⟨1, ![16384]⟩
abbrev S1x1 : Shape := ⟨2, ![1, 1]⟩

abbrev nBuf : Space → Nat
  | .hbm => 35
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S_, .f32⟩
  | .hbm, ⟨14, _⟩ => ⟨S16384, .f32⟩
  | .hbm, ⟨15, _⟩ => ⟨S16384, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S16384x1024, .f32⟩
  | .hbm, ⟨28, _⟩ => ⟨S16384x1024, .f32⟩
  | .hbm, ⟨29, _⟩ => ⟨S16384x1024, .bf16⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S_, .f32⟩
  | .hbm, ⟨34, _⟩ => ⟨S1x1, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== FwdMix.lean ====
abbrev S16384x512 : Shape := ⟨2, ![16384, 512]⟩
abbrev S16384x1024 : Shape := ⟨2, ![16384, 1024]⟩
abbrev S512x512 : Shape := ⟨2, ![512, 512]⟩
abbrev S1x512 : Shape := ⟨2, ![1, 512]⟩
abbrev S1024x1024 : Shape := ⟨2, ![1024, 1024]⟩
abbrev S1x1024 : Shape := ⟨2, ![1, 1024]⟩
abbrev S1024x512 : Shape := ⟨2, ![1024, 512]⟩
abbrev S1024 : Shape := ⟨1, ![1024]⟩
abbrev S1024x1 : Shape := ⟨2, ![1024, 1]⟩
abbrev S512x1024 : Shape := ⟨2, ![512, 1024]⟩

abbrev nBuf : Space → Nat
  | .hbm => 14
  | .vmem => 18
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S512x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1024x1024, .f32⟩
  | .hbm, ⟨8, _⟩ => ⟨S1x1024, .f32⟩
  | .hbm, ⟨9, _⟩ => ⟨S512x512, .bf16⟩
  | .hbm, ⟨10, _⟩ => ⟨S1024x1024, .bf16⟩
  | .hbm, ⟨11, _⟩ => ⟨S16384x1024, .bf16⟩
  | .hbm, ⟨12, _⟩ => ⟨S16384x1024, .f32⟩
  | .hbm, ⟨13, _⟩ => ⟨S16384x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FwdMixRefIdeal.lean ====
abbrev S16384x512 : Shape := ⟨2, ![16384, 512]⟩
abbrev S16384x1024 : Shape := ⟨2, ![16384, 1024]⟩
abbrev S512x512 : Shape := ⟨2, ![512, 512]⟩
abbrev S1x512 : Shape := ⟨2, ![1, 512]⟩
abbrev S1024x1024 : Shape := ⟨2, ![1024, 1024]⟩
abbrev S1x1024 : Shape := ⟨2, ![1, 1024]⟩
abbrev S512 : Shape := ⟨1, ![512]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 96
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S512x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1024x1024, .f32⟩
  | .hbm, ⟨8, _⟩ => ⟨S1x1024, .f32⟩
  | .hbm, ⟨9, _⟩ => ⟨S512, .f32⟩
  | .hbm, ⟨10, _⟩ => ⟨S16384x512, .f32⟩
  | .hbm, ⟨11, _⟩ => ⟨S16384x512, .f32⟩
  | .hbm, ⟨12, _⟩ => ⟨S_, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S_, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S_, .f32⟩
  | .hbm, ⟨21, _⟩ => ⟨S16384x512, .f32⟩
  | .hbm, ⟨22, _⟩ => ⟨S16384x512, .f32⟩
  | .hbm, ⟨23, _⟩ => ⟨S_, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S1x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S_, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S512, .f32⟩
  | .hbm, ⟨41, _⟩ => ⟨S16384x512, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x512, .f32⟩
  | .hbm, ⟨53, _⟩ => ⟨S16384x512, .f32⟩
  | .hbm, ⟨54, _⟩ => ⟨S1x512, .f32⟩
  | .hbm, ⟨55, _⟩ => ⟨S16384x512, .f32⟩
  | .hbm, ⟨56, _⟩ => ⟨S16384x512, .f32⟩
  | .hbm, ⟨57, _⟩ => ⟨S512, .f32⟩
  | .hbm, ⟨58, _⟩ => ⟨S16384x512, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x1, .f32⟩
  | .hbm, ⟨69, _⟩ => ⟨S16384x512, .f32⟩
  | .hbm, ⟨70, _⟩ => ⟨S16384x512, .f32⟩
  | .hbm, ⟨71, _⟩ => ⟨S1x512, .f32⟩
  | .hbm, ⟨72, _⟩ => ⟨S16384x512, .f32⟩
  | .hbm, ⟨73, _⟩ => ⟨S16384x512, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .bf16⟩
  | .hbm, ⟨78, _⟩ => ⟨S1024, .f32⟩
  | .hbm, ⟨79, _⟩ => ⟨S16384x1024, .f32⟩
  | .hbm, ⟨80, _⟩ => ⟨S_, .f32⟩
  | .hbm, ⟨81, _⟩ => ⟨S16384, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S16384x1, .f32⟩
  | .hbm, ⟨90, _⟩ => ⟨S16384x1024, .f32⟩
  | .hbm, ⟨91, _⟩ => ⟨S16384x1024, .f32⟩
  | .hbm, ⟨92, _⟩ => ⟨S1x1024, .f32⟩
  | .hbm, ⟨93, _⟩ => ⟨S16384x1024, .f32⟩
  | .hbm, ⟨94, _⟩ => ⟨S16384x1024, .f32⟩
  | .hbm, ⟨95, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== FwdProj.lean ====
abbrev S16384x1024 : Shape := ⟨2, ![16384, 1024]⟩
abbrev S1x1024 : Shape := ⟨2, ![1, 1024]⟩
abbrev S1024x2048 : Shape := ⟨2, ![1024, 2048]⟩
abbrev S1x64 : Shape := ⟨2, ![1, 64]⟩
abbrev S64 : Shape := ⟨1, ![64]⟩
abbrev S8x64 : Shape := ⟨2, ![8, 64]⟩
abbrev S512 : Shape := ⟨1, ![512]⟩
abbrev S1x512 : Shape := ⟨2, ![1, 512]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S16384x512 : Shape := ⟨2, ![16384, 512]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩
abbrev S1024x256 : Shape := ⟨2, ![1024, 256]⟩

abbrev nBuf : Space → Nat
  | .hbm => 52
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2048, .f32⟩
  | .hbm, ⟨3, _⟩ => ⟨S1x64, .f32⟩
  | .hbm, ⟨4, _⟩ => ⟨S1x64, .f32⟩
  | .hbm, ⟨5, _⟩ => ⟨S64, .f32⟩
  | .hbm, ⟨6, _⟩ => ⟨S1x64, .f32⟩
  | .hbm, ⟨7, _⟩ => ⟨S8x64, .f32⟩
  | .hbm, ⟨8, _⟩ => ⟨S512, .f32⟩
  | .hbm, ⟨9, _⟩ => ⟨S1x512, .f32⟩
  | .hbm, ⟨10, _⟩ => ⟨S64, .f32⟩
  | .hbm, ⟨11, _⟩ => ⟨S1x64, .f32⟩
  | .hbm, ⟨12, _⟩ => ⟨S8x64, .f32⟩
  | .hbm, ⟨13, _⟩ => ⟨S512, .f32⟩
  | .hbm, ⟨14, _⟩ => ⟨S1x512, .f32⟩
  | .hbm, ⟨15, _⟩ => ⟨S256, .i32⟩
  | .hbm, ⟨16, _⟩ => ⟨S_, .i32⟩
  | .hbm, ⟨17, _⟩ => ⟨S_, .i32⟩
  | .hbm, ⟨18, _⟩ => ⟨S256, .i32⟩
  | .hbm, ⟨19, _⟩ => ⟨S256, .i32⟩
  | .hbm, ⟨20, _⟩ => ⟨S256, .i32⟩
  | .hbm, ⟨21, _⟩ => ⟨S_, .i32⟩
  | .hbm, ⟨22, _⟩ => ⟨S256, .i32⟩
  | .hbm, ⟨23, _⟩ => ⟨S256, .i1⟩
  | .hbm, ⟨24, _⟩ => ⟨S256, .i32⟩
  | .hbm, ⟨25, _⟩ => ⟨S256, .i32⟩
  | .hbm, ⟨26, _⟩ => ⟨S_, .i32⟩
  | .hbm, ⟨27, _⟩ => ⟨S256, .i32⟩
  | .hbm, ⟨28, _⟩ => ⟨S256, .i1⟩
  | .hbm, ⟨29, _⟩ => ⟨S256, .i1⟩
  | .hbm, ⟨30, _⟩ => ⟨S_, .i32⟩
  | .hbm, ⟨31, _⟩ => ⟨S256, .i32⟩
  | .hbm, ⟨32, _⟩ => ⟨S256, .i32⟩
  | .hbm, ⟨33, _⟩ => ⟨S256, .i32⟩
  | .hbm, ⟨34, _⟩ => ⟨S256x1, .i32⟩
  | .hbm, ⟨35, _⟩ => ⟨S1x256, .i32⟩
  | .hbm, ⟨36, _⟩ => ⟨S256x256, .i32⟩
  | .hbm, ⟨37, _⟩ => ⟨S256x256, .i32⟩
  | .hbm, ⟨38, _⟩ => ⟨S256x256, .i1⟩
  | .hbm, ⟨39, _⟩ => ⟨S_, .f32⟩
  | .hbm, ⟨40, _⟩ => ⟨S_, .f32⟩
  | .hbm, ⟨41, _⟩ => ⟨S256x256, .f32⟩
  | .hbm, ⟨42, _⟩ => ⟨S256x256, .f32⟩
  | .hbm, ⟨43, _⟩ => ⟨S256x256, .f32⟩
  | .hbm, ⟨44, _⟩ => ⟨S256x256, .bf16⟩
  | .hbm, ⟨45, _⟩ => ⟨S1024x2048, .bf16⟩
  | .hbm, ⟨46, _⟩ => ⟨S16384x1024, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1x512, .f32⟩
  | .local _ .vmem, ⟨5, _⟩ => ⟨S1x512, .f32⟩
  | .local _ .vmem, ⟨6, _⟩ => ⟨S256x256, .bf16⟩
  | .local _ .vmem, ⟨7, _⟩ => ⟨S1024x1024, .f32⟩
  | .local _ .vmem, ⟨8, _⟩ => ⟨S1024x1024, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x1024, .bf16⟩
  | .local _ .vmem, ⟨18, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20_0 : Ref sig .tc := ⟨.hbm, 46, rfl⟩
abbrev main_v20_1 : Ref sig .tc := ⟨.hbm, 47, rfl⟩
abbrev main_v20_2 : Ref sig .tc := ⟨.hbm, 48, rfl⟩
abbrev main_v20_3 : Ref sig .tc := ⟨.hbm, 49, rfl⟩
abbrev main_v20_4 : Ref sig .tc := ⟨.hbm, 50, rfl⟩
abbrev main_v20_5 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FwdProjRefIdeal.lean ====
abbrev S16384x1024 : Shape := ⟨2, ![16384, 1024]⟩
abbrev S1x1024 : Shape := ⟨2, ![1, 1024]⟩
abbrev S1024x2048 : Shape := ⟨2, ![1024, 2048]⟩
abbrev S1x64 : Shape := ⟨2, ![1, 64]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x2048 : Shape := ⟨2, ![16384, 2048]⟩
abbrev S16384x512 : Shape := ⟨2, ![16384, 512]⟩
abbrev S16384x8x64 : Shape := ⟨3, ![16384, 8, 64]⟩
abbrev S64 : Shape := ⟨1, ![64]⟩
abbrev S16384x8 : Shape := ⟨2, ![16384, 8]⟩
abbrev S16384x8x1 : Shape := ⟨3, ![16384, 8, 1]⟩
abbrev S1x1x64 : Shape := ⟨3, ![1, 1, 64]⟩

abbrev nBuf : Space → Nat
  | .hbm => 67
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2048, .f32⟩
  | .hbm, ⟨3, _⟩ => ⟨S1x64, .f32⟩
  | .hbm, ⟨4, _⟩ => ⟨S1x64, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2048, .f32⟩
  | .hbm, ⟨23, _⟩ => ⟨S16384x512, .f32⟩
  | .hbm, ⟨24, _⟩ => ⟨S16384x8x64, .f32⟩
  | .hbm, ⟨25, _⟩ => ⟨S16384x512, .f32⟩
  | .hbm, ⟨26, _⟩ => ⟨S16384x8x64, .f32⟩
  | .hbm, ⟨27, _⟩ => ⟨S16384x512, .f32⟩
  | .hbm, ⟨28, _⟩ => ⟨S16384x512, .f32⟩
  | .hbm, ⟨29, _⟩ => ⟨S64, .f32⟩
  | .hbm, ⟨30, _⟩ => ⟨S16384x8x64, .f32⟩
  | .hbm, ⟨31, _⟩ => ⟨S_, .f32⟩
  | .hbm, ⟨32, _⟩ => ⟨S16384x8, .f32⟩
  | .hbm, ⟨33, _⟩ => ⟨S16384x8x1, .f32⟩
  | .hbm, ⟨34, _⟩ => ⟨S_, .f32⟩
  | .hbm, ⟨35, _⟩ => ⟨S16384x8x1, .f32⟩
  | .hbm, ⟨36, _⟩ => ⟨S16384x8x1, .f32⟩
  | .hbm, ⟨37, _⟩ => ⟨S_, .f32⟩
  | .hbm, ⟨38, _⟩ => ⟨S16384x8x1, .f32⟩
  | .hbm, ⟨39, _⟩ => ⟨S16384x8x1, .f32⟩
  | .hbm, ⟨40, _⟩ => ⟨S16384x8x1, .f32⟩
  | .hbm, ⟨41, _⟩ => ⟨S16384x8x64, .f32⟩
  | .hbm, ⟨42, _⟩ => ⟨S16384x8x64, .f32⟩
  | .hbm, ⟨43, _⟩ => ⟨S1x1x64, .f32⟩
  | .hbm, ⟨44, _⟩ => ⟨S16384x8x64, .f32⟩
  | .hbm, ⟨45, _⟩ => ⟨S16384x8x64, .f32⟩
  | .hbm, ⟨46, _⟩ => ⟨S16384x512, .f32⟩
  | .hbm, ⟨47, _⟩ => ⟨S64, .f32⟩
  | .hbm, ⟨48, _⟩ => ⟨S16384x8x64, .f32⟩
  | .hbm, ⟨49, _⟩ => ⟨S_, .f32⟩
  | .hbm, ⟨50, _⟩ => ⟨S16384x8, .f32⟩
  | .hbm, ⟨51, _⟩ => ⟨S16384x8x1, .f32⟩
  | .hbm, ⟨52, _⟩ => ⟨S_, .f32⟩
  | .hbm, ⟨53, _⟩ => ⟨S16384x8x1, .f32⟩
  | .hbm, ⟨54, _⟩ => ⟨S16384x8x1, .f32⟩
  | .hbm, ⟨55, _⟩ => ⟨S_, .f32⟩
  | .hbm, ⟨56, _⟩ => ⟨S16384x8x1, .f32⟩
  | .hbm, ⟨57, _⟩ => ⟨S16384x8x1, .f32⟩
  | .hbm, ⟨58, _⟩ => ⟨S16384x8x1, .f32⟩
  | .hbm, ⟨59, _⟩ => ⟨S16384x8x64, .f32⟩
  | .hbm, ⟨60, _⟩ => ⟨S16384x8x64, .f32⟩
  | .hbm, ⟨61, _⟩ => ⟨S1x1x64, .f32⟩
  | .hbm, ⟨62, _⟩ => ⟨S16384x8x64, .f32⟩
  | .hbm, ⟨63, _⟩ => ⟨S16384x8x64, .f32⟩
  | .hbm, ⟨64, _⟩ => ⟨S16384x512, .f32⟩
  | .hbm, ⟨65, _⟩ => ⟨S16384x1024, .f32⟩
  | .hbm, ⟨66, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== UpdIn.lean ====
abbrev S1024x256 : Shape := ⟨2, ![1024, 256]⟩
abbrev S8x1024x256 : Shape := ⟨3, ![8, 1024, 256]⟩
abbrev S1x1024x256 : Shape := ⟨3, ![1, 1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S8x1024x256, .bf16⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S8x1024x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdInIdeal.lean ====
abbrev S1024x256 : Shape := ⟨2, ![1024, 256]⟩
abbrev S8x1024x256 : Shape := ⟨3, ![8, 1024, 256]⟩
abbrev S1x1024x256 : Shape := ⟨3, ![1, 1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S8x1024x256, .bf16⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S8x1024x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdInRefIdeal.lean ====
abbrev S1024x256 : Shape := ⟨2, ![1024, 256]⟩
abbrev S8x1024x256 : Shape := ⟨3, ![8, 1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S8x1024x256, .bf16⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdGlu.lean ====
abbrev S64x512 : Shape := ⟨2, ![64, 512]⟩
abbrev S8x64x512 : Shape := ⟨3, ![8, 64, 512]⟩
abbrev S1x64x512 : Shape := ⟨3, ![1, 64, 512]⟩

abbrev nBuf : Space → Nat
  | .hbm => 8
  | .vmem => 8
  | .smem => 0
  | _ => 0

abbrev bufTy : (tb : Table) → Fin (tcTables nBuf tb) → BufTy
  | .hbm, ⟨0, _⟩ => ⟨S64x512, .f32⟩
  | .hbm, ⟨1, _⟩ => ⟨S64x512, .f32⟩
  | .hbm, ⟨2, _⟩ => ⟨S64x512, .f32⟩
  | .hbm, ⟨3, _⟩ => ⟨S8x64x512, .bf16⟩
  | .hbm, ⟨4, _⟩ => ⟨S64x512, .f32⟩
  | .hbm, ⟨5, _⟩ => ⟨S64x512, .f32⟩
  | .hbm, ⟨6, _⟩ => ⟨S64x512, .f32⟩
  | .hbm, ⟨7, _⟩ => ⟨S64x512, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S8x64x512, .bf16⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdGluIdeal.lean ====
abbrev S64x512 : Shape := ⟨2, ![64, 512]⟩
abbrev S8x64x512 : Shape := ⟨3, ![8, 64, 512]⟩
abbrev S1x64x512 : Shape := ⟨3, ![1, 64, 512]⟩

abbrev nBuf : Space → Nat
  | .hbm => 8
  | .vmem => 8
  | .smem => 0
  | _ => 0

abbrev bufTy : (tb : Table) → Fin (tcTables nBuf tb) → BufTy
  | .hbm, ⟨0, _⟩ => ⟨S64x512, .f32⟩
  | .hbm, ⟨1, _⟩ => ⟨S64x512, .f32⟩
  | .hbm, ⟨2, _⟩ => ⟨S64x512, .f32⟩
  | .hbm, ⟨3, _⟩ => ⟨S8x64x512, .bf16⟩
  | .hbm, ⟨4, _⟩ => ⟨S64x512, .f32⟩
  | .hbm, ⟨5, _⟩ => ⟨S64x512, .f32⟩
  | .hbm, ⟨6, _⟩ => ⟨S64x512, .f32⟩
  | .hbm, ⟨7, _⟩ => ⟨S64x512, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S8x64x512, .bf16⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdGluRefIdeal.lean ====
abbrev S64x512 : Shape := ⟨2, ![64, 512]⟩
abbrev S8x64x512 : Shape := ⟨3, ![8, 64, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S64x512, .f32⟩
  | .hbm, ⟨2, _⟩ => ⟨S64x512, .f32⟩
  | .hbm, ⟨3, _⟩ => ⟨S8x64x512, .bf16⟩
  | .hbm, ⟨4, _⟩ => ⟨S8x64x512, .f32⟩
  | .hbm, ⟨5, _⟩ => ⟨S_, .f32⟩
  | .hbm, ⟨6, _⟩ => ⟨S64x512, .f32⟩
  | .hbm, ⟨7, _⟩ => ⟨S_, .f32⟩
  | .hbm, ⟨8, _⟩ => ⟨S64x512, .f32⟩
  | .hbm, ⟨9, _⟩ => ⟨S64x512, .f32⟩
  | .hbm, ⟨10, _⟩ => ⟨S_, .f32⟩
  | .hbm, ⟨11, _⟩ => ⟨S64x512, .f32⟩
  | .hbm, ⟨12, _⟩ => ⟨S64x512, .f32⟩
  | .hbm, ⟨13, _⟩ => ⟨S64x512, .f32⟩
  | .hbm, ⟨14, _⟩ => ⟨S_, .f32⟩
  | .hbm, ⟨15, _⟩ => ⟨S64x512, .f32⟩
  | .hbm, ⟨16, _⟩ => ⟨S64x512, .f32⟩
  | .hbm, ⟨17, _⟩ => ⟨S64x512, .f32⟩
  | .hbm, ⟨18, _⟩ => ⟨S_, .f32⟩
  | .hbm, ⟨19, _⟩ => ⟨S64x512, .f32⟩
  | .hbm, ⟨20, _⟩ => ⟨S64x512, .f32⟩
  | .hbm, ⟨21, _⟩ => ⟨S64x512, .f32⟩
  | .hbm, ⟨22, _⟩ => ⟨S_, .f32⟩
  | .hbm, ⟨23, _⟩ => ⟨S64x512, .f32⟩
  | .hbm, ⟨24, _⟩ => ⟨S64x512, .f32⟩
  | .hbm, ⟨25, _⟩ => ⟨S_, .f32⟩
  | .hbm, ⟨26, _⟩ => ⟨S64x512, .f32⟩
  | .hbm, ⟨27, _⟩ => ⟨S64x512, .f32⟩
  | .hbm, ⟨28, _⟩ => ⟨S64x512, .f32⟩
  | .hbm, ⟨29, _⟩ => ⟨S_, .f32⟩
  | .hbm, ⟨30, _⟩ => ⟨S64x512, .f32⟩
  | .hbm, ⟨31, _⟩ => ⟨S64x512, .f32⟩
  | .hbm, ⟨32, _⟩ => ⟨S64x512, .f32⟩
  | .hbm, ⟨33, _⟩ => ⟨S_, .f32⟩
  | .hbm, ⟨34, _⟩ => ⟨S64x512, .f32⟩
  | .hbm, ⟨35, _⟩ => ⟨S64x512, .f32⟩
  | .hbm, ⟨36, _⟩ => ⟨S64x512, .f32⟩
  | .hbm, ⟨37, _⟩ => ⟨S_, .f32⟩
  | .hbm, ⟨38, _⟩ => ⟨S64x512, .f32⟩
  | .hbm, ⟨39, _⟩ => ⟨S64x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdOut.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdOutIdeal.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdOutRefIdeal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdUp.lean ====
abbrev S1024x512 : Shape := ⟨2, ![1024, 512]⟩
abbrev S8x1024x512 : Shape := ⟨3, ![8, 1024, 512]⟩
abbrev S256x512 : Shape := ⟨2, ![256, 512]⟩
abbrev S8x256x512 : Shape := ⟨3, ![8, 256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S8x1024x512, .bf16⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S8x256x512, .bf16⟩
  | .local _ .vmem, ⟨7, _⟩ => ⟨S8x256x512, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdUpIdeal.lean ====
abbrev S1024x512 : Shape := ⟨2, ![1024, 512]⟩
abbrev S8x1024x512 : Shape := ⟨3, ![8, 1024, 512]⟩
abbrev S256x512 : Shape := ⟨2, ![256, 512]⟩
abbrev S8x256x512 : Shape := ⟨3, ![8, 256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S8x1024x512, .bf16⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S8x256x512, .bf16⟩
  | .local _ .vmem, ⟨7, _⟩ => ⟨S8x256x512, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdUpRefIdeal.lean ====
abbrev S1024x512 : Shape := ⟨2, ![1024, 512]⟩
abbrev S8x1024x512 : Shape := ⟨3, ![8, 1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S8x1024x512, .bf16⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdDown.lean ====
abbrev S512x1024 : Shape := ⟨2, ![512, 1024]⟩
abbrev S8x512x1024 : Shape := ⟨3, ![8, 512, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8x512x1024, .bf16⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdDownRefIdeal.lean ====
abbrev S512x1024 : Shape := ⟨2, ![512, 1024]⟩
abbrev S8x512x1024 : Shape := ⟨3, ![8, 512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8x512x1024, .bf16⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== QkBwd.lean ====
abbrev S16384x512 : Shape := ⟨2, ![16384, 512]⟩
abbrev S16384x1024 : Shape := ⟨2, ![16384, 1024]⟩
abbrev S1x512 : Shape := ⟨2, ![1, 512]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S16384x2048 : Shape := ⟨2, ![16384, 2048]⟩
abbrev S1024x512 : Shape := ⟨2, ![1024, 512]⟩
abbrev S1024x1024 : Shape := ⟨2, ![1024, 1024]⟩
abbrev S1024x2048 : Shape := ⟨2, ![1024, 2048]⟩
abbrev S1024x256 : Shape := ⟨2, ![1024, 256]⟩
abbrev S512 : Shape := ⟨1, ![512]⟩

abbrev nBuf : Space → Nat
  | .hbm => 40
  | .vmem => 17
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S16384x512, .f32⟩
  | .hbm, ⟨4, _⟩ => ⟨S16384x512, .f32⟩
  | .hbm, ⟨5, _⟩ => ⟨S1x512, .f32⟩
  | .hbm, ⟨6, _⟩ => ⟨S1x512, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S1x256, .i32⟩
  | .hbm, ⟨28, _⟩ => ⟨S256x256, .i32⟩
  | .hbm, ⟨29, _⟩ => ⟨S256x256, .i32⟩
  | .hbm, ⟨30, _⟩ => ⟨S256x256, .i1⟩
  | .hbm, ⟨31, _⟩ => ⟨S_, .f32⟩
  | .hbm, ⟨32, _⟩ => ⟨S_, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S256x256, .bf16⟩
  | .hbm, ⟨37, _⟩ => ⟨S16384x2048, .bf16⟩
  | .hbm, ⟨38, _⟩ => ⟨S1x512, .f32⟩
  | .hbm, ⟨39, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1x512, .f32⟩
  | .local _ .vmem, ⟨11, _⟩ => ⟨S1x512, .f32⟩
  | .local _ .vmem, ⟨12, _⟩ => ⟨S256x256, .bf16⟩
  | .local _ .vmem, ⟨13, _⟩ => ⟨S1024x2048, .bf16⟩
  | .local _ .vmem, ⟨14, _⟩ => ⟨S1024x2048, .bf16⟩
  | .local _ .vmem, ⟨15, _⟩ => ⟨S1x512, .f32⟩
  | .local _ .vmem, ⟨16, _⟩ => ⟨S1x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_v7 : Ref sig .tc := ⟨.hbm, 35, rfl⟩
abbrev main_v8 : Ref sig .tc := ⟨.hbm, 36, rfl⟩
abbrev main_v9_0 : Ref sig .tc := ⟨.hbm, 37, rfl⟩
abbrev main_v9_1 : Ref sig .tc := ⟨.hbm, 38, rfl⟩
abbrev main_v9_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== QkBwdRefIdeal.lean ====
abbrev S16384x512 : Shape := ⟨2, ![16384, 512]⟩
abbrev S16384x1024 : Shape := ⟨2, ![16384, 1024]⟩
abbrev S1x512 : Shape := ⟨2, ![1, 512]⟩
abbrev S_ : Shape := ⟨0, ![]⟩
abbrev S16384x2048 : Shape := ⟨2, ![16384, 2048]⟩
abbrev S16384x8x64 : Shape := ⟨3, ![16384, 8, 64]⟩
abbrev S1x8x64 : Shape := ⟨3, ![1, 8, 64]⟩
abbrev S16384x8 : Shape := ⟨2, ![16384, 8]⟩
abbrev S16384x8x1 : Shape := ⟨3, ![16384, 8, 1]⟩
abbrev S8x64 : Shape := ⟨2, ![8, 64]⟩

abbrev nBuf : Space → Nat
  | .hbm => 122
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S16384x512, .f32⟩
  | .hbm, ⟨4, _⟩ => ⟨S16384x512, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S16384x1024, .f32⟩
  | .hbm, ⟨9, _⟩ => ⟨S16384x2048, .f32⟩
  | .hbm, ⟨10, _⟩ => ⟨S16384x512, .f32⟩
  | .hbm, ⟨11, _⟩ => ⟨S16384x8x64, .f32⟩
  | .hbm, ⟨12, _⟩ => ⟨S16384x512, .f32⟩
  | .hbm, ⟨13, _⟩ => ⟨S16384x8x64, .f32⟩
  | .hbm, ⟨14, _⟩ => ⟨S1x8x64, .f32⟩
  | .hbm, ⟨15, _⟩ => ⟨S16384x8x64, .f32⟩
  | .hbm, ⟨16, _⟩ => ⟨S_, .f32⟩
  | .hbm, ⟨17, _⟩ => ⟨S16384x8, .f32⟩
  | .hbm, ⟨18, _⟩ => ⟨S16384x8x1, .f32⟩
  | .hbm, ⟨19, _⟩ => ⟨S_, .f32⟩
  | .hbm, ⟨20, _⟩ => ⟨S16384x8x1, .f32⟩
  | .hbm, ⟨21, _⟩ => ⟨S16384x8x1, .f32⟩
  | .hbm, ⟨22, _⟩ => ⟨S_, .f32⟩
  | .hbm, ⟨23, _⟩ => ⟨S16384x8x1, .f32⟩
  | .hbm, ⟨24, _⟩ => ⟨S16384x8x1, .f32⟩
  | .hbm, ⟨25, _⟩ => ⟨S16384x8x1, .f32⟩
  | .hbm, ⟨26, _⟩ => ⟨S16384x8x1, .f32⟩
  | .hbm, ⟨27, _⟩ => ⟨S_, .f32⟩
  | .hbm, ⟨28, _⟩ => ⟨S16384x8x1, .f32⟩
  | .hbm, ⟨29, _⟩ => ⟨S16384x8x1, .f32⟩
  | .hbm, ⟨30, _⟩ => ⟨S16384x8x64, .f32⟩
  | .hbm, ⟨31, _⟩ => ⟨S16384x8x64, .f32⟩
  | .hbm, ⟨32, _⟩ => ⟨S16384x8x64, .f32⟩
  | .hbm, ⟨33, _⟩ => ⟨S16384x8x64, .f32⟩
  | .hbm, ⟨34, _⟩ => ⟨S1x8x64, .f32⟩
  | .hbm, ⟨35, _⟩ => ⟨S16384x8x64, .f32⟩
  | .hbm, ⟨36, _⟩ => ⟨S_, .f32⟩
  | .hbm, ⟨37, _⟩ => ⟨S16384x8, .f32⟩
  | .hbm, ⟨38, _⟩ => ⟨S16384x8x1, .f32⟩
  | .hbm, ⟨39, _⟩ => ⟨S_, .f32⟩
  | .hbm, ⟨40, _⟩ => ⟨S16384x8x1, .f32⟩
  | .hbm, ⟨41, _⟩ => ⟨S16384x8x1, .f32⟩
  | .hbm, ⟨42, _⟩ => ⟨S_, .f32⟩
  | .hbm, ⟨43, _⟩ => ⟨S16384x8x1, .f32⟩
  | .hbm, ⟨44, _⟩ => ⟨S16384x8x1, .f32⟩
  | .hbm, ⟨45, _⟩ => ⟨S16384x8x1, .f32⟩
  | .hbm, ⟨46, _⟩ => ⟨S16384x8x1, .f32⟩
  | .hbm, ⟨47, _⟩ => ⟨S_, .f32⟩
  | .hbm, ⟨48, _⟩ => ⟨S16384x8x1, .f32⟩
  | .hbm, ⟨49, _⟩ => ⟨S16384x8x1, .f32⟩
  | .hbm, ⟨50, _⟩ => ⟨S16384x8x64, .f32⟩
  | .hbm, ⟨51, _⟩ => ⟨S16384x8x64, .f32⟩
  | .hbm, ⟨52, _⟩ => ⟨S16384x8x64, .f32⟩
  | .hbm, ⟨53, _⟩ => ⟨S16384x8x64, .f32⟩
  | .hbm, ⟨54, _⟩ => ⟨S16384x512, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S_, .f32⟩
  | .hbm, ⟨59, _⟩ => ⟨S16384x2048, .f32⟩
  | .hbm, ⟨60, _⟩ => ⟨S_, .f32⟩
  | .hbm, ⟨61, _⟩ => ⟨S16384x2048, .f32⟩
  | .hbm, ⟨62, _⟩ => ⟨S16384x2048, .f32⟩
  | .hbm, ⟨63, _⟩ => ⟨S16384x8x64, .f32⟩
  | .hbm, ⟨64, _⟩ => ⟨S16384x8x64, .f32⟩
  | .hbm, ⟨65, _⟩ => ⟨S16384x8x64, .f32⟩
  | .hbm, ⟨66, _⟩ => ⟨S_, .f32⟩
  | .hbm, ⟨67, _⟩ => ⟨S8x64, .f32⟩
  | .hbm, ⟨68, _⟩ => ⟨S1x8x64, .f32⟩
  | .hbm, ⟨69, _⟩ => ⟨S16384x8x64, .f32⟩
  | .hbm, ⟨70, _⟩ => ⟨S16384x8x64, .f32⟩
  | .hbm, ⟨71, _⟩ => ⟨S16384x8x64, .f32⟩
  | .hbm, ⟨72, _⟩ => ⟨S_, .f32⟩
  | .hbm, ⟨73, _⟩ => ⟨S16384x8, .f32⟩
  | .hbm, ⟨74, _⟩ => ⟨S16384x8x1, .f32⟩
  | .hbm, ⟨75, _⟩ => ⟨S16384x8x64, .f32⟩
  | .hbm, ⟨76, _⟩ => ⟨S16384x8x64, .f32⟩
  | .hbm, ⟨77, _⟩ => ⟨S16384x8x1, .f32⟩
  | .hbm, ⟨78, _⟩ => ⟨S_, .f32⟩
  | .hbm, ⟨79, _⟩ => ⟨S16384x8x1, .f32⟩
  | .hbm, ⟨80, _⟩ => ⟨S16384x8x1, .f32⟩
  | .hbm, ⟨81, _⟩ => ⟨S_, .f32⟩
  | .hbm, ⟨82, _⟩ => ⟨S16384x8, .f32⟩
  | .hbm, ⟨83, _⟩ => ⟨S16384x8x64, .f32⟩
  | .hbm, ⟨84, _⟩ => ⟨S16384x8x64, .f32⟩
  | .hbm, ⟨85, _⟩ => ⟨S16384x8x64, .f32⟩
  | .hbm, ⟨86, _⟩ => ⟨S16384x8x64, .f32⟩
  | .hbm, ⟨87, _⟩ => ⟨S16384x8x64, .f32⟩
  | .hbm, ⟨88, _⟩ => ⟨S1x512, .f32⟩
  | .hbm, ⟨89, _⟩ => ⟨S16384x8x64, .f32⟩
  | .hbm, ⟨90, _⟩ => ⟨S_, .f32⟩
  | .hbm, ⟨91, _⟩ => ⟨S8x64, .f32⟩
  | .hbm, ⟨92, _⟩ => ⟨S1x8x64, .f32⟩
  | .hbm, ⟨93, _⟩ => ⟨S16384x8x64, .f32⟩
  | .hbm, ⟨94, _⟩ => ⟨S16384x8x64, .f32⟩
  | .hbm, ⟨95, _⟩ => ⟨S16384x8x64, .f32⟩
  | .hbm, ⟨96, _⟩ => ⟨S_, .f32⟩
  | .hbm, ⟨97, _⟩ => ⟨S16384x8, .f32⟩
  | .hbm, ⟨98, _⟩ => ⟨S16384x8x1, .f32⟩
  | .hbm, ⟨99, _⟩ => ⟨S16384x8x64, .f32⟩
  | .hbm, ⟨100, _⟩ => ⟨S16384x8x64, .f32⟩
  | .hbm, ⟨101, _⟩ => ⟨S16384x8x1, .f32⟩
  | .hbm, ⟨102, _⟩ => ⟨S_, .f32⟩
  | .hbm, ⟨103, _⟩ => ⟨S16384x8x1, .f32⟩
  | .hbm, ⟨104, _⟩ => ⟨S16384x8x1, .f32⟩
  | .hbm, ⟨105, _⟩ => ⟨S_, .f32⟩
  | .hbm, ⟨106, _⟩ => ⟨S16384x8, .f32⟩
  | .hbm, ⟨107, _⟩ => ⟨S16384x8x64, .f32⟩
  | .hbm, ⟨108, _⟩ => ⟨S16384x8x64, .f32⟩
  | .hbm, ⟨109, _⟩ => ⟨S16384x8x64, .f32⟩
  | .hbm, ⟨110, _⟩ => ⟨S16384x8x64, .f32⟩
  | .hbm, ⟨111, _⟩ => ⟨S16384x8x64, .f32⟩
  | .hbm, ⟨112, _⟩ => ⟨S1x512, .f32⟩
  | .hbm, ⟨113, _⟩ => ⟨S16384x512, .f32⟩
  | .hbm, ⟨114, _⟩ => ⟨S_, .f32⟩
  | .hbm, ⟨115, _⟩ => ⟨S16384x2048, .f32⟩
  | .hbm, ⟨116, _⟩ => ⟨S16384x2048, .f32⟩
  | .hbm, ⟨117, _⟩ => ⟨S16384x512, .f32⟩
  | .hbm, ⟨118, _⟩ => ⟨S_, .f32⟩
  | .hbm, ⟨119, _⟩ => ⟨S16384x2048, .f32⟩
  | .hbm, ⟨120, _⟩ => ⟨S16384x2048, .f32⟩
  | .hbm, ⟨121, _⟩ => ⟨S16384x2048, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_14 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_15 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_16 : Ref sig .tc := ⟨.hbm, 102, rfl⟩
abbrev main_v78 : Ref sig .tc := ⟨.hbm, 103, rfl⟩
abbrev main_v79 : Ref sig .tc := ⟨.hbm, 104, rfl⟩
abbrev main_cst_17 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_18 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_19 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩

abbrev nD : Nat := 1
abbrev τ : Topo := Topo.v7x

variable {F : FTy → Type} [FloatOps F]
-- ==== SsmDiscBwd.lean ====
abbrev S32x64 : Shape := ⟨2, ![32, 64]⟩
abbrev S32 : Shape := ⟨1, ![32]⟩
abbrev S32x64x16 : Shape := ⟨3, ![32, 64, 16]⟩
abbrev S1x2048 : Shape := ⟨2, ![1, 2048]⟩
abbrev S32x16x64 : Shape := ⟨3, ![32, 16, 64]⟩
abbrev S32x1x64 : Shape := ⟨3, ![32, 1, 64]⟩
abbrev S32x1x1 : Shape := ⟨3, ![32, 1, 1]⟩
abbrev S32x1 : Shape := ⟨2, ![32, 1]⟩

abbrev nBuf : Space → Nat
  | .hbm => 21
  | .vmem => 14
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S1x2048, .f32⟩
  | .hbm, ⟨6, _⟩ => ⟨S1x2048, .f32⟩
  | .hbm, ⟨7, _⟩ => ⟨S32x16x64, .f32⟩
  | .hbm, ⟨8, _⟩ => ⟨S32x16x64, .f32⟩
  | .hbm, ⟨9, _⟩ => ⟨S32x1x64, .f32⟩
  | .hbm, ⟨10, _⟩ => ⟨S32x1x64, .f32⟩
  | .hbm, ⟨11, _⟩ => ⟨S32x1x1, .f32⟩
  | .hbm, ⟨12, _⟩ => ⟨S32x16x64, .f32⟩
  | .hbm, ⟨13, _⟩ => ⟨S32x16x64, .f32⟩
  | .hbm, ⟨14, _⟩ => ⟨S32x1x64, .f32⟩
  | .hbm, ⟨15, _⟩ => ⟨S32x1x64, .f32⟩
  | .hbm, ⟨16, _⟩ => ⟨S32x1x64, .f32⟩
  | .hbm, ⟨17, _⟩ => ⟨S32x1x64, .f32⟩
  | .hbm, ⟨18, _⟩ => ⟨S32x1x1, .f32⟩
  | .hbm, ⟨19, _⟩ => ⟨S32x16x64, .f32⟩
  | .hbm, ⟨20, _⟩ => ⟨S32x16x64, .f32⟩
  | .local _ .vmem, ⟨0, _⟩ => ⟨S32x1x64, .f32⟩
  | .local _ .vmem, ⟨1, _⟩ => ⟨S32x1x64, .f32⟩
  | .local _ .vmem, ⟨2, _⟩ => ⟨S32x1x1, .f32⟩
  | .local _ .vmem, ⟨3, _⟩ => ⟨S32x16x64, .f32⟩
  | .local _ .vmem, ⟨4, _⟩ => ⟨S32x16x64, .f32⟩
  | .local _ .vmem, ⟨5, _⟩ => ⟨S32x1x64, .f32⟩
  | .local _ .vmem, ⟨6, _⟩ => ⟨S32x1x64, .f32⟩
  | .local _ .vmem, ⟨7, _⟩ => ⟨S32x16x64, .f32⟩
  | .local _ .vmem, ⟨8, _⟩ => ⟨S32x16x64, .f32⟩
  | .local _ .vmem, ⟨9, _⟩ => ⟨S32x1x64, .f32⟩
  | .local _ .vmem, ⟨10, _⟩ => ⟨S32x1x64, .f32⟩
  | .local _ .vmem, ⟨11, _⟩ => ⟨S32x1x1, .f32⟩
  | .local _ .vmem, ⟨12, _⟩ => ⟨S32x16x64, .f32⟩
  | .local _ .vmem, ⟨13, _⟩ => ⟨S32x16x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S32x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== SsmDiscBwdRefIdeal.lean ====
abbrev S32x64 : Shape := ⟨2, ![32, 64]⟩
abbrev S32 : Shape := ⟨1, ![32]⟩
abbrev S32x64x16 : Shape := ⟨3, ![32, 64, 16]⟩
abbrev S1x2048 : Shape := ⟨2, ![1, 2048]⟩
abbrev S32x16x64 : Shape := ⟨3, ![32, 16, 64]⟩
abbrev S32x1 : Shape := ⟨2, ![32, 1]⟩
abbrev S_ : Shape := ⟨0, ![]⟩
abbrev S32x64x1 : Shape := ⟨3, ![32, 64, 1]⟩
abbrev S32x1x64 : Shape := ⟨3, ![32, 1, 64]⟩
abbrev S32x1x1 : Shape := ⟨3, ![32, 1, 1]⟩

abbrev nBuf : Space → Nat
  | .hbm => 173
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S1x2048, .f32⟩
  | 6 => ⟨S1x2048, .f32⟩
  | 7 => ⟨S32x16x64, .f32⟩
  | 8 => ⟨S32x16x64, .f32⟩
  | 9 => ⟨S32, .f32⟩
  | 10 => ⟨S32x1, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S_, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S_, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S_, .f32⟩
  | 44 => ⟨S32x64, .f32⟩
  | 45 => ⟨S32x64, .f32⟩
  | 46 => ⟨S32x64x1, .f32⟩
  | 47 => ⟨S32x64x16, .f32⟩
  | 48 => ⟨S32x64x16, .f32⟩
  | 49 => ⟨S32x64x1, .f32⟩
  | 50 => ⟨S32x64x16, .f32⟩
  | 51 => ⟨S32x64x16, .f32⟩
  | 52 => ⟨S32x64x16, .f32⟩
  | 53 => ⟨S32x64x1, .f32⟩
  | 54 => ⟨S32x64x16, .f32⟩
  | 55 => ⟨S32x64x16, .f32⟩
  | 56 => ⟨S32x64x1, .f32⟩
  | 57 => ⟨S32x64x16, .f32⟩
  | 58 => ⟨S32x64x16, .f32⟩
  | 59 => ⟨S32x64x16, .f32⟩
  | 60 => ⟨S32x64, .f32⟩
  | 61 => ⟨S32x64, .f32⟩
  | 62 => ⟨S32x64x16, .f32⟩
  | 63 => ⟨S32x64x16, .f32⟩
  | 64 => ⟨S32x64x16, .f32⟩
  | 65 => ⟨S32x64x16, .f32⟩
  | 66 => ⟨S32x64x16, .f32⟩
  | 67 => ⟨S_, .f32⟩
  | 68 => ⟨S32x64, .f32⟩
  | 69 => ⟨S32x64x1, .f32⟩
  | 70 => ⟨S_, .f32⟩
  | 71 => ⟨S32x64, .f32⟩
  | 72 => ⟨S32x64x16, .f32⟩
  | 73 => ⟨S32x64x16, .f32⟩
  | 74 => ⟨S32x64x16, .f32⟩
  | 75 => ⟨S_, .f32⟩
  | 76 => ⟨S32x64, .f32⟩
  | 77 => ⟨S32x64x1, .f32⟩
  | 78 => ⟨S_, .f32⟩
  | 79 => ⟨S32x64, .f32⟩
  | 80 => ⟨S32x64x16, .f32⟩
  | 81 => ⟨S32x64x16, .f32⟩
  | 82 => ⟨S32x64x16, .f32⟩
  | 83 => ⟨S32x64x16, .f32⟩
  | 84 => ⟨S32x64x16, .f32⟩
  | 85 => ⟨S_, .f32⟩
  | 86 => ⟨S32x64, .f32⟩
  | 87 => ⟨S32x64x1, .f32⟩
  | 88 => ⟨S_, .f32⟩
  | 89 => ⟨S32x64, .f32⟩
  | 90 => ⟨S32x64, .f32⟩
  | 91 => ⟨S32x64x16, .f32⟩
  | 92 => ⟨S32x64x16, .f32⟩
  | 93 => ⟨S32x64x16, .f32⟩
  | 94 => ⟨S32x64x16, .f32⟩
  | 95 => ⟨S_, .f32⟩
  | 96 => ⟨S32x64, .f32⟩
  | 97 => ⟨S32x64x1, .f32⟩
  | 98 => ⟨S_, .f32⟩
  | 99 => ⟨S32x64, .f32⟩
  | 100 => ⟨S32x64, .f32⟩
  | 101 => ⟨S32x64, .f32⟩
  | 102 => ⟨S32x64, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S_, .f32⟩
  | 10 => ⟨S32, .f32⟩
  | 11 => ⟨S32x1, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S_, .f32⟩
  | 22 => ⟨S32, .f32⟩
  | 23 => ⟨S32x1, .f32⟩
  | 24 => ⟨S32x1, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S_, .f32⟩
  | 31 => ⟨S32, .f32⟩
  | 32 => ⟨S32x1, .f32⟩
  | 33 => ⟨S32x1, .f32⟩
  | 34 => ⟨S32x64, .f32⟩
  | 35 => ⟨S32x64, .f32⟩
  | 36 => ⟨S32x64, .f32⟩
  | 37 => ⟨S_, .f32⟩
  | 38 => ⟨S32, .f32⟩
  | 39 => ⟨S32, .f32⟩
  | 40 => ⟨S32x1x64, .f32⟩
  | 41 => ⟨S32x1x64, .f32⟩
  | 42 => ⟨S32x1x1, .f32⟩
  | 43 => ⟨S32x16x64, .f32⟩
  | 44 => ⟨S32x16x64, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_2 : Ref sig .tc := ⟨.hbm, 67, rfl⟩
abbrev main_v55 : Ref sig .tc := ⟨.hbm, 68, rfl⟩
abbrev main_v56 : Ref sig .tc := ⟨.hbm, 69, rfl⟩
abbrev main_cst_3 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_4 : Ref sig .tc := ⟨.hbm, 75, rfl⟩
abbrev main_v61 : Ref sig .tc := ⟨.hbm, 76, rfl⟩
abbrev main_v62 : Ref sig .tc := ⟨.hbm, 77, rfl⟩
abbrev main_cst_5 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_6 : Ref sig .tc := ⟨.hbm, 85, rfl⟩
abbrev main_v69 : Ref sig .tc := ⟨.hbm, 86, rfl⟩
abbrev main_v70 : Ref sig .tc := ⟨.hbm, 87, rfl⟩
abbrev main_cst_7 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_8 : Ref sig .tc := ⟨.hbm, 95, rfl⟩
abbrev main_v77 : Ref sig .tc := ⟨.hbm, 96, rfl⟩
abbrev main_v78 : Ref sig .tc := ⟨.hbm, 97, rfl⟩
abbrev main_cst_9 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_cst_10 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_cst_11 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_cst_12 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_cst_13 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩

abbrev nD : Nat := 1
abbrev τ : Topo := Topo.v7x

variable {F : FTy → Type} [FloatOps F]
-- ==== SsmDisc.lean ====
abbrev S32x64 : Shape := ⟨2, ![32, 64]⟩
abbrev S32 : Shape := ⟨1, ![32]⟩
abbrev S32x64x16 : Shape := ⟨3, ![32, 64, 16]⟩
abbrev S32x1x64 : Shape := ⟨3, ![32, 1, 64]⟩
abbrev S32x1x1 : Shape := ⟨3, ![32, 1, 1]⟩
abbrev S32x16x64 : Shape := ⟨3, ![32, 16, 64]⟩

abbrev nBuf : Space → Nat
  | .hbm => 14
  | .vmem => 9
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x1x64, .f32⟩
  | .hbm, ⟨6, _⟩ => ⟨S32x1x64, .f32⟩
  | .hbm, ⟨7, _⟩ => ⟨S32x1x1, .f32⟩
  | .hbm, ⟨8, _⟩ => ⟨S32x16x64, .f32⟩
  | .hbm, ⟨9, _⟩ => ⟨S32x16x64, .f32⟩
  | .hbm, ⟨10, _⟩ => ⟨S32x1x64, .f32⟩
  | .hbm, ⟨11, _⟩ => ⟨S32x1x64, .f32⟩
  | .hbm, ⟨12, _⟩ => ⟨S32x16x64, .f32⟩
  | .hbm, ⟨13, _⟩ => ⟨S32x16x64, .f32⟩
  | .local _ .vmem, ⟨0, _⟩ => ⟨S32x1x64, .f32⟩
  | .local _ .vmem, ⟨1, _⟩ => ⟨S32x1x64, .f32⟩
  | .local _ .vmem, ⟨2, _⟩ => ⟨S32x1x1, .f32⟩
  | .local _ .vmem, ⟨3, _⟩ => ⟨S32x16x64, .f32⟩
  | .local _ .vmem, ⟨4, _⟩ => ⟨S32x16x64, .f32⟩
  | .local _ .vmem, ⟨5, _⟩ => ⟨S32x1x64, .f32⟩
  | .local _ .vmem, ⟨6, _⟩ => ⟨S32x1x64, .f32⟩
  | .local _ .vmem, ⟨7, _⟩ => ⟨S32x16x64, .f32⟩
  | .local _ .vmem, ⟨8, _⟩ => ⟨S32x16x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S32x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== SsmDiscRefIdeal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S32x1x64 : Shape := ⟨3, ![32, 1, 64]⟩
abbrev S32x16x64 : Shape := ⟨3, ![32, 16, 64]⟩

abbrev nBuf : Space → Nat
  | .hbm => 50
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32, .f32⟩
  | .hbm, ⟨6, _⟩ => ⟨S32x1, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S_, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64x1, .f32⟩
  | .hbm, ⟨33, _⟩ => ⟨S32x64x16, .f32⟩
  | .hbm, ⟨34, _⟩ => ⟨S32x64x16, .f32⟩
  | .hbm, ⟨35, _⟩ => ⟨S32x64x1, .f32⟩
  | .hbm, ⟨36, _⟩ => ⟨S32x64x16, .f32⟩
  | .hbm, ⟨37, _⟩ => ⟨S32x64x16, .f32⟩
  | .hbm, ⟨38, _⟩ => ⟨S32x64x16, .f32⟩
  | .hbm, ⟨39, _⟩ => ⟨S32x64x1, .f32⟩
  | .hbm, ⟨40, _⟩ => ⟨S32x64x16, .f32⟩
  | .hbm, ⟨41, _⟩ => ⟨S32x64x16, .f32⟩
  | .hbm, ⟨42, _⟩ => ⟨S32x64x1, .f32⟩
  | .hbm, ⟨43, _⟩ => ⟨S32x64x16, .f32⟩
  | .hbm, ⟨44, _⟩ => ⟨S32x64x16, .f32⟩
  | .hbm, ⟨45, _⟩ => ⟨S32x64x16, .f32⟩
  | .hbm, ⟨46, _⟩ => ⟨S32x1x64, .f32⟩
  | .hbm, ⟨47, _⟩ => ⟨S32x1x64, .f32⟩
  | .hbm, ⟨48, _⟩ => ⟨S32x16x64, .f32⟩
  | .hbm, ⟨49, _⟩ => ⟨S32x16x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩

abbrev nD : Nat := 1
abbrev τ : Topo := Topo.v7x

variable {F : FTy → Type} [FloatOps F]
-- ==== SumSmall.lean ====
abbrev S8x1112x128 : Shape := ⟨3, ![8, 1112, 128]⟩
abbrev S8x16x128 : Shape := ⟨3, ![8, 16, 128]⟩
abbrev S8x8x128 : Shape := ⟨3, ![8, 8, 128]⟩
abbrev S8x1136x128 : Shape := ⟨3, ![8, 1136, 128]⟩
abbrev S1136x128 : Shape := ⟨2, ![1136, 128]⟩
abbrev S1x1136x128 : Shape := ⟨3, ![1, 1136, 128]⟩

abbrev nBuf : Space → Nat
  | .hbm => 5
  | .vmem => 2
  | .smem => 0
  | _ => 0

abbrev bufTy : (tb : Table) → Fin (tcTables nBuf tb) → BufTy
  | .hbm, ⟨0, _⟩ => ⟨S8x1112x128, .f32⟩
  | .hbm, ⟨1, _⟩ => ⟨S8x16x128, .f32⟩
  | .hbm, ⟨2, _⟩ => ⟨S8x8x128, .f32⟩
  | .hbm, ⟨3, _⟩ => ⟨S8x1136x128, .f32⟩
  | .hbm, ⟨4, _⟩ => ⟨S1136x128, .f32⟩
  | .local _ .vmem, ⟨0, _⟩ => ⟨S8x1136x128, .f32⟩
  | .local _ .vmem, ⟨1, _⟩ => ⟨S1136x128, .f32⟩
  | _, _ => ⟨S8x1112x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x1136x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1136x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x1112x128 : Shape := ⟨3, ![8, 1112, 128]⟩
abbrev S8x16x128 : Shape := ⟨3, ![8, 16, 128]⟩
abbrev S8x8x128 : Shape := ⟨3, ![8, 8, 128]⟩
abbrev S8x1136x128 : Shape := ⟨3, ![8, 1136, 128]⟩
abbrev S_ : Shape := ⟨0, ![]⟩
abbrev S1136x128 : Shape := ⟨2, ![1136, 128]⟩

abbrev nBuf : Space → Nat
  | .hbm => 6
  | .vmem => 0
  | .smem => 0
  | _ => 0

abbrev bufTy : (tb : Table) → Fin (tcTables nBuf tb) → BufTy
  | .hbm, ⟨0, _⟩ => ⟨S8x1112x128, .f32⟩
  | .hbm, ⟨1, _⟩ => ⟨S8x16x128, .f32⟩
  | .hbm, ⟨2, _⟩ => ⟨S8x8x128, .f32⟩
  | .hbm, ⟨3, _⟩ => ⟨S8x1136x128, .f32⟩
  | .hbm, ⟨4, _⟩ => ⟨S_, .f32⟩
  | .hbm, ⟨5, _⟩ => ⟨S1136x128, .f32⟩
  | _, _ => ⟨S8x1112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Proof.Norm.lean ====
/-
  The root-mean-square norm's gradient over the extended reals: the derivative's two equal terms are the kernel's one.
-/
module

public import Idealize.ShloMosaic.PureOps.Ideal
public import Idealize.ShloMosaic.Lib.Pointwise

@[expose] public section

noncomputable section

namespace Cert.Norm

open Idealize.ShloMosaic

theorem two_word : Ideal.ofBits .f32 0x40000000#32 = ((2 : ℝ) : EReal) := by
  simp [Ideal.ofBits, Ideal.ieee, -EReal.coe_mul]; norm_num

theorem width_word : Ideal.ofBits .f32 0x44800000#32 = ((1024 : ℝ) : EReal) := by
  simp [Ideal.ofBits, Ideal.ieee, -EReal.coe_mul]; norm_num

theorem half_word : Ideal.ofBits .f32 0xBF000000#32 = ((-(1 / 2) : ℝ) : EReal) := by
  simp [Ideal.ofBits, Ideal.ieee, -EReal.coe_mul]; norm_num

theorem eps_word : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

theorem sq_nonneg (x : EReal) : 0 ≤ x * x := by
  rcases le_total 0 x with h | h
  · exact EReal.mul_nonneg h h
  · have := EReal.mul_nonneg (EReal.neg_nonneg.mpr h) (EReal.neg_nonneg.mpr h)
    rwa [neg_mul_neg] at this

/-- A mean of squares plus the positive constant is a positive real or `⊤`. -/
theorem var_cases {n : ℕ} (x : Fin n → EReal) (w : ℝ) (hw : 0 < w) (e : ℝ) (he : 0 < e) :
    (∃ v : ℝ, 0 < v ∧ Ideal.div (∑ k, x k * x k) (w : EReal) + (e : EReal) = (v : EReal))
      ∨ Ideal.div (∑ k, x k * x k) (w : EReal) + (e : EReal) = ⊤ := by
  have hs : 0 ≤ ∑ k, x k * x k := Finset.sum_nonneg fun k _ => sq_nonneg (x k)
  rw [Ideal.div_coe hw.ne']
  generalize (∑ k, x k * x k) = s at hs
  induction s with
  | bot => simp at hs
  | top =>
    right
    rw [EReal.top_mul_coe_of_pos (by positivity)]
    rfl
  | coe s =>
    left
    have h0 : (0 : ℝ) ≤ s := by exact_mod_cast hs
    refine ⟨s * (1 / w) + e, by positivity, ?_⟩
    norm_cast

/-- The scale `rsqrt v` of such a `v`: its cube is `rsqrt v / v`, a real. -/
theorem cube (v : EReal) (hv : (∃ r : ℝ, 0 < r ∧ v = (r : EReal)) ∨ v = ⊤) :
    ∃ q : ℝ, 0 ≤ q ∧ Ideal.rsqrt v * Ideal.rsqrt v * Ideal.rsqrt v = (q : EReal) ∧ Ideal.div (Ideal.rsqrt v) v = (q : EReal) := by
  rcases hv with ⟨r, hr, rfl⟩ | rfl
  · have hs : 0 < Real.sqrt r := Real.sqrt_pos.mpr hr
    refine ⟨(Real.sqrt r)⁻¹ * (1 / r), by positivity, ?_, ?_⟩
    · simp only [Ideal.rsqrt_coe, not_lt.mpr hr.le, hr.ne', if_false]
      norm_cast
      have h : r = Real.sqrt r * Real.sqrt r := (Real.mul_self_sqrt hr.le).symm
      conv_rhs => rw [h]
      rw [Real.sqrt_mul_self hs.le]
      field_simp
    · rw [Ideal.div_coe hr.ne']
      simp only [Ideal.rsqrt_coe, not_lt.mpr hr.le, hr.ne', if_false]
      norm_cast
  · refine ⟨0, le_rfl, ?_, ?_⟩
    · simp
    · simp [Ideal.div]

theorem real_cases (v : EReal) (hv : (∃ r : ℝ, 0 < r ∧ v = (r : EReal)) ∨ v = ⊤) : ∃ q : ℝ, Ideal.rsqrt v = (q : EReal) := by
  rcases hv with ⟨r, hr, rfl⟩ | rfl
  · exact ⟨(Real.sqrt r)⁻¹, by simp [not_lt.mpr hr.le, hr.ne']⟩
  · exact ⟨0, by simp⟩

theorem add_self (y : EReal) : y + y = y * ((2 : ℝ) : EReal) := by
  induction y with
  | bot => rw [EReal.bot_mul_coe_of_pos (by norm_num)]; rfl
  | top => rw [EReal.top_mul_coe_of_pos (by norm_num)]; rfl
  | coe y => norm_cast; ring

/-- The derivative of the norm: `q` the cube of the scale, `a` the row's product with the incoming gradient, `x` the element. -/
theorem two_terms (y t x a : EReal) (w q : ℝ) (hw : w ≠ 0) :
    y + t + x * Ideal.div (a * (((-(1 / 2) : ℝ) : EReal) * (q : EReal))) (w : EReal)
        + Ideal.div (a * (((-(1 / 2) : ℝ) : EReal) * (q : EReal))) (w : EReal) * x
      = y + (t - x * (q : EReal) * Ideal.div a (w : EReal)) := by
  rw [Ideal.div_coe hw, Ideal.div_coe hw, mul_comm _ x, add_assoc, add_self, sub_eq_add_neg, add_assoc]
  congr 2
  have hn (z : EReal) : -z = z * (((-(1 / 2) : ℝ) : EReal) * ((2 : ℝ) : EReal)) := by
    rw [← EReal.coe_mul, show (-(1 / 2) * 2 : ℝ) = -1 by norm_num, EReal.coe_neg, mul_neg, EReal.coe_one, mul_one]
  rw [hn (x * (q : EReal) * _)]
  ac_rfl

/-- The two forms of an element of the norm's input gradient. `y` arrives past the norm, `t` is the element's own gradient
    times the gain, `a` the row's product of the gradient with the input `x`. -/
theorem grad {n : ℕ} (x : Fin n → EReal) (y t a z : EReal) :
    let r := Ideal.rsqrt (Ideal.div (∑ k, x k * x k) (Ideal.ofBits .f32 0x44800000#32) + Ideal.ofBits .f32 0x358637BD#32)
    let w := Ideal.div (a * (Ideal.ofBits .f32 0xBF000000#32
      * Ideal.div r (Ideal.div (∑ k, x k * x k) (Ideal.ofBits .f32 0x44800000#32) + Ideal.ofBits .f32 0x358637BD#32))) (Ideal.ofBits .f32 0x44800000#32)
    y + t * r + z * w + w * z = y + (r * t - z * (r * r * r) * Ideal.div a (Ideal.ofBits .f32 0x44800000#32)) := by
  intro r w
  obtain ⟨e, he, hew⟩ := eps_word
  obtain ⟨q, _, hq, hd⟩ := cube _ (var_cases x 1024 (by norm_num) e he)
  simp only [w, r, width_word, half_word, hew]
  rw [hq, hd, mul_comm t]
  exact two_terms y _ z a 1024 q (by norm_num)

end Cert.Norm

end
-- ==== Proof.MlpUpBwd.lean ====
/-
  The gradient through the MLP's up projection and its norm. The input gradient's blocks are the rows' own; the gain's
  gradient is added up over the grid's points, block of rows by block of rows.
-/
module

public import proofs.«01_k».proof.Proof.Gen.MlpUpBwdIdeal.Value
public import proofs.«01_k».proof.Proof.Gen.MlpUpBwdRefIdeal.Read
public import proofs.«01_k».proof.Proof.Norm
public import Idealize.ShloMosaic.Lib.Pipeline.ValueKit
public import Idealize.ShloMosaic.Lib.Pointwise
public import Idealize.ShloMosaic.Lib.Claim

@[expose] public section

set_option maxRecDepth 16384

noncomputable section

namespace Cert.MlpUpBwdIdeal.Hand

open Cert.MlpUpBwdIdeal Cert.MlpUpBwdIdeal.Gen Idealize.ShloMosaic Idealize.ShloMosaic.TcCoe Idealize.SL.Sem
open Idealize.ShloMosaic.Pipeline (Dat)
open Cert.MlpUpBwdRefIdeal.Read

variable (m : (ℓ : Loc nD τ sig) → Buf (Elt Ideal) ℓ)

theorem idx : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] := by decide +kernel

/-- The row scale. -/
def scale (x : Fin 1024 → EReal) : EReal :=
  Ideal.rsqrt (Ideal.div (∑ k, x k * x k) (Ideal.ofBits .f32 0x44800000#32) + Ideal.ofBits .f32 0x358637BD#32)

/-- An element of the input gradient: `x` the row, `d` the gradient at the norm's output times the gain. -/
def dx (x d : Fin 1024 → EReal) (y : EReal) (l : Fin 1024) : EReal :=
  y + (scale x * d l - x l * (scale x * scale x * scale x) * Ideal.div (∑ j, x j * d j) (Ideal.ofBits .f32 0x44800000#32))

theorem ref_dx (x0 : FVec Ideal S16384x1024 .f32) (x1 : FVec Ideal S1x1024 .f32) (x2 : FVec Ideal S1024x4096 .f32) (x3 : FVec Ideal S16384x4096 .f32)
    (x4 : FVec Ideal S16384x1024 .f32) (i : S16384x1024.Idx) :
    val_main_v39 (F := Ideal) x0 x1 x2 x3 x4 i
      = dx (fun k => x0 (ix2 (i 0) k)) (fun l => (∑ k : Fin 4096, x3 (ix2 (i 0) k) * x2 (ix2 l k)) * x1 (ix2 0 l)) (x4 i) (i 1) := by
  idx_vars i
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_cst_3, val_main_v20, val_main_v21, val_main_v22, val_main_v23, val_main_cst_4, val_main_v24, val_main_v25, val_main_cst_5, val_main_v26, val_main_v27, val_main_v28, val_main_v29, val_main_v30, val_main_v31, val_main_cst_6, val_main_v32, val_main_v33, val_main_cst_7, val_main_v34, val_main_v35, val_main_v36, val_main_v37, val_main_v38, val_main_v39, val_main_v40, val_main_v41]
  simp only [Finset.sum_const, Finset.card_univ, Fintype.card_fin, one_smul]
  exact Cert.Norm.grad (fun k => x0 (ix2 _ k)) _ _ _ _

theorem ref_dxb (x0 : FVec Ideal S16384x1024 .f32) (x1 : FVec Ideal S1x1024 .f32) (x2 : FVec Ideal S1024x4096 .f32) (x3 : FVec Ideal S16384x4096 .f32)
    (x4 : FVec Ideal S16384x1024 .f32) (i : S16384x1024.Idx) :
    val_main_v41 (F := Ideal) x0 x1 x2 x3 x4 i = val_main_v39 (F := Ideal) x0 x1 x2 x3 x4 i := by
  idx_vars i
  pointwise [val_main_v41]

theorem ref_dg (x0 : FVec Ideal S16384x1024 .f32) (x2 : FVec Ideal S1024x4096 .f32) (x3 : FVec Ideal S16384x4096 .f32) (i : S1x1024.Idx) :
    val_main_v40 (F := Ideal) x0 x2 x3 i
      = ∑ r : Fin 16384, x0 (ix2 r (i 1)) * scale (fun k => x0 (ix2 r k)) * (∑ k : Fin 4096, x3 (ix2 r k) * x2 (ix2 (i 1) k)) := by
  rw [← val_main_v40_eq]
  idx_vars i
  pointwise
  simp only [Finset.sum_const, Finset.card_univ, Fintype.card_fin, one_smul]
  rfl

abbrev x (c : Dev nD) : FVec Ideal S16384x1024 .f32 := m ((c : Thread nD τ).loc main_arg0)
abbrev g (c : Dev nD) : FVec Ideal S1x1024 .f32 := m ((c : Thread nD τ).loc main_arg1)
abbrev w (c : Dev nD) : FVec Ideal S1024x4096 .f32 := m ((c : Thread nD τ).loc main_arg2)
abbrev dup (c : Dev nD) : FVec Ideal S16384x4096 .f32 := m ((c : Thread nD τ).loc main_arg3)
abbrev dy (c : Dev nD) : FVec Ideal S16384x1024 .f32 := m ((c : Thread nD τ).loc main_arg4)

theorem row_lt (t : Fin cfg0.N) (r : Fin 512) : t.val * 512 + r.val < 16384 := by
  have := t.isLt
  have : cfg0.N = 32 := N_0
  omega

theorem blk_dup (c : Dev nD) (t : Fin cfg0.N) (r : Fin 512) (k : Fin 4096) :
    iblk m c 0 t (ix2 r k) = dup m c (ix2 ⟨t.val * 512 + r.val, row_lt t r⟩ k) := by
  blk_ext [iblk, V, idx t]

theorem entry_w (c : Dev nD) (i : S4096x1024.Idx) : V m c main_v2 i = w m c (ix2 (i 1) (i 0)) := by
  entry_read
  pointwise

theorem blk_w (c : Dev nD) (t : Fin cfg0.N) (k : Fin 4096) (l : Fin 1024) : iblk m c 1 t (ix2 k l) = w m c (ix2 l k) := by
  blk_simp [iblk, idx t]
  refine (entry_w m c _).trans ?_
  blk_ext [iblk, idx t]

theorem blk_x (c : Dev nD) (t : Fin cfg0.N) (r : Fin 512) (k : Fin 1024) :
    iblk m c 2 t (ix2 r k) = x m c (ix2 ⟨t.val * 512 + r.val, row_lt t r⟩ k) := by
  blk_ext [iblk, V, idx t]

theorem blk_g (c : Dev nD) (t : Fin cfg0.N) (k : Fin 1024) : iblk m c 3 t (ix2 0 k) = g m c (ix2 0 k) := by
  blk_ext [iblk, V, idx t]

theorem blk_dy (c : Dev nD) (t : Fin cfg0.N) (r : Fin 512) (k : Fin 1024) :
    iblk m c 4 t (ix2 r k) = dy m c (ix2 ⟨t.val * 512 + r.val, row_lt t r⟩ k) := by
  blk_ext [iblk, V, idx t]

theorem pay_dx (v0 : Vec Ideal S512x4096 .bf16) (v2 : Vec Ideal S4096x1024 .bf16) (v5 : Vec Ideal S512x1024 .f32) (v6 : Vec Ideal S1x1024 .f32)
    (v34 : Vec Ideal S512x1024 .f32) (r : Fin 512) (l : Fin 1024) :
    k0_pay6 v0 v2 v5 v6 v34 (ix2 r l)
      = dx (fun k => v5 (ix2 r k)) (fun l => (∑ k : Fin 4096, v0 (ix2 r k) * v2 (ix2 k l)) * v6 (ix2 0 l)) (v34 (ix2 r l)) l := by
  unfold_payloads
  pointwise
  simp only [dx, scale]
  simp only [mul_comm (v5 _) (_ * v6 _)]

theorem pay_dg (v0 : Vec Ideal S512x4096 .bf16) (v2 : Vec Ideal S4096x1024 .bf16) (v5 : Vec Ideal S512x1024 .f32) (v6 : Vec Ideal S1x1024 .f32)
    (l : Fin 1024) :
    k0_pay2 (k0_pay5 v0 v2 v5) v6 (ix2 0 l)
      = v6 (ix2 0 l) + ∑ r : Fin 512, v5 (ix2 r l) * scale (fun k => v5 (ix2 r k)) * (∑ k : Fin 4096, v0 (ix2 r k) * v2 (ix2 k l)) := by
  unfold_payloads
  pointwise
  simp only [mul_comm (∑ k : Fin 4096, _)]
  rfl

theorem pay_zero (l : Fin 1024) : k0_pay1 (F := Ideal) (ix2 0 l) = 0 := by
  unfold_payloads
  pointwise

/-- What the point adds to the gain's gradient. -/
def term (c : Dev nD) (t : ℕ) (h : t < cfg0.N) (j : S1x1024.Idx) : EReal :=
  ∑ r : Fin 512, x m c (ix2 ⟨t * 512 + r.val, row_lt ⟨t, h⟩ r⟩ (j 1)) * scale (fun k => x m c (ix2 ⟨t * 512 + r.val, row_lt ⟨t, h⟩ r⟩ k))
    * (∑ k : Fin 4096, dup m c (ix2 ⟨t * 512 + r.val, row_lt ⟨t, h⟩ r⟩ k) * w m c (ix2 (j 1) k))

theorem dg_point (c : Dev nD) (t : Fin cfg0.N) (v : Vec Ideal S1x1024 .f32) (j : S1x1024.Idx) :
    k0_pay2 (k0_pay5 (iblk m c 0 t) (iblk m c 1 t) (iblk m c 2 t)) v j = v j + term m c t.val t.isLt j := by
  idx_vars j
  obtain rfl : j0 = 0 := Subsingleton.elim _ _
  refine (pay_dg _ _ _ _ _).trans ?_
  simp only [blk_dup, blk_w, blk_x]
  rfl

def last : Fin cfg0.N := ⟨31, by decide⟩

theorem dg_eq (c : Dev nD) : (dats m 0 c).arrAt 7 cfg0.N = val_main_v40 (F := Ideal) (x m c) (w m c) (dup m c) := by
  refine (dats m 0 c).arrAt_eq_of_after_last 7 last (by decide +kernel) _ fun j => ?_
  blk_simp
  rw [after0_7]
  refine (Pipeline.eq_sum_fin_of_reset_step_apply_last (fun n h => (outsAt0 m c n h).2.2) 32 (fun _ => 0) _
    (fun t h j => by rw [outsAt0_A m c t h]; frame_out; rw [dg_point]; congr 1; idx_vars j; obtain rfl : j0 = 0 := Subsingleton.elim _ _; exact pay_zero _)
    (fun t h j => by rw [outsAt0_B m c t h]; frame_out; rw [dg_point]) N_0.le last rfl j).trans ?_
  rw [zero_add, ref_dg]
  simp only [term]
  refine Fin.sum_mul_add_congr (n := 512) fun t k hl => ?_
  rfl

theorem dx_point (c : Dev nD) (t : Fin cfg0.N) (r : Fin 512) (l : Fin 1024) :
    k0_pay6 (iblk m c 0 t) (iblk m c 1 t) (iblk m c 2 t) (iblk m c 3 t) (iblk m c 4 t) (ix2 r l)
      = val_main_v39 (F := Ideal) (x m c) (g m c) (w m c) (dup m c) (dy m c) (ix2 ⟨t.val * 512 + r.val, row_lt t r⟩ l) := by
  refine Eq.trans ?_ (ref_dx _ _ _ _ _ _).symm
  refine (pay_dx _ _ _ _ _ r l).trans ?_
  simp only [blk_dup, blk_w, blk_x, blk_g, blk_dy]
  rfl

theorem dxb_point (c : Dev nD) (t : Fin cfg0.N) (r : Fin 512) (l : Fin 1024) :
    k0_pay7 (iblk m c 0 t) (iblk m c 1 t) (iblk m c 2 t) (iblk m c 3 t) (iblk m c 4 t) (ix2 r l)
      = val_main_v39 (F := Ideal) (x m c) (g m c) (w m c) (dup m c) (dy m c) (ix2 ⟨t.val * 512 + r.val, row_lt t r⟩ l) := by
  refine Eq.trans ?_ (dx_point m c t r l)
  rfl

theorem dx_eq (c : Dev nD) :
    (dats m 0 c).arrAt 5 cfg0.N = val_main_v39 (F := Ideal) (x m c) (g m c) (w m c) (dup m c) (dy m c) := by
  refine (dats m 0 c).arrAt_eq_of_covers 5 _ (by decide +kernel) fun t hf y => ?_
  blk_simp
  rw [after0_5]
  by_cases h : t.val % 32 = 0
  · rw [outsAt0_A m c t h]
    frame_out
    idx_vars y
    refine (dx_point m c t _ _).trans ?_
    congr 1
    blk_ext [idx t]
  · rw [outsAt0_B m c t h]
    frame_out
    idx_vars y
    refine (dx_point m c t _ _).trans ?_
    congr 1
    blk_ext [idx t]

theorem dxb_eq (c : Dev nD) :
    (dats m 0 c).arrAt 6 cfg0.N = val_main_v41 (F := Ideal) (x m c) (g m c) (w m c) (dup m c) (dy m c) := by
  refine (dats m 0 c).arrAt_eq_of_covers 6 _ (by decide +kernel) fun t hf y => ?_
  blk_simp
  rw [after0_6, ref_dxb]
  by_cases h : t.val % 32 = 0
  · rw [outsAt0_A m c t h]
    frame_out
    idx_vars y
    refine (dxb_point m c t _ _).trans ?_
    congr 1
    blk_ext [idx t]
  · rw [outsAt0_B m c t h]
    frame_out
    idx_vars y
    refine (dxb_point m c t _ _).trans ?_
    congr 1
    blk_ext [idx t]

end Cert.MlpUpBwdIdeal.Hand

end
-- ==== Proof.MlpDownBwd.lean ====
/-
  The gradient through the squared ReLU and the down projection: each point's four column chunks tile its row block,
  and an element is `(∑ k, dy * w) * (2 * max pre 0)`, which is the derivative's masked product.
-/
module

public import proofs.«01_k».proof.Proof.Gen.MlpDownBwdIdeal.Value
public import proofs.«01_k».proof.Proof.Gen.MlpDownBwdRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.MlpDownBwdIdeal.Hand

open Cert.MlpDownBwdIdeal Cert.MlpDownBwdIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin grid0.N, win0_0.index t = ![t.val, 0] ∧ win0_1.index t = ![0, 0] ∧ win0_2.index t = ![t.val, 0]
    ∧ win0_3.index t = ![t.val, 0] := by decide +kernel

theorem ref_apply (x0 : FVec Ideal S16384x4096 .f32) (x1 : FVec Ideal S4096x1024 .f32) (x2 : FVec Ideal S16384x1024 .f32) (i : S16384x4096.Idx) :
    Cert.MlpDownBwdRefIdeal.Read.val_main_v12 (F := Ideal) x0 x1 x2 i
      = (∑ k : Fin 1024, x2 (ix2 (i 0) k) * x1 (ix2 (i 1) k)) * (Ideal.ofBits .f32 0x40000000#32 * max (x0 i) 0) := by
  rw [← Cert.MlpDownBwdRefIdeal.Read.val_main_v12_eq]
  idx_vars i
  pointwise
  split
  · rfl
  · next h => rw [max_eq_right (not_lt.mp h), mul_zero, mul_zero]

abbrev pre (c : Dev nD) : FVec Ideal S16384x4096 .f32 := m ((c : Thread nD τ).loc main_arg0)
abbrev w (c : Dev nD) : FVec Ideal S4096x1024 .f32 := m ((c : Thread nD τ).loc main_arg1)
abbrev dy (c : Dev nD) : FVec Ideal S16384x1024 .f32 := m ((c : Thread nD τ).loc main_arg2)

theorem row_lt (t : Fin cfg0.N) (r : Fin 512) : t.val * 512 + r.val < 16384 := by
  have := t.isLt; have : cfg0.N = 32 := N_0; omega

theorem blk_dy (c : Dev nD) (t : Fin cfg0.N) (r : Fin 512) (k : Fin 1024) :
    iblk m c 0 t (ix2 r k) = dy m c (ix2 ⟨t.val * 512 + r.val, row_lt t r⟩ k) := by
  blk_ext [iblk, V, idx t]

theorem entry_w (c : Dev nD) (i : S1024x4096.Idx) : V m c main_v2 i = w m c (ix2 (i 1) (i 0)) := by
  entry_read
  pointwise

theorem blk_w (c : Dev nD) (t : Fin cfg0.N) (k : Fin 1024) (l : Fin 4096) :
    iblk m c 1 t (ix2 k l) = w m c (ix2 l k) := by
  blk_simp [iblk, idx t]
  refine (entry_w m c _).trans ?_
  blk_ext [iblk, idx t]

theorem entry_r (c : Dev nD) (i : S16384x4096.Idx) : V m c main_v5 i = max (pre m c i) 0 := by
  entry_read
  pointwise

theorem blk_r (c : Dev nD) (t : Fin cfg0.N) (r : Fin 512) (l : Fin 4096) :
    iblk m c 2 t (ix2 r l) = max (pre m c (ix2 ⟨t.val * 512 + r.val, row_lt t r⟩ l)) 0 := by
  blk_simp [iblk, idx t]
  refine (entry_r m c _).trans ?_
  blk_point [iblk, V, idx t]

theorem out_eq (c : Dev nD) : (dats m 0 c).arrAt 3 cfg0.N
    = Cert.MlpDownBwdRefIdeal.Read.val_main_v12 (F := Ideal) (pre m c) (w m c) (dy m c) := by
  refine (dats m 0 c).arrAt_eq_of_covers 3 _ (by decide +kernel) fun t hf y => ?_
  blk_simp
  rw [after0_3]
  frame_out
  refine Eq.trans ?_ (ref_apply _ _ _ _).symm
  canon_tiles x h
  all_goals
    unfold_payloads
    idx_vars x
    pointwise
    simp only [blk_dy, blk_w, blk_r]
    blk_point [V, idx t]

end Cert.MlpDownBwdIdeal.Hand

end
-- ==== Proof.InBwd.lean ====
/-
  The gradient through the input projection and the input norm. The input gradient's blocks are the rows' own; the gain's
  gradient is added up over the grid's points, block of rows by block of rows.
-/
module

public import proofs.«01_k».proof.Proof.Gen.InBwdIdeal.Value
public import proofs.«01_k».proof.Proof.Gen.InBwdRefIdeal.Read
public import proofs.«01_k».proof.Proof.Norm
public import Idealize.ShloMosaic.Lib.Pipeline.ValueKit
public import Idealize.ShloMosaic.Lib.Pointwise
public import Idealize.ShloMosaic.Lib.Claim

@[expose] public section

set_option maxRecDepth 16384

noncomputable section

namespace Cert.InBwdIdeal.Hand

open Cert.InBwdIdeal Cert.InBwdIdeal.Gen Idealize.ShloMosaic Idealize.ShloMosaic.TcCoe Idealize.SL.Sem
open Idealize.ShloMosaic.Pipeline (Dat)
open Cert.InBwdRefIdeal.Read

variable (m : (ℓ : Loc nD τ sig) → Buf (Elt Ideal) ℓ)

theorem idx : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0]
    ∧ win0_6.index t = ![0, 0] := by decide +kernel

/-- The row scale. -/
def scale (x : Fin 1024 → EReal) : EReal :=
  Ideal.rsqrt (Ideal.div (∑ k, x k * x k) (Ideal.ofBits .f32 0x44800000#32) + Ideal.ofBits .f32 0x358637BD#32)

/-- An element of the input gradient: `x` the row, `d` the gradient at the norm's output times the gain. -/
def dx (x d : Fin 1024 → EReal) (y : EReal) (l : Fin 1024) : EReal :=
  y + (scale x * d l - x l * (scale x * scale x * scale x) * Ideal.div (∑ j, x j * d j) (Ideal.ofBits .f32 0x44800000#32))

theorem ref_dx (x0 : FVec Ideal S16384x1024 .f32) (x1 : FVec Ideal S1x1024 .f32) (x2 : FVec Ideal S1024x2048 .f32) (x3 : FVec Ideal S16384x2048 .f32)
    (x4 : FVec Ideal S16384x1024 .f32) (i : S16384x1024.Idx) :
    val_main_v39 (F := Ideal) x0 x1 x2 x3 x4 i
      = dx (fun k => x0 (ix2 (i 0) k)) (fun l => (∑ k : Fin 2048, x3 (ix2 (i 0) k) * x2 (ix2 l k)) * x1 (ix2 0 l)) (x4 i) (i 1) := by
  idx_vars i
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_cst_3, val_main_v20, val_main_v21, val_main_v22, val_main_v23, val_main_cst_4, val_main_v24, val_main_v25, val_main_cst_5, val_main_v26, val_main_v27, val_main_v28, val_main_v29, val_main_v30, val_main_v31, val_main_cst_6, val_main_v32, val_main_v33, val_main_cst_7, val_main_v34, val_main_v35, val_main_v36, val_main_v37, val_main_v38, val_main_v39, val_main_v40]
  simp only [Finset.sum_const, Finset.card_univ, Fintype.card_fin, one_smul]
  exact Cert.Norm.grad (fun k => x0 (ix2 _ k)) _ _ _ _

theorem ref_dg (x0 : FVec Ideal S16384x1024 .f32) (x2 : FVec Ideal S1024x2048 .f32) (x3 : FVec Ideal S16384x2048 .f32) (i : S1x1024.Idx) :
    val_main_v40 (F := Ideal) x0 x2 x3 i
      = ∑ r : Fin 16384, x0 (ix2 r (i 1)) * scale (fun k => x0 (ix2 r k)) * (∑ k : Fin 2048, x3 (ix2 r k) * x2 (ix2 (i 1) k)) := by
  rw [← val_main_v40_eq]
  idx_vars i
  pointwise
  simp only [Finset.sum_const, Finset.card_univ, Fintype.card_fin, one_smul]
  rfl

abbrev x (c : Dev nD) : FVec Ideal S16384x1024 .f32 := m ((c : Thread nD τ).loc main_arg0)
abbrev g (c : Dev nD) : FVec Ideal S1x1024 .f32 := m ((c : Thread nD τ).loc main_arg1)
abbrev w (c : Dev nD) : FVec Ideal S1024x2048 .f32 := m ((c : Thread nD τ).loc main_arg2)
abbrev dproj (c : Dev nD) : FVec Ideal S16384x2048 .f32 := m ((c : Thread nD τ).loc main_arg3)
abbrev dy (c : Dev nD) : FVec Ideal S16384x1024 .f32 := m ((c : Thread nD τ).loc main_arg4)

theorem row_lt (t : Fin cfg0.N) (r : Fin 1024) : t.val * 1024 + r.val < 16384 := by
  have := t.isLt
  have : cfg0.N = 16 := N_0
  omega

theorem blk_dproj (c : Dev nD) (t : Fin cfg0.N) (r : Fin 1024) (k : Fin 2048) :
    iblk m c 0 t (ix2 r k) = dproj m c (ix2 ⟨t.val * 1024 + r.val, row_lt t r⟩ k) := by
  blk_ext [iblk, V, idx t]

theorem entry_w (c : Dev nD) (i : S2048x1024.Idx) : V m c main_v2 i = w m c (ix2 (i 1) (i 0)) := by
  entry_read
  pointwise

theorem blk_w (c : Dev nD) (t : Fin cfg0.N) (k : Fin 2048) (l : Fin 1024) : iblk m c 1 t (ix2 k l) = w m c (ix2 l k) := by
  blk_simp [iblk, idx t]
  refine (entry_w m c _).trans ?_
  blk_ext [iblk, idx t]

theorem blk_x (c : Dev nD) (t : Fin cfg0.N) (r : Fin 1024) (k : Fin 1024) :
    iblk m c 2 t (ix2 r k) = x m c (ix2 ⟨t.val * 1024 + r.val, row_lt t r⟩ k) := by
  blk_ext [iblk, V, idx t]

theorem blk_g (c : Dev nD) (t : Fin cfg0.N) (k : Fin 1024) : iblk m c 3 t (ix2 0 k) = g m c (ix2 0 k) := by
  blk_ext [iblk, V, idx t]

theorem blk_dy (c : Dev nD) (t : Fin cfg0.N) (r : Fin 1024) (k : Fin 1024) :
    iblk m c 4 t (ix2 r k) = dy m c (ix2 ⟨t.val * 1024 + r.val, row_lt t r⟩ k) := by
  blk_ext [iblk, V, idx t]

theorem pay_dx (v0 : Vec Ideal S1024x2048 .bf16) (v2 : Vec Ideal S2048x1024 .bf16) (v5 : Vec Ideal S1024x1024 .f32) (v6 : Vec Ideal S1x1024 .f32)
    (v34 : Vec Ideal S1024x1024 .f32) (r : Fin 1024) (l : Fin 1024) :
    k0_pay6 v0 v2 v5 v6 v34 (ix2 r l)
      = dx (fun k => v5 (ix2 r k)) (fun l => (∑ k : Fin 2048, v0 (ix2 r k) * v2 (ix2 k l)) * v6 (ix2 0 l)) (v34 (ix2 r l)) l := by
  unfold_payloads
  pointwise
  simp only [dx, scale]
  simp only [mul_comm (v5 _) (_ * v6 _)]

theorem pay_dg (v0 : Vec Ideal S1024x2048 .bf16) (v2 : Vec Ideal S2048x1024 .bf16) (v5 : Vec Ideal S1024x1024 .f32) (v6 : Vec Ideal S1x1024 .f32)
    (l : Fin 1024) :
    k0_pay2 (k0_pay5 v0 v2 v5) v6 (ix2 0 l)
      = v6 (ix2 0 l) + ∑ r : Fin 1024, v5 (ix2 r l) * scale (fun k => v5 (ix2 r k)) * (∑ k : Fin 2048, v0 (ix2 r k) * v2 (ix2 k l)) := by
  unfold_payloads
  pointwise
  simp only [mul_comm (∑ k : Fin 2048, _)]
  rfl

theorem pay_zero (l : Fin 1024) : k0_pay1 (F := Ideal) (ix2 0 l) = 0 := by
  unfold_payloads
  pointwise

/-- What the point adds to the gain's gradient. -/
def term (c : Dev nD) (t : ℕ) (h : t < cfg0.N) (j : S1x1024.Idx) : EReal :=
  ∑ r : Fin 1024, x m c (ix2 ⟨t * 1024 + r.val, row_lt ⟨t, h⟩ r⟩ (j 1)) * scale (fun k => x m c (ix2 ⟨t * 1024 + r.val, row_lt ⟨t, h⟩ r⟩ k))
    * (∑ k : Fin 2048, dproj m c (ix2 ⟨t * 1024 + r.val, row_lt ⟨t, h⟩ r⟩ k) * w m c (ix2 (j 1) k))

theorem dg_point (c : Dev nD) (t : Fin cfg0.N) (v : Vec Ideal S1x1024 .f32) (j : S1x1024.Idx) :
    k0_pay2 (k0_pay5 (iblk m c 0 t) (iblk m c 1 t) (iblk m c 2 t)) v j = v j + term m c t.val t.isLt j := by
  idx_vars j
  obtain rfl : j0 = 0 := Subsingleton.elim _ _
  refine (pay_dg _ _ _ _ _).trans ?_
  simp only [blk_dproj, blk_w, blk_x]
  rfl

def last : Fin cfg0.N := ⟨15, by decide⟩

theorem dg_eq (c : Dev nD) : (dats m 0 c).arrAt 6 cfg0.N = val_main_v40 (F := Ideal) (x m c) (w m c) (dproj m c) := by
  refine (dats m 0 c).arrAt_eq_of_after_last 6 last (by decide +kernel) _ fun j => ?_
  blk_simp
  rw [after0_6]
  refine (Pipeline.eq_sum_fin_of_reset_step_apply_last (fun n h => (outsAt0 m c n h).2) 16 (fun _ => 0) _
    (fun t h j => by rw [outsAt0_A m c t h]; frame_out; rw [dg_point]; congr 1; idx_vars j; obtain rfl : j0 = 0 := Subsingleton.elim _ _; exact pay_zero _)
    (fun t h j => by rw [outsAt0_B m c t h]; frame_out; rw [dg_point]) N_0.le last rfl j).trans ?_
  rw [zero_add, ref_dg]
  simp only [term]
  refine Fin.sum_mul_add_congr (n := 1024) fun t k hl => ?_
  rfl

theorem dx_point (c : Dev nD) (t : Fin cfg0.N) (r : Fin 1024) (l : Fin 1024) :
    k0_pay6 (iblk m c 0 t) (iblk m c 1 t) (iblk m c 2 t) (iblk m c 3 t) (iblk m c 4 t) (ix2 r l)
      = val_main_v39 (F := Ideal) (x m c) (g m c) (w m c) (dproj m c) (dy m c) (ix2 ⟨t.val * 1024 + r.val, row_lt t r⟩ l) := by
  refine Eq.trans ?_ (ref_dx _ _ _ _ _ _).symm
  refine (pay_dx _ _ _ _ _ r l).trans ?_
  simp only [blk_dproj, blk_w, blk_x, blk_g, blk_dy]
  rfl

theorem dx_eq (c : Dev nD) :
    (dats m 0 c).arrAt 5 cfg0.N = val_main_v39 (F := Ideal) (x m c) (g m c) (w m c) (dproj m c) (dy m c) := by
  refine (dats m 0 c).arrAt_eq_of_covers 5 _ (by decide +kernel) fun t hf y => ?_
  blk_simp
  rw [after0_5]
  by_cases h : t.val % 16 = 0
  · rw [outsAt0_A m c t h]
    frame_out
    idx_vars y
    refine (dx_point m c t _ _).trans ?_
    congr 1
    blk_ext [idx t]
  · rw [outsAt0_B m c t h]
    frame_out
    idx_vars y
    refine (dx_point m c t _ _).trans ?_
    congr 1
    blk_ext [idx t]

end Cert.InBwdIdeal.Hand

end
-- ==== Proof.Finite.lean ====
/-
  Extended reals that are reals: the operations that keep them, the reading of a precondition's test, and the norm's
  gradient on rows of a given width.
-/
module

public import proofs.«01_k».proof.Proof.Norm
public import Idealize.ShloMosaic.Lib.ReduceAll

@[expose] public section

noncomputable section

namespace Cert.Finite

open Idealize.ShloMosaic

/-- `x` is a real. -/
def Real' (x : EReal) : Prop := ∃ r : ℝ, x = (r : EReal)

theorem of_coe (r : ℝ) : Real' (r : EReal) := ⟨r, rfl⟩
theorem zero : Real' 0 := ⟨0, rfl⟩
theorem one : Real' 1 := ⟨1, rfl⟩

theorem add {x y : EReal} (hx : Real' x) (hy : Real' y) : Real' (x + y) := by
  obtain ⟨a, rfl⟩ := hx
  obtain ⟨b, rfl⟩ := hy
  exact ⟨a + b, by norm_cast⟩

theorem mul {x y : EReal} (hx : Real' x) (hy : Real' y) : Real' (x * y) := by
  obtain ⟨a, rfl⟩ := hx
  obtain ⟨b, rfl⟩ := hy
  exact ⟨a * b, by norm_cast⟩

theorem sub {x y : EReal} (hx : Real' x) (hy : Real' y) : Real' (x - y) := by
  obtain ⟨a, rfl⟩ := hx
  obtain ⟨b, rfl⟩ := hy
  exact ⟨a - b, by norm_cast⟩

theorem sum {n : ℕ} (f : Fin n → EReal) (h : ∀ k, Real' (f k)) : Real' (∑ k, f k) := by
  choose g hg using h
  refine ⟨∑ k, g k, ?_⟩
  simp only [hg]
  exact (map_sum (⟨⟨Real.toEReal, EReal.coe_zero⟩, EReal.coe_add⟩ : ℝ →+ EReal) g Finset.univ).symm

theorem div {x : EReal} (hx : Real' x) {w : ℝ} (hw : w ≠ 0) : Real' (Ideal.div x (w : EReal)) := by
  rw [Ideal.div_coe hw]
  exact mul hx (of_coe _)

theorem tanh (x : EReal) : Real' (Ideal.tanh x) := by
  induction x with
  | bot => exact ⟨-1, by simp⟩
  | top => exact ⟨1, by simp⟩
  | coe x => exact ⟨_, rfl⟩

theorem logistic (x : EReal) : Real' (Ideal.logistic x) := by
  induction x with
  | bot => exact ⟨0, by simp⟩
  | top => exact ⟨1, by simp⟩
  | coe x => exact ⟨_, Ideal.logistic_coe x⟩

theorem width_word : Ideal.ofBits .f32 0x44000000#32 = ((512 : ℝ) : EReal) := by
  simp [Ideal.ofBits, Ideal.ieee, -EReal.coe_mul]; norm_num

theorem half_word : Ideal.ofBits .f32 0x3F000000#32 = ((1 / 2 : ℝ) : EReal) := by
  simp [Ideal.ofBits, Ideal.ieee, -EReal.coe_mul]; norm_num

/-- The scale of a row of 512. -/
def scale (x : Fin 512 → EReal) : EReal :=
  Ideal.rsqrt (Ideal.div (∑ k, x k * x k) (Ideal.ofBits .f32 0x44000000#32) + Ideal.ofBits .f32 0x358637BD#32)

theorem scale_real (x : Fin 512 → EReal) : Real' (scale x) := by
  obtain ⟨e, he, hew⟩ := Cert.Norm.eps_word
  rw [scale, width_word, hew]
  exact Cert.Norm.real_cases _ (Cert.Norm.var_cases x 512 (by norm_num) e he)

/-- An element of a norm's input gradient: `d` is the gradient at the norm's output times the gain. -/
def dnorm (x d : Fin 512 → EReal) (l : Fin 512) : EReal :=
  scale x * d l - x l * (scale x * scale x * scale x) * Ideal.div (∑ j, x j * d j) (Ideal.ofBits .f32 0x44000000#32)

theorem dnorm_comm (x d : Fin 512 → EReal) (l : Fin 512) :
    scale x * d l - x l * (scale x * scale x * scale x) * Ideal.div (∑ j, d j * x j) (Ideal.ofBits .f32 0x44000000#32) = dnorm x d l := by
  rw [dnorm, Finset.sum_congr rfl fun j _ => mul_comm (d j) (x j)]

theorem dnorm_real (x d : Fin 512 → EReal) (hx : ∀ k, Real' (x k)) (hd : ∀ k, Real' (d k)) (l : Fin 512) : Real' (dnorm x d l) := by
  have hs := scale_real x
  rw [dnorm, width_word]
  exact sub (mul hs (hd l)) (mul (mul (hx l) (mul (mul hs hs) hs)) (div (sum _ fun j => mul (hx j) (hd j)) (by norm_num)))

/-- The derivative's sum of terms is `dnorm`. -/
theorem grad (x d : Fin 512 → EReal) (l : Fin 512) :
    let v := Ideal.div (∑ k, x k * x k) (Ideal.ofBits .f32 0x44000000#32) + Ideal.ofBits .f32 0x358637BD#32
    let w := Ideal.div ((∑ j, x j * d j) * (Ideal.ofBits .f32 0xBF000000#32 * Ideal.div (Ideal.rsqrt v) v)) (Ideal.ofBits .f32 0x44000000#32)
    d l * Ideal.rsqrt v + x l * w + w * x l = dnorm x d l := by
  intro v w
  obtain ⟨e, he, hew⟩ := Cert.Norm.eps_word
  obtain ⟨q, _, hq, hd⟩ := Cert.Norm.cube _ (Cert.Norm.var_cases x 512 (by norm_num) e he)
  simp only [w, v, dnorm, scale, width_word, Cert.Norm.half_word, hew]
  rw [hq, hd, mul_comm (d l)]
  have := Cert.Norm.two_terms 0 (Ideal.rsqrt (Ideal.div (∑ k, x k * x k) ((512 : ℝ) : EReal) + (e : EReal)) * d l) (x l) (∑ j, x j * d j) 512 q (by norm_num)
  simpa only [zero_add] using this

/-- A test `|x| < ⊤` that holds is about a real. -/
theorem of_abs {x : EReal} (h : Ideal.cmp .olt (max x (-x)) (Ideal.ofBits .f32 0x7F800000#32) = 1#1) : Real' x := by
  have ht : Ideal.ofBits .f32 0x7F800000#32 = ⊤ := by simp [Ideal.ofBits, Ideal.ieee]
  rw [ht] at h
  induction x with
  | bot => exact absurd h (by simp [Ideal.cmp])
  | top => exact absurd h (by simp [Ideal.cmp])
  | coe x => exact ⟨x, rfl⟩

theorem and_one {a b : BitVec 1} (h : IntOp.andi a b = 1#1) : a = 1#1 ∧ b = 1#1 := by
  revert a b
  decide

end Cert.Finite

end
-- ==== Proof.MixRow.lean ====
/-
  The mixer's backward call, row by row: what each line of the reference and each payload of the kernel is at an index, and the
  reals' identity between the two ways of writing the GELU's derivative.
-/
module

public import proofs.«01_k».proof.Proof.Gen.MixBwdIdeal.Value
public import proofs.«01_k».proof.Proof.Gen.MixBwdRefIdeal.Read
public import proofs.«01_k».proof.Proof.Finite
public import Idealize.ShloMosaic.Lib.Pipeline.ValueKit
public import Idealize.ShloMosaic.Lib.Pointwise
public import Idealize.ShloMosaic.Lib.Claim

@[expose] public section

set_option maxRecDepth 16384

noncomputable section

namespace Cert.MixBwdIdeal.Hand

open Cert.MixBwdIdeal Cert.MixBwdIdeal.Gen Idealize.ShloMosaic Idealize.ShloMosaic.TcCoe Idealize.SL.Sem
open Idealize.ShloMosaic.Pipeline (Dat)
open Cert.MixBwdRefIdeal.Read

theorem idx : ∀ t : Fin grid0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![0, 0] ∧ win0_7.index t = ![0, 0]
    ∧ win0_8.index t = ![0, 0] ∧ win0_9.index t = ![t.val, 0] ∧ win0_10.index t = ![t.val, 0] ∧ win0_11.index t = ![t.val, 0]
    ∧ win0_12.index t = ![t.val, 0] ∧ win0_13.index t = ![0, 0] ∧ win0_14.index t = ![0, 0] ∧ win0_15.index t = ![0, 0] := by
  decide +kernel

theorem cubic_word : Ideal.ofBits .f32 0x472EAB00#32 = ((44715 : ℝ) : EReal) := by
  simp [Ideal.ofBits, Ideal.ieee, -EReal.coe_mul]; norm_num

theorem million_word : Ideal.ofBits .f32 0x49742400#32 = ((1000000 : ℝ) : EReal) := by
  simp [Ideal.ofBits, Ideal.ieee, -EReal.coe_mul]; norm_num

theorem three_word : Ideal.ofBits .f32 0x40400000#32 = ((3 : ℝ) : EReal) := by
  simp [Ideal.ofBits, Ideal.ieee, -EReal.coe_mul]; norm_num

theorem root_word : ∃ c : ℝ, Ideal.ofBits .f32 0x3F4C422A#32 = (c : EReal) := by
  refine ⟨13386282 * (2 : ℝ) ^ (-24 : ℤ), ?_⟩
  simp [Ideal.ofBits, Ideal.ieee, -EReal.coe_mul]

/-- The GELU's hyperbolic tangent. -/
def tn (y : EReal) : EReal :=
  Ideal.tanh (Ideal.ofBits .f32 0x3F4C422A#32 * (y + ((8943 / 200000 : ℝ) : EReal) * (y * y * y)))

/-- The GELU. -/
def gelu (y : EReal) : EReal := y * (Ideal.ofBits .f32 0x3F000000#32 * (1 + tn y))

theorem cubic (z : EReal) : Ideal.div (Ideal.ofBits .f32 0x472EAB00#32 * z) (Ideal.ofBits .f32 0x49742400#32)
    = ((8943 / 200000 : ℝ) : EReal) * z := by
  rw [cubic_word, million_word, Ideal.div_coe (by norm_num), mul_right_comm, ← EReal.coe_mul]
  congr 2
  norm_num

theorem ref_tn (x1 : FVec Ideal S16384x512 .f32) (r : Fin 16384) (l : Fin 512) : val_main_v13 (F := Ideal) x1 (ix2 r l) = tn (x1 (ix2 r l)) := by
  pointwise [val_main_v1, val_main_v2, val_main_v3, val_main_cst, val_main_v4, val_main_v5, val_main_cst_0, val_main_v6, val_main_v7, val_main_cst_1, val_main_v8, val_main_v9, val_main_v10, val_main_cst_2, val_main_v11, val_main_v12, val_main_v13]
  rw [cubic]
  simp only [tn, mul_assoc]

theorem ref_half (x1 : FVec Ideal S16384x512 .f32) (r : Fin 16384) (l : Fin 512) :
    val_main_v22 (F := Ideal) x1 (ix2 r l) = Ideal.ofBits .f32 0x3F000000#32 * (1 + tn (x1 (ix2 r l))) := by
  pointwise [val_main_cst_5, val_main_v19, val_main_v20, val_main_cst_6, val_main_v21, val_main_v22]
  rw [ref_tn]

theorem ref_gelu (x1 : FVec Ideal S16384x512 .f32) (r : Fin 16384) (l : Fin 512) : val_main_v23 (F := Ideal) x1 (ix2 r l) = gelu (x1 (ix2 r l)) := by
  pointwise [val_main_v23]
  rw [ref_half]
  rfl

/-- The gate. -/
def gate (y : Fin 512 → EReal) (w : Fin 512 → Fin 512 → EReal) (b : Fin 512 → EReal) (l : Fin 512) : EReal :=
  Ideal.logistic ((∑ k, gelu (y k) * w k l) + b l)

theorem ref_gate (x1 : FVec Ideal S16384x512 .f32) (x2 : FVec Ideal S512x512 .f32) (x3 : FVec Ideal S1x512 .f32) (r : Fin 16384) (l : Fin 512) :
    val_main_v31 (F := Ideal) x1 x2 x3 (ix2 r l) = gate (fun k => x1 (ix2 r k)) (fun k l => x2 (ix2 k l)) (fun l => x3 (ix2 0 l)) l := by
  pointwise [val_main_v24, val_main_v25, val_main_v26, val_main_v27, val_main_cst_7, val_main_v28, val_main_v29, val_main_cst_8, val_main_v30, val_main_v31, val_main_v0]
  simp only [ref_gelu]
  rfl

theorem ref_glu (x1 : FVec Ideal S16384x512 .f32) (x2 : FVec Ideal S512x512 .f32) (x3 : FVec Ideal S1x512 .f32) (r : Fin 16384) (l : Fin 512) :
    val_main_v35 (F := Ideal) x1 x2 x3 (ix2 r l) = gelu (x1 (ix2 r l)) * gate (fun k => x1 (ix2 r k)) (fun k l => x2 (ix2 k l)) (fun l => x3 (ix2 0 l)) l := by
  pointwise [val_main_v35]
  rw [ref_gelu, ref_gate]

/-- The gradient arriving at the mixed row. -/
def back (d : Fin 1024 → EReal) (w : Fin 1024 → Fin 1024 → EReal) (k : Fin 1024) : EReal := ∑ j, d j * w k j

theorem ref_back (x6 : FVec Ideal S1024x1024 .f32) (x7 : FVec Ideal S16384x1024 .f32) (r : Fin 16384) (k : Fin 1024) :
    val_main_v72 (F := Ideal) x6 x7 (ix2 r k) = back (fun j => x7 (ix2 r j)) (fun k j => x6 (ix2 k j)) k := by
  pointwise [val_main_v72]
  rfl

theorem ref_low (x4 : FVec Ideal S1x512 .f32) (x6 : FVec Ideal S1024x1024 .f32) (x7 : FVec Ideal S16384x1024 .f32) (r : Fin 16384) (l : Fin 512) :
    val_main_v99 (F := Ideal) x4 x6 x7 (ix2 r l) = back (fun j => x7 (ix2 r j)) (fun k j => x6 (ix2 k j)) ⟨l.val, by omega⟩ * x4 (ix2 0 l) := by
  pointwise [val_main_v36, val_main_v51, val_main_v73, val_main_v98, val_main_v99]
  exact congrArg₂ (· * ·) (ref_back x6 x7 r ⟨l.val, by omega⟩) rfl

theorem ref_high (x5 : FVec Ideal S1x512 .f32) (x6 : FVec Ideal S1024x1024 .f32) (x7 : FVec Ideal S16384x1024 .f32) (r : Fin 16384) (l : Fin 512) :
    val_main_v79 (F := Ideal) x5 x6 x7 (ix2 r l) = back (fun j => x7 (ix2 r j)) (fun k j => x6 (ix2 k j)) ⟨512 + l.val, by omega⟩ * x5 (ix2 0 l) := by
  pointwise [val_main_v37, val_main_v67, val_main_v74, val_main_v78, val_main_v79]
  exact congrArg₂ (· * ·) (ref_back x6 x7 r ⟨512 + l.val, by omega⟩) rfl

theorem ref_da (x0 : FVec Ideal S16384x512 .f32) (x4 : FVec Ideal S1x512 .f32) (x6 : FVec Ideal S1024x1024 .f32) (x7 : FVec Ideal S16384x1024 .f32) (r : Fin 16384) (l : Fin 512) :
    val_main_v114 (F := Ideal) x0 x4 x6 x7 (ix2 r l) = Cert.Finite.dnorm (fun k => x0 (ix2 r k)) (fun k => val_main_v99 (F := Ideal) x4 x6 x7 (ix2 r k)) l := by
  pointwise [val_main_v38, val_main_cst_10, val_main_v39, val_main_v40, val_main_cst_11, val_main_v41, val_main_v42, val_main_cst_12, val_main_v43, val_main_v44, val_main_v45, val_main_v46, val_main_cst_13, val_main_v47, val_main_v48, val_main_v49, val_main_v101, val_main_cst_25, val_main_v102, val_main_v103, val_main_v104, val_main_v105, val_main_v106, val_main_cst_26, val_main_v107, val_main_v108, val_main_cst_27, val_main_v109, val_main_v110, val_main_v111, val_main_v112, val_main_v113, val_main_v114]
  simp only [Finset.sum_const, Finset.card_univ, Fintype.card_fin, one_smul]
  exact Cert.Finite.grad (fun k => x0 (ix2 r k)) (fun k => val_main_v99 (F := Ideal) x4 x6 x7 (ix2 r k)) l

theorem ref_dz (x1 : FVec Ideal S16384x512 .f32) (x2 : FVec Ideal S512x512 .f32) (x3 : FVec Ideal S1x512 .f32) (x5 : FVec Ideal S1x512 .f32) (x6 : FVec Ideal S1024x1024 .f32) (x7 : FVec Ideal S16384x1024 .f32) (r : Fin 16384) (l : Fin 512) :
    val_main_v94 (F := Ideal) x1 x2 x3 x5 x6 x7 (ix2 r l) = Cert.Finite.dnorm (fun k => val_main_v35 (F := Ideal) x1 x2 x3 (ix2 r k)) (fun k => val_main_v79 (F := Ideal) x5 x6 x7 (ix2 r k)) l := by
  pointwise [val_main_v54, val_main_cst_14, val_main_v55, val_main_v56, val_main_cst_15, val_main_v57, val_main_v58, val_main_cst_16, val_main_v59, val_main_v60, val_main_v61, val_main_v62, val_main_cst_17, val_main_v63, val_main_v64, val_main_v81, val_main_cst_20, val_main_v82, val_main_v83, val_main_v84, val_main_v85, val_main_v86, val_main_cst_21, val_main_v87, val_main_v88, val_main_cst_22, val_main_v89, val_main_v90, val_main_v91, val_main_v92, val_main_v93, val_main_v94]
  simp only [Finset.sum_const, Finset.card_univ, Fintype.card_fin, one_smul]
  exact Cert.Finite.grad (fun k => val_main_v35 (F := Ideal) x1 x2 x3 (ix2 r k)) (fun k => val_main_v79 (F := Ideal) x5 x6 x7 (ix2 r k)) l

theorem ref_dpre (x1 : FVec Ideal S16384x512 .f32) (x2 : FVec Ideal S512x512 .f32) (x3 : FVec Ideal S1x512 .f32) (x5 : FVec Ideal S1x512 .f32) (x6 : FVec Ideal S1024x1024 .f32) (x7 : FVec Ideal S16384x1024 .f32) (r : Fin 16384) (l : Fin 512) :
    val_main_v119 (F := Ideal) x1 x2 x3 x5 x6 x7 (ix2 r l) = val_main_v94 (F := Ideal) x1 x2 x3 x5 x6 x7 (ix2 r l) * val_main_v23 (F := Ideal) x1 (ix2 r l) * val_main_v31 (F := Ideal) x1 x2 x3 (ix2 r l) * (1 - val_main_v31 (F := Ideal) x1 x2 x3 (ix2 r l)) := by
  pointwise [val_main_cst_9, val_main_v32, val_main_v33, val_main_v34, val_main_v117, val_main_v119]
  ac_rfl

theorem ref_dpre' (x1 : FVec Ideal S16384x512 .f32) (x2 : FVec Ideal S512x512 .f32) (x3 : FVec Ideal S1x512 .f32) (x5 : FVec Ideal S1x512 .f32) (x6 : FVec Ideal S1024x1024 .f32) (x7 : FVec Ideal S16384x1024 .f32) (r : Fin 16384) (l : Fin 512) : val_main_v152 (F := Ideal) x1 x2 x3 x5 x6 x7 (ix2 r l) = val_main_v119 (F := Ideal) x1 x2 x3 x5 x6 x7 (ix2 r l) := by
  pointwise [val_main_v152]

theorem ref_gelu' (x1 : FVec Ideal S16384x512 .f32) (r : Fin 16384) (l : Fin 512) : val_main_v151 (F := Ideal) x1 (ix2 r l) = gelu (x1 (ix2 r l)) := by
  pointwise [val_main_v136, val_main_v137, val_main_cst_32, val_main_v138, val_main_v139, val_main_cst_33, val_main_v140, val_main_v141, val_main_v142, val_main_cst_34, val_main_v143, val_main_v144, val_main_v145, val_main_cst_35, val_main_v146, val_main_v147, val_main_cst_36, val_main_v148, val_main_v149, val_main_v150, val_main_v151]
  rw [cubic]
  simp only [gelu, tn, mul_assoc]

theorem ref_dgelu (x1 : FVec Ideal S16384x512 .f32) (x2 : FVec Ideal S512x512 .f32) (x3 : FVec Ideal S1x512 .f32) (x5 : FVec Ideal S1x512 .f32) (x6 : FVec Ideal S1024x1024 .f32) (x7 : FVec Ideal S16384x1024 .f32) (r : Fin 16384) (l : Fin 512) :
    val_main_v121 (F := Ideal) x1 x2 x3 x5 x6 x7 (ix2 r l) = val_main_v94 (F := Ideal) x1 x2 x3 x5 x6 x7 (ix2 r l) * val_main_v31 (F := Ideal) x1 x2 x3 (ix2 r l) + ∑ k, val_main_v119 (F := Ideal) x1 x2 x3 x5 x6 x7 (ix2 r k) * x2 (ix2 l k) := by
  pointwise [val_main_v118, val_main_v120, val_main_v121]

theorem ref_dy (x1 : FVec Ideal S16384x512 .f32) (x2 : FVec Ideal S512x512 .f32) (x3 : FVec Ideal S1x512 .f32) (x5 : FVec Ideal S1x512 .f32) (x6 : FVec Ideal S1024x1024 .f32) (x7 : FVec Ideal S16384x1024 .f32) (r : Fin 16384) (l : Fin 512) :
    val_main_v135 (F := Ideal) x1 x2 x3 x5 x6 x7 (ix2 r l) = val_main_v121 (F := Ideal) x1 x2 x3 x5 x6 x7 (ix2 r l) * (Ideal.ofBits .f32 0x3F000000#32 * (1 + tn (x1 (ix2 r l))))
      + Ideal.ofBits .f32 0x3F4C422A#32 * (Ideal.ofBits .f32 0x3F000000#32 * (x1 (ix2 r l) * val_main_v121 (F := Ideal) x1 x2 x3 x5 x6 x7 (ix2 r l))
          * ((1 + tn (x1 (ix2 r l))) * (1 - tn (x1 (ix2 r l)))))
      + Ideal.ofBits .f32 0x472EAB00#32 * Ideal.div (Ideal.ofBits .f32 0x3F4C422A#32 * (Ideal.ofBits .f32 0x3F000000#32 * (x1 (ix2 r l) * val_main_v121 (F := Ideal) x1 x2 x3 x5 x6 x7 (ix2 r l))
          * ((1 + tn (x1 (ix2 r l))) * (1 - tn (x1 (ix2 r l)))))) (Ideal.ofBits .f32 0x49742400#32)
        * (Ideal.ofBits .f32 0x40400000#32 * (x1 (ix2 r l) * x1 (ix2 r l))) := by
  pointwise [val_main_v3, val_main_cst, val_main_v4, val_main_v5, val_main_cst_3, val_main_v14, val_main_v15, val_main_cst_4, val_main_v16, val_main_v17, val_main_v18, val_main_v122, val_main_v123, val_main_cst_28, val_main_v124, val_main_v125, val_main_v126, val_main_cst_29, val_main_v127, val_main_v128, val_main_v129, val_main_cst_30, val_main_v130, val_main_v131, val_main_cst_31, val_main_v132, val_main_v133, val_main_v134, val_main_v135]
  rw [ref_tn, ref_half]

/-- A column of the sums over the rows: attention's gain, -/
def term_ga (x0 : FVec Ideal S16384x512 .f32) (x6 : FVec Ideal S1024x1024 .f32) (x7 : FVec Ideal S16384x1024 .f32) (l : Fin 512) (r : Fin 16384) : EReal :=
  back (fun j => x7 (ix2 r j)) (fun k j => x6 (ix2 k j)) ⟨l.val, by omega⟩ * (x0 (ix2 r l) * Cert.Finite.scale (fun k => x0 (ix2 r k)))

theorem ref_dga (x0 : FVec Ideal S16384x512 .f32) (x6 : FVec Ideal S1024x1024 .f32) (x7 : FVec Ideal S16384x1024 .f32) (l : Fin 512) : val_main_v116 (F := Ideal) x0 x6 x7 (ix2 0 l) = ∑ r, term_ga x0 x6 x7 l r := by
  pointwise [val_main_v38, val_main_cst_10, val_main_v39, val_main_v40, val_main_cst_11, val_main_v41, val_main_v42, val_main_cst_12, val_main_v43, val_main_v44, val_main_v45, val_main_v49, val_main_v50, val_main_v73, val_main_v95, val_main_cst_23, val_main_v96, val_main_v97, val_main_cst_24, val_main_v100, val_main_v116]
  simp only [Finset.sum_const, Finset.card_univ, Fintype.card_fin, one_smul]
  exact Finset.sum_congr rfl fun r _ => (mul_comm _ _).trans (congrArg₂ (· * ·) (ref_back x6 x7 r ⟨l.val, by omega⟩) rfl)

/-- the other group's gain, -/
def term_gs (x1 : FVec Ideal S16384x512 .f32) (x2 : FVec Ideal S512x512 .f32) (x3 : FVec Ideal S1x512 .f32) (x6 : FVec Ideal S1024x1024 .f32) (x7 : FVec Ideal S16384x1024 .f32) (l : Fin 512) (r : Fin 16384) : EReal :=
  back (fun j => x7 (ix2 r j)) (fun k j => x6 (ix2 k j)) ⟨512 + l.val, by omega⟩
    * (val_main_v35 (F := Ideal) x1 x2 x3 (ix2 r l) * Cert.Finite.scale (fun k => val_main_v35 (F := Ideal) x1 x2 x3 (ix2 r k)))

theorem ref_dgs (x1 : FVec Ideal S16384x512 .f32) (x2 : FVec Ideal S512x512 .f32) (x3 : FVec Ideal S1x512 .f32) (x6 : FVec Ideal S1024x1024 .f32) (x7 : FVec Ideal S16384x1024 .f32) (l : Fin 512) : val_main_v115 (F := Ideal) x1 x2 x3 x6 x7 (ix2 0 l) = ∑ r, term_gs x1 x2 x3 x6 x7 l r := by
  pointwise [val_main_v54, val_main_cst_14, val_main_v55, val_main_v56, val_main_cst_15, val_main_v57, val_main_v58, val_main_cst_16, val_main_v59, val_main_v60, val_main_v61, val_main_v65, val_main_v66, val_main_v74, val_main_v75, val_main_cst_18, val_main_v76, val_main_v77, val_main_cst_19, val_main_v80, val_main_v115]
  simp only [Finset.sum_const, Finset.card_univ, Fintype.card_fin, one_smul]
  exact Finset.sum_congr rfl fun r _ => (mul_comm _ _).trans (congrArg₂ (· * ·) (ref_back x6 x7 r ⟨512 + l.val, by omega⟩) rfl)

/-- and the gate's bias. -/
theorem ref_dgb (x1 : FVec Ideal S16384x512 .f32) (x2 : FVec Ideal S512x512 .f32) (x3 : FVec Ideal S1x512 .f32) (x5 : FVec Ideal S1x512 .f32) (x6 : FVec Ideal S1024x1024 .f32) (x7 : FVec Ideal S16384x1024 .f32) (l : Fin 512) : val_main_v154 (F := Ideal) x1 x2 x3 x5 x6 x7 (ix2 0 l) = ∑ r, val_main_v119 (F := Ideal) x1 x2 x3 x5 x6 x7 (ix2 r l) := by
  pointwise [val_main_cst_37, val_main_v153, val_main_v154]

/-! ## The kernel's rows -/

theorem named_a : Named.named (F := Ideal) (φ := .f32) κ "gelu_a" 0x3D372713#32 = ((8943 / 200000 : ℝ) : EReal) :=
  IdealRules.named_const.ideal_named_scalar (φ := .f32) κ "gelu_a" 0x3D372713#32 _ rfl

theorem named_3a : Named.named (F := Ideal) (φ := .f32) κ "gelu_3a" 0x3E095D4F#32 = ((26829 / 200000 : ℝ) : EReal) :=
  IdealRules.named_const.ideal_named_scalar (φ := .f32) κ "gelu_3a" 0x3E095D4F#32 _ rfl

theorem pay_tn (y : FVec Ideal S1024x512 .f32) (r : Fin 1024) (l : Fin 512) :
    k0_pay13 (F := Ideal) y (k0_pay12 (F := Ideal) y) (ix2 r l) = tn (y (ix2 r l)) := by
  simp only [k0_pay13, k0_pay12]
  pointwise
  rw [named_a]
  rfl

theorem pay_gelu (y : FVec Ideal S1024x512 .f32) (r : Fin 1024) (l : Fin 512) :
    k0_pay14 (F := Ideal) y (k0_pay12 (F := Ideal) y) (ix2 r l) = gelu (y (ix2 r l)) := by
  simp only [k0_pay14]
  have h := pay_tn y r l
  generalize k0_pay13 (F := Ideal) y (k0_pay12 (F := Ideal) y) = p at h
  pointwise
  rw [h, gelu, mul_left_comm, mul_assoc]

theorem pay_gate (y : FVec Ideal S1024x512 .f32) (w : FVec Ideal S512x512 .bf16) (b : FVec Ideal S1x512 .f32) (r : Fin 1024) (l : Fin 512) :
    k0_pay15 (F := Ideal) y (k0_pay12 (F := Ideal) y) w b (ix2 r l) = gate (fun k => y (ix2 r k)) (fun k l => w (ix2 k l)) (fun l => b (ix2 0 l)) l := by
  simp only [k0_pay15]
  have h := pay_gelu y r
  generalize k0_pay14 (F := Ideal) y (k0_pay12 (F := Ideal) y) = p at h
  pointwise
  simp only [h]
  rfl

theorem pay_glu (y q : FVec Ideal S1024x512 .f32) (w : FVec Ideal S512x512 .bf16) (b : FVec Ideal S1x512 .f32) (r : Fin 1024) (l : Fin 512) :
    k0_pay17 (F := Ideal) y q w b (ix2 r l) = k0_pay14 (F := Ideal) y q (ix2 r l) * k0_pay15 (F := Ideal) y q w b (ix2 r l) := by
  simp only [k0_pay17]
  generalize k0_pay14 (F := Ideal) y q = p
  generalize k0_pay15 (F := Ideal) y q w b = s
  pointwise

theorem pay_back (d w : FVec Ideal S1024x1024 .bf16) (r k : Fin 1024) :
    k0_pay7 (F := Ideal) d w (ix2 r k) = back (fun j => d (ix2 r j)) (fun k j => w (ix2 j k)) k := by
  simp only [k0_pay7]
  pointwise
  rfl

theorem pay_scale (x : FVec Ideal S1024x512 .f32) (r : Fin 1024) : k0_pay9 (F := Ideal) x (ix2 r 0) = Cert.Finite.scale (fun k => x (ix2 r k)) := by
  simp only [k0_pay9]
  pointwise
  rfl

theorem pay_low (d w : FVec Ideal S1024x1024 .bf16) (r : Fin 1024) (l : Fin 512) :
    k0_pay8 (F := Ideal) d w (ix2 r l) = k0_pay7 (F := Ideal) d w (ix2 r ⟨l.val, by omega⟩) := by
  simp only [k0_pay8]
  generalize k0_pay7 (F := Ideal) d w = p
  pointwise

theorem pay_da (d w : FVec Ideal S1024x1024 .bf16) (x : FVec Ideal S1024x512 .f32) (g : FVec Ideal S1x512 .f32) (r : Fin 1024) (l : Fin 512) :
    k0_pay10 (F := Ideal) d w x g (ix2 r l)
      = Cert.Finite.dnorm (fun k => x (ix2 r k)) (fun k => k0_pay7 (F := Ideal) d w (ix2 r ⟨k.val, by omega⟩) * g (ix2 0 k)) l := by
  simp only [← pay_low]
  simp only [k0_pay10]
  have h := pay_scale x r
  generalize k0_pay9 (F := Ideal) x = s at h
  generalize k0_pay8 (F := Ideal) d w = p
  pointwise
  simp only [h]
  exact Cert.Finite.dnorm_comm (fun k => x (ix2 r k)) (fun k => p (ix2 r k) * g (ix2 0 k)) l

theorem pay_ga (d w : FVec Ideal S1024x1024 .bf16) (x : FVec Ideal S1024x512 .f32) (r : Fin 1024) (l : Fin 512) :
    k0_pay11 (F := Ideal) d w x (ix2 r l)
      = k0_pay7 (F := Ideal) d w (ix2 r ⟨l.val, by omega⟩) * (x (ix2 r l) * Cert.Finite.scale (fun k => x (ix2 r k))) := by
  simp only [← pay_low]
  simp only [k0_pay11]
  have h := pay_scale x r
  generalize k0_pay9 (F := Ideal) x = s at h
  generalize k0_pay8 (F := Ideal) d w = p
  pointwise
  simp only [h]

theorem pay_scale' (y q : FVec Ideal S1024x512 .f32) (w : FVec Ideal S512x512 .bf16) (b : FVec Ideal S1x512 .f32) (r : Fin 1024) :
    k0_pay18 (F := Ideal) y q w b (ix2 r 0) = Cert.Finite.scale (fun k => k0_pay17 (F := Ideal) y q w b (ix2 r k)) := by
  simp only [k0_pay18]
  generalize k0_pay17 (F := Ideal) y q w b = z
  pointwise
  rfl

theorem pay_high (v : FVec Ideal S1024x1024 .f32) (r : Fin 1024) (l : Fin 512) :
    k0_pay16 (F := Ideal) v (ix2 r l) = v (ix2 r ⟨512 + l.val, by omega⟩) := by
  simp only [k0_pay16]
  pointwise

theorem pay_dz (v : FVec Ideal S1024x1024 .f32) (y q : FVec Ideal S1024x512 .f32) (w : FVec Ideal S512x512 .bf16) (b g : FVec Ideal S1x512 .f32)
    (r : Fin 1024) (l : Fin 512) :
    k0_pay23 (F := Ideal) (k0_pay20 (F := Ideal) v y q w b g) (k0_pay21 (F := Ideal) y q w b) (k0_pay22 (F := Ideal) v y q w b g) (ix2 r l)
      = Cert.Finite.dnorm (fun k => k0_pay17 (F := Ideal) y q w b (ix2 r k)) (fun k => v (ix2 r ⟨512 + k.val, by omega⟩) * g (ix2 0 k)) l := by
  simp only [← pay_high]
  simp only [k0_pay23, k0_pay20, k0_pay21, k0_pay22, k0_pay19]
  have h := pay_scale' y q w b r
  generalize k0_pay18 (F := Ideal) y q w b = s at h
  generalize k0_pay17 (F := Ideal) y q w b = z at h
  generalize k0_pay16 (F := Ideal) v = p
  pointwise
  simp only [h]
  exact Cert.Finite.dnorm_comm (fun k => z (ix2 r k)) (fun k => p (ix2 r k) * g (ix2 0 k)) l

theorem pay_gs (v : FVec Ideal S1024x1024 .f32) (y q : FVec Ideal S1024x512 .f32) (w : FVec Ideal S512x512 .bf16) (b : FVec Ideal S1x512 .f32)
    (r : Fin 1024) (l : Fin 512) :
    k0_pay24 (F := Ideal) (k0_pay16 (F := Ideal) v) (k0_pay17 (F := Ideal) y q w b) (k0_pay18 (F := Ideal) y q w b) (ix2 r l)
      = v (ix2 r ⟨512 + l.val, by omega⟩)
        * (k0_pay17 (F := Ideal) y q w b (ix2 r l) * Cert.Finite.scale (fun k => k0_pay17 (F := Ideal) y q w b (ix2 r k))) := by
  simp only [← pay_high]
  simp only [k0_pay24]
  have h := pay_scale' y q w b r
  generalize k0_pay18 (F := Ideal) y q w b = s at h
  generalize k0_pay17 (F := Ideal) y q w b = z at h
  generalize k0_pay16 (F := Ideal) v = p
  pointwise
  simp only [h]

theorem pay_dpre (p s a x : FVec Ideal S1024x512 .f32) (u : FVec Ideal S1024x1 .f32) (r : Fin 1024) (l : Fin 512) :
    k0_pay25 (F := Ideal) p s a x u (ix2 r l)
      = k0_pay23 (F := Ideal) a x u (ix2 r l) * p (ix2 r l) * s (ix2 r l) * (1 - s (ix2 r l)) := by
  simp only [k0_pay25]
  generalize k0_pay23 (F := Ideal) a x u = z
  pointwise

theorem pay_dpre' (p s a x : FVec Ideal S1024x512 .f32) (u : FVec Ideal S1024x1 .f32) (r : Fin 1024) (l : Fin 512) :
    k0_pay26 (F := Ideal) p s a x u (ix2 r l) = k0_pay25 (F := Ideal) p s a x u (ix2 r l) := by
  simp only [k0_pay26]
  generalize k0_pay25 (F := Ideal) p s a x u = z
  pointwise

theorem pay_out (p : FVec Ideal S1024x512 .f32) (r : Fin 1024) (l : Fin 512) : k0_pay28 (F := Ideal) p (ix2 r l) = p (ix2 r l) := by
  simp only [k0_pay28]
  pointwise

theorem pay_dy (y t p s a x : FVec Ideal S1024x512 .f32) (u : FVec Ideal S1024x1 .f32) (w : FVec Ideal S512x512 .bf16) (r : Fin 1024) (l : Fin 512) :
    k0_pay27 (F := Ideal) y t p s a x u w (ix2 r l)
      = (k0_pay23 (F := Ideal) a x u (ix2 r l) * s (ix2 r l) + ∑ k, k0_pay26 (F := Ideal) p s a x u (ix2 r k) * w (ix2 k l))
        * (Ideal.ofBits .f32 0x3F000000#32 * (1 + t (ix2 r l))
          + Ideal.ofBits .f32 0x3F000000#32 * y (ix2 r l) * (1 - t (ix2 r l) * t (ix2 r l))
            * (Ideal.ofBits .f32 0x3F4C422A#32 * (1 + ((26829 / 200000 : ℝ) : EReal) * (y (ix2 r l) * y (ix2 r l))))) := by
  simp only [k0_pay27]
  generalize k0_pay23 (F := Ideal) a x u = z
  generalize k0_pay26 (F := Ideal) p s a x u = e
  pointwise
  rw [named_3a]

/-- The GELU's derivative multiplied out, over the reals. -/
theorem dgelu (D y : EReal) (hD : Cert.Finite.Real' D) (hy : Cert.Finite.Real' y) :
    D * (Ideal.ofBits .f32 0x3F000000#32 * (1 + tn y)
          + Ideal.ofBits .f32 0x3F000000#32 * y * (1 - tn y * tn y)
            * (Ideal.ofBits .f32 0x3F4C422A#32 * (1 + ((26829 / 200000 : ℝ) : EReal) * (y * y))))
      = D * (Ideal.ofBits .f32 0x3F000000#32 * (1 + tn y))
        + Ideal.ofBits .f32 0x3F4C422A#32 * (Ideal.ofBits .f32 0x3F000000#32 * (y * D) * ((1 + tn y) * (1 - tn y)))
        + Ideal.ofBits .f32 0x472EAB00#32 * Ideal.div (Ideal.ofBits .f32 0x3F4C422A#32 * (Ideal.ofBits .f32 0x3F000000#32 * (y * D)
            * ((1 + tn y) * (1 - tn y)))) (Ideal.ofBits .f32 0x49742400#32)
          * (Ideal.ofBits .f32 0x40400000#32 * (y * y)) := by
  obtain ⟨c, hc⟩ := root_word
  obtain ⟨t, ht⟩ : Cert.Finite.Real' (tn y) := Cert.Finite.tanh _
  obtain ⟨d, rfl⟩ := hD
  obtain ⟨a, rfl⟩ := hy
  rw [ht, hc, cubic_word, million_word, three_word, Cert.Finite.half_word, Ideal.div_coe (by norm_num)]
  norm_cast
  ring

end Cert.MixBwdIdeal.Hand

end
-- ==== Proof.MixBwd.lean ====
/-
  The mixer's backward call: every point's block of each result is the reference's, and the three sums over the rows add up.
-/
module

public import proofs.«01_k».proof.Proof.Gen.MixBwdIdeal.Value
public import proofs.«01_k».proof.Proof.Gen.MixBwdRefIdeal.Read
public import proofs.«01_k».proof.Proof.MixRow
public import Idealize.ShloMosaic.Lib.Pipeline.ValueKit
public import Idealize.ShloMosaic.Lib.Pointwise
public import Idealize.ShloMosaic.Lib.Claim

@[expose] public section

set_option maxRecDepth 16384

noncomputable section

namespace Cert.MixBwdIdeal.Hand

open Cert.MixBwdIdeal Cert.MixBwdIdeal.Gen Idealize.ShloMosaic Idealize.ShloMosaic.TcCoe Idealize.SL.Sem
open Idealize.ShloMosaic.Pipeline (Dat)
open Cert.MixBwdRefIdeal.Read

variable (m : (ℓ : Loc nD τ sig) → Buf (Elt Ideal) ℓ)

abbrev at_ (c : Dev nD) : FVec Ideal S16384x512 .f32 := m ((c : Thread nD τ).loc main_arg0)
abbrev y (c : Dev nD) : FVec Ideal S16384x512 .f32 := m ((c : Thread nD τ).loc main_arg1)
abbrev gw (c : Dev nD) : FVec Ideal S512x512 .f32 := m ((c : Thread nD τ).loc main_arg2)
abbrev gb (c : Dev nD) : FVec Ideal S1x512 .f32 := m ((c : Thread nD τ).loc main_arg3)
abbrev ga (c : Dev nD) : FVec Ideal S1x512 .f32 := m ((c : Thread nD τ).loc main_arg4)
abbrev gs (c : Dev nD) : FVec Ideal S1x512 .f32 := m ((c : Thread nD τ).loc main_arg5)
abbrev wo (c : Dev nD) : FVec Ideal S1024x1024 .f32 := m ((c : Thread nD τ).loc main_arg6)
abbrev dx (c : Dev nD) : FVec Ideal S16384x1024 .f32 := m ((c : Thread nD τ).loc main_arg7)

theorem row_lt (t : Fin cfg0.N) (r : Fin 1024) : t.val * 1024 + r.val < 16384 := by
  have := t.isLt; have : cfg0.N = 16 := N_0; omega

/-- The array's row that is row `r` of point `t`'s block. -/
abbrev row (t : Fin cfg0.N) (r : Fin 1024) : Fin 16384 := ⟨t.val * 1024 + r.val, row_lt t r⟩

theorem entry_dx (c : Dev nD) (i : S16384x1024.Idx) : V m c main_v1 i = dx m c i := by
  entry_read
  pointwise

theorem entry_gw (c : Dev nD) (i : S512x512.Idx) : V m c main_v0 i = gw m c i := by
  entry_read
  pointwise

theorem entry_wo (c : Dev nD) (i : S1024x1024.Idx) : V m c main_v3 i = wo m c (ix2 (i 1) (i 0)) := by
  entry_read
  pointwise

theorem entry_gwt (c : Dev nD) (i : S512x512.Idx) : V m c main_v4 i = gw m c (ix2 (i 1) (i 0)) := by
  entry_read
  pointwise

theorem blk_dx (c : Dev nD) (t : Fin cfg0.N) (r : Fin 1024) (k : Fin 1024) : iblk m c 0 t (ix2 r k) = dx m c (ix2 (row t r) k) := by
  blk_simp [iblk, idx t]
  refine (entry_dx m c _).trans ?_
  blk_ext [iblk, idx t]

theorem blk_wo (c : Dev nD) (t : Fin cfg0.N) (k l : Fin 1024) : iblk m c 1 t (ix2 k l) = wo m c (ix2 l k) := by
  blk_simp [iblk, idx t]
  refine (entry_wo m c _).trans ?_
  blk_ext [iblk, idx t]

theorem blk_at (c : Dev nD) (t : Fin cfg0.N) (r : Fin 1024) (k : Fin 512) : iblk m c 2 t (ix2 r k) = at_ m c (ix2 (row t r) k) := by
  blk_ext [iblk, V, idx t]

theorem blk_y (c : Dev nD) (t : Fin cfg0.N) (r : Fin 1024) (k : Fin 512) : iblk m c 3 t (ix2 r k) = y m c (ix2 (row t r) k) := by
  blk_ext [iblk, V, idx t]

theorem blk_gw (c : Dev nD) (t : Fin cfg0.N) (k l : Fin 512) : iblk m c 4 t (ix2 k l) = gw m c (ix2 k l) := by
  blk_simp [iblk, idx t]
  refine (entry_gw m c _).trans ?_
  blk_ext [iblk, idx t]

theorem blk_gb (c : Dev nD) (t : Fin cfg0.N) (l : Fin 512) : iblk m c 5 t (ix2 0 l) = gb m c (ix2 0 l) := by
  blk_ext [iblk, V, idx t]

theorem blk_gwt (c : Dev nD) (t : Fin cfg0.N) (k l : Fin 512) : iblk m c 6 t (ix2 k l) = gw m c (ix2 l k) := by
  blk_simp [iblk, idx t]
  refine (entry_gwt m c _).trans ?_
  blk_ext [iblk, idx t]

theorem blk_ga (c : Dev nD) (t : Fin cfg0.N) (l : Fin 512) : iblk m c 7 t (ix2 0 l) = ga m c (ix2 0 l) := by
  blk_ext [iblk, V, idx t]

theorem blk_gs (c : Dev nD) (t : Fin cfg0.N) (l : Fin 512) : iblk m c 8 t (ix2 0 l) = gs m c (ix2 0 l) := by
  blk_ext [iblk, V, idx t]

/-! ## The values at a point -/

theorem at_back (c : Dev nD) (t : Fin cfg0.N) (r k : Fin 1024) :
    k0_pay7 (F := Ideal) (iblk m c 0 t) (iblk m c 1 t) (ix2 r k) = back (fun j => dx m c (ix2 (row t r) j)) (fun k j => wo m c (ix2 k j)) k := by
  refine (pay_back _ _ _ _).trans ?_
  simp only [blk_dx, blk_wo]

theorem at_gelu (c : Dev nD) (t : Fin cfg0.N) (r : Fin 1024) (l : Fin 512) :
    k0_pay14 (F := Ideal) (iblk m c 3 t) (k0_pay12 (F := Ideal) (iblk m c 3 t)) (ix2 r l) = val_main_v23 (F := Ideal) (y m c) (ix2 (row t r) l) := by
  rw [ref_gelu]
  refine (pay_gelu _ _ _).trans ?_
  rw [blk_y]

theorem at_gate (c : Dev nD) (t : Fin cfg0.N) (r : Fin 1024) (l : Fin 512) :
    k0_pay15 (F := Ideal) (iblk m c 3 t) (k0_pay12 (F := Ideal) (iblk m c 3 t)) (iblk m c 4 t) (iblk m c 5 t) (ix2 r l)
      = val_main_v31 (F := Ideal) (y m c) (gw m c) (gb m c) (ix2 (row t r) l) := by
  rw [ref_gate]
  refine (pay_gate _ _ _ _ _).trans ?_
  simp only [blk_y, blk_gw, blk_gb]

theorem at_glu (c : Dev nD) (t : Fin cfg0.N) (r : Fin 1024) (l : Fin 512) :
    k0_pay17 (F := Ideal) (iblk m c 3 t) (k0_pay12 (F := Ideal) (iblk m c 3 t)) (iblk m c 4 t) (iblk m c 5 t) (ix2 r l)
      = val_main_v35 (F := Ideal) (y m c) (gw m c) (gb m c) (ix2 (row t r) l) := by
  rw [ref_glu, ← ref_gelu, ← ref_gate]
  refine (pay_glu _ _ _ _ _ _).trans ?_
  rw [at_gelu, at_gate]

theorem at_dz (c : Dev nD) (t : Fin cfg0.N) (r : Fin 1024) (l : Fin 512) :
    k0_pay23 (F := Ideal)
        (k0_pay20 (F := Ideal) (k0_pay7 (F := Ideal) (iblk m c 0 t) (iblk m c 1 t)) (iblk m c 3 t) (k0_pay12 (F := Ideal) (iblk m c 3 t)) (iblk m c 4 t) (iblk m c 5 t) (iblk m c 8 t))
        (k0_pay21 (F := Ideal) (iblk m c 3 t) (k0_pay12 (F := Ideal) (iblk m c 3 t)) (iblk m c 4 t) (iblk m c 5 t))
        (k0_pay22 (F := Ideal) (k0_pay7 (F := Ideal) (iblk m c 0 t) (iblk m c 1 t)) (iblk m c 3 t) (k0_pay12 (F := Ideal) (iblk m c 3 t)) (iblk m c 4 t) (iblk m c 5 t) (iblk m c 8 t))
        (ix2 r l)
      = val_main_v94 (F := Ideal) (y m c) (gw m c) (gb m c) (gs m c) (wo m c) (dx m c) (ix2 (row t r) l) := by
  rw [ref_dz]
  refine (pay_dz _ _ _ _ _ _ _ _).trans ?_
  simp only [at_glu, at_back, blk_gs, ref_high]

theorem at_dpre (c : Dev nD) (t : Fin cfg0.N) (r : Fin 1024) (l : Fin 512) :
    k0_pay25 (F := Ideal) (k0_pay14 (F := Ideal) (iblk m c 3 t) (k0_pay12 (F := Ideal) (iblk m c 3 t)))
        (k0_pay15 (F := Ideal) (iblk m c 3 t) (k0_pay12 (F := Ideal) (iblk m c 3 t)) (iblk m c 4 t) (iblk m c 5 t))
        (k0_pay20 (F := Ideal) (k0_pay7 (F := Ideal) (iblk m c 0 t) (iblk m c 1 t)) (iblk m c 3 t) (k0_pay12 (F := Ideal) (iblk m c 3 t)) (iblk m c 4 t) (iblk m c 5 t) (iblk m c 8 t))
        (k0_pay21 (F := Ideal) (iblk m c 3 t) (k0_pay12 (F := Ideal) (iblk m c 3 t)) (iblk m c 4 t) (iblk m c 5 t))
        (k0_pay22 (F := Ideal) (k0_pay7 (F := Ideal) (iblk m c 0 t) (iblk m c 1 t)) (iblk m c 3 t) (k0_pay12 (F := Ideal) (iblk m c 3 t)) (iblk m c 4 t) (iblk m c 5 t) (iblk m c 8 t))
        (ix2 r l)
      = val_main_v119 (F := Ideal) (y m c) (gw m c) (gb m c) (gs m c) (wo m c) (dx m c) (ix2 (row t r) l) := by
  rw [ref_dpre]
  refine (pay_dpre _ _ _ _ _ _ _).trans ?_
  rw [at_dz, at_gelu, at_gate]

/-- What the arrays must be for the GELU's derivative to be multiplied out. -/
structure Reals (c : Dev nD) : Prop where
  y : ∀ i, Cert.Finite.Real' (y m c i)
  gw : ∀ i, Cert.Finite.Real' (gw m c i)
  gs : ∀ i, Cert.Finite.Real' (gs m c i)
  wo : ∀ i, Cert.Finite.Real' (wo m c i)
  dx : ∀ i, Cert.Finite.Real' (dx m c i)

theorem gelu_real {y : EReal} (h : Cert.Finite.Real' y) : Cert.Finite.Real' (gelu y) :=
  Cert.Finite.mul h (Cert.Finite.mul ⟨_, Cert.Finite.half_word⟩ (Cert.Finite.add Cert.Finite.one (Cert.Finite.tanh _)))

theorem gate_real (y : Fin 512 → EReal) (w : Fin 512 → Fin 512 → EReal) (b : Fin 512 → EReal) (l : Fin 512) : Cert.Finite.Real' (gate y w b l) :=
  Cert.Finite.logistic _

theorem dz_real (c : Dev nD) (h : Reals m c) (r : Fin 16384) (l : Fin 512) :
    Cert.Finite.Real' (val_main_v94 (F := Ideal) (y m c) (gw m c) (gb m c) (gs m c) (wo m c) (dx m c) (ix2 r l)) := by
  rw [ref_dz]
  refine Cert.Finite.dnorm_real _ _ (fun k => ?_) (fun k => ?_) l
  · simp only [ref_glu]
    exact Cert.Finite.mul (gelu_real (h.y _)) (gate_real _ _ _ _)
  · simp only [ref_high]
    exact Cert.Finite.mul (Cert.Finite.sum _ fun j => Cert.Finite.mul (h.dx _) (h.wo _)) (h.gs _)

theorem dpre_real (c : Dev nD) (h : Reals m c) (r : Fin 16384) (l : Fin 512) :
    Cert.Finite.Real' (val_main_v119 (F := Ideal) (y m c) (gw m c) (gb m c) (gs m c) (wo m c) (dx m c) (ix2 r l)) := by
  rw [ref_dpre, ref_gelu, ref_gate]
  exact Cert.Finite.mul (Cert.Finite.mul (Cert.Finite.mul (dz_real m c h r l) (gelu_real (h.y _))) (gate_real _ _ _ _))
    (Cert.Finite.sub Cert.Finite.one (gate_real _ _ _ _))

theorem dgelu_real (c : Dev nD) (h : Reals m c) (r : Fin 16384) (l : Fin 512) :
    Cert.Finite.Real' (val_main_v121 (F := Ideal) (y m c) (gw m c) (gb m c) (gs m c) (wo m c) (dx m c) (ix2 r l)) := by
  rw [ref_dgelu, ref_gate]
  exact Cert.Finite.add (Cert.Finite.mul (dz_real m c h r l) (gate_real _ _ _ _))
    (Cert.Finite.sum _ fun k => Cert.Finite.mul (dpre_real m c h r k) (h.gw _))

theorem at_dy (c : Dev nD) (h : Reals m c) (t : Fin cfg0.N) (r : Fin 1024) (l : Fin 512) :
    k0_pay27 (F := Ideal) (iblk m c 3 t) (k0_pay13 (F := Ideal) (iblk m c 3 t) (k0_pay12 (F := Ideal) (iblk m c 3 t)))
        (k0_pay14 (F := Ideal) (iblk m c 3 t) (k0_pay12 (F := Ideal) (iblk m c 3 t)))
        (k0_pay15 (F := Ideal) (iblk m c 3 t) (k0_pay12 (F := Ideal) (iblk m c 3 t)) (iblk m c 4 t) (iblk m c 5 t))
        (k0_pay20 (F := Ideal) (k0_pay7 (F := Ideal) (iblk m c 0 t) (iblk m c 1 t)) (iblk m c 3 t) (k0_pay12 (F := Ideal) (iblk m c 3 t)) (iblk m c 4 t) (iblk m c 5 t) (iblk m c 8 t))
        (k0_pay21 (F := Ideal) (iblk m c 3 t) (k0_pay12 (F := Ideal) (iblk m c 3 t)) (iblk m c 4 t) (iblk m c 5 t))
        (k0_pay22 (F := Ideal) (k0_pay7 (F := Ideal) (iblk m c 0 t) (iblk m c 1 t)) (iblk m c 3 t) (k0_pay12 (F := Ideal) (iblk m c 3 t)) (iblk m c 4 t) (iblk m c 5 t) (iblk m c 8 t))
        (iblk m c 6 t) (ix2 r l)
      = val_main_v135 (F := Ideal) (y m c) (gw m c) (gb m c) (gs m c) (wo m c) (dx m c) (ix2 (row t r) l) := by
  rw [ref_dy, ← dgelu _ _ (dgelu_real m c h _ _) (h.y _), ref_dgelu]
  refine (pay_dy _ _ _ _ _ _ _ _ _ _).trans ?_
  simp only [pay_dpre', at_dpre, at_dz, at_gate, pay_tn, blk_y, blk_gwt]

theorem at_da (c : Dev nD) (t : Fin cfg0.N) (r : Fin 1024) (l : Fin 512) :
    k0_pay10 (F := Ideal) (iblk m c 0 t) (iblk m c 1 t) (iblk m c 2 t) (iblk m c 7 t) (ix2 r l)
      = val_main_v114 (F := Ideal) (at_ m c) (ga m c) (wo m c) (dx m c) (ix2 (row t r) l) := by
  rw [ref_da]
  refine (pay_da _ _ _ _ _ _).trans ?_
  simp only [at_back, blk_at, blk_ga, ref_low]

/-! ## The rows' results -/

theorem da_eq (c : Dev nD) : (dats m 0 c).arrAt 9 cfg0.N = val_main_v114 (F := Ideal) (at_ m c) (ga m c) (wo m c) (dx m c) := by
  refine (dats m 0 c).arrAt_eq_of_covers 9 _ (by decide +kernel) fun t hf y => ?_
  blk_simp
  rw [after0_9]
  by_cases h : t.val % 16 = 0
  · rw [outsAt0_A m c t h h h]
    frame_out
    idx_vars y
    refine (at_da m c t _ _).trans ?_
    blk_point [V, idx t]
  · rw [outsAt0_B m c t h h h]
    frame_out
    idx_vars y
    refine (at_da m c t _ _).trans ?_
    blk_point [V, idx t]

theorem dy_eq (c : Dev nD) (hr : Reals m c) :
    (dats m 0 c).arrAt 10 cfg0.N = val_main_v135 (F := Ideal) (y m c) (gw m c) (gb m c) (gs m c) (wo m c) (dx m c) := by
  refine (dats m 0 c).arrAt_eq_of_covers 10 _ (by decide +kernel) fun t hf y => ?_
  blk_simp
  rw [after0_10]
  by_cases h : t.val % 16 = 0
  · rw [outsAt0_A m c t h h h]
    frame_out
    idx_vars y
    refine (at_dy m c hr t _ _).trans ?_
    blk_point [V, idx t]
  · rw [outsAt0_B m c t h h h]
    frame_out
    idx_vars y
    refine (at_dy m c hr t _ _).trans ?_
    blk_point [V, idx t]

theorem ref_gelu_idx (x1 : FVec Ideal S16384x512 .f32) (i : S16384x512.Idx) : val_main_v151 (F := Ideal) x1 i = val_main_v23 (F := Ideal) x1 i := by
  idx_vars i
  rw [ref_gelu', ref_gelu]

theorem gelu_eq (c : Dev nD) : (dats m 0 c).arrAt 11 cfg0.N = val_main_v151 (F := Ideal) (y m c) := by
  refine (dats m 0 c).arrAt_eq_of_covers 11 _ (by decide +kernel) fun t hf y => ?_
  blk_simp
  rw [after0_11, ref_gelu_idx]
  by_cases h : t.val % 16 = 0
  · rw [outsAt0_A m c t h h h]
    frame_out
    idx_vars y
    refine ((pay_out _ _ _).trans (at_gelu m c t _ _)).trans ?_
    blk_point [V, idx t]
  · rw [outsAt0_B m c t h h h]
    frame_out
    idx_vars y
    refine ((pay_out _ _ _).trans (at_gelu m c t _ _)).trans ?_
    blk_point [V, idx t]

theorem ref_dpre_idx (x1 : FVec Ideal S16384x512 .f32) (x2 : FVec Ideal S512x512 .f32) (x3 x5 : FVec Ideal S1x512 .f32) (x6 : FVec Ideal S1024x1024 .f32)
    (x7 : FVec Ideal S16384x1024 .f32) (i : S16384x512.Idx) :
    val_main_v152 (F := Ideal) x1 x2 x3 x5 x6 x7 i = val_main_v119 (F := Ideal) x1 x2 x3 x5 x6 x7 i := by
  idx_vars i
  rw [ref_dpre']

theorem dpre_eq (c : Dev nD) :
    (dats m 0 c).arrAt 12 cfg0.N = val_main_v152 (F := Ideal) (y m c) (gw m c) (gb m c) (gs m c) (wo m c) (dx m c) := by
  refine (dats m 0 c).arrAt_eq_of_covers 12 _ (by decide +kernel) fun t hf y => ?_
  blk_simp
  rw [after0_12, ref_dpre_idx]
  by_cases h : t.val % 16 = 0
  · rw [outsAt0_A m c t h h h]
    frame_out
    idx_vars y
    refine ((pay_dpre' _ _ _ _ _ _ _).trans (at_dpre m c t _ _)).trans ?_
    blk_point [V, idx t]
  · rw [outsAt0_B m c t h h h]
    frame_out
    idx_vars y
    refine ((pay_dpre' _ _ _ _ _ _ _).trans (at_dpre m c t _ _)).trans ?_
    blk_point [V, idx t]

/-! ## The sums over the rows -/

theorem add_ga (x : FVec Ideal S1024x512 .f32) (v : FVec Ideal S1x512 .f32) (l : Fin 512) :
    k0_pay2 (F := Ideal) x v (ix2 0 l) = v (ix2 0 l) + ∑ r, x (ix2 r l) := by
  simp only [k0_pay2]
  pointwise

theorem add_gs (x : FVec Ideal S1024x512 .f32) (v : FVec Ideal S1x512 .f32) (l : Fin 512) :
    k0_pay4 (F := Ideal) x v (ix2 0 l) = v (ix2 0 l) + ∑ r, x (ix2 r l) := by
  simp only [k0_pay4]
  pointwise

theorem add_gb (x : FVec Ideal S1024x512 .f32) (v : FVec Ideal S1x512 .f32) (l : Fin 512) :
    k0_pay6 (F := Ideal) x v (ix2 0 l) = v (ix2 0 l) + ∑ r, x (ix2 r l) := by
  simp only [k0_pay6]
  pointwise

theorem zero_ga (l : Fin 512) : k0_pay1 (F := Ideal) (ix2 0 l) = 0 := by
  simp only [k0_pay1]
  pointwise

theorem zero_gs (l : Fin 512) : k0_pay3 (F := Ideal) (ix2 0 l) = 0 := by
  simp only [k0_pay3]
  pointwise

theorem zero_gb (l : Fin 512) : k0_pay5 (F := Ideal) (ix2 0 l) = 0 := by
  simp only [k0_pay5]
  pointwise

def last : Fin cfg0.N := ⟨15, by decide⟩

/-- What a point adds to attention's gain's gradient, -/
def part_ga (c : Dev nD) (t : ℕ) (h : t < cfg0.N) (j : S1x512.Idx) : EReal :=
  ∑ r : Fin 1024, term_ga (at_ m c) (wo m c) (dx m c) (j 1) ⟨t * 1024 + r.val, row_lt ⟨t, h⟩ r⟩

/-- to the other gain's, -/
def part_gs (c : Dev nD) (t : ℕ) (h : t < cfg0.N) (j : S1x512.Idx) : EReal :=
  ∑ r : Fin 1024, term_gs (y m c) (gw m c) (gb m c) (wo m c) (dx m c) (j 1) ⟨t * 1024 + r.val, row_lt ⟨t, h⟩ r⟩

/-- and to the gate's bias's. -/
def part_gb (c : Dev nD) (t : ℕ) (h : t < cfg0.N) (j : S1x512.Idx) : EReal :=
  ∑ r : Fin 1024, val_main_v119 (F := Ideal) (y m c) (gw m c) (gb m c) (gs m c) (wo m c) (dx m c) (ix2 ⟨t * 1024 + r.val, row_lt ⟨t, h⟩ r⟩ (j 1))

theorem at_dga (c : Dev nD) (t : Fin cfg0.N) (v : Vec Ideal S1x512 .f32) (j : S1x512.Idx) :
    k0_pay2 (F := Ideal) (k0_pay11 (F := Ideal) (iblk m c 0 t) (iblk m c 1 t) (iblk m c 2 t)) v j = v j + part_ga m c t.val t.isLt j := by
  idx_vars j
  obtain rfl : j0 = 0 := Subsingleton.elim _ _
  refine (add_ga _ _ _).trans (congrArg₂ (· + ·) rfl (Finset.sum_congr rfl fun r _ => ?_))
  refine (pay_ga _ _ _ _ _).trans ?_
  simp only [at_back, blk_at]
  rfl

theorem at_dgs (c : Dev nD) (t : Fin cfg0.N) (v : Vec Ideal S1x512 .f32) (j : S1x512.Idx) :
    k0_pay4 (F := Ideal) (k0_pay24 (F := Ideal) (k0_pay16 (F := Ideal) (k0_pay7 (F := Ideal) (iblk m c 0 t) (iblk m c 1 t)))
        (k0_pay17 (F := Ideal) (iblk m c 3 t) (k0_pay12 (F := Ideal) (iblk m c 3 t)) (iblk m c 4 t) (iblk m c 5 t))
        (k0_pay18 (F := Ideal) (iblk m c 3 t) (k0_pay12 (F := Ideal) (iblk m c 3 t)) (iblk m c 4 t) (iblk m c 5 t))) v j
      = v j + part_gs m c t.val t.isLt j := by
  idx_vars j
  obtain rfl : j0 = 0 := Subsingleton.elim _ _
  refine (add_gs _ _ _).trans (congrArg₂ (· + ·) rfl (Finset.sum_congr rfl fun r _ => ?_))
  refine (pay_gs _ _ _ _ _ _ _).trans ?_
  simp only [at_back, at_glu]
  rfl

theorem at_dgb (c : Dev nD) (t : Fin cfg0.N) (v : Vec Ideal S1x512 .f32) (j : S1x512.Idx) :
    k0_pay6 (F := Ideal) (k0_pay25 (F := Ideal) (k0_pay14 (F := Ideal) (iblk m c 3 t) (k0_pay12 (F := Ideal) (iblk m c 3 t)))
        (k0_pay15 (F := Ideal) (iblk m c 3 t) (k0_pay12 (F := Ideal) (iblk m c 3 t)) (iblk m c 4 t) (iblk m c 5 t))
        (k0_pay20 (F := Ideal) (k0_pay7 (F := Ideal) (iblk m c 0 t) (iblk m c 1 t)) (iblk m c 3 t) (k0_pay12 (F := Ideal) (iblk m c 3 t)) (iblk m c 4 t) (iblk m c 5 t) (iblk m c 8 t))
        (k0_pay21 (F := Ideal) (iblk m c 3 t) (k0_pay12 (F := Ideal) (iblk m c 3 t)) (iblk m c 4 t) (iblk m c 5 t))
        (k0_pay22 (F := Ideal) (k0_pay7 (F := Ideal) (iblk m c 0 t) (iblk m c 1 t)) (iblk m c 3 t) (k0_pay12 (F := Ideal) (iblk m c 3 t)) (iblk m c 4 t) (iblk m c 5 t) (iblk m c 8 t))) v j
      = v j + part_gb m c t.val t.isLt j := by
  idx_vars j
  obtain rfl : j0 = 0 := Subsingleton.elim _ _
  refine (add_gb _ _ _).trans (congrArg₂ (· + ·) rfl (Finset.sum_congr rfl fun r _ => ?_))
  exact at_dpre m c t _ _

theorem dga_eq (c : Dev nD) : (dats m 0 c).arrAt 13 cfg0.N = val_main_v116 (F := Ideal) (at_ m c) (wo m c) (dx m c) := by
  refine (dats m 0 c).arrAt_eq_of_after_last 13 last (by decide +kernel) _ fun j => ?_
  blk_simp
  rw [after0_13]
  refine (Pipeline.eq_sum_fin_of_reset_step_apply_last (fun n h => (outsAt0 m c n h).2.2.2.2.1) 16 (fun _ => 0) _
    (fun t h j => by rw [outsAt0_A m c t h h h]; frame_out; rw [at_dga]; congr 1; idx_vars j; obtain rfl : j0 = 0 := Subsingleton.elim _ _; exact zero_ga _)
    (fun t h j => by rw [outsAt0_B m c t h h h]; frame_out; rw [at_dga]) N_0.le last rfl j).trans ?_
  idx_vars j
  obtain rfl : j0 = 0 := Subsingleton.elim _ _
  rw [zero_add, ref_dga]
  simp only [part_ga]
  refine Fin.sum_mul_add_congr (n := 1024) fun t k hl => ?_
  rfl

theorem dgs_eq (c : Dev nD) : (dats m 0 c).arrAt 14 cfg0.N = val_main_v115 (F := Ideal) (y m c) (gw m c) (gb m c) (wo m c) (dx m c) := by
  refine (dats m 0 c).arrAt_eq_of_after_last 14 last (by decide +kernel) _ fun j => ?_
  blk_simp
  rw [after0_14]
  refine (Pipeline.eq_sum_fin_of_reset_step_apply_last (fun n h => (outsAt0 m c n h).2.2.2.2.2.1) 16 (fun _ => 0) _
    (fun t h j => by rw [outsAt0_A m c t h h h]; frame_out; rw [at_dgs]; congr 1; idx_vars j; obtain rfl : j0 = 0 := Subsingleton.elim _ _; exact zero_gs _)
    (fun t h j => by rw [outsAt0_B m c t h h h]; frame_out; rw [at_dgs]) N_0.le last rfl j).trans ?_
  idx_vars j
  obtain rfl : j0 = 0 := Subsingleton.elim _ _
  rw [zero_add, ref_dgs]
  simp only [part_gs]
  refine Fin.sum_mul_add_congr (n := 1024) fun t k hl => ?_
  rfl

theorem dgb_eq (c : Dev nD) : (dats m 0 c).arrAt 15 cfg0.N = val_main_v154 (F := Ideal) (y m c) (gw m c) (gb m c) (gs m c) (wo m c) (dx m c) := by
  refine (dats m 0 c).arrAt_eq_of_after_last 15 last (by decide +kernel) _ fun j => ?_
  blk_simp
  rw [after0_15]
  refine (Pipeline.eq_sum_fin_of_reset_step_apply_last (fun n h => (outsAt0 m c n h).2.2.2.2.2.2) 16 (fun _ => 0) _
    (fun t h j => by rw [outsAt0_A m c t h h h]; frame_out; rw [at_dgb]; congr 1; idx_vars j; obtain rfl : j0 = 0 := Subsingleton.elim _ _; exact zero_gb _)
    (fun t h j => by rw [outsAt0_B m c t h h h]; frame_out; rw [at_dgb]) N_0.le last rfl j).trans ?_
  idx_vars j
  obtain rfl : j0 = 0 := Subsingleton.elim _ _
  rw [zero_add, ref_dgb]
  simp only [part_gb]
  refine Fin.sum_mul_add_congr (n := 1024) fun t k hl => ?_
  rfl

end Cert.MixBwdIdeal.Hand

end
-- ==== Proof.MixPre.lean ====
/-
  The precondition of the mixer's backward call, read: the arrays it tests hold reals.
-/
module

public import proofs.«01_k».proof.Pre_mix_finite
public import proofs.«01_k».proof.Proof.Finite

@[expose] public section

noncomputable section

namespace Cert.Pre_mix_finite

open Idealize.ShloMosaic

instance facts : Facts := by constructor <;> decide

variable [Facts]
open Facts

theorem all_real {s : Shape} {axes : List (Fin s.rank)} (x : FVec Ideal s .f32) (b : S_.BroadcastsInDim s (![] : Fin 0 → Fin s.rank)) (init : IVec S_ 1)
    (h : s.ReducesTo axes S_) (hu : 0 < S_.numel) (j : S_.Idx)
    (e : Host.reduce IntOp.andi (cmpf .olt (Host.absf x) (broadcastInDim s ![] b (constant S_ .f32 0x7F800000#32))) init h hu j = 1#1) (i : s.Idx) :
    Cert.Finite.Real' (x i) := by
  haveI : Subsingleton S_.Idx := ⟨fun a b => funext fun k => k.elim0⟩
  exact Cert.Finite.of_abs (Host.reduce_andi_all _ init h hu j e i)

theorem reals (x0 x1 : FVec Ideal S16384x512 .f32) (x2 : FVec Ideal S512x512 .f32) (x3 x4 x5 : FVec Ideal S1x512 .f32)
    (x6 : FVec Ideal S1024x1024 .f32) (x7 : FVec Ideal S16384x1024 .f32) (h : fn (F := Ideal) x0 x1 x2 x3 x4 x5 x6 x7 = fun _ => 1#1) :
    (∀ i, Cert.Finite.Real' (x1 i)) ∧ (∀ i, Cert.Finite.Real' (x2 i)) ∧ (∀ i, Cert.Finite.Real' (x5 i)) ∧ (∀ i, Cert.Finite.Real' (x6 i))
      ∧ ∀ i, Cert.Finite.Real' (x7 i) := by
  have j : S_.Idx := fun k => k.elim0
  have e := congrFun h j
  dsimp only [fn, fn_part1] at e
  obtain ⟨e, h7⟩ := Cert.Finite.and_one e
  obtain ⟨e, h6⟩ := Cert.Finite.and_one e
  obtain ⟨e, h5⟩ := Cert.Finite.and_one e
  obtain ⟨h1, h2⟩ := Cert.Finite.and_one e
  exact ⟨all_real x1 _ _ _ _ j h1, all_real x2 _ _ _ _ j h2, all_real x5 _ _ _ _ j h5, all_real x6 _ _ _ _ j h6, all_real x7 _ _ _ _ j h7⟩

end Cert.Pre_mix_finite

end
-- ==== Proof.GradDown.lean ====
/-
  The down projection's weight gradient: each block's sum over the tokens is carried in the scratch through the eight points of its run.
-/
module

public import proofs.«01_k».proof.Proof.Gen.GradDownIdeal.Value
public import proofs.«01_k».proof.Proof.Gen.GradDownRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.GradDownIdeal.Hand

open Cert.GradDownIdeal Cert.GradDownIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin grid0.N, win0_0.index t = ![t.val % 8, t.val / 8] ∧ win0_1.index t = ![t.val % 8, 0]
    ∧ win0_2.index t = ![t.val / 8, 0] := by decide +kernel

theorem ref_apply (x0 : FVec Ideal S16384x4096 .f32) (x1 : FVec Ideal S16384x1024 .f32) (i : S4096x1024.Idx) :
    Cert.GradDownRefIdeal.Read.val_main_v4 (F := Ideal) x0 x1 i = ∑ l : Fin 16384, x0 (ix2 l (i 0)) * x1 (ix2 l (i 1)) := by
  rw [← Cert.GradDownRefIdeal.Read.val_main_v4_eq]
  idx_vars i
  pointwise
  simp only [mul_comm (x1 _)]

abbrev h (c : Dev nD) : FVec Ideal S16384x4096 .f32 := m ((c : Thread nD τ).loc main_arg0)
abbrev ct (c : Dev nD) : FVec Ideal S16384x1024 .f32 := m ((c : Thread nD τ).loc main_arg1)

theorem row_lt (t : ℕ) (r : Fin 2048) : t % 8 * 2048 + r.val < 16384 := by omega

theorem k_lt (t : Fin cfg0.N) (i : Fin 1024) : t.val / 8 * 1024 + i.val < 4096 := by
  have := t.isLt; have : cfg0.N = 32 := N_0; omega

theorem n_lt (t : Fin cfg0.N) (j : Fin 1024) : 0 * 1024 + j.val < 1024 := by
  have := t.isLt; have : cfg0.N = 32 := N_0; omega

theorem blk_h (c : Dev nD) (t : Fin cfg0.N) (r : Fin 2048) (i : Fin 1024) :
    iblk m c 0 t (ix2 r i) = h m c (ix2 ⟨t.val % 8 * 2048 + r.val, row_lt _ r⟩ ⟨t.val / 8 * 1024 + i.val, k_lt t i⟩) := by
  blk_ext [iblk, V, idx t]

theorem blk_ct (c : Dev nD) (t : Fin cfg0.N) (r : Fin 2048) (j : Fin 1024) :
    iblk m c 1 t (ix2 r j) = ct m c (ix2 ⟨t.val % 8 * 2048 + r.val, row_lt _ r⟩ ⟨0 * 1024 + j.val, n_lt t j⟩) := by
  blk_ext [iblk, V, idx t]

/-- What a point adds to its block's sum. -/
def term (c : Dev nD) (t : Fin cfg0.N) (j : S1024x1024.Idx) : EReal :=
  ∑ r : Fin 2048, h m c (ix2 ⟨t.val % 8 * 2048 + r.val, row_lt _ r⟩ ⟨t.val / 8 * 1024 + (j 0).val, k_lt t (j 0)⟩)
    * ct m c (ix2 ⟨t.val % 8 * 2048 + r.val, row_lt _ r⟩ ⟨0 * 1024 + (j 1).val, n_lt t (j 1)⟩)

theorem step_point (c : Dev nD) (t : Fin cfg0.N) (v : Vec Ideal S1024x1024 .f32) (j : S1024x1024.Idx) :
    k0_pay2 v (iblk m c 0 t) (iblk m c 1 t) j = v j + term m c t j := by
  idx_vars j
  unfold_payloads
  pointwise
  simp only [blk_h, blk_ct]
  rfl

theorem zero_point (j : S1024x1024.Idx) : k0_pay1 (F := Ideal) j = 0 := by
  unfold_payloads
  pointwise

theorem sum_point (c : Dev nD) (t : Fin cfg0.N) (ht : t.val % 8 = 7) (j : S1024x1024.Idx) :
    (outsAt0 m c t.val t.isLt).2 j = ∑ s : Fin 8, term m c ⟨8 * (t.val / 8) + s.val, Pipeline.run_point_lt_of_flush t ht s⟩ j := by
  refine (Pipeline.eq_sum_fin_of_reset_step_apply_of_flush (fun n h => (outsAt0 m c n h).2) 8 (fun _ => 0) (term m c)
    (fun t h j => ?_) (fun t h j => ?_) t ht j).trans (zero_add _)
  · rw [outsAt0_A m c t h (by omega)]
    frame_out
    rw [step_point, zero_point]
  · by_cases h1 : t.val % 8 = 7
    · rw [outsAt0_C m c t h h1]
      frame_out
      rw [step_point]
      congr 1
      exact congrFun (Memref.IsWhole.read_unread _ _) _
    · rw [outsAt0_B m c t h h1]
      frame_out
      rw [step_point]
      congr 1
      exact congrFun (Memref.IsWhole.read_unread _ _) _

theorem out_point (c : Dev nD) (t : Fin cfg0.N) (ht : t.val % 8 = 7) (j : S1024x1024.Idx) :
    (outsAt0 m c t.val t.isLt).1 j = (outsAt0 m c t.val t.isLt).2 j := by
  rw [outsAt0_C m c t (by omega) ht]
  frame_out
  rfl

theorem out_eq (c : Dev nD) : (dats m 0 c).arrAt 2 cfg0.N
    = Cert.GradDownRefIdeal.Read.val_main_v4 (F := Ideal) (h m c) (ct m c) := by
  refine (dats m 0 c).arrAt_eq_of_covers 2 _ (by decide +kernel) fun t hf y => ?_
  have ht := (flush0_2 t).mp hf
  blk_simp
  rw [after0_2]
  refine ((out_point m c t ht _).trans (sum_point m c t ht _)).trans ?_
  refine Eq.trans ?_ (ref_apply _ _ _).symm
  simp only [term]
  refine Fin.sum_mul_add_congr (n := 2048) fun s k hl => ?_
  idx_vars y
  congr 2 <;> blk_ext [idx t] <;> omega

end Cert.GradDownIdeal.Hand

end
-- ==== Proof.GradUp.lean ====
/-
  The up projection's weight gradient: each block's sum over the tokens is carried in the scratch through the eight points of its run.
-/
module

public import proofs.«01_k».proof.Proof.Gen.GradUpIdeal.Value
public import proofs.«01_k».proof.Proof.Gen.GradUpRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.GradUpIdeal.Hand

open Cert.GradUpIdeal Cert.GradUpIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin grid0.N, win0_0.index t = ![t.val % 8, 0] ∧ win0_1.index t = ![t.val % 8, t.val / 8]
    ∧ win0_2.index t = ![0, t.val / 8] := by decide +kernel

theorem ref_apply (x0 : FVec Ideal S16384x1024 .f32) (x1 : FVec Ideal S16384x4096 .f32) (i : S1024x4096.Idx) :
    Cert.GradUpRefIdeal.Read.val_main_v4 (F := Ideal) x0 x1 i = ∑ l : Fin 16384, x0 (ix2 l (i 0)) * x1 (ix2 l (i 1)) := by
  rw [← Cert.GradUpRefIdeal.Read.val_main_v4_eq]
  idx_vars i
  pointwise
  simp only [mul_comm (x1 _)]

abbrev h (c : Dev nD) : FVec Ideal S16384x1024 .f32 := m ((c : Thread nD τ).loc main_arg0)
abbrev ct (c : Dev nD) : FVec Ideal S16384x4096 .f32 := m ((c : Thread nD τ).loc main_arg1)

theorem row_lt (t : ℕ) (r : Fin 2048) : t % 8 * 2048 + r.val < 16384 := by omega

theorem k_lt (t : Fin cfg0.N) (i : Fin 1024) : 0 * 1024 + i.val < 1024 := by
  have := t.isLt; have : cfg0.N = 32 := N_0; omega

theorem n_lt (t : Fin cfg0.N) (j : Fin 1024) : t.val / 8 * 1024 + j.val < 4096 := by
  have := t.isLt; have : cfg0.N = 32 := N_0; omega

theorem blk_h (c : Dev nD) (t : Fin cfg0.N) (r : Fin 2048) (i : Fin 1024) :
    iblk m c 0 t (ix2 r i) = h m c (ix2 ⟨t.val % 8 * 2048 + r.val, row_lt _ r⟩ ⟨0 * 1024 + i.val, k_lt t i⟩) := by
  blk_ext [iblk, V, idx t]

theorem blk_ct (c : Dev nD) (t : Fin cfg0.N) (r : Fin 2048) (j : Fin 1024) :
    iblk m c 1 t (ix2 r j) = ct m c (ix2 ⟨t.val % 8 * 2048 + r.val, row_lt _ r⟩ ⟨t.val / 8 * 1024 + j.val, n_lt t j⟩) := by
  blk_ext [iblk, V, idx t]

/-- What a point adds to its block's sum. -/
def term (c : Dev nD) (t : Fin cfg0.N) (j : S1024x1024.Idx) : EReal :=
  ∑ r : Fin 2048, h m c (ix2 ⟨t.val % 8 * 2048 + r.val, row_lt _ r⟩ ⟨0 * 1024 + (j 0).val, k_lt t (j 0)⟩)
    * ct m c (ix2 ⟨t.val % 8 * 2048 + r.val, row_lt _ r⟩ ⟨t.val / 8 * 1024 + (j 1).val, n_lt t (j 1)⟩)

theorem step_point (c : Dev nD) (t : Fin cfg0.N) (v : Vec Ideal S1024x1024 .f32) (j : S1024x1024.Idx) :
    k0_pay2 v (iblk m c 0 t) (iblk m c 1 t) j = v j + term m c t j := by
  idx_vars j
  unfold_payloads
  pointwise
  simp only [blk_h, blk_ct]
  rfl

theorem zero_point (j : S1024x1024.Idx) : k0_pay1 (F := Ideal) j = 0 := by
  unfold_payloads
  pointwise

theorem sum_point (c : Dev nD) (t : Fin cfg0.N) (ht : t.val % 8 = 7) (j : S1024x1024.Idx) :
    (outsAt0 m c t.val t.isLt).2 j = ∑ s : Fin 8, term m c ⟨8 * (t.val / 8) + s.val, Pipeline.run_point_lt_of_flush t ht s⟩ j := by
  refine (Pipeline.eq_sum_fin_of_reset_step_apply_of_flush (fun n h => (outsAt0 m c n h).2) 8 (fun _ => 0) (term m c)
    (fun t h j => ?_) (fun t h j => ?_) t ht j).trans (zero_add _)
  · rw [outsAt0_A m c t h (by omega)]
    frame_out
    rw [step_point, zero_point]
  · by_cases h1 : t.val % 8 = 7
    · rw [outsAt0_C m c t h h1]
      frame_out
      rw [step_point]
      congr 1
      exact congrFun (Memref.IsWhole.read_unread _ _) _
    · rw [outsAt0_B m c t h h1]
      frame_out
      rw [step_point]
      congr 1
      exact congrFun (Memref.IsWhole.read_unread _ _) _

theorem out_point (c : Dev nD) (t : Fin cfg0.N) (ht : t.val % 8 = 7) (j : S1024x1024.Idx) :
    (outsAt0 m c t.val t.isLt).1 j = (outsAt0 m c t.val t.isLt).2 j := by
  rw [outsAt0_C m c t (by omega) ht]
  frame_out
  rfl

theorem out_eq (c : Dev nD) : (dats m 0 c).arrAt 2 cfg0.N
    = Cert.GradUpRefIdeal.Read.val_main_v4 (F := Ideal) (h m c) (ct m c) := by
  refine (dats m 0 c).arrAt_eq_of_covers 2 _ (by decide +kernel) fun t hf y => ?_
  have ht := (flush0_2 t).mp hf
  blk_simp
  rw [after0_2]
  refine ((out_point m c t ht _).trans (sum_point m c t ht _)).trans ?_
  refine Eq.trans ?_ (ref_apply _ _ _).symm
  simp only [term]
  refine Fin.sum_mul_add_congr (n := 2048) fun s k hl => ?_
  idx_vars y
  congr 2 <;> blk_ext [idx t] <;> omega

end Cert.GradUpIdeal.Hand

end
-- ==== Proof.GradOut.lean ====
/-
  The output projection's weight gradient: each block's sum over the tokens is carried in the scratch through the eight points of its run.
-/
module

public import proofs.«01_k».proof.Proof.Gen.GradOutIdeal.Value
public import proofs.«01_k».proof.Proof.Gen.GradOutRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.GradOutIdeal.Hand

open Cert.GradOutIdeal Cert.GradOutIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin grid0.N, win0_0.index t = ![t.val % 8, 0] ∧ win0_1.index t = ![t.val % 8, 0]
    ∧ win0_2.index t = ![0, 0] := by decide +kernel

theorem ref_apply (x0 : FVec Ideal S16384x1024 .f32) (x1 : FVec Ideal S16384x1024 .f32) (i : S1024x1024.Idx) :
    Cert.GradOutRefIdeal.Read.val_main_v4 (F := Ideal) x0 x1 i = ∑ l : Fin 16384, x0 (ix2 l (i 0)) * x1 (ix2 l (i 1)) := by
  rw [← Cert.GradOutRefIdeal.Read.val_main_v4_eq]
  idx_vars i
  pointwise
  simp only [mul_comm (x1 _)]

abbrev h (c : Dev nD) : FVec Ideal S16384x1024 .f32 := m ((c : Thread nD τ).loc main_arg0)
abbrev ct (c : Dev nD) : FVec Ideal S16384x1024 .f32 := m ((c : Thread nD τ).loc main_arg1)

theorem row_lt (t : ℕ) (r : Fin 2048) : t % 8 * 2048 + r.val < 16384 := by omega

theorem k_lt (t : Fin cfg0.N) (i : Fin 1024) : 0 * 1024 + i.val < 1024 := by
  have := t.isLt; have : cfg0.N = 8 := N_0; omega

theorem n_lt (t : Fin cfg0.N) (j : Fin 1024) : 0 * 1024 + j.val < 1024 := by
  have := t.isLt; have : cfg0.N = 8 := N_0; omega

theorem blk_h (c : Dev nD) (t : Fin cfg0.N) (r : Fin 2048) (i : Fin 1024) :
    iblk m c 0 t (ix2 r i) = h m c (ix2 ⟨t.val % 8 * 2048 + r.val, row_lt _ r⟩ ⟨0 * 1024 + i.val, k_lt t i⟩) := by
  blk_ext [iblk, V, idx t]

theorem blk_ct (c : Dev nD) (t : Fin cfg0.N) (r : Fin 2048) (j : Fin 1024) :
    iblk m c 1 t (ix2 r j) = ct m c (ix2 ⟨t.val % 8 * 2048 + r.val, row_lt _ r⟩ ⟨0 * 1024 + j.val, n_lt t j⟩) := by
  blk_ext [iblk, V, idx t]

/-- What a point adds to its block's sum. -/
def term (c : Dev nD) (t : Fin cfg0.N) (j : S1024x1024.Idx) : EReal :=
  ∑ r : Fin 2048, h m c (ix2 ⟨t.val % 8 * 2048 + r.val, row_lt _ r⟩ ⟨0 * 1024 + (j 0).val, k_lt t (j 0)⟩)
    * ct m c (ix2 ⟨t.val % 8 * 2048 + r.val, row_lt _ r⟩ ⟨0 * 1024 + (j 1).val, n_lt t (j 1)⟩)

theorem step_point (c : Dev nD) (t : Fin cfg0.N) (v : Vec Ideal S1024x1024 .f32) (j : S1024x1024.Idx) :
    k0_pay2 v (iblk m c 0 t) (iblk m c 1 t) j = v j + term m c t j := by
  idx_vars j
  unfold_payloads
  pointwise
  simp only [blk_h, blk_ct]
  rfl

theorem zero_point (j : S1024x1024.Idx) : k0_pay1 (F := Ideal) j = 0 := by
  unfold_payloads
  pointwise

theorem sum_point (c : Dev nD) (t : Fin cfg0.N) (ht : t.val % 8 = 7) (j : S1024x1024.Idx) :
    (outsAt0 m c t.val t.isLt).2 j = ∑ s : Fin 8, term m c ⟨8 * (t.val / 8) + s.val, Pipeline.run_point_lt_of_flush t ht s⟩ j := by
  refine (Pipeline.eq_sum_fin_of_reset_step_apply_of_flush (fun n h => (outsAt0 m c n h).2) 8 (fun _ => 0) (term m c)
    (fun t h j => ?_) (fun t h j => ?_) t ht j).trans (zero_add _)
  · rw [outsAt0_A m c t h (by omega)]
    frame_out
    rw [step_point, zero_point]
  · by_cases h1 : t.val % 8 = 7
    · rw [outsAt0_C m c t h h1]
      frame_out
      rw [step_point]
      congr 1
      exact congrFun (Memref.IsWhole.read_unread _ _) _
    · rw [outsAt0_B m c t h h1]
      frame_out
      rw [step_point]
      congr 1
      exact congrFun (Memref.IsWhole.read_unread _ _) _

theorem out_point (c : Dev nD) (t : Fin cfg0.N) (ht : t.val % 8 = 7) (j : S1024x1024.Idx) :
    (outsAt0 m c t.val t.isLt).1 j = (outsAt0 m c t.val t.isLt).2 j := by
  rw [outsAt0_C m c t (by omega) ht]
  frame_out
  rfl

theorem out_eq (c : Dev nD) : (dats m 0 c).arrAt 2 cfg0.N
    = Cert.GradOutRefIdeal.Read.val_main_v4 (F := Ideal) (h m c) (ct m c) := by
  refine (dats m 0 c).arrAt_eq_of_covers 2 _ (by decide +kernel) fun t hf y => ?_
  have ht := (flush0_2 t).mp hf
  blk_simp
  rw [after0_2]
  refine ((out_point m c t ht _).trans (sum_point m c t ht _)).trans ?_
  refine Eq.trans ?_ (ref_apply _ _ _).symm
  simp only [term]
  refine Fin.sum_mul_add_congr (n := 2048) fun s k hl => ?_
  idx_vars y
  congr 2 <;> blk_ext [idx t] <;> omega

end Cert.GradOutIdeal.Hand

end
-- ==== Proof.GradGlu.lean ====
/-
  The gate's weight gradient: each block's sum over the tokens is carried in the scratch through the eight points of its run.
-/
module

public import proofs.«01_k».proof.Proof.Gen.GradGluIdeal.Value
public import proofs.«01_k».proof.Proof.Gen.GradGluRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.GradGluIdeal.Hand

open Cert.GradGluIdeal Cert.GradGluIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin grid0.N, win0_0.index t = ![t.val % 8, 0] ∧ win0_1.index t = ![t.val % 8, 0]
    ∧ win0_2.index t = ![0, 0] := by decide +kernel

theorem ref_apply (x0 : FVec Ideal S16384x512 .f32) (x1 : FVec Ideal S16384x512 .f32) (i : S512x512.Idx) :
    Cert.GradGluRefIdeal.Read.val_main_v4 (F := Ideal) x0 x1 i = ∑ l : Fin 16384, x0 (ix2 l (i 0)) * x1 (ix2 l (i 1)) := by
  rw [← Cert.GradGluRefIdeal.Read.val_main_v4_eq]
  idx_vars i
  pointwise
  simp only [mul_comm (x1 _)]

abbrev h (c : Dev nD) : FVec Ideal S16384x512 .f32 := m ((c : Thread nD τ).loc main_arg0)
abbrev ct (c : Dev nD) : FVec Ideal S16384x512 .f32 := m ((c : Thread nD τ).loc main_arg1)

theorem row_lt (t : ℕ) (r : Fin 2048) : t % 8 * 2048 + r.val < 16384 := by omega

theorem k_lt (t : Fin cfg0.N) (i : Fin 512) : 0 * 512 + i.val < 512 := by
  have := t.isLt; have : cfg0.N = 8 := N_0; omega

theorem n_lt (t : Fin cfg0.N) (j : Fin 512) : 0 * 512 + j.val < 512 := by
  have := t.isLt; have : cfg0.N = 8 := N_0; omega

theorem blk_h (c : Dev nD) (t : Fin cfg0.N) (r : Fin 2048) (i : Fin 512) :
    iblk m c 0 t (ix2 r i) = h m c (ix2 ⟨t.val % 8 * 2048 + r.val, row_lt _ r⟩ ⟨0 * 512 + i.val, k_lt t i⟩) := by
  blk_ext [iblk, V, idx t]

theorem blk_ct (c : Dev nD) (t : Fin cfg0.N) (r : Fin 2048) (j : Fin 512) :
    iblk m c 1 t (ix2 r j) = ct m c (ix2 ⟨t.val % 8 * 2048 + r.val, row_lt _ r⟩ ⟨0 * 512 + j.val, n_lt t j⟩) := by
  blk_ext [iblk, V, idx t]

/-- What a point adds to its block's sum. -/
def term (c : Dev nD) (t : Fin cfg0.N) (j : S512x512.Idx) : EReal :=
  ∑ r : Fin 2048, h m c (ix2 ⟨t.val % 8 * 2048 + r.val, row_lt _ r⟩ ⟨0 * 512 + (j 0).val, k_lt t (j 0)⟩)
    * ct m c (ix2 ⟨t.val % 8 * 2048 + r.val, row_lt _ r⟩ ⟨0 * 512 + (j 1).val, n_lt t (j 1)⟩)

theorem step_point (c : Dev nD) (t : Fin cfg0.N) (v : Vec Ideal S512x512 .f32) (j : S512x512.Idx) :
    k0_pay2 v (iblk m c 0 t) (iblk m c 1 t) j = v j + term m c t j := by
  idx_vars j
  unfold_payloads
  pointwise
  simp only [blk_h, blk_ct]
  rfl

theorem zero_point (j : S512x512.Idx) : k0_pay1 (F := Ideal) j = 0 := by
  unfold_payloads
  pointwise

theorem sum_point (c : Dev nD) (t : Fin cfg0.N) (ht : t.val % 8 = 7) (j : S512x512.Idx) :
    (outsAt0 m c t.val t.isLt).2 j = ∑ s : Fin 8, term m c ⟨8 * (t.val / 8) + s.val, Pipeline.run_point_lt_of_flush t ht s⟩ j := by
  refine (Pipeline.eq_sum_fin_of_reset_step_apply_of_flush (fun n h => (outsAt0 m c n h).2) 8 (fun _ => 0) (term m c)
    (fun t h j => ?_) (fun t h j => ?_) t ht j).trans (zero_add _)
  · rw [outsAt0_A m c t h (by omega)]
    frame_out
    rw [step_point, zero_point]
  · by_cases h1 : t.val % 8 = 7
    · rw [outsAt0_C m c t h h1]
      frame_out
      rw [step_point]
      congr 1
      exact congrFun (Memref.IsWhole.read_unread _ _) _
    · rw [outsAt0_B m c t h h1]
      frame_out
      rw [step_point]
      congr 1
      exact congrFun (Memref.IsWhole.read_unread _ _) _

theorem out_point (c : Dev nD) (t : Fin cfg0.N) (ht : t.val % 8 = 7) (j : S512x512.Idx) :
    (outsAt0 m c t.val t.isLt).1 j = (outsAt0 m c t.val t.isLt).2 j := by
  rw [outsAt0_C m c t (by omega) ht]
  frame_out
  rfl

theorem out_eq (c : Dev nD) : (dats m 0 c).arrAt 2 cfg0.N
    = Cert.GradGluRefIdeal.Read.val_main_v4 (F := Ideal) (h m c) (ct m c) := by
  refine (dats m 0 c).arrAt_eq_of_covers 2 _ (by decide +kernel) fun t hf y => ?_
  have ht := (flush0_2 t).mp hf
  blk_simp
  rw [after0_2]
  refine ((out_point m c t ht _).trans (sum_point m c t ht _)).trans ?_
  refine Eq.trans ?_ (ref_apply _ _ _).symm
  simp only [term]
  refine Fin.sum_mul_add_congr (n := 2048) fun s k hl => ?_
  idx_vars y
  congr 2 <;> blk_ext [idx t] <;> omega

end Cert.GradGluIdeal.Hand

end
-- ==== Proof.GradIn.lean ====
/-
  The input projection's weight gradient: each block's sum over the tokens is carried in the scratch through the eight points of its run.
-/
module

public import proofs.«01_k».proof.Proof.Gen.GradInIdeal.Value
public import proofs.«01_k».proof.Proof.Gen.GradInRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.GradInIdeal.Hand

open Cert.GradInIdeal Cert.GradInIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin grid0.N, win0_0.index t = ![t.val % 8, 0] ∧ win0_1.index t = ![t.val % 8, t.val / 8]
    ∧ win0_2.index t = ![0, t.val / 8] := by decide +kernel

theorem ref_apply (x0 : FVec Ideal S16384x1024 .f32) (x1 : FVec Ideal S16384x2048 .f32) (i : S1024x2048.Idx) :
    Cert.GradInRefIdeal.Read.val_main_v4 (F := Ideal) x0 x1 i = ∑ l : Fin 16384, x0 (ix2 l (i 0)) * x1 (ix2 l (i 1)) := by
  rw [← Cert.GradInRefIdeal.Read.val_main_v4_eq]
  idx_vars i
  pointwise
  simp only [mul_comm (x1 _)]

abbrev h (c : Dev nD) : FVec Ideal S16384x1024 .f32 := m ((c : Thread nD τ).loc main_arg0)
abbrev ct (c : Dev nD) : FVec Ideal S16384x2048 .f32 := m ((c : Thread nD τ).loc main_arg1)

theorem row_lt (t : ℕ) (r : Fin 2048) : t % 8 * 2048 + r.val < 16384 := by omega

theorem k_lt (t : Fin cfg0.N) (i : Fin 1024) : 0 * 1024 + i.val < 1024 := by
  have := t.isLt; have : cfg0.N = 16 := N_0; omega

theorem n_lt (t : Fin cfg0.N) (j : Fin 1024) : t.val / 8 * 1024 + j.val < 2048 := by
  have := t.isLt; have : cfg0.N = 16 := N_0; omega

theorem blk_h (c : Dev nD) (t : Fin cfg0.N) (r : Fin 2048) (i : Fin 1024) :
    iblk m c 0 t (ix2 r i) = h m c (ix2 ⟨t.val % 8 * 2048 + r.val, row_lt _ r⟩ ⟨0 * 1024 + i.val, k_lt t i⟩) := by
  blk_ext [iblk, V, idx t]

theorem blk_ct (c : Dev nD) (t : Fin cfg0.N) (r : Fin 2048) (j : Fin 1024) :
    iblk m c 1 t (ix2 r j) = ct m c (ix2 ⟨t.val % 8 * 2048 + r.val, row_lt _ r⟩ ⟨t.val / 8 * 1024 + j.val, n_lt t j⟩) := by
  blk_ext [iblk, V, idx t]

/-- What a point adds to its block's sum. -/
def term (c : Dev nD) (t : Fin cfg0.N) (j : S1024x1024.Idx) : EReal :=
  ∑ r : Fin 2048, h m c (ix2 ⟨t.val % 8 * 2048 + r.val, row_lt _ r⟩ ⟨0 * 1024 + (j 0).val, k_lt t (j 0)⟩)
    * ct m c (ix2 ⟨t.val % 8 * 2048 + r.val, row_lt _ r⟩ ⟨t.val / 8 * 1024 + (j 1).val, n_lt t (j 1)⟩)

theorem step_point (c : Dev nD) (t : Fin cfg0.N) (v : Vec Ideal S1024x1024 .f32) (j : S1024x1024.Idx) :
    k0_pay2 v (iblk m c 0 t) (iblk m c 1 t) j = v j + term m c t j := by
  idx_vars j
  unfold_payloads
  pointwise
  simp only [blk_h, blk_ct]
  rfl

theorem zero_point (j : S1024x1024.Idx) : k0_pay1 (F := Ideal) j = 0 := by
  unfold_payloads
  pointwise

theorem sum_point (c : Dev nD) (t : Fin cfg0.N) (ht : t.val % 8 = 7) (j : S1024x1024.Idx) :
    (outsAt0 m c t.val t.isLt).2 j = ∑ s : Fin 8, term m c ⟨8 * (t.val / 8) + s.val, Pipeline.run_point_lt_of_flush t ht s⟩ j := by
  refine (Pipeline.eq_sum_fin_of_reset_step_apply_of_flush (fun n h => (outsAt0 m c n h).2) 8 (fun _ => 0) (term m c)
    (fun t h j => ?_) (fun t h j => ?_) t ht j).trans (zero_add _)
  · rw [outsAt0_A m c t h (by omega)]
    frame_out
    rw [step_point, zero_point]
  · by_cases h1 : t.val % 8 = 7
    · rw [outsAt0_C m c t h h1]
      frame_out
      rw [step_point]
      congr 1
      exact congrFun (Memref.IsWhole.read_unread _ _) _
    · rw [outsAt0_B m c t h h1]
      frame_out
      rw [step_point]
      congr 1
      exact congrFun (Memref.IsWhole.read_unread _ _) _

theorem out_point (c : Dev nD) (t : Fin cfg0.N) (ht : t.val % 8 = 7) (j : S1024x1024.Idx) :
    (outsAt0 m c t.val t.isLt).1 j = (outsAt0 m c t.val t.isLt).2 j := by
  rw [outsAt0_C m c t (by omega) ht]
  frame_out
  rfl

theorem out_eq (c : Dev nD) : (dats m 0 c).arrAt 2 cfg0.N
    = Cert.GradInRefIdeal.Read.val_main_v4 (F := Ideal) (h m c) (ct m c) := by
  refine (dats m 0 c).arrAt_eq_of_covers 2 _ (by decide +kernel) fun t hf y => ?_
  have ht := (flush0_2 t).mp hf
  blk_simp
  rw [after0_2]
  refine ((out_point m c t ht _).trans (sum_point m c t ht _)).trans ?_
  refine Eq.trans ?_ (ref_apply _ _ _).symm
  simp only [term]
  refine Fin.sum_mul_add_congr (n := 2048) fun s k hl => ?_
  idx_vars y
  congr 2 <;> blk_ext [idx t] <;> omega

end Cert.GradInIdeal.Hand

end
-- ==== Proof.MlpUp.lean ====
/-
  The up projection and its squared ReLU: each point's four column chunks tile its row block.
-/
module

public import proofs.«01_k».proof.Proof.Gen.MlpUpIdeal.Value
public import proofs.«01_k».proof.Proof.Gen.MlpUpRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.MlpUpIdeal.Hand

open Cert.MlpUpIdeal Cert.MlpUpIdeal.Gen Idealize.ShloMosaic Idealize.ShloMosaic.TcCoe Idealize.SL.Sem
open Idealize.ShloMosaic.Pipeline (Dat)
open Cert.MlpUpRefIdeal.Read

variable (m : (ℓ : Loc nD τ sig) → Buf (Elt Ideal) ℓ)

theorem idx : ∀ t : Fin grid0.N, win0_0.index t = ![t.val, 0] ∧ win0_1.index t = ![0, 0] ∧ win0_2.index t = ![t.val, 0]
    ∧ win0_3.index t = ![t.val, 0] := by decide +kernel

theorem ref_r (x0 : FVec Ideal S16384x1024 .f32) (x1 : FVec Ideal S1024x4096 .f32) (i : S16384x4096.Idx) :
    val_main_v2 (F := Ideal) x0 x1 i = max (∑ k : Fin 1024, x0 (ix2 (i 0) k) * x1 (ix2 k (i 1))) 0 := by
  rw [← val_main_v2_eq]
  idx_vars i
  pointwise

theorem ref_sq (x0 : FVec Ideal S16384x1024 .f32) (x1 : FVec Ideal S1024x4096 .f32) (i : S16384x4096.Idx) :
    val_main_v4 (F := Ideal) x0 x1 i = max (∑ k : Fin 1024, x0 (ix2 (i 0) k) * x1 (ix2 k (i 1))) 0
      * max (∑ k : Fin 1024, x0 (ix2 (i 0) k) * x1 (ix2 k (i 1))) 0 := by
  rw [← val_main_v4_eq]
  idx_vars i
  pointwise

abbrev h (c : Dev nD) : FVec Ideal S16384x1024 .f32 := m ((c : Thread nD τ).loc main_arg0)
abbrev w (c : Dev nD) : FVec Ideal S1024x4096 .f32 := m ((c : Thread nD τ).loc main_arg1)

theorem row_lt (t : Fin cfg0.N) (r : Fin 512) : t.val * 512 + r.val < 16384 := by
  have := t.isLt; have : cfg0.N = 32 := N_0; omega

theorem blk_h (c : Dev nD) (t : Fin cfg0.N) (r : Fin 512) (k : Fin 1024) :
    iblk m c 0 t (ix2 r k) = h m c (ix2 ⟨t.val * 512 + r.val, row_lt t r⟩ k) := by
  blk_ext [iblk, V, idx t]

theorem blk_w (c : Dev nD) (t : Fin cfg0.N) (k : Fin 1024) (l : Fin 4096) : iblk m c 1 t (ix2 k l) = w m c (ix2 k l) := by
  blk_ext [iblk, V, idx t]

theorem r_eq (c : Dev nD) : (dats m 0 c).arrAt 2 cfg0.N = val_main_v2 (F := Ideal) (h m c) (w m c) := by
  refine (dats m 0 c).arrAt_eq_of_covers 2 _ (by decide +kernel) fun t hf y => ?_
  blk_simp
  rw [after0_2]
  frame_out
  refine Eq.trans ?_ (ref_r _ _ _).symm
  canon_tiles x hx
  all_goals
    unfold_payloads
    idx_vars x
    pointwise
    simp only [blk_h, blk_w]
    blk_point [V, idx t]

theorem sq_eq (c : Dev nD) : (dats m 0 c).arrAt 3 cfg0.N = val_main_v4 (F := Ideal) (h m c) (w m c) := by
  refine (dats m 0 c).arrAt_eq_of_covers 3 _ (by decide +kernel) fun t hf y => ?_
  blk_simp
  rw [after0_3]
  frame_out
  refine Eq.trans ?_ (ref_sq _ _ _).symm
  canon_tiles x hx
  all_goals
    unfold_payloads
    idx_vars x
    pointwise
    simp only [blk_h, blk_w]
    blk_point [V, idx t]

end Cert.MlpUpIdeal.Hand

end
-- ==== Proof.MlpDownLoss.lean ====
/-
  The down projection with the residual, the loss's gradient and the sum of squares: the sum is added up over the grid's
  points, block of rows by block of rows.
-/
module

public import proofs.«01_k».proof.Proof.Gen.MlpDownLossIdeal.Value
public import proofs.«01_k».proof.Proof.Gen.MlpDownLossRefIdeal.Read
public import proofs.«01_k».proof.Proof.Norm
public import Idealize.ShloMosaic.Lib.Pipeline.ValueKit
public import Idealize.ShloMosaic.Lib.Pointwise
public import Idealize.ShloMosaic.Lib.Claim

@[expose] public section

set_option maxRecDepth 16384

noncomputable section

namespace Cert.MlpDownLossIdeal.Hand

open Cert.MlpDownLossIdeal Cert.MlpDownLossIdeal.Gen Idealize.ShloMosaic Idealize.ShloMosaic.TcCoe Idealize.SL.Sem
open Idealize.ShloMosaic.Pipeline (Dat)
open Cert.MlpDownLossRefIdeal.Read

variable (m : (ℓ : Loc nD τ sig) → Buf (Elt Ideal) ℓ)

theorem idx : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] := by
  decide +kernel

theorem half_word : Ideal.ofBits .f32 0x3F000000#32 = ((1 / 2 : ℝ) : EReal) := by
  simp [Ideal.ofBits, Ideal.ieee, -EReal.coe_mul]; norm_num

theorem inv_word : Ideal.ofBits .f32 0x3A800000#32 = ((1 / 1024 : ℝ) : EReal) := by
  simp [Ideal.ofBits, Ideal.ieee, -EReal.coe_mul]; norm_num

/-- The difference between the row's output and its target. -/
def diff (x0 : FVec Ideal S16384x4096 .f32) (x1 : FVec Ideal S4096x1024 .f32) (x2 x3 : FVec Ideal S16384x1024 .f32) (r : Fin 16384)
    (l : Fin 1024) : EReal :=
  x2 (ix2 r l) + (∑ k : Fin 4096, x0 (ix2 r k) * x1 (ix2 k l)) - x3 (ix2 r l)

theorem scale_eq (d : EReal) :
    Ideal.div (Ideal.ofBits .f32 0x3F000000#32) (Ideal.ofBits .f32 0x44800000#32)
        * (Ideal.ofBits .f32 0x40000000#32 * d)
      = d * Ideal.ofBits .f32 0x3A800000#32 := by
  rw [half_word, inv_word, Cert.Norm.width_word, Cert.Norm.two_word, Ideal.div_coe (by norm_num), ← mul_assoc, mul_comm d]
  congr 1
  norm_cast
  norm_num

theorem ref_dy (x0 : FVec Ideal S16384x4096 .f32) (x1 : FVec Ideal S4096x1024 .f32) (x2 x3 : FVec Ideal S16384x1024 .f32) (i : S16384x1024.Idx) :
    val_main_v16 (F := Ideal) x0 x1 x2 x3 i = diff x0 x1 x2 x3 (i 0) (i 1) * Ideal.ofBits .f32 0x3A800000#32 := by
  rw [← val_main_v16_eq]
  idx_vars i
  pointwise
  exact scale_eq _

theorem ref_dyb (x0 : FVec Ideal S16384x4096 .f32) (x1 : FVec Ideal S4096x1024 .f32) (x2 x3 : FVec Ideal S16384x1024 .f32) (i : S16384x1024.Idx) :
    val_main_v17 (F := Ideal) x0 x1 x2 x3 i = diff x0 x1 x2 x3 (i 0) (i 1) * Ideal.ofBits .f32 0x3A800000#32 := by
  refine Eq.trans ?_ (ref_dy x0 x1 x2 x3 i)
  rfl

theorem ref_sse (x0 : FVec Ideal S16384x4096 .f32) (x1 : FVec Ideal S4096x1024 .f32) (x2 x3 : FVec Ideal S16384x1024 .f32) (i : S1x1.Idx) :
    val_main_v21 (F := Ideal) x0 x1 x2 x3 i = ∑ r : Fin 16384, ∑ l : Fin 1024, diff x0 x1 x2 x3 r l * diff x0 x1 x2 x3 r l := by
  rw [← val_main_v21_eq]
  idx_vars i
  pointwise
  rfl

abbrev hdn (c : Dev nD) : FVec Ideal S16384x4096 .f32 := m ((c : Thread nD τ).loc main_arg0)
abbrev w (c : Dev nD) : FVec Ideal S4096x1024 .f32 := m ((c : Thread nD τ).loc main_arg1)
abbrev x2 (c : Dev nD) : FVec Ideal S16384x1024 .f32 := m ((c : Thread nD τ).loc main_arg2)
abbrev tgt (c : Dev nD) : FVec Ideal S16384x1024 .f32 := m ((c : Thread nD τ).loc main_arg3)

theorem row_lt (t : Fin cfg0.N) (r : Fin 512) : t.val * 512 + r.val < 16384 := by
  have := t.isLt; have : cfg0.N = 32 := N_0; omega

theorem blk_hdn (c : Dev nD) (t : Fin cfg0.N) (r : Fin 512) (k : Fin 4096) :
    iblk m c 0 t (ix2 r k) = hdn m c (ix2 ⟨t.val * 512 + r.val, row_lt t r⟩ k) := by
  blk_ext [iblk, V, idx t]

theorem blk_w (c : Dev nD) (t : Fin cfg0.N) (k : Fin 4096) (l : Fin 1024) : iblk m c 1 t (ix2 k l) = w m c (ix2 k l) := by
  blk_ext [iblk, V, idx t]

theorem blk_x2 (c : Dev nD) (t : Fin cfg0.N) (r : Fin 512) (k : Fin 1024) :
    iblk m c 2 t (ix2 r k) = x2 m c (ix2 ⟨t.val * 512 + r.val, row_lt t r⟩ k) := by
  blk_ext [iblk, V, idx t]

theorem blk_tgt (c : Dev nD) (t : Fin cfg0.N) (r : Fin 512) (k : Fin 1024) :
    iblk m c 3 t (ix2 r k) = tgt m c (ix2 ⟨t.val * 512 + r.val, row_lt t r⟩ k) := by
  blk_ext [iblk, V, idx t]

/-- The point's difference is the array's. -/
theorem diff_point (c : Dev nD) (t : Fin cfg0.N) (r : Fin 512) (l : Fin 1024) :
    k0_pay1 (iblk m c 2 t) (iblk m c 0 t) (iblk m c 1 t) (iblk m c 3 t) (ix2 r l)
      = diff (hdn m c) (w m c) (x2 m c) (tgt m c) ⟨t.val * 512 + r.val, row_lt t r⟩ l := by
  unfold_payloads
  pointwise
  simp only [blk_hdn, blk_w, blk_x2, blk_tgt]
  rfl

theorem pay_dy (v0 : Vec Ideal S512x1024 .f32) (v1 : Vec Ideal S512x4096 .bf16) (v3 : Vec Ideal S4096x1024 .bf16) (v7 : Vec Ideal S512x1024 .f32)
    (i : S512x1024.Idx) : k0_pay2 v0 v1 v3 v7 i = k0_pay1 v0 v1 v3 v7 i * Ideal.ofBits .f32 0x3A800000#32 := rfl

theorem pay_sse (v0 : Vec Ideal S512x1024 .f32) (v1 : Vec Ideal S512x4096 .bf16) (v3 : Vec Ideal S4096x1024 .bf16) (v7 : Vec Ideal S512x1024 .f32)
    (v : Vec Ideal S1x1 .f32) :
    k0_pay5 v0 v1 v3 v7 v (ix2 0 0) = v (ix2 0 0) + ∑ l : Fin 1024, ∑ r : Fin 512, k0_pay1 v0 v1 v3 v7 (ix2 r l) * k0_pay1 v0 v1 v3 v7 (ix2 r l) := by
  simp only [k0_pay5]
  generalize k0_pay1 v0 v1 v3 v7 = d
  pointwise

theorem pay_zero : k0_pay4 (F := Ideal) (ix2 0 0) = 0 := by
  unfold_payloads
  pointwise

/-- What the point adds to the sum of squares. -/
def term (c : Dev nD) (t : ℕ) (h : t < cfg0.N) : EReal :=
  ∑ r : Fin 512, ∑ l : Fin 1024, diff (hdn m c) (w m c) (x2 m c) (tgt m c) ⟨t * 512 + r.val, row_lt ⟨t, h⟩ r⟩ l
    * diff (hdn m c) (w m c) (x2 m c) (tgt m c) ⟨t * 512 + r.val, row_lt ⟨t, h⟩ r⟩ l

theorem sse_point (c : Dev nD) (t : Fin cfg0.N) (v : Vec Ideal S1x1 .f32) (j : S1x1.Idx) :
    k0_pay5 (iblk m c 2 t) (iblk m c 0 t) (iblk m c 1 t) (iblk m c 3 t) v j = v j + term m c t.val t.isLt := by
  idx_vars j
  obtain rfl : j0 = 0 := Subsingleton.elim _ _
  obtain rfl : j1 = 0 := Subsingleton.elim _ _
  refine (pay_sse _ _ _ _ _).trans ?_
  simp only [diff_point]
  rw [Finset.sum_comm]
  rfl

def last : Fin cfg0.N := ⟨31, by decide⟩

theorem sse_eq (c : Dev nD) : (dats m 0 c).arrAt 6 cfg0.N = val_main_v21 (F := Ideal) (hdn m c) (w m c) (x2 m c) (tgt m c) := by
  refine (dats m 0 c).arrAt_eq_of_after_last 6 last (by decide +kernel) _ fun j => ?_
  blk_simp
  rw [after0_6]
  refine (Pipeline.eq_sum_fin_of_reset_step_apply_last (fun n h => (outsAt0 m c n h).2.2) 32 (fun _ => 0) (fun t _ => term m c t.val t.isLt)
    (fun t h j => by
      rw [outsAt0_A m c t h]; frame_out; rw [sse_point]; congr 1
      idx_vars j
      obtain rfl : j0 = 0 := Subsingleton.elim _ _
      obtain rfl : j1 = 0 := Subsingleton.elim _ _
      exact pay_zero)
    (fun t h j => by rw [outsAt0_B m c t h]; frame_out; rw [sse_point]) N_0.le last rfl j).trans ?_
  rw [zero_add, ref_sse]
  simp only [term]
  refine Fin.sum_mul_add_congr (n := 512) fun t k hl => ?_
  rfl

theorem dy_point (c : Dev nD) (t : Fin cfg0.N) (r : Fin 512) (l : Fin 1024) :
    k0_pay2 (iblk m c 2 t) (iblk m c 0 t) (iblk m c 1 t) (iblk m c 3 t) (ix2 r l)
      = val_main_v16 (F := Ideal) (hdn m c) (w m c) (x2 m c) (tgt m c) (ix2 ⟨t.val * 512 + r.val, row_lt t r⟩ l) := by
  rw [pay_dy, diff_point]
  refine Eq.trans ?_ (ref_dy _ _ _ _ (ix2 ⟨t.val * 512 + r.val, row_lt t r⟩ l)).symm
  rfl

theorem dyb_point (c : Dev nD) (t : Fin cfg0.N) (r : Fin 512) (l : Fin 1024) :
    k0_pay3 (iblk m c 2 t) (iblk m c 0 t) (iblk m c 1 t) (iblk m c 3 t) (ix2 r l)
      = val_main_v17 (F := Ideal) (hdn m c) (w m c) (x2 m c) (tgt m c) (ix2 ⟨t.val * 512 + r.val, row_lt t r⟩ l) :=
  dy_point m c t r l

theorem dy_eq (c : Dev nD) :
    (dats m 0 c).arrAt 4 cfg0.N = val_main_v16 (F := Ideal) (hdn m c) (w m c) (x2 m c) (tgt m c) := by
  refine (dats m 0 c).arrAt_eq_of_covers 4 _ (by decide +kernel) fun t hf y => ?_
  blk_simp
  rw [after0_4]
  by_cases h : t.val % 32 = 0
  · rw [outsAt0_A m c t h]
    frame_out
    idx_vars y
    refine (dy_point m c t _ _).trans ?_
    congr 1
    blk_ext [idx t]
  · rw [outsAt0_B m c t h]
    frame_out
    idx_vars y
    refine (dy_point m c t _ _).trans ?_
    congr 1
    blk_ext [idx t]

theorem dyb_eq (c : Dev nD) :
    (dats m 0 c).arrAt 5 cfg0.N = val_main_v17 (F := Ideal) (hdn m c) (w m c) (x2 m c) (tgt m c) := by
  refine (dats m 0 c).arrAt_eq_of_covers 5 _ (by decide +kernel) fun t hf y => ?_
  blk_simp
  rw [after0_5]
  by_cases h : t.val % 32 = 0
  · rw [outsAt0_A m c t h]
    frame_out
    idx_vars y
    refine (dyb_point m c t _ _).trans ?_
    congr 1
    blk_ext [idx t]
  · rw [outsAt0_B m c t h]
    frame_out
    idx_vars y
    refine (dyb_point m c t _ _).trans ?_
    congr 1
    blk_ext [idx t]

end Cert.MlpDownLossIdeal.Hand

end
-- ==== Proof.FwdMix.lean ====
/-
  The mixer's forward call: the GELU with its gate, the two head groups' norms, the output projection with the residual and the
  second norm. The reference's product over both groups is the sum of the kernel's two.
-/
module

public import proofs.«01_k».proof.Proof.Gen.FwdMixIdeal.Value
public import proofs.«01_k».proof.Proof.Gen.FwdMixRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.FwdMixIdeal.Hand

open Cert.FwdMixIdeal Cert.FwdMixIdeal.Gen Idealize.ShloMosaic Idealize.ShloMosaic.TcCoe Idealize.SL.Sem
open Idealize.ShloMosaic.Pipeline (Dat)
open Cert.FwdMixRefIdeal.Read

variable (m : (ℓ : Loc nD τ sig) → Buf (Elt Ideal) ℓ)

theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![t.val, 0] ∧ win0_10.index t = ![t.val, 0] ∧ win0_11.index t = ![t.val, 0] := by
  decide +kernel

/-- The GELU, by its hyperbolic tangent. -/
def gelu (y : EReal) : EReal :=
  Ideal.ofBits .f32 0x3F000000#32 * y
    * (1 + Ideal.tanh (Ideal.ofBits .f32 0x3F4C422A#32 * (y + Ideal.ofBits .f32 0x3D372713#32 * (y * y * y))))

/-- An element of the gated row. -/
def glu (y : Fin 512 → EReal) (w : Fin 512 → Fin 512 → EReal) (b : Fin 512 → EReal) (l : Fin 512) : EReal :=
  gelu (y l) * Ideal.logistic ((∑ k, gelu (y k) * w k l) + b l)

/-- A row's scale, of 512 elements. -/
def scale (x : Fin 512 → EReal) : EReal :=
  Ideal.rsqrt (Ideal.div (∑ k, x k * x k) (Ideal.ofBits .f32 0x44000000#32) + Ideal.ofBits .f32 0x358637BD#32)

/-- A row's scale, of 1024 elements. -/
def scale2 (x : Fin 1024 → EReal) : EReal :=
  Ideal.rsqrt (Ideal.div (∑ k, x k * x k) (Ideal.ofBits .f32 0x44800000#32) + Ideal.ofBits .f32 0x358637BD#32)

theorem ref_glu (x1 : FVec Ideal S16384x512 .f32) (x3 : FVec Ideal S512x512 .f32) (x4 : FVec Ideal S1x512 .f32) (r : Fin 16384) (l : Fin 512) :
    val_main_v24 (F := Ideal) x1 x3 x4 (ix2 r l)
      = glu (fun k => x1 (ix2 r k)) (fun k l => x3 (ix2 k l)) (fun l => x4 (ix2 0 l)) l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3, val_main_cst_4]
  have hg (y : EReal) : y * (Ideal.ofBits .f32 0x3F000000#32
      * (1 + Ideal.tanh (Ideal.ofBits .f32 0x3F4C422A#32 * (y + Ideal.ofBits .f32 0x3D372713#32 * (y * y * y))))) = gelu y := by
    rw [← mul_assoc, mul_comm y (Ideal.ofBits _ _)]; rfl
  simp only [hg]
  rfl

/-- An element of the mixed row: attention's half, then the other. -/
def mixed (a s : Fin 512 → EReal) (ga gs : Fin 512 → EReal) (k : Fin 1024) : EReal :=
  if h : k.val < 512 then a ⟨k.val, h⟩ * scale a * ga ⟨k.val, h⟩
  else s ⟨k.val - 512, by omega⟩ * scale s * gs ⟨k.val - 512, by omega⟩

theorem ref_mixed (x0 x1 : FVec Ideal S16384x512 .f32) (x3 : FVec Ideal S512x512 .f32) (x4 x5 x6 : FVec Ideal S1x512 .f32) (r : Fin 16384)
    (k : Fin 1024) :
    val_main_v53 (F := Ideal) x0 x1 x3 x4 x5 x6 (ix2 r k)
      = mixed (fun k => x0 (ix2 r k)) (fun l => val_main_v24 (F := Ideal) x1 x3 x4 (ix2 r l)) (fun l => x5 (ix2 0 l)) (fun l => x6 (ix2 0 l)) k := by
  pointwise [val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_cst_5, val_main_cst_6, val_main_cst_7, val_main_cst_8, val_main_cst_9, val_main_cst_10]
  rfl

/-- An element of the residual stream after the projection. -/
def res (x : Fin 1024 → EReal) (m : Fin 1024 → EReal) (w : Fin 1024 → Fin 1024 → EReal) (l : Fin 1024) : EReal :=
  x l + ∑ k, m k * w k l

/-- The row of the residual stream, by the reference's own mixed row. -/
theorem ref_res (x0 x1 : FVec Ideal S16384x512 .f32) (x2 : FVec Ideal S16384x1024 .f32) (x3 : FVec Ideal S512x512 .f32)
    (x4 x5 x6 : FVec Ideal S1x512 .f32) (x7 : FVec Ideal S1024x1024 .f32) (r : Fin 16384) (l : Fin 1024) :
    val_main_v55 (F := Ideal) x0 x1 x2 x3 x4 x5 x6 x7 (ix2 r l)
      = res (fun l => x2 (ix2 r l)) (fun k => val_main_v53 (F := Ideal) x0 x1 x3 x4 x5 x6 (ix2 r k)) (fun k l => x7 (ix2 k l)) l := by
  pointwise [val_main_v54, val_main_v55]
  rfl

theorem ref_h (x0 x1 : FVec Ideal S16384x512 .f32) (x2 : FVec Ideal S16384x1024 .f32) (x3 : FVec Ideal S512x512 .f32)
    (x4 x5 x6 : FVec Ideal S1x512 .f32) (x7 : FVec Ideal S1024x1024 .f32) (x8 : FVec Ideal S1x1024 .f32) (r : Fin 16384) (l : Fin 1024) :
    val_main_v71 (F := Ideal) x0 x1 x2 x3 x4 x5 x6 x7 x8 (ix2 r l)
      = val_main_v55 (F := Ideal) x0 x1 x2 x3 x4 x5 x6 x7 (ix2 r l)
        * scale2 (fun l => val_main_v55 (F := Ideal) x0 x1 x2 x3 x4 x5 x6 x7 (ix2 r l)) * x8 (ix2 0 l) := by
  pointwise [val_main_v57, val_main_v58, val_main_v59, val_main_v60, val_main_v61, val_main_v62, val_main_v63, val_main_v64, val_main_v65, val_main_v66, val_main_v67, val_main_v68, val_main_v69, val_main_v70, val_main_v71, val_main_cst_11, val_main_cst_12, val_main_cst_13]
  rfl

theorem ref_mix (x0 x1 : FVec Ideal S16384x512 .f32) (x3 : FVec Ideal S512x512 .f32) (x4 x5 x6 : FVec Ideal S1x512 .f32)
    (i : S16384x1024.Idx) :
    val_main_v56 (F := Ideal) x0 x1 x3 x4 x5 x6 i = val_main_v53 (F := Ideal) x0 x1 x3 x4 x5 x6 i := by
  idx_vars i
  pointwise [val_main_v56]

/-! ## The kernel's rows -/

theorem pay_attn (a : FVec Ideal S1024x512 .f32) (g : FVec Ideal S1x512 .f32) (r : Fin 1024) (l : Fin 512) :
    k0_pay2 (F := Ideal) a g (ix2 r l) = a (ix2 r l) * scale (fun k => a (ix2 r k)) * g (ix2 0 l) := by
  simp only [k0_pay2]
  pointwise
  rfl

theorem pay_glu (y : FVec Ideal S1024x512 .f32) (w : FVec Ideal S512x512 .bf16) (b : FVec Ideal S1x512 .f32) (r : Fin 1024) (l : Fin 512) :
    k0_pay3 (F := Ideal) y w b (ix2 r l) = glu (fun k => y (ix2 r k)) (fun k l => w (ix2 k l)) (fun l => b (ix2 0 l)) l := by
  simp only [k0_pay3]
  pointwise
  rfl

theorem pay_ssm (y : FVec Ideal S1024x512 .f32) (w : FVec Ideal S512x512 .bf16) (b g : FVec Ideal S1x512 .f32) (r : Fin 1024) (l : Fin 512) :
    k0_pay5 (F := Ideal) (k0_pay3 (F := Ideal) y w b) (k0_pay4 (F := Ideal) y w b) g (ix2 r l)
      = k0_pay3 (F := Ideal) y w b (ix2 r l) * scale (fun k => k0_pay3 (F := Ideal) y w b (ix2 r k)) * g (ix2 0 l) := by
  simp only [k0_pay5, k0_pay4]
  generalize k0_pay3 (F := Ideal) y w b = s
  pointwise
  rfl

theorem pay_res (a : FVec Ideal S1024x512 .bf16) (s : FVec Ideal S1024x512 .f32) (q : FVec Ideal S1024 .f32) (g : FVec Ideal S1x512 .f32)
    (x : FVec Ideal S1024x1024 .f32) (u v : FVec Ideal S512x1024 .bf16) (r : Fin 1024) (l : Fin 1024) :
    k0_pay6 (F := Ideal) a s q g x u v (ix2 r l)
      = x (ix2 r l) + ((∑ k, a (ix2 r k) * u (ix2 k l)) + ∑ k, k0_pay5 (F := Ideal) s q g (ix2 r k) * v (ix2 k l)) := by
  simp only [k0_pay6]
  generalize k0_pay5 (F := Ideal) s q g = p
  pointwise

theorem pay_h (a : FVec Ideal S1024x512 .bf16) (s : FVec Ideal S1024x512 .f32) (q : FVec Ideal S1024 .f32) (g : FVec Ideal S1x512 .f32)
    (x : FVec Ideal S1024x1024 .f32) (u v : FVec Ideal S512x1024 .bf16) (n : FVec Ideal S1x1024 .f32) (r : Fin 1024) (l : Fin 1024) :
    k0_pay1 (F := Ideal) (k0_pay7 (F := Ideal) a s q g x u v) n (ix2 r l)
      = k0_pay6 (F := Ideal) a s q g x u v (ix2 r l) * scale2 (fun l => k0_pay6 (F := Ideal) a s q g x u v (ix2 r l)) * n (ix2 0 l) := by
  simp only [k0_pay1, k0_pay7]
  generalize k0_pay6 (F := Ideal) a s q g x u v = p
  pointwise
  rfl

/-! ## The blocks -/

abbrev at_ (c : Dev nD) : FVec Ideal S16384x512 .f32 := m ((c : Thread nD τ).loc main_arg0)
abbrev y (c : Dev nD) : FVec Ideal S16384x512 .f32 := m ((c : Thread nD τ).loc main_arg1)
abbrev x (c : Dev nD) : FVec Ideal S16384x1024 .f32 := m ((c : Thread nD τ).loc main_arg2)
abbrev gw (c : Dev nD) : FVec Ideal S512x512 .f32 := m ((c : Thread nD τ).loc main_arg3)
abbrev gb (c : Dev nD) : FVec Ideal S1x512 .f32 := m ((c : Thread nD τ).loc main_arg4)
abbrev ga (c : Dev nD) : FVec Ideal S1x512 .f32 := m ((c : Thread nD τ).loc main_arg5)
abbrev gs (c : Dev nD) : FVec Ideal S1x512 .f32 := m ((c : Thread nD τ).loc main_arg6)
abbrev w (c : Dev nD) : FVec Ideal S1024x1024 .f32 := m ((c : Thread nD τ).loc main_arg7)
abbrev g2 (c : Dev nD) : FVec Ideal S1x1024 .f32 := m ((c : Thread nD τ).loc main_arg8)

theorem row_lt (t : Fin cfg0.N) (r : Fin 1024) : t.val * 1024 + r.val < 16384 := by
  have := t.isLt; have : cfg0.N = 16 := N_0; omega

/-- The array's row that is row `r` of point `t`'s block. -/
abbrev row (t : Fin cfg0.N) (r : Fin 1024) : Fin 16384 := ⟨t.val * 1024 + r.val, row_lt t r⟩

theorem blk_at (c : Dev nD) (t : Fin cfg0.N) (r : Fin 1024) (k : Fin 512) : iblk m c 0 t (ix2 r k) = at_ m c (ix2 (row t r) k) := by
  blk_ext [iblk, V, idx t]
theorem blk_y (c : Dev nD) (t : Fin cfg0.N) (r : Fin 1024) (k : Fin 512) : iblk m c 1 t (ix2 r k) = y m c (ix2 (row t r) k) := by
  blk_ext [iblk, V, idx t]
theorem blk_x (c : Dev nD) (t : Fin cfg0.N) (r : Fin 1024) (k : Fin 1024) : iblk m c 2 t (ix2 r k) = x m c (ix2 (row t r) k) := by
  blk_ext [iblk, V, idx t]
theorem blk_gw (c : Dev nD) (t : Fin cfg0.N) (k l : Fin 512) : iblk m c 3 t (ix2 k l) = gw m c (ix2 k l) := by
  blk_ext [iblk, V, idx t]
theorem blk_gb (c : Dev nD) (t : Fin cfg0.N) (l : Fin 512) : iblk m c 4 t (ix2 0 l) = gb m c (ix2 0 l) := by
  blk_ext [iblk, V, idx t]
theorem blk_ga (c : Dev nD) (t : Fin cfg0.N) (l : Fin 512) : iblk m c 5 t (ix2 0 l) = ga m c (ix2 0 l) := by
  blk_ext [iblk, V, idx t]
theorem blk_gs (c : Dev nD) (t : Fin cfg0.N) (l : Fin 512) : iblk m c 6 t (ix2 0 l) = gs m c (ix2 0 l) := by
  blk_ext [iblk, V, idx t]
theorem blk_w (c : Dev nD) (t : Fin cfg0.N) (k l : Fin 1024) : iblk m c 7 t (ix2 k l) = w m c (ix2 k l) := by
  blk_ext [iblk, V, idx t]
theorem blk_g2 (c : Dev nD) (t : Fin cfg0.N) (l : Fin 1024) : iblk m c 8 t (ix2 0 l) = g2 m c (ix2 0 l) := by
  blk_ext [iblk, V, idx t]

theorem blk_glu (c : Dev nD) (t : Fin cfg0.N) (r : Fin 1024) (l : Fin 512) :
    k0_pay3 (F := Ideal) (iblk m c 1 t) (iblk m c 3 t) (iblk m c 4 t) (ix2 r l)
      = val_main_v24 (F := Ideal) (y m c) (gw m c) (gb m c) (ix2 (row t r) l) := by
  rw [ref_glu]
  refine (pay_glu _ _ _ _ _).trans ?_
  simp only [blk_y, blk_gw, blk_gb]

theorem lo_eq (c : Dev nD) (t : Fin cfg0.N) (r : Fin 1024) (l : Fin 512) (k : Fin 1024) (hk : k.val = l.val) :
    k0_pay2 (F := Ideal) (iblk m c 0 t) (iblk m c 5 t) (ix2 r l)
      = val_main_v53 (F := Ideal) (at_ m c) (y m c) (gw m c) (gb m c) (ga m c) (gs m c) (ix2 (row t r) k) := by
  rw [ref_mixed, mixed, dif_pos (by omega)]
  refine (pay_attn _ _ _ _).trans ?_
  simp only [blk_at, blk_ga, hk]

theorem hi_eq (c : Dev nD) (t : Fin cfg0.N) (r : Fin 1024) (l : Fin 512) (k : Fin 1024) (hk : k.val = 512 + l.val) :
    k0_pay5 (F := Ideal) (k0_pay3 (F := Ideal) (iblk m c 1 t) (iblk m c 3 t) (iblk m c 4 t)) (k0_pay4 (F := Ideal) (iblk m c 1 t) (iblk m c 3 t) (iblk m c 4 t)) (iblk m c 6 t) (ix2 r l)
      = val_main_v53 (F := Ideal) (at_ m c) (y m c) (gw m c) (gb m c) (ga m c) (gs m c) (ix2 (row t r) k) := by
  rw [ref_mixed, mixed, dif_neg (by omega)]
  refine (pay_ssm _ _ _ _ _ _).trans ?_
  have hl : (⟨k.val - 512, by omega⟩ : Fin 512) = l := Fin.ext (by simp only [hk]; omega)
  simp only [blk_glu, blk_gs, hl]

theorem open_8 (c : Dev nD) (t : Fin cfg0.N) : k0_pay8 (F := Ideal) (iblk m c 0 t) (iblk m c 1 t) (iblk m c 2 t) (iblk m c 3 t) (iblk m c 4 t) (iblk m c 5 t) (iblk m c 6 t) (iblk m c 7 t) (iblk m c 8 t)
    = k0_pay2 (F := Ideal) (iblk m c 0 t) (iblk m c 5 t) := by
  simp (disch := decide) only [k0_pay8, View.ld_unit_lit']

theorem open_9 (c : Dev nD) (t : Fin cfg0.N) : k0_pay9 (F := Ideal) (iblk m c 0 t) (iblk m c 1 t) (iblk m c 2 t) (iblk m c 3 t) (iblk m c 4 t) (iblk m c 5 t) (iblk m c 6 t) (iblk m c 7 t) (iblk m c 8 t)
    = k0_pay3 (F := Ideal) (iblk m c 1 t) (iblk m c 3 t) (iblk m c 4 t) := by
  simp (disch := decide) only [k0_pay9, View.ld_unit_lit']

theorem open_10 (c : Dev nD) (t : Fin cfg0.N) : k0_pay10 (F := Ideal) (iblk m c 0 t) (iblk m c 1 t) (iblk m c 2 t) (iblk m c 3 t) (iblk m c 4 t) (iblk m c 5 t) (iblk m c 6 t) (iblk m c 7 t) (iblk m c 8 t)
    = k0_pay4 (F := Ideal) (iblk m c 1 t) (iblk m c 3 t) (iblk m c 4 t) := by
  simp (disch := decide) only [k0_pay10, View.ld_unit_lit']

theorem mix_eq (c : Dev nD) : (dats m 0 c).arrAt 9 cfg0.N
    = val_main_v56 (F := Ideal) (at_ m c) (y m c) (gw m c) (gb m c) (ga m c) (gs m c) := by
  refine (dats m 0 c).arrAt_eq_of_covers 9 _ (by decide +kernel) fun t hf y => ?_
  blk_simp
  rw [after0_9]
  frame_out
  refine Eq.trans ?_ (ref_mix _ _ _ _ _ _ _).symm
  canon_tiles x hx
  · simp only [open_9, open_10]
    idx_vars x
    refine (hi_eq m c t _ _ ⟨512 + x1.val, by omega⟩ rfl).trans ?_
    blk_point [V, idx t]
  · simp only [open_8]
    idx_vars x
    refine (lo_eq m c t _ _ ⟨x1.val, by omega⟩ rfl).trans ?_
    blk_point [V, idx t]

theorem blk_res (c : Dev nD) (t : Fin cfg0.N) (r : Fin 1024) (l : Fin 1024) :
    k0_pay6 (F := Ideal) (k0_pay2 (F := Ideal) (iblk m c 0 t) (iblk m c 5 t))
        (k0_pay3 (F := Ideal) (iblk m c 1 t) (iblk m c 3 t) (iblk m c 4 t)) (k0_pay4 (F := Ideal) (iblk m c 1 t) (iblk m c 3 t) (iblk m c 4 t)) (iblk m c 6 t)
        (iblk m c 2 t) (View.ld (iblk m c 7 t) r0_6) (View.ld (iblk m c 7 t) r0_7) (ix2 r l)
      = val_main_v55 (F := Ideal) (at_ m c) (y m c) (x m c) (gw m c) (gb m c) (ga m c) (gs m c) (w m c) (ix2 (row t r) l) := by
  rw [ref_res, res, Fin.sum_univ_add (a := 512) (b := 512)]
  refine (pay_res _ _ _ _ _ _ _ _ _).trans ?_
  refine congrArg₂ (· + ·) (blk_x m c t r l) (congrArg₂ (· + ·) ?_ ?_)
  · refine Finset.sum_congr rfl fun k _ => congrArg₂ (· * ·) (lo_eq m c t r k _ rfl) ?_
    refine Eq.trans ?_ (blk_w m c t (Fin.castAdd 512 k) l)
    pointwise
    rfl
  · refine Finset.sum_congr rfl fun k _ => congrArg₂ (· * ·) (hi_eq m c t r k _ rfl) ?_
    refine Eq.trans ?_ (blk_w m c t (Fin.natAdd 512 k) l)
    pointwise
    rfl

theorem blk_h (c : Dev nD) (t : Fin cfg0.N) (r : Fin 1024) (l : Fin 1024) :
    k0_pay1 (F := Ideal) (k0_pay7 (F := Ideal) (k0_pay2 (F := Ideal) (iblk m c 0 t) (iblk m c 5 t))
        (k0_pay3 (F := Ideal) (iblk m c 1 t) (iblk m c 3 t) (iblk m c 4 t)) (k0_pay4 (F := Ideal) (iblk m c 1 t) (iblk m c 3 t) (iblk m c 4 t)) (iblk m c 6 t)
        (iblk m c 2 t) (View.ld (iblk m c 7 t) r0_6) (View.ld (iblk m c 7 t) r0_7)) (iblk m c 8 t) (ix2 r l)
      = val_main_v71 (F := Ideal) (at_ m c) (y m c) (x m c) (gw m c) (gb m c) (ga m c) (gs m c) (w m c) (g2 m c) (ix2 (row t r) l) := by
  rw [ref_h]
  refine (pay_h _ _ _ _ _ _ _ _ _ _).trans ?_
  refine congrArg₂ (· * ·) (congrArg₂ (· * ·) (blk_res m c t r l) (congrArg scale2 (funext fun l => blk_res m c t r l))) (blk_g2 m c t l)

theorem res_eq (c : Dev nD) : (dats m 0 c).arrAt 10 cfg0.N
    = val_main_v55 (F := Ideal) (at_ m c) (y m c) (x m c) (gw m c) (gb m c) (ga m c) (gs m c) (w m c) := by
  refine (dats m 0 c).arrAt_eq_of_covers 10 _ (by decide +kernel) fun t hf y => ?_
  blk_simp
  rw [after0_10]
  frame_out
  simp only [open_8, open_9, open_10]
  idx_vars y
  refine (blk_res m c t _ _).trans ?_
  blk_point [V, idx t]

theorem h_eq (c : Dev nD) : (dats m 0 c).arrAt 11 cfg0.N
    = val_main_v71 (F := Ideal) (at_ m c) (y m c) (x m c) (gw m c) (gb m c) (ga m c) (gs m c) (w m c) (g2 m c) := by
  refine (dats m 0 c).arrAt_eq_of_covers 11 _ (by decide +kernel) fun t hf y => ?_
  blk_simp
  rw [after0_11]
  frame_out
  simp only [open_8, open_9, open_10]
  idx_vars y
  refine (blk_h m c t _ _).trans ?_
  blk_point [V, idx t]

end Cert.FwdMixIdeal.Hand

end
-- ==== Proof.Heads.lean ====
/-
  Heads of 64 lanes: the mean over a lane's head, by a product with the matrix that is 1/64 within a head, and the norm's
  gradient on a head.
-/
module

public import proofs.«01_k».proof.Proof.Finite

@[expose] public section

noncomputable section

namespace Cert.Heads

open Idealize.ShloMosaic Cert.Finite

/-- The matrix of the heads among 256 lanes. -/
def gm (k l : Fin 256) : EReal := if k.val / 64 = l.val / 64 then ((1 / 64 : ℝ) : EReal) else 0

theorem width_word : Ideal.ofBits .f32 0x42800000#32 = ((64 : ℝ) : EReal) := by
  simp [Ideal.ofBits, Ideal.ieee, -EReal.coe_mul]; norm_num

/-- The lane's head's lane `j`, among `n` lanes of whole heads. -/
def lane {n : ℕ} (l : Fin n) (h : n % 64 = 0) (j : Fin 64) : Fin n := ⟨l.val / 64 * 64 + j.val, by omega⟩

theorem sum_gm (x : Fin 256 → EReal) (hx : ∀ k, Real' (x k)) (l : Fin 256) :
    ∑ k, x k * gm k l = Ideal.div (∑ j, x (lane l rfl j)) (Ideal.ofBits .f32 0x42800000#32) := by
  rw [width_word, Ideal.div_coe (by norm_num)]
  choose y hy using hx
  have e (k : Fin 256) : x k * gm k l = ((if k.val / 64 = l.val / 64 then y k * (1 / 64) else 0 : ℝ) : EReal) := by
    rw [hy, gm]
    split
    · norm_cast
    · simp
  have s {n : ℕ} (g : Fin n → ℝ) : (∑ k, ((g k : ℝ) : EReal)) = ((∑ k, g k : ℝ) : EReal) :=
    (map_sum (⟨⟨Real.toEReal, EReal.coe_zero⟩, EReal.coe_add⟩ : ℝ →+ EReal) g Finset.univ).symm
  rw [Finset.sum_congr rfl fun k _ => e k, s]
  simp only [hy, s]
  rw [← EReal.coe_mul, ← Finset.sum_filter, ← Finset.sum_mul]
  congr 2
  refine (Finset.sum_nbij (fun j => lane l rfl j) (fun j _ => ?_) (fun i _ j _ h => ?_) (fun k hk => ?_) fun _ _ => rfl).symm
  · have := j.isLt
    simp only [Finset.mem_filter, Finset.mem_univ, true_and, lane]
    omega
  · have := congrArg Fin.val h
    simp only [lane] at this
    exact Fin.ext (by omega)
  · simp only [Finset.coe_filter, Finset.mem_univ, true_and, Set.mem_setOf_eq] at hk
    refine ⟨⟨k.val % 64, by omega⟩, by simp, Fin.ext ?_⟩
    simp only [lane]
    omega

theorem sub_self {x : EReal} (h : Real' x) : x - x = 0 := by
  obtain ⟨a, rfl⟩ := h
  norm_cast
  simp

/-- The high and the low half's products. -/
theorem sum_two (x : Fin 256 → EReal) (hx : ∀ k, Real' (x k)) (l : Fin 256) :
    ∑ k, x k * gm k l + ∑ k, (x k - x k) * gm k l = Ideal.div (∑ j, x (lane l rfl j)) (Ideal.ofBits .f32 0x42800000#32) := by
  rw [sum_gm x hx]
  simp only [fun k => sub_self (hx k), zero_mul, Finset.sum_const_zero, add_zero]

/-- The scale of a lane's head. -/
def scale (x : Fin 64 → EReal) : EReal :=
  Ideal.rsqrt (Ideal.div (∑ k, x k * x k) (Ideal.ofBits .f32 0x42800000#32) + Ideal.ofBits .f32 0x358637BD#32)

/-- An element of a norm's input gradient: `d` is the gradient at the norm's output times the gain. -/
def dnorm (x d : Fin 64 → EReal) (l : Fin 64) : EReal :=
  scale x * d l - x l * (scale x * scale x * scale x) * Ideal.div (∑ j, d j * x j) (Ideal.ofBits .f32 0x42800000#32)

/-- The derivative's sum of terms is `dnorm`. -/
theorem grad (x d : Fin 64 → EReal) (l : Fin 64) :
    let v := Ideal.div (∑ k, x k * x k) (Ideal.ofBits .f32 0x42800000#32) + Ideal.ofBits .f32 0x358637BD#32
    let w := Ideal.div ((∑ j, x j * d j) * (Ideal.ofBits .f32 0xBF000000#32 * Ideal.div (Ideal.rsqrt v) v)) (Ideal.ofBits .f32 0x42800000#32)
    d l * Ideal.rsqrt v + x l * w + w * x l = dnorm x d l := by
  intro v w
  obtain ⟨e, he, hew⟩ := Cert.Norm.eps_word
  obtain ⟨q, _, hq, hd⟩ := Cert.Norm.cube _ (Cert.Norm.var_cases x 64 (by norm_num) e he)
  simp only [w, v, dnorm, scale, width_word, Cert.Norm.half_word, hew]
  rw [hq, hd, mul_comm (d l), Finset.sum_congr rfl fun j _ => mul_comm (d j) (x j)]
  have := Cert.Norm.two_terms 0 (Ideal.rsqrt (Ideal.div (∑ k, x k * x k) ((64 : ℝ) : EReal) + (e : EReal)) * d l) (x l) (∑ j, x j * d j) 64 q (by norm_num)
  simpa only [zero_add] using this

/-- Among 512 lanes, half by half: the mean over a lane's head. -/
theorem halves (p : Fin 512 → EReal) (hp : ∀ k, Real' (p k)) (l : Fin 512) :
    (if h : l.val < 256 then
        ∑ k : Fin 256, p ⟨k.val, by omega⟩ * gm k ⟨l.val, h⟩ + ∑ k : Fin 256, (p ⟨k.val, by omega⟩ - p ⟨k.val, by omega⟩) * gm k ⟨l.val, h⟩
      else
        ∑ k : Fin 256, p ⟨256 + k.val, by omega⟩ * gm k ⟨l.val - 256, by omega⟩
          + ∑ k : Fin 256, (p ⟨256 + k.val, by omega⟩ - p ⟨256 + k.val, by omega⟩) * gm k ⟨l.val - 256, by omega⟩)
      = Ideal.div (∑ j, p (lane l rfl j)) (Ideal.ofBits .f32 0x42800000#32) := by
  split
  · rename_i h
    rw [sum_two (fun k : Fin 256 => p ⟨k.val, by omega⟩) (fun k => hp _) ⟨l.val, h⟩]
    rfl
  · rename_i h
    rw [sum_two (fun k : Fin 256 => p ⟨256 + k.val, by omega⟩) (fun k => hp _) ⟨l.val - 256, by omega⟩]
    congr 1
    refine Finset.sum_congr rfl fun j _ => congrArg p (Fin.ext ?_)
    simp only [lane]
    omega

/-- The norm's gradient on a lane among 512. -/
def ldnorm (x d : Fin 512 → EReal) (l : Fin 512) : EReal :=
  dnorm (fun j => x (lane l rfl j)) (fun j => d (lane l rfl j)) ⟨l.val % 64, by omega⟩

theorem lane_self (l : Fin 512) : lane l rfl ⟨l.val % 64, by omega⟩ = l := by
  refine Fin.ext ?_
  simp only [lane]
  omega

theorem ldnorm_eq (x d : Fin 512 → EReal) (l : Fin 512) :
    ldnorm x d l = scale (fun j => x (lane l rfl j)) * d l
      - x l * (scale (fun j => x (lane l rfl j)) * scale (fun j => x (lane l rfl j)) * scale (fun j => x (lane l rfl j)))
        * Ideal.div (∑ j, d (lane l rfl j) * x (lane l rfl j)) (Ideal.ofBits .f32 0x42800000#32) := by
  simp only [ldnorm, dnorm, lane_self]

/-- The head of a lane, as the host computes it: the quotient rounded down. -/
theorem head_of (k : Fin 256) :
    Scalar.select
      (IntOp.andi
        (IntOp.cmpi CmpIPredicate.ne (if BitVec.ofNat 32 k.val = 0 then (0 : BitVec 32) else if (BitVec.ofNat 32 k.val).msb = true then -1 else 1)
          (if 64#32 = 0 then (0 : BitVec 32) else if (64#32).msb = true then -1 else 1))
        (IntOp.cmpi CmpIPredicate.ne (IntOp.remsi ArithUnit.host (BitVec.ofNat 32 k.val) 64#32) 0#32))
      (IntOp.subi (IntOp.divsi ArithUnit.host (BitVec.ofNat 32 k.val) 64#32) 1#32)
      (IntOp.divsi ArithUnit.host (BitVec.ofNat 32 k.val) 64#32) = BitVec.ofNat 32 (k.val / 64) := by
  revert k
  decide +kernel

theorem gm_word : Ideal.ofBits .f32 1015021568#32 = ((1 / 64 : ℝ) : EReal) := by
  simp [Ideal.ofBits, Ideal.ieee, -EReal.coe_mul]; norm_num

theorem gm_select (k l : Fin 256) :
    Scalar.select (IntOp.cmpi CmpIPredicate.eq (BitVec.ofNat 32 (k.val / 64)) (BitVec.ofNat 32 (l.val / 64))) (Ideal.ofBits .f32 1015021568#32)
      (0 : EReal) = gm k l := by
  have e : IntOp.cmpi CmpIPredicate.eq (BitVec.ofNat 32 (k.val / 64)) (BitVec.ofNat 32 (l.val / 64))
      = BitVec.ofBool (decide (k.val / 64 = l.val / 64)) := by
    have h : (BitVec.ofNat 32 (k.val / 64) = BitVec.ofNat 32 (l.val / 64)) ↔ k.val / 64 = l.val / 64 := by
      constructor
      · intro h
        have := congrArg BitVec.toNat h
        simp only [BitVec.toNat_ofNat] at this
        omega
      · exact fun h => by rw [h]
    simp only [IntOp.cmpi, ← h]
    rfl
  rw [e, gm, gm_word]
  by_cases h : k.val / 64 = l.val / 64 <;> simp [h, Scalar.select]

end Cert.Heads

end
-- ==== Proof.ProjRow.lean ====
/-
  The forward call of the input projection, row by row: what each line of the reference and each payload of the kernel is
  at an index.
-/
module

public import proofs.«01_k».proof.Proof.Gen.FwdProjIdeal.Value
public import proofs.«01_k».proof.Proof.Gen.FwdProjRefIdeal.Read
public import proofs.«01_k».proof.Proof.Heads
public import Idealize.ShloMosaic.Lib.Pipeline.ValueKit
public import Idealize.ShloMosaic.Lib.Pointwise
public import Idealize.ShloMosaic.Lib.Claim

@[expose] public section

set_option maxRecDepth 16384

noncomputable section

namespace Cert.FwdProjIdeal.Hand

open Cert.FwdProjIdeal Cert.FwdProjIdeal.Gen Idealize.ShloMosaic Idealize.ShloMosaic.TcCoe Idealize.SL.Sem
open Idealize.ShloMosaic.Pipeline (Dat)
open Cert.FwdProjRefIdeal.Read

theorem idx : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0] := by
  decide +kernel

/-- A row's scale. -/
def scale (x : Fin 1024 → EReal) : EReal :=
  Ideal.rsqrt (Ideal.div (∑ k, x k * x k) (Ideal.ofBits .f32 0x44800000#32) + Ideal.ofBits .f32 0x358637BD#32)

/-- A row's element times its scale is a real: with an infinite element in the row the scale is 0. -/
theorem scaled_real (x : Fin 1024 → EReal) (k : Fin 1024) : Cert.Finite.Real' (x k * scale x) := by
  obtain ⟨e, he, hew⟩ := Cert.Norm.eps_word
  have hs : Cert.Finite.Real' (scale x) := by
    unfold scale
    rw [Cert.Norm.width_word, hew]
    exact Cert.Norm.real_cases _ (Cert.Norm.var_cases x 1024 (by norm_num) e he)
  by_cases hk : x k * x k = ⊤
  · have h : ∑ j, x j * x j = ⊤ :=
      top_le_iff.mp (hk ▸ Finset.single_le_sum (f := fun j => x j * x j) (fun j _ => Cert.Norm.sq_nonneg (x j)) (Finset.mem_univ k))
    have h0 : scale x = 0 := by
      unfold scale
      rw [h, Cert.Norm.width_word, hew, Ideal.div_coe (by norm_num), EReal.top_mul_coe_of_pos (by norm_num), EReal.top_add_coe]
      simp
    rw [h0, mul_zero]
    exact Cert.Finite.zero
  · refine Cert.Finite.mul ?_ hs
    generalize x k = y at hk
    induction y with
    | bot => simp at hk
    | top => simp at hk
    | coe y => exact Cert.Finite.of_coe y

/-- A row past its norm, -/
def normed (x g : Fin 1024 → EReal) (k : Fin 1024) : EReal := x k * scale x * g k

/-- its projection, -/
def proj (x g : Fin 1024 → EReal) (w : Fin 1024 → Fin 2048 → EReal) (l : Fin 2048) : EReal := ∑ k, normed x g k * w k l

theorem proj_real (x g : Fin 1024 → EReal) (w : Fin 1024 → Fin 2048 → EReal) (hg : ∀ k, Cert.Finite.Real' (g k)) (hw : ∀ k l, Cert.Finite.Real' (w k l))
    (l : Fin 2048) : Cert.Finite.Real' (proj x g w l) :=
  Cert.Finite.sum _ fun k => Cert.Finite.mul (Cert.Finite.mul (scaled_real x k) (hg k)) (hw k l)

/-- and a head's norm of 512 of the projection's lanes. -/
def headed (p : Fin 512 → EReal) (g : Fin 64 → EReal) (l : Fin 512) : EReal :=
  p l * Cert.Heads.scale (fun j => p (Cert.Heads.lane l rfl j)) * g ⟨l.val % 64, by omega⟩

/-! ## The reference's rows -/

theorem ref_normed (x0 : FVec Ideal S16384x1024 .f32) (x1 : FVec Ideal S1x1024 .f32) (r : Fin 16384) (k : Fin 1024) :
    val_main_v13 (F := Ideal) x0 x1 (ix2 r k) = normed (fun k => x0 (ix2 r k)) (fun k => x1 (ix2 0 k)) k := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13]
  rfl

theorem ref_xn (x0 : FVec Ideal S16384x1024 .f32) (x1 : FVec Ideal S1x1024 .f32) (r : Fin 16384) (k : Fin 1024) :
    val_main_v52 (F := Ideal) x0 x1 (ix2 r k) = normed (fun k => x0 (ix2 r k)) (fun k => x1 (ix2 0 k)) k := by
  refine Eq.trans ?_ (ref_normed x0 x1 r k)
  generalize hz : val_main_v13 (F := Ideal) x0 x1 = z
  pointwise [val_main_v52]
  rw [hz]

theorem ref_proj (x0 : FVec Ideal S16384x1024 .f32) (x1 : FVec Ideal S1x1024 .f32) (x2 : FVec Ideal S1024x2048 .f32) (r : Fin 16384) (l : Fin 2048) :
    val_main_v14 (F := Ideal) x0 x1 x2 (ix2 r l) = proj (fun k => x0 (ix2 r k)) (fun k => x1 (ix2 0 k)) (fun k l => x2 (ix2 k l)) l := by
  have e := ref_normed x0 x1 r
  generalize hz : val_main_v13 (F := Ideal) x0 x1 = z at e
  pointwise [val_main_v14]
  simp only [hz, e]
  rfl

theorem ref_qk (x0 : FVec Ideal S16384x1024 .f32) (x1 : FVec Ideal S1x1024 .f32) (x2 : FVec Ideal S1024x2048 .f32) (r : Fin 16384) (l : Fin 1024) : val_main_v51 (F := Ideal) x0 x1 x2 (ix2 r l) = val_main_v14 (F := Ideal) x0 x1 x2 (ix2 r ⟨l.val, by omega⟩) := by
  generalize hz : val_main_v14 (F := Ideal) x0 x1 x2 = z
  pointwise [val_main_v51]
  rw [hz]

theorem ref_v (x0 : FVec Ideal S16384x1024 .f32) (x1 : FVec Ideal S1x1024 .f32) (x2 : FVec Ideal S1024x2048 .f32) (r : Fin 16384) (l : Fin 512) : val_main_v19 (F := Ideal) x0 x1 x2 (ix2 r l) = val_main_v14 (F := Ideal) x0 x1 x2 (ix2 r ⟨1024 + l.val, by omega⟩) := by
  generalize hz : val_main_v14 (F := Ideal) x0 x1 x2 = z
  pointwise [val_main_v19]
  rw [hz]

theorem ref_u (x0 : FVec Ideal S16384x1024 .f32) (x1 : FVec Ideal S1x1024 .f32) (x2 : FVec Ideal S1024x2048 .f32) (r : Fin 16384) (l : Fin 512) : val_main_v20 (F := Ideal) x0 x1 x2 (ix2 r l) = val_main_v14 (F := Ideal) x0 x1 x2 (ix2 r ⟨1536 + l.val, by omega⟩) := by
  generalize hz : val_main_v14 (F := Ideal) x0 x1 x2 = z
  pointwise [val_main_v20]
  rw [hz]

theorem ref_q3 (x0 : FVec Ideal S16384x1024 .f32) (x1 : FVec Ideal S1x1024 .f32) (x2 : FVec Ideal S1024x2048 .f32) (r : Fin 16384) (h : Fin 8) (j : Fin 64) :
    val_main_v16 (F := Ideal) x0 x1 x2 (ix3 r h j) = val_main_v14 (F := Ideal) x0 x1 x2 (ix2 r ⟨(h.val * 64 + j.val), by omega⟩) := by
  generalize hz : val_main_v14 (F := Ideal) x0 x1 x2 = z
  pointwise [val_main_v15, val_main_v16]
  rw [hz]

theorem ref_qn (x0 : FVec Ideal S16384x1024 .f32) (x1 : FVec Ideal S1x1024 .f32) (x2 : FVec Ideal S1024x2048 .f32) (x3 : FVec Ideal S1x64 .f32) (r : Fin 16384) (l : Fin 512) :
    val_main_v35 (F := Ideal) x0 x1 x2 x3 (ix2 r l) = headed (fun l => val_main_v14 (F := Ideal) x0 x1 x2 (ix2 r ⟨l.val, by omega⟩)) (fun j => x3 (ix2 0 j)) l := by
  have e := ref_q3 x0 x1 x2 r
  generalize val_main_v14 (F := Ideal) x0 x1 x2 = p at e
  generalize hz : val_main_v16 (F := Ideal) x0 x1 x2 = z at e
  pointwise [val_main_v21, val_main_v22, val_main_cst_2, val_main_v23, val_main_v24, val_main_cst_3, val_main_v25, val_main_v26, val_main_cst_4, val_main_v27, val_main_v28, val_main_v29, val_main_v30, val_main_v31, val_main_v32, val_main_v33, val_main_v34, val_main_v35]
  simp only [hz, e, Nat.div_add_mod']
  rfl

theorem ref_k3 (x0 : FVec Ideal S16384x1024 .f32) (x1 : FVec Ideal S1x1024 .f32) (x2 : FVec Ideal S1024x2048 .f32) (r : Fin 16384) (h : Fin 8) (j : Fin 64) :
    val_main_v18 (F := Ideal) x0 x1 x2 (ix3 r h j) = val_main_v14 (F := Ideal) x0 x1 x2 (ix2 r ⟨512 + (h.val * 64 + j.val), by omega⟩) := by
  generalize hz : val_main_v14 (F := Ideal) x0 x1 x2 = z
  pointwise [val_main_v17, val_main_v18]
  rw [hz]

theorem ref_kn (x0 : FVec Ideal S16384x1024 .f32) (x1 : FVec Ideal S1x1024 .f32) (x2 : FVec Ideal S1024x2048 .f32) (x4 : FVec Ideal S1x64 .f32) (r : Fin 16384) (l : Fin 512) :
    val_main_v50 (F := Ideal) x0 x1 x2 x4 (ix2 r l) = headed (fun l => val_main_v14 (F := Ideal) x0 x1 x2 (ix2 r ⟨512 + l.val, by omega⟩)) (fun j => x4 (ix2 0 j)) l := by
  have e := ref_k3 x0 x1 x2 r
  generalize val_main_v14 (F := Ideal) x0 x1 x2 = p at e
  generalize hz : val_main_v18 (F := Ideal) x0 x1 x2 = z at e
  pointwise [val_main_v36, val_main_v37, val_main_cst_5, val_main_v38, val_main_v39, val_main_cst_6, val_main_v40, val_main_v41, val_main_cst_7, val_main_v42, val_main_v43, val_main_v44, val_main_v45, val_main_v46, val_main_v47, val_main_v48, val_main_v49, val_main_v50]
  simp only [hz, e, Nat.div_add_mod']
  rfl

/-! ## The kernel's rows -/

theorem pay_xn (x : FVec Ideal S1024x1024 .f32) (g : FVec Ideal S1x1024 .f32) (r k : Fin 1024) :
    k0_pay1 (F := Ideal) x g (ix2 r k) = normed (fun k => x (ix2 r k)) (fun k => g (ix2 0 k)) k := by
  simp only [k0_pay1]
  pointwise
  rfl

theorem pay_proj (x : FVec Ideal S1024x1024 .f32) (g : FVec Ideal S1x1024 .f32) (w : FVec Ideal S1024x2048 .bf16) (r : Fin 1024) (l : Fin 2048) :
    k0_pay2 (F := Ideal) x g w (ix2 r l) = proj (fun k => x (ix2 r k)) (fun k => g (ix2 0 k)) (fun k l => w (ix2 k l)) l := by
  have e := pay_xn x g r
  simp only [k0_pay2]
  generalize k0_pay1 (F := Ideal) x g = z at e
  pointwise
  simp only [e]
  rfl

theorem pay_q (x : FVec Ideal S1024x1024 .f32) (g : FVec Ideal S1x1024 .f32) (w : FVec Ideal S1024x2048 .bf16) (r : Fin 1024) (l : Fin 512) :
    k0_pay3 (F := Ideal) x g w (ix2 r l) = k0_pay2 (F := Ideal) x g w (ix2 r ⟨l.val, by omega⟩) := by
  simp only [k0_pay3]
  generalize k0_pay2 (F := Ideal) x g w = z
  pointwise

theorem pay_k (x : FVec Ideal S1024x1024 .f32) (g : FVec Ideal S1x1024 .f32) (w : FVec Ideal S1024x2048 .bf16) (r : Fin 1024) (l : Fin 512) :
    k0_pay4 (F := Ideal) x g w (ix2 r l) = k0_pay2 (F := Ideal) x g w (ix2 r ⟨512 + l.val, by omega⟩) := by
  simp only [k0_pay4]
  generalize k0_pay2 (F := Ideal) x g w = z
  pointwise

theorem pay_qk (x : FVec Ideal S1024x1024 .f32) (g : FVec Ideal S1x1024 .f32) (w : FVec Ideal S1024x2048 .bf16) (r : Fin 1024) (l : Fin 1024) :
    k0_pay5 (F := Ideal) x g w (ix2 r l) = k0_pay2 (F := Ideal) x g w (ix2 r ⟨l.val, by omega⟩) := by
  simp only [k0_pay5]
  generalize k0_pay2 (F := Ideal) x g w = z
  pointwise

theorem pay_v (x : FVec Ideal S1024x1024 .f32) (g : FVec Ideal S1x1024 .f32) (w : FVec Ideal S1024x2048 .bf16) (r : Fin 1024) (l : Fin 512) :
    k0_pay6 (F := Ideal) x g w (ix2 r l) = k0_pay2 (F := Ideal) x g w (ix2 r ⟨1024 + l.val, by omega⟩) := by
  simp only [k0_pay6]
  generalize k0_pay2 (F := Ideal) x g w = z
  pointwise

theorem pay_u (x : FVec Ideal S1024x1024 .f32) (g : FVec Ideal S1x1024 .f32) (w : FVec Ideal S1024x2048 .bf16) (r : Fin 1024) (l : Fin 512) :
    k0_pay7 (F := Ideal) x g w (ix2 r l) = k0_pay2 (F := Ideal) x g w (ix2 r ⟨1536 + l.val, by omega⟩) := by
  simp only [k0_pay7]
  generalize k0_pay2 (F := Ideal) x g w = z
  pointwise

/-- A head's norm in the kernel: the mean over the head by a product with the matrix `h` of the heads. -/
theorem pay_headed (h : FVec Ideal S256x256 .bf16) (hh : ∀ k l, h (ix2 k l) = Cert.Heads.gm k l) (x : FVec Ideal S1024x512 .f32) (g : FVec Ideal S1x512 .f32)
    (hx : ∀ i, Cert.Finite.Real' (x i)) (r : Fin 1024) (l : Fin 512) :
    k0_pay14 (F := Ideal) x (k0_pay8 (F := Ideal) h) g (ix2 r l)
      = x (ix2 r l) * Cert.Heads.scale (fun j => x (ix2 r (Cert.Heads.lane l rfl j))) * g (ix2 0 l) := by
  simp only [k0_pay14, k0_pay8]
  pointwise
  simp only [hh]
  exact congrArg (fun s => _ * Ideal.rsqrt (s + Ideal.ofBits .f32 0x358637BD#32) * _)
    (Cert.Heads.halves (fun k => x (ix2 r k) * x (ix2 r k)) (fun k => Cert.Finite.mul (hx _) (hx _)) l)

theorem pay_13 (x : FVec Ideal S1024x1024 .f32) (g : FVec Ideal S1x1024 .f32) (w : FVec Ideal S1024x2048 .bf16) (h : FVec Ideal S256x256 .bf16) (q : FVec Ideal S1x512 .f32) :
    k0_pay13 (F := Ideal) (k0_pay3 (F := Ideal) x g w) h (k0_pay10 (F := Ideal) x g w) (k0_pay11 (F := Ideal) x g w) (k0_pay12 (F := Ideal) x g w) q
      = k0_pay14 (F := Ideal) (k0_pay3 (F := Ideal) x g w) h q := by
  simp only [k0_pay13, k0_pay14, k0_pay12, k0_pay11, k0_pay10, k0_pay9]

end Cert.FwdProjIdeal.Hand

end
-- ==== Proof.FwdProj.lean ====
/-
  The forward call of the input projection: every point's block of each of its six results is the reference's.
-/
module

public import proofs.«01_k».proof.Proof.Gen.FwdProjIdeal.Value
public import proofs.«01_k».proof.Proof.Gen.FwdProjRefIdeal.Read
public import proofs.«01_k».proof.Proof.ProjRow
public import Idealize.ShloMosaic.Lib.Pipeline.ValueKit
public import Idealize.ShloMosaic.Lib.Pointwise
public import Idealize.ShloMosaic.Lib.Claim

@[expose] public section

set_option maxRecDepth 16384

noncomputable section

namespace Cert.FwdProjIdeal.Hand

open Cert.FwdProjIdeal Cert.FwdProjIdeal.Gen Idealize.ShloMosaic Idealize.ShloMosaic.TcCoe Idealize.SL.Sem
open Idealize.ShloMosaic.Pipeline (Dat)
open Cert.FwdProjRefIdeal.Read

variable (m : (ℓ : Loc nD τ sig) → Buf (Elt Ideal) ℓ)

abbrev x (c : Dev nD) : FVec Ideal S16384x1024 .f32 := m ((c : Thread nD τ).loc main_arg0)
abbrev g (c : Dev nD) : FVec Ideal S1x1024 .f32 := m ((c : Thread nD τ).loc main_arg1)
abbrev w (c : Dev nD) : FVec Ideal S1024x2048 .f32 := m ((c : Thread nD τ).loc main_arg2)
abbrev gq (c : Dev nD) : FVec Ideal S1x64 .f32 := m ((c : Thread nD τ).loc main_arg3)
abbrev gk (c : Dev nD) : FVec Ideal S1x64 .f32 := m ((c : Thread nD τ).loc main_arg4)

theorem row_lt (t : Fin cfg0.N) (r : Fin 1024) : t.val * 1024 + r.val < 16384 := by
  have := t.isLt; have : cfg0.N = 16 := N_0; omega

/-- The array's row that is row `r` of point `t`'s block. -/
abbrev row (t : Fin cfg0.N) (r : Fin 1024) : Fin 16384 := ⟨t.val * 1024 + r.val, row_lt t r⟩

theorem entry_gm (c : Dev nD) (k l : Fin 256) : V m c main_v18 (ix2 k l) = Cert.Heads.gm k l := by
  unfold V
  simp only [hostOps0, hostOps0_1, hostOps0_2, hostOps0_3, hostOps0_4, List.flatten_cons, List.flatten_nil, List.append_nil, List.cons_append,
    List.nil_append]
  entry_read
  simp only [StableHlo.TRef.ofBuf, StableHlo.TRef.toBuf, cast_eq]
  pointwise
  rw [← Cert.Heads.gm_select k l, ← Cert.Heads.head_of k, ← Cert.Heads.head_of l]
  rfl

theorem entry_w (c : Dev nD) (k : Fin 1024) (l : Fin 2048) : V m c main_v19 (ix2 k l) = w m c (ix2 k l) := by
  unfold V
  simp only [hostOps0, hostOps0_1, hostOps0_2, hostOps0_3, hostOps0_4, List.flatten_cons, List.flatten_nil, List.append_nil, List.cons_append,
    List.nil_append]
  entry_read
  pointwise

theorem entry_gq (c : Dev nD) (l : Fin 512) : V m c main_v4 (ix2 0 l) = gq m c (ix2 0 ⟨l.val % 64, by omega⟩) := by
  unfold V
  simp only [hostOps0, hostOps0_1, hostOps0_2, hostOps0_3, hostOps0_4, List.flatten_cons, List.flatten_nil, List.append_nil, List.cons_append,
    List.nil_append]
  entry_read
  pointwise

theorem entry_gk (c : Dev nD) (l : Fin 512) : V m c main_v9 (ix2 0 l) = gk m c (ix2 0 ⟨l.val % 64, by omega⟩) := by
  unfold V
  simp only [hostOps0, hostOps0_1, hostOps0_2, hostOps0_3, hostOps0_4, List.flatten_cons, List.flatten_nil, List.append_nil, List.cons_append,
    List.nil_append]
  entry_read
  pointwise

theorem blk_x (c : Dev nD) (t : Fin cfg0.N) (r k : Fin 1024) : iblk m c 0 t (ix2 r k) = x m c (ix2 (row t r) k) := by
  blk_ext [iblk, V, idx t]

theorem blk_g (c : Dev nD) (t : Fin cfg0.N) (k : Fin 1024) : iblk m c 1 t (ix2 0 k) = g m c (ix2 0 k) := by
  blk_ext [iblk, V, idx t]

theorem blk_w (c : Dev nD) (t : Fin cfg0.N) (k : Fin 1024) (l : Fin 2048) : iblk m c 2 t (ix2 k l) = w m c (ix2 k l) := by
  refine Eq.trans ?_ (entry_w m c k l)
  blk_simp [iblk, idx t]
  blk_ext [iblk, idx t]

theorem blk_gq (c : Dev nD) (t : Fin cfg0.N) (l : Fin 512) : iblk m c 3 t (ix2 0 l) = gq m c (ix2 0 ⟨l.val % 64, by omega⟩) := by
  refine Eq.trans ?_ (entry_gq m c l)
  blk_simp [iblk, idx t]
  blk_ext [iblk, idx t]

theorem blk_gk (c : Dev nD) (t : Fin cfg0.N) (l : Fin 512) : iblk m c 4 t (ix2 0 l) = gk m c (ix2 0 ⟨l.val % 64, by omega⟩) := by
  refine Eq.trans ?_ (entry_gk m c l)
  blk_simp [iblk, idx t]
  blk_ext [iblk, idx t]

theorem blk_gm (c : Dev nD) (t : Fin cfg0.N) (k l : Fin 256) : iblk m c 5 t (ix2 k l) = Cert.Heads.gm k l := by
  refine Eq.trans ?_ (entry_gm m c k l)
  blk_simp [iblk, idx t]
  blk_ext [iblk, idx t]

/-- What the gain and the weight must be for a head's mean to be a product with the matrix of the heads. -/
structure Reals (c : Dev nD) : Prop where
  g : ∀ i, Cert.Finite.Real' (g m c i)
  w : ∀ i, Cert.Finite.Real' (w m c i)

/-- The reference's projection. -/
abbrev W (c : Dev nD) := val_main_v14 (F := Ideal) (x m c) (g m c) (w m c)

/-- A point's rows of the projection are the reference's. -/
theorem at_proj (c : Dev nD) (t : Fin cfg0.N) (r : Fin 1024) (l : Fin 2048) :
    k0_pay2 (F := Ideal) (iblk m c 0 t) (iblk m c 1 t) (iblk m c 2 t) (ix2 r l) = W m c (ix2 (row t r) l) := by
  refine ((pay_proj _ _ _ _ _).trans ?_).trans (ref_proj _ _ _ _ _).symm
  simp only [blk_x, blk_g, blk_w]

theorem W_real (c : Dev nD) (hr : Reals m c) (r : Fin 16384) (l : Fin 2048) : Cert.Finite.Real' (W m c (ix2 r l)) := by
  have e : W m c (ix2 r l) = _ := ref_proj (x m c) (g m c) (w m c) r l
  rw [e]
  exact proj_real _ _ _ (fun k => hr.g _) (fun k l => hr.w _) l

/-- A point's rows of the query, -/
abbrev xq (c : Dev nD) (t : Fin cfg0.N) : FVec Ideal S1024x512 .f32 := k0_pay3 (F := Ideal) (iblk m c 0 t) (iblk m c 1 t) (iblk m c 2 t)

/-- and of the key. -/
abbrev xk (c : Dev nD) (t : Fin cfg0.N) : FVec Ideal S1024x512 .f32 := k0_pay4 (F := Ideal) (iblk m c 0 t) (iblk m c 1 t) (iblk m c 2 t)

theorem at_xq (c : Dev nD) (t : Fin cfg0.N) (r : Fin 1024) (l : Fin 512) : xq m c t (ix2 r l) = W m c (ix2 (row t r) ⟨l.val, by omega⟩) :=
  (pay_q _ _ _ _ _).trans (at_proj m c t r _)

theorem at_xk (c : Dev nD) (t : Fin cfg0.N) (r : Fin 1024) (l : Fin 512) : xk m c t (ix2 r l) = W m c (ix2 (row t r) ⟨512 + l.val, by omega⟩) :=
  (pay_k _ _ _ _ _).trans (at_proj m c t r _)

theorem xq_real (c : Dev nD) (hr : Reals m c) (t : Fin cfg0.N) (i : S1024x512.Idx) : Cert.Finite.Real' (xq m c t i) := by
  idx_vars i
  rw [at_xq]
  exact W_real m c hr _ _

theorem xk_real (c : Dev nD) (hr : Reals m c) (t : Fin cfg0.N) (i : S1024x512.Idx) : Cert.Finite.Real' (xk m c t i) := by
  idx_vars i
  rw [at_xk]
  exact W_real m c hr _ _

theorem at_qn (c : Dev nD) (hr : Reals m c) (t : Fin cfg0.N) (r : Fin 1024) (l : Fin 512) :
    k0_pay14 (F := Ideal) (xq m c t) (k0_pay8 (F := Ideal) (iblk m c 5 t)) (iblk m c 3 t) (ix2 r l)
      = val_main_v35 (F := Ideal) (x m c) (g m c) (w m c) (gq m c) (ix2 (row t r) l) := by
  refine (pay_headed (iblk m c 5 t) (blk_gm m c t) (xq m c t) (iblk m c 3 t) (xq_real m c hr t) r l).trans (Eq.trans ?_ (ref_qn _ _ _ _ _ _).symm)
  simp only [at_xq, blk_gq]
  rfl

theorem at_kn (c : Dev nD) (hr : Reals m c) (t : Fin cfg0.N) (r : Fin 1024) (l : Fin 512) :
    k0_pay14 (F := Ideal) (xk m c t) (k0_pay8 (F := Ideal) (iblk m c 5 t)) (iblk m c 4 t) (ix2 r l)
      = val_main_v50 (F := Ideal) (x m c) (g m c) (w m c) (gk m c) (ix2 (row t r) l) := by
  refine (pay_headed (iblk m c 5 t) (blk_gm m c t) (xk m c t) (iblk m c 4 t) (xk_real m c hr t) r l).trans (Eq.trans ?_ (ref_kn _ _ _ _ _ _).symm)
  simp only [at_xk, blk_gk]
  rfl

theorem open_15 (c : Dev nD) (t : Fin cfg0.N) :
    k0_pay15 (F := Ideal) (iblk m c 0 t) (iblk m c 1 t) (iblk m c 2 t) (iblk m c 3 t) (iblk m c 4 t) (iblk m c 5 t) = k0_pay8 (F := Ideal) (iblk m c 5 t) := by
  simp (disch := decide) only [k0_pay15, View.ld_unit_lit']

theorem qk_eq (c : Dev nD) : (dats m 0 c).arrAt 6 cfg0.N = val_main_v51 (F := Ideal) (x m c) (g m c) (w m c) := by
  refine (dats m 0 c).arrAt_eq_of_covers 6 _ (by decide +kernel) fun t hf y => ?_
  blk_simp
  rw [after0_6]
  frame_out
  idx_vars y
  refine ((pay_qk _ _ _ _ _).trans (at_proj m c t _ _)).trans ((ref_qk _ _ _ _ _).symm.trans ?_)
  blk_point [V, idx t]

theorem qn_eq (c : Dev nD) (hr : Reals m c) : (dats m 0 c).arrAt 7 cfg0.N = val_main_v35 (F := Ideal) (x m c) (g m c) (w m c) (gq m c) := by
  refine (dats m 0 c).arrAt_eq_of_covers 7 _ (by decide +kernel) fun t hf y => ?_
  blk_simp
  rw [after0_7]
  frame_out
  simp only [open_15]
  rw [pay_13]
  idx_vars y
  refine (at_qn m c hr t _ _).trans ?_
  blk_point [V, idx t]

theorem kn_eq (c : Dev nD) (hr : Reals m c) : (dats m 0 c).arrAt 8 cfg0.N = val_main_v50 (F := Ideal) (x m c) (g m c) (w m c) (gk m c) := by
  refine (dats m 0 c).arrAt_eq_of_covers 8 _ (by decide +kernel) fun t hf y => ?_
  blk_simp
  rw [after0_8]
  frame_out
  simp only [open_15]
  idx_vars y
  refine (at_kn m c hr t _ _).trans ?_
  blk_point [V, idx t]

theorem v_eq (c : Dev nD) : (dats m 0 c).arrAt 9 cfg0.N = val_main_v19 (F := Ideal) (x m c) (g m c) (w m c) := by
  refine (dats m 0 c).arrAt_eq_of_covers 9 _ (by decide +kernel) fun t hf y => ?_
  blk_simp
  rw [after0_9]
  frame_out
  idx_vars y
  refine ((pay_v _ _ _ _ _).trans (at_proj m c t _ _)).trans ((ref_v _ _ _ _ _).symm.trans ?_)
  blk_point [V, idx t]

theorem u_eq (c : Dev nD) : (dats m 0 c).arrAt 10 cfg0.N = val_main_v20 (F := Ideal) (x m c) (g m c) (w m c) := by
  refine (dats m 0 c).arrAt_eq_of_covers 10 _ (by decide +kernel) fun t hf y => ?_
  blk_simp
  rw [after0_10]
  frame_out
  idx_vars y
  refine ((pay_u _ _ _ _ _).trans (at_proj m c t _ _)).trans ((ref_u _ _ _ _ _).symm.trans ?_)
  blk_point [V, idx t]

theorem at_xn (c : Dev nD) (t : Fin cfg0.N) (r k : Fin 1024) :
    k0_pay1 (F := Ideal) (iblk m c 0 t) (iblk m c 1 t) (ix2 r k) = val_main_v52 (F := Ideal) (x m c) (g m c) (ix2 (row t r) k) := by
  refine ((pay_xn _ _ _ _).trans ?_).trans (ref_xn _ _ _ _).symm
  simp only [blk_x, blk_g]

theorem xn_eq (c : Dev nD) : (dats m 0 c).arrAt 11 cfg0.N = val_main_v52 (F := Ideal) (x m c) (g m c) := by
  refine (dats m 0 c).arrAt_eq_of_covers 11 _ (by decide +kernel) fun t hf y => ?_
  blk_simp
  rw [after0_11]
  frame_out
  idx_vars y
  refine (at_xn m c t _ _).trans ?_
  blk_point [V, idx t]

end Cert.FwdProjIdeal.Hand

end
-- ==== Proof.ProjPre.lean ====
/-
  The precondition of the input projection's forward call, read: the arrays it tests hold reals.
-/
module

public import proofs.«01_k».proof.Pre_proj_finite
public import proofs.«01_k».proof.Proof.Finite

@[expose] public section

noncomputable section

namespace Cert.Pre_proj_finite

open Idealize.ShloMosaic

instance facts : Facts := by constructor <;> decide

variable [Facts]
open Facts

theorem all_real {s : Shape} {axes : List (Fin s.rank)} (x : FVec Ideal s .f32) (b : S_.BroadcastsInDim s (![] : Fin 0 → Fin s.rank)) (init : IVec S_ 1)
    (h : s.ReducesTo axes S_) (hu : 0 < S_.numel) (j : S_.Idx)
    (e : Host.reduce IntOp.andi (cmpf .olt (Host.absf x) (broadcastInDim s ![] b (constant S_ .f32 0x7F800000#32))) init h hu j = 1#1) (i : s.Idx) :
    Cert.Finite.Real' (x i) := by
  haveI : Subsingleton S_.Idx := ⟨fun a b => funext fun k => k.elim0⟩
  exact Cert.Finite.of_abs (Host.reduce_andi_all _ init h hu j e i)

theorem reals (x0 : FVec Ideal S16384x1024 .f32) (x1 : FVec Ideal S1x1024 .f32) (x2 : FVec Ideal S1024x2048 .f32) (x3 x4 : FVec Ideal S1x64 .f32)
    (h : fn (F := Ideal) x0 x1 x2 x3 x4 = fun _ => 1#1) : (∀ i, Cert.Finite.Real' (x1 i)) ∧ ∀ i, Cert.Finite.Real' (x2 i) := by
  have j : S_.Idx := fun k => k.elim0
  have e := congrFun h j
  dsimp only [fn] at e
  obtain ⟨h1, h2⟩ := Cert.Finite.and_one e
  exact ⟨all_real x1 _ _ _ _ j h1, all_real x2 _ _ _ _ j h2⟩

end Cert.Pre_proj_finite

end
-- ==== Proof.UpdIn.lean ====
/-
  The update of the input projection's weight: the sum of the devices' parts of the gradient, the moments and the step.
-/
module

public import proofs.«01_k».proof.Proof.Gen.UpdInIdeal.Value
public import proofs.«01_k».proof.Proof.Gen.UpdInRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.UpdInIdeal.Hand

open Cert.UpdInIdeal Cert.UpdInIdeal.Gen Idealize.ShloMosaic Idealize.ShloMosaic.TcCoe Idealize.SL.Sem
open Idealize.ShloMosaic.Pipeline (Dat)
open Cert.UpdInRefIdeal.Read

variable (m : (ℓ : Loc nD τ sig) → Buf (Elt Ideal) ℓ)

theorem idx : ∀ t : Fin grid0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] := by
  decide +kernel

/-- The first moment's update. -/
def mom (m g : EReal) : EReal := Ideal.ofBits .f32 0x3F666666#32 * m + Ideal.ofBits .f32 0x3DCCCCCD#32 * g

/-- The second moment's update. -/
def sec (v g : EReal) : EReal := Ideal.ofBits .f32 0x3F7FBE77#32 * v + Ideal.ofBits .f32 0x3A83126F#32 * (g * g)

/-- The weight's step, from the moments. -/
def step (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

variable (x0 x1 x2 : FVec Ideal S1024x256 .f32) (x3 : FVec Ideal S8x1024x256 .bf16) (r : Fin 1024) (l : Fin 256)

theorem ref_g : val_main_v1 (F := Ideal) x3 (ix2 r l) = ∑ d : Fin 8, x3 (ix3 d r l) := by
  pointwise [val_main_v0, val_main_v1, val_main_cst]

theorem ref_m : val_main_v6 (F := Ideal) x1 x3 (ix2 r l) = mom (x1 (ix2 r l)) (val_main_v1 (F := Ideal) x3 (ix2 r l)) := by
  pointwise [val_main_v2, val_main_v3, val_main_v4, val_main_v5, val_main_v6, val_main_cst_0, val_main_cst_1]
  rfl

theorem ref_v : val_main_v12 (F := Ideal) x2 x3 (ix2 r l) = sec (x2 (ix2 r l)) (val_main_v1 (F := Ideal) x3 (ix2 r l)) := by
  pointwise [val_main_v7, val_main_v8, val_main_v9, val_main_v10, val_main_v11, val_main_v12, val_main_cst_2, val_main_cst_3]
  rfl

theorem ref_d : val_main_v25 (F := Ideal) x0 x1 x2 x3 (ix2 r l)
    = step (x0 (ix2 r l)) (val_main_v6 (F := Ideal) x1 x3 (ix2 r l)) (val_main_v12 (F := Ideal) x2 x3 (ix2 r l)) := by
  pointwise [val_main_v13, val_main_v14, val_main_v15, val_main_v16, val_main_v17, val_main_v18, val_main_v19, val_main_v20, val_main_v21, val_main_v22, val_main_v23, val_main_v24, val_main_v25, val_main_cst_4, val_main_cst_5, val_main_cst_6, val_main_cst_7, val_main_cst_8]
  rfl

section
variable (g w u v : FVec Ideal S1024x256 .f32) (r : Fin 1024)

theorem pay_m : k0_pay1 (F := Ideal) g u (ix2 r l) = mom (u (ix2 r l)) (g (ix2 r l)) := by
  simp only [k0_pay1]
  pointwise
  rfl

theorem pay_v : k0_pay2 (F := Ideal) g v (ix2 r l) = sec (v (ix2 r l)) (g (ix2 r l)) := by
  simp only [k0_pay2]
  pointwise
  rfl

theorem pay_d : k0_pay3 (F := Ideal) g w u v (ix2 r l)
    = step (w (ix2 r l)) (k0_pay1 (F := Ideal) g u (ix2 r l)) (k0_pay2 (F := Ideal) g v (ix2 r l)) := by
  simp only [k0_pay3]
  generalize k0_pay1 (F := Ideal) g u = a
  generalize k0_pay2 (F := Ideal) g v = b
  pointwise
  rfl
end

abbrev w (c : Dev nD) : FVec Ideal S1024x256 .f32 := m ((c : Thread nD τ).loc main_arg0)
abbrev mo (c : Dev nD) : FVec Ideal S1024x256 .f32 := m ((c : Thread nD τ).loc main_arg1)
abbrev ve (c : Dev nD) : FVec Ideal S1024x256 .f32 := m ((c : Thread nD τ).loc main_arg2)
abbrev parts (c : Dev nD) : FVec Ideal S8x1024x256 .bf16 := m ((c : Thread nD τ).loc main_arg3)

theorem row_lt (t : Fin cfg0.N) (r : Fin 1024) : t.val * 1024 + r.val < 1024 := by
  have := t.isLt; have : cfg0.N = 1 := N_0; omega

/-- The array's row that is row `r` of point `t`'s block. -/
abbrev row (t : Fin cfg0.N) (r : Fin 1024) : Fin 1024 := ⟨t.val * 1024 + r.val, row_lt t r⟩

theorem blk_w (c : Dev nD) (t : Fin cfg0.N) (r : Fin 1024) (l : Fin 256) : iblk m c 0 t (ix2 r l) = w m c (ix2 (row t r) l) := by
  blk_ext [iblk, V, idx t]
theorem blk_m (c : Dev nD) (t : Fin cfg0.N) (r : Fin 1024) (l : Fin 256) : iblk m c 1 t (ix2 r l) = mo m c (ix2 (row t r) l) := by
  blk_ext [iblk, V, idx t]
theorem blk_v (c : Dev nD) (t : Fin cfg0.N) (r : Fin 1024) (l : Fin 256) : iblk m c 2 t (ix2 r l) = ve m c (ix2 (row t r) l) := by
  blk_ext [iblk, V, idx t]
theorem blk_p (c : Dev nD) (t : Fin cfg0.N) (d : Fin 8) (r : Fin 1024) (l : Fin 256) :
    iblk m c 3 t (ix3 d r l) = parts m c (ix3 d (row t r) l) := by
  blk_ext [iblk, V, idx t]

/-- The block's gradient: the sum of the eight parts. -/
theorem blk_g (c : Dev nD) (t : Fin cfg0.N) (r : Fin 1024) (l : Fin 256) :
    k0_pay5 (F := Ideal) (iblk m c 0 t) (iblk m c 1 t) (iblk m c 2 t) (iblk m c 3 t) (ix2 r l)
      = val_main_v1 (F := Ideal) (parts m c) (ix2 (row t r) l) := by
  rw [ref_g]
  refine Eq.trans ?_ (Finset.sum_congr rfl fun d _ => blk_p m c t d r l)
  rw [Fin.sum_univ_eight]
  generalize iblk m c 3 t = p
  simp only [k0_pay5, k0_pay4]
  pointwise

theorem blk_mom (c : Dev nD) (t : Fin cfg0.N) (r : Fin 1024) (l : Fin 256) :
    k0_pay1 (F := Ideal) (k0_pay5 (F := Ideal) (iblk m c 0 t) (iblk m c 1 t) (iblk m c 2 t) (iblk m c 3 t)) (iblk m c 1 t) (ix2 r l)
      = val_main_v6 (F := Ideal) (mo m c) (parts m c) (ix2 (row t r) l) := by
  rw [ref_m]
  exact (pay_m _ _ _ _).trans (congrArg₂ mom (blk_m m c t r l) (blk_g m c t r l))

theorem blk_sec (c : Dev nD) (t : Fin cfg0.N) (r : Fin 1024) (l : Fin 256) :
    k0_pay2 (F := Ideal) (k0_pay5 (F := Ideal) (iblk m c 0 t) (iblk m c 1 t) (iblk m c 2 t) (iblk m c 3 t)) (iblk m c 2 t) (ix2 r l)
      = val_main_v12 (F := Ideal) (ve m c) (parts m c) (ix2 (row t r) l) := by
  rw [ref_v]
  exact (pay_v _ _ _ _).trans (congrArg₂ sec (blk_v m c t r l) (blk_g m c t r l))

theorem blk_step (c : Dev nD) (t : Fin cfg0.N) (r : Fin 1024) (l : Fin 256) :
    k0_pay3 (F := Ideal) (k0_pay5 (F := Ideal) (iblk m c 0 t) (iblk m c 1 t) (iblk m c 2 t) (iblk m c 3 t)) (iblk m c 0 t) (iblk m c 1 t)
        (iblk m c 2 t) (ix2 r l)
      = val_main_v25 (F := Ideal) (w m c) (mo m c) (ve m c) (parts m c) (ix2 (row t r) l) := by
  rw [ref_d]
  refine (pay_d _ _ _ _ _ _).trans ?_
  rw [blk_mom, blk_sec, blk_w]

theorem g_eq (c : Dev nD) : (dats m 0 c).arrAt 4 cfg0.N = val_main_v1 (F := Ideal) (parts m c) := by
  refine (dats m 0 c).arrAt_eq_of_covers 4 _ (by decide +kernel) fun t hf y => ?_
  blk_simp
  rw [after0_4]
  frame_out
  idx_vars y
  refine (blk_g m c t _ _).trans ?_
  blk_point [V, idx t]

theorem d_eq (c : Dev nD) : (dats m 0 c).arrAt 5 cfg0.N = val_main_v25 (F := Ideal) (w m c) (mo m c) (ve m c) (parts m c) := by
  refine (dats m 0 c).arrAt_eq_of_covers 5 _ (by decide +kernel) fun t hf y => ?_
  blk_simp
  rw [after0_5]
  frame_out
  idx_vars y
  refine (blk_step m c t _ _).trans ?_
  blk_point [V, idx t]

theorem m_eq (c : Dev nD) : (dats m 0 c).arrAt 6 cfg0.N = val_main_v6 (F := Ideal) (mo m c) (parts m c) := by
  refine (dats m 0 c).arrAt_eq_of_covers 6 _ (by decide +kernel) fun t hf y => ?_
  blk_simp
  rw [after0_6]
  frame_out
  idx_vars y
  refine (blk_mom m c t _ _).trans ?_
  blk_point [V, idx t]

theorem v_eq (c : Dev nD) : (dats m 0 c).arrAt 7 cfg0.N = val_main_v12 (F := Ideal) (ve m c) (parts m c) := by
  refine (dats m 0 c).arrAt_eq_of_covers 7 _ (by decide +kernel) fun t hf y => ?_
  blk_simp
  rw [after0_7]
  frame_out
  idx_vars y
  refine (blk_sec m c t _ _).trans ?_
  blk_point [V, idx t]

end Cert.UpdInIdeal.Hand

end
-- ==== Proof.UpdGlu.lean ====
/-
  The update of the gate's weight: the sum of the devices' parts of the gradient, the moments and the step.
-/
module

public import proofs.«01_k».proof.Proof.Gen.UpdGluIdeal.Value
public import proofs.«01_k».proof.Proof.Gen.UpdGluRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.UpdGluIdeal.Hand

open Cert.UpdGluIdeal Cert.UpdGluIdeal.Gen Idealize.ShloMosaic Idealize.ShloMosaic.TcCoe Idealize.SL.Sem
open Idealize.ShloMosaic.Pipeline (Dat)
open Cert.UpdGluRefIdeal.Read

variable (m : (ℓ : Loc nD τ sig) → Buf (Elt Ideal) ℓ)

theorem idx : ∀ t : Fin grid0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] := by
  decide +kernel

/-- The first moment's update. -/
def mom (m g : EReal) : EReal := Ideal.ofBits .f32 0x3F666666#32 * m + Ideal.ofBits .f32 0x3DCCCCCD#32 * g

/-- The second moment's update. -/
def sec (v g : EReal) : EReal := Ideal.ofBits .f32 0x3F7FBE77#32 * v + Ideal.ofBits .f32 0x3A83126F#32 * (g * g)

/-- The weight's step, from the moments. -/
def step (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

variable (x0 x1 x2 : FVec Ideal S64x512 .f32) (x3 : FVec Ideal S8x64x512 .bf16) (r : Fin 64) (l : Fin 512)

theorem ref_g : val_main_v1 (F := Ideal) x3 (ix2 r l) = ∑ d : Fin 8, x3 (ix3 d r l) := by
  pointwise [val_main_v0, val_main_v1, val_main_cst]

theorem ref_m : val_main_v6 (F := Ideal) x1 x3 (ix2 r l) = mom (x1 (ix2 r l)) (val_main_v1 (F := Ideal) x3 (ix2 r l)) := by
  pointwise [val_main_v2, val_main_v3, val_main_v4, val_main_v5, val_main_v6, val_main_cst_0, val_main_cst_1]
  rfl

theorem ref_v : val_main_v12 (F := Ideal) x2 x3 (ix2 r l) = sec (x2 (ix2 r l)) (val_main_v1 (F := Ideal) x3 (ix2 r l)) := by
  pointwise [val_main_v7, val_main_v8, val_main_v9, val_main_v10, val_main_v11, val_main_v12, val_main_cst_2, val_main_cst_3]
  rfl

theorem ref_d : val_main_v25 (F := Ideal) x0 x1 x2 x3 (ix2 r l)
    = step (x0 (ix2 r l)) (val_main_v6 (F := Ideal) x1 x3 (ix2 r l)) (val_main_v12 (F := Ideal) x2 x3 (ix2 r l)) := by
  pointwise [val_main_v13, val_main_v14, val_main_v15, val_main_v16, val_main_v17, val_main_v18, val_main_v19, val_main_v20, val_main_v21, val_main_v22, val_main_v23, val_main_v24, val_main_v25, val_main_cst_4, val_main_cst_5, val_main_cst_6, val_main_cst_7, val_main_cst_8]
  rfl

section
variable (g w u v : FVec Ideal S64x512 .f32) (r : Fin 64)

theorem pay_m : k0_pay1 (F := Ideal) g u (ix2 r l) = mom (u (ix2 r l)) (g (ix2 r l)) := by
  simp only [k0_pay1]
  pointwise
  rfl

theorem pay_v : k0_pay2 (F := Ideal) g v (ix2 r l) = sec (v (ix2 r l)) (g (ix2 r l)) := by
  simp only [k0_pay2]
  pointwise
  rfl

theorem pay_d : k0_pay3 (F := Ideal) g w u v (ix2 r l)
    = step (w (ix2 r l)) (k0_pay1 (F := Ideal) g u (ix2 r l)) (k0_pay2 (F := Ideal) g v (ix2 r l)) := by
  simp only [k0_pay3]
  generalize k0_pay1 (F := Ideal) g u = a
  generalize k0_pay2 (F := Ideal) g v = b
  pointwise
  rfl
end

abbrev w (c : Dev nD) : FVec Ideal S64x512 .f32 := m ((c : Thread nD τ).loc main_arg0)
abbrev mo (c : Dev nD) : FVec Ideal S64x512 .f32 := m ((c : Thread nD τ).loc main_arg1)
abbrev ve (c : Dev nD) : FVec Ideal S64x512 .f32 := m ((c : Thread nD τ).loc main_arg2)
abbrev parts (c : Dev nD) : FVec Ideal S8x64x512 .bf16 := m ((c : Thread nD τ).loc main_arg3)

theorem row_lt (t : Fin cfg0.N) (r : Fin 64) : t.val * 64 + r.val < 64 := by
  have := t.isLt; have : cfg0.N = 1 := N_0; omega

/-- The array's row that is row `r` of point `t`'s block. -/
abbrev row (t : Fin cfg0.N) (r : Fin 64) : Fin 64 := ⟨t.val * 64 + r.val, row_lt t r⟩

theorem blk_w (c : Dev nD) (t : Fin cfg0.N) (r : Fin 64) (l : Fin 512) : iblk m c 0 t (ix2 r l) = w m c (ix2 (row t r) l) := by
  blk_ext [iblk, V, idx t]
theorem blk_m (c : Dev nD) (t : Fin cfg0.N) (r : Fin 64) (l : Fin 512) : iblk m c 1 t (ix2 r l) = mo m c (ix2 (row t r) l) := by
  blk_ext [iblk, V, idx t]
theorem blk_v (c : Dev nD) (t : Fin cfg0.N) (r : Fin 64) (l : Fin 512) : iblk m c 2 t (ix2 r l) = ve m c (ix2 (row t r) l) := by
  blk_ext [iblk, V, idx t]
theorem blk_p (c : Dev nD) (t : Fin cfg0.N) (d : Fin 8) (r : Fin 64) (l : Fin 512) :
    iblk m c 3 t (ix3 d r l) = parts m c (ix3 d (row t r) l) := by
  blk_ext [iblk, V, idx t]

/-- The block's gradient: the sum of the eight parts. -/
theorem blk_g (c : Dev nD) (t : Fin cfg0.N) (r : Fin 64) (l : Fin 512) :
    k0_pay5 (F := Ideal) (iblk m c 0 t) (iblk m c 1 t) (iblk m c 2 t) (iblk m c 3 t) (ix2 r l)
      = val_main_v1 (F := Ideal) (parts m c) (ix2 (row t r) l) := by
  rw [ref_g]
  refine Eq.trans ?_ (Finset.sum_congr rfl fun d _ => blk_p m c t d r l)
  rw [Fin.sum_univ_eight]
  generalize iblk m c 3 t = p
  simp only [k0_pay5, k0_pay4]
  pointwise

theorem blk_mom (c : Dev nD) (t : Fin cfg0.N) (r : Fin 64) (l : Fin 512) :
    k0_pay1 (F := Ideal) (k0_pay5 (F := Ideal) (iblk m c 0 t) (iblk m c 1 t) (iblk m c 2 t) (iblk m c 3 t)) (iblk m c 1 t) (ix2 r l)
      = val_main_v6 (F := Ideal) (mo m c) (parts m c) (ix2 (row t r) l) := by
  rw [ref_m]
  exact (pay_m _ _ _ _).trans (congrArg₂ mom (blk_m m c t r l) (blk_g m c t r l))

theorem blk_sec (c : Dev nD) (t : Fin cfg0.N) (r : Fin 64) (l : Fin 512) :
    k0_pay2 (F := Ideal) (k0_pay5 (F := Ideal) (iblk m c 0 t) (iblk m c 1 t) (iblk m c 2 t) (iblk m c 3 t)) (iblk m c 2 t) (ix2 r l)
      = val_main_v12 (F := Ideal) (ve m c) (parts m c) (ix2 (row t r) l) := by
  rw [ref_v]
  exact (pay_v _ _ _ _).trans (congrArg₂ sec (blk_v m c t r l) (blk_g m c t r l))

theorem blk_step (c : Dev nD) (t : Fin cfg0.N) (r : Fin 64) (l : Fin 512) :
    k0_pay3 (F := Ideal) (k0_pay5 (F := Ideal) (iblk m c 0 t) (iblk m c 1 t) (iblk m c 2 t) (iblk m c 3 t)) (iblk m c 0 t) (iblk m c 1 t)
        (iblk m c 2 t) (ix2 r l)
      = val_main_v25 (F := Ideal) (w m c) (mo m c) (ve m c) (parts m c) (ix2 (row t r) l) := by
  rw [ref_d]
  refine (pay_d _ _ _ _ _ _).trans ?_
  rw [blk_mom, blk_sec, blk_w]

theorem g_eq (c : Dev nD) : (dats m 0 c).arrAt 4 cfg0.N = val_main_v1 (F := Ideal) (parts m c) := by
  refine (dats m 0 c).arrAt_eq_of_covers 4 _ (by decide +kernel) fun t hf y => ?_
  blk_simp
  rw [after0_4]
  frame_out
  idx_vars y
  refine (blk_g m c t _ _).trans ?_
  blk_point [V, idx t]

theorem d_eq (c : Dev nD) : (dats m 0 c).arrAt 5 cfg0.N = val_main_v25 (F := Ideal) (w m c) (mo m c) (ve m c) (parts m c) := by
  refine (dats m 0 c).arrAt_eq_of_covers 5 _ (by decide +kernel) fun t hf y => ?_
  blk_simp
  rw [after0_5]
  frame_out
  idx_vars y
  refine (blk_step m c t _ _).trans ?_
  blk_point [V, idx t]

theorem m_eq (c : Dev nD) : (dats m 0 c).arrAt 6 cfg0.N = val_main_v6 (F := Ideal) (mo m c) (parts m c) := by
  refine (dats m 0 c).arrAt_eq_of_covers 6 _ (by decide +kernel) fun t hf y => ?_
  blk_simp
  rw [after0_6]
  frame_out
  idx_vars y
  refine (blk_mom m c t _ _).trans ?_
  blk_point [V, idx t]

theorem v_eq (c : Dev nD) : (dats m 0 c).arrAt 7 cfg0.N = val_main_v12 (F := Ideal) (ve m c) (parts m c) := by
  refine (dats m 0 c).arrAt_eq_of_covers 7 _ (by decide +kernel) fun t hf y => ?_
  blk_simp
  rw [after0_7]
  frame_out
  idx_vars y
  refine (blk_sec m c t _ _).trans ?_
  blk_point [V, idx t]

end Cert.UpdGluIdeal.Hand

end
-- ==== Proof.UpdOut.lean ====
/-
  The update of the output projection's weight: the sum of the devices' parts of the gradient, the moments and the step.
-/
module

public import proofs.«01_k».proof.Proof.Gen.UpdOutIdeal.Value
public import proofs.«01_k».proof.Proof.Gen.UpdOutRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.UpdOutIdeal.Hand

open Cert.UpdOutIdeal Cert.UpdOutIdeal.Gen Idealize.ShloMosaic Idealize.ShloMosaic.TcCoe Idealize.SL.Sem
open Idealize.ShloMosaic.Pipeline (Dat)
open Cert.UpdOutRefIdeal.Read

variable (m : (ℓ : Loc nD τ sig) → Buf (Elt Ideal) ℓ)

theorem idx : ∀ t : Fin grid0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] := by
  decide +kernel

/-- The first moment's update. -/
def mom (m g : EReal) : EReal := Ideal.ofBits .f32 0x3F666666#32 * m + Ideal.ofBits .f32 0x3DCCCCCD#32 * g

/-- The second moment's update. -/
def sec (v g : EReal) : EReal := Ideal.ofBits .f32 0x3F7FBE77#32 * v + Ideal.ofBits .f32 0x3A83126F#32 * (g * g)

/-- The weight's step, from the moments. -/
def step (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

variable (x0 x1 x2 : FVec Ideal S128x1024 .f32) (x3 : FVec Ideal S8x128x1024 .bf16) (r : Fin 128) (l : Fin 1024)

theorem ref_g : val_main_v1 (F := Ideal) x3 (ix2 r l) = ∑ d : Fin 8, x3 (ix3 d r l) := by
  pointwise [val_main_v0, val_main_v1, val_main_cst]

theorem ref_m : val_main_v6 (F := Ideal) x1 x3 (ix2 r l) = mom (x1 (ix2 r l)) (val_main_v1 (F := Ideal) x3 (ix2 r l)) := by
  pointwise [val_main_v2, val_main_v3, val_main_v4, val_main_v5, val_main_v6, val_main_cst_0, val_main_cst_1]
  rfl

theorem ref_v : val_main_v12 (F := Ideal) x2 x3 (ix2 r l) = sec (x2 (ix2 r l)) (val_main_v1 (F := Ideal) x3 (ix2 r l)) := by
  pointwise [val_main_v7, val_main_v8, val_main_v9, val_main_v10, val_main_v11, val_main_v12, val_main_cst_2, val_main_cst_3]
  rfl

theorem ref_d : val_main_v25 (F := Ideal) x0 x1 x2 x3 (ix2 r l)
    = step (x0 (ix2 r l)) (val_main_v6 (F := Ideal) x1 x3 (ix2 r l)) (val_main_v12 (F := Ideal) x2 x3 (ix2 r l)) := by
  pointwise [val_main_v13, val_main_v14, val_main_v15, val_main_v16, val_main_v17, val_main_v18, val_main_v19, val_main_v20, val_main_v21, val_main_v22, val_main_v23, val_main_v24, val_main_v25, val_main_cst_4, val_main_cst_5, val_main_cst_6, val_main_cst_7, val_main_cst_8]
  rfl

section
variable (g w u v : FVec Ideal S128x1024 .f32) (r : Fin 128)

theorem pay_m : k0_pay1 (F := Ideal) g u (ix2 r l) = mom (u (ix2 r l)) (g (ix2 r l)) := by
  simp only [k0_pay1]
  pointwise
  rfl

theorem pay_v : k0_pay2 (F := Ideal) g v (ix2 r l) = sec (v (ix2 r l)) (g (ix2 r l)) := by
  simp only [k0_pay2]
  pointwise
  rfl

theorem pay_d : k0_pay3 (F := Ideal) g w u v (ix2 r l)
    = step (w (ix2 r l)) (k0_pay1 (F := Ideal) g u (ix2 r l)) (k0_pay2 (F := Ideal) g v (ix2 r l)) := by
  simp only [k0_pay3]
  generalize k0_pay1 (F := Ideal) g u = a
  generalize k0_pay2 (F := Ideal) g v = b
  pointwise
  rfl
end

abbrev w (c : Dev nD) : FVec Ideal S128x1024 .f32 := m ((c : Thread nD τ).loc main_arg0)
abbrev mo (c : Dev nD) : FVec Ideal S128x1024 .f32 := m ((c : Thread nD τ).loc main_arg1)
abbrev ve (c : Dev nD) : FVec Ideal S128x1024 .f32 := m ((c : Thread nD τ).loc main_arg2)
abbrev parts (c : Dev nD) : FVec Ideal S8x128x1024 .bf16 := m ((c : Thread nD τ).loc main_arg3)

theorem row_lt (t : Fin cfg0.N) (r : Fin 128) : t.val * 128 + r.val < 128 := by
  have := t.isLt; have : cfg0.N = 1 := N_0; omega

/-- The array's row that is row `r` of point `t`'s block. -/
abbrev row (t : Fin cfg0.N) (r : Fin 128) : Fin 128 := ⟨t.val * 128 + r.val, row_lt t r⟩

theorem blk_w (c : Dev nD) (t : Fin cfg0.N) (r : Fin 128) (l : Fin 1024) : iblk m c 0 t (ix2 r l) = w m c (ix2 (row t r) l) := by
  blk_ext [iblk, V, idx t]
theorem blk_m (c : Dev nD) (t : Fin cfg0.N) (r : Fin 128) (l : Fin 1024) : iblk m c 1 t (ix2 r l) = mo m c (ix2 (row t r) l) := by
  blk_ext [iblk, V, idx t]
theorem blk_v (c : Dev nD) (t : Fin cfg0.N) (r : Fin 128) (l : Fin 1024) : iblk m c 2 t (ix2 r l) = ve m c (ix2 (row t r) l) := by
  blk_ext [iblk, V, idx t]
theorem blk_p (c : Dev nD) (t : Fin cfg0.N) (d : Fin 8) (r : Fin 128) (l : Fin 1024) :
    iblk m c 3 t (ix3 d r l) = parts m c (ix3 d (row t r) l) := by
  blk_ext [iblk, V, idx t]

/-- The block's gradient: the sum of the eight parts. -/
theorem blk_g (c : Dev nD) (t : Fin cfg0.N) (r : Fin 128) (l : Fin 1024) :
    k0_pay5 (F := Ideal) (iblk m c 0 t) (iblk m c 1 t) (iblk m c 2 t) (iblk m c 3 t) (ix2 r l)
      = val_main_v1 (F := Ideal) (parts m c) (ix2 (row t r) l) := by
  rw [ref_g]
  refine Eq.trans ?_ (Finset.sum_congr rfl fun d _ => blk_p m c t d r l)
  rw [Fin.sum_univ_eight]
  generalize iblk m c 3 t = p
  simp only [k0_pay5, k0_pay4]
  pointwise

theorem blk_mom (c : Dev nD) (t : Fin cfg0.N) (r : Fin 128) (l : Fin 1024) :
    k0_pay1 (F := Ideal) (k0_pay5 (F := Ideal) (iblk m c 0 t) (iblk m c 1 t) (iblk m c 2 t) (iblk m c 3 t)) (iblk m c 1 t) (ix2 r l)
      = val_main_v6 (F := Ideal) (mo m c) (parts m c) (ix2 (row t r) l) := by
  rw [ref_m]
  exact (pay_m _ _ _ _).trans (congrArg₂ mom (blk_m m c t r l) (blk_g m c t r l))

theorem blk_sec (c : Dev nD) (t : Fin cfg0.N) (r : Fin 128) (l : Fin 1024) :
    k0_pay2 (F := Ideal) (k0_pay5 (F := Ideal) (iblk m c 0 t) (iblk m c 1 t) (iblk m c 2 t) (iblk m c 3 t)) (iblk m c 2 t) (ix2 r l)
      = val_main_v12 (F := Ideal) (ve m c) (parts m c) (ix2 (row t r) l) := by
  rw [ref_v]
  exact (pay_v _ _ _ _).trans (congrArg₂ sec (blk_v m c t r l) (blk_g m c t r l))

theorem blk_step (c : Dev nD) (t : Fin cfg0.N) (r : Fin 128) (l : Fin 1024) :
    k0_pay3 (F := Ideal) (k0_pay5 (F := Ideal) (iblk m c 0 t) (iblk m c 1 t) (iblk m c 2 t) (iblk m c 3 t)) (iblk m c 0 t) (iblk m c 1 t)
        (iblk m c 2 t) (ix2 r l)
      = val_main_v25 (F := Ideal) (w m c) (mo m c) (ve m c) (parts m c) (ix2 (row t r) l) := by
  rw [ref_d]
  refine (pay_d _ _ _ _ _ _).trans ?_
  rw [blk_mom, blk_sec, blk_w]

theorem g_eq (c : Dev nD) : (dats m 0 c).arrAt 4 cfg0.N = val_main_v1 (F := Ideal) (parts m c) := by
  refine (dats m 0 c).arrAt_eq_of_covers 4 _ (by decide +kernel) fun t hf y => ?_
  blk_simp
  rw [after0_4]
  frame_out
  idx_vars y
  refine (blk_g m c t _ _).trans ?_
  blk_point [V, idx t]

theorem d_eq (c : Dev nD) : (dats m 0 c).arrAt 5 cfg0.N = val_main_v25 (F := Ideal) (w m c) (mo m c) (ve m c) (parts m c) := by
  refine (dats m 0 c).arrAt_eq_of_covers 5 _ (by decide +kernel) fun t hf y => ?_
  blk_simp
  rw [after0_5]
  frame_out
  idx_vars y
  refine (blk_step m c t _ _).trans ?_
  blk_point [V, idx t]

theorem m_eq (c : Dev nD) : (dats m 0 c).arrAt 6 cfg0.N = val_main_v6 (F := Ideal) (mo m c) (parts m c) := by
  refine (dats m 0 c).arrAt_eq_of_covers 6 _ (by decide +kernel) fun t hf y => ?_
  blk_simp
  rw [after0_6]
  frame_out
  idx_vars y
  refine (blk_mom m c t _ _).trans ?_
  blk_point [V, idx t]

theorem v_eq (c : Dev nD) : (dats m 0 c).arrAt 7 cfg0.N = val_main_v12 (F := Ideal) (ve m c) (parts m c) := by
  refine (dats m 0 c).arrAt_eq_of_covers 7 _ (by decide +kernel) fun t hf y => ?_
  blk_simp
  rw [after0_7]
  frame_out
  idx_vars y
  refine (blk_sec m c t _ _).trans ?_
  blk_point [V, idx t]

end Cert.UpdOutIdeal.Hand

end
-- ==== Proof.UpdUp.lean ====
/-
  The update of the up projection's weight: the sum of the devices' parts of the gradient, the moments and the step.
-/
module

public import proofs.«01_k».proof.Proof.Gen.UpdUpIdeal.Value
public import proofs.«01_k».proof.Proof.Gen.UpdUpRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.UpdUpIdeal.Hand

open Cert.UpdUpIdeal Cert.UpdUpIdeal.Gen Idealize.ShloMosaic Idealize.ShloMosaic.TcCoe Idealize.SL.Sem
open Idealize.ShloMosaic.Pipeline (Dat)
open Cert.UpdUpRefIdeal.Read

variable (m : (ℓ : Loc nD τ sig) → Buf (Elt Ideal) ℓ)

theorem idx : ∀ t : Fin grid0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] := by
  decide +kernel

/-- The first moment's update. -/
def mom (m g : EReal) : EReal := Ideal.ofBits .f32 0x3F666666#32 * m + Ideal.ofBits .f32 0x3DCCCCCD#32 * g

/-- The second moment's update. -/
def sec (v g : EReal) : EReal := Ideal.ofBits .f32 0x3F7FBE77#32 * v + Ideal.ofBits .f32 0x3A83126F#32 * (g * g)

/-- The weight's step, from the moments. -/
def step (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

variable (x0 x1 x2 : FVec Ideal S1024x512 .f32) (x3 : FVec Ideal S8x1024x512 .bf16) (r : Fin 1024) (l : Fin 512)

theorem ref_g : val_main_v1 (F := Ideal) x3 (ix2 r l) = ∑ d : Fin 8, x3 (ix3 d r l) := by
  pointwise [val_main_v0, val_main_v1, val_main_cst]

theorem ref_m : val_main_v6 (F := Ideal) x1 x3 (ix2 r l) = mom (x1 (ix2 r l)) (val_main_v1 (F := Ideal) x3 (ix2 r l)) := by
  pointwise [val_main_v2, val_main_v3, val_main_v4, val_main_v5, val_main_v6, val_main_cst_0, val_main_cst_1]
  rfl

theorem ref_v : val_main_v12 (F := Ideal) x2 x3 (ix2 r l) = sec (x2 (ix2 r l)) (val_main_v1 (F := Ideal) x3 (ix2 r l)) := by
  pointwise [val_main_v7, val_main_v8, val_main_v9, val_main_v10, val_main_v11, val_main_v12, val_main_cst_2, val_main_cst_3]
  rfl

theorem ref_d : val_main_v25 (F := Ideal) x0 x1 x2 x3 (ix2 r l)
    = step (x0 (ix2 r l)) (val_main_v6 (F := Ideal) x1 x3 (ix2 r l)) (val_main_v12 (F := Ideal) x2 x3 (ix2 r l)) := by
  pointwise [val_main_v13, val_main_v14, val_main_v15, val_main_v16, val_main_v17, val_main_v18, val_main_v19, val_main_v20, val_main_v21, val_main_v22, val_main_v23, val_main_v24, val_main_v25, val_main_cst_4, val_main_cst_5, val_main_cst_6, val_main_cst_7, val_main_cst_8]
  rfl

section
variable (g w u v : FVec Ideal S256x512 .f32) (r : Fin 256)

theorem pay_m : k0_pay1 (F := Ideal) g u (ix2 r l) = mom (u (ix2 r l)) (g (ix2 r l)) := by
  simp only [k0_pay1]
  pointwise
  rfl

theorem pay_v : k0_pay2 (F := Ideal) g v (ix2 r l) = sec (v (ix2 r l)) (g (ix2 r l)) := by
  simp only [k0_pay2]
  pointwise
  rfl

theorem pay_d : k0_pay3 (F := Ideal) g w u v (ix2 r l)
    = step (w (ix2 r l)) (k0_pay1 (F := Ideal) g u (ix2 r l)) (k0_pay2 (F := Ideal) g v (ix2 r l)) := by
  simp only [k0_pay3]
  generalize k0_pay1 (F := Ideal) g u = a
  generalize k0_pay2 (F := Ideal) g v = b
  pointwise
  rfl
end

abbrev w (c : Dev nD) : FVec Ideal S1024x512 .f32 := m ((c : Thread nD τ).loc main_arg0)
abbrev mo (c : Dev nD) : FVec Ideal S1024x512 .f32 := m ((c : Thread nD τ).loc main_arg1)
abbrev ve (c : Dev nD) : FVec Ideal S1024x512 .f32 := m ((c : Thread nD τ).loc main_arg2)
abbrev parts (c : Dev nD) : FVec Ideal S8x1024x512 .bf16 := m ((c : Thread nD τ).loc main_arg3)

theorem row_lt (t : Fin cfg0.N) (r : Fin 256) : t.val * 256 + r.val < 1024 := by
  have := t.isLt; have : cfg0.N = 4 := N_0; omega

/-- The array's row that is row `r` of point `t`'s block. -/
abbrev row (t : Fin cfg0.N) (r : Fin 256) : Fin 1024 := ⟨t.val * 256 + r.val, row_lt t r⟩

theorem blk_w (c : Dev nD) (t : Fin cfg0.N) (r : Fin 256) (l : Fin 512) : iblk m c 0 t (ix2 r l) = w m c (ix2 (row t r) l) := by
  blk_ext [iblk, V, idx t]
theorem blk_m (c : Dev nD) (t : Fin cfg0.N) (r : Fin 256) (l : Fin 512) : iblk m c 1 t (ix2 r l) = mo m c (ix2 (row t r) l) := by
  blk_ext [iblk, V, idx t]
theorem blk_v (c : Dev nD) (t : Fin cfg0.N) (r : Fin 256) (l : Fin 512) : iblk m c 2 t (ix2 r l) = ve m c (ix2 (row t r) l) := by
  blk_ext [iblk, V, idx t]
theorem blk_p (c : Dev nD) (t : Fin cfg0.N) (d : Fin 8) (r : Fin 256) (l : Fin 512) :
    iblk m c 3 t (ix3 d r l) = parts m c (ix3 d (row t r) l) := by
  blk_ext [iblk, V, idx t]

/-- The block's gradient: the sum of the eight parts. -/
theorem blk_g (c : Dev nD) (t : Fin cfg0.N) (r : Fin 256) (l : Fin 512) :
    k0_pay5 (F := Ideal) (iblk m c 0 t) (iblk m c 1 t) (iblk m c 2 t) (iblk m c 3 t) (ix2 r l)
      = val_main_v1 (F := Ideal) (parts m c) (ix2 (row t r) l) := by
  rw [ref_g]
  refine Eq.trans ?_ (Finset.sum_congr rfl fun d _ => blk_p m c t d r l)
  rw [Fin.sum_univ_eight]
  generalize iblk m c 3 t = p
  simp only [k0_pay5, k0_pay4]
  pointwise

theorem blk_mom (c : Dev nD) (t : Fin cfg0.N) (r : Fin 256) (l : Fin 512) :
    k0_pay1 (F := Ideal) (k0_pay5 (F := Ideal) (iblk m c 0 t) (iblk m c 1 t) (iblk m c 2 t) (iblk m c 3 t)) (iblk m c 1 t) (ix2 r l)
      = val_main_v6 (F := Ideal) (mo m c) (parts m c) (ix2 (row t r) l) := by
  rw [ref_m]
  exact (pay_m _ _ _ _).trans (congrArg₂ mom (blk_m m c t r l) (blk_g m c t r l))

theorem blk_sec (c : Dev nD) (t : Fin cfg0.N) (r : Fin 256) (l : Fin 512) :
    k0_pay2 (F := Ideal) (k0_pay5 (F := Ideal) (iblk m c 0 t) (iblk m c 1 t) (iblk m c 2 t) (iblk m c 3 t)) (iblk m c 2 t) (ix2 r l)
      = val_main_v12 (F := Ideal) (ve m c) (parts m c) (ix2 (row t r) l) := by
  rw [ref_v]
  exact (pay_v _ _ _ _).trans (congrArg₂ sec (blk_v m c t r l) (blk_g m c t r l))

theorem blk_step (c : Dev nD) (t : Fin cfg0.N) (r : Fin 256) (l : Fin 512) :
    k0_pay3 (F := Ideal) (k0_pay5 (F := Ideal) (iblk m c 0 t) (iblk m c 1 t) (iblk m c 2 t) (iblk m c 3 t)) (iblk m c 0 t) (iblk m c 1 t)
        (iblk m c 2 t) (ix2 r l)
      = val_main_v25 (F := Ideal) (w m c) (mo m c) (ve m c) (parts m c) (ix2 (row t r) l) := by
  rw [ref_d]
  refine (pay_d _ _ _ _ _ _).trans ?_
  rw [blk_mom, blk_sec, blk_w]

theorem g_eq (c : Dev nD) : (dats m 0 c).arrAt 4 cfg0.N = val_main_v1 (F := Ideal) (parts m c) := by
  refine (dats m 0 c).arrAt_eq_of_covers 4 _ (by decide +kernel) fun t hf y => ?_
  blk_simp
  rw [after0_4]
  frame_out
  idx_vars y
  refine (blk_g m c t _ _).trans ?_
  blk_point [V, idx t]

theorem d_eq (c : Dev nD) : (dats m 0 c).arrAt 5 cfg0.N = val_main_v25 (F := Ideal) (w m c) (mo m c) (ve m c) (parts m c) := by
  refine (dats m 0 c).arrAt_eq_of_covers 5 _ (by decide +kernel) fun t hf y => ?_
  blk_simp
  rw [after0_5]
  frame_out
  idx_vars y
  refine (blk_step m c t _ _).trans ?_
  blk_point [V, idx t]

theorem m_eq (c : Dev nD) : (dats m 0 c).arrAt 6 cfg0.N = val_main_v6 (F := Ideal) (mo m c) (parts m c) := by
  refine (dats m 0 c).arrAt_eq_of_covers 6 _ (by decide +kernel) fun t hf y => ?_
  blk_simp
  rw [after0_6]
  frame_out
  idx_vars y
  refine (blk_mom m c t _ _).trans ?_
  blk_point [V, idx t]

theorem v_eq (c : Dev nD) : (dats m 0 c).arrAt 7 cfg0.N = val_main_v12 (F := Ideal) (ve m c) (parts m c) := by
  refine (dats m 0 c).arrAt_eq_of_covers 7 _ (by decide +kernel) fun t hf y => ?_
  blk_simp
  rw [after0_7]
  frame_out
  idx_vars y
  refine (blk_sec m c t _ _).trans ?_
  blk_point [V, idx t]

end Cert.UpdUpIdeal.Hand

end
-- ==== Proof.UpdDown.lean ====
/-
  The update of the down projection's weight: the sum of the devices' parts of the gradient, the moments and the step.
-/
module

public import proofs.«01_k».proof.Proof.Gen.UpdDownIdeal.Value
public import proofs.«01_k».proof.Proof.Gen.UpdDownRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.UpdDownIdeal.Hand

open Cert.UpdDownIdeal Cert.UpdDownIdeal.Gen Idealize.ShloMosaic Idealize.ShloMosaic.TcCoe Idealize.SL.Sem
open Idealize.ShloMosaic.Pipeline (Dat)
open Cert.UpdDownRefIdeal.Read

variable (m : (ℓ : Loc nD τ sig) → Buf (Elt Ideal) ℓ)

theorem idx : ∀ t : Fin grid0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] := by
  decide +kernel

/-- The first moment's update. -/
def mom (m g : EReal) : EReal := Ideal.ofBits .f32 0x3F666666#32 * m + Ideal.ofBits .f32 0x3DCCCCCD#32 * g

/-- The second moment's update. -/
def sec (v g : EReal) : EReal := Ideal.ofBits .f32 0x3F7FBE77#32 * v + Ideal.ofBits .f32 0x3A83126F#32 * (g * g)

/-- The weight's step, from the moments. -/
def step (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

variable (x0 x1 x2 : FVec Ideal S512x1024 .f32) (x3 : FVec Ideal S8x512x1024 .bf16) (r : Fin 512) (l : Fin 1024)

theorem ref_g : val_main_v1 (F := Ideal) x3 (ix2 r l) = ∑ d : Fin 8, x3 (ix3 d r l) := by
  pointwise [val_main_v0, val_main_v1, val_main_cst]

theorem ref_m : val_main_v6 (F := Ideal) x1 x3 (ix2 r l) = mom (x1 (ix2 r l)) (val_main_v1 (F := Ideal) x3 (ix2 r l)) := by
  pointwise [val_main_v2, val_main_v3, val_main_v4, val_main_v5, val_main_v6, val_main_cst_0, val_main_cst_1]
  rfl

theorem ref_v : val_main_v12 (F := Ideal) x2 x3 (ix2 r l) = sec (x2 (ix2 r l)) (val_main_v1 (F := Ideal) x3 (ix2 r l)) := by
  pointwise [val_main_v7, val_main_v8, val_main_v9, val_main_v10, val_main_v11, val_main_v12, val_main_cst_2, val_main_cst_3]
  rfl

theorem ref_d : val_main_v25 (F := Ideal) x0 x1 x2 x3 (ix2 r l)
    = step (x0 (ix2 r l)) (val_main_v6 (F := Ideal) x1 x3 (ix2 r l)) (val_main_v12 (F := Ideal) x2 x3 (ix2 r l)) := by
  pointwise [val_main_v13, val_main_v14, val_main_v15, val_main_v16, val_main_v17, val_main_v18, val_main_v19, val_main_v20, val_main_v21, val_main_v22, val_main_v23, val_main_v24, val_main_v25, val_main_cst_4, val_main_cst_5, val_main_cst_6, val_main_cst_7, val_main_cst_8]
  rfl

section
variable (g w u v : FVec Ideal S128x1024 .f32) (r : Fin 128)

theorem pay_m : k0_pay1 (F := Ideal) g u (ix2 r l) = mom (u (ix2 r l)) (g (ix2 r l)) := by
  simp only [k0_pay1]
  pointwise
  rfl

theorem pay_v : k0_pay2 (F := Ideal) g v (ix2 r l) = sec (v (ix2 r l)) (g (ix2 r l)) := by
  simp only [k0_pay2]
  pointwise
  rfl

theorem pay_d : k0_pay3 (F := Ideal) g w u v (ix2 r l)
    = step (w (ix2 r l)) (k0_pay1 (F := Ideal) g u (ix2 r l)) (k0_pay2 (F := Ideal) g v (ix2 r l)) := by
  simp only [k0_pay3]
  generalize k0_pay1 (F := Ideal) g u = a
  generalize k0_pay2 (F := Ideal) g v = b
  pointwise
  rfl
end

abbrev w (c : Dev nD) : FVec Ideal S512x1024 .f32 := m ((c : Thread nD τ).loc main_arg0)
abbrev mo (c : Dev nD) : FVec Ideal S512x1024 .f32 := m ((c : Thread nD τ).loc main_arg1)
abbrev ve (c : Dev nD) : FVec Ideal S512x1024 .f32 := m ((c : Thread nD τ).loc main_arg2)
abbrev parts (c : Dev nD) : FVec Ideal S8x512x1024 .bf16 := m ((c : Thread nD τ).loc main_arg3)

theorem row_lt (t : Fin cfg0.N) (r : Fin 128) : t.val * 128 + r.val < 512 := by
  have := t.isLt; have : cfg0.N = 4 := N_0; omega

/-- The array's row that is row `r` of point `t`'s block. -/
abbrev row (t : Fin cfg0.N) (r : Fin 128) : Fin 512 := ⟨t.val * 128 + r.val, row_lt t r⟩

theorem blk_w (c : Dev nD) (t : Fin cfg0.N) (r : Fin 128) (l : Fin 1024) : iblk m c 0 t (ix2 r l) = w m c (ix2 (row t r) l) := by
  blk_ext [iblk, V, idx t]
theorem blk_m (c : Dev nD) (t : Fin cfg0.N) (r : Fin 128) (l : Fin 1024) : iblk m c 1 t (ix2 r l) = mo m c (ix2 (row t r) l) := by
  blk_ext [iblk, V, idx t]
theorem blk_v (c : Dev nD) (t : Fin cfg0.N) (r : Fin 128) (l : Fin 1024) : iblk m c 2 t (ix2 r l) = ve m c (ix2 (row t r) l) := by
  blk_ext [iblk, V, idx t]
theorem blk_p (c : Dev nD) (t : Fin cfg0.N) (d : Fin 8) (r : Fin 128) (l : Fin 1024) :
    iblk m c 3 t (ix3 d r l) = parts m c (ix3 d (row t r) l) := by
  blk_ext [iblk, V, idx t]

/-- The block's gradient: the sum of the eight parts. -/
theorem blk_g (c : Dev nD) (t : Fin cfg0.N) (r : Fin 128) (l : Fin 1024) :
    k0_pay5 (F := Ideal) (iblk m c 0 t) (iblk m c 1 t) (iblk m c 2 t) (iblk m c 3 t) (ix2 r l)
      = val_main_v1 (F := Ideal) (parts m c) (ix2 (row t r) l) := by
  rw [ref_g]
  refine Eq.trans ?_ (Finset.sum_congr rfl fun d _ => blk_p m c t d r l)
  rw [Fin.sum_univ_eight]
  generalize iblk m c 3 t = p
  simp only [k0_pay5, k0_pay4]
  pointwise

theorem blk_mom (c : Dev nD) (t : Fin cfg0.N) (r : Fin 128) (l : Fin 1024) :
    k0_pay1 (F := Ideal) (k0_pay5 (F := Ideal) (iblk m c 0 t) (iblk m c 1 t) (iblk m c 2 t) (iblk m c 3 t)) (iblk m c 1 t) (ix2 r l)
      = val_main_v6 (F := Ideal) (mo m c) (parts m c) (ix2 (row t r) l) := by
  rw [ref_m]
  exact (pay_m _ _ _ _).trans (congrArg₂ mom (blk_m m c t r l) (blk_g m c t r l))

theorem blk_sec (c : Dev nD) (t : Fin cfg0.N) (r : Fin 128) (l : Fin 1024) :
    k0_pay2 (F := Ideal) (k0_pay5 (F := Ideal) (iblk m c 0 t) (iblk m c 1 t) (iblk m c 2 t) (iblk m c 3 t)) (iblk m c 2 t) (ix2 r l)
      = val_main_v12 (F := Ideal) (ve m c) (parts m c) (ix2 (row t r) l) := by
  rw [ref_v]
  exact (pay_v _ _ _ _).trans (congrArg₂ sec (blk_v m c t r l) (blk_g m c t r l))

theorem blk_step (c : Dev nD) (t : Fin cfg0.N) (r : Fin 128) (l : Fin 1024) :
    k0_pay3 (F := Ideal) (k0_pay5 (F := Ideal) (iblk m c 0 t) (iblk m c 1 t) (iblk m c 2 t) (iblk m c 3 t)) (iblk m c 0 t) (iblk m c 1 t)
        (iblk m c 2 t) (ix2 r l)
      = val_main_v25 (F := Ideal) (w m c) (mo m c) (ve m c) (parts m c) (ix2 (row t r) l) := by
  rw [ref_d]
  refine (pay_d _ _ _ _ _ _).trans ?_
  rw [blk_mom, blk_sec, blk_w]

theorem g_eq (c : Dev nD) : (dats m 0 c).arrAt 4 cfg0.N = val_main_v1 (F := Ideal) (parts m c) := by
  refine (dats m 0 c).arrAt_eq_of_covers 4 _ (by decide +kernel) fun t hf y => ?_
  blk_simp
  rw [after0_4]
  frame_out
  idx_vars y
  refine (blk_g m c t _ _).trans ?_
  blk_point [V, idx t]

theorem d_eq (c : Dev nD) : (dats m 0 c).arrAt 5 cfg0.N = val_main_v25 (F := Ideal) (w m c) (mo m c) (ve m c) (parts m c) := by
  refine (dats m 0 c).arrAt_eq_of_covers 5 _ (by decide +kernel) fun t hf y => ?_
  blk_simp
  rw [after0_5]
  frame_out
  idx_vars y
  refine (blk_step m c t _ _).trans ?_
  blk_point [V, idx t]

theorem m_eq (c : Dev nD) : (dats m 0 c).arrAt 6 cfg0.N = val_main_v6 (F := Ideal) (mo m c) (parts m c) := by
  refine (dats m 0 c).arrAt_eq_of_covers 6 _ (by decide +kernel) fun t hf y => ?_
  blk_simp
  rw [after0_6]
  frame_out
  idx_vars y
  refine (blk_mom m c t _ _).trans ?_
  blk_point [V, idx t]

theorem v_eq (c : Dev nD) : (dats m 0 c).arrAt 7 cfg0.N = val_main_v12 (F := Ideal) (ve m c) (parts m c) := by
  refine (dats m 0 c).arrAt_eq_of_covers 7 _ (by decide +kernel) fun t hf y => ?_
  blk_simp
  rw [after0_7]
  frame_out
  idx_vars y
  refine (blk_sec m c t _ _).trans ?_
  blk_point [V, idx t]

end Cert.UpdDownIdeal.Hand

end
-- ==== Proof.QkRow.lean ====
/-
  The backward call of the norms of query and key, row by row: what each line of the reference and each payload of the kernel is
  at an index.
-/
module

public import proofs.«01_k».proof.Proof.Gen.QkBwdIdeal.Value
public import proofs.«01_k».proof.Proof.Gen.QkBwdRefIdeal.Read
public import proofs.«01_k».proof.Proof.Heads
public import Idealize.ShloMosaic.Lib.Pipeline.ValueKit
public import Idealize.ShloMosaic.Lib.Pointwise
public import Idealize.ShloMosaic.Lib.Claim

@[expose] public section

set_option maxRecDepth 16384

noncomputable section

namespace Cert.QkBwdIdeal.Hand

open Cert.QkBwdIdeal Cert.QkBwdIdeal.Gen Idealize.ShloMosaic Idealize.ShloMosaic.TcCoe Idealize.SL.Sem
open Idealize.ShloMosaic.Pipeline (Dat)
open Cert.QkBwdRefIdeal.Read

theorem idx : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0] ∧ win0_7.index t = ![0, 0]
    ∧ win0_8.index t = ![t.val, 0] ∧ win0_9.index t = ![0, 0] ∧ win0_10.index t = ![0, 0] := by
  decide +kernel

theorem ref_q (x2 : FVec Ideal S16384x1024 .f32) (r : Fin 16384) (h : Fin 8) (j : Fin 64) :
    val_main_v3 (F := Ideal) x2 (ix3 r h j) = x2 (ix2 r ⟨(h.val * 64 + j.val), by omega⟩) := by
  pointwise [val_main_cst, val_main_v0, val_main_v1, val_main_v2, val_main_v3]
  rw [dif_pos (by omega)]

/-- The norm's scale at a head, -/
theorem ref_scale_q (x2 : FVec Ideal S16384x1024 .f32) (r : Fin 16384) (h : Fin 8) :
    val_main_v14 (F := Ideal) x2 (ix3 r h 0) = Cert.Heads.scale (fun j => val_main_v3 (F := Ideal) x2 (ix3 r h j)) := by
  pointwise [val_main_v7, val_main_cst_0, val_main_v8, val_main_v9, val_main_cst_1, val_main_v10, val_main_v11, val_main_cst_2, val_main_v12, val_main_v13, val_main_v14]
  rfl

/-- and the gradient at the projection. -/
theorem ref_dq (x0 : FVec Ideal S16384x512 .f32) (x2 : FVec Ideal S16384x1024 .f32) (x5 : FVec Ideal S1x512 .f32) (r : Fin 16384) (l : Fin 512) :
    val_main_v85 (F := Ideal) x0 x2 x5 (ix3 r ⟨l.val / 64, by omega⟩ ⟨l.val % 64, by omega⟩) = Cert.Heads.ldnorm (fun l => x2 (ix2 r ⟨l.val, by omega⟩)) (fun l => x0 (ix2 r l) * x5 (ix2 0 l)) l := by
  have e (j : Fin 64) := ref_q x2 r ⟨l.val / 64, by omega⟩ j
  generalize hz : val_main_v3 (F := Ideal) x2 = z at e
  pointwise [val_main_v6, val_main_v7, val_main_cst_0, val_main_v8, val_main_v9, val_main_cst_1, val_main_v10, val_main_v11, val_main_cst_2, val_main_v12, val_main_v13, val_main_v14, val_main_v15, val_main_cst_3, val_main_v16, val_main_v17, val_main_v46, val_main_v70, val_main_v71, val_main_v72, val_main_cst_15, val_main_v73, val_main_v74, val_main_v75, val_main_v76, val_main_v77, val_main_cst_16, val_main_v78, val_main_v79, val_main_cst_17, val_main_v80, val_main_v81, val_main_v82, val_main_v83, val_main_v84, val_main_v85]
  simp only [Finset.sum_const, Finset.card_univ, Fintype.card_fin, one_smul, hz, e, Nat.div_add_mod']
  have h := Cert.Heads.grad (fun j => (fun l => x2 (ix2 r ⟨l.val, by omega⟩)) (Cert.Heads.lane l rfl j)) (fun j => (fun l => x0 (ix2 r l) * x5 (ix2 0 l)) (Cert.Heads.lane l rfl j)) ⟨l.val % 64, by omega⟩
  simp only [Cert.Heads.lane_self] at h
  exact h

theorem ref_k (x2 : FVec Ideal S16384x1024 .f32) (r : Fin 16384) (h : Fin 8) (j : Fin 64) :
    val_main_v5 (F := Ideal) x2 (ix3 r h j) = x2 (ix2 r ⟨512 + (h.val * 64 + j.val), by omega⟩) := by
  pointwise [val_main_cst, val_main_v0, val_main_v1, val_main_v4, val_main_v5]
  rw [dif_pos (by omega)]

/-- The norm's scale at a head, -/
theorem ref_scale_k (x2 : FVec Ideal S16384x1024 .f32) (r : Fin 16384) (h : Fin 8) :
    val_main_v30 (F := Ideal) x2 (ix3 r h 0) = Cert.Heads.scale (fun j => val_main_v5 (F := Ideal) x2 (ix3 r h j)) := by
  pointwise [val_main_v23, val_main_cst_4, val_main_v24, val_main_v25, val_main_cst_5, val_main_v26, val_main_v27, val_main_cst_6, val_main_v28, val_main_v29, val_main_v30]
  rfl

/-- and the gradient at the projection. -/
theorem ref_dk (x1 : FVec Ideal S16384x512 .f32) (x2 : FVec Ideal S16384x1024 .f32) (x6 : FVec Ideal S1x512 .f32) (r : Fin 16384) (l : Fin 512) :
    val_main_v65 (F := Ideal) x1 x2 x6 (ix3 r ⟨l.val / 64, by omega⟩ ⟨l.val % 64, by omega⟩) = Cert.Heads.ldnorm (fun l => x2 (ix2 r ⟨512 + l.val, by omega⟩)) (fun l => x1 (ix2 r l) * x6 (ix2 0 l)) l := by
  have e (j : Fin 64) := ref_k x2 r ⟨l.val / 64, by omega⟩ j
  generalize hz : val_main_v5 (F := Ideal) x2 = z at e
  pointwise [val_main_v22, val_main_v23, val_main_cst_4, val_main_v24, val_main_v25, val_main_cst_5, val_main_v26, val_main_v27, val_main_cst_6, val_main_v28, val_main_v29, val_main_v30, val_main_v31, val_main_cst_7, val_main_v32, val_main_v33, val_main_v45, val_main_v50, val_main_v51, val_main_v52, val_main_cst_11, val_main_v53, val_main_v54, val_main_v55, val_main_v56, val_main_v57, val_main_cst_12, val_main_v58, val_main_v59, val_main_cst_13, val_main_v60, val_main_v61, val_main_v62, val_main_v63, val_main_v64, val_main_v65]
  simp only [Finset.sum_const, Finset.card_univ, Fintype.card_fin, one_smul, hz, e, Nat.div_add_mod']
  have h := Cert.Heads.grad (fun j => (fun l => x2 (ix2 r ⟨512 + l.val, by omega⟩)) (Cert.Heads.lane l rfl j)) (fun j => (fun l => x1 (ix2 r l) * x6 (ix2 0 l)) (Cert.Heads.lane l rfl j)) ⟨l.val % 64, by omega⟩
  simp only [Cert.Heads.lane_self] at h
  exact h

/-- A column of the query's gain's gradient, -/
def term_q (x0 : FVec Ideal S16384x512 .f32) (x2 : FVec Ideal S16384x1024 .f32) (l : Fin 512) (r : Fin 16384) : EReal :=
  x0 (ix2 r l) * (x2 (ix2 r ⟨l.val, by omega⟩) * Cert.Heads.scale (fun j => x2 (ix2 r ⟨(Cert.Heads.lane l rfl j).val, by omega⟩)))

theorem ref_gq (x0 : FVec Ideal S16384x512 .f32) (x2 : FVec Ideal S16384x1024 .f32) (l : Fin 512) : val_main_v86 (F := Ideal) x0 x2 (ix2 0 l) = ∑ r, term_q x0 x2 l r := by
  pointwise [val_main_v18, val_main_v19, val_main_v46, val_main_v67, val_main_cst_14, val_main_v68, val_main_v69, val_main_v86]
  refine Finset.sum_congr rfl fun r _ => ?_
  simp only [ref_scale_q, ref_q, Nat.div_add_mod']
  rw [mul_comm]
  rfl

/-- and of the key's. -/
def term_k (x1 : FVec Ideal S16384x512 .f32) (x2 : FVec Ideal S16384x1024 .f32) (l : Fin 512) (r : Fin 16384) : EReal :=
  x1 (ix2 r l) * (x2 (ix2 r ⟨512 + l.val, by omega⟩) * Cert.Heads.scale (fun j => x2 (ix2 r ⟨512 + (Cert.Heads.lane l rfl j).val, by omega⟩)))

theorem ref_gk (x1 : FVec Ideal S16384x512 .f32) (x2 : FVec Ideal S16384x1024 .f32) (l : Fin 512) : val_main_v66 (F := Ideal) x1 x2 (ix2 0 l) = ∑ r, term_k x1 x2 l r := by
  pointwise [val_main_v34, val_main_v35, val_main_v45, val_main_v47, val_main_cst_10, val_main_v48, val_main_v49, val_main_v66]
  refine Finset.sum_congr rfl fun r _ => ?_
  simp only [ref_scale_k, ref_k, Nat.div_add_mod']
  rw [mul_comm]
  rfl

/-! The four groups of columns of the projection's gradient. -/

theorem ref_out_q (x0 : FVec Ideal S16384x512 .f32) (x1 : FVec Ideal S16384x512 .f32) (x2 : FVec Ideal S16384x1024 .f32) (x3 : FVec Ideal S16384x512 .f32) (x4 : FVec Ideal S16384x512 .f32) (x5 : FVec Ideal S1x512 .f32) (x6 : FVec Ideal S1x512 .f32) (r : Fin 16384) (l : Fin 512) :
    val_main_v93 (F := Ideal) x0 x1 x2 x3 x4 x5 x6 (ix2 r ⟨l.val, by omega⟩) = val_main_v85 (F := Ideal) x0 x2 x5 (ix3 r ⟨l.val / 64, by omega⟩ ⟨l.val % 64, by omega⟩) := by
  pointwise [val_main_cst_8, val_main_v42, val_main_cst_9, val_main_v43, val_main_v44, val_main_v87, val_main_cst_18, val_main_v88, val_main_v89, val_main_v90, val_main_cst_19, val_main_v91, val_main_v92, val_main_v93]
  rw [dif_neg (by omega), dif_neg (by omega), dif_neg fun h => h.1]
  simp only [zero_add, add_zero]

theorem ref_out_k (x0 : FVec Ideal S16384x512 .f32) (x1 : FVec Ideal S16384x512 .f32) (x2 : FVec Ideal S16384x1024 .f32) (x3 : FVec Ideal S16384x512 .f32) (x4 : FVec Ideal S16384x512 .f32) (x5 : FVec Ideal S1x512 .f32) (x6 : FVec Ideal S1x512 .f32) (r : Fin 16384) (l : Fin 512) :
    val_main_v93 (F := Ideal) x0 x1 x2 x3 x4 x5 x6 (ix2 r ⟨512 + l.val, by omega⟩) = val_main_v65 (F := Ideal) x1 x2 x6 (ix3 r ⟨l.val / 64, by omega⟩ ⟨l.val % 64, by omega⟩) := by
  pointwise [val_main_cst_8, val_main_v42, val_main_cst_9, val_main_v43, val_main_v44, val_main_v87, val_main_cst_18, val_main_v88, val_main_v89, val_main_v90, val_main_cst_19, val_main_v91, val_main_v92, val_main_v93]
  rw [dif_neg (by omega), dif_neg (by omega)]
  simp only [zero_add, add_zero]

theorem ref_out_v (x0 : FVec Ideal S16384x512 .f32) (x1 : FVec Ideal S16384x512 .f32) (x2 : FVec Ideal S16384x1024 .f32) (x3 : FVec Ideal S16384x512 .f32) (x4 : FVec Ideal S16384x512 .f32) (x5 : FVec Ideal S1x512 .f32) (x6 : FVec Ideal S1x512 .f32) (r : Fin 16384) (l : Fin 512) : val_main_v93 (F := Ideal) x0 x1 x2 x3 x4 x5 x6 (ix2 r ⟨1024 + l.val, by omega⟩) = x3 (ix2 r l) := by
  pointwise [val_main_cst_8, val_main_v42, val_main_cst_9, val_main_v43, val_main_v44, val_main_v87, val_main_cst_18, val_main_v88, val_main_v89, val_main_v90, val_main_cst_19, val_main_v91, val_main_v92, val_main_v93]
  rw [dif_neg (by omega), dif_neg (by omega), dif_neg (by omega)]
  simp only [zero_add, add_zero]

theorem ref_out_u (x0 : FVec Ideal S16384x512 .f32) (x1 : FVec Ideal S16384x512 .f32) (x2 : FVec Ideal S16384x1024 .f32) (x3 : FVec Ideal S16384x512 .f32) (x4 : FVec Ideal S16384x512 .f32) (x5 : FVec Ideal S1x512 .f32) (x6 : FVec Ideal S1x512 .f32) (r : Fin 16384) (l : Fin 512) : val_main_v93 (F := Ideal) x0 x1 x2 x3 x4 x5 x6 (ix2 r ⟨1536 + l.val, by omega⟩) = x4 (ix2 r l) := by
  pointwise [val_main_cst_8, val_main_v42, val_main_cst_9, val_main_v43, val_main_v44, val_main_v87, val_main_cst_18, val_main_v88, val_main_v89, val_main_v90, val_main_cst_19, val_main_v91, val_main_v92, val_main_v93]
  rw [dif_neg (by omega), dif_neg (by omega), dif_neg (by omega)]
  simp only [zero_add, add_zero]

/-! ## The kernel's rows -/

theorem pay_scale (w : FVec Ideal S256x256 .bf16) (hw : ∀ k l, w (ix2 k l) = Cert.Heads.gm k l) (x : FVec Ideal S1024x512 .f32)
    (hx : ∀ i, Cert.Finite.Real' (x i)) (r : Fin 1024) (l : Fin 512) :
    k0_pay3 (F := Ideal) w x (ix2 r l) = Cert.Heads.scale (fun j => x (ix2 r (Cert.Heads.lane l rfl j))) := by
  simp only [k0_pay3, k0_pay2]
  pointwise
  simp only [hw]
  exact congrArg (fun s => Ideal.rsqrt (s + Ideal.ofBits .f32 0x358637BD#32))
    (Cert.Heads.halves (fun k => x (ix2 r k) * x (ix2 r k)) (fun k => Cert.Finite.mul (hx _) (hx _)) l)

theorem pay_scale' (w : FVec Ideal S256x256 .bf16) (hw : ∀ k l, w (ix2 k l) = Cert.Heads.gm k l) (x : FVec Ideal S1024x512 .f32)
    (hx : ∀ i, Cert.Finite.Real' (x i)) (r : Fin 1024) (l : Fin 512) :
    k0_pay16 (F := Ideal) (k0_pay15 (F := Ideal) (k0_pay2 (F := Ideal) w) x) (ix2 r l) = Cert.Heads.scale (fun j => x (ix2 r (Cert.Heads.lane l rfl j))) := by
  simp only [k0_pay16, k0_pay15, k0_pay2]
  pointwise
  simp only [hw]
  exact congrArg (fun s => Ideal.rsqrt (s + Ideal.ofBits .f32 0x358637BD#32))
    (Cert.Heads.halves (fun k => x (ix2 r k) * x (ix2 r k)) (fun k => Cert.Finite.mul (hx _) (hx _)) l)

theorem pay_dq (w : FVec Ideal S256x256 .bf16) (hw : ∀ k l, w (ix2 k l) = Cert.Heads.gm k l) (x d : FVec Ideal S1024x512 .f32) (g : FVec Ideal S1x512 .f32)
    (hx : ∀ i, Cert.Finite.Real' (x i)) (hd : ∀ i, Cert.Finite.Real' (d i)) (hg : ∀ i, Cert.Finite.Real' (g i)) (r : Fin 1024) (l : Fin 512) :
    k0_pay12 (F := Ideal) (k0_pay2 (F := Ideal) w) (k0_pay5 (F := Ideal) w x d g) (k0_pay6 (F := Ideal) w x) (k0_pay9 (F := Ideal) x d g)
        (k0_pay10 (F := Ideal) w x d g) (k0_pay11 (F := Ideal) x d g) (constant S1024x256 .f32 0x00000000#32) (ix2 r l)
      = Cert.Heads.ldnorm (fun l => x (ix2 r l)) (fun l => d (ix2 r l) * g (ix2 0 l)) l := by
  rw [Cert.Heads.ldnorm_eq]
  simp only [k0_pay12, k0_pay5, k0_pay6, k0_pay7, k0_pay8, k0_pay9, k0_pay10, k0_pay11, k0_pay4, k0_pay2]
  have e := pay_scale w hw x hx r l
  generalize k0_pay3 (F := Ideal) w x = s at e
  pointwise
  simp only [hw, e]
  exact congrArg (fun s => _ - _ * s)
    (Cert.Heads.halves (fun k => d (ix2 r k) * g (ix2 0 k) * x (ix2 r k)) (fun k => Cert.Finite.mul (Cert.Finite.mul (hd _) (hg _)) (hx _)) l)

theorem pay_dk (w : FVec Ideal S256x256 .bf16) (hw : ∀ k l, w (ix2 k l) = Cert.Heads.gm k l) (x d : FVec Ideal S1024x512 .f32) (g : FVec Ideal S1x512 .f32)
    (hx : ∀ i, Cert.Finite.Real' (x i)) (hd : ∀ i, Cert.Finite.Real' (d i)) (hg : ∀ i, Cert.Finite.Real' (g i)) (r : Fin 1024) (l : Fin 512) :
    k0_pay17 (F := Ideal) (k0_pay2 (F := Ideal) w) x d (k0_pay15 (F := Ideal) (k0_pay2 (F := Ideal) w) x) g (ix2 r l)
      = Cert.Heads.ldnorm (fun l => x (ix2 r l)) (fun l => d (ix2 r l) * g (ix2 0 l)) l := by
  rw [Cert.Heads.ldnorm_eq]
  have e := pay_scale' w hw x hx r l
  simp only [k0_pay17]
  generalize k0_pay16 (F := Ideal) (k0_pay15 (F := Ideal) (k0_pay2 (F := Ideal) w) x) = s at e
  simp only [k0_pay2]
  pointwise
  simp only [hw, e]
  exact congrArg (fun s => _ - _ * s)
    (Cert.Heads.halves (fun k => d (ix2 r k) * g (ix2 0 k) * x (ix2 r k)) (fun k => Cert.Finite.mul (Cert.Finite.mul (hd _) (hg _)) (hx _)) l)

theorem pay_v (x : FVec Ideal S1024x512 .f32) (r : Fin 1024) (l : Fin 512) : k0_pay20 (F := Ideal) x (ix2 r l) = x (ix2 r l) := by
  simp only [k0_pay20]
  pointwise

theorem pay_u (x : FVec Ideal S1024x512 .f32) (r : Fin 1024) (l : Fin 512) : k0_pay1 (F := Ideal) x (ix2 r l) = x (ix2 r l) := by
  simp only [k0_pay1]
  pointwise

theorem add_q (x d s : FVec Ideal S1024x512 .f32) (v : FVec Ideal S1x512 .f32) (l : Fin 512) :
    k0_pay14 (F := Ideal) x d s v (ix2 0 l) = v (ix2 0 l) + ∑ r, d (ix2 r l) * (x (ix2 r l) * s (ix2 r l)) := by
  simp only [k0_pay14]
  pointwise

theorem add_k (x d s : FVec Ideal S1024x512 .f32) (v : FVec Ideal S1x512 .f32) (l : Fin 512) :
    k0_pay19 (F := Ideal) x d s v (ix2 0 l) = v (ix2 0 l) + ∑ r, d (ix2 r l) * (x (ix2 r l) * k0_pay16 (F := Ideal) s (ix2 r l)) := by
  simp only [k0_pay19]
  generalize k0_pay16 (F := Ideal) s = p
  pointwise

theorem zero_q (l : Fin 512) : k0_pay13 (F := Ideal) (ix2 0 l) = 0 := by
  simp only [k0_pay13]
  pointwise

theorem zero_k (l : Fin 512) : k0_pay18 (F := Ideal) (ix2 0 l) = 0 := by
  simp only [k0_pay18]
  pointwise

end Cert.QkBwdIdeal.Hand

end
-- ==== Proof.QkBwd.lean ====
/-
  The backward call of the norms of query and key: every point's block is the reference's, and the two sums over the rows add up.
-/
module

public import proofs.«01_k».proof.Proof.Gen.QkBwdIdeal.Value
public import proofs.«01_k».proof.Proof.Gen.QkBwdRefIdeal.Read
public import proofs.«01_k».proof.Proof.QkRow
public import Idealize.ShloMosaic.Lib.Pipeline.ValueKit
public import Idealize.ShloMosaic.Lib.Pointwise
public import Idealize.ShloMosaic.Lib.Claim

@[expose] public section

set_option maxRecDepth 16384

noncomputable section

namespace Cert.QkBwdIdeal.Hand

open Cert.QkBwdIdeal Cert.QkBwdIdeal.Gen Idealize.ShloMosaic Idealize.ShloMosaic.TcCoe Idealize.SL.Sem
open Idealize.ShloMosaic.Pipeline (Dat)
open Cert.QkBwdRefIdeal.Read

variable (m : (ℓ : Loc nD τ sig) → Buf (Elt Ideal) ℓ)

abbrev dq (c : Dev nD) : FVec Ideal S16384x512 .f32 := m ((c : Thread nD τ).loc main_arg0)
abbrev dk (c : Dev nD) : FVec Ideal S16384x512 .f32 := m ((c : Thread nD τ).loc main_arg1)
abbrev qk (c : Dev nD) : FVec Ideal S16384x1024 .f32 := m ((c : Thread nD τ).loc main_arg2)
abbrev dv (c : Dev nD) : FVec Ideal S16384x512 .f32 := m ((c : Thread nD τ).loc main_arg3)
abbrev du (c : Dev nD) : FVec Ideal S16384x512 .f32 := m ((c : Thread nD τ).loc main_arg4)
abbrev gq (c : Dev nD) : FVec Ideal S1x512 .f32 := m ((c : Thread nD τ).loc main_arg5)
abbrev gk (c : Dev nD) : FVec Ideal S1x512 .f32 := m ((c : Thread nD τ).loc main_arg6)

theorem row_lt (t : Fin cfg0.N) (r : Fin 1024) : t.val * 1024 + r.val < 16384 := by
  have := t.isLt; have : cfg0.N = 16 := N_0; omega

/-- The array's row that is row `r` of point `t`'s block. -/
abbrev row (t : Fin cfg0.N) (r : Fin 1024) : Fin 16384 := ⟨t.val * 1024 + r.val, row_lt t r⟩

theorem entry_gm (c : Dev nD) (k l : Fin 256) : V m c main_v8 (ix2 k l) = Cert.Heads.gm k l := by
  unfold V
  simp only [hostOps0, hostOps0_1, hostOps0_2, hostOps0_3, hostOps0_4, List.flatten_cons, List.flatten_nil, List.append_nil, List.cons_append,
    List.nil_append]
  entry_read
  simp only [StableHlo.TRef.ofBuf, StableHlo.TRef.toBuf, cast_eq]
  pointwise
  rw [← Cert.Heads.gm_select k l, ← Cert.Heads.head_of k, ← Cert.Heads.head_of l]
  rfl

theorem blk_gm (c : Dev nD) (t : Fin cfg0.N) (k l : Fin 256) : iblk m c 7 t (ix2 k l) = Cert.Heads.gm k l := by
  refine Eq.trans ?_ (entry_gm m c k l)
  blk_simp [iblk, idx t]
  blk_ext [iblk, idx t]

theorem blk_dq (c : Dev nD) (t : Fin cfg0.N) (r : Fin 1024) (k : Fin 512) : iblk m c 0 t (ix2 r k) = dq m c (ix2 (row t r) k) := by
  blk_ext [iblk, V, idx t]

theorem blk_dk (c : Dev nD) (t : Fin cfg0.N) (r : Fin 1024) (k : Fin 512) : iblk m c 1 t (ix2 r k) = dk m c (ix2 (row t r) k) := by
  blk_ext [iblk, V, idx t]

theorem blk_qk (c : Dev nD) (t : Fin cfg0.N) (r k : Fin 1024) : iblk m c 2 t (ix2 r k) = qk m c (ix2 (row t r) k) := by
  blk_ext [iblk, V, idx t]

theorem blk_dv (c : Dev nD) (t : Fin cfg0.N) (r : Fin 1024) (k : Fin 512) : iblk m c 3 t (ix2 r k) = dv m c (ix2 (row t r) k) := by
  blk_ext [iblk, V, idx t]

theorem blk_du (c : Dev nD) (t : Fin cfg0.N) (r : Fin 1024) (k : Fin 512) : iblk m c 4 t (ix2 r k) = du m c (ix2 (row t r) k) := by
  blk_ext [iblk, V, idx t]

theorem blk_gq (c : Dev nD) (t : Fin cfg0.N) (l : Fin 512) : iblk m c 5 t (ix2 0 l) = gq m c (ix2 0 l) := by
  blk_ext [iblk, V, idx t]

theorem blk_gk (c : Dev nD) (t : Fin cfg0.N) (l : Fin 512) : iblk m c 6 t (ix2 0 l) = gk m c (ix2 0 l) := by
  blk_ext [iblk, V, idx t]

/-- What the arrays must be for a head's mean to be a product with the matrix of the heads. -/
structure Reals (c : Dev nD) : Prop where
  dq : ∀ i, Cert.Finite.Real' (dq m c i)
  dk : ∀ i, Cert.Finite.Real' (dk m c i)
  qk : ∀ i, Cert.Finite.Real' (qk m c i)
  gq : ∀ i, Cert.Finite.Real' (gq m c i)
  gk : ∀ i, Cert.Finite.Real' (gk m c i)

/-- A point's rows of the query, -/
abbrev xq (c : Dev nD) (t : Fin cfg0.N) : FVec Ideal S1024x512 .f32 :=
  View.ld (iblk m c 2 t) (Rect.unit ![0, 0] ![1024, 512] inb_S1024x1024_S1024x512_0_0)

/-- and of the key. -/
abbrev xk (c : Dev nD) (t : Fin cfg0.N) : FVec Ideal S1024x512 .f32 :=
  View.ld (iblk m c 2 t) (Rect.unit ![0, 512] ![1024, 512] inb_S1024x1024_S1024x512_0_512)

theorem at_xq (c : Dev nD) (t : Fin cfg0.N) (r : Fin 1024) (l : Fin 512) : xq m c t (ix2 r l) = qk m c (ix2 (row t r) ⟨l.val, by omega⟩) := by
  refine Eq.trans ?_ (blk_qk m c t r ⟨l.val, by omega⟩)
  dsimp only [xq]
  pointwise

theorem at_xk (c : Dev nD) (t : Fin cfg0.N) (r : Fin 1024) (l : Fin 512) : xk m c t (ix2 r l) = qk m c (ix2 (row t r) ⟨512 + l.val, by omega⟩) := by
  refine Eq.trans ?_ (blk_qk m c t r ⟨512 + l.val, by omega⟩)
  dsimp only [xk]
  pointwise

theorem xq_real (c : Dev nD) (hr : Reals m c) (t : Fin cfg0.N) (i : S1024x512.Idx) : Cert.Finite.Real' (xq m c t i) := by
  idx_vars i
  rw [at_xq]
  exact hr.qk _

theorem xk_real (c : Dev nD) (hr : Reals m c) (t : Fin cfg0.N) (i : S1024x512.Idx) : Cert.Finite.Real' (xk m c t i) := by
  idx_vars i
  rw [at_xk]
  exact hr.qk _

theorem dq_real (c : Dev nD) (hr : Reals m c) (t : Fin cfg0.N) (i : S1024x512.Idx) : Cert.Finite.Real' (iblk m c 0 t i) := by
  idx_vars i
  rw [blk_dq]
  exact hr.dq _

theorem dk_real (c : Dev nD) (hr : Reals m c) (t : Fin cfg0.N) (i : S1024x512.Idx) : Cert.Finite.Real' (iblk m c 1 t i) := by
  idx_vars i
  rw [blk_dk]
  exact hr.dk _

theorem gq_real (c : Dev nD) (hr : Reals m c) (t : Fin cfg0.N) (i : S1x512.Idx) : Cert.Finite.Real' (iblk m c 5 t i) := by
  idx_vars i
  obtain rfl : i0 = 0 := Subsingleton.elim _ _
  rw [blk_gq]
  exact hr.gq _

theorem gk_real (c : Dev nD) (hr : Reals m c) (t : Fin cfg0.N) (i : S1x512.Idx) : Cert.Finite.Real' (iblk m c 6 t i) := by
  idx_vars i
  obtain rfl : i0 = 0 := Subsingleton.elim _ _
  rw [blk_gk]
  exact hr.gk _

abbrev W (c : Dev nD) := val_main_v93 (F := Ideal) (dq m c) (dk m c) (qk m c) (dv m c) (du m c) (gq m c) (gk m c)

theorem at_q (c : Dev nD) (hr : Reals m c) (t : Fin cfg0.N) (r : Fin 1024) (l : Fin 512) :
    k0_pay12 (F := Ideal) (k0_pay2 (F := Ideal) (iblk m c 7 t)) (k0_pay5 (F := Ideal) (iblk m c 7 t) (xq m c t) (iblk m c 0 t) (iblk m c 5 t))
        (k0_pay6 (F := Ideal) (iblk m c 7 t) (xq m c t)) (k0_pay9 (F := Ideal) (xq m c t) (iblk m c 0 t) (iblk m c 5 t))
        (k0_pay10 (F := Ideal) (iblk m c 7 t) (xq m c t) (iblk m c 0 t) (iblk m c 5 t)) (k0_pay11 (F := Ideal) (xq m c t) (iblk m c 0 t) (iblk m c 5 t))
        (constant S1024x256 .f32 0x00000000#32) (ix2 r l)
      = W m c (ix2 (row t r) ⟨l.val, by omega⟩) := by
  refine Eq.trans ?_ (ref_out_q _ _ _ _ _ _ _ _ _).symm
  rw [ref_dq]
  refine (pay_dq (iblk m c 7 t) (blk_gm m c t) _ _ _ (xq_real m c hr t) (dq_real m c hr t) (gq_real m c hr t) r l).trans ?_
  simp only [at_xq, blk_dq, blk_gq]

theorem at_k (c : Dev nD) (hr : Reals m c) (t : Fin cfg0.N) (r : Fin 1024) (l : Fin 512) :
    k0_pay17 (F := Ideal) (k0_pay2 (F := Ideal) (iblk m c 7 t)) (xk m c t) (iblk m c 1 t)
        (k0_pay15 (F := Ideal) (k0_pay2 (F := Ideal) (iblk m c 7 t)) (xk m c t)) (iblk m c 6 t) (ix2 r l)
      = W m c (ix2 (row t r) ⟨512 + l.val, by omega⟩) := by
  refine Eq.trans ?_ (ref_out_k _ _ _ _ _ _ _ _ _).symm
  rw [ref_dk]
  refine (pay_dk (iblk m c 7 t) (blk_gm m c t) _ _ _ (xk_real m c hr t) (dk_real m c hr t) (gk_real m c hr t) r l).trans ?_
  simp only [at_xk, blk_dk, blk_gk]

theorem at_v (c : Dev nD) (t : Fin cfg0.N) (r : Fin 1024) (l : Fin 512) :
    k0_pay20 (F := Ideal) (iblk m c 3 t) (ix2 r l) = W m c (ix2 (row t r) ⟨1024 + l.val, by omega⟩) :=
  ((pay_v _ _ _).trans (blk_dv m c t r l)).trans (ref_out_v _ _ _ _ _ _ _ _ _).symm

theorem at_u (c : Dev nD) (t : Fin cfg0.N) (r : Fin 1024) (l : Fin 512) :
    k0_pay1 (F := Ideal) (iblk m c 4 t) (ix2 r l) = W m c (ix2 (row t r) ⟨1536 + l.val, by omega⟩) :=
  ((pay_u _ _ _).trans (blk_du m c t r l)).trans (ref_out_u _ _ _ _ _ _ _ _ _).symm

theorem dproj_eq (c : Dev nD) (hr : Reals m c) : (dats m 0 c).arrAt 8 cfg0.N = W m c := by
  refine (dats m 0 c).arrAt_eq_of_covers 8 _ (by decide +kernel) fun t hf y => ?_
  blk_simp
  rw [after0_8]
  by_cases h : t.val % 16 = 0
  · rw [outsAt0_A m c t h h]
    frame_out
    canon_tiles x hx
    · idx_vars x
      refine (at_u m c t _ _).trans ?_
      blk_point [V, idx t]
    · idx_vars x
      refine (at_v m c t _ _).trans ?_
      blk_point [V, idx t]
    · idx_vars x
      refine (at_k m c hr t _ _).trans ?_
      blk_point [V, idx t]
    · idx_vars x
      refine (at_q m c hr t _ _).trans ?_
      blk_point [V, idx t]
  · rw [outsAt0_B m c t h h]
    frame_out
    canon_tiles x hx
    · idx_vars x
      refine (at_u m c t _ _).trans ?_
      blk_point [V, idx t]
    · idx_vars x
      refine (at_v m c t _ _).trans ?_
      blk_point [V, idx t]
    · idx_vars x
      refine (at_k m c hr t _ _).trans ?_
      blk_point [V, idx t]
    · idx_vars x
      refine (at_q m c hr t _ _).trans ?_
      blk_point [V, idx t]

/-! ## The sums over the rows -/

def last : Fin cfg0.N := ⟨15, by decide⟩

/-- What a point adds to the query's gain's gradient. -/
def part_q (c : Dev nD) (t : ℕ) (h : t < cfg0.N) (j : S1x512.Idx) : EReal :=
  ∑ r : Fin 1024, term_q (dq m c) (qk m c) (j 1) ⟨t * 1024 + r.val, row_lt ⟨t, h⟩ r⟩

theorem at_dq (c : Dev nD) (hr : Reals m c) (t : Fin cfg0.N) (v : Vec Ideal S1x512 .f32) (j : S1x512.Idx) :
    k0_pay14 (F := Ideal) (xq m c t) (iblk m c 0 t) (k0_pay3 (F := Ideal) (iblk m c 7 t) (xq m c t)) v j = v j + part_q m c t.val t.isLt j := by
  idx_vars j
  obtain rfl : j0 = 0 := Subsingleton.elim _ _
  refine (add_q _ _ _ _ _).trans (congrArg₂ (· + ·) rfl (Finset.sum_congr rfl fun r _ => ?_))
  rw [pay_scale _ (blk_gm m c t) _ (xq_real m c hr t)]
  simp only [at_xq, blk_dq]
  rfl

theorem dgq_eq (c : Dev nD) (hr : Reals m c) : (dats m 0 c).arrAt 9 cfg0.N = val_main_v86 (F := Ideal) (dq m c) (qk m c) := by
  refine (dats m 0 c).arrAt_eq_of_after_last 9 last (by decide +kernel) _ fun j => ?_
  blk_simp
  rw [after0_9]
  refine (Pipeline.eq_sum_fin_of_reset_step_apply_last (fun n h => (outsAt0 m c n h).2.1) 16 (fun _ => 0) _
    (fun t h j => by
      rw [outsAt0_A m c t h h]; frame_out; refine (at_dq m c hr t _ j).trans ?_; congr 1; idx_vars j; obtain rfl : j0 = 0 := Subsingleton.elim _ _; exact zero_q _)
    (fun t h j => by rw [outsAt0_B m c t h h]; frame_out; exact at_dq m c hr t _ j) N_0.le last rfl j).trans ?_
  idx_vars j
  obtain rfl : j0 = 0 := Subsingleton.elim _ _
  rw [zero_add, ref_gq]
  simp only [part_q]
  refine Fin.sum_mul_add_congr (n := 1024) fun t k hl => ?_
  rfl

/-- What a point adds to the key's gain's gradient. -/
def part_k (c : Dev nD) (t : ℕ) (h : t < cfg0.N) (j : S1x512.Idx) : EReal :=
  ∑ r : Fin 1024, term_k (dk m c) (qk m c) (j 1) ⟨t * 1024 + r.val, row_lt ⟨t, h⟩ r⟩

theorem at_dk (c : Dev nD) (hr : Reals m c) (t : Fin cfg0.N) (v : Vec Ideal S1x512 .f32) (j : S1x512.Idx) :
    k0_pay19 (F := Ideal) (xk m c t) (iblk m c 1 t) (k0_pay15 (F := Ideal) (k0_pay2 (F := Ideal) (iblk m c 7 t)) (xk m c t)) v j = v j + part_k m c t.val t.isLt j := by
  idx_vars j
  obtain rfl : j0 = 0 := Subsingleton.elim _ _
  refine (add_k _ _ _ _ _).trans (congrArg₂ (· + ·) rfl (Finset.sum_congr rfl fun r _ => ?_))
  rw [pay_scale' _ (blk_gm m c t) _ (xk_real m c hr t)]
  simp only [at_xk, blk_dk]
  rfl

theorem dgk_eq (c : Dev nD) (hr : Reals m c) : (dats m 0 c).arrAt 10 cfg0.N = val_main_v66 (F := Ideal) (dk m c) (qk m c) := by
  refine (dats m 0 c).arrAt_eq_of_after_last 10 last (by decide +kernel) _ fun j => ?_
  blk_simp
  rw [after0_10]
  refine (Pipeline.eq_sum_fin_of_reset_step_apply_last (fun n h => (outsAt0 m c n h).2.2) 16 (fun _ => 0) _
    (fun t h j => by
      rw [outsAt0_A m c t h h]; frame_out; refine (at_dk m c hr t _ j).trans ?_; congr 1; idx_vars j; obtain rfl : j0 = 0 := Subsingleton.elim _ _; exact zero_k _)
    (fun t h j => by rw [outsAt0_B m c t h h]; frame_out; exact at_dk m c hr t _ j) N_0.le last rfl j).trans ?_
  idx_vars j
  obtain rfl : j0 = 0 := Subsingleton.elim _ _
  rw [zero_add, ref_gk]
  simp only [part_k]
  refine Fin.sum_mul_add_congr (n := 1024) fun t k hl => ?_
  rfl

end Cert.QkBwdIdeal.Hand

end
-- ==== Proof.QkPre.lean ====
/-
  The precondition of the backward call of the norms of query and key, read: the arrays it tests hold reals.
-/
module

public import proofs.«01_k».proof.Pre_qk_finite
public import proofs.«01_k».proof.Proof.Finite

@[expose] public section

noncomputable section

namespace Cert.Pre_qk_finite

open Idealize.ShloMosaic

instance facts : Facts := by constructor <;> decide

variable [Facts]
open Facts

theorem all_real {s : Shape} {axes : List (Fin s.rank)} (x : FVec Ideal s .f32) (b : S_.BroadcastsInDim s (![] : Fin 0 → Fin s.rank)) (init : IVec S_ 1)
    (h : s.ReducesTo axes S_) (hu : 0 < S_.numel) (j : S_.Idx)
    (e : Host.reduce IntOp.andi (cmpf .olt (Host.absf x) (broadcastInDim s ![] b (constant S_ .f32 0x7F800000#32))) init h hu j = 1#1) (i : s.Idx) :
    Cert.Finite.Real' (x i) := by
  haveI : Subsingleton S_.Idx := ⟨fun a b => funext fun k => k.elim0⟩
  exact Cert.Finite.of_abs (Host.reduce_andi_all _ init h hu j e i)

theorem reals (x0 x1 : FVec Ideal S16384x512 .f32) (x2 : FVec Ideal S16384x1024 .f32) (x3 x4 : FVec Ideal S16384x512 .f32)
    (x5 x6 : FVec Ideal S1x512 .f32) (h : fn (F := Ideal) x0 x1 x2 x3 x4 x5 x6 = fun _ => 1#1) :
    (∀ i, Cert.Finite.Real' (x0 i)) ∧ (∀ i, Cert.Finite.Real' (x1 i)) ∧ (∀ i, Cert.Finite.Real' (x2 i)) ∧ (∀ i, Cert.Finite.Real' (x5 i)) ∧ (∀ i, Cert.Finite.Real' (x6 i)) := by
  have j : S_.Idx := fun k => k.elim0
  have e := congrFun h j
  dsimp only [fn, fn_part1] at e
  obtain ⟨e, h6⟩ := Cert.Finite.and_one e
  obtain ⟨e, h5⟩ := Cert.Finite.and_one e
  obtain ⟨e, h2⟩ := Cert.Finite.and_one e
  obtain ⟨h0, h1⟩ := Cert.Finite.and_one e
  exact ⟨all_real x0 _ _ _ _ j h0, all_real x1 _ _ _ _ j h1, all_real x2 _ _ _ _ j h2, all_real x5 _ _ _ _ j h5, all_real x6 _ _ _ _ j h6⟩

end Cert.Pre_qk_finite

end
-- ==== Proof.Disc.lean ====
/-
  The discretisation's gradient at one state, in reals: the version's formulas, and the derivative's, which are the same.
-/
module

public import proofs.«01_k».proof.Proof.Finite

@[expose] public section

noncomputable section

namespace Cert.Disc

open Idealize.ShloMosaic

/-- One state: its real and imaginary rate, its step's logarithm, the gradients at the input's coefficient and at the transition. -/
structure Pt where
  (lr li ldt gr gi ar ai : ℝ)

namespace Pt

variable (p : Pt)

def dt : ℝ := Real.exp p.ldt
def e : ℝ := Real.exp (p.lr * p.dt)
def c : ℝ := Real.cos (p.li * p.dt)
def s : ℝ := Real.sin (p.li * p.dt)
def den : ℝ := p.lr * p.lr + p.li * p.li
def nr : ℝ := p.e * p.c - 1
def ni : ℝ := p.e * p.s
def tr : ℝ := p.nr * p.lr + p.ni * p.li
def ti : ℝ := p.ni * p.lr - p.nr * p.li
def cr : ℝ := p.tr * (1 / p.den)
def ci : ℝ := p.ti * (1 / p.den)

/-- The version's formulas. -/
def dnr : ℝ := (p.gr * p.lr - p.gi * p.li) * (1 / p.den)
def dni : ℝ := (p.gr * p.li + p.gi * p.lr) * (1 / p.den)
def dden : ℝ := (0 - (p.gr * p.cr + p.gi * p.ci)) * (1 / p.den)
def dlr : ℝ := (p.gr * p.nr + p.gi * p.ni) * (1 / p.den) + p.dden * 2 * p.lr
def fli : ℝ := (p.gr * p.ni - p.gi * p.nr) * (1 / p.den)
def dph : ℝ := (p.ar + p.dnr) * (p.e * p.c) + (p.ai + p.dni) * p.ni
def dth : ℝ := (p.ai + p.dni) * (p.e * p.c) - (p.ar + p.dnr) * p.ni
def outRe : ℝ := p.dlr + p.dph * p.dt
def outIm : ℝ := p.fli + p.dden * 2 * p.li + p.dth * p.dt
def term : ℝ := p.dph * p.lr + p.dth * p.li

/-- The derivative's formulas. -/
def r84 : ℝ := p.gi * (1 / p.den)
def r96 : ℝ := p.gr * (1 / p.den)
def r100 : ℝ := p.ai + p.r84 * p.lr + p.r96 * p.li
def r104 : ℝ := p.ar + -p.r84 * p.li + p.r96 * p.lr
def r95 : ℝ := -(p.gi * (1 * (1 / (p.den * p.den))) * p.ti) + -(p.gr * (1 * (1 / (p.den * p.den))) * p.tr)
def r108 : ℝ := p.nr * -p.r84 + p.ni * p.r96 + p.li * p.r95 + p.r95 * p.li
def r112 : ℝ := p.ni * p.r84 + p.nr * p.r96 + p.lr * p.r95 + p.r95 * p.lr
def r115 : ℝ := p.e * p.r100 * p.c
def r126 : ℝ := -(p.e * p.r104) * p.s
def r134 : ℝ := (p.r100 * p.s + p.r104 * p.c) * p.e
def r133 : ℝ := p.r108 + p.r115 * p.dt + p.r126 * p.dt
def r141 : ℝ := p.r112 + p.r134 * p.dt

theorem re_eq (h : p.den ≠ 0) : p.r141 = p.outRe := by
  simp only [r141, outRe, r112, r134, dlr, dden, dph, dnr, dni, r84, r96, r95, r100, r104, cr, ci]
  generalize p.tr = tr
  generalize p.ti = ti
  simp only [ni]
  generalize p.den = d at *
  generalize p.nr = n
  field_simp
  ring

theorem im_eq (h : p.den ≠ 0) : p.r133 = p.outIm := by
  simp only [r133, outIm, r108, r115, r126, fli, dden, dth, dnr, dni, r84, r96, r95, r100, r104, cr, ci]
  generalize p.tr = tr
  generalize p.ti = ti
  simp only [ni]
  generalize p.den = d at *
  generalize p.nr = n
  field_simp
  ring

theorem term_eq (h : p.den ≠ 0) : p.li * p.r115 + p.li * p.r126 + p.lr * p.r134 = p.term := by
  simp only [term, r115, r126, r134, dth, dph, dnr, dni, r84, r96, r100, r104]
  simp only [ni]
  generalize p.den = d at *
  field_simp
  ring

end Pt

theorem coe_sum {n : ℕ} (f : Fin n → ℝ) : ∑ k, ((f k : ℝ) : EReal) = ((∑ k, f k : ℝ) : EReal) :=
  (map_sum (⟨⟨Real.toEReal, EReal.coe_zero⟩, EReal.coe_add⟩ : ℝ →+ EReal) f Finset.univ).symm

theorem one_word : Ideal.ofBits .f32 0x3F800000#32 = ((1 : ℝ) : EReal) := by
  simp [Ideal.ofBits, Ideal.ieee, -EReal.coe_mul]; norm_num

theorem two_word : Ideal.ofBits .f32 0x40000000#32 = ((2 : ℝ) : EReal) := by
  simp [Ideal.ofBits, Ideal.ieee, -EReal.coe_mul]; norm_num

theorem zero_word : Ideal.ofBits .f32 0x00000000#32 = ((0 : ℝ) : EReal) := by
  simp [Ideal.ofBits, Ideal.ieee]

end Cert.Disc

end
-- ==== Proof.DiscRow.lean ====
/-
  The reference of the discretisation's gradient, line by line: what each line is at an index, in reals.
-/
module

public import proofs.«01_k».proof.Proof.Gen.SsmDiscBwdIdeal.Frame
public import proofs.«01_k».proof.Proof.Gen.SsmDiscBwdRefIdeal.Read
public import proofs.«01_k».proof.Proof.Disc
public import Idealize.ShloMosaic.Lib.Pipeline.ValueKit
public import Idealize.ShloMosaic.Lib.Pointwise
public import Idealize.ShloMosaic.Lib.Claim

@[expose] public section

set_option maxRecDepth 16384

noncomputable section

namespace Cert.SsmDiscBwdIdeal.Hand

open Cert.SsmDiscBwdIdeal Cert.SsmDiscBwdIdeal.Gen Idealize.ShloMosaic Idealize.ShloMosaic.TcCoe Idealize.SL.Sem
open Idealize.ShloMosaic.Pipeline (Dat)
open Cert.SsmDiscBwdRefIdeal.Read

/-- An array of reals. -/
abbrev up {s : Shape} (a : s.Idx → ℝ) : FVec Ideal s .f32 := fun i => ((a i : ℝ) : EReal)

/-- The arguments, in reals. -/
structure Args where
  (a0 a1 : S32x64.Idx → ℝ)
  (a2 : S32.Idx → ℝ)
  (a3 a4 : S32x64x16.Idx → ℝ)
  (a5 a6 : S1x2048.Idx → ℝ)
  (a7 a8 : S32x16x64.Idx → ℝ)

/-- What they are at state `j` of group `g`: the channels summed. -/
def Args.pt (A : Args) (g : Fin 32) (j : Fin 64) : Cert.Disc.Pt where
  lr := A.a0 (ix2 g j)
  li := A.a1 (ix2 g j)
  ldt := A.a2 (ix1 g)
  gr := ∑ k, (A.a7 (ix3 g k j) * A.a3 (ix3 g j k) + A.a8 (ix3 g k j) * A.a4 (ix3 g j k))
  gi := ∑ k, (A.a8 (ix3 g k j) * A.a3 (ix3 g j k) - A.a7 (ix3 g k j) * A.a4 (ix3 g j k))
  ar := A.a5 (ix2 0 ⟨g.val * 64 + j.val, by omega⟩)
  ai := A.a6 (ix2 0 ⟨g.val * 64 + j.val, by omega⟩)

/-- No state's rate is 0. -/
def Args.Ok (A : Args) : Prop := ∀ g j, (A.pt g j).den ≠ 0

variable (A : Args)

/-! ## The reference, line by line -/

theorem ref_1 (g : Fin 32) : val_main_v1 (F := Ideal) (up A.a2) (ix2 g 0) = ((Real.exp (A.a2 (ix1 g)) : ℝ) : EReal) := by
  pointwise [val_main_v0, val_main_v1]
  simp only [Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_4 (g : Fin 32) (j : Fin 64) : val_main_v4 (F := Ideal) (up A.a0) (up A.a2) (ix2 g j) = (((A.pt g j).e : ℝ) : EReal) := by
  have e1 := fun g => ref_1 A g
  generalize z1e : val_main_v1 (F := Ideal) (up A.a2) = z1 at e1
  pointwise [val_main_v2, val_main_v3, val_main_v4]
  simp only [z1e, e1, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_7 (g : Fin 32) (j : Fin 64) : val_main_v7 (F := Ideal) (up A.a1) (up A.a2) (ix2 g j) = (((A.pt g j).c : ℝ) : EReal) := by
  have e1 := fun g => ref_1 A g
  generalize z1e : val_main_v1 (F := Ideal) (up A.a2) = z1 at e1
  pointwise [val_main_v5, val_main_v6, val_main_v7]
  simp only [z1e, e1, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_8 (g : Fin 32) (j : Fin 64) : val_main_v8 (F := Ideal) (up A.a1) (up A.a2) (ix2 g j) = (((A.pt g j).s : ℝ) : EReal) := by
  have e1 := fun g => ref_1 A g
  generalize z1e : val_main_v1 (F := Ideal) (up A.a2) = z1 at e1
  pointwise [val_main_v5, val_main_v6, val_main_v8]
  simp only [z1e, e1, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_12 (g : Fin 32) (j : Fin 64) : val_main_v12 (F := Ideal) (up A.a1) (up A.a2) (ix2 g j) = (((A.pt g j).s : ℝ) : EReal) := by
  have e1 := fun g => ref_1 A g
  generalize z1e : val_main_v1 (F := Ideal) (up A.a2) = z1 at e1
  pointwise [val_main_v10, val_main_v11, val_main_v12]
  simp only [z1e, e1, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_13 (g : Fin 32) (j : Fin 64) : val_main_v13 (F := Ideal) (up A.a1) (up A.a2) (ix2 g j) = (((A.pt g j).c : ℝ) : EReal) := by
  have e1 := fun g => ref_1 A g
  generalize z1e : val_main_v1 (F := Ideal) (up A.a2) = z1 at e1
  pointwise [val_main_v10, val_main_v11, val_main_v13]
  simp only [z1e, e1, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_9 (g : Fin 32) (j : Fin 64) : val_main_v9 (F := Ideal) (up A.a0) (up A.a1) (up A.a2) (ix2 g j) = (((A.pt g j).e * (A.pt g j).c : ℝ) : EReal) := by
  have e4 := fun g j => ref_4 A g j
  have e7 := fun g j => ref_7 A g j
  generalize z4e : val_main_v4 (F := Ideal) (up A.a0) (up A.a2) = z4 at e4
  generalize z7e : val_main_v7 (F := Ideal) (up A.a1) (up A.a2) = z7 at e7
  pointwise [val_main_v9]
  simp only [z4e, e4, z7e, e7, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_14 (g : Fin 32) (j : Fin 64) : val_main_v14 (F := Ideal) (up A.a0) (up A.a1) (up A.a2) (ix2 g j) = (((A.pt g j).ni : ℝ) : EReal) := by
  have e4 := fun g j => ref_4 A g j
  have e12 := fun g j => ref_12 A g j
  generalize z4e : val_main_v4 (F := Ideal) (up A.a0) (up A.a2) = z4 at e4
  generalize z12e : val_main_v12 (F := Ideal) (up A.a1) (up A.a2) = z12 at e12
  pointwise [val_main_v14]
  simp only [z4e, e4, z12e, e12, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_17 (g : Fin 32) (j : Fin 64) : val_main_v17 (F := Ideal) (up A.a0) (up A.a1) (ix2 g j) = (((A.pt g j).den : ℝ) : EReal) := by
  pointwise [val_main_v15, val_main_v16, val_main_v17]
  simp only [Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_19 (g : Fin 32) (j : Fin 64) : val_main_v19 (F := Ideal) (up A.a0) (up A.a1) (up A.a2) (ix2 g j) = (((A.pt g j).nr : ℝ) : EReal) := by
  have e9 := fun g j => ref_9 A g j
  generalize z9e : val_main_v9 (F := Ideal) (up A.a0) (up A.a1) (up A.a2) = z9 at e9
  pointwise [val_main_cst, val_main_v18, val_main_v19]
  simp only [z9e, e9, Fin.sum_univ_one, up, Cert.Disc.one_word]
  exact (EReal.coe_sub _ _).symm

theorem ref_22 (g : Fin 32) (j : Fin 64) : val_main_v22 (F := Ideal) (up A.a0) (up A.a1) (up A.a2) (ix2 g j) = (((A.pt g j).tr : ℝ) : EReal) := by
  have e19 := fun g j => ref_19 A g j
  have e14 := fun g j => ref_14 A g j
  generalize z19e : val_main_v19 (F := Ideal) (up A.a0) (up A.a1) (up A.a2) = z19 at e19
  generalize z14e : val_main_v14 (F := Ideal) (up A.a0) (up A.a1) (up A.a2) = z14 at e14
  pointwise [val_main_v20, val_main_v21, val_main_v22]
  simp only [z19e, e19, z14e, e14, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_29 (g : Fin 32) (j : Fin 64) : val_main_v29 (F := Ideal) (up A.a0) (up A.a1) (up A.a2) (ix2 g j) = (((A.pt g j).ti : ℝ) : EReal) := by
  have e19 := fun g j => ref_19 A g j
  have e14 := fun g j => ref_14 A g j
  generalize z19e : val_main_v19 (F := Ideal) (up A.a0) (up A.a1) (up A.a2) = z19 at e19
  generalize z14e : val_main_v14 (F := Ideal) (up A.a0) (up A.a1) (up A.a2) = z14 at e14
  pointwise [val_main_v27, val_main_v28, val_main_v29]
  simp only [z19e, e19, z14e, e14, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_23 (g : Fin 32) (j : Fin 64) (h : A.Ok) : val_main_v23 (F := Ideal) (up A.a0) (up A.a1) (up A.a2) (ix2 g j) = (((A.pt g j).cr : ℝ) : EReal) := by
  have e22 := fun g j => ref_22 A g j
  have e17 := fun g j => ref_17 A g j
  generalize z22e : val_main_v22 (F := Ideal) (up A.a0) (up A.a1) (up A.a2) = z22 at e22
  generalize z17e : val_main_v17 (F := Ideal) (up A.a0) (up A.a1) = z17 at e17
  pointwise [val_main_v23]
  simp only [z22e, e22, z17e, e17, Fin.sum_univ_one, up, Cert.Disc.one_word]
  rw [Ideal.div_coe (h g j)]
  simp only [← EReal.coe_mul, ← EReal.coe_add, ← EReal.coe_sub, ← EReal.coe_neg, Cert.Disc.coe_sum, Ideal.exp_coe, Ideal.cos_coe, Ideal.sin_coe]
  all_goals rfl

theorem ref_30 (g : Fin 32) (j : Fin 64) (h : A.Ok) : val_main_v30 (F := Ideal) (up A.a0) (up A.a1) (up A.a2) (ix2 g j) = (((A.pt g j).ci : ℝ) : EReal) := by
  have e29 := fun g j => ref_29 A g j
  have e17 := fun g j => ref_17 A g j
  generalize z29e : val_main_v29 (F := Ideal) (up A.a0) (up A.a1) (up A.a2) = z29 at e29
  generalize z17e : val_main_v17 (F := Ideal) (up A.a0) (up A.a1) = z17 at e17
  pointwise [val_main_v30]
  simp only [z29e, e29, z17e, e17, Fin.sum_univ_one, up, Cert.Disc.one_word]
  rw [Ideal.div_coe (h g j)]
  simp only [← EReal.coe_mul, ← EReal.coe_add, ← EReal.coe_sub, ← EReal.coe_neg, Cert.Disc.coe_sum, Ideal.exp_coe, Ideal.cos_coe, Ideal.sin_coe]
  all_goals rfl

theorem ref_26 (g : Fin 32) (j : Fin 64) (h : A.Ok) : val_main_v26 (F := Ideal) (up A.a0) (up A.a1) (ix2 g j) = ((1 / ((A.pt g j).den * (A.pt g j).den) : ℝ) : EReal) := by
  have e17 := fun g j => ref_17 A g j
  generalize z17e : val_main_v17 (F := Ideal) (up A.a0) (up A.a1) = z17 at e17
  pointwise [val_main_v24, val_main_cst_0, val_main_v25, val_main_v26]
  simp only [z17e, e17, Fin.sum_univ_one, up, Cert.Disc.one_word]
  simp only [← EReal.coe_mul]
  rw [Ideal.div_coe (mul_ne_zero (h g j) (h g j)), one_mul]

theorem ref_33 (g : Fin 32) (j : Fin 64) (h : A.Ok) : val_main_v33 (F := Ideal) (up A.a0) (up A.a1) (ix2 g j) = ((1 / ((A.pt g j).den * (A.pt g j).den) : ℝ) : EReal) := by
  have e17 := fun g j => ref_17 A g j
  generalize z17e : val_main_v17 (F := Ideal) (up A.a0) (up A.a1) = z17 at e17
  pointwise [val_main_v31, val_main_cst_1, val_main_v32, val_main_v33]
  simp only [z17e, e17, Fin.sum_univ_one, up, Cert.Disc.one_word]
  simp only [← EReal.coe_mul]
  rw [Ideal.div_coe (mul_ne_zero (h g j) (h g j)), one_mul]

theorem ref_48 (g : Fin 32) (j : Fin 64) : val_main_v48 (F := Ideal) (up A.a5) (ix2 g j) = (((A.pt g j).ar : ℝ) : EReal) := by
  pointwise [val_main_v48]
  simp only [Fin.sum_univ_one, up, Cert.Disc.one_word]
  all_goals rfl

theorem ref_49 (g : Fin 32) (j : Fin 64) : val_main_v49 (F := Ideal) (up A.a6) (ix2 g j) = (((A.pt g j).ai : ℝ) : EReal) := by
  pointwise [val_main_v49]
  simp only [Fin.sum_univ_one, up, Cert.Disc.one_word]
  all_goals rfl

theorem ref_57 (g : Fin 32) (j : Fin 64) : val_main_v57 (F := Ideal) (up A.a3) (up A.a8) (ix2 g j) = ((∑ k, A.a8 (ix3 g k j) * A.a3 (ix3 g j k) : ℝ) : EReal) := by
  pointwise [val_main_v51, val_main_v54, val_main_cst_2, val_main_v55, val_main_v56, val_main_cst_3, val_main_v57]
  simp only [Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_63 (g : Fin 32) (j : Fin 64) : val_main_v63 (F := Ideal) (up A.a4) (up A.a8) (ix2 g j) = ((∑ k, A.a8 (ix3 g k j) * A.a4 (ix3 g j k) : ℝ) : EReal) := by
  pointwise [val_main_v51, val_main_v60, val_main_cst_4, val_main_v61, val_main_v62, val_main_cst_5, val_main_v63]
  simp only [Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_71 (g : Fin 32) (j : Fin 64) : val_main_v71 (F := Ideal) (up A.a4) (up A.a7) (ix2 g j) = ((∑ k, -A.a7 (ix3 g k j) * A.a4 (ix3 g j k) : ℝ) : EReal) := by
  pointwise [val_main_v50, val_main_v64, val_main_v68, val_main_cst_6, val_main_v69, val_main_v70, val_main_cst_7, val_main_v71]
  simp only [Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_79 (g : Fin 32) (j : Fin 64) : val_main_v79 (F := Ideal) (up A.a3) (up A.a7) (ix2 g j) = ((∑ k, A.a7 (ix3 g k j) * A.a3 (ix3 g j k) : ℝ) : EReal) := by
  pointwise [val_main_v50, val_main_v76, val_main_cst_8, val_main_v77, val_main_v78, val_main_cst_9, val_main_v79]
  simp only [Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_72 (g : Fin 32) (j : Fin 64) : val_main_v72 (F := Ideal) (up A.a3) (up A.a4) (up A.a7) (up A.a8) (ix2 g j) = (((A.pt g j).gi : ℝ) : EReal) := by
  have e57 := fun g j => ref_57 A g j
  have e71 := fun g j => ref_71 A g j
  generalize z57e : val_main_v57 (F := Ideal) (up A.a3) (up A.a8) = z57 at e57
  generalize z71e : val_main_v71 (F := Ideal) (up A.a4) (up A.a7) = z71 at e71
  pointwise [val_main_v72]
  simp only [z57e, e57, z71e, e71, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  simp only [Args.pt]
  refine congrArg Real.toEReal ?_
  rw [← Finset.sum_add_distrib]
  refine Finset.sum_congr rfl fun k _ => ?_
  ring

theorem ref_80 (g : Fin 32) (j : Fin 64) : val_main_v80 (F := Ideal) (up A.a3) (up A.a4) (up A.a7) (up A.a8) (ix2 g j) = (((A.pt g j).gr : ℝ) : EReal) := by
  have e63 := fun g j => ref_63 A g j
  have e79 := fun g j => ref_79 A g j
  generalize z63e : val_main_v63 (F := Ideal) (up A.a4) (up A.a8) = z63 at e63
  generalize z79e : val_main_v79 (F := Ideal) (up A.a3) (up A.a7) = z79 at e79
  pointwise [val_main_v80]
  simp only [z63e, e63, z79e, e79, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  simp only [Args.pt]
  refine congrArg Real.toEReal ?_
  rw [← Finset.sum_add_distrib]
  refine Finset.sum_congr rfl fun k _ => ?_
  ring

theorem ref_84 (g : Fin 32) (j : Fin 64) (h : A.Ok) : val_main_v84 (F := Ideal) (up A.a0) (up A.a1) (up A.a3) (up A.a4) (up A.a7) (up A.a8) (ix2 g j) = (((A.pt g j).r84 : ℝ) : EReal) := by
  have e72 := fun g j => ref_72 A g j
  have e17 := fun g j => ref_17 A g j
  generalize z72e : val_main_v72 (F := Ideal) (up A.a3) (up A.a4) (up A.a7) (up A.a8) = z72 at e72
  generalize z17e : val_main_v17 (F := Ideal) (up A.a0) (up A.a1) = z17 at e17
  pointwise [val_main_v84]
  simp only [z72e, e72, z17e, e17, Fin.sum_univ_one, up, Cert.Disc.one_word]
  rw [Ideal.div_coe (h g j)]
  simp only [← EReal.coe_mul, ← EReal.coe_add, ← EReal.coe_sub, ← EReal.coe_neg, Cert.Disc.coe_sum, Ideal.exp_coe, Ideal.cos_coe, Ideal.sin_coe]
  all_goals rfl

theorem ref_96 (g : Fin 32) (j : Fin 64) (h : A.Ok) : val_main_v96 (F := Ideal) (up A.a0) (up A.a1) (up A.a3) (up A.a4) (up A.a7) (up A.a8) (ix2 g j) = (((A.pt g j).r96 : ℝ) : EReal) := by
  have e80 := fun g j => ref_80 A g j
  have e17 := fun g j => ref_17 A g j
  generalize z80e : val_main_v80 (F := Ideal) (up A.a3) (up A.a4) (up A.a7) (up A.a8) = z80 at e80
  generalize z17e : val_main_v17 (F := Ideal) (up A.a0) (up A.a1) = z17 at e17
  pointwise [val_main_v96]
  simp only [z80e, e80, z17e, e17, Fin.sum_univ_one, up, Cert.Disc.one_word]
  rw [Ideal.div_coe (h g j)]
  simp only [← EReal.coe_mul, ← EReal.coe_add, ← EReal.coe_sub, ← EReal.coe_neg, Cert.Disc.coe_sum, Ideal.exp_coe, Ideal.cos_coe, Ideal.sin_coe]
  all_goals rfl

theorem ref_100 (g : Fin 32) (j : Fin 64) (h : A.Ok) : val_main_v100 (F := Ideal) (up A.a0) (up A.a1) (up A.a3) (up A.a4) (up A.a6) (up A.a7) (up A.a8) (ix2 g j) = (((A.pt g j).r100 : ℝ) : EReal) := by
  have e49 := fun g j => ref_49 A g j
  have e84 := fun g j => ref_84 A g j h
  have e96 := fun g j => ref_96 A g j h
  generalize z49e : val_main_v49 (F := Ideal) (up A.a6) = z49 at e49
  generalize z84e : val_main_v84 (F := Ideal) (up A.a0) (up A.a1) (up A.a3) (up A.a4) (up A.a7) (up A.a8) = z84 at e84
  generalize z96e : val_main_v96 (F := Ideal) (up A.a0) (up A.a1) (up A.a3) (up A.a4) (up A.a7) (up A.a8) = z96 at e96
  pointwise [val_main_v90, val_main_v91, val_main_v99, val_main_v100]
  simp only [z49e, e49, z84e, e84, z96e, e96, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_104 (g : Fin 32) (j : Fin 64) (h : A.Ok) : val_main_v104 (F := Ideal) (up A.a0) (up A.a1) (up A.a3) (up A.a4) (up A.a5) (up A.a7) (up A.a8) (ix2 g j) = (((A.pt g j).r104 : ℝ) : EReal) := by
  have e48 := fun g j => ref_48 A g j
  have e84 := fun g j => ref_84 A g j h
  have e96 := fun g j => ref_96 A g j h
  generalize z48e : val_main_v48 (F := Ideal) (up A.a5) = z48 at e48
  generalize z84e : val_main_v84 (F := Ideal) (up A.a0) (up A.a1) (up A.a3) (up A.a4) (up A.a7) (up A.a8) = z84 at e84
  generalize z96e : val_main_v96 (F := Ideal) (up A.a0) (up A.a1) (up A.a3) (up A.a4) (up A.a7) (up A.a8) = z96 at e96
  pointwise [val_main_v85, val_main_v87, val_main_v88, val_main_v103, val_main_v104]
  simp only [z48e, e48, z84e, e84, z96e, e96, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_95 (g : Fin 32) (j : Fin 64) (h : A.Ok) : val_main_v95 (F := Ideal) (up A.a0) (up A.a1) (up A.a2) (up A.a3) (up A.a4) (up A.a7) (up A.a8) (ix2 g j) = (((A.pt g j).r95 : ℝ) : EReal) := by
  have e72 := fun g j => ref_72 A g j
  have e33 := fun g j => ref_33 A g j h
  have e29 := fun g j => ref_29 A g j
  have e80 := fun g j => ref_80 A g j
  have e26 := fun g j => ref_26 A g j h
  have e22 := fun g j => ref_22 A g j
  generalize z72e : val_main_v72 (F := Ideal) (up A.a3) (up A.a4) (up A.a7) (up A.a8) = z72 at e72
  generalize z33e : val_main_v33 (F := Ideal) (up A.a0) (up A.a1) = z33 at e33
  generalize z29e : val_main_v29 (F := Ideal) (up A.a0) (up A.a1) (up A.a2) = z29 at e29
  generalize z80e : val_main_v80 (F := Ideal) (up A.a3) (up A.a4) (up A.a7) (up A.a8) = z80 at e80
  generalize z26e : val_main_v26 (F := Ideal) (up A.a0) (up A.a1) = z26 at e26
  generalize z22e : val_main_v22 (F := Ideal) (up A.a0) (up A.a1) (up A.a2) = z22 at e22
  pointwise [val_main_v81, val_main_v82, val_main_v83, val_main_v92, val_main_v93, val_main_v94, val_main_v95]
  simp only [z72e, e72, z33e, e33, z29e, e29, z80e, e80, z26e, e26, z22e, e22, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  simp only [Cert.Disc.Pt.r95, one_mul]

theorem ref_108 (g : Fin 32) (j : Fin 64) (h : A.Ok) : val_main_v108 (F := Ideal) (up A.a0) (up A.a1) (up A.a2) (up A.a3) (up A.a4) (up A.a7) (up A.a8) (ix2 g j) = (((A.pt g j).r108 : ℝ) : EReal) := by
  have e19 := fun g j => ref_19 A g j
  have e84 := fun g j => ref_84 A g j h
  have e14 := fun g j => ref_14 A g j
  have e96 := fun g j => ref_96 A g j h
  have e95 := fun g j => ref_95 A g j h
  generalize z19e : val_main_v19 (F := Ideal) (up A.a0) (up A.a1) (up A.a2) = z19 at e19
  generalize z84e : val_main_v84 (F := Ideal) (up A.a0) (up A.a1) (up A.a3) (up A.a4) (up A.a7) (up A.a8) = z84 at e84
  generalize z14e : val_main_v14 (F := Ideal) (up A.a0) (up A.a1) (up A.a2) = z14 at e14
  generalize z96e : val_main_v96 (F := Ideal) (up A.a0) (up A.a1) (up A.a3) (up A.a4) (up A.a7) (up A.a8) = z96 at e96
  generalize z95e : val_main_v95 (F := Ideal) (up A.a0) (up A.a1) (up A.a2) (up A.a3) (up A.a4) (up A.a7) (up A.a8) = z95 at e95
  pointwise [val_main_v85, val_main_v86, val_main_v97, val_main_v98, val_main_v105, val_main_v106, val_main_v107, val_main_v108]
  simp only [z19e, e19, z84e, e84, z14e, e14, z96e, e96, z95e, e95, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_112 (g : Fin 32) (j : Fin 64) (h : A.Ok) : val_main_v112 (F := Ideal) (up A.a0) (up A.a1) (up A.a2) (up A.a3) (up A.a4) (up A.a7) (up A.a8) (ix2 g j) = (((A.pt g j).r112 : ℝ) : EReal) := by
  have e19 := fun g j => ref_19 A g j
  have e84 := fun g j => ref_84 A g j h
  have e14 := fun g j => ref_14 A g j
  have e96 := fun g j => ref_96 A g j h
  have e95 := fun g j => ref_95 A g j h
  generalize z19e : val_main_v19 (F := Ideal) (up A.a0) (up A.a1) (up A.a2) = z19 at e19
  generalize z84e : val_main_v84 (F := Ideal) (up A.a0) (up A.a1) (up A.a3) (up A.a4) (up A.a7) (up A.a8) = z84 at e84
  generalize z14e : val_main_v14 (F := Ideal) (up A.a0) (up A.a1) (up A.a2) = z14 at e14
  generalize z96e : val_main_v96 (F := Ideal) (up A.a0) (up A.a1) (up A.a3) (up A.a4) (up A.a7) (up A.a8) = z96 at e96
  generalize z95e : val_main_v95 (F := Ideal) (up A.a0) (up A.a1) (up A.a2) (up A.a3) (up A.a4) (up A.a7) (up A.a8) = z95 at e95
  pointwise [val_main_v89, val_main_v101, val_main_v102, val_main_v109, val_main_v110, val_main_v111, val_main_v112]
  simp only [z19e, e19, z84e, e84, z14e, e14, z96e, e96, z95e, e95, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_115 (g : Fin 32) (j : Fin 64) (h : A.Ok) : val_main_v115 (F := Ideal) (up A.a0) (up A.a1) (up A.a2) (up A.a3) (up A.a4) (up A.a6) (up A.a7) (up A.a8) (ix2 g j) = (((A.pt g j).r115 : ℝ) : EReal) := by
  have e4 := fun g j => ref_4 A g j
  have e100 := fun g j => ref_100 A g j h
  have e13 := fun g j => ref_13 A g j
  generalize z4e : val_main_v4 (F := Ideal) (up A.a0) (up A.a2) = z4 at e4
  generalize z100e : val_main_v100 (F := Ideal) (up A.a0) (up A.a1) (up A.a3) (up A.a4) (up A.a6) (up A.a7) (up A.a8) = z100 at e100
  generalize z13e : val_main_v13 (F := Ideal) (up A.a1) (up A.a2) = z13 at e13
  pointwise [val_main_v113, val_main_v115]
  simp only [z4e, e4, z100e, e100, z13e, e13, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_126 (g : Fin 32) (j : Fin 64) (h : A.Ok) : val_main_v126 (F := Ideal) (up A.a0) (up A.a1) (up A.a2) (up A.a3) (up A.a4) (up A.a5) (up A.a7) (up A.a8) (ix2 g j) = (((A.pt g j).r126 : ℝ) : EReal) := by
  have e4 := fun g j => ref_4 A g j
  have e104 := fun g j => ref_104 A g j h
  have e8 := fun g j => ref_8 A g j
  generalize z4e : val_main_v4 (F := Ideal) (up A.a0) (up A.a2) = z4 at e4
  generalize z104e : val_main_v104 (F := Ideal) (up A.a0) (up A.a1) (up A.a3) (up A.a4) (up A.a5) (up A.a7) (up A.a8) = z104 at e104
  generalize z8e : val_main_v8 (F := Ideal) (up A.a1) (up A.a2) = z8 at e8
  pointwise [val_main_v122, val_main_v125, val_main_v126]
  simp only [z4e, e4, z104e, e104, z8e, e8, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_134 (g : Fin 32) (j : Fin 64) (h : A.Ok) : val_main_v134 (F := Ideal) (up A.a0) (up A.a1) (up A.a2) (up A.a3) (up A.a4) (up A.a5) (up A.a6) (up A.a7) (up A.a8) (ix2 g j) = (((A.pt g j).r134 : ℝ) : EReal) := by
  have e100 := fun g j => ref_100 A g j h
  have e12 := fun g j => ref_12 A g j
  have e104 := fun g j => ref_104 A g j h
  have e7 := fun g j => ref_7 A g j
  have e4 := fun g j => ref_4 A g j
  generalize z100e : val_main_v100 (F := Ideal) (up A.a0) (up A.a1) (up A.a3) (up A.a4) (up A.a6) (up A.a7) (up A.a8) = z100 at e100
  generalize z12e : val_main_v12 (F := Ideal) (up A.a1) (up A.a2) = z12 at e12
  generalize z104e : val_main_v104 (F := Ideal) (up A.a0) (up A.a1) (up A.a3) (up A.a4) (up A.a5) (up A.a7) (up A.a8) = z104 at e104
  generalize z7e : val_main_v7 (F := Ideal) (up A.a1) (up A.a2) = z7 at e7
  generalize z4e : val_main_v4 (F := Ideal) (up A.a0) (up A.a2) = z4 at e4
  pointwise [val_main_v114, val_main_v123, val_main_v124, val_main_v134]
  simp only [z100e, e100, z12e, e12, z104e, e104, z7e, e7, z4e, e4, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_133 (g : Fin 32) (j : Fin 64) (h : A.Ok) : val_main_v133 (F := Ideal) (up A.a0) (up A.a1) (up A.a2) (up A.a3) (up A.a4) (up A.a5) (up A.a6) (up A.a7) (up A.a8) (ix2 g j) = (((A.pt g j).r133 : ℝ) : EReal) := by
  have e108 := fun g j => ref_108 A g j h
  have e115 := fun g j => ref_115 A g j h
  have e126 := fun g j => ref_126 A g j h
  have e1 := fun g => ref_1 A g
  generalize z108e : val_main_v108 (F := Ideal) (up A.a0) (up A.a1) (up A.a2) (up A.a3) (up A.a4) (up A.a7) (up A.a8) = z108 at e108
  generalize z115e : val_main_v115 (F := Ideal) (up A.a0) (up A.a1) (up A.a2) (up A.a3) (up A.a4) (up A.a6) (up A.a7) (up A.a8) = z115 at e115
  generalize z126e : val_main_v126 (F := Ideal) (up A.a0) (up A.a1) (up A.a2) (up A.a3) (up A.a4) (up A.a5) (up A.a7) (up A.a8) = z126 at e126
  generalize z1e : val_main_v1 (F := Ideal) (up A.a2) = z1 at e1
  pointwise [val_main_v119, val_main_v120, val_main_v121, val_main_v131, val_main_v132, val_main_v133]
  simp only [z108e, e108, z115e, e115, z126e, e126, z1e, e1, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_141 (g : Fin 32) (j : Fin 64) (h : A.Ok) : val_main_v141 (F := Ideal) (up A.a0) (up A.a1) (up A.a2) (up A.a3) (up A.a4) (up A.a5) (up A.a6) (up A.a7) (up A.a8) (ix2 g j) = (((A.pt g j).r141 : ℝ) : EReal) := by
  have e112 := fun g j => ref_112 A g j h
  have e134 := fun g j => ref_134 A g j h
  have e1 := fun g => ref_1 A g
  generalize z112e : val_main_v112 (F := Ideal) (up A.a0) (up A.a1) (up A.a2) (up A.a3) (up A.a4) (up A.a7) (up A.a8) = z112 at e112
  generalize z134e : val_main_v134 (F := Ideal) (up A.a0) (up A.a1) (up A.a2) (up A.a3) (up A.a4) (up A.a5) (up A.a6) (up A.a7) (up A.a8) = z134 at e134
  generalize z1e : val_main_v1 (F := Ideal) (up A.a2) = z1 at e1
  pointwise [val_main_v139, val_main_v140, val_main_v141]
  simp only [z112e, e112, z134e, e134, z1e, e1, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_138 (g : Fin 32) (h : A.Ok) : val_main_v138 (F := Ideal) (up A.a0) (up A.a1) (up A.a2) (up A.a3) (up A.a4) (up A.a5) (up A.a6) (up A.a7) (up A.a8) (ix2 g 0) = ((∑ j, (A.pt g j).li * (A.pt g j).r115 + ∑ j, (A.pt g j).li * (A.pt g j).r126 + ∑ j, (A.pt g j).lr * (A.pt g j).r134 : ℝ) : EReal) := by
  have e115 := fun g j => ref_115 A g j h
  have e126 := fun g j => ref_126 A g j h
  have e134 := fun g j => ref_134 A g j h
  generalize z115e : val_main_v115 (F := Ideal) (up A.a0) (up A.a1) (up A.a2) (up A.a3) (up A.a4) (up A.a6) (up A.a7) (up A.a8) = z115 at e115
  generalize z126e : val_main_v126 (F := Ideal) (up A.a0) (up A.a1) (up A.a2) (up A.a3) (up A.a4) (up A.a5) (up A.a7) (up A.a8) = z126 at e126
  generalize z134e : val_main_v134 (F := Ideal) (up A.a0) (up A.a1) (up A.a2) (up A.a3) (up A.a4) (up A.a5) (up A.a6) (up A.a7) (up A.a8) = z134 at e134
  pointwise [val_main_v116, val_main_cst_10, val_main_v117, val_main_v118, val_main_v127, val_main_cst_11, val_main_v128, val_main_v129, val_main_v130, val_main_v135, val_main_cst_12, val_main_v136, val_main_v137, val_main_v138]
  simp only [z115e, e115, z126e, e126, z134e, e134, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

theorem ref_143 (g : Fin 32) (h : A.Ok) : val_main_v143 (F := Ideal) (up A.a0) (up A.a1) (up A.a2) (up A.a3) (up A.a4) (up A.a5) (up A.a6) (up A.a7) (up A.a8) (ix1 g) = (((∑ j, (A.pt g j).li * (A.pt g j).r115 + ∑ j, (A.pt g j).li * (A.pt g j).r126 + ∑ j, (A.pt g j).lr * (A.pt g j).r134) * Real.exp (A.a2 (ix1 g)) : ℝ) : EReal) := by
  have e138 := fun g => ref_138 A g h
  generalize z138e : val_main_v138 (F := Ideal) (up A.a0) (up A.a1) (up A.a2) (up A.a3) (up A.a4) (up A.a5) (up A.a6) (up A.a7) (up A.a8) = z138 at e138
  pointwise [val_main_v0, val_main_cst_13, val_main_v142, val_main_v143]
  simp only [z138e, e138, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  all_goals rfl

/-- The five gradients. -/
theorem ref_144 (g : Fin 32) (j : Fin 64) (h : A.Ok) : val_main_v144 (F := Ideal) (up A.a0) (up A.a1) (up A.a2) (up A.a3) (up A.a4) (up A.a5) (up A.a6) (up A.a7) (up A.a8) (ix3 g 0 j) = (((A.pt g j).outRe : ℝ) : EReal) := by
  have e141 := fun g j => ref_141 A g j h
  generalize z141e : val_main_v141 (F := Ideal) (up A.a0) (up A.a1) (up A.a2) (up A.a3) (up A.a4) (up A.a5) (up A.a6) (up A.a7) (up A.a8) = z141 at e141
  pointwise [val_main_v144]
  simp only [z141e, e141, Fin.sum_univ_one, up, Cert.Disc.one_word]
  exact congrArg Real.toEReal ((A.pt g j).re_eq (h g j))

theorem ref_145 (g : Fin 32) (j : Fin 64) (h : A.Ok) : val_main_v145 (F := Ideal) (up A.a0) (up A.a1) (up A.a2) (up A.a3) (up A.a4) (up A.a5) (up A.a6) (up A.a7) (up A.a8) (ix3 g 0 j) = (((A.pt g j).outIm : ℝ) : EReal) := by
  have e133 := fun g j => ref_133 A g j h
  generalize z133e : val_main_v133 (F := Ideal) (up A.a0) (up A.a1) (up A.a2) (up A.a3) (up A.a4) (up A.a5) (up A.a6) (up A.a7) (up A.a8) = z133 at e133
  pointwise [val_main_v145]
  simp only [z133e, e133, Fin.sum_univ_one, up, Cert.Disc.one_word]
  exact congrArg Real.toEReal ((A.pt g j).im_eq (h g j))

theorem ref_146 (g : Fin 32) (h : A.Ok) : val_main_v146 (F := Ideal) (up A.a0) (up A.a1) (up A.a2) (up A.a3) (up A.a4) (up A.a5) (up A.a6) (up A.a7) (up A.a8) (ix3 g 0 0) = (((∑ j, (A.pt g j).term) * Real.exp (A.a2 (ix1 g)) : ℝ) : EReal) := by
  have e143 := fun g => ref_143 A g h
  generalize z143e : val_main_v143 (F := Ideal) (up A.a0) (up A.a1) (up A.a2) (up A.a3) (up A.a4) (up A.a5) (up A.a6) (up A.a7) (up A.a8) = z143 at e143
  pointwise [val_main_v146]
  simp only [z143e, e143, Fin.sum_univ_one, up, Cert.Disc.one_word]
  refine congrArg (fun x : ℝ => ((x * Real.exp (A.a2 (ix1 g)) : ℝ) : EReal)) ?_
  rw [← Finset.sum_add_distrib, ← Finset.sum_add_distrib]
  exact Finset.sum_congr rfl fun j _ => (A.pt g j).term_eq (h g j)

theorem ref_147 (g : Fin 32) (k : Fin 16) (j : Fin 64) (h : A.Ok) : val_main_v147 (F := Ideal) (up A.a0) (up A.a1) (up A.a2) (up A.a7) (up A.a8) (ix3 g k j) = (((A.pt g j).cr * A.a7 (ix3 g k j) + (A.pt g j).ci * A.a8 (ix3 g k j) : ℝ) : EReal) := by
  have e23 := fun g j => ref_23 A g j h
  have e30 := fun g j => ref_30 A g j h
  generalize z23e : val_main_v23 (F := Ideal) (up A.a0) (up A.a1) (up A.a2) = z23 at e23
  generalize z30e : val_main_v30 (F := Ideal) (up A.a0) (up A.a1) (up A.a2) = z30 at e30
  pointwise [val_main_v34, val_main_v44, val_main_v50, val_main_v51, val_main_v52, val_main_v53, val_main_v73, val_main_v74, val_main_v75, val_main_v147]
  simp only [z23e, e23, z30e, e30, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  exact congrArg Real.toEReal (add_comm _ _)

theorem ref_148 (g : Fin 32) (k : Fin 16) (j : Fin 64) (h : A.Ok) : val_main_v148 (F := Ideal) (up A.a0) (up A.a1) (up A.a2) (up A.a7) (up A.a8) (ix3 g k j) = (((A.pt g j).cr * A.a8 (ix3 g k j) - (A.pt g j).ci * A.a7 (ix3 g k j) : ℝ) : EReal) := by
  have e23 := fun g j => ref_23 A g j h
  have e30 := fun g j => ref_30 A g j h
  generalize z23e : val_main_v23 (F := Ideal) (up A.a0) (up A.a1) (up A.a2) = z23 at e23
  generalize z30e : val_main_v30 (F := Ideal) (up A.a0) (up A.a1) (up A.a2) = z30 at e30
  pointwise [val_main_v37, val_main_v41, val_main_v50, val_main_v51, val_main_v58, val_main_v59, val_main_v64, val_main_v65, val_main_v66, val_main_v67, val_main_v148]
  simp only [z23e, e23, z30e, e30, Fin.sum_univ_one, up, Cert.Disc.one_word]
  simp only [← EReal.coe_mul, ← EReal.coe_add, ← EReal.coe_sub, ← EReal.coe_neg, Cert.Disc.coe_sum, Ideal.exp_coe, Ideal.cos_coe, Ideal.sin_coe]
  exact congrArg Real.toEReal (by ring)

end Cert.SsmDiscBwdIdeal.Hand

end
-- ==== Proof.DiscPay.lean ====
/-
  The version's values in the discretisation's gradient, one by one, in reals.
-/
module

public import proofs.«01_k».proof.Proof.Gen.SsmDiscBwdIdeal.Frame
public import proofs.«01_k».proof.Proof.Gen.SsmDiscBwdRefIdeal.Read
public import proofs.«01_k».proof.Proof.DiscRow
public import Idealize.ShloMosaic.Lib.Pipeline.ValueKit
public import Idealize.ShloMosaic.Lib.Pointwise
public import Idealize.ShloMosaic.Lib.Claim

@[expose] public section

set_option maxRecDepth 16384

noncomputable section

namespace Cert.SsmDiscBwdIdeal.Hand

open Cert.SsmDiscBwdIdeal Cert.SsmDiscBwdIdeal.Gen Idealize.ShloMosaic Idealize.ShloMosaic.TcCoe Idealize.SL.Sem
open Idealize.ShloMosaic.Pipeline (Dat)
open Cert.SsmDiscBwdRefIdeal.Read

variable (A : Args)

theorem pay_8 (v0 : FVec Ideal S32x1x64 .f32) (H0 : ∀ (g : Fin 32) (j : Fin 64), v0 (ix3 g 0 j) = (((A.pt g j).lr : ℝ) : EReal)) (g : Fin 32) (j : Fin 64) :
    k0_pay8 (F := Ideal) v0 (ix3 g 0 j) = (((A.pt g j).lr : ℝ) : EReal) := by
  simp only [k0_pay8]
  pointwise
  simp only [H0, Cert.Disc.one_word, Cert.Disc.two_word]
  all_goals rfl

theorem pay_9 (v2 : FVec Ideal S32x1x64 .f32) (H2 : ∀ (g : Fin 32) (j : Fin 64), v2 (ix3 g 0 j) = (((A.pt g j).li : ℝ) : EReal)) (g : Fin 32) (j : Fin 64) :
    k0_pay9 (F := Ideal) v2 (ix3 g 0 j) = (((A.pt g j).li : ℝ) : EReal) := by
  simp only [k0_pay9]
  pointwise
  simp only [H2, Cert.Disc.one_word, Cert.Disc.two_word]
  all_goals rfl

theorem pay_10 (v4 : FVec Ideal S32x1x1 .f32) (H4 : ∀ (g : Fin 32), v4 (ix3 g 0 0) = ((A.a2 (ix1 g) : ℝ) : EReal)) (g : Fin 32) :
    k0_pay10 (F := Ideal) v4 (ix3 g 0 0) = ((Real.exp (A.a2 (ix1 g)) : ℝ) : EReal) := by
  simp only [k0_pay10]
  pointwise
  simp only [H4, Cert.Disc.one_word, Cert.Disc.two_word]
  simp only [← EReal.coe_mul, ← EReal.coe_add, ← EReal.coe_sub, ← EReal.coe_neg, Cert.Disc.coe_sum, Ideal.exp_coe, Ideal.cos_coe, Ideal.sin_coe]
  all_goals rfl

theorem pay_11 (v0 : FVec Ideal S32x1x64 .f32) (v4 : FVec Ideal S32x1x1 .f32) (H0 : ∀ (g : Fin 32) (j : Fin 64), v0 (ix3 g 0 j) = (((A.pt g j).lr : ℝ) : EReal)) (H4 : ∀ (g : Fin 32), v4 (ix3 g 0 0) = ((A.a2 (ix1 g) : ℝ) : EReal)) (g : Fin 32) (j : Fin 64) :
    k0_pay11 (F := Ideal) v0 v4 (ix3 g 0 j) = (((A.pt g j).e : ℝ) : EReal) := by
  have e0 : ∀ (g : Fin 32), k0_pay10 (F := Ideal) v4 (ix3 g 0 0) = ((Real.exp (A.a2 (ix1 g)) : ℝ) : EReal) := fun g => pay_10 A v4 H4 g
  have e1 : ∀ (g : Fin 32) (j : Fin 64), k0_pay8 (F := Ideal) v0 (ix3 g 0 j) = (((A.pt g j).lr : ℝ) : EReal) := fun g j => pay_8 A v0 H0 g j
  simp only [k0_pay11]
  generalize k0_pay10 (F := Ideal) v4 = z0 at e0 ⊢
  generalize k0_pay8 (F := Ideal) v0 = z1 at e1 ⊢
  pointwise
  simp only [e0, e1, H0, H4, Cert.Disc.one_word, Cert.Disc.two_word]
  simp only [← EReal.coe_mul, ← EReal.coe_add, ← EReal.coe_sub, ← EReal.coe_neg, Cert.Disc.coe_sum, Ideal.exp_coe, Ideal.cos_coe, Ideal.sin_coe]
  all_goals rfl

theorem pay_12 (v0 v2 : FVec Ideal S32x1x64 .f32) (v4 : FVec Ideal S32x1x1 .f32) (H0 : ∀ (g : Fin 32) (j : Fin 64), v0 (ix3 g 0 j) = (((A.pt g j).lr : ℝ) : EReal)) (H2 : ∀ (g : Fin 32) (j : Fin 64), v2 (ix3 g 0 j) = (((A.pt g j).li : ℝ) : EReal)) (H4 : ∀ (g : Fin 32), v4 (ix3 g 0 0) = ((A.a2 (ix1 g) : ℝ) : EReal)) (g : Fin 32) (j : Fin 64) :
    k0_pay12 (F := Ideal) v0 v2 v4 (ix3 g 0 j) = (((A.pt g j).e * (A.pt g j).c : ℝ) : EReal) := by
  have e0 : ∀ (g : Fin 32), k0_pay10 (F := Ideal) v4 (ix3 g 0 0) = ((Real.exp (A.a2 (ix1 g)) : ℝ) : EReal) := fun g => pay_10 A v4 H4 g
  have e1 : ∀ (g : Fin 32) (j : Fin 64), k0_pay9 (F := Ideal) v2 (ix3 g 0 j) = (((A.pt g j).li : ℝ) : EReal) := fun g j => pay_9 A v2 H2 g j
  have e2 : ∀ (g : Fin 32) (j : Fin 64), k0_pay11 (F := Ideal) v0 v4 (ix3 g 0 j) = (((A.pt g j).e : ℝ) : EReal) := fun g j => pay_11 A v0 v4 H0 H4 g j
  simp only [k0_pay12]
  generalize k0_pay10 (F := Ideal) v4 = z0 at e0 ⊢
  generalize k0_pay9 (F := Ideal) v2 = z1 at e1 ⊢
  generalize k0_pay11 (F := Ideal) v0 v4 = z2 at e2 ⊢
  pointwise
  simp only [e0, e1, e2, H0, H2, H4, Cert.Disc.one_word, Cert.Disc.two_word]
  simp only [← EReal.coe_mul, ← EReal.coe_add, ← EReal.coe_sub, ← EReal.coe_neg, Cert.Disc.coe_sum, Ideal.exp_coe, Ideal.cos_coe, Ideal.sin_coe]
  all_goals rfl

theorem pay_13 (v0 v2 : FVec Ideal S32x1x64 .f32) (v4 : FVec Ideal S32x1x1 .f32) (H0 : ∀ (g : Fin 32) (j : Fin 64), v0 (ix3 g 0 j) = (((A.pt g j).lr : ℝ) : EReal)) (H2 : ∀ (g : Fin 32) (j : Fin 64), v2 (ix3 g 0 j) = (((A.pt g j).li : ℝ) : EReal)) (H4 : ∀ (g : Fin 32), v4 (ix3 g 0 0) = ((A.a2 (ix1 g) : ℝ) : EReal)) (g : Fin 32) (j : Fin 64) :
    k0_pay13 (F := Ideal) v0 v2 v4 (ix3 g 0 j) = (((A.pt g j).ni : ℝ) : EReal) := by
  have e0 : ∀ (g : Fin 32), k0_pay10 (F := Ideal) v4 (ix3 g 0 0) = ((Real.exp (A.a2 (ix1 g)) : ℝ) : EReal) := fun g => pay_10 A v4 H4 g
  have e1 : ∀ (g : Fin 32) (j : Fin 64), k0_pay9 (F := Ideal) v2 (ix3 g 0 j) = (((A.pt g j).li : ℝ) : EReal) := fun g j => pay_9 A v2 H2 g j
  have e2 : ∀ (g : Fin 32) (j : Fin 64), k0_pay11 (F := Ideal) v0 v4 (ix3 g 0 j) = (((A.pt g j).e : ℝ) : EReal) := fun g j => pay_11 A v0 v4 H0 H4 g j
  simp only [k0_pay13]
  generalize k0_pay10 (F := Ideal) v4 = z0 at e0 ⊢
  generalize k0_pay9 (F := Ideal) v2 = z1 at e1 ⊢
  generalize k0_pay11 (F := Ideal) v0 v4 = z2 at e2 ⊢
  pointwise
  simp only [e0, e1, e2, H0, H2, H4, Cert.Disc.one_word, Cert.Disc.two_word]
  simp only [← EReal.coe_mul, ← EReal.coe_add, ← EReal.coe_sub, ← EReal.coe_neg, Cert.Disc.coe_sum, Ideal.exp_coe, Ideal.cos_coe, Ideal.sin_coe]
  all_goals rfl

theorem pay_14 (v0 v2 : FVec Ideal S32x1x64 .f32) (H0 : ∀ (g : Fin 32) (j : Fin 64), v0 (ix3 g 0 j) = (((A.pt g j).lr : ℝ) : EReal)) (H2 : ∀ (g : Fin 32) (j : Fin 64), v2 (ix3 g 0 j) = (((A.pt g j).li : ℝ) : EReal)) (g : Fin 32) (j : Fin 64) :
    k0_pay14 (F := Ideal) v0 v2 (ix3 g 0 j) = (((A.pt g j).den : ℝ) : EReal) := by
  have e0 : ∀ (g : Fin 32) (j : Fin 64), k0_pay8 (F := Ideal) v0 (ix3 g 0 j) = (((A.pt g j).lr : ℝ) : EReal) := fun g j => pay_8 A v0 H0 g j
  have e1 : ∀ (g : Fin 32) (j : Fin 64), k0_pay9 (F := Ideal) v2 (ix3 g 0 j) = (((A.pt g j).li : ℝ) : EReal) := fun g j => pay_9 A v2 H2 g j
  simp only [k0_pay14]
  generalize k0_pay8 (F := Ideal) v0 = z0 at e0 ⊢
  generalize k0_pay9 (F := Ideal) v2 = z1 at e1 ⊢
  pointwise
  simp only [e0, e1, H0, H2, Cert.Disc.one_word, Cert.Disc.two_word]
  simp only [← EReal.coe_mul, ← EReal.coe_add, ← EReal.coe_sub, ← EReal.coe_neg, Cert.Disc.coe_sum, Ideal.exp_coe, Ideal.cos_coe, Ideal.sin_coe]
  all_goals rfl

theorem pay_15 (v0 v2 : FVec Ideal S32x1x64 .f32) (v4 : FVec Ideal S32x1x1 .f32) (H0 : ∀ (g : Fin 32) (j : Fin 64), v0 (ix3 g 0 j) = (((A.pt g j).lr : ℝ) : EReal)) (H2 : ∀ (g : Fin 32) (j : Fin 64), v2 (ix3 g 0 j) = (((A.pt g j).li : ℝ) : EReal)) (H4 : ∀ (g : Fin 32), v4 (ix3 g 0 0) = ((A.a2 (ix1 g) : ℝ) : EReal)) (g : Fin 32) (j : Fin 64) :
    k0_pay15 (F := Ideal) v0 v2 v4 (ix3 g 0 j) = (((A.pt g j).nr : ℝ) : EReal) := by
  have e0 : ∀ (g : Fin 32) (j : Fin 64), k0_pay12 (F := Ideal) v0 v2 v4 (ix3 g 0 j) = (((A.pt g j).e * (A.pt g j).c : ℝ) : EReal) := fun g j => pay_12 A v0 v2 v4 H0 H2 H4 g j
  simp only [k0_pay15]
  generalize k0_pay12 (F := Ideal) v0 v2 v4 = z0 at e0 ⊢
  pointwise
  simp only [e0, H0, H2, H4, Cert.Disc.one_word, Cert.Disc.two_word]
  exact (EReal.coe_sub _ _).symm

theorem pay_16 (v0 v2 : FVec Ideal S32x1x64 .f32) (v4 : FVec Ideal S32x1x1 .f32) (H0 : ∀ (g : Fin 32) (j : Fin 64), v0 (ix3 g 0 j) = (((A.pt g j).lr : ℝ) : EReal)) (H2 : ∀ (g : Fin 32) (j : Fin 64), v2 (ix3 g 0 j) = (((A.pt g j).li : ℝ) : EReal)) (H4 : ∀ (g : Fin 32), v4 (ix3 g 0 0) = ((A.a2 (ix1 g) : ℝ) : EReal)) (h : A.Ok) (g : Fin 32) (j : Fin 64) :
    k0_pay16 (F := Ideal) v0 v2 v4 (ix3 g 0 j) = (((A.pt g j).cr : ℝ) : EReal) := by
  have e0 : ∀ (g : Fin 32) (j : Fin 64), k0_pay15 (F := Ideal) v0 v2 v4 (ix3 g 0 j) = (((A.pt g j).nr : ℝ) : EReal) := fun g j => pay_15 A v0 v2 v4 H0 H2 H4 g j
  have e1 : ∀ (g : Fin 32) (j : Fin 64), k0_pay8 (F := Ideal) v0 (ix3 g 0 j) = (((A.pt g j).lr : ℝ) : EReal) := fun g j => pay_8 A v0 H0 g j
  have e2 : ∀ (g : Fin 32) (j : Fin 64), k0_pay13 (F := Ideal) v0 v2 v4 (ix3 g 0 j) = (((A.pt g j).ni : ℝ) : EReal) := fun g j => pay_13 A v0 v2 v4 H0 H2 H4 g j
  have e3 : ∀ (g : Fin 32) (j : Fin 64), k0_pay9 (F := Ideal) v2 (ix3 g 0 j) = (((A.pt g j).li : ℝ) : EReal) := fun g j => pay_9 A v2 H2 g j
  have e4 : ∀ (g : Fin 32) (j : Fin 64), k0_pay14 (F := Ideal) v0 v2 (ix3 g 0 j) = (((A.pt g j).den : ℝ) : EReal) := fun g j => pay_14 A v0 v2 H0 H2 g j
  simp only [k0_pay16]
  generalize k0_pay15 (F := Ideal) v0 v2 v4 = z0 at e0 ⊢
  generalize k0_pay8 (F := Ideal) v0 = z1 at e1 ⊢
  generalize k0_pay13 (F := Ideal) v0 v2 v4 = z2 at e2 ⊢
  generalize k0_pay9 (F := Ideal) v2 = z3 at e3 ⊢
  generalize k0_pay14 (F := Ideal) v0 v2 = z4 at e4 ⊢
  pointwise
  simp only [e0, e1, e2, e3, e4, H0, H2, H4, Cert.Disc.one_word, Cert.Disc.two_word]
  rw [Ideal.div_coe (h g j)]
  simp only [← EReal.coe_mul, ← EReal.coe_add, ← EReal.coe_sub, ← EReal.coe_neg, Cert.Disc.coe_sum, Ideal.exp_coe, Ideal.cos_coe, Ideal.sin_coe]
  all_goals rfl

theorem pay_17 (v0 v2 : FVec Ideal S32x1x64 .f32) (v4 : FVec Ideal S32x1x1 .f32) (H0 : ∀ (g : Fin 32) (j : Fin 64), v0 (ix3 g 0 j) = (((A.pt g j).lr : ℝ) : EReal)) (H2 : ∀ (g : Fin 32) (j : Fin 64), v2 (ix3 g 0 j) = (((A.pt g j).li : ℝ) : EReal)) (H4 : ∀ (g : Fin 32), v4 (ix3 g 0 0) = ((A.a2 (ix1 g) : ℝ) : EReal)) (h : A.Ok) (g : Fin 32) (j : Fin 64) :
    k0_pay17 (F := Ideal) v0 v2 v4 (ix3 g 0 j) = (((A.pt g j).ci : ℝ) : EReal) := by
  have e0 : ∀ (g : Fin 32) (j : Fin 64), k0_pay13 (F := Ideal) v0 v2 v4 (ix3 g 0 j) = (((A.pt g j).ni : ℝ) : EReal) := fun g j => pay_13 A v0 v2 v4 H0 H2 H4 g j
  have e1 : ∀ (g : Fin 32) (j : Fin 64), k0_pay8 (F := Ideal) v0 (ix3 g 0 j) = (((A.pt g j).lr : ℝ) : EReal) := fun g j => pay_8 A v0 H0 g j
  have e2 : ∀ (g : Fin 32) (j : Fin 64), k0_pay15 (F := Ideal) v0 v2 v4 (ix3 g 0 j) = (((A.pt g j).nr : ℝ) : EReal) := fun g j => pay_15 A v0 v2 v4 H0 H2 H4 g j
  have e3 : ∀ (g : Fin 32) (j : Fin 64), k0_pay9 (F := Ideal) v2 (ix3 g 0 j) = (((A.pt g j).li : ℝ) : EReal) := fun g j => pay_9 A v2 H2 g j
  have e4 : ∀ (g : Fin 32) (j : Fin 64), k0_pay14 (F := Ideal) v0 v2 (ix3 g 0 j) = (((A.pt g j).den : ℝ) : EReal) := fun g j => pay_14 A v0 v2 H0 H2 g j
  simp only [k0_pay17]
  generalize k0_pay13 (F := Ideal) v0 v2 v4 = z0 at e0 ⊢
  generalize k0_pay8 (F := Ideal) v0 = z1 at e1 ⊢
  generalize k0_pay15 (F := Ideal) v0 v2 v4 = z2 at e2 ⊢
  generalize k0_pay9 (F := Ideal) v2 = z3 at e3 ⊢
  generalize k0_pay14 (F := Ideal) v0 v2 = z4 at e4 ⊢
  pointwise
  simp only [e0, e1, e2, e3, e4, H0, H2, H4, Cert.Disc.one_word, Cert.Disc.two_word]
  rw [Ideal.div_coe (h g j)]
  simp only [← EReal.coe_mul, ← EReal.coe_add, ← EReal.coe_sub, ← EReal.coe_neg, Cert.Disc.coe_sum, Ideal.exp_coe, Ideal.cos_coe, Ideal.sin_coe]
  all_goals rfl

theorem pay_18 (v31 : FVec Ideal S32x16x64 .f32) (H31 : ∀ (g : Fin 32) (k : Fin 16) (j : Fin 64), v31 (ix3 g k j) = ((A.a3 (ix3 g j k) : ℝ) : EReal)) (g : Fin 32) (k : Fin 16) (j : Fin 64) :
    k0_pay18 (F := Ideal) v31 (ix3 g k j) = ((A.a3 (ix3 g j k) : ℝ) : EReal) := by
  simp only [k0_pay18]
  pointwise
  simp only [H31, Cert.Disc.one_word, Cert.Disc.two_word]
  all_goals rfl

theorem pay_19 (v33 : FVec Ideal S32x16x64 .f32) (H33 : ∀ (g : Fin 32) (k : Fin 16) (j : Fin 64), v33 (ix3 g k j) = ((A.a4 (ix3 g j k) : ℝ) : EReal)) (g : Fin 32) (k : Fin 16) (j : Fin 64) :
    k0_pay19 (F := Ideal) v33 (ix3 g k j) = ((A.a4 (ix3 g j k) : ℝ) : EReal) := by
  simp only [k0_pay19]
  pointwise
  simp only [H33, Cert.Disc.one_word, Cert.Disc.two_word]
  all_goals rfl

theorem pay_20 (v31 v35 : FVec Ideal S32x16x64 .f32) (H31 : ∀ (g : Fin 32) (k : Fin 16) (j : Fin 64), v31 (ix3 g k j) = ((A.a3 (ix3 g j k) : ℝ) : EReal)) (H35 : ∀ (g : Fin 32) (k : Fin 16) (j : Fin 64), v35 (ix3 g k j) = ((A.a7 (ix3 g k j) : ℝ) : EReal)) (g : Fin 32) (k : Fin 16) (j : Fin 64) :
    k0_pay20 (F := Ideal) v31 v35 (ix3 g k j) = ((A.a7 (ix3 g k j) * A.a3 (ix3 g j k) : ℝ) : EReal) := by
  have e0 : ∀ (g : Fin 32) (k : Fin 16) (j : Fin 64), k0_pay18 (F := Ideal) v31 (ix3 g k j) = ((A.a3 (ix3 g j k) : ℝ) : EReal) := fun g k j => pay_18 A v31 H31 g k j
  simp only [k0_pay20]
  generalize k0_pay18 (F := Ideal) v31 = z0 at e0 ⊢
  pointwise
  simp only [e0, H31, H35, Cert.Disc.one_word, Cert.Disc.two_word]
  simp only [← EReal.coe_mul, ← EReal.coe_add, ← EReal.coe_sub, ← EReal.coe_neg, Cert.Disc.coe_sum, Ideal.exp_coe, Ideal.cos_coe, Ideal.sin_coe]
  all_goals rfl

theorem pay_21 (v34 v36 v37 : FVec Ideal S32x16x64 .f32) (H34 : ∀ (g : Fin 32) (k : Fin 16) (j : Fin 64), v34 (ix3 g k j) = ((A.a4 (ix3 g j k) : ℝ) : EReal)) (H36 : ∀ (g : Fin 32) (k : Fin 16) (j : Fin 64), v36 (ix3 g k j) = ((A.a8 (ix3 g k j) : ℝ) : EReal)) (H37 : ∀ (g : Fin 32) (k : Fin 16) (j : Fin 64), v37 (ix3 g k j) = ((A.a7 (ix3 g k j) * A.a3 (ix3 g j k) : ℝ) : EReal)) (g : Fin 32) (j : Fin 64) :
    k0_pay21 (F := Ideal) v34 v36 v37 (ix3 g 0 j) = (((A.pt g j).gr : ℝ) : EReal) := by
  simp only [k0_pay21]
  pointwise
  simp only [H34, H36, H37, Cert.Disc.one_word, Cert.Disc.two_word]
  simp only [← EReal.coe_mul, ← EReal.coe_add, ← EReal.coe_sub, ← EReal.coe_neg, Cert.Disc.coe_sum, Ideal.exp_coe, Ideal.cos_coe, Ideal.sin_coe]
  simp only [Args.pt]

theorem pay_22 (v32 v34 v35 v36 : FVec Ideal S32x16x64 .f32) (H32 : ∀ (g : Fin 32) (k : Fin 16) (j : Fin 64), v32 (ix3 g k j) = ((A.a3 (ix3 g j k) : ℝ) : EReal)) (H34 : ∀ (g : Fin 32) (k : Fin 16) (j : Fin 64), v34 (ix3 g k j) = ((A.a4 (ix3 g j k) : ℝ) : EReal)) (H35 : ∀ (g : Fin 32) (k : Fin 16) (j : Fin 64), v35 (ix3 g k j) = ((A.a7 (ix3 g k j) : ℝ) : EReal)) (H36 : ∀ (g : Fin 32) (k : Fin 16) (j : Fin 64), v36 (ix3 g k j) = ((A.a8 (ix3 g k j) : ℝ) : EReal)) (g : Fin 32) (j : Fin 64) :
    k0_pay22 (F := Ideal) v32 v34 v35 v36 (ix3 g 0 j) = (((A.pt g j).gi : ℝ) : EReal) := by
  simp only [k0_pay22]
  pointwise
  simp only [H32, H34, H35, H36, Cert.Disc.one_word, Cert.Disc.two_word]
  simp only [← EReal.coe_mul, ← EReal.coe_add, ← EReal.coe_sub, ← EReal.coe_neg, Cert.Disc.coe_sum, Ideal.exp_coe, Ideal.cos_coe, Ideal.sin_coe]
  simp only [Args.pt]

theorem pay_23 (v26 v30 : FVec Ideal S32x1x64 .f32) (v35 v36 : FVec Ideal S32x16x64 .f32) (H26 : ∀ (g : Fin 32) (j : Fin 64), v26 (ix3 g 0 j) = (((A.pt g j).cr : ℝ) : EReal)) (H30 : ∀ (g : Fin 32) (j : Fin 64), v30 (ix3 g 0 j) = (((A.pt g j).ci : ℝ) : EReal)) (H35 : ∀ (g : Fin 32) (k : Fin 16) (j : Fin 64), v35 (ix3 g k j) = ((A.a7 (ix3 g k j) : ℝ) : EReal)) (H36 : ∀ (g : Fin 32) (k : Fin 16) (j : Fin 64), v36 (ix3 g k j) = ((A.a8 (ix3 g k j) : ℝ) : EReal)) (g : Fin 32) (k : Fin 16) (j : Fin 64) :
    k0_pay23 (F := Ideal) v26 v30 v35 v36 (ix3 g k j) = (((A.pt g j).cr * A.a7 (ix3 g k j) + (A.pt g j).ci * A.a8 (ix3 g k j) : ℝ) : EReal) := by
  simp only [k0_pay23]
  pointwise
  simp only [H26, H30, H35, H36, Cert.Disc.one_word, Cert.Disc.two_word]
  simp only [← EReal.coe_mul, ← EReal.coe_add, ← EReal.coe_sub, ← EReal.coe_neg, Cert.Disc.coe_sum, Ideal.exp_coe, Ideal.cos_coe, Ideal.sin_coe]
  all_goals rfl

theorem pay_24 (v26 v30 : FVec Ideal S32x1x64 .f32) (v35 v36 : FVec Ideal S32x16x64 .f32) (H26 : ∀ (g : Fin 32) (j : Fin 64), v26 (ix3 g 0 j) = (((A.pt g j).cr : ℝ) : EReal)) (H30 : ∀ (g : Fin 32) (j : Fin 64), v30 (ix3 g 0 j) = (((A.pt g j).ci : ℝ) : EReal)) (H35 : ∀ (g : Fin 32) (k : Fin 16) (j : Fin 64), v35 (ix3 g k j) = ((A.a7 (ix3 g k j) : ℝ) : EReal)) (H36 : ∀ (g : Fin 32) (k : Fin 16) (j : Fin 64), v36 (ix3 g k j) = ((A.a8 (ix3 g k j) : ℝ) : EReal)) (g : Fin 32) (k : Fin 16) (j : Fin 64) :
    k0_pay24 (F := Ideal) v26 v30 v35 v36 (ix3 g k j) = (((A.pt g j).cr * A.a8 (ix3 g k j) - (A.pt g j).ci * A.a7 (ix3 g k j) : ℝ) : EReal) := by
  simp only [k0_pay24]
  pointwise
  simp only [H26, H30, H35, H36, Cert.Disc.one_word, Cert.Disc.two_word]
  simp only [← EReal.coe_mul, ← EReal.coe_add, ← EReal.coe_sub, ← EReal.coe_neg, Cert.Disc.coe_sum, Ideal.exp_coe, Ideal.cos_coe, Ideal.sin_coe]
  all_goals rfl

theorem pay_25 (v1 v3 v20 : FVec Ideal S32x1x64 .f32) (v32 v34 v35 v36 v37 : FVec Ideal S32x16x64 .f32) (H1 : ∀ (g : Fin 32) (j : Fin 64), v1 (ix3 g 0 j) = (((A.pt g j).lr : ℝ) : EReal)) (H3 : ∀ (g : Fin 32) (j : Fin 64), v3 (ix3 g 0 j) = (((A.pt g j).li : ℝ) : EReal)) (H20 : ∀ (g : Fin 32) (j : Fin 64), v20 (ix3 g 0 j) = (((A.pt g j).den : ℝ) : EReal)) (H32 : ∀ (g : Fin 32) (k : Fin 16) (j : Fin 64), v32 (ix3 g k j) = ((A.a3 (ix3 g j k) : ℝ) : EReal)) (H34 : ∀ (g : Fin 32) (k : Fin 16) (j : Fin 64), v34 (ix3 g k j) = ((A.a4 (ix3 g j k) : ℝ) : EReal)) (H35 : ∀ (g : Fin 32) (k : Fin 16) (j : Fin 64), v35 (ix3 g k j) = ((A.a7 (ix3 g k j) : ℝ) : EReal)) (H36 : ∀ (g : Fin 32) (k : Fin 16) (j : Fin 64), v36 (ix3 g k j) = ((A.a8 (ix3 g k j) : ℝ) : EReal)) (H37 : ∀ (g : Fin 32) (k : Fin 16) (j : Fin 64), v37 (ix3 g k j) = ((A.a7 (ix3 g k j) * A.a3 (ix3 g j k) : ℝ) : EReal)) (h : A.Ok) (g : Fin 32) (j : Fin 64) :
    k0_pay25 (F := Ideal) v1 v3 v20 v32 v34 v35 v36 v37 (ix3 g 0 j) = (((A.pt g j).dnr : ℝ) : EReal) := by
  have e0 : ∀ (g : Fin 32) (j : Fin 64), k0_pay21 (F := Ideal) v34 v36 v37 (ix3 g 0 j) = (((A.pt g j).gr : ℝ) : EReal) := fun g j => pay_21 A v34 v36 v37 H34 H36 H37 g j
  have e1 : ∀ (g : Fin 32) (j : Fin 64), k0_pay22 (F := Ideal) v32 v34 v35 v36 (ix3 g 0 j) = (((A.pt g j).gi : ℝ) : EReal) := fun g j => pay_22 A v32 v34 v35 v36 H32 H34 H35 H36 g j
  simp only [k0_pay25]
  generalize k0_pay21 (F := Ideal) v34 v36 v37 = z0 at e0 ⊢
  generalize k0_pay22 (F := Ideal) v32 v34 v35 v36 = z1 at e1 ⊢
  pointwise
  simp only [e0, e1, H1, H3, H20, H32, H34, H35, H36, H37, Cert.Disc.one_word, Cert.Disc.two_word]
  rw [Ideal.div_coe (h g j)]
  simp only [← EReal.coe_mul, ← EReal.coe_add, ← EReal.coe_sub, ← EReal.coe_neg, Cert.Disc.coe_sum, Ideal.exp_coe, Ideal.cos_coe, Ideal.sin_coe]
  all_goals rfl

theorem pay_26 (v1 v3 v20 : FVec Ideal S32x1x64 .f32) (v32 v34 v35 v36 v37 : FVec Ideal S32x16x64 .f32) (H1 : ∀ (g : Fin 32) (j : Fin 64), v1 (ix3 g 0 j) = (((A.pt g j).lr : ℝ) : EReal)) (H3 : ∀ (g : Fin 32) (j : Fin 64), v3 (ix3 g 0 j) = (((A.pt g j).li : ℝ) : EReal)) (H20 : ∀ (g : Fin 32) (j : Fin 64), v20 (ix3 g 0 j) = (((A.pt g j).den : ℝ) : EReal)) (H32 : ∀ (g : Fin 32) (k : Fin 16) (j : Fin 64), v32 (ix3 g k j) = ((A.a3 (ix3 g j k) : ℝ) : EReal)) (H34 : ∀ (g : Fin 32) (k : Fin 16) (j : Fin 64), v34 (ix3 g k j) = ((A.a4 (ix3 g j k) : ℝ) : EReal)) (H35 : ∀ (g : Fin 32) (k : Fin 16) (j : Fin 64), v35 (ix3 g k j) = ((A.a7 (ix3 g k j) : ℝ) : EReal)) (H36 : ∀ (g : Fin 32) (k : Fin 16) (j : Fin 64), v36 (ix3 g k j) = ((A.a8 (ix3 g k j) : ℝ) : EReal)) (H37 : ∀ (g : Fin 32) (k : Fin 16) (j : Fin 64), v37 (ix3 g k j) = ((A.a7 (ix3 g k j) * A.a3 (ix3 g j k) : ℝ) : EReal)) (h : A.Ok) (g : Fin 32) (j : Fin 64) :
    k0_pay26 (F := Ideal) v1 v3 v20 v32 v34 v35 v36 v37 (ix3 g 0 j) = (((A.pt g j).dni : ℝ) : EReal) := by
  have e0 : ∀ (g : Fin 32) (j : Fin 64), k0_pay21 (F := Ideal) v34 v36 v37 (ix3 g 0 j) = (((A.pt g j).gr : ℝ) : EReal) := fun g j => pay_21 A v34 v36 v37 H34 H36 H37 g j
  have e1 : ∀ (g : Fin 32) (j : Fin 64), k0_pay22 (F := Ideal) v32 v34 v35 v36 (ix3 g 0 j) = (((A.pt g j).gi : ℝ) : EReal) := fun g j => pay_22 A v32 v34 v35 v36 H32 H34 H35 H36 g j
  simp only [k0_pay26]
  generalize k0_pay21 (F := Ideal) v34 v36 v37 = z0 at e0 ⊢
  generalize k0_pay22 (F := Ideal) v32 v34 v35 v36 = z1 at e1 ⊢
  pointwise
  simp only [e0, e1, H1, H3, H20, H32, H34, H35, H36, H37, Cert.Disc.one_word, Cert.Disc.two_word]
  rw [Ideal.div_coe (h g j)]
  simp only [← EReal.coe_mul, ← EReal.coe_add, ← EReal.coe_sub, ← EReal.coe_neg, Cert.Disc.coe_sum, Ideal.exp_coe, Ideal.cos_coe, Ideal.sin_coe]
  all_goals rfl

theorem pay_27 (v20 v26 v30 : FVec Ideal S32x1x64 .f32) (v32 v34 v35 v36 v37 : FVec Ideal S32x16x64 .f32) (H20 : ∀ (g : Fin 32) (j : Fin 64), v20 (ix3 g 0 j) = (((A.pt g j).den : ℝ) : EReal)) (H26 : ∀ (g : Fin 32) (j : Fin 64), v26 (ix3 g 0 j) = (((A.pt g j).cr : ℝ) : EReal)) (H30 : ∀ (g : Fin 32) (j : Fin 64), v30 (ix3 g 0 j) = (((A.pt g j).ci : ℝ) : EReal)) (H32 : ∀ (g : Fin 32) (k : Fin 16) (j : Fin 64), v32 (ix3 g k j) = ((A.a3 (ix3 g j k) : ℝ) : EReal)) (H34 : ∀ (g : Fin 32) (k : Fin 16) (j : Fin 64), v34 (ix3 g k j) = ((A.a4 (ix3 g j k) : ℝ) : EReal)) (H35 : ∀ (g : Fin 32) (k : Fin 16) (j : Fin 64), v35 (ix3 g k j) = ((A.a7 (ix3 g k j) : ℝ) : EReal)) (H36 : ∀ (g : Fin 32) (k : Fin 16) (j : Fin 64), v36 (ix3 g k j) = ((A.a8 (ix3 g k j) : ℝ) : EReal)) (H37 : ∀ (g : Fin 32) (k : Fin 16) (j : Fin 64), v37 (ix3 g k j) = ((A.a7 (ix3 g k j) * A.a3 (ix3 g j k) : ℝ) : EReal)) (h : A.Ok) (g : Fin 32) (j : Fin 64) :
    k0_pay27 (F := Ideal) v20 v26 v30 v32 v34 v35 v36 v37 (ix3 g 0 j) = (((A.pt g j).dden : ℝ) : EReal) := by
  have e0 : ∀ (g : Fin 32) (j : Fin 64), k0_pay21 (F := Ideal) v34 v36 v37 (ix3 g 0 j) = (((A.pt g j).gr : ℝ) : EReal) := fun g j => pay_21 A v34 v36 v37 H34 H36 H37 g j
  have e1 : ∀ (g : Fin 32) (j : Fin 64), k0_pay22 (F := Ideal) v32 v34 v35 v36 (ix3 g 0 j) = (((A.pt g j).gi : ℝ) : EReal) := fun g j => pay_22 A v32 v34 v35 v36 H32 H34 H35 H36 g j
  simp only [k0_pay27]
  generalize k0_pay21 (F := Ideal) v34 v36 v37 = z0 at e0 ⊢
  generalize k0_pay22 (F := Ideal) v32 v34 v35 v36 = z1 at e1 ⊢
  pointwise
  simp only [e0, e1, H20, H26, H30, H32, H34, H35, H36, H37, Cert.Disc.one_word, Cert.Disc.two_word]
  rw [Ideal.div_coe (h g j)]
  simp only [← EReal.coe_mul, ← EReal.coe_add, ← EReal.coe_sub, ← EReal.coe_neg, Cert.Disc.coe_sum, Ideal.exp_coe, Ideal.cos_coe, Ideal.sin_coe]
  all_goals rfl

theorem pay_28 (v1 v17 v20 v22 v26 v30 : FVec Ideal S32x1x64 .f32) (v32 v34 v35 v36 v37 : FVec Ideal S32x16x64 .f32) (H1 : ∀ (g : Fin 32) (j : Fin 64), v1 (ix3 g 0 j) = (((A.pt g j).lr : ℝ) : EReal)) (H17 : ∀ (g : Fin 32) (j : Fin 64), v17 (ix3 g 0 j) = (((A.pt g j).ni : ℝ) : EReal)) (H20 : ∀ (g : Fin 32) (j : Fin 64), v20 (ix3 g 0 j) = (((A.pt g j).den : ℝ) : EReal)) (H22 : ∀ (g : Fin 32) (j : Fin 64), v22 (ix3 g 0 j) = (((A.pt g j).nr : ℝ) : EReal)) (H26 : ∀ (g : Fin 32) (j : Fin 64), v26 (ix3 g 0 j) = (((A.pt g j).cr : ℝ) : EReal)) (H30 : ∀ (g : Fin 32) (j : Fin 64), v30 (ix3 g 0 j) = (((A.pt g j).ci : ℝ) : EReal)) (H32 : ∀ (g : Fin 32) (k : Fin 16) (j : Fin 64), v32 (ix3 g k j) = ((A.a3 (ix3 g j k) : ℝ) : EReal)) (H34 : ∀ (g : Fin 32) (k : Fin 16) (j : Fin 64), v34 (ix3 g k j) = ((A.a4 (ix3 g j k) : ℝ) : EReal)) (H35 : ∀ (g : Fin 32) (k : Fin 16) (j : Fin 64), v35 (ix3 g k j) = ((A.a7 (ix3 g k j) : ℝ) : EReal)) (H36 : ∀ (g : Fin 32) (k : Fin 16) (j : Fin 64), v36 (ix3 g k j) = ((A.a8 (ix3 g k j) : ℝ) : EReal)) (H37 : ∀ (g : Fin 32) (k : Fin 16) (j : Fin 64), v37 (ix3 g k j) = ((A.a7 (ix3 g k j) * A.a3 (ix3 g j k) : ℝ) : EReal)) (h : A.Ok) (g : Fin 32) (j : Fin 64) :
    k0_pay28 (F := Ideal) v1 v17 v20 v22 v26 v30 v32 v34 v35 v36 v37 (ix3 g 0 j) = (((A.pt g j).dlr : ℝ) : EReal) := by
  have e0 : ∀ (g : Fin 32) (j : Fin 64), k0_pay21 (F := Ideal) v34 v36 v37 (ix3 g 0 j) = (((A.pt g j).gr : ℝ) : EReal) := fun g j => pay_21 A v34 v36 v37 H34 H36 H37 g j
  have e1 : ∀ (g : Fin 32) (j : Fin 64), k0_pay22 (F := Ideal) v32 v34 v35 v36 (ix3 g 0 j) = (((A.pt g j).gi : ℝ) : EReal) := fun g j => pay_22 A v32 v34 v35 v36 H32 H34 H35 H36 g j
  have e2 : ∀ (g : Fin 32) (j : Fin 64), k0_pay27 (F := Ideal) v20 v26 v30 v32 v34 v35 v36 v37 (ix3 g 0 j) = (((A.pt g j).dden : ℝ) : EReal) := fun g j => pay_27 A v20 v26 v30 v32 v34 v35 v36 v37 H20 H26 H30 H32 H34 H35 H36 H37 h g j
  simp only [k0_pay28]
  generalize k0_pay21 (F := Ideal) v34 v36 v37 = z0 at e0 ⊢
  generalize k0_pay22 (F := Ideal) v32 v34 v35 v36 = z1 at e1 ⊢
  generalize k0_pay27 (F := Ideal) v20 v26 v30 v32 v34 v35 v36 v37 = z2 at e2 ⊢
  pointwise
  simp only [e0, e1, e2, H1, H17, H20, H22, H26, H30, H32, H34, H35, H36, H37, Cert.Disc.one_word, Cert.Disc.two_word]
  rw [Ideal.div_coe (h g j)]
  simp only [← EReal.coe_mul, ← EReal.coe_add, ← EReal.coe_sub, ← EReal.coe_neg, Cert.Disc.coe_sum, Ideal.exp_coe, Ideal.cos_coe, Ideal.sin_coe]
  all_goals rfl

theorem pay_29 (v17 v20 v22 : FVec Ideal S32x1x64 .f32) (v32 v34 v35 v36 v37 : FVec Ideal S32x16x64 .f32) (H17 : ∀ (g : Fin 32) (j : Fin 64), v17 (ix3 g 0 j) = (((A.pt g j).ni : ℝ) : EReal)) (H20 : ∀ (g : Fin 32) (j : Fin 64), v20 (ix3 g 0 j) = (((A.pt g j).den : ℝ) : EReal)) (H22 : ∀ (g : Fin 32) (j : Fin 64), v22 (ix3 g 0 j) = (((A.pt g j).nr : ℝ) : EReal)) (H32 : ∀ (g : Fin 32) (k : Fin 16) (j : Fin 64), v32 (ix3 g k j) = ((A.a3 (ix3 g j k) : ℝ) : EReal)) (H34 : ∀ (g : Fin 32) (k : Fin 16) (j : Fin 64), v34 (ix3 g k j) = ((A.a4 (ix3 g j k) : ℝ) : EReal)) (H35 : ∀ (g : Fin 32) (k : Fin 16) (j : Fin 64), v35 (ix3 g k j) = ((A.a7 (ix3 g k j) : ℝ) : EReal)) (H36 : ∀ (g : Fin 32) (k : Fin 16) (j : Fin 64), v36 (ix3 g k j) = ((A.a8 (ix3 g k j) : ℝ) : EReal)) (H37 : ∀ (g : Fin 32) (k : Fin 16) (j : Fin 64), v37 (ix3 g k j) = ((A.a7 (ix3 g k j) * A.a3 (ix3 g j k) : ℝ) : EReal)) (h : A.Ok) (g : Fin 32) (j : Fin 64) :
    k0_pay29 (F := Ideal) v17 v20 v22 v32 v34 v35 v36 v37 (ix3 g 0 j) = (((A.pt g j).fli : ℝ) : EReal) := by
  have e0 : ∀ (g : Fin 32) (j : Fin 64), k0_pay21 (F := Ideal) v34 v36 v37 (ix3 g 0 j) = (((A.pt g j).gr : ℝ) : EReal) := fun g j => pay_21 A v34 v36 v37 H34 H36 H37 g j
  have e1 : ∀ (g : Fin 32) (j : Fin 64), k0_pay22 (F := Ideal) v32 v34 v35 v36 (ix3 g 0 j) = (((A.pt g j).gi : ℝ) : EReal) := fun g j => pay_22 A v32 v34 v35 v36 H32 H34 H35 H36 g j
  simp only [k0_pay29]
  generalize k0_pay21 (F := Ideal) v34 v36 v37 = z0 at e0 ⊢
  generalize k0_pay22 (F := Ideal) v32 v34 v35 v36 = z1 at e1 ⊢
  pointwise
  simp only [e0, e1, H17, H20, H22, H32, H34, H35, H36, H37, Cert.Disc.one_word, Cert.Disc.two_word]
  rw [Ideal.div_coe (h g j)]
  simp only [← EReal.coe_mul, ← EReal.coe_add, ← EReal.coe_sub, ← EReal.coe_neg, Cert.Disc.coe_sum, Ideal.exp_coe, Ideal.cos_coe, Ideal.sin_coe]
  all_goals rfl

theorem pay_1 (v62 v89 : FVec Ideal S32x1x64 .f32) (H62 : ∀ (g : Fin 32) (j : Fin 64), v62 (ix3 g 0 j) = (((A.pt g j).dnr : ℝ) : EReal)) (H89 : ∀ (g : Fin 32) (j : Fin 64), v89 (ix3 g 0 j) = (((A.pt g j).ar : ℝ) : EReal)) (g : Fin 32) (j : Fin 64) :
    k0_pay1 (F := Ideal) v62 v89 (ix3 g 0 j) = (((A.pt g j).ar + (A.pt g j).dnr : ℝ) : EReal) := by
  simp only [k0_pay1]
  pointwise
  simp only [H62, H89, Cert.Disc.one_word, Cert.Disc.two_word]
  simp only [← EReal.coe_mul, ← EReal.coe_add, ← EReal.coe_sub, ← EReal.coe_neg, Cert.Disc.coe_sum, Ideal.exp_coe, Ideal.cos_coe, Ideal.sin_coe]
  all_goals rfl

theorem pay_2 (v66 v92 : FVec Ideal S32x1x64 .f32) (H66 : ∀ (g : Fin 32) (j : Fin 64), v66 (ix3 g 0 j) = (((A.pt g j).dni : ℝ) : EReal)) (H92 : ∀ (g : Fin 32) (j : Fin 64), v92 (ix3 g 0 j) = (((A.pt g j).ai : ℝ) : EReal)) (g : Fin 32) (j : Fin 64) :
    k0_pay2 (F := Ideal) v66 v92 (ix3 g 0 j) = (((A.pt g j).ai + (A.pt g j).dni : ℝ) : EReal) := by
  simp only [k0_pay2]
  pointwise
  simp only [H66, H92, Cert.Disc.one_word, Cert.Disc.two_word]
  simp only [← EReal.coe_mul, ← EReal.coe_add, ← EReal.coe_sub, ← EReal.coe_neg, Cert.Disc.coe_sum, Ideal.exp_coe, Ideal.cos_coe, Ideal.sin_coe]
  all_goals rfl

theorem pay_3 (v13 v17 v62 v66 v89 v92 : FVec Ideal S32x1x64 .f32) (H13 : ∀ (g : Fin 32) (j : Fin 64), v13 (ix3 g 0 j) = (((A.pt g j).e * (A.pt g j).c : ℝ) : EReal)) (H17 : ∀ (g : Fin 32) (j : Fin 64), v17 (ix3 g 0 j) = (((A.pt g j).ni : ℝ) : EReal)) (H62 : ∀ (g : Fin 32) (j : Fin 64), v62 (ix3 g 0 j) = (((A.pt g j).dnr : ℝ) : EReal)) (H66 : ∀ (g : Fin 32) (j : Fin 64), v66 (ix3 g 0 j) = (((A.pt g j).dni : ℝ) : EReal)) (H89 : ∀ (g : Fin 32) (j : Fin 64), v89 (ix3 g 0 j) = (((A.pt g j).ar : ℝ) : EReal)) (H92 : ∀ (g : Fin 32) (j : Fin 64), v92 (ix3 g 0 j) = (((A.pt g j).ai : ℝ) : EReal)) (g : Fin 32) (j : Fin 64) :
    k0_pay3 (F := Ideal) v13 v17 v62 v66 v89 v92 (ix3 g 0 j) = (((A.pt g j).dph : ℝ) : EReal) := by
  have e0 : ∀ (g : Fin 32) (j : Fin 64), k0_pay1 (F := Ideal) v62 v89 (ix3 g 0 j) = (((A.pt g j).ar + (A.pt g j).dnr : ℝ) : EReal) := fun g j => pay_1 A v62 v89 H62 H89 g j
  have e1 : ∀ (g : Fin 32) (j : Fin 64), k0_pay2 (F := Ideal) v66 v92 (ix3 g 0 j) = (((A.pt g j).ai + (A.pt g j).dni : ℝ) : EReal) := fun g j => pay_2 A v66 v92 H66 H92 g j
  simp only [k0_pay3]
  generalize k0_pay1 (F := Ideal) v62 v89 = z0 at e0 ⊢
  generalize k0_pay2 (F := Ideal) v66 v92 = z1 at e1 ⊢
  pointwise
  simp only [e0, e1, H13, H17, H62, H66, H89, H92, Cert.Disc.one_word, Cert.Disc.two_word]
  simp only [← EReal.coe_mul, ← EReal.coe_add, ← EReal.coe_sub, ← EReal.coe_neg, Cert.Disc.coe_sum, Ideal.exp_coe, Ideal.cos_coe, Ideal.sin_coe]
  all_goals rfl

theorem pay_4 (v13 v17 v62 v66 v89 v92 : FVec Ideal S32x1x64 .f32) (H13 : ∀ (g : Fin 32) (j : Fin 64), v13 (ix3 g 0 j) = (((A.pt g j).e * (A.pt g j).c : ℝ) : EReal)) (H17 : ∀ (g : Fin 32) (j : Fin 64), v17 (ix3 g 0 j) = (((A.pt g j).ni : ℝ) : EReal)) (H62 : ∀ (g : Fin 32) (j : Fin 64), v62 (ix3 g 0 j) = (((A.pt g j).dnr : ℝ) : EReal)) (H66 : ∀ (g : Fin 32) (j : Fin 64), v66 (ix3 g 0 j) = (((A.pt g j).dni : ℝ) : EReal)) (H89 : ∀ (g : Fin 32) (j : Fin 64), v89 (ix3 g 0 j) = (((A.pt g j).ar : ℝ) : EReal)) (H92 : ∀ (g : Fin 32) (j : Fin 64), v92 (ix3 g 0 j) = (((A.pt g j).ai : ℝ) : EReal)) (g : Fin 32) (j : Fin 64) :
    k0_pay4 (F := Ideal) v13 v17 v62 v66 v89 v92 (ix3 g 0 j) = (((A.pt g j).dth : ℝ) : EReal) := by
  have e0 : ∀ (g : Fin 32) (j : Fin 64), k0_pay2 (F := Ideal) v66 v92 (ix3 g 0 j) = (((A.pt g j).ai + (A.pt g j).dni : ℝ) : EReal) := fun g j => pay_2 A v66 v92 H66 H92 g j
  have e1 : ∀ (g : Fin 32) (j : Fin 64), k0_pay1 (F := Ideal) v62 v89 (ix3 g 0 j) = (((A.pt g j).ar + (A.pt g j).dnr : ℝ) : EReal) := fun g j => pay_1 A v62 v89 H62 H89 g j
  simp only [k0_pay4]
  generalize k0_pay2 (F := Ideal) v66 v92 = z0 at e0 ⊢
  generalize k0_pay1 (F := Ideal) v62 v89 = z1 at e1 ⊢
  pointwise
  simp only [e0, e1, H13, H17, H62, H66, H89, H92, Cert.Disc.one_word, Cert.Disc.two_word]
  simp only [← EReal.coe_mul, ← EReal.coe_add, ← EReal.coe_sub, ← EReal.coe_neg, Cert.Disc.coe_sum, Ideal.exp_coe, Ideal.cos_coe, Ideal.sin_coe]
  all_goals rfl

theorem pay_5 (v13 v17 v62 v66 v80 v89 v92 : FVec Ideal S32x1x64 .f32) (v6 : FVec Ideal S32x1x1 .f32) (H6 : ∀ (g : Fin 32), v6 (ix3 g 0 0) = ((Real.exp (A.a2 (ix1 g)) : ℝ) : EReal)) (H13 : ∀ (g : Fin 32) (j : Fin 64), v13 (ix3 g 0 j) = (((A.pt g j).e * (A.pt g j).c : ℝ) : EReal)) (H17 : ∀ (g : Fin 32) (j : Fin 64), v17 (ix3 g 0 j) = (((A.pt g j).ni : ℝ) : EReal)) (H62 : ∀ (g : Fin 32) (j : Fin 64), v62 (ix3 g 0 j) = (((A.pt g j).dnr : ℝ) : EReal)) (H66 : ∀ (g : Fin 32) (j : Fin 64), v66 (ix3 g 0 j) = (((A.pt g j).dni : ℝ) : EReal)) (H80 : ∀ (g : Fin 32) (j : Fin 64), v80 (ix3 g 0 j) = (((A.pt g j).dlr : ℝ) : EReal)) (H89 : ∀ (g : Fin 32) (j : Fin 64), v89 (ix3 g 0 j) = (((A.pt g j).ar : ℝ) : EReal)) (H92 : ∀ (g : Fin 32) (j : Fin 64), v92 (ix3 g 0 j) = (((A.pt g j).ai : ℝ) : EReal)) (g : Fin 32) (j : Fin 64) :
    k0_pay5 (F := Ideal) v6 v13 v17 v62 v66 v80 v89 v92 (ix3 g 0 j) = (((A.pt g j).outRe : ℝ) : EReal) := by
  have e0 : ∀ (g : Fin 32) (j : Fin 64), k0_pay3 (F := Ideal) v13 v17 v62 v66 v89 v92 (ix3 g 0 j) = (((A.pt g j).dph : ℝ) : EReal) := fun g j => pay_3 A v13 v17 v62 v66 v89 v92 H13 H17 H62 H66 H89 H92 g j
  simp only [k0_pay5]
  generalize k0_pay3 (F := Ideal) v13 v17 v62 v66 v89 v92 = z0 at e0 ⊢
  pointwise
  simp only [e0, H6, H13, H17, H62, H66, H80, H89, H92, Cert.Disc.one_word, Cert.Disc.two_word]
  simp only [← EReal.coe_mul, ← EReal.coe_add, ← EReal.coe_sub, ← EReal.coe_neg, Cert.Disc.coe_sum, Ideal.exp_coe, Ideal.cos_coe, Ideal.sin_coe]
  all_goals rfl

theorem pay_6 (v3 v13 v17 v62 v66 v72 v84 v89 v92 : FVec Ideal S32x1x64 .f32) (v6 : FVec Ideal S32x1x1 .f32) (H3 : ∀ (g : Fin 32) (j : Fin 64), v3 (ix3 g 0 j) = (((A.pt g j).li : ℝ) : EReal)) (H6 : ∀ (g : Fin 32), v6 (ix3 g 0 0) = ((Real.exp (A.a2 (ix1 g)) : ℝ) : EReal)) (H13 : ∀ (g : Fin 32) (j : Fin 64), v13 (ix3 g 0 j) = (((A.pt g j).e * (A.pt g j).c : ℝ) : EReal)) (H17 : ∀ (g : Fin 32) (j : Fin 64), v17 (ix3 g 0 j) = (((A.pt g j).ni : ℝ) : EReal)) (H62 : ∀ (g : Fin 32) (j : Fin 64), v62 (ix3 g 0 j) = (((A.pt g j).dnr : ℝ) : EReal)) (H66 : ∀ (g : Fin 32) (j : Fin 64), v66 (ix3 g 0 j) = (((A.pt g j).dni : ℝ) : EReal)) (H72 : ∀ (g : Fin 32) (j : Fin 64), v72 (ix3 g 0 j) = (((A.pt g j).dden : ℝ) : EReal)) (H84 : ∀ (g : Fin 32) (j : Fin 64), v84 (ix3 g 0 j) = (((A.pt g j).fli : ℝ) : EReal)) (H89 : ∀ (g : Fin 32) (j : Fin 64), v89 (ix3 g 0 j) = (((A.pt g j).ar : ℝ) : EReal)) (H92 : ∀ (g : Fin 32) (j : Fin 64), v92 (ix3 g 0 j) = (((A.pt g j).ai : ℝ) : EReal)) (g : Fin 32) (j : Fin 64) :
    k0_pay6 (F := Ideal) v3 v6 v13 v17 v62 v66 v72 v84 (Scalar.ofBits (F := Ideal) .f32 0x40000000#32) v89 v92 (ix3 g 0 j) = (((A.pt g j).outIm : ℝ) : EReal) := by
  have e0 : ∀ (g : Fin 32) (j : Fin 64), k0_pay4 (F := Ideal) v13 v17 v62 v66 v89 v92 (ix3 g 0 j) = (((A.pt g j).dth : ℝ) : EReal) := fun g j => pay_4 A v13 v17 v62 v66 v89 v92 H13 H17 H62 H66 H89 H92 g j
  simp only [k0_pay6]
  generalize k0_pay4 (F := Ideal) v13 v17 v62 v66 v89 v92 = z0 at e0 ⊢
  pointwise
  simp only [e0, H3, H6, H13, H17, H62, H66, H72, H84, H89, H92, Cert.Disc.one_word, Cert.Disc.two_word]
  simp only [← EReal.coe_mul, ← EReal.coe_add, ← EReal.coe_sub, ← EReal.coe_neg, Cert.Disc.coe_sum, Ideal.exp_coe, Ideal.cos_coe, Ideal.sin_coe]
  all_goals rfl

theorem pay_7 (v1 v3 v13 v17 v62 v66 v89 v92 : FVec Ideal S32x1x64 .f32) (v6 : FVec Ideal S32x1x1 .f32) (H1 : ∀ (g : Fin 32) (j : Fin 64), v1 (ix3 g 0 j) = (((A.pt g j).lr : ℝ) : EReal)) (H3 : ∀ (g : Fin 32) (j : Fin 64), v3 (ix3 g 0 j) = (((A.pt g j).li : ℝ) : EReal)) (H6 : ∀ (g : Fin 32), v6 (ix3 g 0 0) = ((Real.exp (A.a2 (ix1 g)) : ℝ) : EReal)) (H13 : ∀ (g : Fin 32) (j : Fin 64), v13 (ix3 g 0 j) = (((A.pt g j).e * (A.pt g j).c : ℝ) : EReal)) (H17 : ∀ (g : Fin 32) (j : Fin 64), v17 (ix3 g 0 j) = (((A.pt g j).ni : ℝ) : EReal)) (H62 : ∀ (g : Fin 32) (j : Fin 64), v62 (ix3 g 0 j) = (((A.pt g j).dnr : ℝ) : EReal)) (H66 : ∀ (g : Fin 32) (j : Fin 64), v66 (ix3 g 0 j) = (((A.pt g j).dni : ℝ) : EReal)) (H89 : ∀ (g : Fin 32) (j : Fin 64), v89 (ix3 g 0 j) = (((A.pt g j).ar : ℝ) : EReal)) (H92 : ∀ (g : Fin 32) (j : Fin 64), v92 (ix3 g 0 j) = (((A.pt g j).ai : ℝ) : EReal)) (g : Fin 32) :
    k0_pay7 (F := Ideal) v1 v3 v6 v13 v17 v62 v66 v89 v92 (ix3 g 0 0) = (((∑ j, (A.pt g j).term) * Real.exp (A.a2 (ix1 g)) : ℝ) : EReal) := by
  have e0 : ∀ (g : Fin 32) (j : Fin 64), k0_pay3 (F := Ideal) v13 v17 v62 v66 v89 v92 (ix3 g 0 j) = (((A.pt g j).dph : ℝ) : EReal) := fun g j => pay_3 A v13 v17 v62 v66 v89 v92 H13 H17 H62 H66 H89 H92 g j
  have e1 : ∀ (g : Fin 32) (j : Fin 64), k0_pay4 (F := Ideal) v13 v17 v62 v66 v89 v92 (ix3 g 0 j) = (((A.pt g j).dth : ℝ) : EReal) := fun g j => pay_4 A v13 v17 v62 v66 v89 v92 H13 H17 H62 H66 H89 H92 g j
  simp only [k0_pay7]
  generalize k0_pay3 (F := Ideal) v13 v17 v62 v66 v89 v92 = z0 at e0 ⊢
  generalize k0_pay4 (F := Ideal) v13 v17 v62 v66 v89 v92 = z1 at e1 ⊢
  pointwise
  simp only [e0, e1, H1, H3, H6, H13, H17, H62, H66, H89, H92, Cert.Disc.one_word, Cert.Disc.two_word]
  simp only [← EReal.coe_mul, ← EReal.coe_add, ← EReal.coe_sub, ← EReal.coe_neg, Cert.Disc.coe_sum, Ideal.exp_coe, Ideal.cos_coe, Ideal.sin_coe]
  all_goals rfl

end Cert.SsmDiscBwdIdeal.Hand

end
-- ==== Proof.DiscPre.lean ====
/-
  The precondition of the discretisation's gradient, read: the nine arrays hold reals, and no state's rate is 0.
-/
module

public import proofs.«01_k».proof.Pre_disc_regular
public import proofs.«01_k».proof.Proof.Finite
public import Idealize.ShloMosaic.Lib.Pointwise

@[expose] public section

noncomputable section

namespace Cert.Pre_disc_regular

open Idealize.ShloMosaic

instance facts : Facts := by constructor <;> decide

variable [Facts]
open Facts

theorem all_real {s : Shape} {axes : List (Fin s.rank)} (x : FVec Ideal s .f32) (b : S_.BroadcastsInDim s (![] : Fin 0 → Fin s.rank)) (init : IVec S_ 1)
    (h : s.ReducesTo axes S_) (hu : 0 < S_.numel) (j : S_.Idx)
    (e : Host.reduce IntOp.andi (cmpf .olt (Host.absf x) (broadcastInDim s ![] b (constant S_ .f32 0x7F800000#32))) init h hu j = 1#1) (i : s.Idx) :
    Cert.Finite.Real' (x i) := by
  haveI : Subsingleton S_.Idx := ⟨fun a b => funext fun k => k.elim0⟩
  exact Cert.Finite.of_abs (Host.reduce_andi_all _ init h hu j e i)

theorem all_pos {s : Shape} {axes : List (Fin s.rank)} (x : FVec Ideal s .f32) (b : S_.BroadcastsInDim s (![] : Fin 0 → Fin s.rank)) (init : IVec S_ 1)
    (h : s.ReducesTo axes S_) (hu : 0 < S_.numel) (j : S_.Idx)
    (e : Host.reduce IntOp.andi (cmpf .ogt x (broadcastInDim s ![] b (constant S_ .f32 0x00000000#32))) init h hu j = 1#1) (i : s.Idx) :
    Ideal.ofBits .f32 0x00000000#32 < x i := by
  haveI : Subsingleton S_.Idx := ⟨fun a b => funext fun k => k.elim0⟩
  have e' := Host.reduce_andi_all _ init h hu j e i
  have e'' : BitVec.ofBool (decide (Ideal.ofBits .f32 0x00000000#32 < x i)) = 1#1 := e'
  by_contra hn
  rw [decide_eq_false hn] at e''
  exact absurd e'' (by decide)

theorem reals (x0 x1 : FVec Ideal S32x64 .f32) (x2 : FVec Ideal S32 .f32) (x3 x4 : FVec Ideal S32x64x16 .f32) (x5 x6 : FVec Ideal S1x2048 .f32)
    (x7 x8 : FVec Ideal S32x16x64 .f32) (h : fn (F := Ideal) x0 x1 x2 x3 x4 x5 x6 x7 x8 = fun _ => 1#1) :
    ((∀ i, Cert.Finite.Real' (x0 i)) ∧ (∀ i, Cert.Finite.Real' (x1 i)) ∧ (∀ i, Cert.Finite.Real' (x2 i)) ∧ (∀ i, Cert.Finite.Real' (x3 i))
      ∧ (∀ i, Cert.Finite.Real' (x4 i)) ∧ (∀ i, Cert.Finite.Real' (x5 i)) ∧ (∀ i, Cert.Finite.Real' (x6 i)) ∧ (∀ i, Cert.Finite.Real' (x7 i))
      ∧ (∀ i, Cert.Finite.Real' (x8 i))) ∧ ∀ i, Ideal.ofBits .f32 0x00000000#32 < x0 i * x0 i + x1 i * x1 i := by
  have j : S_.Idx := fun k => k.elim0
  have e := congrFun h j
  dsimp only [fn, fn_part1, fn_part2] at e
  obtain ⟨e, hp⟩ := Cert.Finite.and_one e
  obtain ⟨e, h8⟩ := Cert.Finite.and_one e
  obtain ⟨e, h7⟩ := Cert.Finite.and_one e
  obtain ⟨e, h6⟩ := Cert.Finite.and_one e
  obtain ⟨e, h5⟩ := Cert.Finite.and_one e
  obtain ⟨e, h4⟩ := Cert.Finite.and_one e
  obtain ⟨e, h3⟩ := Cert.Finite.and_one e
  obtain ⟨e, h2⟩ := Cert.Finite.and_one e
  obtain ⟨h0, h1⟩ := Cert.Finite.and_one e
  exact ⟨⟨all_real x0 _ _ _ _ j h0, all_real x1 _ _ _ _ j h1, all_real x2 _ _ _ _ j h2, all_real x3 _ _ _ _ j h3, all_real x4 _ _ _ _ j h4,
    all_real x5 _ _ _ _ j h5, all_real x6 _ _ _ _ j h6, all_real x7 _ _ _ _ j h7, all_real x8 _ _ _ _ j h8⟩, fun i => all_pos _ _ _ _ _ j hp i⟩

end Cert.Pre_disc_regular

end
-- ==== Proof.SsmDiscBwd.lean ====
/-
  The gradient of the discretisation: the call's run, and each of the five arrays it leaves set beside the reference's.
-/
module

public import proofs.«01_k».proof.Proof.Gen.SsmDiscBwdIdeal.Frame
public import proofs.«01_k».proof.Proof.Gen.SsmDiscBwdRefIdeal.Read
public import proofs.«01_k».proof.Proof.DiscPay
public import proofs.«01_k».proof.Proof.DiscPre
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

namespace Cert.SsmDiscBwdIdeal.Hand

open Cert.SsmDiscBwdIdeal Cert.SsmDiscBwdIdeal.Gen Idealize.ShloMosaic Idealize.ShloMosaic.TcCoe Idealize.SL.Sem
open Idealize.ShloMosaic.Pipeline (Dat)
open Cert.SsmDiscBwdRefIdeal.Read

variable (m : (ℓ : Loc nD τ sig) → Buf (Elt Ideal) ℓ)

/-- An argument the host prepares is left alone. -/
theorem rest (r : PUnit × MemSt nD τ sig (Elt Ideal)) (h : Pipeline.FramePost cfgs (dats m) 0 (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine ⟨((h c).2 main_arg0 ?_).trans (V_main_arg0 m c), ((h c).2 main_arg1 ?_).trans (V_main_arg1 m c),
    ((h c).2 main_arg2 ?_).trans (V_main_arg2 m c), ((h c).2 main_arg3 ?_).trans (V_main_arg3 m c),
    ((h c).2 main_arg4 ?_).trans (V_main_arg4 m c), ((h c).2 main_arg5 ?_).trans (V_main_arg5 m c),
    ((h c).2 main_arg6 ?_).trans (V_main_arg6 m c),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c)))⟩
  all_goals exact Pipeline.mem_restRefs_of _ (by decide) (by decide)

/-- The run leaves the five arrays its only point writes, and the arguments as they were. -/
theorem ends (ρ : Dev nD → PrngReg) : θ_run defs (onTc (τ := τ) (main (F := Ideal))) ⟨m, fun _ => 0, ρ⟩ fun r => ∀ c : Dev nD,
      r.2.mem ((c : Thread nD τ).loc main_v7_0) = (dats m 0 c).arrAt 9 cfg0.N
      ∧ r.2.mem ((c : Thread nD τ).loc main_v7_1) = (dats m 0 c).arrAt 10 cfg0.N
      ∧ r.2.mem ((c : Thread nD τ).loc main_v7_2) = (dats m 0 c).arrAt 11 cfg0.N
      ∧ r.2.mem ((c : Thread nD τ).loc main_v7_3) = (dats m 0 c).arrAt 12 cfg0.N
      ∧ r.2.mem ((c : Thread nD τ).loc main_v7_4) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1 9, (h c).1 10, (h c).1 11, (h c).1 12, (h c).1 13, rest m r h c⟩) (run_main m ρ)

theorem idx : ∀ t : Fin grid0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] ∧ win0_8.index t = ![0, 0, 0] ∧ win0_9.index t = ![0, 0, 0] ∧ win0_10.index t = ![0, 0, 0]
    ∧ win0_11.index t = ![0, 0, 0] ∧ win0_12.index t = ![0, 0, 0] ∧ win0_13.index t = ![0, 0, 0] := by
  decide +kernel

abbrev are (c : Dev nD) : FVec Ideal S32x64 .f32 := m ((c : Thread nD τ).loc main_arg0)
abbrev aim (c : Dev nD) : FVec Ideal S32x64 .f32 := m ((c : Thread nD τ).loc main_arg1)
abbrev ldt (c : Dev nD) : FVec Ideal S32 .f32 := m ((c : Thread nD τ).loc main_arg2)
abbrev bre (c : Dev nD) : FVec Ideal S32x64x16 .f32 := m ((c : Thread nD τ).loc main_arg3)
abbrev bim (c : Dev nD) : FVec Ideal S32x64x16 .f32 := m ((c : Thread nD τ).loc main_arg4)
abbrev dar (c : Dev nD) : FVec Ideal S1x2048 .f32 := m ((c : Thread nD τ).loc main_arg5)
abbrev dai (c : Dev nD) : FVec Ideal S1x2048 .f32 := m ((c : Thread nD τ).loc main_arg6)
abbrev dbr (c : Dev nD) : FVec Ideal S32x16x64 .f32 := m ((c : Thread nD τ).loc main_arg7)
abbrev dbi (c : Dev nD) : FVec Ideal S32x16x64 .f32 := m ((c : Thread nD τ).loc main_arg8)

/-- The arguments are arrays of reals, no state's rate 0. -/
def Holds (A : Args) (c : Dev nD) : Prop :=
  (are m c = up A.a0 ∧ aim m c = up A.a1 ∧ ldt m c = up A.a2 ∧ bre m c = up A.a3 ∧ bim m c = up A.a4 ∧ dar m c = up A.a5 ∧ dai m c = up A.a6
    ∧ dbr m c = up A.a7 ∧ dbi m c = up A.a8) ∧ A.Ok

theorem up_of {s : Shape} (x : FVec Ideal s .f32) (h : ∀ i, Cert.Finite.Real' (x i)) : ∃ a : s.Idx → ℝ, x = up a := by
  choose a ha using h
  exact ⟨a, funext ha⟩

theorem holds_of (c : Dev nD) (h : Cert.Pre_disc_regular.fn (F := Ideal) (are m c) (aim m c) (ldt m c) (bre m c) (bim m c) (dar m c) (dai m c) (dbr m c) (dbi m c)
    = fun _ => 1#1) : ∃ A, Holds m A c := by
  obtain ⟨⟨h0, h1, h2, h3, h4, h5, h6, h7, h8⟩, hp⟩ := Cert.Pre_disc_regular.reals _ _ _ _ _ _ _ _ _ h
  obtain ⟨a0, e0⟩ := up_of (are m c) h0
  obtain ⟨a1, e1⟩ := up_of (aim m c) h1
  obtain ⟨a2, e2⟩ := up_of (ldt m c) h2
  obtain ⟨a3, e3⟩ := up_of (bre m c) h3
  obtain ⟨a4, e4⟩ := up_of (bim m c) h4
  obtain ⟨a5, e5⟩ := up_of (dar m c) h5
  obtain ⟨a6, e6⟩ := up_of (dai m c) h6
  obtain ⟨a7, e7⟩ := up_of (dbr m c) h7
  obtain ⟨a8, e8⟩ := up_of (dbi m c) h8
  refine ⟨⟨a0, a1, a2, a3, a4, a5, a6, a7, a8⟩, ⟨e0, e1, e2, e3, e4, e5, e6, e7, e8⟩, fun g j hz => ?_⟩
  have hq := hp (ix2 g j)
  rw [e0, e1, Cert.Disc.zero_word] at hq
  simp only [up, ← EReal.coe_mul, ← EReal.coe_add, EReal.coe_lt_coe_iff] at hq
  exact absurd hz (ne_of_gt hq)

section
variable (A : Args) (c : Dev nD) (t : Fin cfg0.N) (hA : Holds m A c)
include hA

theorem blk_0 (g : Fin 32) (j : Fin 64) : iblk m c 0 t (ix3 g 0 j) = (((A.pt g j).lr : ℝ) : EReal) := by
  have e : V m c main_v0 (ix3 g 0 j) = are m c (ix2 g j) := by
    unfold V
    simp only [hostOps0, List.flatten_cons, List.flatten_nil, List.append_nil, List.cons_append, List.nil_append]
    entry_read
    pointwise
  refine Eq.trans ?_ (e.trans (congrFun hA.1.1 _))
  blk_simp [iblk, idx t]
  blk_ext [iblk, idx t]

theorem blk_1 (g : Fin 32) (j : Fin 64) : iblk m c 1 t (ix3 g 0 j) = (((A.pt g j).li : ℝ) : EReal) := by
  have e : V m c main_v1 (ix3 g 0 j) = aim m c (ix2 g j) := by
    unfold V
    simp only [hostOps0, List.flatten_cons, List.flatten_nil, List.append_nil, List.cons_append, List.nil_append]
    entry_read
    pointwise
  refine Eq.trans ?_ (e.trans (congrFun hA.1.2.1 _))
  blk_simp [iblk, idx t]
  blk_ext [iblk, idx t]

theorem blk_2 (g : Fin 32) : iblk m c 2 t (ix3 g 0 0) = ((A.a2 (ix1 g) : ℝ) : EReal) := by
  have e : V m c main_v2 (ix3 g 0 0) = ldt m c (ix1 g) := by
    unfold V
    simp only [hostOps0, List.flatten_cons, List.flatten_nil, List.append_nil, List.cons_append, List.nil_append]
    entry_read
    pointwise
  refine Eq.trans ?_ (e.trans (congrFun hA.1.2.2.1 _))
  blk_simp [iblk, idx t]
  blk_ext [iblk, idx t]

theorem blk_3 (g : Fin 32) (k : Fin 16) (j : Fin 64) : iblk m c 3 t (ix3 g k j) = ((A.a3 (ix3 g j k) : ℝ) : EReal) := by
  have e : V m c main_v3 (ix3 g k j) = bre m c (ix3 g j k) := by
    unfold V
    simp only [hostOps0, List.flatten_cons, List.flatten_nil, List.append_nil, List.cons_append, List.nil_append]
    entry_read
    pointwise
  refine Eq.trans ?_ (e.trans (congrFun hA.1.2.2.2.1 _))
  blk_simp [iblk, idx t]
  blk_ext [iblk, idx t]

theorem blk_4 (g : Fin 32) (k : Fin 16) (j : Fin 64) : iblk m c 4 t (ix3 g k j) = ((A.a4 (ix3 g j k) : ℝ) : EReal) := by
  have e : V m c main_v4 (ix3 g k j) = bim m c (ix3 g j k) := by
    unfold V
    simp only [hostOps0, List.flatten_cons, List.flatten_nil, List.append_nil, List.cons_append, List.nil_append]
    entry_read
    pointwise
  refine Eq.trans ?_ (e.trans (congrFun hA.1.2.2.2.2.1 _))
  blk_simp [iblk, idx t]
  blk_ext [iblk, idx t]

theorem blk_5 (g : Fin 32) (j : Fin 64) : iblk m c 5 t (ix3 g 0 j) = (((A.pt g j).ar : ℝ) : EReal) := by
  have e : V m c main_v5 (ix3 g 0 j) = dar m c (ix2 0 ⟨g.val * 64 + j.val, by omega⟩) := by
    unfold V
    simp only [hostOps0, List.flatten_cons, List.flatten_nil, List.append_nil, List.cons_append, List.nil_append]
    entry_read
    pointwise
  refine Eq.trans ?_ (e.trans (congrFun hA.1.2.2.2.2.2.1 _))
  blk_simp [iblk, idx t]
  blk_ext [iblk, idx t]

theorem blk_6 (g : Fin 32) (j : Fin 64) : iblk m c 6 t (ix3 g 0 j) = (((A.pt g j).ai : ℝ) : EReal) := by
  have e : V m c main_v6 (ix3 g 0 j) = dai m c (ix2 0 ⟨g.val * 64 + j.val, by omega⟩) := by
    unfold V
    simp only [hostOps0, List.flatten_cons, List.flatten_nil, List.append_nil, List.cons_append, List.nil_append]
    entry_read
    pointwise
  refine Eq.trans ?_ (e.trans (congrFun hA.1.2.2.2.2.2.2.1 _))
  blk_simp [iblk, idx t]
  blk_ext [iblk, idx t]

theorem blk_7 (g : Fin 32) (k : Fin 16) (j : Fin 64) : iblk m c 7 t (ix3 g k j) = ((A.a7 (ix3 g k j) : ℝ) : EReal) := by
  refine Eq.trans ?_ (congrFun hA.1.2.2.2.2.2.2.2.1 _)
  blk_ext [iblk, V, idx t]

theorem blk_8 (g : Fin 32) (k : Fin 16) (j : Fin 64) : iblk m c 8 t (ix3 g k j) = ((A.a8 (ix3 g k j) : ℝ) : EReal) := by
  refine Eq.trans ?_ (congrFun hA.1.2.2.2.2.2.2.2.2 _)
  blk_ext [iblk, V, idx t]
end

/-! ## What the point leaves -/

section
variable (A : Args) (c : Dev nD) (t : Fin cfg0.N) (hA : Holds m A c)
include hA

theorem val_30 (g : Fin 32) (j : Fin 64) : k0_pay30 (F := Ideal) (iblk m c 0 t) (iblk m c 1 t) (iblk m c 2 t) (iblk m c 3 t) (iblk m c 4 t) (iblk m c 5 t) (iblk m c 6 t) (iblk m c 7 t) (iblk m c 8 t) (ix3 g 0 j) = (((A.pt g j).lr : ℝ) : EReal) := by
  simp (disch := decide) only [k0_pay30, View.ld_unit_lit']
  exact pay_8 A _ (blk_0 m A c t hA) g j

theorem val_31 (g : Fin 32) (j : Fin 64) : k0_pay31 (F := Ideal) (iblk m c 0 t) (iblk m c 1 t) (iblk m c 2 t) (iblk m c 3 t) (iblk m c 4 t) (iblk m c 5 t) (iblk m c 6 t) (iblk m c 7 t) (iblk m c 8 t) (ix3 g 0 j) = (((A.pt g j).li : ℝ) : EReal) := by
  simp (disch := decide) only [k0_pay31, View.ld_unit_lit']
  exact pay_9 A _ (blk_1 m A c t hA) g j

theorem val_32 (g : Fin 32) : k0_pay32 (F := Ideal) (iblk m c 0 t) (iblk m c 1 t) (iblk m c 2 t) (iblk m c 3 t) (iblk m c 4 t) (iblk m c 5 t) (iblk m c 6 t) (iblk m c 7 t) (iblk m c 8 t) (ix3 g 0 0) = ((Real.exp (A.a2 (ix1 g)) : ℝ) : EReal) := by
  simp (disch := decide) only [k0_pay32, View.ld_unit_lit']
  exact pay_10 A _ (blk_2 m A c t hA) g

theorem val_33 (g : Fin 32) (j : Fin 64) : k0_pay33 (F := Ideal) (iblk m c 0 t) (iblk m c 1 t) (iblk m c 2 t) (iblk m c 3 t) (iblk m c 4 t) (iblk m c 5 t) (iblk m c 6 t) (iblk m c 7 t) (iblk m c 8 t) (ix3 g 0 j) = (((A.pt g j).e * (A.pt g j).c : ℝ) : EReal) := by
  simp (disch := decide) only [k0_pay33, View.ld_unit_lit']
  exact pay_12 A _ _ _ (blk_0 m A c t hA) (blk_1 m A c t hA) (blk_2 m A c t hA) g j

theorem val_34 (g : Fin 32) (j : Fin 64) : k0_pay34 (F := Ideal) (iblk m c 0 t) (iblk m c 1 t) (iblk m c 2 t) (iblk m c 3 t) (iblk m c 4 t) (iblk m c 5 t) (iblk m c 6 t) (iblk m c 7 t) (iblk m c 8 t) (ix3 g 0 j) = (((A.pt g j).ni : ℝ) : EReal) := by
  simp (disch := decide) only [k0_pay34, View.ld_unit_lit']
  exact pay_13 A _ _ _ (blk_0 m A c t hA) (blk_1 m A c t hA) (blk_2 m A c t hA) g j

theorem val_35 (g : Fin 32) (j : Fin 64) : k0_pay35 (F := Ideal) (iblk m c 0 t) (iblk m c 1 t) (iblk m c 2 t) (iblk m c 3 t) (iblk m c 4 t) (iblk m c 5 t) (iblk m c 6 t) (iblk m c 7 t) (iblk m c 8 t) (ix3 g 0 j) = (((A.pt g j).den : ℝ) : EReal) := by
  simp (disch := decide) only [k0_pay35, View.ld_unit_lit']
  exact pay_14 A _ _ (blk_0 m A c t hA) (blk_1 m A c t hA) g j

theorem val_36 (g : Fin 32) (j : Fin 64) : k0_pay36 (F := Ideal) (iblk m c 0 t) (iblk m c 1 t) (iblk m c 2 t) (iblk m c 3 t) (iblk m c 4 t) (iblk m c 5 t) (iblk m c 6 t) (iblk m c 7 t) (iblk m c 8 t) (ix3 g 0 j) = (((A.pt g j).nr : ℝ) : EReal) := by
  simp (disch := decide) only [k0_pay36, View.ld_unit_lit']
  exact pay_15 A _ _ _ (blk_0 m A c t hA) (blk_1 m A c t hA) (blk_2 m A c t hA) g j

theorem val_37 (g : Fin 32) (j : Fin 64) : k0_pay37 (F := Ideal) (iblk m c 0 t) (iblk m c 1 t) (iblk m c 2 t) (iblk m c 3 t) (iblk m c 4 t) (iblk m c 5 t) (iblk m c 6 t) (iblk m c 7 t) (iblk m c 8 t) (ix3 g 0 j) = (((A.pt g j).cr : ℝ) : EReal) := by
  simp (disch := decide) only [k0_pay37, View.ld_unit_lit']
  exact pay_16 A _ _ _ (blk_0 m A c t hA) (blk_1 m A c t hA) (blk_2 m A c t hA) hA.2 g j

theorem val_38 (g : Fin 32) (j : Fin 64) : k0_pay38 (F := Ideal) (iblk m c 0 t) (iblk m c 1 t) (iblk m c 2 t) (iblk m c 3 t) (iblk m c 4 t) (iblk m c 5 t) (iblk m c 6 t) (iblk m c 7 t) (iblk m c 8 t) (ix3 g 0 j) = (((A.pt g j).ci : ℝ) : EReal) := by
  simp (disch := decide) only [k0_pay38, View.ld_unit_lit']
  exact pay_17 A _ _ _ (blk_0 m A c t hA) (blk_1 m A c t hA) (blk_2 m A c t hA) hA.2 g j

theorem val_39 (g : Fin 32) (k : Fin 16) (j : Fin 64) : k0_pay39 (F := Ideal) (iblk m c 0 t) (iblk m c 1 t) (iblk m c 2 t) (iblk m c 3 t) (iblk m c 4 t) (iblk m c 5 t) (iblk m c 6 t) (iblk m c 7 t) (iblk m c 8 t) (ix3 g k j) = ((A.a3 (ix3 g j k) : ℝ) : EReal) := by
  simp (disch := decide) only [k0_pay39, View.ld_unit_lit']
  exact pay_18 A _ (blk_3 m A c t hA) g k j

theorem val_40 (g : Fin 32) (k : Fin 16) (j : Fin 64) : k0_pay40 (F := Ideal) (iblk m c 0 t) (iblk m c 1 t) (iblk m c 2 t) (iblk m c 3 t) (iblk m c 4 t) (iblk m c 5 t) (iblk m c 6 t) (iblk m c 7 t) (iblk m c 8 t) (ix3 g k j) = ((A.a4 (ix3 g j k) : ℝ) : EReal) := by
  simp (disch := decide) only [k0_pay40, View.ld_unit_lit']
  exact pay_19 A _ (blk_4 m A c t hA) g k j

theorem val_41 (g : Fin 32) (k : Fin 16) (j : Fin 64) : k0_pay41 (F := Ideal) (iblk m c 0 t) (iblk m c 1 t) (iblk m c 2 t) (iblk m c 3 t) (iblk m c 4 t) (iblk m c 5 t) (iblk m c 6 t) (iblk m c 7 t) (iblk m c 8 t) (ix3 g k j) = ((A.a7 (ix3 g k j) * A.a3 (ix3 g j k) : ℝ) : EReal) := by
  simp (disch := decide) only [k0_pay41, View.ld_unit_lit']
  exact pay_20 A _ _ (blk_3 m A c t hA) (blk_7 m A c t hA) g k j

theorem val_42 (g : Fin 32) (j : Fin 64) : k0_pay42 (F := Ideal) (iblk m c 0 t) (iblk m c 1 t) (iblk m c 2 t) (iblk m c 3 t) (iblk m c 4 t) (iblk m c 5 t) (iblk m c 6 t) (iblk m c 7 t) (iblk m c 8 t) (ix3 g 0 j) = (((A.pt g j).dnr : ℝ) : EReal) := by
  simp (disch := decide) only [k0_pay42, View.ld_unit_lit']
  exact pay_25 A _ _ _ _ _ _ _ _ (val_30 m A c t hA) (val_31 m A c t hA) (val_35 m A c t hA) (val_39 m A c t hA) (val_40 m A c t hA) (blk_7 m A c t hA) (blk_8 m A c t hA) (val_41 m A c t hA) hA.2 g j

theorem val_43 (g : Fin 32) (j : Fin 64) : k0_pay43 (F := Ideal) (iblk m c 0 t) (iblk m c 1 t) (iblk m c 2 t) (iblk m c 3 t) (iblk m c 4 t) (iblk m c 5 t) (iblk m c 6 t) (iblk m c 7 t) (iblk m c 8 t) (ix3 g 0 j) = (((A.pt g j).dni : ℝ) : EReal) := by
  simp (disch := decide) only [k0_pay43, View.ld_unit_lit']
  exact pay_26 A _ _ _ _ _ _ _ _ (val_30 m A c t hA) (val_31 m A c t hA) (val_35 m A c t hA) (val_39 m A c t hA) (val_40 m A c t hA) (blk_7 m A c t hA) (blk_8 m A c t hA) (val_41 m A c t hA) hA.2 g j
end

theorem out_9 (A : Args) (c : Dev nD) (hA : Holds m A c) : (dats m 0 c).arrAt 9 cfg0.N = val_main_v144 (F := Ideal) (are m c) (aim m c) (ldt m c) (bre m c) (bim m c) (dar m c) (dai m c) (dbr m c) (dbi m c) := by
  rw [show are m c = up A.a0 from hA.1.1, show aim m c = up A.a1 from hA.1.2.1, show ldt m c = up A.a2 from hA.1.2.2.1, show bre m c = up A.a3 from hA.1.2.2.2.1, show bim m c = up A.a4 from hA.1.2.2.2.2.1, show dar m c = up A.a5 from hA.1.2.2.2.2.2.1, show dai m c = up A.a6 from hA.1.2.2.2.2.2.2.1, show dbr m c = up A.a7 from hA.1.2.2.2.2.2.2.2.1, show dbi m c = up A.a8 from hA.1.2.2.2.2.2.2.2.2]
  refine (dats m 0 c).arrAt_eq_of_covers 9 _ (by decide +kernel) fun t hf y => ?_
  blk_simp
  rw [after0_9]
  frame_out
  idx_vars y
  obtain rfl : y1 = 0 := Subsingleton.elim _ _
  refine (pay_5 A _ _ _ _ _ _ _ _ (val_32 m A c t hA) (val_33 m A c t hA) (val_34 m A c t hA) (val_42 m A c t hA) (val_43 m A c t hA) (pay_28 A _ _ _ _ _ _ _ _ _ _ _ (val_30 m A c t hA) (val_34 m A c t hA) (val_35 m A c t hA) (val_36 m A c t hA) (val_37 m A c t hA) (val_38 m A c t hA) (val_39 m A c t hA) (val_40 m A c t hA) (blk_7 m A c t hA) (blk_8 m A c t hA) (val_41 m A c t hA) hA.2) (blk_5 m A c t hA) (blk_6 m A c t hA) y0 y2).trans ((ref_144 A y0 y2 hA.2).symm.trans ?_)
  blk_point [V, idx t]

theorem out_10 (A : Args) (c : Dev nD) (hA : Holds m A c) : (dats m 0 c).arrAt 10 cfg0.N = val_main_v145 (F := Ideal) (are m c) (aim m c) (ldt m c) (bre m c) (bim m c) (dar m c) (dai m c) (dbr m c) (dbi m c) := by
  rw [show are m c = up A.a0 from hA.1.1, show aim m c = up A.a1 from hA.1.2.1, show ldt m c = up A.a2 from hA.1.2.2.1, show bre m c = up A.a3 from hA.1.2.2.2.1, show bim m c = up A.a4 from hA.1.2.2.2.2.1, show dar m c = up A.a5 from hA.1.2.2.2.2.2.1, show dai m c = up A.a6 from hA.1.2.2.2.2.2.2.1, show dbr m c = up A.a7 from hA.1.2.2.2.2.2.2.2.1, show dbi m c = up A.a8 from hA.1.2.2.2.2.2.2.2.2]
  refine (dats m 0 c).arrAt_eq_of_covers 10 _ (by decide +kernel) fun t hf y => ?_
  blk_simp
  rw [after0_10]
  frame_out
  idx_vars y
  obtain rfl : y1 = 0 := Subsingleton.elim _ _
  refine (pay_6 A _ _ _ _ _ _ _ _ _ _ (val_31 m A c t hA) (val_32 m A c t hA) (val_33 m A c t hA) (val_34 m A c t hA) (val_42 m A c t hA) (val_43 m A c t hA) (pay_27 A _ _ _ _ _ _ _ _ (val_35 m A c t hA) (val_37 m A c t hA) (val_38 m A c t hA) (val_39 m A c t hA) (val_40 m A c t hA) (blk_7 m A c t hA) (blk_8 m A c t hA) (val_41 m A c t hA) hA.2) (pay_29 A _ _ _ _ _ _ _ _ (val_34 m A c t hA) (val_35 m A c t hA) (val_36 m A c t hA) (val_39 m A c t hA) (val_40 m A c t hA) (blk_7 m A c t hA) (blk_8 m A c t hA) (val_41 m A c t hA) hA.2) (blk_5 m A c t hA) (blk_6 m A c t hA) y0 y2).trans ((ref_145 A y0 y2 hA.2).symm.trans ?_)
  blk_point [V, idx t]

theorem out_11 (A : Args) (c : Dev nD) (hA : Holds m A c) : (dats m 0 c).arrAt 11 cfg0.N = val_main_v146 (F := Ideal) (are m c) (aim m c) (ldt m c) (bre m c) (bim m c) (dar m c) (dai m c) (dbr m c) (dbi m c) := by
  rw [show are m c = up A.a0 from hA.1.1, show aim m c = up A.a1 from hA.1.2.1, show ldt m c = up A.a2 from hA.1.2.2.1, show bre m c = up A.a3 from hA.1.2.2.2.1, show bim m c = up A.a4 from hA.1.2.2.2.2.1, show dar m c = up A.a5 from hA.1.2.2.2.2.2.1, show dai m c = up A.a6 from hA.1.2.2.2.2.2.2.1, show dbr m c = up A.a7 from hA.1.2.2.2.2.2.2.2.1, show dbi m c = up A.a8 from hA.1.2.2.2.2.2.2.2.2]
  refine (dats m 0 c).arrAt_eq_of_covers 11 _ (by decide +kernel) fun t hf y => ?_
  blk_simp
  rw [after0_11]
  frame_out
  idx_vars y
  obtain rfl : y1 = 0 := Subsingleton.elim _ _
  obtain rfl : y2 = 0 := Subsingleton.elim _ _
  refine (pay_7 A _ _ _ _ _ _ _ _ _ (val_30 m A c t hA) (val_31 m A c t hA) (val_32 m A c t hA) (val_33 m A c t hA) (val_34 m A c t hA) (val_42 m A c t hA) (val_43 m A c t hA) (blk_5 m A c t hA) (blk_6 m A c t hA) y0).trans ((ref_146 A y0 hA.2).symm.trans ?_)
  blk_point [V, idx t]

theorem out_12 (A : Args) (c : Dev nD) (hA : Holds m A c) : (dats m 0 c).arrAt 12 cfg0.N = val_main_v147 (F := Ideal) (are m c) (aim m c) (ldt m c) (dbr m c) (dbi m c) := by
  rw [show are m c = up A.a0 from hA.1.1, show aim m c = up A.a1 from hA.1.2.1, show ldt m c = up A.a2 from hA.1.2.2.1, show dbr m c = up A.a7 from hA.1.2.2.2.2.2.2.2.1, show dbi m c = up A.a8 from hA.1.2.2.2.2.2.2.2.2]
  refine (dats m 0 c).arrAt_eq_of_covers 12 _ (by decide +kernel) fun t hf y => ?_
  blk_simp
  rw [after0_12]
  frame_out
  idx_vars y
  refine (pay_23 A _ _ _ _ (val_37 m A c t hA) (val_38 m A c t hA) (blk_7 m A c t hA) (blk_8 m A c t hA) y0 y1 y2).trans ((ref_147 A y0 y1 y2 hA.2).symm.trans ?_)
  blk_point [V, idx t]

theorem out_13 (A : Args) (c : Dev nD) (hA : Holds m A c) : (dats m 0 c).arrAt 13 cfg0.N = val_main_v148 (F := Ideal) (are m c) (aim m c) (ldt m c) (dbr m c) (dbi m c) := by
  rw [show are m c = up A.a0 from hA.1.1, show aim m c = up A.a1 from hA.1.2.1, show ldt m c = up A.a2 from hA.1.2.2.1, show dbr m c = up A.a7 from hA.1.2.2.2.2.2.2.2.1, show dbi m c = up A.a8 from hA.1.2.2.2.2.2.2.2.2]
  refine (dats m 0 c).arrAt_eq_of_covers 13 _ (by decide +kernel) fun t hf y => ?_
  blk_simp
  rw [after0_13]
  frame_out
  idx_vars y
  refine (pay_24 A _ _ _ _ (val_37 m A c t hA) (val_38 m A c t hA) (blk_7 m A c t hA) (blk_8 m A c t hA) y0 y1 y2).trans ((ref_148 A y0 y1 y2 hA.2).symm.trans ?_)
  blk_point [V, idx t]

end Cert.SsmDiscBwdIdeal.Hand

end
-- ==== Proof.SsmDisc.lean ====
/-
  The discretisation: the transition's two parts and the input coefficient's two parts of every state, as the reference has them.
-/
module

public import proofs.«01_k».proof.Proof.Gen.SsmDiscIdeal.Value
public import proofs.«01_k».proof.Proof.Gen.SsmDiscRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.SsmDiscIdeal.Hand

open Cert.SsmDiscIdeal Cert.SsmDiscIdeal.Gen Idealize.ShloMosaic Idealize.ShloMosaic.TcCoe Idealize.SL.Sem
open Idealize.ShloMosaic.Pipeline (Dat)
open Cert.SsmDiscRefIdeal.Read

variable (m : (ℓ : Loc nD τ sig) → Buf (Elt Ideal) ℓ)

/-! ## One state: its rate `(lr, li)` and its step's logarithm `ld` -/

section
variable (lr li ld br bi : EReal)

/-- The transition's real part. -/
def abR : EReal := Ideal.exp (lr * Ideal.exp ld) * Ideal.cos (li * Ideal.exp ld)
/-- The transition's imaginary part. -/
def abI : EReal := Ideal.exp (lr * Ideal.exp ld) * Ideal.sin (li * Ideal.exp ld)
/-- The rate's squared size. -/
def den : EReal := lr * lr + li * li
/-- The transition's real part less 1. -/
def nr : EReal := abR lr li ld - 1
/-- The factor of the input coefficient, real part. -/
def cR : EReal := Ideal.div (nr lr li ld * lr + abI lr li ld * li) (den lr li)
/-- The factor of the input coefficient, imaginary part. -/
def cI : EReal := Ideal.div (abI lr li ld * lr - nr lr li ld * li) (den lr li)
/-- The input coefficient, real part. -/
def bbR : EReal := cR lr li ld * br - cI lr li ld * bi
/-- The input coefficient, imaginary part. -/
def bbI : EReal := cR lr li ld * bi + cI lr li ld * br
end

/-! ## The reference -/

section
variable (x0 x1 : FVec Ideal S32x64 .f32) (x2 : FVec Ideal S32 .f32) (x3 x4 : FVec Ideal S32x64x16 .f32) (g : Fin 32) (k : Fin 16) (j : Fin 64)

theorem ref_dt : val_main_v1 (F := Ideal) x2 (ix2 g 0) = Ideal.exp (x2 (ix1 g)) := by
  pointwise [val_main_v0, val_main_v1]
  all_goals rfl

theorem ref_abR : val_main_v8 (F := Ideal) x0 x1 x2 (ix2 g j) = abR (x0 (ix2 g j)) (x1 (ix2 g j)) (x2 (ix1 g)) := by
  have e0 : ∀ (g : Fin 32), val_main_v1 (F := Ideal) x2 (ix2 g 0) = Ideal.exp (x2 (ix1 g)) := fun g => ref_dt x2 g
  simp only [val_main_v2, val_main_v3, val_main_v4, val_main_v5, val_main_v6, val_main_v7, val_main_v8]
  generalize val_main_v1 (F := Ideal) x2 = z0 at e0 ⊢
  pointwise
  simp only [e0]
  all_goals rfl

theorem ref_abI : val_main_v12 (F := Ideal) x0 x1 x2 (ix2 g j) = abI (x0 (ix2 g j)) (x1 (ix2 g j)) (x2 (ix1 g)) := by
  have e0 : ∀ (g : Fin 32), val_main_v1 (F := Ideal) x2 (ix2 g 0) = Ideal.exp (x2 (ix1 g)) := fun g => ref_dt x2 g
  simp only [val_main_v2, val_main_v3, val_main_v4, val_main_v9, val_main_v10, val_main_v11, val_main_v12]
  generalize val_main_v1 (F := Ideal) x2 = z0 at e0 ⊢
  pointwise
  simp only [e0]
  all_goals rfl

theorem ref_den : val_main_v15 (F := Ideal) x0 x1 (ix2 g j) = den (x0 (ix2 g j)) (x1 (ix2 g j)) := by
  pointwise [val_main_v13, val_main_v14, val_main_v15]
  all_goals rfl

theorem ref_nr : val_main_v17 (F := Ideal) x0 x1 x2 (ix2 g j) = nr (x0 (ix2 g j)) (x1 (ix2 g j)) (x2 (ix1 g)) := by
  have e0 : ∀ (g : Fin 32) (j : Fin 64), val_main_v8 (F := Ideal) x0 x1 x2 (ix2 g j) = abR (x0 (ix2 g j)) (x1 (ix2 g j)) (x2 (ix1 g)) := fun g j => ref_abR x0 x1 x2 g j
  simp only [val_main_v16, val_main_v17, val_main_cst]
  generalize val_main_v8 (F := Ideal) x0 x1 x2 = z0 at e0 ⊢
  pointwise
  simp only [e0]
  all_goals rfl

theorem ref_cR : val_main_v21 (F := Ideal) x0 x1 x2 (ix2 g j) = cR (x0 (ix2 g j)) (x1 (ix2 g j)) (x2 (ix1 g)) := by
  have e0 : ∀ (g : Fin 32) (j : Fin 64), val_main_v17 (F := Ideal) x0 x1 x2 (ix2 g j) = nr (x0 (ix2 g j)) (x1 (ix2 g j)) (x2 (ix1 g)) := fun g j => ref_nr x0 x1 x2 g j
  have e1 : ∀ (g : Fin 32) (j : Fin 64), val_main_v12 (F := Ideal) x0 x1 x2 (ix2 g j) = abI (x0 (ix2 g j)) (x1 (ix2 g j)) (x2 (ix1 g)) := fun g j => ref_abI x0 x1 x2 g j
  have e2 : ∀ (g : Fin 32) (j : Fin 64), val_main_v15 (F := Ideal) x0 x1 (ix2 g j) = den (x0 (ix2 g j)) (x1 (ix2 g j)) := fun g j => ref_den x0 x1 g j
  simp only [val_main_v18, val_main_v19, val_main_v20, val_main_v21]
  generalize val_main_v17 (F := Ideal) x0 x1 x2 = z0 at e0 ⊢
  generalize val_main_v12 (F := Ideal) x0 x1 x2 = z1 at e1 ⊢
  generalize val_main_v15 (F := Ideal) x0 x1 = z2 at e2 ⊢
  pointwise
  simp only [e0, e1, e2]
  all_goals rfl

theorem ref_cI : val_main_v25 (F := Ideal) x0 x1 x2 (ix2 g j) = cI (x0 (ix2 g j)) (x1 (ix2 g j)) (x2 (ix1 g)) := by
  have e0 : ∀ (g : Fin 32) (j : Fin 64), val_main_v17 (F := Ideal) x0 x1 x2 (ix2 g j) = nr (x0 (ix2 g j)) (x1 (ix2 g j)) (x2 (ix1 g)) := fun g j => ref_nr x0 x1 x2 g j
  have e1 : ∀ (g : Fin 32) (j : Fin 64), val_main_v12 (F := Ideal) x0 x1 x2 (ix2 g j) = abI (x0 (ix2 g j)) (x1 (ix2 g j)) (x2 (ix1 g)) := fun g j => ref_abI x0 x1 x2 g j
  have e2 : ∀ (g : Fin 32) (j : Fin 64), val_main_v15 (F := Ideal) x0 x1 (ix2 g j) = den (x0 (ix2 g j)) (x1 (ix2 g j)) := fun g j => ref_den x0 x1 g j
  simp only [val_main_v22, val_main_v23, val_main_v24, val_main_v25]
  generalize val_main_v17 (F := Ideal) x0 x1 x2 = z0 at e0 ⊢
  generalize val_main_v12 (F := Ideal) x0 x1 x2 = z1 at e1 ⊢
  generalize val_main_v15 (F := Ideal) x0 x1 = z2 at e2 ⊢
  pointwise
  simp only [e0, e1, e2]
  all_goals rfl

theorem ref_40 : val_main_v40 (F := Ideal) x0 x1 x2 (ix3 g 0 j) = abR (x0 (ix2 g j)) (x1 (ix2 g j)) (x2 (ix1 g)) := by
  have e0 : ∀ (g : Fin 32) (j : Fin 64), val_main_v8 (F := Ideal) x0 x1 x2 (ix2 g j) = abR (x0 (ix2 g j)) (x1 (ix2 g j)) (x2 (ix1 g)) := fun g j => ref_abR x0 x1 x2 g j
  simp only [val_main_v40]
  generalize val_main_v8 (F := Ideal) x0 x1 x2 = z0 at e0 ⊢
  pointwise
  simp only [e0]
  all_goals rfl

theorem ref_41 : val_main_v41 (F := Ideal) x0 x1 x2 (ix3 g 0 j) = abI (x0 (ix2 g j)) (x1 (ix2 g j)) (x2 (ix1 g)) := by
  have e0 : ∀ (g : Fin 32) (j : Fin 64), val_main_v12 (F := Ideal) x0 x1 x2 (ix2 g j) = abI (x0 (ix2 g j)) (x1 (ix2 g j)) (x2 (ix1 g)) := fun g j => ref_abI x0 x1 x2 g j
  simp only [val_main_v41]
  generalize val_main_v12 (F := Ideal) x0 x1 x2 = z0 at e0 ⊢
  pointwise
  simp only [e0]
  all_goals rfl

theorem ref_42 : val_main_v42 (F := Ideal) x0 x1 x2 x3 x4 (ix3 g k j) = bbR (x0 (ix2 g j)) (x1 (ix2 g j)) (x2 (ix1 g)) (x3 (ix3 g j k)) (x4 (ix3 g j k)) := by
  have e0 : ∀ (g : Fin 32) (j : Fin 64), val_main_v21 (F := Ideal) x0 x1 x2 (ix2 g j) = cR (x0 (ix2 g j)) (x1 (ix2 g j)) (x2 (ix1 g)) := fun g j => ref_cR x0 x1 x2 g j
  have e1 : ∀ (g : Fin 32) (j : Fin 64), val_main_v25 (F := Ideal) x0 x1 x2 (ix2 g j) = cI (x0 (ix2 g j)) (x1 (ix2 g j)) (x2 (ix1 g)) := fun g j => ref_cI x0 x1 x2 g j
  simp only [val_main_v26, val_main_v27, val_main_v28, val_main_v29, val_main_v30, val_main_v31, val_main_v32, val_main_v42]
  generalize val_main_v21 (F := Ideal) x0 x1 x2 = z0 at e0 ⊢
  generalize val_main_v25 (F := Ideal) x0 x1 x2 = z1 at e1 ⊢
  pointwise
  simp only [e0, e1]
  all_goals rfl

theorem ref_43 : val_main_v43 (F := Ideal) x0 x1 x2 x3 x4 (ix3 g k j) = bbI (x0 (ix2 g j)) (x1 (ix2 g j)) (x2 (ix1 g)) (x3 (ix3 g j k)) (x4 (ix3 g j k)) := by
  have e0 : ∀ (g : Fin 32) (j : Fin 64), val_main_v21 (F := Ideal) x0 x1 x2 (ix2 g j) = cR (x0 (ix2 g j)) (x1 (ix2 g j)) (x2 (ix1 g)) := fun g j => ref_cR x0 x1 x2 g j
  have e1 : ∀ (g : Fin 32) (j : Fin 64), val_main_v25 (F := Ideal) x0 x1 x2 (ix2 g j) = cI (x0 (ix2 g j)) (x1 (ix2 g j)) (x2 (ix1 g)) := fun g j => ref_cI x0 x1 x2 g j
  simp only [val_main_v33, val_main_v34, val_main_v35, val_main_v36, val_main_v37, val_main_v38, val_main_v39, val_main_v43]
  generalize val_main_v21 (F := Ideal) x0 x1 x2 = z0 at e0 ⊢
  generalize val_main_v25 (F := Ideal) x0 x1 x2 = z1 at e1 ⊢
  pointwise
  simp only [e0, e1]
  all_goals rfl

end

/-! ## The point's payloads -/

section
variable (v0 v2 : FVec Ideal S32x1x64 .f32) (v4 : FVec Ideal S32x1x1 .f32) (v31 v33 : FVec Ideal S32x16x64 .f32) (g : Fin 32) (k : Fin 16) (j : Fin 64)

theorem pay_3 : k0_pay3 (F := Ideal) v0 (ix3 g 0 j) = v0 (ix3 g 0 j) := by
  simp only [k0_pay3]
  pointwise
  all_goals rfl

theorem pay_4 : k0_pay4 (F := Ideal) v2 (ix3 g 0 j) = v2 (ix3 g 0 j) := by
  simp only [k0_pay4]
  pointwise
  all_goals rfl

theorem pay_5 : k0_pay5 (F := Ideal) v4 (ix3 g 0 0) = Ideal.exp (v4 (ix3 g 0 0)) := by
  simp only [k0_pay5]
  pointwise
  all_goals rfl

theorem pay_6 : k0_pay6 (F := Ideal) v0 v4 (ix3 g 0 j) = Ideal.exp (v0 (ix3 g 0 j) * Ideal.exp (v4 (ix3 g 0 0))) := by
  have e0 : ∀ (g : Fin 32) (j : Fin 64), k0_pay3 (F := Ideal) v0 (ix3 g 0 j) = v0 (ix3 g 0 j) := fun g j => pay_3 v0 g j
  have e1 : ∀ (g : Fin 32), k0_pay5 (F := Ideal) v4 (ix3 g 0 0) = Ideal.exp (v4 (ix3 g 0 0)) := fun g => pay_5 v4 g
  simp only [k0_pay6]
  generalize k0_pay3 (F := Ideal) v0 = z0 at e0 ⊢
  generalize k0_pay5 (F := Ideal) v4 = z1 at e1 ⊢
  pointwise
  simp only [e0, e1]
  all_goals rfl

theorem pay_7 : k0_pay7 (F := Ideal) v0 v2 v4 (ix3 g 0 j) = abR (v0 (ix3 g 0 j)) (v2 (ix3 g 0 j)) (v4 (ix3 g 0 0)) := by
  have e0 : ∀ (g : Fin 32) (j : Fin 64), k0_pay4 (F := Ideal) v2 (ix3 g 0 j) = v2 (ix3 g 0 j) := fun g j => pay_4 v2 g j
  have e1 : ∀ (g : Fin 32), k0_pay5 (F := Ideal) v4 (ix3 g 0 0) = Ideal.exp (v4 (ix3 g 0 0)) := fun g => pay_5 v4 g
  have e2 : ∀ (g : Fin 32) (j : Fin 64), k0_pay6 (F := Ideal) v0 v4 (ix3 g 0 j) = Ideal.exp (v0 (ix3 g 0 j) * Ideal.exp (v4 (ix3 g 0 0))) := fun g j => pay_6 v0 v4 g j
  simp only [k0_pay7]
  generalize k0_pay4 (F := Ideal) v2 = z0 at e0 ⊢
  generalize k0_pay5 (F := Ideal) v4 = z1 at e1 ⊢
  generalize k0_pay6 (F := Ideal) v0 v4 = z2 at e2 ⊢
  pointwise
  simp only [e0, e1, e2]
  all_goals rfl

theorem pay_8 : k0_pay8 (F := Ideal) v0 v2 v4 (ix3 g 0 j) = abI (v0 (ix3 g 0 j)) (v2 (ix3 g 0 j)) (v4 (ix3 g 0 0)) := by
  have e0 : ∀ (g : Fin 32) (j : Fin 64), k0_pay4 (F := Ideal) v2 (ix3 g 0 j) = v2 (ix3 g 0 j) := fun g j => pay_4 v2 g j
  have e1 : ∀ (g : Fin 32), k0_pay5 (F := Ideal) v4 (ix3 g 0 0) = Ideal.exp (v4 (ix3 g 0 0)) := fun g => pay_5 v4 g
  have e2 : ∀ (g : Fin 32) (j : Fin 64), k0_pay6 (F := Ideal) v0 v4 (ix3 g 0 j) = Ideal.exp (v0 (ix3 g 0 j) * Ideal.exp (v4 (ix3 g 0 0))) := fun g j => pay_6 v0 v4 g j
  simp only [k0_pay8]
  generalize k0_pay4 (F := Ideal) v2 = z0 at e0 ⊢
  generalize k0_pay5 (F := Ideal) v4 = z1 at e1 ⊢
  generalize k0_pay6 (F := Ideal) v0 v4 = z2 at e2 ⊢
  pointwise
  simp only [e0, e1, e2]
  all_goals rfl

theorem pay_9 : k0_pay9 (F := Ideal) v0 v2 (ix3 g 0 j) = den (v0 (ix3 g 0 j)) (v2 (ix3 g 0 j)) := by
  have e0 : ∀ (g : Fin 32) (j : Fin 64), k0_pay3 (F := Ideal) v0 (ix3 g 0 j) = v0 (ix3 g 0 j) := fun g j => pay_3 v0 g j
  have e1 : ∀ (g : Fin 32) (j : Fin 64), k0_pay4 (F := Ideal) v2 (ix3 g 0 j) = v2 (ix3 g 0 j) := fun g j => pay_4 v2 g j
  simp only [k0_pay9]
  generalize k0_pay3 (F := Ideal) v0 = z0 at e0 ⊢
  generalize k0_pay4 (F := Ideal) v2 = z1 at e1 ⊢
  pointwise
  simp only [e0, e1]
  all_goals rfl

theorem pay_10 : k0_pay10 (F := Ideal) v0 v2 v4 (ix3 g 0 j) = nr (v0 (ix3 g 0 j)) (v2 (ix3 g 0 j)) (v4 (ix3 g 0 0)) := by
  have e0 : ∀ (g : Fin 32) (j : Fin 64), k0_pay7 (F := Ideal) v0 v2 v4 (ix3 g 0 j) = abR (v0 (ix3 g 0 j)) (v2 (ix3 g 0 j)) (v4 (ix3 g 0 0)) := fun g j => pay_7 v0 v2 v4 g j
  simp only [k0_pay10]
  generalize k0_pay7 (F := Ideal) v0 v2 v4 = z0 at e0 ⊢
  pointwise
  simp only [e0]
  all_goals rfl

theorem pay_11 : k0_pay11 (F := Ideal) v0 v2 v4 (ix3 g 0 j) = cR (v0 (ix3 g 0 j)) (v2 (ix3 g 0 j)) (v4 (ix3 g 0 0)) := by
  have e0 : ∀ (g : Fin 32) (j : Fin 64), k0_pay3 (F := Ideal) v0 (ix3 g 0 j) = v0 (ix3 g 0 j) := fun g j => pay_3 v0 g j
  have e1 : ∀ (g : Fin 32) (j : Fin 64), k0_pay4 (F := Ideal) v2 (ix3 g 0 j) = v2 (ix3 g 0 j) := fun g j => pay_4 v2 g j
  have e2 : ∀ (g : Fin 32) (j : Fin 64), k0_pay8 (F := Ideal) v0 v2 v4 (ix3 g 0 j) = abI (v0 (ix3 g 0 j)) (v2 (ix3 g 0 j)) (v4 (ix3 g 0 0)) := fun g j => pay_8 v0 v2 v4 g j
  have e3 : ∀ (g : Fin 32) (j : Fin 64), k0_pay9 (F := Ideal) v0 v2 (ix3 g 0 j) = den (v0 (ix3 g 0 j)) (v2 (ix3 g 0 j)) := fun g j => pay_9 v0 v2 g j
  have e4 : ∀ (g : Fin 32) (j : Fin 64), k0_pay10 (F := Ideal) v0 v2 v4 (ix3 g 0 j) = nr (v0 (ix3 g 0 j)) (v2 (ix3 g 0 j)) (v4 (ix3 g 0 0)) := fun g j => pay_10 v0 v2 v4 g j
  simp only [k0_pay11]
  generalize k0_pay3 (F := Ideal) v0 = z0 at e0 ⊢
  generalize k0_pay4 (F := Ideal) v2 = z1 at e1 ⊢
  generalize k0_pay8 (F := Ideal) v0 v2 v4 = z2 at e2 ⊢
  generalize k0_pay9 (F := Ideal) v0 v2 = z3 at e3 ⊢
  generalize k0_pay10 (F := Ideal) v0 v2 v4 = z4 at e4 ⊢
  pointwise
  simp only [e0, e1, e2, e3, e4]
  all_goals rfl

theorem pay_12 : k0_pay12 (F := Ideal) v0 v2 v4 (ix3 g 0 j) = cI (v0 (ix3 g 0 j)) (v2 (ix3 g 0 j)) (v4 (ix3 g 0 0)) := by
  have e0 : ∀ (g : Fin 32) (j : Fin 64), k0_pay3 (F := Ideal) v0 (ix3 g 0 j) = v0 (ix3 g 0 j) := fun g j => pay_3 v0 g j
  have e1 : ∀ (g : Fin 32) (j : Fin 64), k0_pay4 (F := Ideal) v2 (ix3 g 0 j) = v2 (ix3 g 0 j) := fun g j => pay_4 v2 g j
  have e2 : ∀ (g : Fin 32) (j : Fin 64), k0_pay8 (F := Ideal) v0 v2 v4 (ix3 g 0 j) = abI (v0 (ix3 g 0 j)) (v2 (ix3 g 0 j)) (v4 (ix3 g 0 0)) := fun g j => pay_8 v0 v2 v4 g j
  have e3 : ∀ (g : Fin 32) (j : Fin 64), k0_pay9 (F := Ideal) v0 v2 (ix3 g 0 j) = den (v0 (ix3 g 0 j)) (v2 (ix3 g 0 j)) := fun g j => pay_9 v0 v2 g j
  have e4 : ∀ (g : Fin 32) (j : Fin 64), k0_pay10 (F := Ideal) v0 v2 v4 (ix3 g 0 j) = nr (v0 (ix3 g 0 j)) (v2 (ix3 g 0 j)) (v4 (ix3 g 0 0)) := fun g j => pay_10 v0 v2 v4 g j
  simp only [k0_pay12]
  generalize k0_pay3 (F := Ideal) v0 = z0 at e0 ⊢
  generalize k0_pay4 (F := Ideal) v2 = z1 at e1 ⊢
  generalize k0_pay8 (F := Ideal) v0 v2 v4 = z2 at e2 ⊢
  generalize k0_pay9 (F := Ideal) v0 v2 = z3 at e3 ⊢
  generalize k0_pay10 (F := Ideal) v0 v2 v4 = z4 at e4 ⊢
  pointwise
  simp only [e0, e1, e2, e3, e4]
  all_goals rfl

theorem pay_13 : k0_pay13 (F := Ideal) v31 (ix3 g k j) = v31 (ix3 g k j) := by
  simp only [k0_pay13]
  pointwise
  all_goals rfl

theorem pay_14 : k0_pay14 (F := Ideal) v33 (ix3 g k j) = v33 (ix3 g k j) := by
  simp only [k0_pay14]
  pointwise
  all_goals rfl

theorem pay_15 : k0_pay15 (F := Ideal) v0 v2 v4 v31 v33 (ix3 g 0 j) = cR (v0 (ix3 g 0 j)) (v2 (ix3 g 0 j)) (v4 (ix3 g 0 0)) := by
  simp only [k0_pay15]
  rw [pay_11]
  pointwise

theorem pay_16 : k0_pay16 (F := Ideal) v0 v2 v4 v31 v33 (ix3 g 0 j) = cI (v0 (ix3 g 0 j)) (v2 (ix3 g 0 j)) (v4 (ix3 g 0 0)) := by
  simp only [k0_pay16]
  rw [pay_12]
  pointwise

theorem pay_17 : k0_pay17 (F := Ideal) v0 v2 v4 v31 v33 (ix3 g k j) = v31 (ix3 g k j) := by
  simp only [k0_pay17]
  rw [pay_13]
  pointwise

theorem pay_18 : k0_pay18 (F := Ideal) v0 v2 v4 v31 v33 (ix3 g k j) = v33 (ix3 g k j) := by
  simp only [k0_pay18]
  rw [pay_14]
  pointwise

end

section
variable (a b : FVec Ideal S32x1x64 .f32) (u v : FVec Ideal S32x16x64 .f32) (g : Fin 32) (k : Fin 16) (j : Fin 64)

theorem pay_1 : k0_pay1 (F := Ideal) a b u v (ix3 g k j) = a (ix3 g 0 j) * u (ix3 g k j) - b (ix3 g 0 j) * v (ix3 g k j) := by
  simp only [k0_pay1]
  pointwise

theorem pay_2 : k0_pay2 (F := Ideal) a b u v (ix3 g k j) = a (ix3 g 0 j) * v (ix3 g k j) + b (ix3 g 0 j) * u (ix3 g k j) := by
  simp only [k0_pay2]
  pointwise
end

/-! ## The blocks -/

theorem idx : ∀ t : Fin grid0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] ∧ win0_8.index t = ![0, 0, 0] := by
  decide +kernel

abbrev are (c : Dev nD) : FVec Ideal S32x64 .f32 := m ((c : Thread nD τ).loc main_arg0)
abbrev aim (c : Dev nD) : FVec Ideal S32x64 .f32 := m ((c : Thread nD τ).loc main_arg1)
abbrev ldt (c : Dev nD) : FVec Ideal S32 .f32 := m ((c : Thread nD τ).loc main_arg2)
abbrev bre (c : Dev nD) : FVec Ideal S32x64x16 .f32 := m ((c : Thread nD τ).loc main_arg3)
abbrev bim (c : Dev nD) : FVec Ideal S32x64x16 .f32 := m ((c : Thread nD τ).loc main_arg4)

section
variable (c : Dev nD) (t : Fin cfg0.N) (g : Fin 32) (k : Fin 16) (j : Fin 64)

theorem blk_0 : iblk m c 0 t (ix3 g 0 j) = are m c (ix2 g j) := by
  have e : V m c main_v0 (ix3 g 0 j) = are m c (ix2 g j) := by
    unfold V
    simp only [hostOps0, List.flatten_cons, List.flatten_nil, List.append_nil, List.cons_append, List.nil_append]
    entry_read
    pointwise
  refine Eq.trans ?_ e
  blk_simp [iblk, idx t]
  blk_ext [iblk, idx t]

theorem blk_1 : iblk m c 1 t (ix3 g 0 j) = aim m c (ix2 g j) := by
  have e : V m c main_v1 (ix3 g 0 j) = aim m c (ix2 g j) := by
    unfold V
    simp only [hostOps0, List.flatten_cons, List.flatten_nil, List.append_nil, List.cons_append, List.nil_append]
    entry_read
    pointwise
  refine Eq.trans ?_ e
  blk_simp [iblk, idx t]
  blk_ext [iblk, idx t]

theorem blk_2 : iblk m c 2 t (ix3 g 0 0) = ldt m c (ix1 g) := by
  have e : V m c main_v2 (ix3 g 0 0) = ldt m c (ix1 g) := by
    unfold V
    simp only [hostOps0, List.flatten_cons, List.flatten_nil, List.append_nil, List.cons_append, List.nil_append]
    entry_read
    pointwise
  refine Eq.trans ?_ e
  blk_simp [iblk, idx t]
  blk_ext [iblk, idx t]

theorem blk_3 : iblk m c 3 t (ix3 g k j) = bre m c (ix3 g j k) := by
  have e : V m c main_v3 (ix3 g k j) = bre m c (ix3 g j k) := by
    unfold V
    simp only [hostOps0, List.flatten_cons, List.flatten_nil, List.append_nil, List.cons_append, List.nil_append]
    entry_read
    pointwise
  refine Eq.trans ?_ e
  blk_simp [iblk, idx t]
  blk_ext [iblk, idx t]

theorem blk_4 : iblk m c 4 t (ix3 g k j) = bim m c (ix3 g j k) := by
  have e : V m c main_v4 (ix3 g k j) = bim m c (ix3 g j k) := by
    unfold V
    simp only [hostOps0, List.flatten_cons, List.flatten_nil, List.append_nil, List.cons_append, List.nil_append]
    entry_read
    pointwise
  refine Eq.trans ?_ e
  blk_simp [iblk, idx t]
  blk_ext [iblk, idx t]

theorem val_7 : k0_pay7 (F := Ideal) (iblk m c 0 t) (iblk m c 1 t) (iblk m c 2 t) (ix3 g 0 j) = abR (are m c (ix2 g j)) (aim m c (ix2 g j)) (ldt m c (ix1 g)) := by
  rw [pay_7, blk_0, blk_1, blk_2]

theorem val_8 : k0_pay8 (F := Ideal) (iblk m c 0 t) (iblk m c 1 t) (iblk m c 2 t) (ix3 g 0 j) = abI (are m c (ix2 g j)) (aim m c (ix2 g j)) (ldt m c (ix1 g)) := by
  rw [pay_8, blk_0, blk_1, blk_2]

theorem val_1 : k0_pay1 (F := Ideal) (k0_pay15 (F := Ideal) (iblk m c 0 t) (iblk m c 1 t) (iblk m c 2 t) (iblk m c 3 t) (iblk m c 4 t)) (k0_pay16 (F := Ideal) (iblk m c 0 t) (iblk m c 1 t) (iblk m c 2 t) (iblk m c 3 t) (iblk m c 4 t))
    (k0_pay17 (F := Ideal) (iblk m c 0 t) (iblk m c 1 t) (iblk m c 2 t) (iblk m c 3 t) (iblk m c 4 t)) (k0_pay18 (F := Ideal) (iblk m c 0 t) (iblk m c 1 t) (iblk m c 2 t) (iblk m c 3 t) (iblk m c 4 t)) (ix3 g k j) = bbR (are m c (ix2 g j)) (aim m c (ix2 g j)) (ldt m c (ix1 g)) (bre m c (ix3 g j k)) (bim m c (ix3 g j k)) := by
  rw [pay_1, pay_15, pay_16, pay_17, pay_18, blk_0, blk_1, blk_2, blk_3, blk_4]
  rfl

theorem val_2 : k0_pay2 (F := Ideal) (k0_pay15 (F := Ideal) (iblk m c 0 t) (iblk m c 1 t) (iblk m c 2 t) (iblk m c 3 t) (iblk m c 4 t)) (k0_pay16 (F := Ideal) (iblk m c 0 t) (iblk m c 1 t) (iblk m c 2 t) (iblk m c 3 t) (iblk m c 4 t))
    (k0_pay17 (F := Ideal) (iblk m c 0 t) (iblk m c 1 t) (iblk m c 2 t) (iblk m c 3 t) (iblk m c 4 t)) (k0_pay18 (F := Ideal) (iblk m c 0 t) (iblk m c 1 t) (iblk m c 2 t) (iblk m c 3 t) (iblk m c 4 t)) (ix3 g k j) = bbI (are m c (ix2 g j)) (aim m c (ix2 g j)) (ldt m c (ix1 g)) (bre m c (ix3 g j k)) (bim m c (ix3 g j k)) := by
  rw [pay_2, pay_15, pay_16, pay_17, pay_18, blk_0, blk_1, blk_2, blk_3, blk_4]
  rfl

end

/-! ## The four arrays -/

theorem out_5 (c : Dev nD) : (dats m 0 c).arrAt 5 cfg0.N = val_main_v40 (F := Ideal) (are m c) (aim m c) (ldt m c) := by
  refine (dats m 0 c).arrAt_eq_of_covers 5 _ (by decide +kernel) fun t hf y => ?_
  blk_simp
  rw [after0_5]
  frame_out
  idx_vars y
  obtain rfl : y1 = 0 := Subsingleton.elim _ _
  refine (val_7 m c t y0 y2).trans ((ref_40 (are m c) (aim m c) (ldt m c) y0 y2).symm.trans ?_)
  blk_point [V, idx t]

theorem out_6 (c : Dev nD) : (dats m 0 c).arrAt 6 cfg0.N = val_main_v41 (F := Ideal) (are m c) (aim m c) (ldt m c) := by
  refine (dats m 0 c).arrAt_eq_of_covers 6 _ (by decide +kernel) fun t hf y => ?_
  blk_simp
  rw [after0_6]
  frame_out
  idx_vars y
  obtain rfl : y1 = 0 := Subsingleton.elim _ _
  refine (val_8 m c t y0 y2).trans ((ref_41 (are m c) (aim m c) (ldt m c) y0 y2).symm.trans ?_)
  blk_point [V, idx t]

theorem out_7 (c : Dev nD) : (dats m 0 c).arrAt 7 cfg0.N = val_main_v42 (F := Ideal) (are m c) (aim m c) (ldt m c) (bre m c) (bim m c) := by
  refine (dats m 0 c).arrAt_eq_of_covers 7 _ (by decide +kernel) fun t hf y => ?_
  blk_simp
  rw [after0_7]
  frame_out
  idx_vars y
  refine (val_1 m c t y0 y1 y2).trans ((ref_42 (are m c) (aim m c) (ldt m c) (bre m c) (bim m c) y0 y1 y2).symm.trans ?_)
  blk_point [V, idx t]

theorem out_8 (c : Dev nD) : (dats m 0 c).arrAt 8 cfg0.N = val_main_v43 (F := Ideal) (are m c) (aim m c) (ldt m c) (bre m c) (bim m c) := by
  refine (dats m 0 c).arrAt_eq_of_covers 8 _ (by decide +kernel) fun t hf y => ?_
  blk_simp
  rw [after0_8]
  frame_out
  idx_vars y
  refine (val_2 m c t y0 y1 y2).trans ((ref_43 (are m c) (aim m c) (ldt m c) (bre m c) (bim m c) y0 y1 y2).symm.trans ?_)
  blk_point [V, idx t]

end Cert.SsmDiscIdeal.Hand

end
-- ==== Proof.SumSmall.lean ====
/-
  The sum over the devices of the packed small gradients: the version adds the eight parts one after the other.
-/
module

public import proofs.«01_k».proof.Proof.Gen.SumSmallIdeal.Value
public import proofs.«01_k».proof.Proof.Gen.SumSmallRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.SumSmallIdeal.Hand

open Cert.SumSmallIdeal Cert.SumSmallIdeal.Gen Idealize.ShloMosaic Idealize.ShloMosaic.TcCoe Idealize.SL.Sem
open Idealize.ShloMosaic.Pipeline (Dat)
open Cert.SumSmallRefIdeal.Read

variable (m : (ℓ : Loc nD τ sig) → Buf (Elt Ideal) ℓ)

theorem idx : ∀ t : Fin grid0.N, win0_0.index t = ![0, 0, 0] ∧ win0_1.index t = ![0, 0] := by
  decide +kernel

abbrev early (c : Dev nD) : FVec Ideal S8x1112x128 .f32 := m ((c : Thread nD τ).loc main_arg0)
abbrev mid (c : Dev nD) : FVec Ideal S8x16x128 .f32 := m ((c : Thread nD τ).loc main_arg1)
abbrev late (c : Dev nD) : FVec Ideal S8x8x128 .f32 := m ((c : Thread nD τ).loc main_arg2)

/-- The three packs side by side, as both programs lay them. -/
abbrev packed (c : Dev nD) : FVec Ideal S8x1136x128 .f32 := val_main_v0 (F := Ideal) (early m c) (mid m c) (late m c)

theorem ref_sum (x0 : FVec Ideal S8x1112x128 .f32) (x1 : FVec Ideal S8x16x128 .f32) (x2 : FVec Ideal S8x8x128 .f32) (r : Fin 1136) (l : Fin 128) :
    val_main_v1 (F := Ideal) x0 x1 x2 (ix2 r l) = ∑ d : Fin 8, val_main_v0 (F := Ideal) x0 x1 x2 (ix3 d r l) := by
  simp only [val_main_v1, val_main_cst]
  generalize val_main_v0 (F := Ideal) x0 x1 x2 = p
  pointwise

theorem blk_0 (c : Dev nD) (t : Fin cfg0.N) (d : Fin 8) (r : Fin 1136) (l : Fin 128) : iblk m c 0 t (ix3 d r l) = packed m c (ix3 d r l) := by
  have e : V m c main_v0 = packed m c := by
    unfold V
    simp only [hostOps0, List.flatten_cons, List.flatten_nil, List.append_nil, List.cons_append, List.nil_append]
    entry_read
    rfl
  refine Eq.trans ?_ (congrFun e _)
  blk_simp [iblk, idx t]
  blk_ext [iblk, idx t]

theorem pay_sum (p : FVec Ideal S8x1136x128 .f32) (r : Fin 1136) (l : Fin 128) :
    k0_pay1 (F := Ideal) (View.ld p r0_0) (View.ld p r0_1) (View.ld p r0_2) (View.ld p r0_3) (View.ld p r0_4) (View.ld p r0_5) (View.ld p r0_6)
      (View.ld p r0_7) (ix2 r l) = ∑ d : Fin 8, p (ix3 d r l) := by
  rw [Fin.sum_univ_eight]
  simp only [k0_pay1]
  pointwise

theorem val_1 (c : Dev nD) (t : Fin cfg0.N) (r : Fin 1136) (l : Fin 128) :
    k0_pay1 (F := Ideal) (View.ld (iblk m c 0 t) r0_0) (View.ld (iblk m c 0 t) r0_1) (View.ld (iblk m c 0 t) r0_2) (View.ld (iblk m c 0 t) r0_3)
      (View.ld (iblk m c 0 t) r0_4) (View.ld (iblk m c 0 t) r0_5) (View.ld (iblk m c 0 t) r0_6) (View.ld (iblk m c 0 t) r0_7) (ix2 r l)
      = ∑ d : Fin 8, packed m c (ix3 d r l) :=
  (pay_sum (iblk m c 0 t) r l).trans (Finset.sum_congr rfl fun d _ => blk_0 m c t d r l)

theorem out_1 (c : Dev nD) : (dats m 0 c).arrAt 1 cfg0.N = val_main_v1 (F := Ideal) (early m c) (mid m c) (late m c) := by
  refine (dats m 0 c).arrAt_eq_of_covers 1 _ (by decide +kernel) fun t hf y => ?_
  blk_simp
  rw [after0_1]
  frame_out
  idx_vars y
  refine (val_1 m c t y0 y1).trans ((ref_sum (early m c) (mid m c) (late m c) y0 y1).symm.trans ?_)
  blk_point [V, idx t]

end Cert.SumSmallIdeal.Hand

end
-- ==== Proof.lean ====
/-
  The certificate: the frames are the generated ones, and each value claim puts a program's run beside its reference's run.
-/
module

public import proofs.«01_k».proof.Defs
public import proofs.«01_k».proof.Proof.Gen.MlpUpBwd.Frame
public import proofs.«01_k».proof.Proof.Gen.MlpUpBwdRefIdeal.Run
public import proofs.«01_k».proof.Proof.MlpUpBwd
public import proofs.«01_k».proof.Proof.Gen.MlpDownBwd.Frame
public import proofs.«01_k».proof.Proof.Gen.MlpDownBwdRefIdeal.Run
public import proofs.«01_k».proof.Proof.MlpDownBwd
public import proofs.«01_k».proof.Proof.Gen.InBwd.Frame
public import proofs.«01_k».proof.Proof.Gen.InBwdRefIdeal.Run
public import proofs.«01_k».proof.Proof.InBwd
public import proofs.«01_k».proof.Proof.Gen.MixBwd.Frame
public import proofs.«01_k».proof.Proof.Gen.MixBwdRefIdeal.Run
public import proofs.«01_k».proof.Proof.MixBwd
public import proofs.«01_k».proof.Proof.MixPre
public import proofs.«01_k».proof.Proof.Gen.GradDown.Frame
public import proofs.«01_k».proof.Proof.Gen.GradDownRefIdeal.Run
public import proofs.«01_k».proof.Proof.GradDown
public import proofs.«01_k».proof.Proof.Gen.GradUp.Frame
public import proofs.«01_k».proof.Proof.Gen.GradUpRefIdeal.Run
public import proofs.«01_k».proof.Proof.GradUp
public import proofs.«01_k».proof.Proof.Gen.GradOut.Frame
public import proofs.«01_k».proof.Proof.Gen.GradOutRefIdeal.Run
public import proofs.«01_k».proof.Proof.GradOut
public import proofs.«01_k».proof.Proof.Gen.GradGlu.Frame
public import proofs.«01_k».proof.Proof.Gen.GradGluRefIdeal.Run
public import proofs.«01_k».proof.Proof.GradGlu
public import proofs.«01_k».proof.Proof.Gen.GradIn.Frame
public import proofs.«01_k».proof.Proof.Gen.GradInRefIdeal.Run
public import proofs.«01_k».proof.Proof.GradIn
public import proofs.«01_k».proof.Proof.Gen.MlpUp.Frame
public import proofs.«01_k».proof.Proof.Gen.MlpUpRefIdeal.Run
public import proofs.«01_k».proof.Proof.MlpUp
public import proofs.«01_k».proof.Proof.Gen.MlpDownLoss.Frame
public import proofs.«01_k».proof.Proof.Gen.MlpDownLossRefIdeal.Run
public import proofs.«01_k».proof.Proof.MlpDownLoss
public import proofs.«01_k».proof.Proof.Gen.FwdMix.Frame
public import proofs.«01_k».proof.Proof.Gen.FwdMixRefIdeal.Run
public import proofs.«01_k».proof.Proof.FwdMix
public import proofs.«01_k».proof.Proof.Gen.FwdProj.Frame
public import proofs.«01_k».proof.Proof.Gen.FwdProjRefIdeal.Run
public import proofs.«01_k».proof.Proof.FwdProj
public import proofs.«01_k».proof.Proof.ProjPre
public import proofs.«01_k».proof.Proof.Gen.UpdIn.Frame
public import proofs.«01_k».proof.Proof.Gen.UpdInRefIdeal.Run
public import proofs.«01_k».proof.Proof.UpdIn
public import proofs.«01_k».proof.Proof.Gen.UpdGlu.Frame
public import proofs.«01_k».proof.Proof.Gen.UpdGluRefIdeal.Run
public import proofs.«01_k».proof.Proof.UpdGlu
public import proofs.«01_k».proof.Proof.Gen.UpdOut.Frame
public import proofs.«01_k».proof.Proof.Gen.UpdOutRefIdeal.Run
public import proofs.«01_k».proof.Proof.UpdOut
public import proofs.«01_k».proof.Proof.Gen.UpdUp.Frame
public import proofs.«01_k».proof.Proof.Gen.UpdUpRefIdeal.Run
public import proofs.«01_k».proof.Proof.UpdUp
public import proofs.«01_k».proof.Proof.Gen.UpdDown.Frame
public import proofs.«01_k».proof.Proof.Gen.UpdDownRefIdeal.Run
public import proofs.«01_k».proof.Proof.UpdDown
public import proofs.«01_k».proof.Proof.Gen.QkBwd.Frame
public import proofs.«01_k».proof.Proof.Gen.QkBwdRefIdeal.Run
public import proofs.«01_k».proof.Proof.QkBwd
public import proofs.«01_k».proof.Proof.QkPre
public import proofs.«01_k».proof.Proof.Gen.SsmDiscBwd.Frame
public import proofs.«01_k».proof.Proof.Gen.SsmDiscBwdRefIdeal.Run
public import proofs.«01_k».proof.Proof.SsmDiscBwd
public import proofs.«01_k».proof.Proof.DiscPre
public import proofs.«01_k».proof.Proof.Gen.SsmDisc.Frame
public import proofs.«01_k».proof.Proof.Gen.SsmDiscRefIdeal.Run
public import proofs.«01_k».proof.Proof.SsmDisc
public import proofs.«01_k».proof.Proof.Gen.SumSmall.Frame
public import proofs.«01_k».proof.Proof.Gen.SumSmallRefIdeal.Run
public import proofs.«01_k».proof.Proof.SumSmall

@[expose] public section

set_option maxRecDepth 16384

open Idealize.ShloMosaic Idealize.ShloMosaic.TcCoe Idealize.SL.Sem

namespace Cert.Proof

theorem mlpUpBwdRef : Cert.quiescent_MlpUpBwdRefIdeal := by
  intro m g _
  exact (θ_run Cert.MlpUpBwdRefIdeal.defs _ _).mono
    (fun r h => ⟨fun c => (h c).2.2.2, sem_eq_zero_of_no_sems (by decide) r.2⟩)
    (Cert.MlpUpBwdRefIdeal.Value.run (F := Ideal) m g)

theorem mlpUpBwd : Cert.algebraic_MlpUpBwdIdeal_MlpUpBwdRefIdeal := by
  pair_intro
  · run_from Cert.MlpUpBwdIdeal.Value.run_blocks m g
  · refine (θ_run _ _ _).mono (fun r h c => ?_) (Cert.MlpUpBwdRefIdeal.Value.run (F := Ideal) m' g')
    refine ⟨(h c).1.trans ((Cert.MlpUpBwdRefIdeal.Read.val_main_v39_eq _ _).trans ?_),
      (h c).2.1.trans ((Cert.MlpUpBwdRefIdeal.Read.val_main_v41_eq _ _).trans ?_),
      (h c).2.2.1.trans ((Cert.MlpUpBwdRefIdeal.Read.val_main_v40_eq _ _ _).trans ?_),
      (h c).2.2.2⟩
    · simp only [hagree c]
      exact (Cert.MlpUpBwdIdeal.Hand.dx_eq m c).symm
    · simp only [hagree c]
      exact (Cert.MlpUpBwdIdeal.Hand.dxb_eq m c).symm
    · simp only [hagree c]
      exact (Cert.MlpUpBwdIdeal.Hand.dg_eq m c).symm

theorem mlpDownBwdRef : Cert.quiescent_MlpDownBwdRefIdeal := by
  intro m g _
  exact (θ_run Cert.MlpDownBwdRefIdeal.defs _ _).mono
    (fun r h => ⟨fun c => (h c).2, sem_eq_zero_of_no_sems (by decide) r.2⟩)
    (Cert.MlpDownBwdRefIdeal.Value.run (F := Ideal) m g)

theorem mlpDownBwd : Cert.algebraic_MlpDownBwdIdeal_MlpDownBwdRefIdeal := by
  pair_intro
  · run_from Cert.MlpDownBwdIdeal.Value.run_blocks m g
  · refine (θ_run _ _ _).mono (fun r h c => ?_) (Cert.MlpDownBwdRefIdeal.Value.run (F := Ideal) m' g')
    refine ⟨(h c).1.trans ((Cert.MlpDownBwdRefIdeal.Read.val_main_v12_eq _ _ _).trans ?_),
      (h c).2⟩
    · simp only [hagree c]
      exact (Cert.MlpDownBwdIdeal.Hand.out_eq m c).symm

theorem inBwdRef : Cert.quiescent_InBwdRefIdeal := by
  intro m g _
  exact (θ_run Cert.InBwdRefIdeal.defs _ _).mono
    (fun r h => ⟨fun c => (h c).2.2, sem_eq_zero_of_no_sems (by decide) r.2⟩)
    (Cert.InBwdRefIdeal.Value.run (F := Ideal) m g)

theorem inBwd : Cert.algebraic_InBwdIdeal_InBwdRefIdeal := by
  pair_intro
  · run_from Cert.InBwdIdeal.Value.run_blocks m g
  · refine (θ_run _ _ _).mono (fun r h c => ?_) (Cert.InBwdRefIdeal.Value.run (F := Ideal) m' g')
    refine ⟨(h c).1.trans ((Cert.InBwdRefIdeal.Read.val_main_v39_eq _ _).trans ?_),
      (h c).2.1.trans ((Cert.InBwdRefIdeal.Read.val_main_v40_eq _ _ _).trans ?_),
      (h c).2.2⟩
    · simp only [hagree c]
      exact (Cert.InBwdIdeal.Hand.dx_eq m c).symm
    · simp only [hagree c]
      exact (Cert.InBwdIdeal.Hand.dg_eq m c).symm

theorem mixBwdRef : Cert.quiescent_MixBwdRefIdeal := by
  intro m g _
  exact (θ_run Cert.MixBwdRefIdeal.defs _ _).mono
    (fun r h => ⟨fun c => (h c).2.2.2.2.2.2.2, sem_eq_zero_of_no_sems (by decide) r.2⟩)
    (Cert.MixBwdRefIdeal.Value.run (F := Ideal) m g)

theorem mixBwd : Cert.algebraic_MixBwdIdeal_MixBwdRefIdeal_pre_mix_finite := by
  pair_intro
  · run_from Cert.MixBwdIdeal.Value.run_blocks m g
  · refine (θ_run _ _ _).mono (fun r h c => ?_) (Cert.MixBwdRefIdeal.Value.run (F := Ideal) m' g')
    refine ⟨(h c).1.trans ((Cert.MixBwdRefIdeal.Read.val_main_v114_eq _).trans ?_),
      (h c).2.1.trans ((Cert.MixBwdRefIdeal.Read.val_main_v135_eq _).trans ?_),
      (h c).2.2.1.trans ((Cert.MixBwdRefIdeal.Read.val_main_v151_eq _).trans ?_),
      (h c).2.2.2.1.trans ((Cert.MixBwdRefIdeal.Read.val_main_v152_eq _).trans ?_),
      (h c).2.2.2.2.1.trans ((Cert.MixBwdRefIdeal.Read.val_main_v116_eq _).trans ?_),
      (h c).2.2.2.2.2.1.trans ((Cert.MixBwdRefIdeal.Read.val_main_v115_eq _).trans ?_),
      (h c).2.2.2.2.2.2.1.trans ((Cert.MixBwdRefIdeal.Read.val_main_v154_eq _).trans ?_),
      (h c).2.2.2.2.2.2.2⟩
    · simp only [hagree c]
      exact (Cert.MixBwdIdeal.Hand.da_eq m c).symm
    · simp only [hagree c]
      exact (Cert.MixBwdIdeal.Hand.dy_eq m c ⟨(Cert.Pre_mix_finite.reals _ _ _ _ _ _ _ _ (hpre c)).1, (Cert.Pre_mix_finite.reals _ _ _ _ _ _ _ _ (hpre c)).2.1,
        (Cert.Pre_mix_finite.reals _ _ _ _ _ _ _ _ (hpre c)).2.2.1, (Cert.Pre_mix_finite.reals _ _ _ _ _ _ _ _ (hpre c)).2.2.2.1, (Cert.Pre_mix_finite.reals _ _ _ _ _ _ _ _ (hpre c)).2.2.2.2⟩).symm
    · simp only [hagree c]
      exact (Cert.MixBwdIdeal.Hand.gelu_eq m c).symm
    · simp only [hagree c]
      exact (Cert.MixBwdIdeal.Hand.dpre_eq m c).symm
    · simp only [hagree c]
      exact (Cert.MixBwdIdeal.Hand.dga_eq m c).symm
    · simp only [hagree c]
      exact (Cert.MixBwdIdeal.Hand.dgs_eq m c).symm
    · simp only [hagree c]
      exact (Cert.MixBwdIdeal.Hand.dgb_eq m c).symm

theorem gradDownRef : Cert.quiescent_GradDownRefIdeal := by
  intro m g _
  exact (θ_run Cert.GradDownRefIdeal.defs _ _).mono
    (fun r h => ⟨fun c => (h c).2, sem_eq_zero_of_no_sems (by decide) r.2⟩)
    (Cert.GradDownRefIdeal.Value.run (F := Ideal) m g)

theorem gradDown : Cert.algebraic_GradDownIdeal_GradDownRefIdeal := by
  pair_intro
  · run_from Cert.GradDownIdeal.Value.run_blocks m g
  · refine (θ_run _ _ _).mono (fun r h c => ?_) (Cert.GradDownRefIdeal.Value.run (F := Ideal) m' g')
    refine ⟨(h c).1.trans ((Cert.GradDownRefIdeal.Read.val_main_v4_eq _ _).trans ?_),
      (h c).2⟩
    · simp only [hagree c]
      exact (Cert.GradDownIdeal.Hand.out_eq m c).symm

theorem gradUpRef : Cert.quiescent_GradUpRefIdeal := by
  intro m g _
  exact (θ_run Cert.GradUpRefIdeal.defs _ _).mono
    (fun r h => ⟨fun c => (h c).2, sem_eq_zero_of_no_sems (by decide) r.2⟩)
    (Cert.GradUpRefIdeal.Value.run (F := Ideal) m g)

theorem gradUp : Cert.algebraic_GradUpIdeal_GradUpRefIdeal := by
  pair_intro
  · run_from Cert.GradUpIdeal.Value.run_blocks m g
  · refine (θ_run _ _ _).mono (fun r h c => ?_) (Cert.GradUpRefIdeal.Value.run (F := Ideal) m' g')
    refine ⟨(h c).1.trans ((Cert.GradUpRefIdeal.Read.val_main_v4_eq _ _).trans ?_),
      (h c).2⟩
    · simp only [hagree c]
      exact (Cert.GradUpIdeal.Hand.out_eq m c).symm

theorem gradOutRef : Cert.quiescent_GradOutRefIdeal := by
  intro m g _
  exact (θ_run Cert.GradOutRefIdeal.defs _ _).mono
    (fun r h => ⟨fun c => (h c).2, sem_eq_zero_of_no_sems (by decide) r.2⟩)
    (Cert.GradOutRefIdeal.Value.run (F := Ideal) m g)

theorem gradOut : Cert.algebraic_GradOutIdeal_GradOutRefIdeal := by
  pair_intro
  · run_from Cert.GradOutIdeal.Value.run_blocks m g
  · refine (θ_run _ _ _).mono (fun r h c => ?_) (Cert.GradOutRefIdeal.Value.run (F := Ideal) m' g')
    refine ⟨(h c).1.trans ((Cert.GradOutRefIdeal.Read.val_main_v4_eq _ _).trans ?_),
      (h c).2⟩
    · simp only [hagree c]
      exact (Cert.GradOutIdeal.Hand.out_eq m c).symm

theorem gradGluRef : Cert.quiescent_GradGluRefIdeal := by
  intro m g _
  exact (θ_run Cert.GradGluRefIdeal.defs _ _).mono
    (fun r h => ⟨fun c => (h c).2, sem_eq_zero_of_no_sems (by decide) r.2⟩)
    (Cert.GradGluRefIdeal.Value.run (F := Ideal) m g)

theorem gradGlu : Cert.algebraic_GradGluIdeal_GradGluRefIdeal := by
  pair_intro
  · run_from Cert.GradGluIdeal.Value.run_blocks m g
  · refine (θ_run _ _ _).mono (fun r h c => ?_) (Cert.GradGluRefIdeal.Value.run (F := Ideal) m' g')
    refine ⟨(h c).1.trans ((Cert.GradGluRefIdeal.Read.val_main_v4_eq _ _).trans ?_),
      (h c).2⟩
    · simp only [hagree c]
      exact (Cert.GradGluIdeal.Hand.out_eq m c).symm

theorem gradInRef : Cert.quiescent_GradInRefIdeal := by
  intro m g _
  exact (θ_run Cert.GradInRefIdeal.defs _ _).mono
    (fun r h => ⟨fun c => (h c).2, sem_eq_zero_of_no_sems (by decide) r.2⟩)
    (Cert.GradInRefIdeal.Value.run (F := Ideal) m g)

theorem gradIn : Cert.algebraic_GradInIdeal_GradInRefIdeal := by
  pair_intro
  · run_from Cert.GradInIdeal.Value.run_blocks m g
  · refine (θ_run _ _ _).mono (fun r h c => ?_) (Cert.GradInRefIdeal.Value.run (F := Ideal) m' g')
    refine ⟨(h c).1.trans ((Cert.GradInRefIdeal.Read.val_main_v4_eq _ _).trans ?_),
      (h c).2⟩
    · simp only [hagree c]
      exact (Cert.GradInIdeal.Hand.out_eq m c).symm

theorem mlpUpRef : Cert.quiescent_MlpUpRefIdeal := by
  intro m g _
  exact (θ_run Cert.MlpUpRefIdeal.defs _ _).mono
    (fun r h => ⟨fun c => (h c).2.2, sem_eq_zero_of_no_sems (by decide) r.2⟩)
    (Cert.MlpUpRefIdeal.Value.run (F := Ideal) m g)

theorem mlpUp : Cert.algebraic_MlpUpIdeal_MlpUpRefIdeal := by
  pair_intro
  · run_from Cert.MlpUpIdeal.Value.run_blocks m g
  · refine (θ_run _ _ _).mono (fun r h c => ?_) (Cert.MlpUpRefIdeal.Value.run (F := Ideal) m' g')
    refine ⟨(h c).1.trans ((Cert.MlpUpRefIdeal.Read.val_main_v2_eq _ _).trans ?_),
      (h c).2.1.trans ((Cert.MlpUpRefIdeal.Read.val_main_v4_eq _ _).trans ?_),
      (h c).2.2⟩
    · simp only [hagree c]
      exact (Cert.MlpUpIdeal.Hand.r_eq m c).symm
    · simp only [hagree c]
      exact (Cert.MlpUpIdeal.Hand.sq_eq m c).symm

theorem mlpDownLossRef : Cert.quiescent_MlpDownLossRefIdeal := by
  intro m g _
  exact (θ_run Cert.MlpDownLossRefIdeal.defs _ _).mono
    (fun r h => ⟨fun c => (h c).2.2.2, sem_eq_zero_of_no_sems (by decide) r.2⟩)
    (Cert.MlpDownLossRefIdeal.Value.run (F := Ideal) m g)

theorem mlpDownLoss : Cert.algebraic_MlpDownLossIdeal_MlpDownLossRefIdeal := by
  pair_intro
  · run_from Cert.MlpDownLossIdeal.Value.run_blocks m g
  · refine (θ_run _ _ _).mono (fun r h c => ?_) (Cert.MlpDownLossRefIdeal.Value.run (F := Ideal) m' g')
    refine ⟨(h c).1.trans ((Cert.MlpDownLossRefIdeal.Read.val_main_v16_eq _ _ _ _).trans ?_),
      (h c).2.1.trans ((Cert.MlpDownLossRefIdeal.Read.val_main_v17_eq _ _ _ _).trans ?_),
      (h c).2.2.1.trans ((Cert.MlpDownLossRefIdeal.Read.val_main_v21_eq _ _ _ _).trans ?_),
      (h c).2.2.2⟩
    · simp only [hagree c]
      exact (Cert.MlpDownLossIdeal.Hand.dy_eq m c).symm
    · simp only [hagree c]
      exact (Cert.MlpDownLossIdeal.Hand.dyb_eq m c).symm
    · simp only [hagree c]
      exact (Cert.MlpDownLossIdeal.Hand.sse_eq m c).symm

theorem fwdMixRef : Cert.quiescent_FwdMixRefIdeal := by
  intro m g _
  exact (θ_run Cert.FwdMixRefIdeal.defs _ _).mono
    (fun r h => ⟨fun c => (h c).2.2.2, sem_eq_zero_of_no_sems (by decide) r.2⟩)
    (Cert.FwdMixRefIdeal.Value.run (F := Ideal) m g)

theorem fwdMix : Cert.algebraic_FwdMixIdeal_FwdMixRefIdeal := by
  pair_intro
  · run_from Cert.FwdMixIdeal.Value.run_blocks m g
  · refine (θ_run _ _ _).mono (fun r h c => ?_) (Cert.FwdMixRefIdeal.Value.run (F := Ideal) m' g')
    refine ⟨(h c).1.trans ((Cert.FwdMixRefIdeal.Read.val_main_v56_eq _ _).trans ?_),
      (h c).2.1.trans ((Cert.FwdMixRefIdeal.Read.val_main_v55_eq _ _).trans ?_),
      (h c).2.2.1.trans ((Cert.FwdMixRefIdeal.Read.val_main_v71_eq _ _).trans ?_),
      (h c).2.2.2⟩
    · simp only [hagree c]
      exact (Cert.FwdMixIdeal.Hand.mix_eq m c).symm
    · simp only [hagree c]
      exact (Cert.FwdMixIdeal.Hand.res_eq m c).symm
    · simp only [hagree c]
      exact (Cert.FwdMixIdeal.Hand.h_eq m c).symm

theorem fwdProjRef : Cert.quiescent_FwdProjRefIdeal := by
  intro m g _
  exact (θ_run Cert.FwdProjRefIdeal.defs _ _).mono
    (fun r h => ⟨fun c => (h c).2.2.2.2.2.2, sem_eq_zero_of_no_sems (by decide) r.2⟩)
    (Cert.FwdProjRefIdeal.Value.run (F := Ideal) m g)

theorem fwdProj : Cert.algebraic_FwdProjIdeal_FwdProjRefIdeal_pre_proj_finite := by
  pair_intro
  · run_from Cert.FwdProjIdeal.Value.run_blocks m g
  · refine (θ_run _ _ _).mono (fun r h c => ?_) (Cert.FwdProjRefIdeal.Value.run (F := Ideal) m' g')
    refine ⟨(h c).1.trans ((Cert.FwdProjRefIdeal.Read.val_main_v51_eq _ _ _).trans ?_),
      (h c).2.1.trans ((Cert.FwdProjRefIdeal.Read.val_main_v35_eq _ _ _ _).trans ?_),
      (h c).2.2.1.trans ((Cert.FwdProjRefIdeal.Read.val_main_v50_eq _ _ _ _).trans ?_),
      (h c).2.2.2.1.trans ((Cert.FwdProjRefIdeal.Read.val_main_v19_eq _ _ _).trans ?_),
      (h c).2.2.2.2.1.trans ((Cert.FwdProjRefIdeal.Read.val_main_v20_eq _ _ _).trans ?_),
      (h c).2.2.2.2.2.1.trans ((Cert.FwdProjRefIdeal.Read.val_main_v52_eq _ _).trans ?_),
      (h c).2.2.2.2.2.2⟩
    · simp only [hagree c]
      exact (Cert.FwdProjIdeal.Hand.qk_eq m c).symm
    · simp only [hagree c]
      exact (Cert.FwdProjIdeal.Hand.qn_eq m c ⟨(Cert.Pre_proj_finite.reals _ _ _ _ _ (hpre c)).1, (Cert.Pre_proj_finite.reals _ _ _ _ _ (hpre c)).2⟩).symm
    · simp only [hagree c]
      exact (Cert.FwdProjIdeal.Hand.kn_eq m c ⟨(Cert.Pre_proj_finite.reals _ _ _ _ _ (hpre c)).1, (Cert.Pre_proj_finite.reals _ _ _ _ _ (hpre c)).2⟩).symm
    · simp only [hagree c]
      exact (Cert.FwdProjIdeal.Hand.v_eq m c).symm
    · simp only [hagree c]
      exact (Cert.FwdProjIdeal.Hand.u_eq m c).symm
    · simp only [hagree c]
      exact (Cert.FwdProjIdeal.Hand.xn_eq m c).symm

theorem updInRef : Cert.quiescent_UpdInRefIdeal := by
  intro m g _
  exact (θ_run Cert.UpdInRefIdeal.defs _ _).mono
    (fun r h => ⟨fun c => (h c).2.2.2.2, sem_eq_zero_of_no_sems (by decide) r.2⟩)
    (Cert.UpdInRefIdeal.Value.run (F := Ideal) m g)

theorem updIn : Cert.algebraic_UpdInIdeal_UpdInRefIdeal := by
  pair_intro
  · run_from Cert.UpdInIdeal.Value.run_blocks m g
  · refine (θ_run _ _ _).mono (fun r h c => ?_) (Cert.UpdInRefIdeal.Value.run (F := Ideal) m' g')
    refine ⟨(h c).1.trans ((Cert.UpdInRefIdeal.Read.val_main_v1_eq _).trans ?_),
      (h c).2.1.trans ((Cert.UpdInRefIdeal.Read.val_main_v25_eq _ _ _ _).trans ?_),
      (h c).2.2.1.trans ((Cert.UpdInRefIdeal.Read.val_main_v6_eq _ _).trans ?_),
      (h c).2.2.2.1.trans ((Cert.UpdInRefIdeal.Read.val_main_v12_eq _ _).trans ?_),
      (h c).2.2.2.2⟩
    · simp only [hagree c]
      exact (Cert.UpdInIdeal.Hand.g_eq m c).symm
    · simp only [hagree c]
      exact (Cert.UpdInIdeal.Hand.d_eq m c).symm
    · simp only [hagree c]
      exact (Cert.UpdInIdeal.Hand.m_eq m c).symm
    · simp only [hagree c]
      exact (Cert.UpdInIdeal.Hand.v_eq m c).symm

theorem updGluRef : Cert.quiescent_UpdGluRefIdeal := by
  intro m g _
  exact (θ_run Cert.UpdGluRefIdeal.defs _ _).mono
    (fun r h => ⟨fun c => (h c).2.2.2.2, sem_eq_zero_of_no_sems (by decide) r.2⟩)
    (Cert.UpdGluRefIdeal.Value.run (F := Ideal) m g)

theorem updGlu : Cert.algebraic_UpdGluIdeal_UpdGluRefIdeal := by
  pair_intro
  · run_from Cert.UpdGluIdeal.Value.run_blocks m g
  · refine (θ_run _ _ _).mono (fun r h c => ?_) (Cert.UpdGluRefIdeal.Value.run (F := Ideal) m' g')
    refine ⟨(h c).1.trans ((Cert.UpdGluRefIdeal.Read.val_main_v1_eq _).trans ?_),
      (h c).2.1.trans ((Cert.UpdGluRefIdeal.Read.val_main_v25_eq _ _ _ _).trans ?_),
      (h c).2.2.1.trans ((Cert.UpdGluRefIdeal.Read.val_main_v6_eq _ _).trans ?_),
      (h c).2.2.2.1.trans ((Cert.UpdGluRefIdeal.Read.val_main_v12_eq _ _).trans ?_),
      (h c).2.2.2.2⟩
    · simp only [hagree c]
      exact (Cert.UpdGluIdeal.Hand.g_eq m c).symm
    · simp only [hagree c]
      exact (Cert.UpdGluIdeal.Hand.d_eq m c).symm
    · simp only [hagree c]
      exact (Cert.UpdGluIdeal.Hand.m_eq m c).symm
    · simp only [hagree c]
      exact (Cert.UpdGluIdeal.Hand.v_eq m c).symm

theorem updOutRef : Cert.quiescent_UpdOutRefIdeal := by
  intro m g _
  exact (θ_run Cert.UpdOutRefIdeal.defs _ _).mono
    (fun r h => ⟨fun c => (h c).2.2.2.2, sem_eq_zero_of_no_sems (by decide) r.2⟩)
    (Cert.UpdOutRefIdeal.Value.run (F := Ideal) m g)

theorem updOut : Cert.algebraic_UpdOutIdeal_UpdOutRefIdeal := by
  pair_intro
  · run_from Cert.UpdOutIdeal.Value.run_blocks m g
  · refine (θ_run _ _ _).mono (fun r h c => ?_) (Cert.UpdOutRefIdeal.Value.run (F := Ideal) m' g')
    refine ⟨(h c).1.trans ((Cert.UpdOutRefIdeal.Read.val_main_v1_eq _).trans ?_),
      (h c).2.1.trans ((Cert.UpdOutRefIdeal.Read.val_main_v25_eq _ _ _ _).trans ?_),
      (h c).2.2.1.trans ((Cert.UpdOutRefIdeal.Read.val_main_v6_eq _ _).trans ?_),
      (h c).2.2.2.1.trans ((Cert.UpdOutRefIdeal.Read.val_main_v12_eq _ _).trans ?_),
      (h c).2.2.2.2⟩
    · simp only [hagree c]
      exact (Cert.UpdOutIdeal.Hand.g_eq m c).symm
    · simp only [hagree c]
      exact (Cert.UpdOutIdeal.Hand.d_eq m c).symm
    · simp only [hagree c]
      exact (Cert.UpdOutIdeal.Hand.m_eq m c).symm
    · simp only [hagree c]
      exact (Cert.UpdOutIdeal.Hand.v_eq m c).symm

theorem updUpRef : Cert.quiescent_UpdUpRefIdeal := by
  intro m g _
  exact (θ_run Cert.UpdUpRefIdeal.defs _ _).mono
    (fun r h => ⟨fun c => (h c).2.2.2.2, sem_eq_zero_of_no_sems (by decide) r.2⟩)
    (Cert.UpdUpRefIdeal.Value.run (F := Ideal) m g)

theorem updUp : Cert.algebraic_UpdUpIdeal_UpdUpRefIdeal := by
  pair_intro
  · run_from Cert.UpdUpIdeal.Value.run_blocks m g
  · refine (θ_run _ _ _).mono (fun r h c => ?_) (Cert.UpdUpRefIdeal.Value.run (F := Ideal) m' g')
    refine ⟨(h c).1.trans ((Cert.UpdUpRefIdeal.Read.val_main_v1_eq _).trans ?_),
      (h c).2.1.trans ((Cert.UpdUpRefIdeal.Read.val_main_v25_eq _ _ _ _).trans ?_),
      (h c).2.2.1.trans ((Cert.UpdUpRefIdeal.Read.val_main_v6_eq _ _).trans ?_),
      (h c).2.2.2.1.trans ((Cert.UpdUpRefIdeal.Read.val_main_v12_eq _ _).trans ?_),
      (h c).2.2.2.2⟩
    · simp only [hagree c]
      exact (Cert.UpdUpIdeal.Hand.g_eq m c).symm
    · simp only [hagree c]
      exact (Cert.UpdUpIdeal.Hand.d_eq m c).symm
    · simp only [hagree c]
      exact (Cert.UpdUpIdeal.Hand.m_eq m c).symm
    · simp only [hagree c]
      exact (Cert.UpdUpIdeal.Hand.v_eq m c).symm

theorem updDownRef : Cert.quiescent_UpdDownRefIdeal := by
  intro m g _
  exact (θ_run Cert.UpdDownRefIdeal.defs _ _).mono
    (fun r h => ⟨fun c => (h c).2.2.2.2, sem_eq_zero_of_no_sems (by decide) r.2⟩)
    (Cert.UpdDownRefIdeal.Value.run (F := Ideal) m g)

theorem updDown : Cert.algebraic_UpdDownIdeal_UpdDownRefIdeal := by
  pair_intro
  · run_from Cert.UpdDownIdeal.Value.run_blocks m g
  · refine (θ_run _ _ _).mono (fun r h c => ?_) (Cert.UpdDownRefIdeal.Value.run (F := Ideal) m' g')
    refine ⟨(h c).1.trans ((Cert.UpdDownRefIdeal.Read.val_main_v1_eq _).trans ?_),
      (h c).2.1.trans ((Cert.UpdDownRefIdeal.Read.val_main_v25_eq _ _ _ _).trans ?_),
      (h c).2.2.1.trans ((Cert.UpdDownRefIdeal.Read.val_main_v6_eq _ _).trans ?_),
      (h c).2.2.2.1.trans ((Cert.UpdDownRefIdeal.Read.val_main_v12_eq _ _).trans ?_),
      (h c).2.2.2.2⟩
    · simp only [hagree c]
      exact (Cert.UpdDownIdeal.Hand.g_eq m c).symm
    · simp only [hagree c]
      exact (Cert.UpdDownIdeal.Hand.d_eq m c).symm
    · simp only [hagree c]
      exact (Cert.UpdDownIdeal.Hand.m_eq m c).symm
    · simp only [hagree c]
      exact (Cert.UpdDownIdeal.Hand.v_eq m c).symm

theorem qkBwdRef : Cert.quiescent_QkBwdRefIdeal := by
  intro m g _
  exact (θ_run Cert.QkBwdRefIdeal.defs _ _).mono
    (fun r h => ⟨fun c => (h c).2.2.2, sem_eq_zero_of_no_sems (by decide) r.2⟩)
    (Cert.QkBwdRefIdeal.Value.run (F := Ideal) m g)

theorem qkBwd : Cert.algebraic_QkBwdIdeal_QkBwdRefIdeal_pre_qk_finite := by
  pair_intro
  · run_from Cert.QkBwdIdeal.Value.run_blocks m g
  · refine (θ_run _ _ _).mono (fun r h c => ?_) (Cert.QkBwdRefIdeal.Value.run (F := Ideal) m' g')
    refine ⟨(h c).1.trans ((Cert.QkBwdRefIdeal.Read.val_main_v93_eq _ _).trans ?_),
      (h c).2.1.trans ((Cert.QkBwdRefIdeal.Read.val_main_v86_eq _ _).trans ?_),
      (h c).2.2.1.trans ((Cert.QkBwdRefIdeal.Read.val_main_v66_eq _ _).trans ?_),
      (h c).2.2.2⟩
    · simp only [hagree c]
      exact (Cert.QkBwdIdeal.Hand.dproj_eq m c ⟨(Cert.Pre_qk_finite.reals _ _ _ _ _ _ _ (hpre c)).1, (Cert.Pre_qk_finite.reals _ _ _ _ _ _ _ (hpre c)).2.1, (Cert.Pre_qk_finite.reals _ _ _ _ _ _ _ (hpre c)).2.2.1,
        (Cert.Pre_qk_finite.reals _ _ _ _ _ _ _ (hpre c)).2.2.2.1, (Cert.Pre_qk_finite.reals _ _ _ _ _ _ _ (hpre c)).2.2.2.2⟩).symm
    · simp only [hagree c]
      exact (Cert.QkBwdIdeal.Hand.dgq_eq m c ⟨(Cert.Pre_qk_finite.reals _ _ _ _ _ _ _ (hpre c)).1, (Cert.Pre_qk_finite.reals _ _ _ _ _ _ _ (hpre c)).2.1, (Cert.Pre_qk_finite.reals _ _ _ _ _ _ _ (hpre c)).2.2.1,
        (Cert.Pre_qk_finite.reals _ _ _ _ _ _ _ (hpre c)).2.2.2.1, (Cert.Pre_qk_finite.reals _ _ _ _ _ _ _ (hpre c)).2.2.2.2⟩).symm
    · simp only [hagree c]
      exact (Cert.QkBwdIdeal.Hand.dgk_eq m c ⟨(Cert.Pre_qk_finite.reals _ _ _ _ _ _ _ (hpre c)).1, (Cert.Pre_qk_finite.reals _ _ _ _ _ _ _ (hpre c)).2.1, (Cert.Pre_qk_finite.reals _ _ _ _ _ _ _ (hpre c)).2.2.1,
        (Cert.Pre_qk_finite.reals _ _ _ _ _ _ _ (hpre c)).2.2.2.1, (Cert.Pre_qk_finite.reals _ _ _ _ _ _ _ (hpre c)).2.2.2.2⟩).symm

theorem ssmDiscBwdRef : Cert.quiescent_SsmDiscBwdRefIdeal := by
  intro m g _
  exact (θ_run Cert.SsmDiscBwdRefIdeal.defs _ _).mono
    (fun r h => ⟨fun c => (h c).2.2.2.2.2, sem_eq_zero_of_no_sems (by decide) r.2⟩)
    (Cert.SsmDiscBwdRefIdeal.Value.run (F := Ideal) m g)

theorem ssmDiscBwd : Cert.algebraic_SsmDiscBwdIdeal_SsmDiscBwdRefIdeal_pre_disc_regular := by
  pair_intro
  · run_from Cert.SsmDiscBwdIdeal.Hand.ends m g
  · refine (θ_run _ _ _).mono (fun r h c => ?_) (Cert.SsmDiscBwdRefIdeal.Value.run (F := Ideal) m' g')
    refine ⟨(h c).1.trans ((Cert.SsmDiscBwdRefIdeal.Read.val_main_v144_eq _ _).trans ?_),
      (h c).2.1.trans ((Cert.SsmDiscBwdRefIdeal.Read.val_main_v145_eq _ _).trans ?_),
      (h c).2.2.1.trans ((Cert.SsmDiscBwdRefIdeal.Read.val_main_v146_eq _ _).trans ?_),
      (h c).2.2.2.1.trans ((Cert.SsmDiscBwdRefIdeal.Read.val_main_v147_eq _ _ _ _ _).trans ?_),
      (h c).2.2.2.2.1.trans ((Cert.SsmDiscBwdRefIdeal.Read.val_main_v148_eq _ _ _ _ _).trans ?_),
      (h c).2.2.2.2.2⟩
    · simp only [hagree c]
      obtain ⟨A, hA⟩ := Cert.SsmDiscBwdIdeal.Hand.holds_of m c (hpre c)
      exact (Cert.SsmDiscBwdIdeal.Hand.out_9 m A c hA).symm
    · simp only [hagree c]
      obtain ⟨A, hA⟩ := Cert.SsmDiscBwdIdeal.Hand.holds_of m c (hpre c)
      exact (Cert.SsmDiscBwdIdeal.Hand.out_10 m A c hA).symm
    · simp only [hagree c]
      obtain ⟨A, hA⟩ := Cert.SsmDiscBwdIdeal.Hand.holds_of m c (hpre c)
      exact (Cert.SsmDiscBwdIdeal.Hand.out_11 m A c hA).symm
    · simp only [hagree c]
      obtain ⟨A, hA⟩ := Cert.SsmDiscBwdIdeal.Hand.holds_of m c (hpre c)
      exact (Cert.SsmDiscBwdIdeal.Hand.out_12 m A c hA).symm
    · simp only [hagree c]
      obtain ⟨A, hA⟩ := Cert.SsmDiscBwdIdeal.Hand.holds_of m c (hpre c)
      exact (Cert.SsmDiscBwdIdeal.Hand.out_13 m A c hA).symm

theorem ssmDiscRef : Cert.quiescent_SsmDiscRefIdeal := by
  intro m g _
  exact (θ_run Cert.SsmDiscRefIdeal.defs _ _).mono
    (fun r h => ⟨fun c => (h c).2.2.2.2, sem_eq_zero_of_no_sems (by decide) r.2⟩)
    (Cert.SsmDiscRefIdeal.Value.run (F := Ideal) m g)

theorem ssmDisc : Cert.algebraic_SsmDiscIdeal_SsmDiscRefIdeal := by
  pair_intro
  · run_from Cert.SsmDiscIdeal.Value.run_blocks m g
  · refine (θ_run _ _ _).mono (fun r h c => ?_) (Cert.SsmDiscRefIdeal.Value.run (F := Ideal) m' g')
    refine ⟨(h c).1.trans ((Cert.SsmDiscRefIdeal.Read.val_main_v40_eq _ _ _).trans ?_),
      (h c).2.1.trans ((Cert.SsmDiscRefIdeal.Read.val_main_v41_eq _ _ _).trans ?_),
      (h c).2.2.1.trans ((Cert.SsmDiscRefIdeal.Read.val_main_v42_eq _ _ _ _ _).trans ?_),
      (h c).2.2.2.1.trans ((Cert.SsmDiscRefIdeal.Read.val_main_v43_eq _ _ _ _ _).trans ?_),
      (h c).2.2.2.2⟩
    · simp only [hagree c]
      exact (Cert.SsmDiscIdeal.Hand.out_5 m c).symm
    · simp only [hagree c]
      exact (Cert.SsmDiscIdeal.Hand.out_6 m c).symm
    · simp only [hagree c]
      exact (Cert.SsmDiscIdeal.Hand.out_7 m c).symm
    · simp only [hagree c]
      exact (Cert.SsmDiscIdeal.Hand.out_8 m c).symm

theorem sumSmallRef : Cert.quiescent_SumSmallRefIdeal := by
  intro m g _
  exact (θ_run Cert.SumSmallRefIdeal.defs _ _).mono
    (fun r h => ⟨fun c => (h c).2, sem_eq_zero_of_no_sems (by decide) r.2⟩)
    (Cert.SumSmallRefIdeal.Value.run (F := Ideal) m g)

theorem sumSmall : Cert.algebraic_SumSmallIdeal_SumSmallRefIdeal := by
  pair_intro
  · run_from Cert.SumSmallIdeal.Value.run_blocks m g
  · refine (θ_run _ _ _).mono (fun r h c => ?_) (Cert.SumSmallRefIdeal.Value.run (F := Ideal) m' g')
    refine ⟨(h c).1.trans ((Cert.SumSmallRefIdeal.Read.val_main_v1_eq _ _ _).trans ?_),
      (h c).2⟩
    · simp only [hagree c]
      exact (Cert.SumSmallIdeal.Hand.out_1 m c).symm

theorem claim : Cert.Claim :=
  ⟨Cert.MlpUpBwd.Gen.facts,
    Cert.MlpUpBwdIdeal.Gen.facts,
    Cert.MlpUpBwdRefIdeal.Gen.facts,
    Cert.MlpDownBwd.Gen.facts,
    Cert.MlpDownBwdIdeal.Gen.facts,
    Cert.MlpDownBwdRefIdeal.Gen.facts,
    Cert.InBwd.Gen.facts,
    Cert.InBwdIdeal.Gen.facts,
    Cert.InBwdRefIdeal.Gen.facts,
    Cert.MixBwd.Gen.facts,
    Cert.MixBwdIdeal.Gen.facts,
    Cert.MixBwdRefIdeal.Gen.facts,
    Cert.GradDown.Gen.facts,
    Cert.GradDownIdeal.Gen.facts,
    Cert.GradDownRefIdeal.Gen.facts,
    Cert.GradUp.Gen.facts,
    Cert.GradUpIdeal.Gen.facts,
    Cert.GradUpRefIdeal.Gen.facts,
    Cert.GradOut.Gen.facts,
    Cert.GradOutIdeal.Gen.facts,
    Cert.GradOutRefIdeal.Gen.facts,
    Cert.GradGlu.Gen.facts,
    Cert.GradGluIdeal.Gen.facts,
    Cert.GradGluRefIdeal.Gen.facts,
    Cert.GradIn.Gen.facts,
    Cert.GradInIdeal.Gen.facts,
    Cert.GradInRefIdeal.Gen.facts,
    Cert.MlpUp.Gen.facts,
    Cert.MlpUpIdeal.Gen.facts,
    Cert.MlpUpRefIdeal.Gen.facts,
    Cert.MlpDownLoss.Gen.facts,
    Cert.MlpDownLossIdeal.Gen.facts,
    Cert.MlpDownLossRefIdeal.Gen.facts,
    Cert.FwdMix.Gen.facts,
    Cert.FwdMixIdeal.Gen.facts,
    Cert.FwdMixRefIdeal.Gen.facts,
    Cert.FwdProj.Gen.facts,
    Cert.FwdProjIdeal.Gen.facts,
    Cert.FwdProjRefIdeal.Gen.facts,
    Cert.UpdIn.Gen.facts,
    Cert.UpdInIdeal.Gen.facts,
    Cert.UpdInRefIdeal.Gen.facts,
    Cert.UpdGlu.Gen.facts,
    Cert.UpdGluIdeal.Gen.facts,
    Cert.UpdGluRefIdeal.Gen.facts,
    Cert.UpdOut.Gen.facts,
    Cert.UpdOutIdeal.Gen.facts,
    Cert.UpdOutRefIdeal.Gen.facts,
    Cert.UpdUp.Gen.facts,
    Cert.UpdUpIdeal.Gen.facts,
    Cert.UpdUpRefIdeal.Gen.facts,
    Cert.UpdDown.Gen.facts,
    Cert.UpdDownIdeal.Gen.facts,
    Cert.UpdDownRefIdeal.Gen.facts,
    Cert.QkBwd.Gen.facts,
    Cert.QkBwdIdeal.Gen.facts,
    Cert.QkBwdRefIdeal.Gen.facts,
    Cert.SsmDiscBwd.Gen.facts,
    Cert.SsmDiscBwdIdeal.Gen.facts,
    Cert.SsmDiscBwdRefIdeal.Gen.facts,
    Cert.SsmDisc.Gen.facts,
    Cert.SsmDiscIdeal.Gen.facts,
    Cert.SsmDiscRefIdeal.Gen.facts,
    Cert.SumSmall.Gen.facts,
    Cert.SumSmallIdeal.Gen.facts,
    Cert.SumSmallRefIdeal.Gen.facts,
    Cert.Pre_mix_finite.facts,
    Cert.Pre_proj_finite.facts,
    Cert.Pre_qk_finite.facts,
    Cert.Pre_disc_regular.facts,
    fun m ρ _ => Cert.MlpUpBwd.Gen.frame m ρ,
    fun m ρ _ => Cert.MlpUpBwdIdeal.Gen.frame m ρ,
    mlpUpBwdRef,
    fun m ρ _ => Cert.MlpDownBwd.Gen.frame m ρ,
    fun m ρ _ => Cert.MlpDownBwdIdeal.Gen.frame m ρ,
    mlpDownBwdRef,
    fun m ρ _ => Cert.InBwd.Gen.frame m ρ,
    fun m ρ _ => Cert.InBwdIdeal.Gen.frame m ρ,
    inBwdRef,
    fun m ρ _ => Cert.MixBwd.Gen.frame m ρ,
    fun m ρ _ => Cert.MixBwdIdeal.Gen.frame m ρ,
    fun m ρ _ => Cert.MixBwdIdeal.Gen.frame m ρ,
    mixBwdRef,
    fun m ρ _ => mixBwdRef m ρ trivial,
    fun m ρ _ => Cert.GradDown.Gen.frame m ρ,
    fun m ρ _ => Cert.GradDownIdeal.Gen.frame m ρ,
    gradDownRef,
    fun m ρ _ => Cert.GradUp.Gen.frame m ρ,
    fun m ρ _ => Cert.GradUpIdeal.Gen.frame m ρ,
    gradUpRef,
    fun m ρ _ => Cert.GradOut.Gen.frame m ρ,
    fun m ρ _ => Cert.GradOutIdeal.Gen.frame m ρ,
    gradOutRef,
    fun m ρ _ => Cert.GradGlu.Gen.frame m ρ,
    fun m ρ _ => Cert.GradGluIdeal.Gen.frame m ρ,
    gradGluRef,
    fun m ρ _ => Cert.GradIn.Gen.frame m ρ,
    fun m ρ _ => Cert.GradInIdeal.Gen.frame m ρ,
    gradInRef,
    fun m ρ _ => Cert.MlpUp.Gen.frame m ρ,
    fun m ρ _ => Cert.MlpUpIdeal.Gen.frame m ρ,
    mlpUpRef,
    fun m ρ _ => Cert.MlpDownLoss.Gen.frame m ρ,
    fun m ρ _ => Cert.MlpDownLossIdeal.Gen.frame m ρ,
    mlpDownLossRef,
    fun m ρ _ => Cert.FwdMix.Gen.frame m ρ,
    fun m ρ _ => Cert.FwdMixIdeal.Gen.frame m ρ,
    fwdMixRef,
    fun m ρ _ => Cert.FwdProj.Gen.frame m ρ,
    fun m ρ _ => Cert.FwdProjIdeal.Gen.frame m ρ,
    fun m ρ _ => Cert.FwdProjIdeal.Gen.frame m ρ,
    fwdProjRef,
    fun m ρ _ => fwdProjRef m ρ trivial,
    fun m ρ _ => Cert.UpdIn.Gen.frame m ρ,
    fun m ρ _ => Cert.UpdInIdeal.Gen.frame m ρ,
    updInRef,
    fun m ρ _ => Cert.UpdGlu.Gen.frame m ρ,
    fun m ρ _ => Cert.UpdGluIdeal.Gen.frame m ρ,
    updGluRef,
    fun m ρ _ => Cert.UpdOut.Gen.frame m ρ,
    fun m ρ _ => Cert.UpdOutIdeal.Gen.frame m ρ,
    updOutRef,
    fun m ρ _ => Cert.UpdUp.Gen.frame m ρ,
    fun m ρ _ => Cert.UpdUpIdeal.Gen.frame m ρ,
    updUpRef,
    fun m ρ _ => Cert.UpdDown.Gen.frame m ρ,
    fun m ρ _ => Cert.UpdDownIdeal.Gen.frame m ρ,
    updDownRef,
    fun m ρ _ => Cert.QkBwd.Gen.frame m ρ,
    fun m ρ _ => Cert.QkBwdIdeal.Gen.frame m ρ,
    fun m ρ _ => Cert.QkBwdIdeal.Gen.frame m ρ,
    qkBwdRef,
    fun m ρ _ => qkBwdRef m ρ trivial,
    fun m ρ _ => Cert.SsmDiscBwd.Gen.frame m ρ,
    fun m ρ _ => Cert.SsmDiscBwdIdeal.Gen.frame m ρ,
    fun m ρ _ => Cert.SsmDiscBwdIdeal.Gen.frame m ρ,
    ssmDiscBwdRef,
    fun m ρ _ => ssmDiscBwdRef m ρ trivial,
    fun m ρ _ => Cert.SsmDisc.Gen.frame m ρ,
    fun m ρ _ => Cert.SsmDiscIdeal.Gen.frame m ρ,
    ssmDiscRef,
    fun m ρ _ => Cert.SumSmall.Gen.frame m ρ,
    fun m ρ _ => Cert.SumSmallIdeal.Gen.frame m ρ,
    sumSmallRef,
    trivial,
    mlpUpBwd,
    trivial,
    mlpDownBwd,
    trivial,
    inBwd,
    ⟨IdealRules.named_const.statement Cert.MixBwdIdeal.κ "gelu_a" .f32 0x3D372713#32 _ rfl,
      IdealRules.named_const.statement Cert.MixBwdIdeal.κ "gelu_3a" .f32 0x3E095D4F#32 _ rfl⟩,
    mixBwd,
    trivial,
    gradDown,
    trivial,
    gradUp,
    trivial,
    gradOut,
    trivial,
    gradGlu,
    trivial,
    gradIn,
    trivial,
    mlpUp,
    trivial,
    mlpDownLoss,
    trivial,
    fwdMix,
    trivial,
    fwdProj,
    trivial,
    updIn,
    trivial,
    updGlu,
    trivial,
    updOut,
    trivial,
    updUp,
    trivial,
    updDown,
    trivial,
    qkBwd,
    trivial,
    ssmDiscBwd,
    trivial,
    ssmDisc,
    trivial,
    sumSmall⟩

end Cert.Proof

end
